-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_mixer [hPre_finite_mixer : Cert.Pre_finite_mixer.Facts] (m : (ℓ : Loc Cert.MixerIdeal.nD Cert.MixerIdeal.τ Cert.MixerIdeal.sig) → Buf (Elt Ideal) ℓ) : Prop :=
  ∀ c : Dev Cert.MixerIdeal.nD,
    (Cert.Pre_finite_mixer.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11)) (m ((c.tc : Thread Cert.MixerIdeal.nD Cert.MixerIdeal.τ).loc Cert.MixerIdeal.main_arg12)) (m ((c.tc : Thread Cert.MixerIdeal.nD Cert.MixerIdeal.τ).loc Cert.MixerIdeal.main_arg13)) (m ((c.tc : Thread Cert.MixerIdeal.nD Cert.MixerIdeal.τ).loc Cert.MixerIdeal.main_arg14))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_mixer [hPre_finite_mixer : Cert.Pre_finite_mixer.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_mixer.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11)) (m ((c.tc : Thread Cert.MixerRefIdeal.nD Cert.MixerRefIdeal.τ).loc Cert.MixerRefIdeal.main_arg12)) (m ((c.tc : Thread Cert.MixerRefIdeal.nD Cert.MixerRefIdeal.τ).loc Cert.MixerRefIdeal.main_arg13)) (m ((c.tc : Thread Cert.MixerRefIdeal.nD Cert.MixerRefIdeal.τ).loc Cert.MixerRefIdeal.main_arg14))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite [hPre_finite : Cert.Pre_finite.Facts] (m : (ℓ : Loc Cert.FfnIdeal.nD Cert.FfnIdeal.τ Cert.FfnIdeal.sig) → Buf (Elt Ideal) ℓ) : Prop :=
  ∀ c : Dev Cert.FfnIdeal.nD,
    (Cert.Pre_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite [hPre_finite : Cert.Pre_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))) = (fun _ => 1#1)

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstIdeal_finite [hPre_finite : Cert.Pre_finite.Facts] (m : (ℓ : Loc Cert.FirstIdeal.nD Cert.FirstIdeal.τ Cert.FirstIdeal.sig) → Buf (Elt Ideal) ℓ) : Prop :=
  ∀ c : Dev Cert.FirstIdeal.nD,
    (Cert.Pre_finite.fn (F := Ideal) (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)) (m ((c.tc : Thread Cert.FirstIdeal.nD Cert.FirstIdeal.τ).loc Cert.FirstIdeal.main_arg4)) (m ((c.tc : Thread Cert.FirstIdeal.nD Cert.FirstIdeal.τ).loc Cert.FirstIdeal.main_arg5)) (m ((c.tc : Thread Cert.FirstIdeal.nD Cert.FirstIdeal.τ).loc Cert.FirstIdeal.main_arg6)) (m ((c.tc : Thread Cert.FirstIdeal.nD Cert.FirstIdeal.τ).loc Cert.FirstIdeal.main_arg7))) = (fun _ => 1#1)

def Pre_FirstRefIdeal (m : (ℓ : Loc Cert.FirstRefIdeal.nD Cert.FirstRefIdeal.τ Cert.FirstRefIdeal.sig) → Buf (Elt Ideal) ℓ) : Prop :=
  True

def Pre_FirstRefIdeal_finite [hPre_finite : Cert.Pre_finite.Facts] (m : (ℓ : Loc Cert.FirstRefIdeal.nD Cert.FirstRefIdeal.τ Cert.FirstRefIdeal.sig) → Buf (Elt Ideal) ℓ) : Prop :=
  ∀ c : Dev Cert.FirstRefIdeal.nD,
    (Cert.Pre_finite.fn (F := Ideal) (m ((c.tc : Thread Cert.FirstRefIdeal.nD Cert.FirstRefIdeal.τ).loc Cert.FirstRefIdeal.main_arg0)) (m ((c.tc : Thread Cert.FirstRefIdeal.nD Cert.FirstRefIdeal.τ).loc Cert.FirstRefIdeal.main_arg1)) (m ((c.tc : Thread Cert.FirstRefIdeal.nD Cert.FirstRefIdeal.τ).loc Cert.FirstRefIdeal.main_arg2)) (m ((c.tc : Thread Cert.FirstRefIdeal.nD Cert.FirstRefIdeal.τ).loc Cert.FirstRefIdeal.main_arg3)) (m ((c.tc : Thread Cert.FirstRefIdeal.nD Cert.FirstRefIdeal.τ).loc Cert.FirstRefIdeal.main_arg4)) (m ((c.tc : Thread Cert.FirstRefIdeal.nD Cert.FirstRefIdeal.τ).loc Cert.FirstRefIdeal.main_arg5)) (m ((c.tc : Thread Cert.FirstRefIdeal.nD Cert.FirstRefIdeal.τ).loc Cert.FirstRefIdeal.main_arg6)) (m ((c.tc : Thread Cert.FirstRefIdeal.nD Cert.FirstRefIdeal.τ).loc Cert.FirstRefIdeal.main_arg7))) = (fun _ => 1#1)

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnIdeal_finite_c [hPre_finite_c : Cert.Pre_finite_c.Facts] (m : (ℓ : Loc Cert.AdalnIdeal.nD Cert.AdalnIdeal.τ Cert.AdalnIdeal.sig) → Buf (Elt Ideal) ℓ) : Prop :=
  ∀ c : Dev Cert.AdalnIdeal.nD,
    (Cert.Pre_finite_c.fn (F := Ideal) (m ((c.tc : Thread Cert.AdalnIdeal.nD Cert.AdalnIdeal.τ).loc Cert.AdalnIdeal.main_arg0)) (m ((c.tc : Thread Cert.AdalnIdeal.nD Cert.AdalnIdeal.τ).loc Cert.AdalnIdeal.main_arg1)) (m ((c.tc : Thread Cert.AdalnIdeal.nD Cert.AdalnIdeal.τ).loc Cert.AdalnIdeal.main_arg2))) = (fun _ => 1#1)

def Pre_AdalnRefIdeal (m : (ℓ : Loc Cert.AdalnRefIdeal.nD Cert.AdalnRefIdeal.τ Cert.AdalnRefIdeal.sig) → Buf (Elt Ideal) ℓ) : Prop :=
  True

def Pre_AdalnRefIdeal_finite_c [hPre_finite_c : Cert.Pre_finite_c.Facts] (m : (ℓ : Loc Cert.AdalnRefIdeal.nD Cert.AdalnRefIdeal.τ Cert.AdalnRefIdeal.sig) → Buf (Elt Ideal) ℓ) : Prop :=
  ∀ c : Dev Cert.AdalnRefIdeal.nD,
    (Cert.Pre_finite_c.fn (F := Ideal) (m ((c.tc : Thread Cert.AdalnRefIdeal.nD Cert.AdalnRefIdeal.τ).loc Cert.AdalnRefIdeal.main_arg0)) (m ((c.tc : Thread Cert.AdalnRefIdeal.nD Cert.AdalnRefIdeal.τ).loc Cert.AdalnRefIdeal.main_arg1)) (m ((c.tc : Thread Cert.AdalnRefIdeal.nD Cert.AdalnRefIdeal.τ).loc Cert.AdalnRefIdeal.main_arg2))) = (fun _ => 1#1)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13)
      ∧ r.2.mem ((c.tc : Thread Cert.Mixer.nD Cert.Mixer.τ).loc Cert.Mixer.main_arg14) = m ((c.tc : Thread Cert.Mixer.nD Cert.Mixer.τ).loc Cert.Mixer.main_arg14))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14))
      ∧ r.2.sem = fun _ => 0)

def quiescent_MixerIdeal_pre_finite_mixer [hMixerIdeal : Cert.MixerIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_mixer m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
      ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14))
      ∧ r.2.sem = fun _ => 0)

def quiescent_MixerRefIdeal_pre_finite_mixer [hMixerRefIdeal : Cert.MixerRefIdeal.Facts] [hPre_finite_mixer : Cert.Pre_finite_mixer.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_mixer m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13)
      ∧ r.2.mem ((c.tc : Thread Cert.MixerRefIdeal.nD Cert.MixerRefIdeal.τ).loc Cert.MixerRefIdeal.main_arg14) = m ((c.tc : Thread Cert.MixerRefIdeal.nD Cert.MixerRefIdeal.τ).loc Cert.MixerRefIdeal.main_arg14))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_finite [hFfnIdeal : Cert.FfnIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_finite [hFfnRefIdeal : Cert.FfnRefIdeal.Facts] [hPre_finite : Cert.Pre_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_FirstIdeal_pre_finite [hFirstIdeal : Cert.FirstIdeal.Facts] [hPre_finite : Cert.Pre_finite.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal_finite m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7))
      ∧ r.2.sem = fun _ => 0)

def quiescent_FirstRefIdeal_pre_finite [hFirstRefIdeal : Cert.FirstRefIdeal.Facts] [hPre_finite : Cert.Pre_finite.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal_finite m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnIdeal_pre_finite_c [hAdalnIdeal : Cert.AdalnIdeal.Facts] [hPre_finite_c : Cert.Pre_finite_c.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal_finite_c m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_AdalnRefIdeal_pre_finite_c [hAdalnRefIdeal : Cert.AdalnRefIdeal.Facts] [hPre_finite_c : Cert.Pre_finite_c.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal_finite_c m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def preserves_Mixer_MixerIdeal : Prop :=
  IdealRules.named_const.Statement Cert.MixerIdeal.κ "mask" .f32 0xF149F2CA#32 ⊥

def algebraic_MixerIdeal_MixerRefIdeal_pre_finite_mixer [hMixerIdeal : Cert.MixerIdeal.Facts] [hMixerRefIdeal : Cert.MixerRefIdeal.Facts] [hPre_finite_mixer : Cert.Pre_finite_mixer.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_mixer m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)
      ∧ m' ((c.tc : Thread Cert.MixerRefIdeal.nD Cert.MixerRefIdeal.τ).loc Cert.MixerRefIdeal.main_arg14) = m ((c.tc : Thread Cert.MixerIdeal.nD Cert.MixerIdeal.τ).loc Cert.MixerIdeal.main_arg14)) →
    ∃ (v0 : (c : Dev Cert.MixerIdeal.nD) → Buf (Elt Ideal) ((c.tc : Thread Cert.MixerIdeal.nD Cert.MixerIdeal.τ).loc Cert.MixerIdeal.main_v32)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v32) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13)
          ∧ r.2.mem ((c.tc : Thread Cert.MixerIdeal.nD Cert.MixerIdeal.τ).loc Cert.MixerIdeal.main_arg14) = m ((c.tc : Thread Cert.MixerIdeal.nD Cert.MixerIdeal.τ).loc Cert.MixerIdeal.main_arg14))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v228) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13)
          ∧ r.2.mem ((c.tc : Thread Cert.MixerRefIdeal.nD Cert.MixerRefIdeal.τ).loc Cert.MixerRefIdeal.main_arg14) = m' ((c.tc : Thread Cert.MixerRefIdeal.nD Cert.MixerRefIdeal.τ).loc Cert.MixerRefIdeal.main_arg14))

def preserves_Ffn_FfnIdeal : Prop :=
  True

def algebraic_FfnIdeal_FfnRefIdeal_pre_finite [hFfnIdeal : Cert.FfnIdeal.Facts] [hFfnRefIdeal : Cert.FfnRefIdeal.Facts] [hPre_finite : Cert.Pre_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v8) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_First_FirstIdeal : Prop :=
  True

def algebraic_FirstIdeal_FirstRefIdeal_pre_finite [hFirstIdeal : Cert.FirstIdeal.Facts] [hFirstRefIdeal : Cert.FirstRefIdeal.Facts] [hPre_finite : Cert.Pre_finite.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal_finite m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)) →
    ∃ (v0 : (c : Dev Cert.FirstIdeal.nD) → Buf (Elt Ideal) ((c.tc : Thread Cert.FirstIdeal.nD Cert.FirstIdeal.τ).loc Cert.FirstIdeal.main_v8)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v8) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v33) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7))

def preserves_Adaln_AdalnIdeal : Prop :=
  True

def algebraic_AdalnIdeal_AdalnRefIdeal_pre_finite_c [hAdalnIdeal : Cert.AdalnIdeal.Facts] [hAdalnRefIdeal : Cert.AdalnRefIdeal.Facts] [hPre_finite_c : Cert.Pre_finite_c.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal_finite_c m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v4) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def Claim : Prop :=
  ∃ (hMixer : Cert.Mixer.Facts) (hMixerIdeal : Cert.MixerIdeal.Facts) (hMixerRefIdeal : Cert.MixerRefIdeal.Facts) (hFfn : Cert.Ffn.Facts) (hFfnIdeal : Cert.FfnIdeal.Facts) (hFfnRefIdeal : Cert.FfnRefIdeal.Facts) (hFirst : Cert.First.Facts) (hFirstIdeal : Cert.FirstIdeal.Facts) (hFirstRefIdeal : Cert.FirstRefIdeal.Facts) (hAdaln : Cert.Adaln.Facts) (hAdalnIdeal : Cert.AdalnIdeal.Facts) (hAdalnRefIdeal : Cert.AdalnRefIdeal.Facts) (hPre_finite_mixer : Cert.Pre_finite_mixer.Facts) (hPre_finite : Cert.Pre_finite.Facts) (hPre_finite_c : Cert.Pre_finite_c.Facts),
    quiescent_Mixer (hMixer := hMixer)
    ∧ quiescent_MixerIdeal (hMixerIdeal := hMixerIdeal)
    ∧ quiescent_MixerIdeal_pre_finite_mixer (hMixerIdeal := hMixerIdeal) (hPre_finite_mixer := hPre_finite_mixer)
    ∧ quiescent_MixerRefIdeal (hMixerRefIdeal := hMixerRefIdeal)
    ∧ quiescent_MixerRefIdeal_pre_finite_mixer (hMixerRefIdeal := hMixerRefIdeal) (hPre_finite_mixer := hPre_finite_mixer)
    ∧ quiescent_Ffn (hFfn := hFfn)
    ∧ quiescent_FfnIdeal (hFfnIdeal := hFfnIdeal)
    ∧ quiescent_FfnIdeal_pre_finite (hFfnIdeal := hFfnIdeal) (hPre_finite := hPre_finite)
    ∧ quiescent_FfnRefIdeal (hFfnRefIdeal := hFfnRefIdeal)
    ∧ quiescent_FfnRefIdeal_pre_finite (hFfnRefIdeal := hFfnRefIdeal) (hPre_finite := hPre_finite)
    ∧ quiescent_First (hFirst := hFirst)
    ∧ quiescent_FirstIdeal (hFirstIdeal := hFirstIdeal)
    ∧ quiescent_FirstIdeal_pre_finite (hFirstIdeal := hFirstIdeal) (hPre_finite := hPre_finite)
    ∧ quiescent_FirstRefIdeal (hFirstRefIdeal := hFirstRefIdeal)
    ∧ quiescent_FirstRefIdeal_pre_finite (hFirstRefIdeal := hFirstRefIdeal) (hPre_finite := hPre_finite)
    ∧ quiescent_Adaln (hAdaln := hAdaln)
    ∧ quiescent_AdalnIdeal (hAdalnIdeal := hAdalnIdeal)
    ∧ quiescent_AdalnIdeal_pre_finite_c (hAdalnIdeal := hAdalnIdeal) (hPre_finite_c := hPre_finite_c)
    ∧ quiescent_AdalnRefIdeal (hAdalnRefIdeal := hAdalnRefIdeal)
    ∧ quiescent_AdalnRefIdeal_pre_finite_c (hAdalnRefIdeal := hAdalnRefIdeal) (hPre_finite_c := hPre_finite_c)
    ∧ preserves_Mixer_MixerIdeal
    ∧ algebraic_MixerIdeal_MixerRefIdeal_pre_finite_mixer (hMixerIdeal := hMixerIdeal) (hMixerRefIdeal := hMixerRefIdeal) (hPre_finite_mixer := hPre_finite_mixer)
    ∧ preserves_Ffn_FfnIdeal
    ∧ algebraic_FfnIdeal_FfnRefIdeal_pre_finite (hFfnIdeal := hFfnIdeal) (hFfnRefIdeal := hFfnRefIdeal) (hPre_finite := hPre_finite)
    ∧ preserves_First_FirstIdeal
    ∧ algebraic_FirstIdeal_FirstRefIdeal_pre_finite (hFirstIdeal := hFirstIdeal) (hFirstRefIdeal := hFirstRefIdeal) (hPre_finite := hPre_finite)
    ∧ preserves_Adaln_AdalnIdeal
    ∧ algebraic_AdalnIdeal_AdalnRefIdeal_pre_finite_c (hAdalnIdeal := hAdalnIdeal) (hAdalnRefIdeal := hAdalnRefIdeal) (hPre_finite_c := hPre_finite_c)
-- ==== Pre_finite.lean ====
abbrev S8x4096x1024 : Shape := ⟨3, ![8, 4096, 1024]⟩
abbrev S8x1024 : Shape := ⟨2, ![8, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_

variable [Facts]

def fn_part1 {F : FTy → Type} [FloatOps F] (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  main_v18

def fn {F : FTy → Type} [FloatOps F] (main_arg0 : FVec F S8x4096x1024 .f32) (main_arg1 : FVec F S8x1024 .f32) (main_arg2 : FVec F S8x1024 .f32) (main_arg3 : FVec F S8x1024 .f32) (main_arg4 : FVec F S1024 .f32) (main_arg5 : FVec F S1024x5632 .f32) (main_arg6 : FVec F S2816x1024 .f32) (main_arg7 : FVec F S1024 .f32) : IVec S_ 1 :=
  let main_v0 : FVec F S8x1024 .f32 := Host.absf main_arg1
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x5632 .f32 := Host.absf main_arg5
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_v13 main_v16
-- ==== Pre_finite_c.lean ====
abbrev S8x1024 : Shape := ⟨2, ![8, 1024]⟩
abbrev S1024x9216 : Shape := ⟨2, ![1024, 9216]⟩
abbrev S9216 : Shape := ⟨1, ![9216]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel

variable [Facts]

def fn {F : FTy → Type} [FloatOps F] (main_arg0 : FVec F S8x1024 .f32) (main_arg1 : FVec F S1024x9216 .f32) (main_arg2 : FVec F S9216 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  main_v3
-- ==== Pre_finite_mixer.lean ====
abbrev S8x4096x1024 : Shape := ⟨3, ![8, 4096, 1024]⟩
abbrev S8x1024 : Shape := ⟨2, ![8, 1024]⟩
abbrev S1024 : Shape := ⟨1, ![1024]⟩
abbrev S1024x4632 : Shape := ⟨2, ![1024, 4632]⟩
abbrev S4x128x128 : Shape := ⟨3, ![4, 128, 128]⟩
abbrev S512 : Shape := ⟨1, ![512]⟩
abbrev S4x2560 : Shape := ⟨2, ![4, 2560]⟩
abbrev S2560 : Shape := ⟨1, ![2560]⟩
abbrev S24 : Shape := ⟨1, ![24]⟩
abbrev S1536 : Shape := ⟨1, ![1536]⟩
abbrev S2048x1024 : Shape := ⟨2, ![2048, 1024]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4632 : S_.BroadcastsInDim S1024x4632 (![] : Fin 0 → Fin S1024x4632.rank)
  reducesTo_S1024x4632_S_d0_1 : S1024x4632.ReducesTo [0, 1] S_
  bcast_S_S4x2560 : S_.BroadcastsInDim S4x2560 (![] : Fin 0 → Fin S4x2560.rank)
  reducesTo_S4x2560_S_d0_1 : S4x2560.ReducesTo [0, 1] S_
  bcast_S_S2560 : S_.BroadcastsInDim S2560 (![] : Fin 0 → Fin S2560.rank)
  reducesTo_S2560_S_d0 : S2560.ReducesTo [0] S_
  bcast_S_S24 : S_.BroadcastsInDim S24 (![] : Fin 0 → Fin S24.rank)
  reducesTo_S24_S_d0 : S24.ReducesTo [0] S_

variable [Facts]

def fn_part1 {F : FTy → Type} [FloatOps F] (main_arg8 : FVec F S4x2560 .f32) (main_arg9 : FVec F S2560 .f32) (main_arg10 : FVec F S24 .f32) (main_v13 : IVec S_ 1) (main_v16 : IVec S1024x4632 1) : IVec S_ 1 :=
  let main_c_5 : IVec S_ 1 := constantI S_ 1 1#1
  let main_v17 : IVec S_ 1 := (fun x v => Host.reduce IntOp.andi x v reducesTo_S1024x4632_S_d0_1 h_S_) main_v16 main_c_5
  let main_v18 : IVec S_ 1 := andi main_v13 main_v17
  let main_v19 : FVec F S4x2560 .f32 := Host.absf main_arg8
  let main_cst_6 : FVec F S_ .f32 := constant S_ .f32 0x7F800000#32
  let main_v20 : FVec F S4x2560 .f32 := broadcastInDim S4x2560 ![] bcast_S_S4x2560 main_cst_6
  let main_v21 : IVec S4x2560 1 := cmpf .olt main_v19 main_v20
  let main_c_7 : IVec S_ 1 := constantI S_ 1 1#1
  let main_v22 : IVec S_ 1 := (fun x v => Host.reduce IntOp.andi x v reducesTo_S4x2560_S_d0_1 h_S_) main_v21 main_c_7
  let main_v23 : IVec S_ 1 := andi main_v18 main_v22
  let main_v24 : FVec F S2560 .f32 := Host.absf main_arg9
  let main_cst_8 : FVec F S_ .f32 := constant S_ .f32 0x7F800000#32
  let main_v25 : FVec F S2560 .f32 := broadcastInDim S2560 ![] bcast_S_S2560 main_cst_8
  let main_v26 : IVec S2560 1 := cmpf .olt main_v24 main_v25
  let main_c_9 : IVec S_ 1 := constantI S_ 1 1#1
  let main_v27 : IVec S_ 1 := (fun x v => Host.reduce IntOp.andi x v reducesTo_S2560_S_d0 h_S_) main_v26 main_c_9
  let main_v28 : IVec S_ 1 := andi main_v23 main_v27
  let main_v29 : FVec F S24 .f32 := Host.absf main_arg10
  let main_cst_10 : FVec F S_ .f32 := constant S_ .f32 0x7F800000#32
  let main_v30 : FVec F S24 .f32 := broadcastInDim S24 ![] bcast_S_S24 main_cst_10
  let main_v31 : IVec S24 1 := cmpf .olt main_v29 main_v30
  let main_c_11 : IVec S_ 1 := constantI S_ 1 1#1
  let main_v32 : IVec S_ 1 := (fun x v => Host.reduce IntOp.andi x v reducesTo_S24_S_d0 h_S_) main_v31 main_c_11
  let main_v33 : IVec S_ 1 := andi main_v28 main_v32
  main_v33

def fn {F : FTy → Type} [FloatOps F] (main_arg0 : FVec F S8x4096x1024 .f32) (main_arg1 : FVec F S8x1024 .f32) (main_arg2 : FVec F S8x1024 .f32) (main_arg3 : FVec F S8x1024 .f32) (main_arg4 : FVec F S1024 .f32) (main_arg5 : FVec F S1024x4632 .f32) (main_arg6 : FVec F S4x128x128 .f32) (main_arg7 : FVec F S512 .f32) (main_arg8 : FVec F S4x2560 .f32) (main_arg9 : FVec F S2560 .f32) (main_arg10 : FVec F S24 .f32) (main_arg11 : FVec F S24 .f32) (main_arg12 : FVec F S24 .f32) (main_arg13 : FVec F S1536 .f32) (main_arg14 : FVec F S2048x1024 .f32) : IVec S_ 1 :=
  let main_v0 : FVec F S8x1024 .f32 := Host.absf main_arg1
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S8x1024 .f32 := Host.absf main_arg2
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4632 .f32 := Host.absf main_arg5
  let main_cst_4 : FVec F S_ .f32 := constant S_ .f32 0x7F800000#32
  let main_v15 : FVec F S1024x4632 .f32 := broadcastInDim S1024x4632 ![] bcast_S_S1024x4632 main_cst_4
  let main_v16 : IVec S1024x4632 1 := cmpf .olt main_v14 main_v15
  fn_part1 (F := F) main_arg8 main_arg9 main_arg10 main_v13 main_v16
-- ==== Mixer.lean ====
abbrev S8x4096x1024 : Shape := ⟨3, ![8, 4096, 1024]⟩
abbrev S8x1024 : Shape := ⟨2, ![8, 1024]⟩
abbrev S1024 : Shape := ⟨1, ![1024]⟩
abbrev S1024x4632 : Shape := ⟨2, ![1024, 4632]⟩
abbrev S4x128x128 : Shape := ⟨3, ![4, 128, 128]⟩
abbrev S512 : Shape := ⟨1, ![512]⟩
abbrev S4x2560 : Shape := ⟨2, ![4, 2560]⟩
abbrev S2560 : Shape := ⟨1, ![2560]⟩
abbrev S24 : Shape := ⟨1, ![24]⟩
abbrev S1536 : Shape := ⟨1, ![1536]⟩
abbrev S2048x1024 : Shape := ⟨2, ![2048, 1024]⟩
abbrev S128 : Shape := ⟨1, ![128]⟩
abbrev S128x1 : Shape := ⟨2, ![128, 1]⟩
abbrev S1x1536 : Shape := ⟨2, ![1, 1536]⟩
abbrev S_ : Shape := ⟨0, ![]⟩
abbrev S128x1536 : Shape := ⟨2, ![128, 1536]⟩
abbrev S32768x1024 : Shape := ⟨2, ![32768, 1024]⟩
abbrev S8x1x1024 : Shape := ⟨3, ![8, 1, 1024]⟩
abbrev S1x128 : Shape := ⟨2, ![1, 128]⟩
abbrev S24x64 : Shape := ⟨2, ![24, 64]⟩
abbrev S1x1024 : Shape := ⟨2, ![1, 1024]⟩
abbrev S1x2560 : Shape := ⟨2, ![1, 2560]⟩
abbrev S1x512 : Shape := ⟨2, ![1, 512]⟩
abbrev S256x1024 : Shape := ⟨2, ![256, 1024]⟩
abbrev S1x1x1024 : Shape := ⟨3, ![1, 1, 1024]⟩
abbrev S4x128x384 : Shape := ⟨3, ![4, 128, 384]⟩
abbrev S256x4736 : Shape := ⟨2, ![256, 4736]⟩
abbrev S8x2560 : Shape := ⟨2, ![8, 2560]⟩
abbrev S16x512 : Shape := ⟨2, ![16, 512]⟩
abbrev S256x1536 : Shape := ⟨2, ![256, 1536]⟩
abbrev S256x512 : Shape := ⟨2, ![256, 512]⟩
abbrev S128x256 : Shape := ⟨2, ![128, 256]⟩
abbrev S256 : Shape := ⟨1, ![256]⟩
abbrev S256x1 : Shape := ⟨2, ![256, 1]⟩
abbrev S8x512 : Shape := ⟨2, ![8, 512]⟩
abbrev S264x512 : Shape := ⟨2, ![264, 512]⟩
abbrev S256x128 : Shape := ⟨2, ![256, 128]⟩
abbrev S1024x256 : Shape := ⟨2, ![1024, 256]⟩
abbrev S256x256 : Shape := ⟨2, ![256, 256]⟩
abbrev S16x128 : Shape := ⟨2, ![16, 128]⟩
abbrev S272x128 : Shape := ⟨2, ![272, 128]⟩
abbrev S1x128x128 : Shape := ⟨3, ![1, 128, 128]⟩
abbrev S128x128 : Shape := ⟨2, ![128, 128]⟩
abbrev S64x384 : Shape := ⟨2, ![64, 384]⟩
abbrev S64x128 : Shape := ⟨2, ![64, 128]⟩
abbrev S384x128 : Shape := ⟨2, ![384, 128]⟩
abbrev S1x384 : Shape := ⟨2, ![1, 384]⟩
abbrev S1x128x384 : Shape := ⟨3, ![1, 128, 384]⟩
abbrev S128x384 : Shape := ⟨2, ![128, 384]⟩
abbrev S1024x24 : Shape := ⟨2, ![1024, 24]⟩
abbrev S256x24 : Shape := ⟨2, ![256, 24]⟩
abbrev S512x1024 : Shape := ⟨2, ![512, 1024]⟩
abbrev S256x384 : Shape := ⟨2, ![256, 384]⟩
abbrev S384x1024 : Shape := ⟨2, ![384, 1024]⟩

abbrev nBuf : Space → Nat
  | .hbm => 91
  | .vmem => 37
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S1024, .f32⟩
  | .hbm, ⟨5, _⟩ => ⟨S1024x4632, .f32⟩
  | .hbm, ⟨6, _⟩ => ⟨S4x128x128, .f32⟩
  | .hbm, ⟨7, _⟩ => ⟨S512, .f32⟩
  | .hbm, ⟨8, _⟩ => ⟨S4x2560, .f32⟩
  | .hbm, ⟨9, _⟩ => ⟨S2560, .f32⟩
  | .hbm, ⟨10, _⟩ => ⟨S24, .f32⟩
  | .hbm, ⟨11, _⟩ => ⟨S24, .f32⟩
  | .hbm, ⟨12, _⟩ => ⟨S24, .f32⟩
  | .hbm, ⟨13, _⟩ => ⟨S1536, .f32⟩
  | .hbm, ⟨14, _⟩ => ⟨S2048x1024, .f32⟩
  | .hbm, ⟨15, _⟩ => ⟨S128, .i32⟩
  | .hbm, ⟨16, _⟩ => ⟨S128x1, .i32⟩
  | .hbm, ⟨17, _⟩ => ⟨S1536, .i32⟩
  | .hbm, ⟨18, _⟩ => ⟨S1x1536, .i32⟩
  | .hbm, ⟨19, _⟩ => ⟨S_, .i32⟩
  | .hbm, ⟨20, _⟩ => ⟨S_, .i32⟩
  | .hbm, ⟨21, _⟩ => ⟨S1x1536, .i32⟩
  | .hbm, ⟨22, _⟩ => ⟨S1x1536, .i32⟩
  | .hbm, ⟨23, _⟩ => ⟨S1x1536, .i32⟩
  | .hbm, ⟨24, _⟩ => ⟨S_, .i32⟩
  | .hbm, ⟨25, _⟩ => ⟨S1x1536, .i32⟩
  | .hbm, ⟨26, _⟩ => ⟨S1x1536, .i1⟩
  | .hbm, ⟨27, _⟩ => ⟨S1x1536, .i32⟩
  | .hbm, ⟨28, _⟩ => ⟨S1x1536, .i32⟩
  | .hbm, ⟨29, _⟩ => ⟨S_, .i32⟩
  | .hbm, ⟨30, _⟩ => ⟨S1x1536, .i32⟩
  | .hbm, ⟨31, _⟩ => ⟨S1x1536, .i1⟩
  | .hbm, ⟨32, _⟩ => ⟨S1x1536, .i1⟩
  | .hbm, ⟨33, _⟩ => ⟨S_, .i32⟩
  | .hbm, ⟨34, _⟩ => ⟨S1x1536, .i32⟩
  | .hbm, ⟨35, _⟩ => ⟨S1x1536, .i32⟩
  | .hbm, ⟨36, _⟩ => ⟨S1x1536, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S_, .i32⟩
  | .hbm, ⟨46, _⟩ => ⟨S128x1, .i32⟩
  | .hbm, ⟨47, _⟩ => ⟨S128x1, .i1⟩
  | .hbm, ⟨48, _⟩ => ⟨S_, .i32⟩
  | .hbm, ⟨49, _⟩ => ⟨S128x1, .i32⟩
  | .hbm, ⟨50, _⟩ => ⟨S128x1, .i1⟩
  | .hbm, ⟨51, _⟩ => ⟨S_, .i32⟩
  | .hbm, ⟨52, _⟩ => ⟨S_, .i1⟩
  | .hbm, ⟨53, _⟩ => ⟨S128x1, .i1⟩
  | .hbm, ⟨54, _⟩ => ⟨S128x1, .i1⟩
  | .hbm, ⟨55, _⟩ => ⟨S128x1, .i1⟩
  | .hbm, ⟨56, _⟩ => ⟨S128x1, .i32⟩
  | .hbm, ⟨57, _⟩ => ⟨S128x1, .i32⟩
  | .hbm, ⟨58, _⟩ => ⟨S128x1, .i32⟩
  | .hbm, ⟨59, _⟩ => ⟨S128x1536, .i32⟩
  | .hbm, ⟨60, _⟩ => ⟨S128x1536, .i32⟩
  | .hbm, ⟨61, _⟩ => ⟨S128x1536, .i1⟩
  | .hbm, ⟨62, _⟩ => ⟨S_, .i32⟩
  | .hbm, ⟨63, _⟩ => ⟨S128x1, .i32⟩
  | .hbm, ⟨64, _⟩ => ⟨S128x1, .i1⟩
  | .hbm, ⟨65, _⟩ => ⟨S128x1536, .i1⟩
  | .hbm, ⟨66, _⟩ => ⟨S128x1536, .i1⟩
  | .hbm, ⟨67, _⟩ => ⟨S128x1536, .bf16⟩
  | .hbm, ⟨68, _⟩ => ⟨S32768x1024, .f32⟩
  | .hbm, ⟨69, _⟩ => ⟨S8x1x1024, .f32⟩
  | .hbm, ⟨70, _⟩ => ⟨S8x1x1024, .f32⟩
  | .hbm, ⟨71, _⟩ => ⟨S8x1x1024, .f32⟩
  | .hbm, ⟨72, _⟩ => ⟨S1024x4632, .bf16⟩
  | .hbm, ⟨73, _⟩ => ⟨S4x128x128, .bf16⟩
  | .hbm, ⟨74, _⟩ => ⟨S_, .i32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S_, .i32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S24x64, .f32⟩
  | .hbm, ⟨83, _⟩ => ⟨S1536, .f32⟩
  | .hbm, ⟨84, _⟩ => ⟨S1x1536, .f32⟩
  | .hbm, ⟨85, _⟩ => ⟨S2048x1024, .bf16⟩
  | .hbm, ⟨86, _⟩ => ⟨S1x1024, .f32⟩
  | .hbm, ⟨87, _⟩ => ⟨S1x2560, .f32⟩
  | .hbm, ⟨88, _⟩ => ⟨S1x512, .f32⟩
  | .hbm, ⟨89, _⟩ => ⟨S1x1536, .f32⟩
  | .hbm, ⟨90, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x4632, .bf16⟩
  | .local _ .vmem, ⟨12, _⟩ => ⟨S4x2560, .f32⟩
  | .local _ .vmem, ⟨13, _⟩ => ⟨S1x2560, .f32⟩
  | .local _ .vmem, ⟨14, _⟩ => ⟨S4x128x128, .bf16⟩
  | .local _ .vmem, ⟨15, _⟩ => ⟨S1x512, .f32⟩
  | .local _ .vmem, ⟨16, _⟩ => ⟨S1x128, .f32⟩
  | .local _ .vmem, ⟨17, _⟩ => ⟨S1x128, .f32⟩
  | .local _ .vmem, ⟨18, _⟩ => ⟨S1x1536, .f32⟩
  | .local _ .vmem, ⟨19, _⟩ => ⟨S1x1536, .f32⟩
  | .local _ .vmem, ⟨20, _⟩ => ⟨S128x1536, .bf16⟩
  | .local _ .vmem, ⟨21, _⟩ => ⟨S2048x1024, .bf16⟩
  | .local _ .vmem, ⟨22, _⟩ => ⟨S256x1024, .f32⟩
  | .local _ .vmem, ⟨23, _⟩ => ⟨S256x1024, .f32⟩
  | .local _ .vmem, ⟨24, _⟩ => ⟨S4x128x384, .f32⟩
  | .local _ .vmem, ⟨25, _⟩ => ⟨S256x4736, .f32⟩
  | .local _ .vmem, ⟨26, _⟩ => ⟨S256x4736, .f32⟩
  | .local _ .vmem, ⟨27, _⟩ => ⟨S8x2560, .f32⟩
  | .local _ .vmem, ⟨28, _⟩ => ⟨S16x512, .f32⟩
  | .local _ .vmem, ⟨29, _⟩ => ⟨S256x1536, .f32⟩
  | .local _ .vmem, ⟨30, _⟩ => ⟨S256x512, .bf16⟩
  | .local _ .vmem, ⟨31, _⟩ => ⟨S256x512, .bf16⟩
  | .local _ .vmem, ⟨32, _⟩ => ⟨S256x1536, .f32⟩
  | .local _ .vmem, ⟨33, _⟩ => ⟨S256x1536, .f32⟩
  | .local _ .vmem, ⟨34, _⟩ => ⟨S256x1536, .f32⟩
  | .local _ .vmem, ⟨35, _⟩ => ⟨S128x256, .f32⟩
  | .local _ .vmem, ⟨36, _⟩ => ⟨S128x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v4 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_c_1 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_c_2 : Ref sig .tc := ⟨.hbm, 74, rfl⟩
abbrev main_call2_v0 : Ref sig .tc := ⟨.hbm, 75, rfl⟩
abbrev main_v20 : Ref sig .tc := ⟨.hbm, 76, rfl⟩
abbrev main_v21 : Ref sig .tc := ⟨.hbm, 77, rfl⟩
abbrev main_c_3 : Ref sig .tc := ⟨.hbm, 78, rfl⟩
abbrev main_call3_v0 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_scratch12 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![129], ![false]⟩

def k0_cond3 (i : grid0.Coords) : BitVec 1 :=
  let arg0 : BitVec 32 := BitVec.ofNat 32 (i 0).val
  let c2_i32 : BitVec 32 := 2#32
  let v11 : BitVec 32 := Scalar.remsi arg0 c2_i32
  let c0_i32_5 : BitVec 32 := 0#32
  let v12 : BitVec 1 := Scalar.cmpi .eq v11 c0_i32_5
  let v13 : BitVec 32 := Scalar.extui v12
  let c0_i32_6 : BitVec 32 := 0#32
  let v14 : BitVec 1 := Scalar.cmpi .ne v13 c0_i32_6
  v14

def k0_cond4 (i : grid0.Coords) : BitVec 1 :=
  let arg0 : BitVec 32 := BitVec.ofNat 32 (i 0).val
  let c2_i32_7 : BitVec 32 := 2#32
  let v15 : BitVec 32 := Scalar.remsi arg0 c2_i32_7
  let c1_i32_8 : BitVec 32 := 1#32
  let v16 : BitVec 1 := Scalar.cmpi .eq v15 c1_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  let c0_i32_8 : BitVec 32 := 0#32
  ![v18.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2560 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1536 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixerIdeal.lean ====
variable {F : FTy → Type} [FloatOps F] [Named F]
def κ : String → Option EReal := fun
  | "mask" => some ⊥
  | _ => none
-- ==== MixerRefIdeal.lean ====
abbrev S8x4096x1024 : Shape := ⟨3, ![8, 4096, 1024]⟩
abbrev S8x1024 : Shape := ⟨2, ![8, 1024]⟩
abbrev S1024 : Shape := ⟨1, ![1024]⟩
abbrev S1024x4632 : Shape := ⟨2, ![1024, 4632]⟩
abbrev S4x128x128 : Shape := ⟨3, ![4, 128, 128]⟩
abbrev S512 : Shape := ⟨1, ![512]⟩
abbrev S4x2560 : Shape := ⟨2, ![4, 2560]⟩
abbrev S2560 : Shape := ⟨1, ![2560]⟩
abbrev S24 : Shape := ⟨1, ![24]⟩
abbrev S1536 : Shape := ⟨1, ![1536]⟩
abbrev S2048x1024 : Shape := ⟨2, ![2048, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x4632 : Shape := ⟨3, ![8, 4096, 4632]⟩
abbrev S8x4096x512 : Shape := ⟨3, ![8, 4096, 512]⟩
abbrev S8x4096x1536 : Shape := ⟨3, ![8, 4096, 1536]⟩
abbrev S8x4096x2560 : Shape := ⟨3, ![8, 4096, 2560]⟩
abbrev S8x4096x24 : Shape := ⟨3, ![8, 4096, 24]⟩
abbrev S8x4096x4x128 : Shape := ⟨4, ![8, 4096, 4, 128]⟩
abbrev S4096 : Shape := ⟨1, ![4096]⟩
abbrev S8x4096x1x128 : Shape := ⟨4, ![8, 4096, 1, 128]⟩
abbrev S8x4096x128 : Shape := ⟨3, ![8, 4096, 128]⟩
abbrev S8x4098x128 : Shape := ⟨3, ![8, 4098, 128]⟩
abbrev S1x4096x1 : Shape := ⟨3, ![1, 4096, 1]⟩
abbrev S8x4100x128 : Shape := ⟨3, ![8, 4100, 128]⟩
abbrev S8x4104x128 : Shape := ⟨3, ![8, 4104, 128]⟩
abbrev S8x4112x128 : Shape := ⟨3, ![8, 4112, 128]⟩
abbrev S4x128x8x4096 : Shape := ⟨4, ![4, 128, 8, 4096]⟩
abbrev S1x1x512 : Shape := ⟨3, ![1, 1, 512]⟩
abbrev S8x4099x2560 : Shape := ⟨3, ![8, 4099, 2560]⟩
abbrev S1x2560 : Shape := ⟨2, ![1, 2560]⟩
abbrev S1x1x2560 : Shape := ⟨3, ![1, 1, 2560]⟩
abbrev S8x4096x24x64 : Shape := ⟨4, ![8, 4096, 24, 64]⟩
abbrev S1x1x24 : Shape := ⟨3, ![1, 1, 24]⟩
abbrev S8x4096x24x1 : Shape := ⟨4, ![8, 4096, 24, 1]⟩
abbrev S8x64x64x4x6x64 : Shape := ⟨6, ![8, 64, 64, 4, 6, 64]⟩
abbrev S8x64x64x4x6 : Shape := ⟨5, ![8, 64, 64, 4, 6]⟩
abbrev S8x64x4x6x64 : Shape := ⟨5, ![8, 64, 4, 6, 64]⟩
abbrev S8x64x64x4x128 : Shape := ⟨5, ![8, 64, 64, 4, 128]⟩
abbrev S8x64x4x64x64 : Shape := ⟨5, ![8, 64, 4, 64, 64]⟩
abbrev S8x64x4x1x64x64 : Shape := ⟨6, ![8, 64, 4, 1, 64, 64]⟩
abbrev S8x64x4x6x64x1 : Shape := ⟨6, ![8, 64, 4, 6, 64, 1]⟩
abbrev S8x64x4x6x1x64 : Shape := ⟨6, ![8, 64, 4, 6, 1, 64]⟩
abbrev S8x64x4x6x64x64 : Shape := ⟨6, ![8, 64, 4, 6, 64, 64]⟩
abbrev S64x64 : Shape := ⟨2, ![64, 64]⟩
abbrev S8x64x4x6x1 : Shape := ⟨5, ![8, 64, 4, 6, 1]⟩
abbrev S8x64x64x4x6x1 : Shape := ⟨6, ![8, 64, 64, 4, 6, 1]⟩
abbrev S8x64x4x6x64x128 : Shape := ⟨6, ![8, 64, 4, 6, 64, 128]⟩
abbrev S8x64x4x6 : Shape := ⟨4, ![8, 64, 4, 6]⟩
abbrev S8x4x6x64 : Shape := ⟨4, ![8, 4, 6, 64]⟩
abbrev S8x4x6x64x1 : Shape := ⟨5, ![8, 4, 6, 64, 1]⟩
abbrev S8x4x6x1x64 : Shape := ⟨5, ![8, 4, 6, 1, 64]⟩
abbrev S8x4x6x64x64 : Shape := ⟨5, ![8, 4, 6, 64, 64]⟩
abbrev S8x4x6x64x128x64 : Shape := ⟨6, ![8, 4, 6, 64, 128, 64]⟩
abbrev S24x1 : Shape := ⟨2, ![24, 1]⟩
abbrev S1x1x24x1 : Shape := ⟨4, ![1, 1, 24, 1]⟩
abbrev S8x4096x4x384 : Shape := ⟨4, ![8, 4096, 4, 384]⟩
abbrev S8x4096x4 : Shape := ⟨3, ![8, 4096, 4]⟩
abbrev S8x4096x4x1 : Shape := ⟨4, ![8, 4096, 4, 1]⟩
abbrev S1x1x1536 : Shape := ⟨3, ![1, 1, 1536]⟩
abbrev S8x4096x2048 : Shape := ⟨3, ![8, 4096, 2048]⟩
abbrev S32768x1024 : Shape := ⟨2, ![32768, 1024]⟩

abbrev nBuf : Space → Nat
  | .hbm => 332
  | .vmem => 0
  | .smem => 0
  | _ => 0

abbrev hbmTy0_0 (i : Nat) : BufTy := match i % 128 with
  | 0 => ⟨S8x4096x1024, .f32⟩
  | 1 => ⟨S8x1024, .f32⟩
  | 2 => ⟨S8x1024, .f32⟩
  | 3 => ⟨S8x1024, .f32⟩
  | 4 => ⟨S1024, .f32⟩
  | 5 => ⟨S1024x4632, .f32⟩
  | 6 => ⟨S4x128x128, .f32⟩
  | 7 => ⟨S512, .f32⟩
  | 8 => ⟨S4x2560, .f32⟩
  | 9 => ⟨S2560, .f32⟩
  | 10 => ⟨S24, .f32⟩
  | 11 => ⟨S24, .f32⟩
  | 12 => ⟨S24, .f32⟩
  | 13 => ⟨S1536, .f32⟩
  | 14 => ⟨S2048x1024, .f32⟩
  | 15 => ⟨S8x4096x1024, .f32⟩
  | 16 => ⟨S_, .f32⟩
  | 17 => ⟨S8x4096, .f32⟩
  | 18 => ⟨S8x4096x1, .f32⟩
  | 19 => ⟨S_, .f32⟩
  | 20 => ⟨S8x4096x1, .f32⟩
  | 21 => ⟨S8x4096x1, .f32⟩
  | 22 => ⟨S_, .f32⟩
  | 23 => ⟨S8x4096x1, .f32⟩
  | 24 => ⟨S8x4096x1, .f32⟩
  | 25 => ⟨S8x4096x1, .f32⟩
  | 26 => ⟨S8x4096x1024, .f32⟩
  | 27 => ⟨S8x4096x1024, .f32⟩
  | 28 => ⟨S1x1x1024, .f32⟩
  | 29 => ⟨S8x4096x1024, .f32⟩
  | 30 => ⟨S8x4096x1024, .f32⟩
  | 31 => ⟨S8x1x1024, .f32⟩
  | 32 => ⟨S_, .f32⟩
  | 33 => ⟨S8x1x1024, .f32⟩
  | 34 => ⟨S8x1x1024, .f32⟩
  | 35 => ⟨S8x4096x1024, .f32⟩
  | 36 => ⟨S8x4096x1024, .f32⟩
  | 37 => ⟨S8x1x1024, .f32⟩
  | 38 => ⟨S8x4096x1024, .f32⟩
  | 39 => ⟨S8x4096x1024, .f32⟩
  | 40 => ⟨S8x4096x4632, .f32⟩
  | 41 => ⟨S8x4096x512, .f32⟩
  | 42 => ⟨S8x4096x1536, .f32⟩
  | 43 => ⟨S8x4096x2560, .f32⟩
  | 44 => ⟨S8x4096x24, .f32⟩
  | 45 => ⟨S8x4096x4x128, .f32⟩
  | 46 => ⟨S_, .f32⟩
  | 47 => ⟨S_, .f32⟩
  | 48 => ⟨S8x4096x4x128, .f32⟩
  | 49 => ⟨S4096, .i32⟩
  | 50 => ⟨S8x4096x1x128, .f32⟩
  | 51 => ⟨S8x4096x128, .f32⟩
  | 52 => ⟨S_, .i32⟩
  | 53 => ⟨S_, .f32⟩
  | 54 => ⟨S8x4098x128, .f32⟩
  | 55 => ⟨S8x4096x128, .f32⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S4096, .f32⟩
  | 63 => ⟨S1x4096x1, .f32⟩
  | 64 => ⟨S8x4096x128, .f32⟩
  | 65 => ⟨S8x4096x128, .f32⟩
  | 66 => ⟨S8x4096x128, .f32⟩
  | 67 => ⟨S8x4096x1x128, .f32⟩
  | 68 => ⟨S8x4096x128, .f32⟩
  | 69 => ⟨S_, .i32⟩
  | 70 => ⟨S_, .f32⟩
  | 71 => ⟨S8x4100x128, .f32⟩
  | 72 => ⟨S8x4096x128, .f32⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S4096, .f32⟩
  | 80 => ⟨S1x4096x1, .f32⟩
  | 81 => ⟨S8x4096x128, .f32⟩
  | 82 => ⟨S8x4096x128, .f32⟩
  | 83 => ⟨S8x4096x128, .f32⟩
  | 84 => ⟨S8x4096x1x128, .f32⟩
  | 85 => ⟨S8x4096x128, .f32⟩
  | 86 => ⟨S_, .i32⟩
  | 87 => ⟨S_, .f32⟩
  | 88 => ⟨S8x4104x128, .f32⟩
  | 89 => ⟨S8x4096x128, .f32⟩
  | 90 => ⟨S_, .i32⟩
  | 91 => ⟨S4096, .i32⟩
  | 92 => ⟨S4096, .i32⟩
  | 93 => ⟨S_, .i32⟩
  | 94 => ⟨S4096, .i32⟩
  | 95 => ⟨S4096, .i32⟩
  | 96 => ⟨S4096, .f32⟩
  | 97 => ⟨S1x4096x1, .f32⟩
  | 98 => ⟨S8x4096x128, .f32⟩
  | 99 => ⟨S8x4096x128, .f32⟩
  | 100 => ⟨S8x4096x128, .f32⟩
  | 101 => ⟨S8x4096x1x128, .f32⟩
  | 102 => ⟨S8x4096x128, .f32⟩
  | 103 => ⟨S_, .i32⟩
  | 104 => ⟨S_, .f32⟩
  | 105 => ⟨S8x4112x128, .f32⟩
  | 106 => ⟨S8x4096x128, .f32⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S4096, .f32⟩
  | 114 => ⟨S1x4096x1, .f32⟩
  | 115 => ⟨S8x4096x128, .f32⟩
  | 116 => ⟨S8x4096x128, .f32⟩
  | 117 => ⟨S8x4096x128, .f32⟩
  | 118 => ⟨S8x4096x1x128, .f32⟩
  | 119 => ⟨S8x4096x1x128, .f32⟩
  | 120 => ⟨S8x4096x1x128, .f32⟩
  | 121 => ⟨S8x4096x1x128, .f32⟩
  | 122 => ⟨S8x4096x4x128, .f32⟩
  | 123 => ⟨S8x4096x4x128, .f32⟩
  | 124 => ⟨S4x128x8x4096, .f32⟩
  | 125 => ⟨S8x4096x4x128, .f32⟩
  | 126 => ⟨S8x4096x512, .f32⟩
  | 127 => ⟨S1x1x512, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S_, .i32⟩
  | 3 => ⟨S_, .f32⟩
  | 4 => ⟨S8x4099x2560, .f32⟩
  | 5 => ⟨S8x4096x2560, .f32⟩
  | 6 => ⟨S1x2560, .f32⟩
  | 7 => ⟨S2560, .f32⟩
  | 8 => ⟨S1x1x2560, .f32⟩
  | 9 => ⟨S8x4096x2560, .f32⟩
  | 10 => ⟨S8x4096x2560, .f32⟩
  | 11 => ⟨S8x4096x2560, .f32⟩
  | 12 => ⟨S1x2560, .f32⟩
  | 13 => ⟨S2560, .f32⟩
  | 14 => ⟨S1x1x2560, .f32⟩
  | 15 => ⟨S8x4096x2560, .f32⟩
  | 16 => ⟨S8x4096x2560, .f32⟩
  | 17 => ⟨S8x4096x2560, .f32⟩
  | 18 => ⟨S8x4096x2560, .f32⟩
  | 19 => ⟨S1x2560, .f32⟩
  | 20 => ⟨S2560, .f32⟩
  | 21 => ⟨S1x1x2560, .f32⟩
  | 22 => ⟨S8x4096x2560, .f32⟩
  | 23 => ⟨S8x4096x2560, .f32⟩
  | 24 => ⟨S8x4096x2560, .f32⟩
  | 25 => ⟨S8x4096x2560, .f32⟩
  | 26 => ⟨S1x2560, .f32⟩
  | 27 => ⟨S2560, .f32⟩
  | 28 => ⟨S1x1x2560, .f32⟩
  | 29 => ⟨S8x4096x2560, .f32⟩
  | 30 => ⟨S8x4096x2560, .f32⟩
  | 31 => ⟨S8x4096x2560, .f32⟩
  | 32 => ⟨S1x1x2560, .f32⟩
  | 33 => ⟨S8x4096x2560, .f32⟩
  | 34 => ⟨S8x4096x2560, .f32⟩
  | 35 => ⟨S8x4096x2560, .f32⟩
  | 36 => ⟨S8x4096x2560, .f32⟩
  | 37 => ⟨S_, .f32⟩
  | 38 => ⟨S8x4096x2560, .f32⟩
  | 39 => ⟨S8x4096x2560, .f32⟩
  | 40 => ⟨S_, .f32⟩
  | 41 => ⟨S8x4096x2560, .f32⟩
  | 42 => ⟨S8x4096x2560, .f32⟩
  | 43 => ⟨S8x4096x2560, .f32⟩
  | 44 => ⟨S8x4096x1536, .f32⟩
  | 45 => ⟨S8x4096x512, .f32⟩
  | 46 => ⟨S8x4096x512, .f32⟩
  | 47 => ⟨S8x4096x24x64, .f32⟩
  | 48 => ⟨S8x4096x4x128, .f32⟩
  | 49 => ⟨S8x4096x4x128, .f32⟩
  | 50 => ⟨S1x1x24, .f32⟩
  | 51 => ⟨S8x4096x24, .f32⟩
  | 52 => ⟨S8x4096x24, .f32⟩
  | 53 => ⟨S_, .f32⟩
  | 54 => ⟨S8x4096x24, .f32⟩
  | 55 => ⟨S8x4096x24, .f32⟩
  | 56 => ⟨S8x4096x24, .f32⟩
  | 57 => ⟨S8x4096x24, .f32⟩
  | 58 => ⟨S8x4096x24, .i1⟩
  | 59 => ⟨S8x4096x24, .f32⟩
  | 60 => ⟨S8x4096x24, .f32⟩
  | 61 => ⟨S8x4096x24, .f32⟩
  | 62 => ⟨S8x4096x24, .f32⟩
  | 63 => ⟨S8x4096x24, .f32⟩
  | 64 => ⟨S8x4096x24, .f32⟩
  | 65 => ⟨S8x4096x24, .f32⟩
  | 66 => ⟨S8x4096x24, .f32⟩
  | 67 => ⟨S24, .f32⟩
  | 68 => ⟨S24, .f32⟩
  | 69 => ⟨S8x4096x24x1, .f32⟩
  | 70 => ⟨S8x4096x24x64, .f32⟩
  | 71 => ⟨S8x4096x24x64, .f32⟩
  | 72 => ⟨S8x64x64x4x6x64, .f32⟩
  | 73 => ⟨S1x1x24, .f32⟩
  | 74 => ⟨S8x4096x24, .f32⟩
  | 75 => ⟨S8x4096x24, .f32⟩
  | 76 => ⟨S8x64x64x4x6, .f32⟩
  | 77 => ⟨S8x64x4x6x64, .f32⟩
  | 78 => ⟨S8x64x64x4x128, .f32⟩
  | 79 => ⟨S8x64x64x4x128, .f32⟩
  | 80 => ⟨S_, .f32⟩
  | 81 => ⟨S_, .f32⟩
  | 82 => ⟨S8x64x4x6x64, .f32⟩
  | 83 => ⟨S8x64x4x64x64, .f32⟩
  | 84 => ⟨S8x64x4x1x64x64, .f32⟩
  | 85 => ⟨S_, .f32⟩
  | 86 => ⟨S_, .f32⟩
  | 87 => ⟨S8x64x4x6x64, .f32⟩
  | 88 => ⟨S8x64x4x6x64x1, .f32⟩
  | 89 => ⟨S8x64x4x6x1x64, .f32⟩
  | 90 => ⟨S8x64x4x6x64x64, .f32⟩
  | 91 => ⟨S8x64x4x6x64x64, .f32⟩
  | 92 => ⟨S8x64x4x6x64x64, .f32⟩
  | 93 => ⟨S_, .i1⟩
  | 94 => ⟨S64x64, .i1⟩
  | 95 => ⟨S64x64, .i32⟩
  | 96 => ⟨S_, .i32⟩
  | 97 => ⟨S64x64, .i32⟩
  | 98 => ⟨S64x64, .i32⟩
  | 99 => ⟨S64x64, .i32⟩
  | 100 => ⟨S64x64, .i1⟩
  | 101 => ⟨S_, .i1⟩
  | 102 => ⟨S64x64, .i1⟩
  | 103 => ⟨S64x64, .i1⟩
  | 104 => ⟨S_, .f32⟩
  | 105 => ⟨S_, .f32⟩
  | 106 => ⟨S8x64x4x6x64x64, .i1⟩
  | 107 => ⟨S8x64x4x6x64x64, .f32⟩
  | 108 => ⟨S8x64x4x6x64x64, .f32⟩
  | 109 => ⟨S8x64x4x6x64x64, .f32⟩
  | 110 => ⟨S8x64x4x6x64x64, .f32⟩
  | 111 => ⟨S8x64x4x6x64x64, .f32⟩
  | 112 => ⟨S8x64x4x6x64x64, .f32⟩
  | 113 => ⟨S8x64x64x4x6x64, .f32⟩
  | 114 => ⟨S8x64x4x6x1, .f32⟩
  | 115 => ⟨S8x64x4x6x64, .f32⟩
  | 116 => ⟨S8x64x4x6x64, .f32⟩
  | 117 => ⟨S8x64x4x6x64, .f32⟩
  | 118 => ⟨S8x64x64x4x6, .f32⟩
  | 119 => ⟨S8x64x64x4x6x1, .f32⟩
  | 120 => ⟨S8x64x64x4x6x64, .f32⟩
  | 121 => ⟨S8x64x64x4x6x64, .f32⟩
  | 122 => ⟨S8x64x4x6x64x128, .f32⟩
  | 123 => ⟨S8x64x4x6x1, .f32⟩
  | 124 => ⟨S8x64x4x6, .f32⟩
  | 125 => ⟨S8x4x6x64, .f32⟩
  | 126 => ⟨S_, .f32⟩
  | 127 => ⟨S_, .f32⟩
  | _ => ⟨S8x4096x1024, .f32⟩

abbrev hbmTy0_2 (i : Nat) : BufTy := match i % 128 with
  | 0 => ⟨S8x4x6x64, .f32⟩
  | 1 => ⟨S8x4x6x64, .f32⟩
  | 2 => ⟨S8x4x6x64x1, .f32⟩
  | 3 => ⟨S8x4x6x1x64, .f32⟩
  | 4 => ⟨S8x4x6x64x64, .f32⟩
  | 5 => ⟨S8x4x6x64x64, .f32⟩
  | 6 => ⟨S8x4x6x64x64, .f32⟩
  | 7 => ⟨S_, .i1⟩
  | 8 => ⟨S64x64, .i1⟩
  | 9 => ⟨S64x64, .i32⟩
  | 10 => ⟨S_, .i32⟩
  | 11 => ⟨S64x64, .i32⟩
  | 12 => ⟨S64x64, .i32⟩
  | 13 => ⟨S64x64, .i32⟩
  | 14 => ⟨S64x64, .i1⟩
  | 15 => ⟨S_, .i1⟩
  | 16 => ⟨S64x64, .i1⟩
  | 17 => ⟨S64x64, .i1⟩
  | 18 => ⟨S_, .f32⟩
  | 19 => ⟨S_, .f32⟩
  | 20 => ⟨S8x4x6x64x64, .i1⟩
  | 21 => ⟨S8x4x6x64x64, .f32⟩
  | 22 => ⟨S8x4x6x64x64, .f32⟩
  | 23 => ⟨S8x4x6x64x64, .f32⟩
  | 24 => ⟨S8x4x6x64x128x64, .f32⟩
  | 25 => ⟨S8x64x4x6x64x128, .f32⟩
  | 26 => ⟨S8x64x4x6x64, .f32⟩
  | 27 => ⟨S8x64x64x4x6, .f32⟩
  | 28 => ⟨S8x64x4x6x64x64, .f32⟩
  | 29 => ⟨S8x64x64x4x6x64, .f32⟩
  | 30 => ⟨S8x64x64x4x6x1, .f32⟩
  | 31 => ⟨S8x64x64x4x6x64, .f32⟩
  | 32 => ⟨S8x64x64x4x6x64, .f32⟩
  | 33 => ⟨S8x64x64x4x6x64, .f32⟩
  | 34 => ⟨S8x4096x24x64, .f32⟩
  | 35 => ⟨S24x1, .f32⟩
  | 36 => ⟨S1x1x24x1, .f32⟩
  | 37 => ⟨S8x4096x24x64, .f32⟩
  | 38 => ⟨S8x4096x24x64, .f32⟩
  | 39 => ⟨S8x4096x24x64, .f32⟩
  | 40 => ⟨S8x4096x1536, .f32⟩
  | 41 => ⟨S8x4096x1536, .f32⟩
  | 42 => ⟨S8x4096x1536, .f32⟩
  | 43 => ⟨S_, .f32⟩
  | 44 => ⟨S8x4096x1536, .f32⟩
  | 45 => ⟨S8x4096x1536, .f32⟩
  | 46 => ⟨S_, .f32⟩
  | 47 => ⟨S8x4096x1536, .f32⟩
  | 48 => ⟨S8x4096x1536, .f32⟩
  | 49 => ⟨S8x4096x1536, .f32⟩
  | 50 => ⟨S8x4096x1536, .f32⟩
  | 51 => ⟨S8x4096x4x384, .f32⟩
  | 52 => ⟨S8x4096x4x384, .f32⟩
  | 53 => ⟨S_, .f32⟩
  | 54 => ⟨S8x4096x4, .f32⟩
  | 55 => ⟨S8x4096x4x1, .f32⟩
  | 56 => ⟨S_, .f32⟩
  | 57 => ⟨S8x4096x4x1, .f32⟩
  | 58 => ⟨S8x4096x4x1, .f32⟩
  | 59 => ⟨S_, .f32⟩
  | 60 => ⟨S8x4096x4x1, .f32⟩
  | 61 => ⟨S8x4096x4x1, .f32⟩
  | 62 => ⟨S8x4096x4x1, .f32⟩
  | 63 => ⟨S8x4096x4x384, .f32⟩
  | 64 => ⟨S8x4096x4x384, .f32⟩
  | 65 => ⟨S8x4096x1536, .f32⟩
  | 66 => ⟨S1x1x1536, .f32⟩
  | 67 => ⟨S8x4096x1536, .f32⟩
  | 68 => ⟨S8x4096x1536, .f32⟩
  | 69 => ⟨S8x4096x2048, .f32⟩
  | 70 => ⟨S8x4096x1024, .f32⟩
  | 71 => ⟨S8x1x1024, .f32⟩
  | 72 => ⟨S8x4096x1024, .f32⟩
  | 73 => ⟨S8x4096x1024, .f32⟩
  | 74 => ⟨S8x4096x1024, .f32⟩
  | 75 => ⟨S32768x1024, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_call0_cst : Ref sig .tc := ⟨.hbm, 46, rfl⟩
abbrev main_call0_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_c_3 : Ref sig .tc := ⟨.hbm, 56, rfl⟩
abbrev main_v33 : Ref sig .tc := ⟨.hbm, 57, rfl⟩
abbrev main_v34 : Ref sig .tc := ⟨.hbm, 58, rfl⟩
abbrev main_c_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_5 : Ref sig .tc := ⟨.hbm, 69, rfl⟩
abbrev main_call2_v0 : Ref sig .tc := ⟨.hbm, 70, rfl⟩
abbrev main_v44 : Ref sig .tc := ⟨.hbm, 71, rfl⟩
abbrev main_v45 : Ref sig .tc := ⟨.hbm, 72, rfl⟩
abbrev main_c_6 : Ref sig .tc := ⟨.hbm, 73, rfl⟩
abbrev main_v46 : Ref sig .tc := ⟨.hbm, 74, rfl⟩
abbrev main_v47 : Ref sig .tc := ⟨.hbm, 75, rfl⟩
abbrev main_c_7 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_8 : Ref sig .tc := ⟨.hbm, 86, rfl⟩
abbrev main_call3_v0 : Ref sig .tc := ⟨.hbm, 87, rfl⟩
abbrev main_v57 : Ref sig .tc := ⟨.hbm, 88, rfl⟩
abbrev main_v58 : Ref sig .tc := ⟨.hbm, 89, rfl⟩
abbrev main_c_9 : Ref sig .tc := ⟨.hbm, 90, rfl⟩
abbrev main_v59 : Ref sig .tc := ⟨.hbm, 91, rfl⟩
abbrev main_v60 : Ref sig .tc := ⟨.hbm, 92, rfl⟩
abbrev main_c_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_11 : Ref sig .tc := ⟨.hbm, 103, rfl⟩
abbrev main_call4_v0 : Ref sig .tc := ⟨.hbm, 104, rfl⟩
abbrev main_v70 : Ref sig .tc := ⟨.hbm, 105, rfl⟩
abbrev main_v71 : Ref sig .tc := ⟨.hbm, 106, rfl⟩
abbrev main_c_12 : Ref sig .tc := ⟨.hbm, 107, rfl⟩
abbrev main_v72 : Ref sig .tc := ⟨.hbm, 108, rfl⟩
abbrev main_v73 : Ref sig .tc := ⟨.hbm, 109, rfl⟩
abbrev main_c_13 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_14 : Ref sig .tc := ⟨.hbm, 130, rfl⟩
abbrev main_call5_v0 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call6_v0 : Ref sig .tc := ⟨.hbm, 163, rfl⟩
abbrev main_call6_v1 : Ref sig .tc := ⟨.hbm, 164, rfl⟩
abbrev main_call6_cst : Ref sig .tc := ⟨.hbm, 165, rfl⟩
abbrev main_call6_v2 : Ref sig .tc := ⟨.hbm, 166, rfl⟩
abbrev main_call6_v3 : Ref sig .tc := ⟨.hbm, 167, rfl⟩
abbrev main_call6_cst_0 : Ref sig .tc := ⟨.hbm, 168, rfl⟩
abbrev main_call6_v4 : Ref sig .tc := ⟨.hbm, 169, rfl⟩
abbrev main_call6_v5 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_call7_cst : Ref sig .tc := ⟨.hbm, 181, rfl⟩
abbrev main_call7_v0 : Ref sig .tc := ⟨.hbm, 182, rfl⟩
abbrev main_call7_v1 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_v5 : Ref sig .tc := ⟨.hbm, 187, rfl⟩
abbrev main_call7_v6 : Ref sig .tc := ⟨.hbm, 188, rfl⟩
abbrev main_call7_v7 : Ref sig .tc := ⟨.hbm, 189, rfl⟩
abbrev main_call7_v8 : Ref sig .tc := ⟨.hbm, 190, rfl⟩
abbrev main_call7_v9 : Ref sig .tc := ⟨.hbm, 191, rfl⟩
abbrev main_call7_v10 : Ref sig .tc := ⟨.hbm, 192, rfl⟩
abbrev main_call7_v11 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_call8_call0_cst : Ref sig .tc := ⟨.hbm, 208, rfl⟩
abbrev main_call8_call0_v0 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_call9_call0_cst : Ref sig .tc := ⟨.hbm, 213, rfl⟩
abbrev main_call9_call0_v0 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_c_15 : Ref sig .tc := ⟨.hbm, 221, rfl⟩
abbrev main_v157 : Ref sig .tc := ⟨.hbm, 222, rfl⟩
abbrev main_call10_v0 : Ref sig .tc := ⟨.hbm, 223, rfl⟩
abbrev main_call10_c : Ref sig .tc := ⟨.hbm, 224, rfl⟩
abbrev main_call10_v1 : Ref sig .tc := ⟨.hbm, 225, rfl⟩
abbrev main_call10_v2 : Ref sig .tc := ⟨.hbm, 226, rfl⟩
abbrev main_call10_v3 : Ref sig .tc := ⟨.hbm, 227, rfl⟩
abbrev main_call10_v4 : Ref sig .tc := ⟨.hbm, 228, rfl⟩
abbrev main_call10_c_0 : Ref sig .tc := ⟨.hbm, 229, rfl⟩
abbrev main_call10_v5 : Ref sig .tc := ⟨.hbm, 230, rfl⟩
abbrev main_v158 : Ref sig .tc := ⟨.hbm, 231, rfl⟩
abbrev main_cst_16 : Ref sig .tc := ⟨.hbm, 232, rfl⟩
abbrev main_call11_v0 : Ref sig .tc := ⟨.hbm, 233, rfl⟩
abbrev main_call11_v1 : Ref sig .tc := ⟨.hbm, 234, rfl⟩
abbrev main_call11_v2 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_call12_call0_cst : Ref sig .tc := ⟨.hbm, 254, rfl⟩
abbrev main_call12_call0_v0 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_c_17 : Ref sig .tc := ⟨.hbm, 263, rfl⟩
abbrev main_v184 : Ref sig .tc := ⟨.hbm, 264, rfl⟩
abbrev main_call13_v0 : Ref sig .tc := ⟨.hbm, 265, rfl⟩
abbrev main_call13_c : Ref sig .tc := ⟨.hbm, 266, rfl⟩
abbrev main_call13_v1 : Ref sig .tc := ⟨.hbm, 267, rfl⟩
abbrev main_call13_v2 : Ref sig .tc := ⟨.hbm, 268, rfl⟩
abbrev main_call13_v3 : Ref sig .tc := ⟨.hbm, 269, rfl⟩
abbrev main_call13_v4 : Ref sig .tc := ⟨.hbm, 270, rfl⟩
abbrev main_call13_c_0 : Ref sig .tc := ⟨.hbm, 271, rfl⟩
abbrev main_call13_v5 : Ref sig .tc := ⟨.hbm, 272, rfl⟩
abbrev main_v185 : Ref sig .tc := ⟨.hbm, 273, rfl⟩
abbrev main_cst_18 : Ref sig .tc := ⟨.hbm, 274, rfl⟩
abbrev main_call14_v0 : Ref sig .tc := ⟨.hbm, 275, rfl⟩
abbrev main_call14_v1 : Ref sig .tc := ⟨.hbm, 276, rfl⟩
abbrev main_call14_v2 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_call15_v0 : Ref sig .tc := ⟨.hbm, 297, rfl⟩
abbrev main_call15_v1 : Ref sig .tc := ⟨.hbm, 298, rfl⟩
abbrev main_call15_cst : Ref sig .tc := ⟨.hbm, 299, rfl⟩
abbrev main_call15_v2 : Ref sig .tc := ⟨.hbm, 300, rfl⟩
abbrev main_call15_v3 : Ref sig .tc := ⟨.hbm, 301, rfl⟩
abbrev main_call15_cst_0 : Ref sig .tc := ⟨.hbm, 302, rfl⟩
abbrev main_call15_v4 : Ref sig .tc := ⟨.hbm, 303, rfl⟩
abbrev main_call15_v5 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_cst_19 : Ref sig .tc := ⟨.hbm, 309, rfl⟩
abbrev main_v209 : Ref sig .tc := ⟨.hbm, 310, rfl⟩
abbrev main_v210 : Ref sig .tc := ⟨.hbm, 311, rfl⟩
abbrev main_cst_20 : Ref sig .tc := ⟨.hbm, 312, rfl⟩
abbrev main_v211 : Ref sig .tc := ⟨.hbm, 313, rfl⟩
abbrev main_v212 : Ref sig .tc := ⟨.hbm, 314, rfl⟩
abbrev main_cst_21 : Ref sig .tc := ⟨.hbm, 315, rfl⟩
abbrev main_v213 : Ref sig .tc := ⟨.hbm, 316, rfl⟩
abbrev main_v214 : Ref sig .tc := ⟨.hbm, 317, rfl⟩
abbrev main_v215 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩

abbrev nD : Nat := 1
abbrev τ : Topo := Topo.v7x

variable {F : FTy → Type} [FloatOps F]
-- ==== Ffn.lean ====
abbrev S8x4096x1024 : Shape := ⟨3, ![8, 4096, 1024]⟩
abbrev S8x1024 : Shape := ⟨2, ![8, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S8x1x1024 : Shape := ⟨3, ![8, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 17
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S32768x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S8x4096x1024 : Shape := ⟨3, ![8, 4096, 1024]⟩
abbrev S8x1024 : Shape := ⟨2, ![8, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x5632, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S_, .f32⟩
  | .hbm, ⟨43, _⟩ => ⟨S8x4096x2816, .f32⟩
  | .hbm, ⟨44, _⟩ => ⟨S8x4096x2816, .f32⟩
  | .hbm, ⟨45, _⟩ => ⟨S_, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S_, .f32⟩
  | .hbm, ⟨62, _⟩ => ⟨S8x4096x1, .f32⟩
  | .hbm, ⟨63, _⟩ => ⟨S8x4096x1, .f32⟩
  | .hbm, ⟨64, _⟩ => ⟨S8x4096x1, .f32⟩
  | .hbm, ⟨65, _⟩ => ⟨S8x4096x1024, .f32⟩
  | .hbm, ⟨66, _⟩ => ⟨S8x4096x1024, .f32⟩
  | .hbm, ⟨67, _⟩ => ⟨S1x1x1024, .f32⟩
  | .hbm, ⟨68, _⟩ => ⟨S8x4096x1024, .f32⟩
  | .hbm, ⟨69, _⟩ => ⟨S8x4096x1024, .f32⟩
  | .hbm, ⟨70, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== First.lean ====
abbrev S8x4096x1024 : Shape := ⟨3, ![8, 4096, 1024]⟩
abbrev S8x1024 : Shape := ⟨2, ![8, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S8x1x1024 : Shape := ⟨3, ![8, 1, 1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩

abbrev nBuf : Space → Nat
  | .hbm => 17
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S32768x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FirstRefIdeal.lean ====
abbrev S8x4096x1024 : Shape := ⟨3, ![8, 4096, 1024]⟩
abbrev S8x1024 : Shape := ⟨2, ![8, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x1x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x5632, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S8x4096x2816, .f32⟩
  | .hbm, ⟨42, _⟩ => ⟨S_, .f32⟩
  | .hbm, ⟨43, _⟩ => ⟨S8x4096x2816, .f32⟩
  | .hbm, ⟨44, _⟩ => ⟨S8x4096x2816, .f32⟩
  | .hbm, ⟨45, _⟩ => ⟨S_, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x2816, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Adaln.lean ====
abbrev S8x1024 : Shape := ⟨2, ![8, 1024]⟩
abbrev S1024x9216 : Shape := ⟨2, ![1024, 9216]⟩
abbrev S9216 : Shape := ⟨1, ![9216]⟩
abbrev S1x9216 : Shape := ⟨2, ![1, 9216]⟩
abbrev S8x9216 : Shape := ⟨2, ![8, 9216]⟩
abbrev S1024x2304 : Shape := ⟨2, ![1024, 2304]⟩
abbrev S1x2304 : Shape := ⟨2, ![1, 2304]⟩
abbrev S8x2304 : Shape := ⟨2, ![8, 2304]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S1x9216, .f32⟩
  | .hbm, ⟨4, _⟩ => ⟨S8x9216, .f32⟩
  | .local _ .vmem, ⟨0, _⟩ => ⟨S8x1024, .f32⟩
  | .local _ .vmem, ⟨1, _⟩ => ⟨S1024x2304, .f32⟩
  | .local _ .vmem, ⟨2, _⟩ => ⟨S1024x2304, .f32⟩
  | .local _ .vmem, ⟨3, _⟩ => ⟨S1x2304, .f32⟩
  | .local _ .vmem, ⟨4, _⟩ => ⟨S1x2304, .f32⟩
  | .local _ .vmem, ⟨5, _⟩ => ⟨S8x2304, .f32⟩
  | .local _ .vmem, ⟨6, _⟩ => ⟨S8x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdalnRefIdeal.lean ====
abbrev S8x1024 : Shape := ⟨2, ![8, 1024]⟩
abbrev S1024x9216 : Shape := ⟨2, ![1024, 9216]⟩
abbrev S9216 : Shape := ⟨1, ![9216]⟩
abbrev S_ : Shape := ⟨0, ![]⟩
abbrev S8x9216 : Shape := ⟨2, ![8, 9216]⟩
abbrev S1x9216 : Shape := ⟨2, ![1, 9216]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x9216, .f32⟩
  | .hbm, ⟨13, _⟩ => ⟨S1x9216, .f32⟩
  | .hbm, ⟨14, _⟩ => ⟨S8x9216, .f32⟩
  | .hbm, ⟨15, _⟩ => ⟨S8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Rows.lean ====
/-
  The layer's row arithmetic over the extended reals, with no program in sight (untrusted): the RMS norm of a row, the
  modulated norm, the gated feed-forward network with its residual — and the two facts the comparison needs: the activation
  `a * sigmoid a` is `a/2 + a/2 * tanh (a/2)` at real numbers, and a row divided by its root mean square is real whatever
  the row is.
-/
module

public import Idealize.ShloMosaic.PureOps.Ideal.Laws
public import Idealize.ShloMosaic.Lib.IdealHost

@[expose] public section

noncomputable section

namespace Cert.Layer

open Idealize.ShloMosaic
open scoped BigOperators

/-- The norm's small constant. -/
def eps : EReal := Ideal.ofBits .f32 0x3727C5AC#32
/-- One half. -/
def half : EReal := Ideal.ofBits .f32 0x3F000000#32
/-- The row length 1024. -/
def width : EReal := Ideal.ofBits .f32 0x44800000#32

/-- The reciprocal root mean square of a row. -/
def rinv (x : Fin 1024 → EReal) : EReal := Ideal.rsqrt (Ideal.div (∑ k, x k * x k) width + eps)

/-- A row normed, scaled and shifted. -/
def hid (x g sc sh : Fin 1024 → EReal) (j : Fin 1024) : EReal := x j * rinv x * (g j * (1 + sc j)) + sh j

/-- The activation, by the hyperbolic tangent. -/
def act (a : EReal) : EReal := half * a + half * a * Ideal.tanh (half * a)

/-- Column `f` of the left half of the first weight matrix, and of the right half. -/
abbrev lft (f : Fin 2816) : Fin 5632 := ⟨f.val, by omega⟩
abbrev rgt (f : Fin 2816) : Fin 5632 := ⟨2816 + f.val, by omega⟩

/-- A row of the gated network's residual sum, from the normed row `h`. -/
def ffn (x h gate : Fin 1024 → EReal) (w : Fin 1024 → Fin 5632 → EReal) (wo : Fin 2816 → Fin 1024 → EReal) (j : Fin 1024) : EReal :=
  x j + half * gate j * ∑ f, act (∑ k, h k * w k (lft f)) * (∑ k, h k * w k (rgt f)) * wo f j

/-- A row normed and scaled. -/
def rms (y g : Fin 1024 → EReal) (j : Fin 1024) : EReal := y j * rinv y * g j

/-! ## Real numbers among the extended reals -/

/-- Neither infinity. -/
def Fin' (a : EReal) : Prop := ∃ r : ℝ, a = (r : EReal)

theorem Fin'.of_ne {a : EReal} (hb : a ≠ ⊥) (ht : a ≠ ⊤) : Fin' a := ⟨a.toReal, (EReal.coe_toReal ht hb).symm⟩
theorem Fin'.add {a b : EReal} : Fin' a → Fin' b → Fin' (a + b) := by
  rintro ⟨r, rfl⟩ ⟨s, rfl⟩; exact ⟨r + s, (EReal.coe_add r s).symm⟩
theorem Fin'.mul {a b : EReal} : Fin' a → Fin' b → Fin' (a * b) := by
  rintro ⟨r, rfl⟩ ⟨s, rfl⟩; exact ⟨r * s, (EReal.coe_mul r s).symm⟩
theorem Fin'.one : Fin' 1 := ⟨1, rfl⟩
theorem Fin'.zero : Fin' 0 := ⟨0, rfl⟩
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

theorem width_eq : width = ((1024 : ℝ) : EReal) := by
  unfold width; simp [Ideal.ofBits, Ideal.ieee, -EReal.coe_mul]; norm_num
theorem half_eq : half = ((1 / 2 : ℝ) : EReal) := by
  unfold half; simp [Ideal.ofBits, Ideal.ieee, -EReal.coe_mul]; norm_num
theorem eps_eq : ∃ e : ℝ, 0 < e ∧ eps = (e : EReal) := by
  unfold eps; simp [Ideal.ofBits, Ideal.ieee, -EReal.coe_mul]

theorem sq_nonneg' (a : EReal) : 0 ≤ a * a := by
  induction a with
  | bot => rw [EReal.bot_mul_bot]; exact le_top
  | top => rw [EReal.top_mul_top]; exact le_top
  | coe r => rw [← EReal.coe_mul]; exact EReal.coe_nonneg.mpr (mul_self_nonneg r)

/-- A row over its root mean square is real at every place, infinities in the row or not: if the sum of squares is
    infinite the factor is zero. -/
theorem mul_rinv_real (x : Fin 1024 → EReal) (j : Fin 1024) : Fin' (x j * rinv x) := by
  obtain ⟨e, he, hee⟩ := eps_eq
  unfold rinv
  rw [width_eq, hee, Ideal.div_coe (by norm_num)]
  by_cases hS : (∑ k, x k * x k) = ⊤
  · rw [hS, EReal.top_mul_coe_of_pos (by norm_num), EReal.top_add_coe, Ideal.rsqrt_top, mul_zero]
    exact Fin'.zero
  · have hx : ∀ k, Fin' (x k) := fun k => by
      have hle : x k * x k ≤ ∑ k, x k * x k :=
        Finset.single_le_sum (f := fun k => x k * x k) (fun i _ => sq_nonneg' (x i)) (Finset.mem_univ k)
      refine Fin'.of_ne (fun hb => hS (top_le_iff.mp ?_)) (fun ht => hS (top_le_iff.mp ?_))
      · rw [hb, EReal.bot_mul_bot] at hle; exact hle
      · rw [ht, EReal.top_mul_top] at hle; exact hle
    obtain ⟨s, hs⟩ : Fin' (∑ k, x k * x k) := Fin'.sum _ _ fun k _ => (hx k).mul (hx k)
    have hs0 : 0 ≤ s := by
      have h0 : (0 : EReal) ≤ ∑ k, x k * x k := Finset.sum_nonneg fun k _ => sq_nonneg' (x k)
      rw [hs] at h0; exact EReal.coe_nonneg.mp h0
    have hpos : 0 < s * (1 / 1024) + e := by positivity
    rw [hs, ← EReal.coe_mul, ← EReal.coe_add, Ideal.rsqrt_coe, if_neg (not_lt.mpr hpos.le), if_neg hpos.ne']
    exact (hx j).mul ⟨_, rfl⟩

theorem hid_real (x g sc sh : Fin 1024 → EReal) (hg : ∀ k, Fin' (g k)) (hsc : ∀ k, Fin' (sc k)) (hsh : ∀ k, Fin' (sh k)) (j : Fin 1024) :
    Fin' (hid x g sc sh j) :=
  ((mul_rinv_real x j).mul ((hg j).mul (Fin'.one.add (hsc j)))).add (hsh j)

/-- The two forms of the activation agree at real numbers. -/
theorem act_eq {a : EReal} (ha : Fin' a) : act a = a * Ideal.div 1 (1 + Ideal.exp (-a)) := by
  obtain ⟨r, rfl⟩ := ha
  show _ = (r : EReal) * Ideal.logistic r
  unfold act
  rw [half_eq, Ideal.logistic_coe, ← EReal.coe_mul, Ideal.tanh_coe, ← EReal.coe_mul, ← EReal.coe_mul, ← EReal.coe_add]
  congr 1
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [Real.tanh_eq_sinh_div_cosh, Real.sinh_eq, Real.cosh_eq, h1]
  have hp := Real.exp_pos (1 / 2 * r)
  have hm := Real.exp_pos (-(1 / 2 * r))
  generalize Real.exp (1 / 2 * r) = p at *
  generalize Real.exp (-(1 / 2 * r)) = q at *
  have : p = 1 / q := by field_simp; linarith
  subst this
  field_simp
  ring

end Cert.Layer
-- ==== Proof.MixMath.lean ====
/-
  The token mixer's arithmetic over the extended reals, with no program in sight (untrusted): sums over trailing windows and
  how doubling builds them, the step size's softplus, a factor `log d` inside an exponent, the convolution's two forms.
-/
module

public import proofs.«01_k».proof.Proof.Rows

@[expose] public section

noncomputable section

namespace Cert.Layer

open Idealize.ShloMosaic
open scoped BigOperators

/-- The sum of the `n` values that end at place `r`. -/
def back (f : ℕ → EReal) (r n : ℕ) : EReal := ∑ j ∈ Finset.range n, f (r - j)

theorem back_one (f : ℕ → EReal) (r : ℕ) : back f r 1 = f r := by simp [back]

theorem back_add (f : ℕ → EReal) (r m n : ℕ) : back f r m + back f (r - m) n = back f r (m + n) := by
  unfold back
  rw [Finset.sum_range_add]
  congr 1
  exact Finset.sum_congr rfl fun j _ => by rw [Nat.sub_sub]

/-- One doubling step of the running sum inside chunks of 64. -/
theorem back_step (f : ℕ → EReal) (r s : ℕ) :
    back f r (min s (r % 64 + 1)) + (if s ≤ r % 64 then back f (r - s) (min s ((r - s) % 64 + 1)) else 0)
      = back f r (min (s + s) (r % 64 + 1)) := by
  by_cases h : s ≤ r % 64
  · rw [if_pos h, show min s (r % 64 + 1) = s by omega, back_add]
    congr 1
    have : (r - s) % 64 = r % 64 - s := by omega
    omega
  · rw [if_neg h, add_zero]
    congr 1
    omega

/-- A head's column of zeros and ones adds up the head's three lanes. -/
theorem pick_three (f : Fin 128 → EReal) (h : ℕ) (hh : h < 24) :
    ∑ k : Fin 128, f k * (if k.val % 32 = h ∧ k.val < 96 then (1 : EReal) else 0) = f ⟨h, by omega⟩ + f ⟨h + 32, by omega⟩ + f ⟨h + 64, by omega⟩ := by
  have e : ∀ k : Fin 128, f k * (if k.val % 32 = h ∧ k.val < 96 then (1 : EReal) else 0)
      = (if k = ⟨h, by omega⟩ then f k else 0) + (if k = ⟨h + 32, by omega⟩ then f k else 0) + (if k = ⟨h + 64, by omega⟩ then f k else 0) := fun k => by
    simp only [Fin.ext_iff]
    by_cases h1 : k.val = h
    · rw [if_pos (by omega : k.val % 32 = h ∧ k.val < 96), if_pos h1, if_neg (by omega : ¬ k.val = h + 32), if_neg (by omega : ¬ k.val = h + 64), mul_one, add_zero, add_zero]
    · by_cases h2 : k.val = h + 32
      · rw [if_pos (by omega : k.val % 32 = h ∧ k.val < 96), if_neg h1, if_pos h2, if_neg (by omega : ¬ k.val = h + 64), mul_one, add_zero, zero_add]
      · by_cases h3 : k.val = h + 64
        · rw [if_pos (by omega : k.val % 32 = h ∧ k.val < 96), if_neg h1, if_neg h2, if_pos h3, mul_one, add_zero, zero_add]
        · rw [if_neg (by omega : ¬ (k.val % 32 = h ∧ k.val < 96)), if_neg h1, if_neg h2, if_neg h3, mul_zero, add_zero, add_zero]
  rw [Finset.sum_congr rfl fun k _ => e k, Finset.sum_add_distrib, Finset.sum_add_distrib]
  simp only [Finset.sum_ite_eq', Finset.mem_univ, if_true]

theorem sub_self_real {a : EReal} (h : Fin' a) : a - a = 0 := by
  obtain ⟨r, rfl⟩ := h
  rw [← EReal.coe_sub, sub_self, EReal.coe_zero]

theorem Fin'.sub {a b : EReal} : Fin' a → Fin' b → Fin' (a - b) := by
  rintro ⟨r, rfl⟩ ⟨s, rfl⟩; exact ⟨r - s, (EReal.coe_sub r s).symm⟩
theorem Fin'.neg {a : EReal} : Fin' a → Fin' (-a) := by
  rintro ⟨r, rfl⟩; exact ⟨-r, (EReal.coe_neg r).symm⟩
theorem Fin'.exp {a : EReal} : Fin' a → Fin' (Ideal.exp a) := by
  rintro ⟨r, rfl⟩; exact ⟨Real.exp r, rfl⟩
theorem Fin'.half : Fin' half := ⟨_, half_eq⟩
theorem Fin'.back {f : ℕ → EReal} (h : ∀ k, Fin' (f k)) (r n : ℕ) : Fin' (back f r n) := Fin'.sum _ _ fun _ _ => h _

/-- Real or minus infinity. -/
def Bt (a : EReal) : Prop := Fin' a ∨ a = ⊥

theorem Bt.add {a b : EReal} : Bt a → Bt b → Bt (a + b) := by
  rintro (ha | rfl) (hb | rfl)
  · exact Or.inl (ha.add hb)
  · exact Or.inr (EReal.add_bot _)
  · exact Or.inr (EReal.bot_add _)
  · exact Or.inr (EReal.bot_add _)
theorem Bt.sub {a b : EReal} : Bt a → Fin' b → Bt (a - b) := by
  rintro (ha | rfl) hb
  · exact Or.inl (ha.sub hb)
  · exact Or.inr (EReal.bot_sub _)
theorem Bt.back {f : ℕ → EReal} (h : ∀ k, Bt (f k)) (r n : ℕ) : Bt (back f r n) := by
  unfold Cert.Layer.back
  induction n with
  | zero => rw [Finset.sum_range_zero]; exact Or.inl Fin'.zero
  | succ n ih => rw [Finset.sum_range_succ]; exact ih.add (h _)

/-- Softplus. -/
def sp (x : EReal) : EReal := max x 0 + Ideal.log (1 + Ideal.exp (-(max x (-x))))

theorem sp_pos {x : EReal} (h : Fin' x) : ∃ d : ℝ, 0 < d ∧ sp x = (d : EReal) := by
  obtain ⟨r, rfl⟩ := h
  have e1 : max (r : EReal) 0 = ((max r 0 : ℝ) : EReal) := by
    rw [← EReal.coe_zero]; exact (EReal.coe_strictMono.monotone.map_max (a := r) (b := 0)).symm
  have e2 : max (r : EReal) (-(r : EReal)) = ((max r (-r) : ℝ) : EReal) := by
    rw [← EReal.coe_neg]; exact (EReal.coe_strictMono.monotone.map_max (a := r) (b := -r)).symm
  have e3 : Ideal.log (1 + Ideal.exp (-((max r (-r) : ℝ) : EReal))) = ((Real.log (1 + Real.exp (-(max r (-r)))) : ℝ) : EReal) := by
    have hp := Real.exp_pos (-(max r (-r)))
    show Ideal.log (((1 : ℝ) : EReal) + ((Real.exp (-(max r (-r))) : ℝ) : EReal)) = _
    rw [← EReal.coe_add]
    show (if 1 + Real.exp (-(max r (-r))) ≤ 0 then ⊥ else ((Real.log (1 + Real.exp (-(max r (-r)))) : ℝ) : EReal)) = _
    rw [if_neg (by linarith)]
  refine ⟨max r 0 + Real.log (1 + Real.exp (-(max r (-r)))), ?_, ?_⟩
  · have hp := Real.exp_pos (-(max r (-r)))
    have hl : 0 < Real.log (1 + Real.exp (-(max r (-r)))) := Real.log_pos (by linarith)
    have := le_max_right r 0
    linarith
  · unfold sp
    rw [e1, e2, e3, EReal.coe_add]

theorem sp_real {x : EReal} (h : Fin' x) : Fin' (sp x) := by obtain ⟨d, _, e⟩ := sp_pos h; exact ⟨d, e⟩

theorem log_sp_real {x : EReal} (h : Fin' x) : Fin' (Ideal.log (sp x)) := by
  obtain ⟨d, hd, e⟩ := sp_pos h
  rw [e]
  refine ⟨Real.log d, ?_⟩
  show (if d ≤ 0 then ⊥ else ((Real.log d : ℝ) : EReal)) = _
  rw [if_neg (by linarith)]

/-- A head's log-decay rate is real, or every log-decay of the head is minus infinity. -/
theorem decay_cases (a : EReal) : Fin' (-(Ideal.exp a)) ∨ ∀ x : EReal, Fin' x → sp x * -(Ideal.exp a) = ⊥ := by
  induction a using EReal.rec with
  | bot => exact Or.inl (Fin'.neg ⟨0, rfl⟩)
  | coe r => exact Or.inl (Fin'.neg (Fin'.exp ⟨r, rfl⟩))
  | top =>
    refine Or.inr fun x hx => ?_
    obtain ⟨d, hd, e⟩ := sp_pos hx
    have e1 : -(Ideal.exp (⊤ : EReal)) = ⊥ := by show -(⊤ : EReal) = ⊥; exact EReal.neg_top
    rw [e, e1]
    exact EReal.coe_mul_bot_of_pos hd

/-- The step size taken into the exponent as its logarithm comes out as a factor. -/
theorem exp_sub_log {a b x : EReal} (ha : Fin' a) (hb : Fin' b) (hx : Fin' x) :
    Ideal.exp (a - (b - Ideal.log (sp x))) = Ideal.exp (a - b) * sp x := by
  obtain ⟨d, hd, e⟩ := sp_pos hx
  obtain ⟨r, rfl⟩ := ha
  obtain ⟨s, rfl⟩ := hb
  rw [e]
  have hl : Ideal.log (d : EReal) = ((Real.log d : ℝ) : EReal) := by
    show (if d ≤ 0 then ⊥ else ((Real.log d : ℝ) : EReal)) = _
    rw [if_neg (by linarith)]
  rw [hl, ← EReal.coe_sub, ← EReal.coe_sub, ← EReal.coe_sub]
  show ((Real.exp (r - (s - Real.log d)) : ℝ) : EReal) = ((Real.exp (r - s) : ℝ) : EReal) * (d : EReal)
  rw [← EReal.coe_mul]
  congr 1
  rw [show r - (s - Real.log d) = r - s + Real.log d by ring, Real.exp_add, Real.exp_log hd]

theorem exp_add_real {a b : EReal} (ha : Fin' a) (hb : Fin' b) : Ideal.exp (a + b) = Ideal.exp a * Ideal.exp b := by
  obtain ⟨r, rfl⟩ := ha
  obtain ⟨s, rfl⟩ := hb
  rw [← EReal.coe_add]
  show ((Real.exp (r + s) : ℝ) : EReal) = ((Real.exp r : ℝ) : EReal) * ((Real.exp s : ℝ) : EReal)
  rw [← EReal.coe_mul, Real.exp_add]

/-- A real factor goes into a sum of reals. -/
theorem mul_sum_real {ι : Type*} (s : Finset ι) (f : ι → EReal) {c : EReal} (hc : Fin' c) (h : ∀ i ∈ s, Fin' (f i)) :
    c * ∑ i ∈ s, f i = ∑ i ∈ s, c * f i := by
  classical
  induction s using Finset.induction_on with
  | empty => simp
  | insert a s ha ih =>
    rw [Finset.sum_insert ha, Finset.sum_insert ha, ← ih fun i hi => h i (Finset.mem_insert_of_mem hi)]
    obtain ⟨x, hx⟩ := h a (Finset.mem_insert_self a s)
    obtain ⟨y, hy⟩ := Fin'.sum s f fun i hi => h i (Finset.mem_insert_of_mem hi)
    obtain ⟨r, rfl⟩ := hc
    rw [hx, hy, ← EReal.coe_add, ← EReal.coe_mul, ← EReal.coe_mul, ← EReal.coe_mul, ← EReal.coe_add, mul_add]

/-- The causal convolution at one place, from the place's own value `x3` and the three before it. -/
def conv (w0 w1 w2 w3 b x0 x1 x2 x3 : EReal) : EReal := x0 * w0 + x1 * w1 + x2 * w2 + x3 * w3 + b

/-- The activation in the reference's form. -/
def silu (a : EReal) : EReal := a * Ideal.div 1 (1 + Ideal.exp (-a))

theorem conv_real {w0 w1 w2 w3 b x0 x1 x2 x3 : EReal} (h0 : Fin' w0) (h1 : Fin' w1) (h2 : Fin' w2) (h3 : Fin' w3) (hb : Fin' b)
    (g0 : Fin' x0) (g1 : Fin' x1) (g2 : Fin' x2) (g3 : Fin' x3) : Fin' (conv w0 w1 w2 w3 b x0 x1 x2 x3) :=
  (((g0.mul h0).add (g1.mul h1)).add (g2.mul h2)).add (g3.mul h3) |>.add hb

theorem silu_real {a : EReal} (h : Fin' a) : Fin' (silu a) := by
  obtain ⟨r, rfl⟩ := h
  refine Fin'.mul ⟨r, rfl⟩ ?_
  show Fin' (Ideal.logistic r)
  rw [Ideal.logistic_coe]
  exact ⟨_, rfl⟩

/-- The kernel halves the weights and the bias and adds in its own order. -/
theorem conv_half {w0 w1 w2 w3 b x0 x1 x2 x3 : EReal} (h0 : Fin' w0) (h1 : Fin' w1) (h2 : Fin' w2) (h3 : Fin' w3) (hb : Fin' b)
    (g0 : Fin' x0) (g1 : Fin' x1) (g2 : Fin' x2) (g3 : Fin' x3) :
    half * w3 * x3 + half * w1 * x1 + (half * w2 * x2 + half * w0 * x0) + half * b = half * conv w0 w1 w2 w3 b x0 x1 x2 x3 := by
  obtain ⟨w0, rfl⟩ := h0; obtain ⟨w1, rfl⟩ := h1; obtain ⟨w2, rfl⟩ := h2; obtain ⟨w3, rfl⟩ := h3; obtain ⟨b, rfl⟩ := hb
  obtain ⟨x0, rfl⟩ := g0; obtain ⟨x1, rfl⟩ := g1; obtain ⟨x2, rfl⟩ := g2; obtain ⟨x3, rfl⟩ := g3
  unfold conv
  rw [half_eq]
  simp only [← EReal.coe_mul, ← EReal.coe_add]
  congr 1
  ring

theorem silu_half {w0 w1 w2 w3 b x0 x1 x2 x3 : EReal} (h0 : Fin' w0) (h1 : Fin' w1) (h2 : Fin' w2) (h3 : Fin' w3) (hb : Fin' b)
    (g0 : Fin' x0) (g1 : Fin' x1) (g2 : Fin' x2) (g3 : Fin' x3) (v : EReal)
    (hv : v = half * w3 * x3 + half * w1 * x1 + (half * w2 * x2 + half * w0 * x0) + half * b) :
    v + v * Ideal.tanh v = silu (conv w0 w1 w2 w3 b x0 x1 x2 x3) := by
  rw [hv, conv_half h0 h1 h2 h3 hb g0 g1 g2 g3]
  exact act_eq (conv_real h0 h1 h2 h3 hb g0 g1 g2 g3)

/-- The difference of two running sums is the sum of the window between them. -/
theorem prefix_sub (f : ℕ → EReal) (hf : ∀ k, Fin' (f k)) (t w : ℕ) :
    (∑ k ∈ Finset.range (t + 1), f k) - (if w ≤ t then ∑ k ∈ Finset.range (t - w + 1), f k else 0) = back f t (min w (t + 1)) := by
  have hb : ∀ n, n ≤ t + 1 → ∑ k ∈ Finset.range (t + 1), f k = (∑ k ∈ Finset.range (t + 1 - n), f k) + back f t n := by
    intro n hn
    have h2 : back f t n = ∑ k ∈ Finset.range n, f (t + 1 - n + k) := by
      unfold back
      rw [← Finset.sum_range_reflect (fun k => f (t + 1 - n + k))]
      refine Finset.sum_congr rfl fun j hj => ?_
      rw [Finset.mem_range] at hj
      congr 1
      omega
    rw [h2, ← Finset.sum_range_add]
    congr 2
    omega
  by_cases h : w ≤ t
  · rw [if_pos h, hb w (by omega), show min w (t + 1) = w by omega, show t - w + 1 = t + 1 - w by omega]
    obtain ⟨x, hx⟩ : Fin' (∑ k ∈ Finset.range (t + 1 - w), f k) := Fin'.sum _ _ fun _ _ => hf _
    obtain ⟨y, hy⟩ := Fin'.back hf t w
    rw [hx, hy, ← EReal.coe_add, ← EReal.coe_sub]
    congr 1
    ring
  · rw [if_neg h, show min w (t + 1) = t + 1 by omega, hb (t + 1) le_rfl]
    simp

/-! ## The carried state -/

/-- The state that enters chunk `c`: what each chunk adds, decayed by the chunks after it. -/
def carry (S e : ℕ → EReal) : ℕ → EReal
  | 0 => 0
  | c + 1 => carry S e c * Ideal.exp (e c) + S c

theorem carry_real {S e : ℕ → EReal} (hS : ∀ c, Fin' (S c)) (he : ∀ c, Fin' (e c)) : ∀ c, Fin' (carry S e c)
  | 0 => Fin'.zero
  | c + 1 => ((carry_real hS he c).mul (he c).exp).add (hS c)

/-- The carried state as the sum it unrolls to. -/
theorem carry_eq {S e : ℕ → EReal} (hS : ∀ c, Fin' (S c)) (he : ∀ c, Fin' (e c)) (c : ℕ) :
    carry S e c = ∑ z ∈ Finset.range c, Ideal.exp ((∑ k ∈ Finset.range (c + 1), e k) - e c - ∑ k ∈ Finset.range (z + 1), e k) * S z := by
  have hs : ∀ n, Fin' (∑ k ∈ Finset.range n, e k) := fun n => Fin'.sum _ _ fun _ _ => he _
  have hsub : ∀ n, (∑ k ∈ Finset.range (n + 1), e k) - e n = ∑ k ∈ Finset.range n, e k := fun n => by
    obtain ⟨x, hx⟩ := hs n
    obtain ⟨y, hy⟩ := he n
    rw [Finset.sum_range_succ, hx, hy, ← EReal.coe_add, ← EReal.coe_sub]
    congr 1
    ring
  induction c with
  | zero => simp [carry]
  | succ c ih =>
    show carry S e c * Ideal.exp (e c) + S c = _
    rw [hsub, Finset.sum_range_succ (fun z => Ideal.exp ((∑ k ∈ Finset.range (c + 1), e k) - ∑ k ∈ Finset.range (z + 1), e k) * S z)]
    rw [sub_self_real (hs _), show Ideal.exp 0 = 1 by show ((Real.exp 0 : ℝ) : EReal) = 1; rw [Real.exp_zero]; rfl, one_mul]
    congr 1
    rw [ih, mul_comm, mul_sum_real _ _ (he c).exp fun z _ => (((hs _).sub (he c)).sub (hs _)).exp.mul (hS z)]
    refine Finset.sum_congr rfl fun z _ => ?_
    rw [← mul_assoc, ← exp_add_real (he c) (((hs _).sub (he c)).sub (hs _)), hsub]
    congr 2
    obtain ⟨x, hx⟩ := hs c
    obtain ⟨y, hy⟩ := he c
    obtain ⟨w, hw⟩ := hs (z + 1)
    rw [Finset.sum_range_succ (fun k => e k) c, hx, hy, hw, ← EReal.coe_sub, ← EReal.coe_add, ← EReal.coe_add, ← EReal.coe_sub]
    congr 1
    ring

end Cert.Layer
-- ==== Proof.MixTile.lean ====
/-
  The mixer call's blocks read at an index (untrusted): the projection, the convolution, the pooling mixer.
-/
module

public import proofs.«01_k».proof.Proof.Gen.MixerIdeal.Skeleton
public import proofs.«01_k».proof.Proof.MixMath
public import Idealize.ShloMosaic.Lib.ValueIdx
public import Idealize.ShloMosaic.Lib.Tactic
public import Idealize.ShloMosaic.Lib.Pointwise
public import Idealize.ShloMosaic.Lib.Claim
@[expose] public section
set_option maxRecDepth 16384
noncomputable section
namespace Cert.MixerIdeal.Value
open Cert.MixerIdeal Cert.MixerIdeal.Gen Idealize.ShloMosaic Idealize.ShloMosaic.TcCoe Idealize.SL.Sem
open Cert.Layer

theorem sel {p : Prop} [Decidable p] {α : Type} (a b : α) : Scalar.select (if p then 1#1 else 0#1) a b = if p then a else b := by
  by_cases h : p
  · rw [if_pos h, if_pos h]; rfl
  · rw [if_neg h, if_neg h]; rfl

/-! ## The projection -/

theorem hid_at (x : Vec Ideal S256x1024 .f32) (g : Vec Ideal S1x1024 .f32) (sc sh : Vec Ideal S1x1x1024 .f32) (r : Fin 256) (j : Fin 1024) :
    k0_pay8 x g sc sh (ix2 r j) = hid (fun k => x (ix2 r k)) (fun k => g (ix2 0 k)) (fun k => sc (ix3 0 0 k)) (fun k => sh (ix3 0 0 k)) j := by
  unfold hid rinv eps width
  pointwise [k0_pay8]

theorem proj_at (h : Vec Ideal S256x1024 .bf16) (w : Vec Ideal S1024x256 .bf16) (r : Fin 256) (j : Fin 256) :
    k0_pay74 h w (ix2 r j) = ∑ k : Fin 1024, h (ix2 r k) * w (ix2 k j) := by
  pointwise [k0_pay74]

/-! ## The convolution -/

/-- Rows `H` followed by rows `P`. -/
theorem stack_at (H : Vec Ideal S8x512 .f32) (P : Vec Ideal S256x512 .f32) (e : ℕ → ℕ → EReal)
    (hH : ∀ (q : Fin 8) (c : Fin 512), H (ix2 q c) = e q.val c.val) (hP : ∀ (r : Fin 256) (c : Fin 512), P (ix2 r c) = e (8 + r.val) c.val)
    (q : Fin 264) (c : Fin 512) : k0_pay12 H P (ix2 q c) = e q.val c.val := by
  pointwise [k0_pay12]
  simp only [hH, hP]
  split_ifs with h
  · rfl
  · rw [show 8 + (q.val - 8) = q.val by omega]

theorem conv_at (w0 w1 w2 w3 b : Vec Ideal S1x512 .f32) (H : Vec Ideal S8x512 .f32) (P : Vec Ideal S256x512 .f32) (e : ℕ → ℕ → EReal)
    (hH : ∀ (q : Fin 8) (c : Fin 512), H (ix2 q c) = e q.val c.val) (hP : ∀ (r : Fin 256) (c : Fin 512), P (ix2 r c) = e (8 + r.val) c.val)
    (hw0 : ∀ c, Fin' (w0 (ix2 0 c))) (hw1 : ∀ c, Fin' (w1 (ix2 0 c))) (hw2 : ∀ c, Fin' (w2 (ix2 0 c))) (hw3 : ∀ c, Fin' (w3 (ix2 0 c)))
    (hb : ∀ c, Fin' (b (ix2 0 c))) (he : ∀ q c, q < 264 → c < 512 → Fin' (e q c)) (r : Fin 256) (c : Fin 512) :
    k0_pay13 (k0_pay9 w0) (k0_pay10 w1) (k0_pay11 w2) w3 H P b (ix2 r c)
      = silu (conv (w0 (ix2 0 c)) (w1 (ix2 0 c)) (w2 (ix2 0 c)) (w3 (ix2 0 c)) (b (ix2 0 c)) (e (5 + r.val) c.val) (e (6 + r.val) c.val) (e (7 + r.val) c.val) (e (8 + r.val) c.val)) := by
  have hE := stack_at H P e hH hP
  unfold k0_pay13
  generalize k0_pay12 H P = E at hE
  pointwise [k0_pay9, k0_pay10, k0_pay11]
  simp only [hE]
  rw [show (8 + r.val + 264 - 2) % 264 = 6 + r.val by omega, show (8 + r.val + 264 - 1) % 264 = 7 + r.val by omega,
    show (7 + r.val + 264 - 2) % 264 = 5 + r.val by omega]
  have h (q : ℕ) (hq : q < 264) := he q c.val hq c.isLt
  exact silu_half (hw0 c) (hw1 c) (hw2 c) (hw3 c) (hb c) (h _ (by omega)) (h _ (by omega)) (h _ (by omega)) (h _ (by omega)) _ rfl

theorem tail_at (H : Vec Ideal S8x512 .f32) (P : Vec Ideal S256x512 .f32) (e : ℕ → ℕ → EReal)
    (hH : ∀ (q : Fin 8) (c : Fin 512), H (ix2 q c) = e q.val c.val) (hP : ∀ (r : Fin 256) (c : Fin 512), P (ix2 r c) = e (8 + r.val) c.val)
    (q : Fin 8) (c : Fin 512) : k0_pay14 H P (ix2 q c) = e (256 + q.val) c.val := by
  have hE := stack_at H P e hH hP
  unfold k0_pay14
  generalize k0_pay12 H P = E at hE
  pointwise
  simp only [hE]

/-! ## The pooling mixer -/

theorem stack16_at (H : Vec Ideal S16x128 .f32) (P : Vec Ideal S256x128 .f32) (e : ℕ → ℕ → EReal)
    (hH : ∀ (q : Fin 16) (c : Fin 128), H (ix2 q c) = e q.val c.val) (hP : ∀ (r : Fin 256) (c : Fin 128), P (ix2 r c) = e (16 + r.val) c.val)
    (q : Fin 272) (c : Fin 128) : k0_pay77 H P (ix2 q c) = e q.val c.val := by
  pointwise [k0_pay77]
  simp only [hH, hP]
  split_ifs with h
  · rfl
  · rw [show 16 + (q.val - 16) = q.val by omega]

theorem tail16_at (H : Vec Ideal S16x128 .f32) (P : Vec Ideal S256x128 .f32) (e : ℕ → ℕ → EReal)
    (hH : ∀ (q : Fin 16) (c : Fin 128), H (ix2 q c) = e q.val c.val) (hP : ∀ (r : Fin 256) (c : Fin 128), P (ix2 r c) = e (16 + r.val) c.val)
    (q : Fin 16) (c : Fin 128) : k0_pay78 H P (ix2 q c) = e (256 + q.val) c.val := by
  have hE := stack16_at H P e hH hP
  unfold k0_pay78
  generalize k0_pay77 H P = E at hE
  pointwise
  simp only [hE]

theorem wrap {x s : ℕ} (h : s ≤ x) (hx : x < 272) : (x + 272 - s) % 272 = x - s := by omega

/-- How many of the window's `w` rows lie in the sequence, at row `s`. -/
def cnt (w s : ℕ) : EReal := (((min (s + 1) w : ℕ) : ℝ) : EReal)

theorem cnt2 (a r : ℕ) (ha : a < 16) (hr : r < 256) :
    FloatOps.sitofp (F := Ideal) .f32 (IntOp.minsi (IntOp.addi (BitVec.ofNat 32 (a * 256 + r)) 1#32) 2#32) = cnt 2 (a * 256 + r) := by
  have h := (by decide +kernel : ∀ n : Fin 4096, (IntOp.minsi (IntOp.addi (BitVec.ofNat 32 n.val) 1#32) 2#32).toInt = ((min (n.val + 1) 2 : ℕ) : ℤ)) ⟨a * 256 + r, by omega⟩
  show ((((IntOp.minsi (IntOp.addi (BitVec.ofNat 32 (a * 256 + r)) 1#32) 2#32).toInt : ℤ) : ℝ) : EReal) = _
  rw [h]
  rfl

theorem cnt4 (a r : ℕ) (ha : a < 16) (hr : r < 256) :
    FloatOps.sitofp (F := Ideal) .f32 (IntOp.minsi (IntOp.addi (BitVec.ofNat 32 (a * 256 + r)) 1#32) 4#32) = cnt 4 (a * 256 + r) := by
  have h := (by decide +kernel : ∀ n : Fin 4096, (IntOp.minsi (IntOp.addi (BitVec.ofNat 32 n.val) 1#32) 4#32).toInt = ((min (n.val + 1) 4 : ℕ) : ℤ)) ⟨a * 256 + r, by omega⟩
  show ((((IntOp.minsi (IntOp.addi (BitVec.ofNat 32 (a * 256 + r)) 1#32) 4#32).toInt : ℤ) : ℝ) : EReal) = _
  rw [h]
  rfl

theorem cnt8 (a r : ℕ) (ha : a < 16) (hr : r < 256) :
    FloatOps.sitofp (F := Ideal) .f32 (IntOp.minsi (IntOp.addi (BitVec.ofNat 32 (a * 256 + r)) 1#32) 8#32) = cnt 8 (a * 256 + r) := by
  have h := (by decide +kernel : ∀ n : Fin 4096, (IntOp.minsi (IntOp.addi (BitVec.ofNat 32 n.val) 1#32) 8#32).toInt = ((min (n.val + 1) 8 : ℕ) : ℤ)) ⟨a * 256 + r, by omega⟩
  show ((((IntOp.minsi (IntOp.addi (BitVec.ofNat 32 (a * 256 + r)) 1#32) 8#32).toInt : ℤ) : ℝ) : EReal) = _
  rw [h]
  rfl

theorem cnt16 (a r : ℕ) (ha : a < 16) (hr : r < 256) :
    FloatOps.sitofp (F := Ideal) .f32 (IntOp.minsi (IntOp.addi (BitVec.ofNat 32 (a * 256 + r)) 1#32) 16#32) = cnt 16 (a * 256 + r) := by
  have h := (by decide +kernel : ∀ n : Fin 4096, (IntOp.minsi (IntOp.addi (BitVec.ofNat 32 n.val) 1#32) 16#32).toInt = ((min (n.val + 1) 16 : ℕ) : ℤ)) ⟨a * 256 + r, by omega⟩
  show ((((IntOp.minsi (IntOp.addi (BitVec.ofNat 32 (a * 256 + r)) 1#32) 16#32).toInt : ℤ) : ℝ) : EReal) = _
  rw [h]
  rfl

/-- One group of the pooling mixer at a row: the trailing mean less the row itself, multiplied out and scaled. -/
def pooled (n : ℕ) (e : ℕ → ℕ → EReal) (a : ℕ) (w : Vec Ideal S1x128x128 .bf16) (ps : Vec Ideal S1x128 .f32) (r : Fin 256) (c : Fin 128) : EReal :=
  (∑ k : Fin 128, (Ideal.div (back (fun q => e q k.val) (16 + r.val) n) (cnt n (a * 256 + r.val)) - e (16 + r.val) k.val) * w (ix3 0 k c)) * ps (ix2 0 c)

section
variable (tp : IVec S256x128 32) (a : ℕ) (ha : a < 16) (ht : ∀ (r : Fin 256) (c : Fin 128), tp (ix2 r c) = BitVec.ofNat 32 (a * 256 + r.val))
include ha ht

theorem pool2_at (H : Vec Ideal S16x128 .f32) (P : Vec Ideal S256x128 .f32) (w : Vec Ideal S1x128x128 .bf16) (ps : Vec Ideal S1x128 .f32) (e : ℕ → ℕ → EReal)
    (hH : ∀ (q : Fin 16) (c : Fin 128), H (ix2 q c) = e q.val c.val) (hP : ∀ (r : Fin 256) (c : Fin 128), P (ix2 r c) = e (16 + r.val) c.val)
    (r : Fin 256) (c : Fin 128) : k0_pay80 tp (k0_pay77 H P) (k0_pay79 H P) w ps (ix2 r c) = pooled 2 e a w ps r c := by
  have hE := stack16_at H P e hH hP
  unfold k0_pay79
  generalize k0_pay77 H P = E at hE
  pointwise [k0_pay80]
  simp only [hE, ht]
  simp (disch := omega) only [wrap]
  rw [cnt2 a r.val ha r.isLt]
  simp only [pooled, back, Finset.sum_range_succ, Finset.sum_range_zero, zero_add, Nat.sub_sub, Nat.sub_zero, Nat.reduceAdd, add_assoc]

theorem pool4_at (H : Vec Ideal S16x128 .f32) (P : Vec Ideal S256x128 .f32) (w : Vec Ideal S1x128x128 .bf16) (ps : Vec Ideal S1x128 .f32) (e : ℕ → ℕ → EReal)
    (hH : ∀ (q : Fin 16) (c : Fin 128), H (ix2 q c) = e q.val c.val) (hP : ∀ (r : Fin 256) (c : Fin 128), P (ix2 r c) = e (16 + r.val) c.val)
    (r : Fin 256) (c : Fin 128) : k0_pay84 (k0_pay83 tp H P) w ps (ix2 r c) = pooled 4 e a w ps r c := by
  have hE := stack16_at H P e hH hP
  have e1 : k0_pay81 H P = k0_pay77 H P := rfl
  unfold k0_pay83
  rw [e1]
  generalize k0_pay77 H P = E at hE
  pointwise [k0_pay84]
  simp only [hE, ht]
  simp (disch := omega) only [wrap]
  rw [cnt4 a r.val ha r.isLt]
  simp only [pooled, back, Finset.sum_range_succ, Finset.sum_range_zero, zero_add, Nat.sub_sub, Nat.sub_zero, Nat.reduceAdd, add_assoc]

theorem pool8_at (H : Vec Ideal S16x128 .f32) (P : Vec Ideal S256x128 .f32) (w : Vec Ideal S1x128x128 .bf16) (ps : Vec Ideal S1x128 .f32) (e : ℕ → ℕ → EReal)
    (hH : ∀ (q : Fin 16) (c : Fin 128), H (ix2 q c) = e q.val c.val) (hP : ∀ (r : Fin 256) (c : Fin 128), P (ix2 r c) = e (16 + r.val) c.val)
    (r : Fin 256) (c : Fin 128) : k0_pay88 (k0_pay87 tp H P w ps) (ix2 r c) = pooled 8 e a w ps r c := by
  have hE := stack16_at H P e hH hP
  have e1 : k0_pay85 H P = k0_pay77 H P := rfl
  unfold k0_pay87
  rw [e1]
  generalize k0_pay77 H P = E at hE
  pointwise [k0_pay88]
  simp only [hE, ht]
  simp (disch := omega) only [wrap]
  rw [cnt8 a r.val ha r.isLt]
  simp only [pooled, back, Finset.sum_range_succ, Finset.sum_range_zero, zero_add, Nat.sub_sub, Nat.sub_zero, Nat.reduceAdd, add_assoc]

set_option maxHeartbeats 4000000 in
theorem pool16_at (H : Vec Ideal S16x128 .f32) (P : Vec Ideal S256x128 .f32) (w : Vec Ideal S1x128x128 .bf16) (ps : Vec Ideal S1x128 .f32) (e : ℕ → ℕ → EReal)
    (hH : ∀ (q : Fin 16) (c : Fin 128), H (ix2 q c) = e q.val c.val) (hP : ∀ (r : Fin 256) (c : Fin 128), P (ix2 r c) = e (16 + r.val) c.val)
    (r : Fin 256) (c : Fin 128) : k0_pay91 tp H P w ps (ix2 r c) = pooled 16 e a w ps r c := by
  have hE := stack16_at H P e hH hP
  have e1 : k0_pay89 H P = k0_pay77 H P := rfl
  unfold k0_pay91
  rw [e1]
  generalize k0_pay77 H P = E at hE
  pointwise
  simp only [hE, ht]
  simp (disch := omega) only [wrap]
  rw [cnt16 a r.val ha r.isLt]
  simp only [pooled, back, Finset.sum_range_succ, Finset.sum_range_zero, zero_add, Nat.sub_sub, Nat.sub_zero, Nat.reduceAdd, add_assoc]
end

end Cert.MixerIdeal.Value
-- ==== Proof.MixSums.lean ====
/-
  The mixer call's step sizes and running sums read at an index (untrusted).
-/
module

public import proofs.«01_k».proof.Proof.Gen.MixerIdeal.Skeleton
public import proofs.«01_k».proof.Proof.MixMath
public import proofs.«01_k».proof.Proof.MixTile
public import Idealize.ShloMosaic.Lib.ValueIdx
public import Idealize.ShloMosaic.Lib.Tactic
public import Idealize.ShloMosaic.Lib.Pointwise
public import Idealize.ShloMosaic.Lib.Claim
@[expose] public section
set_option maxRecDepth 16384
noncomputable section
namespace Cert.MixerIdeal.Value
open Cert.MixerIdeal Cert.MixerIdeal.Gen Idealize.ShloMosaic Idealize.ShloMosaic.TcCoe Idealize.SL.Sem
open Cert.Layer

/-! ## Step sizes and running sums -/

theorem dt_at (P : Vec Ideal S256x128 .f32) (b : Vec Ideal S1x128 .f32) (r : Fin 256) (c : Fin 128) :
    k0_pay95 P b (ix2 r c) = sp (P (ix2 r c) + b (ix2 0 c)) := by
  unfold sp
  pointwise [k0_pay95]
  rw [if_neg (by simp), zero_sub]
  rfl

theorem place_at (r : Fin 256) (c : Fin 128) : k0_pay94 (ix2 r c) = BitVec.ofNat 32 (r.val % 64) := by
  pointwise [k0_pay94]
  revert r
  decide +kernel

/-- One doubling of the running sums, `s` rows back. -/
theorem double {v : FVec Ideal S256x128 .f32} {f : ℕ → ℕ → EReal} (s : ℕ) (hs : 0 < s) (hs2 : s < 64)
    (hv : ∀ (r : Fin 256) (c : Fin 128), v (ix2 r c) = back (f c.val) r.val (min s (r.val % 64 + 1))) (r : Fin 256) (c : Fin 128) (h1 : (r.val + 256 - s) % 256 < 256) :
    v (ix2 r c) + Scalar.select (IntOp.cmpi .sge (BitVec.ofNat 32 (r.val % 64)) (BitVec.ofNat 32 s)) (v (ix2 ⟨(r.val + 256 - s) % 256, h1⟩ c)) 0
      = back (f c.val) r.val (min (s + s) (r.val % 64 + 1)) := by
  have hc : IntOp.cmpi .sge (BitVec.ofNat 32 (r.val % 64)) (BitVec.ofNat 32 s) = if s ≤ r.val % 64 then 1#1 else 0#1 :=
    (by decide +kernel : ∀ (x s : Fin 64), IntOp.cmpi .sge (BitVec.ofNat 32 x.val) (BitVec.ofNat 32 s.val) = if s.val ≤ x.val then 1#1 else 0#1) ⟨r.val % 64, by omega⟩ ⟨s, hs2⟩
  rw [← back_step, hc, hv, hv]
  congr 1
  by_cases h : s ≤ r.val % 64
  · rw [if_pos h, if_pos h]
    show back _ ((r.val + 256 - s) % 256) _ = _
    have e : (r.val + 256 - s) % 256 = r.val - s := by omega
    simp only [e]
  · rw [if_neg h, if_neg h]
    rfl

/-- The running sums doubled from 1 to 2 rows. -/
def dbl1 (b : IVec S256x128 32) (v : FVec Ideal S256x128 .f32) : FVec Ideal S256x128 .f32 :=
  addf v (select (cmpi .sge b (broadcast S256x128 1#32)) (dynamicRotate 0 1#32 none v rotates_S256x128_d0) (broadcast S256x128 (Scalar.ofBits .f32 0x00000000#32)))
theorem dbl1_at {v : FVec Ideal S256x128 .f32} {f : ℕ → ℕ → EReal}
    (hv : ∀ (r : Fin 256) (c : Fin 128), v (ix2 r c) = back (f c.val) r.val (min 1 (r.val % 64 + 1))) (r : Fin 256) (c : Fin 128) :
    dbl1 k0_pay94 v (ix2 r c) = back (f c.val) r.val (min 2 (r.val % 64 + 1)) := by
  have hp := place_at
  unfold dbl1
  generalize k0_pay94 = b at hp
  pointwise
  rw [hp]
  exact double 1 (by norm_num) (by norm_num) hv r c _
/-- The running sums doubled from 2 to 4 rows. -/
def dbl2 (b : IVec S256x128 32) (v : FVec Ideal S256x128 .f32) : FVec Ideal S256x128 .f32 :=
  addf v (select (cmpi .sge b (broadcast S256x128 2#32)) (dynamicRotate 0 2#32 none v rotates_S256x128_d0) (broadcast S256x128 (Scalar.ofBits .f32 0x00000000#32)))
theorem dbl2_at {v : FVec Ideal S256x128 .f32} {f : ℕ → ℕ → EReal}
    (hv : ∀ (r : Fin 256) (c : Fin 128), v (ix2 r c) = back (f c.val) r.val (min 2 (r.val % 64 + 1))) (r : Fin 256) (c : Fin 128) :
    dbl2 k0_pay94 v (ix2 r c) = back (f c.val) r.val (min 4 (r.val % 64 + 1)) := by
  have hp := place_at
  unfold dbl2
  generalize k0_pay94 = b at hp
  pointwise
  rw [hp]
  exact double 2 (by norm_num) (by norm_num) hv r c _
/-- The running sums doubled from 4 to 8 rows. -/
def dbl4 (b : IVec S256x128 32) (v : FVec Ideal S256x128 .f32) : FVec Ideal S256x128 .f32 :=
  addf v (select (cmpi .sge b (broadcast S256x128 4#32)) (dynamicRotate 0 4#32 none v rotates_S256x128_d0) (broadcast S256x128 (Scalar.ofBits .f32 0x00000000#32)))
theorem dbl4_at {v : FVec Ideal S256x128 .f32} {f : ℕ → ℕ → EReal}
    (hv : ∀ (r : Fin 256) (c : Fin 128), v (ix2 r c) = back (f c.val) r.val (min 4 (r.val % 64 + 1))) (r : Fin 256) (c : Fin 128) :
    dbl4 k0_pay94 v (ix2 r c) = back (f c.val) r.val (min 8 (r.val % 64 + 1)) := by
  have hp := place_at
  unfold dbl4
  generalize k0_pay94 = b at hp
  pointwise
  rw [hp]
  exact double 4 (by norm_num) (by norm_num) hv r c _
/-- The running sums doubled from 8 to 16 rows. -/
def dbl8 (b : IVec S256x128 32) (v : FVec Ideal S256x128 .f32) : FVec Ideal S256x128 .f32 :=
  addf v (select (cmpi .sge b (broadcast S256x128 8#32)) (dynamicRotate 0 8#32 none v rotates_S256x128_d0) (broadcast S256x128 (Scalar.ofBits .f32 0x00000000#32)))
theorem dbl8_at {v : FVec Ideal S256x128 .f32} {f : ℕ → ℕ → EReal}
    (hv : ∀ (r : Fin 256) (c : Fin 128), v (ix2 r c) = back (f c.val) r.val (min 8 (r.val % 64 + 1))) (r : Fin 256) (c : Fin 128) :
    dbl8 k0_pay94 v (ix2 r c) = back (f c.val) r.val (min 16 (r.val % 64 + 1)) := by
  have hp := place_at
  unfold dbl8
  generalize k0_pay94 = b at hp
  pointwise
  rw [hp]
  exact double 8 (by norm_num) (by norm_num) hv r c _
/-- The running sums doubled from 16 to 32 rows. -/
def dbl16 (b : IVec S256x128 32) (v : FVec Ideal S256x128 .f32) : FVec Ideal S256x128 .f32 :=
  addf v (select (cmpi .sge b (broadcast S256x128 16#32)) (dynamicRotate 0 16#32 none v rotates_S256x128_d0) (broadcast S256x128 (Scalar.ofBits .f32 0x00000000#32)))
theorem dbl16_at {v : FVec Ideal S256x128 .f32} {f : ℕ → ℕ → EReal}
    (hv : ∀ (r : Fin 256) (c : Fin 128), v (ix2 r c) = back (f c.val) r.val (min 16 (r.val % 64 + 1))) (r : Fin 256) (c : Fin 128) :
    dbl16 k0_pay94 v (ix2 r c) = back (f c.val) r.val (min 32 (r.val % 64 + 1)) := by
  have hp := place_at
  unfold dbl16
  generalize k0_pay94 = b at hp
  pointwise
  rw [hp]
  exact double 16 (by norm_num) (by norm_num) hv r c _
/-- The running sums doubled from 32 to 64 rows. -/
def dbl32 (b : IVec S256x128 32) (v : FVec Ideal S256x128 .f32) : FVec Ideal S256x128 .f32 :=
  addf v (select (cmpi .sge b (broadcast S256x128 32#32)) (dynamicRotate 0 32#32 none v rotates_S256x128_d0) (broadcast S256x128 (Scalar.ofBits .f32 0x00000000#32)))
theorem dbl32_at {v : FVec Ideal S256x128 .f32} {f : ℕ → ℕ → EReal}
    (hv : ∀ (r : Fin 256) (c : Fin 128), v (ix2 r c) = back (f c.val) r.val (min 32 (r.val % 64 + 1))) (r : Fin 256) (c : Fin 128) :
    dbl32 k0_pay94 v (ix2 r c) = back (f c.val) r.val (min 64 (r.val % 64 + 1)) := by
  have hp := place_at
  unfold dbl32
  generalize k0_pay94 = b at hp
  pointwise
  rw [hp]
  exact double 32 (by norm_num) (by norm_num) hv r c _

theorem acs_at (dt : FVec Ideal S256x128 .f32) (al : Vec Ideal S1x128 .f32) (r : Fin 256) (c : Fin 128) (f : ℕ → ℕ → EReal)
    (hf : ∀ (r : Fin 256) (c : Fin 128), dt (ix2 r c) * (-(Ideal.exp (al (ix2 0 c)))) = f c.val r.val) :
    k0_pay97 k0_pay94 dt (k0_pay96 al) (Scalar.ofBits .f32 0x00000000#32) (ix2 r c) = back (f c.val) r.val (r.val % 64 + 1) := by
  obtain ⟨v, ev⟩ : ∃ v : FVec Ideal S256x128 .f32, v = mulf dt (broadcastTo S256x128 (subf (broadcast S1x128 (Scalar.ofBits .f32 0x00000000#32)) (k0_pay96 al)) broadcasts_S1x128_S256x128) := ⟨_, rfl⟩
  have hv : ∀ (r : Fin 256) (c : Fin 128), v (ix2 r c) = back (f c.val) r.val (min 1 (r.val % 64 + 1)) := fun r c => by
    rw [show min 1 (r.val % 64 + 1) = 1 by omega, back_one, ← hf r c, ev]
    pointwise [k0_pay96]
    rw [zero_sub]
  have e : k0_pay97 k0_pay94 dt (k0_pay96 al) (Scalar.ofBits .f32 0x00000000#32)
    = dbl32 k0_pay94 (dbl16 k0_pay94 (dbl8 k0_pay94 (dbl4 k0_pay94 (dbl2 k0_pay94 (dbl1 k0_pay94 v))))) := by rw [ev]; rfl
  have h1 := fun r c => dbl32_at (f := f) (dbl16_at (dbl8_at (dbl4_at (dbl2_at (dbl1_at (f := f) (v := v) hv))))) r c
  rw [e, h1, show min 64 (r.val % 64 + 1) = r.val % 64 + 1 by omega]

theorem lane_at {k : ℕ} (h : k < 128) : IntOp.cmpi .slt (BitVec.ofNat 32 k) 24#32 = if k < 24 then 1#1 else 0#1 :=
  (by decide +kernel : ∀ k : Fin 128, IntOp.cmpi .slt (BitVec.ofNat 32 k.val) 24#32 = if k.val < 24 then 1#1 else 0#1) ⟨k, h⟩

/-- A value cut into three parts of which the last two are moved aside and added back. -/
def parts (v : FVec Ideal S256x128 .f32) : FVec Ideal S256x128 .f32 :=
  have a : FVec Ideal S256x128 .f32 := extf .f32 (truncf .bf16 v bitsLt_bf16_f32) bitsLt_bf16_f32
  have b : FVec Ideal S256x128 .f32 := extf .f32 (truncf .bf16 (subf v a) bitsLt_bf16_f32) bitsLt_bf16_f32
  addf (addf a (dynamicRotate 1 32#32 none b rotates_S256x128_d1)) (dynamicRotate 1 64#32 none (subf (subf v a) b) rotates_S256x128_d1)

/-- The parts at a lane: the lane, and what the first part loses of the lanes 32 and 64 before it. -/
theorem parts_at (v : FVec Ideal S256x128 .f32) (r : Fin 256) (c y z : Fin 128) (hy : y.val = (c.val + 96) % 128) (hz : z.val = (c.val + 64) % 128) :
    parts v (ix2 r c) = v (ix2 r c) + (v (ix2 r y) - v (ix2 r y)) + (v (ix2 r z) - v (ix2 r z) - (v (ix2 r z) - v (ix2 r z))) := by
  have key : ∀ a b : Fin 128, a.val = y.val → b.val = z.val →
      v (ix2 r c) + (v (ix2 r a) - v (ix2 r a)) + (v (ix2 r b) - v (ix2 r b) - (v (ix2 r b) - v (ix2 r b)))
        = v (ix2 r c) + (v (ix2 r y) - v (ix2 r y)) + (v (ix2 r z) - v (ix2 r z) - (v (ix2 r z) - v (ix2 r z))) := fun a b ha hb => by
    rw [Fin.ext ha, Fin.ext hb]
  pointwise [parts]
  exact key _ _ (by show (c.val + 128 - 32) % 128 = y.val; omega) (by show (c.val + 128 - 64) % 128 = z.val; omega)

/-- The product that spreads a lane over its head's columns. -/
def spreadV (v : FVec Ideal S256x128 .f32) (e : Vec Ideal S128x1536 .bf16) : FVec Ideal S256x1536 .f32 :=
  shapeCast S256x1536 (matmul dot_S256x128_S128x1536_S256x1536_1_0_0_1_n_n none (truncf .bf16 v bitsLt_bf16_f32) (shapeCast S128x1536 e shapeCasts_S128x1536_S128x1536 : FVec Ideal S128x1536 .bf16)
    (constant S256x1536 .f32 0x00000000#32)) shapeCasts_S256x1536_S256x1536

theorem spreadV_at (v : FVec Ideal S256x128 .f32) (e : Vec Ideal S128x1536 .bf16) (r : Fin 256) (c : Fin 1536) :
    spreadV v e (ix2 r c) = ∑ k : Fin 128, v (ix2 r k) * e (ix2 k c) := by
  pointwise [spreadV]

/-- The lanes of the 24 heads, the others zero. -/
def lanes (a : FVec Ideal S256x128 .f32) : FVec Ideal S256x128 .f32 :=
  select (k0_pay99 (iota .tc S256x128 32 [1] iota_S256x128_d1_w32) k0_pay98) a (broadcast S256x128 (Scalar.ofBits .f32 0x00000000#32))

theorem lanes_at (a : FVec Ideal S256x128 .f32) (r : Fin 256) (k : Fin 128) : lanes a (ix2 r k) = if k.val < 24 then a (ix2 r k) else 0 := by
  pointwise [lanes, k0_pay99, k0_pay98]
  rw [lane_at k.isLt, sel]

/-- Lane `h` of `a` spread over the head's 64 columns: the three parts of the split add up to the lane, and the rest is zero. -/
theorem spread {a : FVec Ideal S256x128 .f32} (hr : ∀ (r : Fin 256) (c : Fin 128), c.val < 24 → Bt (a (ix2 r c)))
    (e : Vec Ideal S128x1536 .bf16) (he : ∀ (k : Fin 128) (c : Fin 1536), e (ix2 k c) = if k.val % 32 = c.val / 64 ∧ k.val < 96 then 1 else 0)
    (r : Fin 256) (c : Fin 1536) :
    k0_pay100 (iota .tc S256x128 32 [1] iota_S256x128_d1_w32) a k0_pay98 e (ix2 r c) = a (ix2 r ⟨c.val / 64, by omega⟩) := by
  have e1 : k0_pay100 (iota .tc S256x128 32 [1] iota_S256x128_d1_w32) a k0_pay98 e = spreadV (parts (lanes a)) e := rfl
  have hc := c.isLt
  rw [e1, spreadV_at]
  refine (Finset.sum_congr rfl fun k _ => congrArg (parts (lanes a) (ix2 r k) * ·) (he k c)).trans ?_
  suffices key : ∀ h (h24 : h < 24), ∑ k : Fin 128, parts (lanes a) (ix2 r k) * (if k.val % 32 = h ∧ k.val < 96 then (1 : EReal) else 0) = a (ix2 r ⟨h, by omega⟩) from key _ (by omega)
  intro h h24
  rw [pick_three (fun k => parts (lanes a) (ix2 r k)) h h24,
    parts_at (lanes a) r ⟨h, by omega⟩ ⟨h + 96, by omega⟩ ⟨h + 64, by omega⟩ (by show h + 96 = (h + 96) % 128; omega) (by show h + 64 = (h + 64) % 128; omega),
    parts_at (lanes a) r ⟨h + 32, by omega⟩ ⟨h, by omega⟩ ⟨h + 96, by omega⟩ (by show h = (h + 32 + 96) % 128; omega) (by show h + 96 = (h + 32 + 64) % 128; omega),
    parts_at (lanes a) r ⟨h + 64, by omega⟩ ⟨h + 32, by omega⟩ ⟨h, by omega⟩ (by show h + 32 = (h + 64 + 96) % 128; omega) (by show h = (h + 64 + 64) % 128; omega)]
  have z : ∀ n (hn : n < 128), 24 ≤ n → lanes a (ix2 r ⟨n, hn⟩) = 0 := fun n hn h2 => (lanes_at a r _).trans (if_neg (by show ¬ n < 24; omega))
  rw [z (h + 96) _ (by omega), z (h + 64) _ (by omega), z (h + 32) _ (by omega), lanes_at, if_pos (by show h < 24; omega)]
  have z0 : (0 : EReal) - 0 = 0 := sub_self_real Fin'.zero
  rcases hr r ⟨h, by omega⟩ h24 with hf | hb
  · rw [sub_self_real hf, z0, z0]; simp only [add_zero, zero_add]
  · rw [hb]; simp only [EReal.bot_sub, EReal.bot_add]

theorem spread_q {a dt : FVec Ideal S256x128 .f32} (hr : ∀ (r : Fin 256) (c : Fin 128), c.val < 24 → Bt (k0_pay101 dt a (ix2 r c)))
    (e : Vec Ideal S128x1536 .bf16) (he : ∀ (k : Fin 128) (c : Fin 1536), e (ix2 k c) = if k.val % 32 = c.val / 64 ∧ k.val < 96 then 1 else 0)
    (r : Fin 256) (c : Fin 1536) :
    k0_pay102 (iota .tc S256x128 32 [1] iota_S256x128_d1_w32) dt a k0_pay98 e (ix2 r c) = k0_pay101 dt a (ix2 r ⟨c.val / 64, by omega⟩) :=
  spread (a := k0_pay101 dt a) hr e he r c

theorem q_at (dt a : FVec Ideal S256x128 .f32) (r : Fin 256) (c : Fin 128) :
    k0_pay101 dt a (ix2 r c) = a (ix2 r c) - Ideal.log (dt (ix2 r c)) := by
  pointwise [k0_pay101]
theorem qt_at (dt a : FVec Ideal S256x128 .f32) (h : Fin 128) (r : Fin 256) :
    k0_pay104 (k0_pay103 dt a) (ix2 h r) = k0_pay101 dt a (ix2 r h) := by
  pointwise [k0_pay104, k0_pay103]
theorem qts_at (dt a : FVec Ideal S256x128 .f32) (h : Fin 128) (r : Fin 256) :
    k0_pay105 (k0_pay103 dt a) (ix2 h r) = k0_pay101 dt a (ix2 ⟨r.val / 128 * 128 + (r.val + 64) % 128, by omega⟩ h) := by
  pointwise [k0_pay105, k0_pay103]
  have key : ∀ (n : ℕ) (hn : n < 256), n = r.val / 128 * 128 + (r.val + 64) % 128 →
      k0_pay101 dt a (ix2 ⟨n, hn⟩ h) = k0_pay101 dt a (ix2 ⟨r.val / 128 * 128 + (r.val + 64) % 128, by omega⟩ h) := by
    rintro n hn rfl; rfl
  split_ifs <;> exact key _ _ (by omega)

end Cert.MixerIdeal.Value
-- ==== Proof.MixChunk.lean ====
/-
  What the mixer call computes inside a chunk, and the gated groups it multiplies out, read at an index (untrusted).
-/
module

public import proofs.«01_k».proof.Proof.Gen.MixerIdeal.Skeleton
public import proofs.«01_k».proof.Proof.MixMath
public import proofs.«01_k».proof.Proof.MixTile
public import Idealize.ShloMosaic.Lib.ValueIdx
public import Idealize.ShloMosaic.Lib.Tactic
public import Idealize.ShloMosaic.Lib.Pointwise
public import Idealize.ShloMosaic.Lib.Claim
@[expose] public section
set_option maxRecDepth 16384
noncomputable section
namespace Cert.MixerIdeal.Value
open Cert.MixerIdeal Cert.MixerIdeal.Gen Idealize.ShloMosaic Idealize.ShloMosaic.TcCoe Idealize.SL.Sem
open Cert.Layer

/-! ## Inside a chunk -/

theorem scores_at (B C : Vec Ideal S64x128 .bf16) (b : ℕ → Fin 128 → EReal) (hB : ∀ (m : Fin 64) (n : Fin 128), B (ix2 m n) = b m.val n) (l : Fin 64) (k : Fin 384) :
    k0_pay110 B C (ix2 l k) = ∑ n : Fin 128, C (ix2 l n) * b (k.val % 64) n := by
  pointwise [k0_pay110]
  simp only [hB]
  refine Finset.sum_congr rfl fun n _ => ?_
  congr 1
  split_ifs <;> congr 1 <;> omega

theorem causal_at (l : Fin 64) (k : Fin 384) : k0_pay107 (ix2 l k) = if k.val % 64 ≤ l.val then 1#1 else 0#1 := by
  pointwise [k0_pay107]
  revert l k
  decide +kernel
theorem low_at (k : Fin 128) : k0_pay108 (ix2 0 k) = if k.val < 64 then 1#1 else 0#1 := by
  pointwise [k0_pay108]
  revert k
  decide +kernel
theorem first_at (l : Fin 64) (k : Fin 128) : k0_pay109 (ix2 l k) = if k.val < 64 then 1#1 else 0#1 := by
  pointwise [k0_pay109]
  revert k
  decide +kernel

theorem mask_eq : (Named.named (F := Ideal) κ "mask" (φ := .f32) 4048155338#32 : EReal) = ⊥ := by
  rfl

/-- The scores of a chunk weighted by the decay between the two places, later places masked. -/
theorem weights_at (sc : FVec Ideal S64x384 .f32) (ax : Vec Ideal S64x384 .f32) (q0 q1 q2 q3 q4 q5 : Vec Ideal S1x128 .f32) (q : ℕ → EReal)
    (h0 : ∀ k : Fin 128, k.val < 64 → q0 (ix2 0 k) = q k.val) (h1 : ∀ k : Fin 128, 64 ≤ k.val → q1 (ix2 0 k) = q k.val)
    (h2 : ∀ k : Fin 128, k.val < 64 → q2 (ix2 0 k) = q (128 + k.val)) (h3 : ∀ k : Fin 128, 64 ≤ k.val → q3 (ix2 0 k) = q (128 + k.val))
    (h4 : ∀ k : Fin 128, k.val < 64 → q4 (ix2 0 k) = q (256 + k.val)) (h5 : ∀ k : Fin 128, 64 ≤ k.val → q5 (ix2 0 k) = q (256 + k.val))
    (l : Fin 64) (k : Fin 384) :
    k0_pay118 k0_pay107 k0_pay108 sc ax q0 q1 q2 q3 q4 q5 (ix2 l k)
      = sc (ix2 l k) * Ideal.exp (if k.val % 64 ≤ l.val then ax (ix2 l k) - q k.val else ⊥) := by
  have hge := causal_at
  have hlow := low_at
  generalize k0_pay107 = ge at hge
  generalize k0_pay108 = low at hlow
  pointwise [k0_pay118]
  simp only [hge, hlow, sel, mask_eq]
  congr 2
  have hk := k.isLt
  split_ifs
  all_goals first
    | rfl
    | rw [h0 _ (by assumption)]
    | (rw [h1] <;> (show 64 ≤ k.val; omega))
    | (rw [h2 _ (by assumption)]; congr 2; show 128 + (k.val - 128) = k.val; omega)
    | (rw [h3 _ (show 64 ≤ (⟨k.val - 128, _⟩ : Fin 128).val by show 64 ≤ k.val - 128; omega)]; congr 2; show 128 + (k.val - 128) = k.val; omega)
    | (rw [h4 _ (by assumption)]; congr 2; show 256 + (k.val - 128 - 128) = k.val; omega)
    | (rw [h5 _ (show 64 ≤ (⟨k.val - 128 - 128, _⟩ : Fin 128).val by show 64 ≤ k.val - 128 - 128; omega)]; congr 2; show 256 + (k.val - 128 - 128) = k.val; omega)

theorem intra_at (xs : Vec Ideal S64x384 .f32) (w : FVec Ideal S64x384 .bf16) (x : ℕ → ℕ → EReal) (ww : ℕ → ℕ → EReal)
    (hw : ∀ (l : Fin 64) (k : Fin 384), w (ix2 l k) = ww l.val k.val) (hx : ∀ (l : Fin 64) (k : Fin 384), xs (ix2 l k) = x l.val k.val) (l : Fin 64) (k : Fin 384) :
    k0_pay120 k0_pay109 xs w (k0_pay119 k0_pay109 xs) (ix2 l k) = ∑ m : Fin 64, ww l.val (k.val / 64 * 64 + m.val) * x m.val k.val := by
  have hf := first_at
  generalize k0_pay109 = f at hf
  pointwise [k0_pay120, k0_pay119]
  simp only [hf, sel, hw, hx]
  have hk := k.isLt
  split_ifs <;> simp only [Finset.sum_const_zero, add_zero, zero_add] <;> refine Finset.sum_congr rfl fun m _ => ?_ <;> congr 2 <;> omega

theorem y_at (i : FVec Ideal S64x384 .f32) (ax xs: Vec Ideal S64x384 .f32) (st : Vec Ideal S1x128x384 .f32) (C : Vec Ideal S64x128 .bf16) (d : Vec Ideal S1x384 .f32)
    (l : Fin 64) (k : Fin 384) : k0_pay153 xs (k0_pay152 i ax st C) d (ix2 l k)
      = i (ix2 l k) + (∑ n : Fin 128, C (ix2 l n) * st (ix3 0 n k)) * Ideal.exp (ax (ix2 l k)) + d (ix2 0 k) * xs (ix2 l k) := by
  pointwise [k0_pay153, k0_pay152, k0_pay151]
theorem state_at (ax xs qx : Vec Ideal S64x384 .f32) (st : Vec Ideal S1x128x384 .f32) (B : Vec Ideal S64x128 .bf16)
    (n : Fin 128) (k : Fin 384) : k0_pay154 xs (k0_pay150 ax) (k0_pay151 st) qx B (ix3 0 n k)
      = st (ix3 0 n k) * Ideal.exp (ax (ix2 63 k)) + ∑ m : Fin 64, B (ix2 m n) * (xs (ix2 m k) * Ideal.exp (ax (ix2 63 k) - qx (ix2 m k))) := by
  pointwise [k0_pay154, k0_pay150, k0_pay151]

/-! ## The gated, normalised groups multiplied out -/

section
variable {F : FTy → Type} [FloatOps F]

/-- One group of 384 channels: gated, normalised, and multiplied out. -/
def grp (y z : Vec F S256x384 .f32) (g : Vec F S1x384 .f32) (w : Vec F S384x1024 .bf16) : FVec F S256x1024 .f32 :=
  have h : FVec F S256x384 .f32 := mulf (broadcast S256x384 (Scalar.ofBits .f32 0x3F000000#32)) z
  have v : FVec F S256x384 .f32 := mulf y (addf h (mulf h (tanh h)))
  have n : FVec F S256x1 .f32 := shapeCast S256x1 (multiReduction .add [1] S256 (mulf v v) 0x00000000#32 reduces_S256x384_S256 (.inl rfl) rfl) shapeCasts_S256_S256x1
  have i : FVec F S256x1 .f32 := rsqrt (addf (divf n (broadcast S256x1 (Scalar.ofBits .f32 0x43C00000#32))) (broadcast S256x1 (Scalar.ofBits .f32 0x3727C5AC#32)))
  matmul dot_S256x384_S384x1024_S256x1024_1_0_0_1_n_n none
    (truncf .bf16 (mulf (mulf v (broadcastTo S256x384 i broadcasts_S256x1_S256x384)) (broadcastTo S256x384 (shapeCast S1x384 g shapeCasts_S1x384_S1x384) broadcasts_S1x384_S256x384)) bitsLt_bf16_f32)
    (shapeCast S384x1024 w shapeCasts_S384x1024_S384x1024) (constant S256x1024 .f32 0x00000000#32)
end

/-- The inverse root mean square of a group. -/
def ginv (v : Fin 384 → EReal) : EReal := Ideal.rsqrt (Ideal.div (∑ k, v k * v k) (Ideal.ofBits .f32 0x43C00000#32) + eps)

theorem grp_at (y z : Vec Ideal S256x384 .f32) (g : Vec Ideal S1x384 .f32) (w : Vec Ideal S384x1024 .bf16) (r : Fin 256) (j : Fin 1024) :
    grp y z g w (ix2 r j) = ∑ k : Fin 384, (y (ix2 r k) * act (z (ix2 r k)) * ginv (fun k => y (ix2 r k) * act (z (ix2 r k))) * g (ix2 0 k)) * w (ix2 k j) := by
  unfold act half ginv eps
  pointwise [grp]

end Cert.MixerIdeal.Value
-- ==== Proof.MixModel.lean ====
/-
  What one grid point of the mixer computes from the tile it mixes, as functions of row and column (untrusted): the
  activation, the running sums, the state and the output, and how a load of a staged buffer or of a buffer written
  piece by piece reads.
-/
module

public import proofs.«01_k».proof.Proof.MixTile
public import proofs.«01_k».proof.Proof.MixSums
public import proofs.«01_k».proof.Proof.MixChunk
public import Idealize.ShloMosaic.Lib.Pipeline.ValueKit
public import Idealize.ShloMosaic.Lib.Pipeline.ReadBack

@[expose] public section

set_option maxRecDepth 16384

noncomputable section

namespace Cert.MixerIdeal.Value

open Cert.MixerIdeal Cert.MixerIdeal.Gen Idealize.ShloMosaic Idealize.ShloMosaic.TcCoe Idealize.SL.Sem
open Cert.Layer

/-! ## Loads -/

/-- A load of a block of a staged buffer. -/
theorem rd2 {sp : Space} {a b a' b' : ℕ} {e : EltTy} (M : Memref sig .tc sp (⟨2, ![a, b]⟩ : Shape) e) (hM : M.IsWhole)
    (X : Vec Ideal (⟨2, ![a, b]⟩ : Shape) e) (f : ℕ → ℕ → Elt Ideal e) (m n : ℕ)
    (hX : ∀ (i : Fin a) (j : Fin b), i.val < m → j.val < n → X (ix2 i j) = f i.val j.val) (o0 o1 : ℕ)
    (inb : ∀ x, (![o0, o1] : Fin 2 → ℕ) x + (⟨2, ![a', b']⟩ : Shape).size x ≤ (⟨2, ![a, b]⟩ : Shape).size x) (h0 : o0 + a' ≤ m) (h1 : o1 + b' ≤ n) (i : Fin a') (j : Fin b') :
    M.view.readAt (Elt Ideal) (Rect.unit (s := (⟨2, ![a, b]⟩ : Shape)) ![o0, o1] (⟨2, ![a', b']⟩ : Shape).size inb).toLoadRect (hM.unread X) (ix2 i j) = f (o0 + i.val) (o1 + j.val) := by
  have ha : o0 + a' ≤ a := inb 0
  have hb : o1 + b' ≤ b := inb 1
  have hi := i.isLt
  have hj := j.isLt
  rw [View.readAt_eq_ld, hM.read_unread]
  refine (congrArg X ?_).trans (hX ⟨o0 + i.val, by omega⟩ ⟨o1 + j.val, by omega⟩ (by show o0 + i.val < m; omega) (by show o1 + j.val < n; omega))
  funext x; apply Fin.ext
  match x with
  | ⟨0, _⟩ => show o0 + 1 * i.val = o0 + i.val; omega
  | ⟨1, _⟩ => show o1 + 1 * j.val = o1 + j.val; omega

theorem rd3 {sp : Space} {a b d a' b' d' : ℕ} {e : EltTy} (M : Memref sig .tc sp (⟨3, ![a, b, d]⟩ : Shape) e) (hM : M.IsWhole)
    (X : Vec Ideal (⟨3, ![a, b, d]⟩ : Shape) e) (f : ℕ → ℕ → ℕ → Elt Ideal e)
    (hX : ∀ (i : Fin a) (j : Fin b) (k : Fin d), X (ix3 i j k) = f i.val j.val k.val) (o0 o1 o2 : ℕ)
    (inb : ∀ x, (![o0, o1, o2] : Fin 3 → ℕ) x + (⟨3, ![a', b', d']⟩ : Shape).size x ≤ (⟨3, ![a, b, d]⟩ : Shape).size x) (i : Fin a') (j : Fin b') (k : Fin d') :
    M.view.readAt (Elt Ideal) (Rect.unit (s := (⟨3, ![a, b, d]⟩ : Shape)) ![o0, o1, o2] (⟨3, ![a', b', d']⟩ : Shape).size inb).toLoadRect (hM.unread X) (ix3 i j k)
      = f (o0 + i.val) (o1 + j.val) (o2 + k.val) := by
  have ha : o0 + a' ≤ a := inb 0
  have hb : o1 + b' ≤ b := inb 1
  have hd : o2 + d' ≤ d := inb 2
  have hi := i.isLt
  have hj := j.isLt
  have hk := k.isLt
  rw [View.readAt_eq_ld, hM.read_unread]
  refine (congrArg X ?_).trans (hX ⟨o0 + i.val, by omega⟩ ⟨o1 + j.val, by omega⟩ ⟨o2 + k.val, by omega⟩)
  funext x; apply Fin.ext
  match x with
  | ⟨0, _⟩ => show o0 + 1 * i.val = o0 + i.val; omega
  | ⟨1, _⟩ => show o1 + 1 * j.val = o1 + j.val; omega
  | ⟨2, _⟩ => show o2 + 1 * k.val = o2 + k.val; omega

/-- A load of a block of a buffer written piece by piece. -/
theorem cov2 {sp : Space} {a b a' b' : ℕ} {e : EltTy} (v : View sig .tc sp (⟨2, ![a, b]⟩ : Shape) e)
    (L : List (View.Piece (Elt Ideal) (⟨2, ![a, b]⟩ : Shape) e)) (f : ℕ → ℕ → Elt Ideal e) (m n : ℕ)
    (hX : ∀ (i : Fin a) (j : Fin b), i.val < m → j.val < n → View.canon L (ix2 i j) = f i.val j.val) (o0 o1 : ℕ)
    (inb : ∀ x, (![o0, o1] : Fin 2 → ℕ) x + (⟨2, ![a', b']⟩ : Shape).size x ≤ (⟨2, ![a, b]⟩ : Shape).size x) (h0 : o0 + a' ≤ m) (h1 : o1 + b' ≤ n) (i : Fin a') (j : Fin b') :
    v.readCov L (Rect.unit (s := (⟨2, ![a, b]⟩ : Shape)) ![o0, o1] (⟨2, ![a', b']⟩ : Shape).size inb).toLoadRect (ix2 i j) = f (o0 + i.val) (o1 + j.val) := by
  have ha : o0 + a' ≤ a := inb 0
  have hb : o1 + b' ≤ b := inb 1
  have hi := i.isLt
  have hj := j.isLt
  rw [View.readCov_eq_canon']
  refine (congrArg (View.canon L) ?_).trans (hX ⟨o0 + i.val, by omega⟩ ⟨o1 + j.val, by omega⟩ (by show o0 + i.val < m; omega) (by show o1 + j.val < n; omega))
  funext x; apply Fin.ext
  match x with
  | ⟨0, _⟩ => show o0 + 1 * i.val = o0 + i.val; omega
  | ⟨1, _⟩ => show o1 + 1 * j.val = o1 + j.val; omega

/-- One piece of a buffer holds a function's block. -/
theorem piece2 {a b a' b' : ℕ} {e : EltTy} (f : ℕ → ℕ → Elt Ideal e) (o0 o1 : ℕ)
    (inb : ∀ x, (![o0, o1] : Fin 2 → ℕ) x + (⟨2, ![a', b']⟩ : Shape).size x ≤ (⟨2, ![a, b]⟩ : Shape).size x) (w : Vec Ideal (⟨2, ![a', b']⟩ : Shape) e)
    (hw : ∀ (i : Fin a') (j : Fin b'), w (ix2 i j) = f (o0 + i.val) (o1 + j.val)) (x : (⟨2, ![a', b']⟩ : Shape).Idx) :
    w x = (fun y : (⟨2, ![a, b]⟩ : Shape).Idx => f (y 0).val (y 1).val) ((Rect.unit (s := (⟨2, ![a, b]⟩ : Shape)) ![o0, o1] (⟨2, ![a', b']⟩ : Shape).size inb).emb x) := by
  have e : x = ix2 (x 0) (x 1) := by
    funext y
    match y with
    | ⟨0, _⟩ => rfl
    | ⟨1, _⟩ => rfl
  refine ((congrArg w e).trans (hw (x 0) (x 1))).trans ?_
  show f (o0 + (x 0).val) (o1 + (x 1).val) = f (o0 + 1 * (x 0).val) (o1 + 1 * (x 1).val)
  rw [Nat.one_mul, Nat.one_mul]

theorem canon2 {a b : ℕ} {e : EltTy} (f : ℕ → ℕ → Elt Ideal e) (L : List (View.Piece (Elt Ideal) (⟨2, ![a, b]⟩ : Shape) e))
    (h : View.PiecesOf (fun y : (⟨2, ![a, b]⟩ : Shape).Idx => f (y 0).val (y 1).val) L) (i : Fin a) (j : Fin b) (hc : ∃ p ∈ L, ix2 i j ∈ p.1.set) :
    View.canon L (ix2 i j) = f i.val j.val := by
  have := View.canon_append_of_piecesOf _ [] L h (ix2 i j) hc
  rwa [List.append_nil] at this

/-- A buffer written whole. -/
theorem whole2 {a b : ℕ} {e : EltTy} (inb : ∀ x, (![0, 0] : Fin 2 → ℕ) x + (⟨2, ![a, b]⟩ : Shape).size x ≤ (⟨2, ![a, b]⟩ : Shape).size x)
    (w : Vec Ideal (⟨2, ![a, b]⟩ : Shape) e) (L : List (View.Piece (Elt Ideal) (⟨2, ![a, b]⟩ : Shape) e)) :
    View.canon ((⟨Rect.unit (s := (⟨2, ![a, b]⟩ : Shape)) ![0, 0] (⟨2, ![a, b]⟩ : Shape).size inb, w⟩ : View.Piece (Elt Ideal) (⟨2, ![a, b]⟩ : Shape) e) :: L) = w :=
  View.canon_cons_unit_lit inb w L (fun x => by match x with | ⟨0, _⟩ => rfl | ⟨1, _⟩ => rfl)

/-! ## One tile -/

/-- The tile a point mixes: its projected rows, the rows before it that the convolution and the pooling reach, the state entering it, the
    parameters, and the tile's place in its sequence. -/
structure Tile where
  U : ℕ → ℕ → EReal
  H : ℕ → ℕ → EReal
  G : ℕ → ℕ → EReal
  S : ℕ → ℕ → EReal
  cw : ℕ → ℕ → EReal
  cb : ℕ → EReal
  dtb : ℕ → EReal
  al : ℕ → EReal
  dsk : ℕ → EReal
  ng : ℕ → EReal
  ps : ℕ → EReal
  wp : ℕ → ℕ → ℕ → EReal
  wo : ℕ → ℕ → EReal
  a : ℕ

namespace Tile

variable (T : Tile)

/-- The convolution's input: eight rows of history, then the tile. -/
def e (q c : ℕ) : EReal := if q < 8 then T.H q c else T.U (q - 8) (2048 + c)
/-- The activation of the convolved row. -/
def act (r c : ℕ) : EReal := silu (conv (T.cw 0 c) (T.cw 1 c) (T.cw 2 c) (T.cw 3 c) (T.cb c) (T.e (5 + r) c) (T.e (6 + r) c) (T.e (7 + r) c) (T.e (8 + r) c))
/-- The pooling's input: sixteen rows of history, then the tile. -/
def ep (q c : ℕ) : EReal := if q < 16 then T.G q c else T.U (q - 16) c
/-- The pooled output over windows of `n` rows. -/
def pool (n r c : ℕ) : EReal :=
  (∑ k : Fin 128, (Ideal.div (back (fun q => T.ep q (c / 128 * 128 + k.val)) (16 + r) n) (cnt n (T.a * 256 + r)) - T.ep (16 + r) (c / 128 * 128 + k.val))
    * T.wp (c / 128) k.val (c % 128)) * T.ps c
/-- A head's step. -/
def dt (r h : ℕ) : EReal := sp (T.U r (4608 + h) + T.dtb h)
/-- A head's log-decay over a step. -/
def da (h r : ℕ) : EReal := T.dt r h * -(Ideal.exp (T.al h))
/-- The log-decay from the chunk's start. -/
def acs (r h : ℕ) : EReal := back (T.da h) r (r % 64 + 1)
def q (r h : ℕ) : EReal := T.acs r h - Ideal.log (T.dt r h)
/-- The weight of row `m` in row `r`. -/
def w (r m c : ℕ) : EReal :=
  (∑ n : Fin 128, T.act r (2048 + 128 * (c / 384) + n.val) * T.act m (1536 + 128 * (c / 384) + n.val))
    * Ideal.exp (if m % 64 ≤ r % 64 then T.acs r (c / 64) - T.q m (c / 64) else ⊥)
/-- The part of a row's output from its own chunk. -/
def intra (k l c : ℕ) : EReal := ∑ m : Fin 64, T.w (64 * k + l) (64 * k + m.val) c * T.act (64 * k + m.val) c
/-- What a chunk adds to the state. -/
def inc (k n c : ℕ) : EReal :=
  ∑ m : Fin 64, T.act (64 * k + m.val) (1536 + 128 * (c / 384) + n)
    * (T.act (64 * k + m.val) c * Ideal.exp (T.acs (64 * k + 63) (c / 64) - T.q (64 * k + m.val) (c / 64)))
/-- The state entering chunk `k` of the tile. -/
def st : ℕ → ℕ → ℕ → EReal
  | 0, n, c => T.S n c
  | k + 1, n, c => st k n c * Ideal.exp (T.acs (64 * k + 63) (c / 64)) + T.inc k n c
/-- The scan's output. -/
def y (r c : ℕ) : EReal :=
  T.intra (r / 64) (r % 64) c + (∑ n : Fin 128, T.act r (2048 + 128 * (c / 384) + n.val) * T.st (r / 64) n.val c) * Ideal.exp (T.acs r (c / 64)) + T.dsk c * T.act r c
/-- The gated output. -/
def gt (r c : ℕ) : EReal := T.y r c * Layer.act (T.U r (512 + c))
/-- A group's normed output through its rows of the output matrix. -/
def part (g r j : ℕ) : EReal :=
  ∑ k : Fin 384, (T.gt r (384 * g + k.val) * ginv (fun k => T.gt r (384 * g + k.val)) * T.ng (384 * g + k.val)) * T.wo (512 + 384 * g + k.val) j
/-- The output projection. -/
def mix (r j : ℕ) : EReal :=
  (∑ k : Fin 512, T.pool (2 ^ (k.val / 128 + 1)) r k.val * T.wo k.val j) + T.part 0 r j + T.part 1 r j + T.part 2 r j + T.part 3 r j

end Tile

/-- The parameters and the projected rows a point reads are the tile's; what must be real is. -/
structure Reads (T : Tile) (x7 : Vec Ideal S4x2560 .f32) (x8 : Vec Ideal S1x2560 .f32) (x9 : Vec Ideal S4x128x128 .bf16) (x10 : Vec Ideal S1x512 .f32) (x11 x12 : Vec Ideal S1x128 .f32)
    (x13 x14 : Vec Ideal S1x1536 .f32) (x15 : Vec Ideal S128x1536 .bf16) (x16 : Vec Ideal S2048x1024 .bf16) (P : Vec Ideal S256x4736 .f32) : Prop where
  cw : ∀ (i : Fin 4) (j : Fin 2560), i.val < 4 → j.val < 2560 → x7 (ix2 i j) = T.cw i.val j.val
  cb : ∀ (i : Fin 1) (j : Fin 2560), i.val < 1 → j.val < 2560 → x8 (ix2 i j) = T.cb j.val
  wp : ∀ (i : Fin 4) (j k : Fin 128), x9 (ix3 i j k) = T.wp i.val j.val k.val
  ps : ∀ (i : Fin 1) (j : Fin 512), i.val < 1 → j.val < 512 → x10 (ix2 i j) = T.ps j.val
  dtb : ∀ j : Fin 128, j.val < 24 → x11 (ix2 0 j) = T.dtb j.val
  al : ∀ j : Fin 128, j.val < 24 → x12 (ix2 0 j) = T.al j.val
  dsk : ∀ (i : Fin 1) (j : Fin 1536), i.val < 1 → j.val < 1536 → x13 (ix2 i j) = T.dsk j.val
  ng : ∀ (i : Fin 1) (j : Fin 1536), i.val < 1 → j.val < 1536 → x14 (ix2 i j) = T.ng j.val
  e3 : ∀ (i : Fin 128) (j : Fin 1536), i.val < 128 → j.val < 1536 → x15 (ix2 i j) = if i.val % 32 = j.val / 64 ∧ i.val < 96 then 1 else 0
  wo : ∀ (i : Fin 2048) (j : Fin 1024), i.val < 2048 → j.val < 1024 → x16 (ix2 i j) = T.wo i.val j.val
  U : ∀ (i : Fin 256) (j : Fin 4736), i.val < 256 → j.val < 4632 → P (ix2 i j) = T.U i.val j.val
  rcw : ∀ i c, c < 2560 → Fin' (T.cw i c)
  rcb : ∀ c, c < 2560 → Fin' (T.cb c)
  rU : ∀ r c, c < 4632 → Fin' (T.U r c)
  rH : ∀ q c, c < 2560 → Fin' (T.H q c)
  rdtb : ∀ c, c < 24 → Fin' (T.dtb c)
  ha : T.a < 16

theorem Reads.re {T : Tile} {x7 x8 x9 x10 x11 x12 x13 x14 x15 x16 P} (h : Reads T x7 x8 x9 x10 x11 x12 x13 x14 x15 x16 P) (q c : ℕ) (hc : c < 2560) : Fin' (T.e q c) := by
  unfold Tile.e; split
  · exact h.rH _ _ hc
  · exact h.rU _ _ (by omega)

theorem Reads.rdt {T : Tile} {x7 x8 x9 x10 x11 x12 x13 x14 x15 x16 P} (h : Reads T x7 x8 x9 x10 x11 x12 x13 x14 x15 x16 P) (r c : ℕ) (hc : c < 24) : Fin' (T.dt r c) :=
  sp_real ((h.rU _ _ (by omega)).add (h.rdtb _ hc))

theorem Reads.rda {T : Tile} {x7 x8 x9 x10 x11 x12 x13 x14 x15 x16 P} (h : Reads T x7 x8 x9 x10 x11 x12 x13 x14 x15 x16 P) (r c : ℕ) (hc : c < 24) : Bt (T.da c r) :=
  (decay_cases (T.al c)).elim (fun e => Or.inl ((h.rdt r c hc).mul e)) fun e => Or.inr (e _ ((h.rU _ _ (by omega)).add (h.rdtb _ hc)))

theorem Reads.racs {T : Tile} {x7 x8 x9 x10 x11 x12 x13 x14 x15 x16 P} (h : Reads T x7 x8 x9 x10 x11 x12 x13 x14 x15 x16 P) (r c : ℕ) (hc : c < 24) : Bt (T.acs r c) :=
  Bt.back (fun k => h.rda k c hc) _ _

theorem Reads.rq {T : Tile} {x7 x8 x9 x10 x11 x12 x13 x14 x15 x16 P} (h : Reads T x7 x8 x9 x10 x11 x12 x13 x14 x15 x16 P) (r c : ℕ) (hc : c < 24) : Bt (T.q r c) :=
  (h.racs r c hc).sub (log_sp_real ((h.rU _ _ (by omega)).add (h.rdtb _ hc)))

theorem Tile.e_hist (T : Tile) (q : Fin 8) (o : ℕ) : T.H (0 + q.val) o = T.e q.val o := by
  unfold Tile.e
  rw [if_pos q.isLt, Nat.zero_add]

theorem Tile.e_tile (T : Tile) (r c q k : ℕ) (hq : q = 8 + r) (hc : c = 2048 + k) : T.U (0 + r) c = T.e q k := by
  subst hq hc
  unfold Tile.e
  rw [if_neg (by omega), Nat.zero_add, Nat.add_sub_cancel_left]

theorem Tile.ep_hist (T : Tile) (q : Fin 16) (o : ℕ) : T.G (0 + q.val) o = T.ep q.val o := by
  unfold Tile.ep
  rw [if_pos q.isLt, Nat.zero_add]

theorem Tile.ep_tile (T : Tile) (r q k : ℕ) (hq : q = 16 + r) : T.U (0 + r) k = T.ep q k := by
  subst hq
  unfold Tile.ep
  rw [if_neg (by omega), Nat.zero_add, Nat.add_sub_cancel_left]

theorem Tile.act_congr (T : Tile) {r r' c c' : ℕ} (hr : r = r') (hc : c = c') : T.act r c = T.act r' c' := by rw [hr, hc]

theorem real_of {x y : EReal} (e : x = y) (h : Bt y) : Bt x := e ▸ h

theorem Tile.act_of (T : Tile) {r c : ℕ} {w0 w1 w2 w3 b : EReal} (h0 : w0 = T.cw 0 c) (h1 : w1 = T.cw 1 c) (h2 : w2 = T.cw 2 c) (h3 : w3 = T.cw 3 c) (hb : b = T.cb c) :
    silu (conv w0 w1 w2 w3 b (T.e (5 + r) c) (T.e (6 + r) c) (T.e (7 + r) c) (T.e (8 + r) c)) = T.act r c := by
  rw [h0, h1, h2, h3, hb]; rfl

theorem cutf0 (v : FVec Ideal S256x512 .f32) (hs : S256x512.Slices ![0, 0] S256x128) (hc : S256x128.ShapeCasts S256x128) (r : Fin 256) (k : Fin 128) :
    shapeCast S256x128 (extractStridedSlice S256x128 ![0, 0] v hs) hc (ix2 r k) = v (ix2 r ⟨0 + k.val, by omega⟩) := by
  pointwise

theorem cutf128 (v : FVec Ideal S256x512 .f32) (hs : S256x512.Slices ![0, 128] S256x128) (hc : S256x128.ShapeCasts S256x128) (r : Fin 256) (k : Fin 128) :
    shapeCast S256x128 (extractStridedSlice S256x128 ![0, 128] v hs) hc (ix2 r k) = v (ix2 r ⟨128 + k.val, by omega⟩) := by
  pointwise

theorem cutf256 (v : FVec Ideal S256x512 .f32) (hs : S256x512.Slices ![0, 256] S256x128) (hc : S256x128.ShapeCasts S256x128) (r : Fin 256) (k : Fin 128) :
    shapeCast S256x128 (extractStridedSlice S256x128 ![0, 256] v hs) hc (ix2 r k) = v (ix2 r ⟨256 + k.val, by omega⟩) := by
  pointwise

theorem cutf384 (v : FVec Ideal S256x512 .f32) (hs : S256x512.Slices ![0, 384] S256x128) (hc : S256x128.ShapeCasts S256x128) (r : Fin 256) (k : Fin 128) :
    shapeCast S256x128 (extractStridedSlice S256x128 ![0, 384] v hs) hc (ix2 r k) = v (ix2 r ⟨384 + k.val, by omega⟩) := by
  pointwise

theorem cutb0 (v : FVec Ideal S256x512 .f32) (hs : S256x512.Slices ![0, 0] S256x128) (hb) (hc : S256x128.ShapeCasts S256x128) (r : Fin 256) (k : Fin 128) :
    (shapeCast S256x128 (truncf .bf16 (extractStridedSlice S256x128 ![0, 0] v hs) hb) hc : FVec Ideal S256x128 .bf16) (ix2 r k) = v (ix2 r ⟨0 + k.val, by omega⟩) := by
  pointwise

theorem cutb128 (v : FVec Ideal S256x512 .f32) (hs : S256x512.Slices ![0, 128] S256x128) (hb) (hc : S256x128.ShapeCasts S256x128) (r : Fin 256) (k : Fin 128) :
    (shapeCast S256x128 (truncf .bf16 (extractStridedSlice S256x128 ![0, 128] v hs) hb) hc : FVec Ideal S256x128 .bf16) (ix2 r k) = v (ix2 r ⟨128 + k.val, by omega⟩) := by
  pointwise

theorem cutb256 (v : FVec Ideal S256x512 .f32) (hs : S256x512.Slices ![0, 256] S256x128) (hb) (hc : S256x128.ShapeCasts S256x128) (r : Fin 256) (k : Fin 128) :
    (shapeCast S256x128 (truncf .bf16 (extractStridedSlice S256x128 ![0, 256] v hs) hb) hc : FVec Ideal S256x128 .bf16) (ix2 r k) = v (ix2 r ⟨256 + k.val, by omega⟩) := by
  pointwise

theorem cutb384 (v : FVec Ideal S256x512 .f32) (hs : S256x512.Slices ![0, 384] S256x128) (hb) (hc : S256x128.ShapeCasts S256x128) (r : Fin 256) (k : Fin 128) :
    (shapeCast S256x128 (truncf .bf16 (extractStridedSlice S256x128 ![0, 384] v hs) hb) hc : FVec Ideal S256x128 .bf16) (ix2 r k) = v (ix2 r ⟨384 + k.val, by omega⟩) := by
  pointwise

end Cert.MixerIdeal.Value
-- ==== Proof.MixPoint.lean ====
/-
  One grid point of the mixer over a tile (untrusted): a buffer written piece by piece read at an entry, and each of a
  chunk's sections as the tile's activation, weights, state and output.
-/
module

public import proofs.«01_k».proof.Proof.MixModel

@[expose] public section

set_option maxRecDepth 16384

noncomputable section

namespace Cert.MixerIdeal.Value

open Cert.MixerIdeal Cert.MixerIdeal.Gen Idealize.ShloMosaic Idealize.ShloMosaic.TcCoe Idealize.SL.Sem
open Cert.Layer

/-! ## Buffers written piece by piece -/

/-- One more piece that holds a function's block. -/
theorem pc2 {a b a' b' : ℕ} {e : EltTy} (f : ℕ → ℕ → Elt Ideal e) (o0 o1 : ℕ)
    (inb : ∀ x, (![o0, o1] : Fin 2 → ℕ) x + (⟨2, ![a', b']⟩ : Shape).size x ≤ (⟨2, ![a, b]⟩ : Shape).size x) (w : Vec Ideal (⟨2, ![a', b']⟩ : Shape) e)
    (L : List (View.Piece (Elt Ideal) (⟨2, ![a, b]⟩ : Shape) e))
    (hw : ∀ (i : Fin a') (j : Fin b'), w (ix2 i j) = f (o0 + i.val) (o1 + j.val))
    (hL : View.PiecesOf (fun y : (⟨2, ![a, b]⟩ : Shape).Idx => f (y 0).val (y 1).val) L) :
    View.PiecesOf (fun y : (⟨2, ![a, b]⟩ : Shape).Idx => f (y 0).val (y 1).val)
      ((⟨Rect.unit (s := (⟨2, ![a, b]⟩ : Shape)) ![o0, o1] (⟨2, ![a', b']⟩ : Shape).size inb, w⟩ : View.Piece (Elt Ideal) (⟨2, ![a, b]⟩ : Shape) e) :: L) :=
  ⟨piece2 f o0 o1 inb w hw, hL⟩

/-- A load of a buffer written piece by piece, at an entry. -/
theorem covAt2 {sp : Space} {a b a' b' : ℕ} {e : EltTy} (v : View sig .tc sp (⟨2, ![a, b]⟩ : Shape) e)
    (L : List (View.Piece (Elt Ideal) (⟨2, ![a, b]⟩ : Shape) e)) (o0 o1 : ℕ)
    (inb : ∀ x, (![o0, o1] : Fin 2 → ℕ) x + (⟨2, ![a', b']⟩ : Shape).size x ≤ (⟨2, ![a, b]⟩ : Shape).size x) (i : Fin a') (j : Fin b')
    (h0 : o0 + i.val < a) (h1 : o1 + j.val < b) :
    v.readCov L (Rect.unit (s := (⟨2, ![a, b]⟩ : Shape)) ![o0, o1] (⟨2, ![a', b']⟩ : Shape).size inb).toLoadRect (ix2 i j)
      = View.canon L (ix2 ⟨o0 + i.val, h0⟩ ⟨o1 + j.val, h1⟩) := by
  rw [View.readCov_eq_canon']
  refine congrArg (View.canon L) ?_
  funext x; apply Fin.ext
  match x with
  | ⟨0, _⟩ => show o0 + 1 * i.val = o0 + i.val; omega
  | ⟨1, _⟩ => show o1 + 1 * j.val = o1 + j.val; omega

theorem miss2 {a b a' b' : ℕ} {e : EltTy} (o0 o1 : ℕ)
    (inb : ∀ x, (![o0, o1] : Fin 2 → ℕ) x + (⟨2, ![a', b']⟩ : Shape).size x ≤ (⟨2, ![a, b]⟩ : Shape).size x) (w : Vec Ideal (⟨2, ![a', b']⟩ : Shape) e)
    (L : List (View.Piece (Elt Ideal) (⟨2, ![a, b]⟩ : Shape) e)) (i : Fin a) (j : Fin b) (h : j.val < o1 ∨ o1 + b' ≤ j.val) :
    View.canon ((⟨Rect.unit (s := (⟨2, ![a, b]⟩ : Shape)) ![o0, o1] (⟨2, ![a', b']⟩ : Shape).size inb, w⟩ : View.Piece (Elt Ideal) (⟨2, ![a, b]⟩ : Shape) e) :: L) (ix2 i j)
      = View.canon L (ix2 i j) := by
  refine View.canon_cons_of_not_mem _ _ ?_
  intro hm
  have := (Rect.mem_set_unit (inb := inb)).mp hm 1
  have h1 : o1 ≤ j.val := this.1
  have h2 : j.val < o1 + b' := this.2
  omega

/-- An entry lies in one of the pieces: in the last one, or before it. -/
theorem in2 {a b a' b' : ℕ} {e : EltTy} (o1 : ℕ)
    (inb : ∀ x, (![0, o1] : Fin 2 → ℕ) x + (⟨2, ![a', b']⟩ : Shape).size x ≤ (⟨2, ![a, b]⟩ : Shape).size x) (w : Vec Ideal (⟨2, ![a', b']⟩ : Shape) e)
    (L : List (View.Piece (Elt Ideal) (⟨2, ![a, b]⟩ : Shape) e)) (i : Fin a) (j : Fin b) (hi : i.val < a') (hj : j.val < o1 + b')
    (h : j.val < o1 → ∃ p ∈ L, ix2 i j ∈ p.1.set) :
    ∃ p ∈ ((⟨Rect.unit (s := (⟨2, ![a, b]⟩ : Shape)) ![0, o1] (⟨2, ![a', b']⟩ : Shape).size inb, w⟩ : View.Piece (Elt Ideal) (⟨2, ![a, b]⟩ : Shape) e) :: L), ix2 i j ∈ p.1.set := by
  by_cases hjo : j.val < o1
  · obtain ⟨p, hp, hm⟩ := h hjo
    exact ⟨p, List.mem_cons_of_mem _ hp, hm⟩
  · refine ⟨_, List.mem_cons_self, (Rect.mem_set_unit (inb := inb)).mpr fun x => ?_⟩
    match x with
    | ⟨0, _⟩ => exact ⟨Nat.zero_le _, by show i.val < 0 + a'; omega⟩
    | ⟨1, _⟩ => exact ⟨by show o1 ≤ j.val; omega, hj⟩

/-- The state's buffer holds one group's rows at a time. -/
theorem hitS {a b d : ℕ} {e : EltTy} (g : ℕ)
    (inb : ∀ x, (![g, 0, 0] : Fin 3 → ℕ) x + (⟨3, ![1, b, d]⟩ : Shape).size x ≤ (⟨3, ![a, b, d]⟩ : Shape).size x) (w : Vec Ideal (⟨3, ![1, b, d]⟩ : Shape) e)
    (L : List (View.Piece (Elt Ideal) (⟨3, ![a, b, d]⟩ : Shape) e)) (hg : g < a) (n : Fin b) (c : Fin d) :
    View.canon ((⟨Rect.unit (s := (⟨3, ![a, b, d]⟩ : Shape)) ![g, 0, 0] (⟨3, ![1, b, d]⟩ : Shape).size inb, w⟩ : View.Piece (Elt Ideal) (⟨3, ![a, b, d]⟩ : Shape) e) :: L)
      (ix3 ⟨g, hg⟩ n c) = w (ix3 0 n c) := by
  refine Eq.trans (congrArg _ ?_) (View.canon_cons_emb _ _ _ _)
  funext x; apply Fin.ext
  match x with
  | ⟨0, _⟩ => show g = g + 1 * 0; omega
  | ⟨1, _⟩ => show n.val = 0 + 1 * n.val; omega
  | ⟨2, _⟩ => show c.val = 0 + 1 * c.val; omega

theorem missS {a b d : ℕ} {e : EltTy} (g' g : ℕ)
    (inb : ∀ x, (![g', 0, 0] : Fin 3 → ℕ) x + (⟨3, ![1, b, d]⟩ : Shape).size x ≤ (⟨3, ![a, b, d]⟩ : Shape).size x) (w : Vec Ideal (⟨3, ![1, b, d]⟩ : Shape) e)
    (L : List (View.Piece (Elt Ideal) (⟨3, ![a, b, d]⟩ : Shape) e)) (hg : g < a) (n : Fin b) (c : Fin d) (h : g ≠ g') :
    View.canon ((⟨Rect.unit (s := (⟨3, ![a, b, d]⟩ : Shape)) ![g', 0, 0] (⟨3, ![1, b, d]⟩ : Shape).size inb, w⟩ : View.Piece (Elt Ideal) (⟨3, ![a, b, d]⟩ : Shape) e) :: L)
      (ix3 ⟨g, hg⟩ n c) = View.canon L (ix3 ⟨g, hg⟩ n c) := by
  refine View.canon_cons_of_not_mem _ _ ?_
  intro hm
  have := (Rect.mem_set_unit (inb := inb)).mp hm 0
  have h1 : g' ≤ g := this.1
  have h2 : g < g' + 1 := this.2
  omega

theorem wholeS {a b d : ℕ} {e : EltTy} (inb : ∀ x, (![0, 0, 0] : Fin 3 → ℕ) x + (⟨3, ![a, b, d]⟩ : Shape).size x ≤ (⟨3, ![a, b, d]⟩ : Shape).size x)
    (w : Vec Ideal (⟨3, ![a, b, d]⟩ : Shape) e) (L : List (View.Piece (Elt Ideal) (⟨3, ![a, b, d]⟩ : Shape) e)) :
    View.canon ((⟨Rect.unit (s := (⟨3, ![a, b, d]⟩ : Shape)) ![0, 0, 0] (⟨3, ![a, b, d]⟩ : Shape).size inb, w⟩ : View.Piece (Elt Ideal) (⟨3, ![a, b, d]⟩ : Shape) e) :: L) = w :=
  View.canon_cons_unit_lit inb w L (fun x => by match x with | ⟨0, _⟩ => rfl | ⟨1, _⟩ => rfl | ⟨2, _⟩ => rfl)

theorem covS {sp : Space} {a b d : ℕ} {e : EltTy} (v : View sig .tc sp (⟨3, ![a, b, d]⟩ : Shape) e)
    (L : List (View.Piece (Elt Ideal) (⟨3, ![a, b, d]⟩ : Shape) e)) (g : ℕ)
    (inb : ∀ x, (![g, 0, 0] : Fin 3 → ℕ) x + (⟨3, ![1, b, d]⟩ : Shape).size x ≤ (⟨3, ![a, b, d]⟩ : Shape).size x) (hg : g < a) (n : Fin b) (c : Fin d) :
    v.readCov L (Rect.unit (s := (⟨3, ![a, b, d]⟩ : Shape)) ![g, 0, 0] (⟨3, ![1, b, d]⟩ : Shape).size inb).toLoadRect (ix3 0 n c)
      = View.canon L (ix3 ⟨g, hg⟩ n c) := by
  rw [View.readCov_eq_canon']
  refine congrArg (View.canon L) ?_
  funext x; apply Fin.ext
  match x with
  | ⟨0, _⟩ => show g + 1 * 0 = g; omega
  | ⟨1, _⟩ => show 0 + 1 * n.val = n.val; omega
  | ⟨2, _⟩ => show 0 + 1 * c.val = c.val; omega

/-- The first chunk reads the state the tile is handed. -/
theorem rdS {sp : Space} {b d : ℕ} {e : EltTy} (M : Memref sig .tc sp (⟨3, ![4, b, d]⟩ : Shape) e) (hM : M.IsWhole)
    (X : Vec Ideal (⟨3, ![4, b, d]⟩ : Shape) e) (f : ℕ → ℕ → Elt Ideal e)
    (hX : ∀ (i : Fin 4) (j : Fin b) (k : Fin d), X (ix3 i j k) = f j.val (d * i.val + k.val)) (g : ℕ)
    (inb : ∀ x, (![g, 0, 0] : Fin 3 → ℕ) x + (⟨3, ![1, b, d]⟩ : Shape).size x ≤ (⟨3, ![4, b, d]⟩ : Shape).size x) (n : Fin b) (c : Fin d) :
    M.view.readAt (Elt Ideal) (Rect.unit (s := (⟨3, ![4, b, d]⟩ : Shape)) ![g, 0, 0] (⟨3, ![1, b, d]⟩ : Shape).size inb).toLoadRect (hM.unread X) (ix3 0 n c)
      = f n.val (d * g + c.val) := by
  have hg : g + 1 ≤ 4 := inb 0
  rw [View.readAt_eq_ld, hM.read_unread]
  refine (congrArg X ?_).trans (hX ⟨g, by omega⟩ n c)
  funext x; apply Fin.ext
  match x with
  | ⟨0, _⟩ => show g + 1 * 0 = g; omega
  | ⟨1, _⟩ => show 0 + 1 * n.val = n.val; omega
  | ⟨2, _⟩ => show 0 + 1 * c.val = c.val; omega

/-! ## A chunk -/

/-- The scores of a chunk's rows. -/
theorem scores_tile (T : Tile) (k g : ℕ) (B C : Vec Ideal S64x128 .bf16)
    (hB : ∀ (m : Fin 64) (n : Fin 128), B (ix2 m n) = T.act (64 * k + m.val) (1536 + (128 * g + n.val)))
    (hC : ∀ (m : Fin 64) (n : Fin 128), C (ix2 m n) = T.act (64 * k + m.val) (2048 + (128 * g + n.val))) (l : Fin 64) (j : Fin 384) :
    k0_pay110 B C (ix2 l j) = ∑ n : Fin 128, T.act (64 * k + l.val) (2048 + (128 * g + n.val)) * T.act (64 * k + j.val % 64) (1536 + (128 * g + n.val)) := by
  refine (scores_at B C (fun m n => T.act (64 * k + m) (1536 + (128 * g + n.val))) hB l j).trans ?_
  exact Finset.sum_congr rfl fun n _ => by rw [hC]

theorem intra_tile (T : Tile) (k g : ℕ) (hg : g < 4) (sc : FVec Ideal S64x384 .f32) (ax xs : Vec Ideal S64x384 .f32) (q0 q1 q2 q3 q4 q5 : Vec Ideal S1x128 .f32)
    (hsc : ∀ (l : Fin 64) (j : Fin 384), sc (ix2 l j)
      = ∑ n : Fin 128, T.act (64 * k + l.val) (2048 + (128 * g + n.val)) * T.act (64 * k + j.val % 64) (1536 + (128 * g + n.val)))
    (hax : ∀ (l : Fin 64) (j : Fin 384), ax (ix2 l j) = T.acs (64 * k + l.val) ((384 * g + j.val) / 64))
    (hxs : ∀ (l : Fin 64) (j : Fin 384), xs (ix2 l j) = T.act (64 * k + l.val) (0 + (384 * g + j.val)))
    (h0 : ∀ j : Fin 128, j.val < 64 → q0 (ix2 0 j) = T.q (64 * k + j.val) (6 * g)) (h1 : ∀ j : Fin 128, 64 ≤ j.val → q1 (ix2 0 j) = T.q (64 * k + (j.val - 64)) (6 * g + 1))
    (h2 : ∀ j : Fin 128, j.val < 64 → q2 (ix2 0 j) = T.q (64 * k + j.val) (6 * g + 2)) (h3 : ∀ j : Fin 128, 64 ≤ j.val → q3 (ix2 0 j) = T.q (64 * k + (j.val - 64)) (6 * g + 3))
    (h4 : ∀ j : Fin 128, j.val < 64 → q4 (ix2 0 j) = T.q (64 * k + j.val) (6 * g + 4)) (h5 : ∀ j : Fin 128, 64 ≤ j.val → q5 (ix2 0 j) = T.q (64 * k + (j.val - 64)) (6 * g + 5))
    (l : Fin 64) (j : Fin 384) :
    k0_pay120 k0_pay109 xs (k0_pay118 k0_pay107 k0_pay108 sc ax q0 q1 q2 q3 q4 q5) (k0_pay119 k0_pay109 xs) (ix2 l j) = T.intra k l.val (384 * g + j.val) := by
  have e (a b a' b' : ℕ) (ha : a = a') (hb : b = b') : T.q a b = T.q a' b' := by rw [ha, hb]
  refine (intra_at _ _ (fun l j => T.act (64 * k + l) (0 + (384 * g + j))) (fun l j => T.w (64 * k + l) (64 * k + j % 64) (384 * g + j)) (fun l j => ?_) hxs l j).trans ?_
  · refine (weights_at sc ax q0 q1 q2 q3 q4 q5 (fun j => T.q (64 * k + j % 64) ((384 * g + j) / 64)) (fun j hj => (h0 j hj).trans (e _ _ _ _ ?_ ?_)) (fun j hj => (h1 j hj).trans (e _ _ _ _ ?_ ?_))
      (fun j hj => (h2 j hj).trans (e _ _ _ _ ?_ ?_)) (fun j hj => (h3 j hj).trans (e _ _ _ _ ?_ ?_)) (fun j hj => (h4 j hj).trans (e _ _ _ _ ?_ ?_)) (fun j hj => (h5 j hj).trans (e _ _ _ _ ?_ ?_)) l j).trans ?_
    · have := j.isLt; omega
    · have := j.isLt; omega
    · have := j.isLt; omega
    · have := j.isLt; omega
    · have := j.isLt; omega
    · have := j.isLt; omega
    · have := j.isLt; omega
    · have := j.isLt; omega
    · have := j.isLt; omega
    · have := j.isLt; omega
    · have := j.isLt; omega
    · have := j.isLt; omega
    · have hj := j.isLt
      have hl := l.isLt
      have c1 : (384 * g + j.val) / 384 = g := by omega
      have c2 : (64 * k + j.val % 64) % 64 = j.val % 64 := by omega
      have c3 : (64 * k + l.val) % 64 = l.val := by omega
      unfold Tile.w
      rw [c1, c2, c3, hsc, hax]
      refine congrArg₂ (· * ·) (Finset.sum_congr rfl fun n _ => ?_) rfl
      rw [Nat.add_assoc, Nat.add_assoc]
  · have hj := j.isLt
    unfold Tile.intra
    refine Finset.sum_congr rfl fun m _ => ?_
    have hm := m.isLt
    have c1 : (j.val / 64 * 64 + m.val) % 64 = m.val := by omega
    have c2 : (384 * g + (j.val / 64 * 64 + m.val)) / 384 = (384 * g + j.val) / 384 := by omega
    have c3 : (384 * g + (j.val / 64 * 64 + m.val)) / 64 = (384 * g + j.val) / 64 := by omega
    simp only [Tile.w, c1, c2, c3, Nat.zero_add]

theorem state_tile (T : Tile) (k g : ℕ) (hg : g < 4) (ax xs qx : Vec Ideal S64x384 .f32) (st : Vec Ideal S1x128x384 .f32) (B : Vec Ideal S64x128 .bf16)
    (hax : ∀ (l : Fin 64) (j : Fin 384), ax (ix2 l j) = T.acs (64 * k + l.val) ((384 * g + j.val) / 64))
    (hxs : ∀ (l : Fin 64) (j : Fin 384), xs (ix2 l j) = T.act (64 * k + l.val) (0 + (384 * g + j.val)))
    (hqx : ∀ (l : Fin 64) (j : Fin 384), qx (ix2 l j) = T.q (64 * k + l.val) ((384 * g + j.val) / 64))
    (hB : ∀ (m : Fin 64) (n : Fin 128), B (ix2 m n) = T.act (64 * k + m.val) (1536 + (128 * g + n.val)))
    (hst : ∀ (n : Fin 128) (j : Fin 384), st (ix3 0 n j) = T.st k n.val (384 * g + j.val)) (n : Fin 128) (j : Fin 384) :
    k0_pay154 xs (k0_pay150 ax) (k0_pay151 st) qx B (ix3 0 n j) = T.st (k + 1) n.val (384 * g + j.val) := by
  refine (state_at ax xs qx st B n j).trans ?_
  have hj := j.isLt
  have c1 : (384 * g + j.val) / 384 = g := by omega
  rw [hst, hax]
  show _ = T.st k n.val (384 * g + j.val) * Ideal.exp (T.acs (64 * k + 63) ((384 * g + j.val) / 64)) + T.inc k n.val (384 * g + j.val)
  congr 1
  unfold Tile.inc
  rw [c1]
  refine Finset.sum_congr rfl fun m _ => ?_
  rw [hB, hxs, hqx, Nat.zero_add, Nat.add_assoc]
  rfl

theorem y_tile (T : Tile) (k g : ℕ) (hg : g < 4) (i : FVec Ideal S64x384 .f32) (ax xs : Vec Ideal S64x384 .f32) (st : Vec Ideal S1x128x384 .f32) (C : Vec Ideal S64x128 .bf16) (d : Vec Ideal S1x384 .f32)
    (hi : ∀ (l : Fin 64) (j : Fin 384), i (ix2 l j) = T.intra k l.val (384 * g + j.val))
    (hax : ∀ (l : Fin 64) (j : Fin 384), ax (ix2 l j) = T.acs (64 * k + l.val) ((384 * g + j.val) / 64))
    (hxs : ∀ (l : Fin 64) (j : Fin 384), xs (ix2 l j) = T.act (64 * k + l.val) (0 + (384 * g + j.val)))
    (hC : ∀ (m : Fin 64) (n : Fin 128), C (ix2 m n) = T.act (64 * k + m.val) (2048 + (128 * g + n.val)))
    (hd : ∀ j : Fin 384, d (ix2 0 j) = T.dsk (384 * g + j.val))
    (hst : ∀ (n : Fin 128) (j : Fin 384), st (ix3 0 n j) = T.st k n.val (384 * g + j.val)) (l : Fin 64) (j : Fin 384) :
    k0_pay153 xs (k0_pay152 i ax st C) d (ix2 l j) = T.y (64 * k + l.val) (384 * g + j.val) := by
  refine (y_at i ax xs st C d l j).trans ?_
  have hj := j.isLt
  have hl := l.isLt
  have c1 : (384 * g + j.val) / 384 = g := by omega
  have c2 : (64 * k + l.val) / 64 = k := by omega
  have c3 : (64 * k + l.val) % 64 = l.val := by omega
  unfold Tile.y
  rw [hi, hax, hd, hxs, c1, c2, c3, Nat.zero_add]
  congr 2
  congr 1
  exact Finset.sum_congr rfl fun n _ => by rw [hC, hst, Nat.add_assoc]

/-! ## The pooling and the output -/

theorem pooled_tile (T : Tile) (n g : ℕ) (w : Vec Ideal S1x128x128 .bf16) (ps : Vec Ideal S1x128 .f32)
    (hw : ∀ k c : Fin 128, w (ix3 0 k c) = T.wp (g + (0 : Fin 1).val) (0 + k.val) (0 + c.val)) (hps : ∀ c : Fin 128, ps (ix2 0 c) = T.ps (128 * g + c.val)) (r : Fin 256) (c : Fin 128) :
    pooled n (fun q k => T.ep q (128 * g + k)) T.a w ps r c = T.pool n r.val (128 * g + c.val) := by
  have hc := c.isLt
  have c1 : (128 * g + c.val) / 128 = g := by omega
  have c2 : (128 * g + c.val) % 128 = c.val := by omega
  unfold pooled Tile.pool
  rw [c1, c2, hps]
  congr 1
  refine Finset.sum_congr rfl fun k _ => ?_
  rw [hw, Nat.zero_add, Nat.zero_add, Nat.mul_comm g 128]
  rfl

theorem out_at (M : FVec Ideal S256x1024 .f32) (y z : Vec Ideal S256x384 .f32) (g : Vec Ideal S1x384 .f32) (w : Vec Ideal S384x1024 .bf16) (x : Vec Ideal S256x1024 .f32) (gt : Vec Ideal S1x1x1024 .f32)
    (r : Fin 256) (j : Fin 1024) :
    k0_pay7 M y z g w x gt (ix2 r j) = x (ix2 r j) + gt (ix3 0 0 j) * (M (ix2 r j) + grp y z g w (ix2 r j)) := by
  have e : k0_pay7 M y z g w x gt = addf (shapeCast S256x1024 x shapeCasts_S256x1024_S256x1024) (mulf (broadcastTo S256x1024 (shapeCast S1x1024 gt shapeCasts_S1x1x1024_S1x1024) broadcasts_S1x1024_S256x1024) (addf M (grp y z g w))) := rfl
  rw [e]
  pointwise

theorem part_tile (T : Tile) (g : ℕ) (y z : Vec Ideal S256x384 .f32) (n : Vec Ideal S1x384 .f32) (w : Vec Ideal S384x1024 .bf16)
    (hy : ∀ (r : Fin 256) (k : Fin 384), y (ix2 r k) = T.y r.val (384 * g + k.val)) (hz : ∀ (r : Fin 256) (k : Fin 384), z (ix2 r k) = T.U r.val (512 + (384 * g + k.val)))
    (hn : ∀ k : Fin 384, n (ix2 0 k) = T.ng (384 * g + k.val)) (hw : ∀ (k : Fin 384) (j : Fin 1024), w (ix2 k j) = T.wo (512 + 384 * g + k.val) j.val) (r : Fin 256) (j : Fin 1024) :
    grp y z n w (ix2 r j) = T.part g r.val j.val := by
  refine (grp_at y z n w r j).trans ?_
  simp only [hy, hz, hn, hw]
  rfl

end Cert.MixerIdeal.Value
-- ==== Proof.MixStep.lean ====
/-
  One grid point of the mixer over a tile, continued (untrusted): buffers written in column blocks, the running sums and
  their spread, the rows the weights read, the projection of the next tile and the point's output.
-/
module

public import proofs.«01_k».proof.Proof.MixPoint

@[expose] public section

set_option maxRecDepth 16384

noncomputable section

namespace Cert.MixerIdeal.Value

open Cert.MixerIdeal Cert.MixerIdeal.Gen Idealize.ShloMosaic Idealize.ShloMosaic.TcCoe Idealize.SL.Sem
open Cert.Layer

/-- A buffer written in column blocks, one block at a time from the last. -/
theorem step2 {a b a' b' : ℕ} {e : EltTy} (f : ℕ → ℕ → Elt Ideal e) (o1 : ℕ)
    (inb : ∀ x, (![0, o1] : Fin 2 → ℕ) x + (⟨2, ![a', b']⟩ : Shape).size x ≤ (⟨2, ![a, b]⟩ : Shape).size x) (w : Vec Ideal (⟨2, ![a', b']⟩ : Shape) e)
    (L : List (View.Piece (Elt Ideal) (⟨2, ![a, b]⟩ : Shape) e)) (i : Fin a) (j : Fin b) (hi : i.val < a') (hj : j.val < o1 + b')
    (hw : ∀ (i : Fin a') (j : Fin b'), w (ix2 i j) = f (0 + i.val) (o1 + j.val)) (hL : j.val < o1 → View.canon L (ix2 i j) = f i.val j.val) :
    View.canon ((⟨Rect.unit (s := (⟨2, ![a, b]⟩ : Shape)) ![0, o1] (⟨2, ![a', b']⟩ : Shape).size inb, w⟩ : View.Piece (Elt Ideal) (⟨2, ![a, b]⟩ : Shape) e) :: L) (ix2 i j)
      = f i.val j.val := by
  by_cases h : j.val < o1
  · exact (miss2 0 o1 inb w L i j (Or.inl h)).trans (hL h)
  · have e1 : ix2 i j = (Rect.unit (s := (⟨2, ![a, b]⟩ : Shape)) ![0, o1] (⟨2, ![a', b']⟩ : Shape).size inb).emb (ix2 ⟨i.val, hi⟩ ⟨j.val - o1, by omega⟩) := by
      funext x; apply Fin.ext
      match x with
      | ⟨0, _⟩ => show i.val = 0 + 1 * i.val; omega
      | ⟨1, _⟩ => show j.val = o1 + 1 * (j.val - o1); omega
    refine (congrArg _ e1).trans ((View.canon_cons_emb _ _ _ _).trans ((hw _ _).trans ?_))
    show f (0 + i.val) (o1 + (j.val - o1)) = _
    rw [Nat.zero_add, Nat.add_sub_cancel' (Nat.le_of_not_lt h)]

/-- A load of a block of a staged buffer, at an entry. -/
theorem rdAt2 {sp : Space} {a b a' b' : ℕ} {e : EltTy} (M : Memref sig .tc sp (⟨2, ![a, b]⟩ : Shape) e) (hM : M.IsWhole)
    (X : Vec Ideal (⟨2, ![a, b]⟩ : Shape) e) (o0 o1 : ℕ)
    (inb : ∀ x, (![o0, o1] : Fin 2 → ℕ) x + (⟨2, ![a', b']⟩ : Shape).size x ≤ (⟨2, ![a, b]⟩ : Shape).size x) (i : Fin a') (j : Fin b')
    (h0 : o0 + i.val < a) (h1 : o1 + j.val < b) :
    M.view.readAt (Elt Ideal) (Rect.unit (s := (⟨2, ![a, b]⟩ : Shape)) ![o0, o1] (⟨2, ![a', b']⟩ : Shape).size inb).toLoadRect (hM.unread X) (ix2 i j)
      = X (ix2 ⟨o0 + i.val, h0⟩ ⟨o1 + j.val, h1⟩) := by
  rw [View.readAt_eq_ld, hM.read_unread]
  refine congrArg X ?_
  funext x; apply Fin.ext
  match x with
  | ⟨0, _⟩ => show o0 + 1 * i.val = o0 + i.val; omega
  | ⟨1, _⟩ => show o1 + 1 * j.val = o1 + j.val; omega

theorem zero3 (i) : (k0_pay3 : FVec Ideal S4x128x384 .f32) i = 0 := by pointwise [k0_pay3]
theorem zero4 (i) : (k0_pay4 : FVec Ideal S8x2560 .f32) i = 0 := by pointwise [k0_pay4]
theorem zero5 (i) : (k0_pay5 : FVec Ideal S16x512 .f32) i = 0 := by pointwise [k0_pay5]

theorem Tile.e_zero {T : Tile} (h : ∀ q c, T.H q c = 0) (q : Fin 8) (c : ℕ) : (0 : EReal) = T.e q.val c :=
  ((Tile.e_hist T q c).symm.trans (h _ _)).symm
theorem Tile.ep_zero {T : Tile} (h : ∀ q c, T.G q c = 0) (q : Fin 16) (c : ℕ) : (0 : EReal) = T.ep q.val c :=
  ((Tile.ep_hist T q c).symm.trans (h _ _)).symm

/-! ## Running sums -/

theorem dt_tile (T : Tile) (P : Vec Ideal S256x128 .f32) (b : Vec Ideal S1x128 .f32) (hP : ∀ (r : Fin 256) (c : Fin 128), c.val < 24 → P (ix2 r c) = T.U r.val (4608 + c.val))
    (hb : ∀ c : Fin 128, c.val < 24 → b (ix2 0 c) = T.dtb c.val) (r : Fin 256) (c : Fin 128) (hc : c.val < 24) : k0_pay95 P b (ix2 r c) = T.dt r.val c.val := by
  rw [dt_at, hP r c hc, hb c hc]; rfl

theorem acs_tile (T : Tile) (dt : FVec Ideal S256x128 .f32) (al : Vec Ideal S1x128 .f32) (hdt : ∀ (r : Fin 256) (c : Fin 128), c.val < 24 → dt (ix2 r c) = T.dt r.val c.val)
    (hal : ∀ c : Fin 128, c.val < 24 → al (ix2 0 c) = T.al c.val) (r : Fin 256) (c : Fin 128) (hc : c.val < 24) :
    k0_pay97 k0_pay94 dt (k0_pay96 al) (Scalar.ofBits .f32 0x00000000#32) (ix2 r c) = T.acs r.val c.val := by
  refine (acs_at dt al r c (fun c r => if h : r < 256 ∧ c < 128 then dt (ix2 ⟨r, h.1⟩ ⟨c, h.2⟩) * (-(Ideal.exp (al (ix2 0 ⟨c, h.2⟩)))) else 0) fun r c => ?_).trans ?_
  · rw [dif_pos ⟨r.isLt, c.isLt⟩]
  · unfold Tile.acs back
    refine Finset.sum_congr rfl fun j _ => ?_
    have hr := r.isLt
    refine (dif_pos (⟨by omega, c.isLt⟩ : r.val - j < 256 ∧ c.val < 128)).trans ?_
    rw [hdt ⟨r.val - j, by omega⟩ c hc, hal c hc]
    rfl

theorem q_tile (T : Tile) (dt a : FVec Ideal S256x128 .f32) (hdt : ∀ (r : Fin 256) (c : Fin 128), c.val < 24 → dt (ix2 r c) = T.dt r.val c.val)
    (ha : ∀ (r : Fin 256) (c : Fin 128), c.val < 24 → a (ix2 r c) = T.acs r.val c.val) (r : Fin 256) (c : Fin 128) (hc : c.val < 24) :
    k0_pay101 dt a (ix2 r c) = T.q r.val c.val := by
  rw [q_at, ha r c hc, hdt r c hc]; rfl

theorem accx_tile (T : Tile) (a : FVec Ideal S256x128 .f32) (hr : ∀ r c, c < 24 → Bt (T.acs r c)) (ha : ∀ (r : Fin 256) (c : Fin 128), c.val < 24 → a (ix2 r c) = T.acs r.val c.val)
    (e : Vec Ideal S128x1536 .bf16) (he : ∀ (k : Fin 128) (c : Fin 1536), e (ix2 k c) = if (0 + k.val) % 32 = (0 + c.val) / 64 ∧ (0 + k.val) < 96 then 1 else 0)
    (r : Fin 256) (c : Fin 1536) : k0_pay100 (iota .tc S256x128 32 [1] iota_S256x128_d1_w32) a k0_pay98 e (ix2 r c) = T.acs r.val (c.val / 64) := by
  have hc := c.isLt
  refine (spread (fun r c hc => real_of (ha r c hc) (hr _ _ hc)) e (fun k c => (he k c).trans (by rw [Nat.zero_add, Nat.zero_add])) r c).trans ?_
  exact ha r ⟨c.val / 64, by omega⟩ (by show c.val / 64 < 24; omega)

theorem qx_tile (T : Tile) (a dt : FVec Ideal S256x128 .f32) (hr : ∀ r c, c < 24 → Bt (T.q r c)) (hdt : ∀ (r : Fin 256) (c : Fin 128), c.val < 24 → dt (ix2 r c) = T.dt r.val c.val)
    (ha : ∀ (r : Fin 256) (c : Fin 128), c.val < 24 → a (ix2 r c) = T.acs r.val c.val)
    (e : Vec Ideal S128x1536 .bf16) (he : ∀ (k : Fin 128) (c : Fin 1536), e (ix2 k c) = if (0 + k.val) % 32 = (0 + c.val) / 64 ∧ (0 + k.val) < 96 then 1 else 0)
    (r : Fin 256) (c : Fin 1536) : k0_pay102 (iota .tc S256x128 32 [1] iota_S256x128_d1_w32) dt a k0_pay98 e (ix2 r c) = T.q r.val (c.val / 64) := by
  have hc := c.isLt
  refine (spread_q (fun r c hc => real_of (q_tile T dt a hdt ha r c hc) (hr _ _ hc)) e (fun k c => (he k c).trans (by rw [Nat.zero_add, Nat.zero_add])) r c).trans ?_
  exact q_tile T dt a hdt ha r ⟨c.val / 64, by omega⟩ (by show c.val / 64 < 24; omega)

/-- A row of the transposed exponents. -/
theorem qrowA (T : Tile) {sp : Space} (v : View sig .tc sp S128x256 .f32) (L : List (View.Piece (Elt Ideal) S128x256 .f32))
    (hL : ∀ (i : Fin 128) (j : Fin 256), i.val < 24 → View.canon L (ix2 i j) = T.q j.val i.val) (h o : ℕ)
    (inb : ∀ x, (![h, o] : Fin 2 → ℕ) x + S1x128.size x ≤ S128x256.size x) (hh : h < 24) (j : Fin 128) (r : ℕ) (hr : o + j.val = r) :
    v.readCov L (Rect.unit (s := S128x256) ![h, o] S1x128.size inb).toLoadRect (ix2 0 j) = T.q r h := by
  have ho : o + 128 ≤ 256 := inb 1
  have hj := j.isLt
  subst hr
  exact (covAt2 v L h o inb 0 j (by show h + 0 < 128; omega) (by omega)).trans (hL _ _ hh)

/-- A row of the transposed exponents with its halves exchanged. -/
theorem qrowB (T : Tile) {sp : Space} (v : View sig .tc sp S128x256 .f32) (L : List (View.Piece (Elt Ideal) S128x256 .f32))
    (hL : ∀ (i : Fin 128) (j : Fin 256), i.val < 24 → View.canon L (ix2 i j) = T.q (j.val / 128 * 128 + (j.val + 64) % 128) i.val) (h o : ℕ)
    (inb : ∀ x, (![h, o] : Fin 2 → ℕ) x + S1x128.size x ≤ S128x256.size x) (hh : h < 24) (j : Fin 128) (r : ℕ) (hr : (o + j.val) / 128 * 128 + (o + j.val + 64) % 128 = r) :
    v.readCov L (Rect.unit (s := S128x256) ![h, o] S1x128.size inb).toLoadRect (ix2 0 j) = T.q r h := by
  have ho : o + 128 ≤ 256 := inb 1
  have hj := j.isLt
  subst hr
  exact (covAt2 v L h o inb 0 j (by show h + 0 < 128; omega) (by omega)).trans (hL _ _ hh)

/-! ## The output -/

theorem cat_tile (T : Tile) (p0 p1 p2 p3 : FVec Ideal S256x128 .bf16) (w : Vec Ideal S512x1024 .bf16) (hc1) (hc2)
    (h0 : ∀ (r : Fin 256) (c : Fin 128), p0 (ix2 r c) = T.pool 2 r.val (128 * 0 + c.val)) (h1 : ∀ (r : Fin 256) (c : Fin 128), p1 (ix2 r c) = T.pool 4 r.val (128 * 1 + c.val))
    (h2 : ∀ (r : Fin 256) (c : Fin 128), p2 (ix2 r c) = T.pool 8 r.val (128 * 2 + c.val)) (h3 : ∀ (r : Fin 256) (c : Fin 128), p3 (ix2 r c) = T.pool 16 r.val (128 * 3 + c.val))
    (hw : ∀ (k : Fin 512) (j : Fin 1024), w (ix2 k j) = T.wo (0 + k.val) (0 + j.val)) (r : Fin 256) (j : Fin 1024) :
    (matmul dot_S256x512_S512x1024_S256x1024_1_0_0_1_n_n none
      (concatenate S256x512 1 [⟨S256x128, p0⟩, ⟨S256x128, p1⟩, ⟨S256x128, p2⟩, ⟨S256x128, p3⟩] hc1 : FVec Ideal S256x512 .bf16)
      (shapeCast S512x1024 w hc2 : FVec Ideal S512x1024 .bf16) (constant S256x1024 .f32 0x00000000#32) : FVec Ideal S256x1024 .f32) (ix2 r j)
      = ∑ k : Fin 512, T.pool (2 ^ (k.val / 128 + 1)) r.val k.val * T.wo k.val j.val := by
  pointwise
  refine Finset.sum_congr rfl fun k _ => ?_
  have hk := k.isLt
  rw [hw, Nat.zero_add, Nat.zero_add]
  congr 1
  split_ifs <;> first
    | (rename_i hh; exact absurd rfl hh)
    | (rw [h0, show k.val / 128 = 0 by omega]; refine congrArg₂ (T.pool · r.val ·) rfl ?_; show 128 * 0 + k.val = k.val; omega)
    | (rw [h1, show k.val / 128 = 1 by omega]; refine congrArg₂ (T.pool · r.val ·) rfl ?_; show 128 * 1 + (k.val - 128) = k.val; omega)
    | (rw [h2, show k.val / 128 = 2 by omega]; refine congrArg₂ (T.pool · r.val ·) rfl ?_; show 128 * 2 + (k.val - 128 - 128) = k.val; omega)
    | (rw [h3, show k.val / 128 = 3 by omega]; refine congrArg₂ (T.pool · r.val ·) rfl ?_; show 128 * 3 + (k.val - 128 - 128 - 128) = k.val; omega)

theorem part_tile' (T : Tile) (g : ℕ) (y z : Vec Ideal S256x384 .f32) (n : Vec Ideal S1x384 .f32) (w : Vec Ideal S384x1024 .bf16)
    (hy : ∀ (r : Fin 256) (k : Fin 384), y (ix2 r k) = T.y (0 + r.val) (384 * g + k.val)) (hz : ∀ (r : Fin 256) (k : Fin 384), z (ix2 r k) = T.U (0 + r.val) (512 + 384 * g + k.val))
    (hn : ∀ k : Fin 384, n (ix2 0 k) = T.ng (384 * g + k.val)) (hw : ∀ (k : Fin 384) (j : Fin 1024), w (ix2 k j) = T.wo (512 + 384 * g + k.val) (0 + j.val)) (r : Fin 256) (j : Fin 1024) :
    grp y z n w (ix2 r j) = T.part g r.val j.val :=
  part_tile T g y z n w (fun r k => (hy r k).trans (by rw [Nat.zero_add])) (fun r k => (hz r k).trans (by rw [Nat.zero_add, Nat.add_assoc])) hn
    (fun k j => (hw k j).trans (by rw [Nat.zero_add])) r j

theorem out_tile (T : Tile) (A : FVec Ideal S256x1024 .f32) (y0 y1 y2 y3 z0 z1 z2 z3 : Vec Ideal S256x384 .f32) (n0 n1 n2 n3 : Vec Ideal S1x384 .f32) (w0 w1 w2 w3 : Vec Ideal S384x1024 .bf16)
    (x : Vec Ideal S256x1024 .f32) (gt : Vec Ideal S1x1x1024 .f32)
    (hA : ∀ (r : Fin 256) (j : Fin 1024), A (ix2 r j) = ∑ k : Fin 512, T.pool (2 ^ (k.val / 128 + 1)) r.val k.val * T.wo k.val j.val)
    (h0 : ∀ (r : Fin 256) (j : Fin 1024), grp y0 z0 n0 w0 (ix2 r j) = T.part 0 r.val j.val) (h1 : ∀ (r : Fin 256) (j : Fin 1024), grp y1 z1 n1 w1 (ix2 r j) = T.part 1 r.val j.val)
    (h2 : ∀ (r : Fin 256) (j : Fin 1024), grp y2 z2 n2 w2 (ix2 r j) = T.part 2 r.val j.val) (h3 : ∀ (r : Fin 256) (j : Fin 1024), grp y3 z3 n3 w3 (ix2 r j) = T.part 3 r.val j.val)
    (r : Fin 256) (j : Fin 1024) :
    k0_pay7 (addf (addf (addf A (grp y0 z0 n0 w0)) (grp y1 z1 n1 w1)) (grp y2 z2 n2 w2)) y3 z3 n3 w3 x gt (ix2 r j) = x (ix2 r j) + gt (ix3 0 0 j) * T.mix r.val j.val := by
  refine (out_at _ _ _ _ _ _ _ r j).trans ?_
  rw [h3]
  show x (ix2 r j) + gt (ix3 0 0 j) * (A (ix2 r j) + grp y0 z0 n0 w0 (ix2 r j) + grp y1 z1 n1 w1 (ix2 r j) + grp y2 z2 n2 w2 (ix2 r j) + T.part 3 r.val j.val) = _
  rw [hA, h0, h1, h2]
  rfl

/-! ## The projection -/

/-- A row of the projection. -/
def projF (X : ℕ → ℕ → EReal) (g sc sh : ℕ → EReal) (w : ℕ → ℕ → EReal) (r c : ℕ) : EReal :=
  ∑ k : Fin 1024, hid (fun k => X r k.val) (fun k => g k.val) (fun k => sc k.val) (fun k => sh k.val) k * w k.val c

theorem proj_tile (X : ℕ → ℕ → EReal) (g sc sh : ℕ → EReal) (w : ℕ → ℕ → EReal) (x : Vec Ideal S256x1024 .f32) (gv : Vec Ideal S1x1024 .f32) (scv shv : Vec Ideal S1x1x1024 .f32)
    (wv : Vec Ideal S1024x256 .bf16) (o : ℕ) (hx : ∀ (r : Fin 256) (k : Fin 1024), x (ix2 r k) = X (0 + r.val) (0 + k.val)) (hg : ∀ k : Fin 1024, gv (ix2 0 k) = g (0 + k.val))
    (hsc : ∀ k : Fin 1024, scv (ix3 0 0 k) = sc (0 + k.val)) (hsh : ∀ k : Fin 1024, shv (ix3 0 0 k) = sh (0 + k.val))
    (hw : ∀ (k : Fin 1024) (j : Fin 256), wv (ix2 k j) = w (0 + k.val) (o + j.val)) (r j : Fin 256) :
    k0_pay74 (k0_pay8 x gv scv shv) wv (ix2 r j) = projF X g sc sh w (0 + r.val) (o + j.val) := by
  refine (proj_at _ _ r j).trans (Finset.sum_congr rfl fun k _ => ?_)
  rw [hid_at, hw]
  simp only [hx, hg, hsc, hsh, Nat.zero_add]

theorem proj_last (X : ℕ → ℕ → EReal) (g sc sh : ℕ → EReal) (w : ℕ → ℕ → EReal) (x : Vec Ideal S256x1024 .f32) (gv : Vec Ideal S1x1024 .f32) (scv shv : Vec Ideal S1x1x1024 .f32)
    (wv : Vec Ideal S1024x24 .bf16) (o : ℕ) (hx : ∀ (r : Fin 256) (k : Fin 1024), x (ix2 r k) = X (0 + r.val) (0 + k.val)) (hg : ∀ k : Fin 1024, gv (ix2 0 k) = g (0 + k.val))
    (hsc : ∀ k : Fin 1024, scv (ix3 0 0 k) = sc (0 + k.val)) (hsh : ∀ k : Fin 1024, shv (ix3 0 0 k) = sh (0 + k.val))
    (hw : ∀ (k : Fin 1024) (j : Fin 24), wv (ix2 k j) = w (0 + k.val) (o + j.val)) (r : Fin 256) (j : Fin 24) :
    k0_pay274 (k0_pay8 x gv scv shv) wv (ix2 r j) = projF X g sc sh w (0 + r.val) (o + j.val) := by
  have e (h : Vec Ideal S256x1024 .bf16) : k0_pay274 h wv (ix2 r j) = ∑ k : Fin 1024, h (ix2 r k) * wv (ix2 k j) := by pointwise [k0_pay274]
  refine (e _).trans (Finset.sum_congr rfl fun k _ => ?_)
  rw [hid_at, hw]
  simp only [hx, hg, hsc, hsh, Nat.zero_add]

end Cert.MixerIdeal.Value
-- ==== Proof.MixPar.lean ====
/-
  The mixer over its grid: what every tile is, in terms of the arrays the call is launched on (untrusted).
-/
module

public import proofs.«01_k».proof.Proof.MixStep

@[expose] public section

set_option maxRecDepth 16384

noncomputable section

namespace Cert.MixerIdeal.Value

open Cert.MixerIdeal Cert.MixerIdeal.Gen Idealize.ShloMosaic Idealize.ShloMosaic.TcCoe Idealize.SL.Sem
open Cert.Layer

/-- An array read at natural numbers, each taken modulo the axis. -/
def f1 (a : ℕ) (ha : 0 < a) (v : Fin a → EReal) (i : ℕ) : EReal := v ⟨i % a, Nat.mod_lt _ ha⟩
def f2 (a b : ℕ) (ha : 0 < a) (hb : 0 < b) (v : Fin a → Fin b → EReal) (i j : ℕ) : EReal := v ⟨i % a, Nat.mod_lt _ ha⟩ ⟨j % b, Nat.mod_lt _ hb⟩
def f3 (a b d : ℕ) (ha : 0 < a) (hb : 0 < b) (hd : 0 < d) (v : Fin a → Fin b → Fin d → EReal) (i j k : ℕ) : EReal :=
  v ⟨i % a, Nat.mod_lt _ ha⟩ ⟨j % b, Nat.mod_lt _ hb⟩ ⟨k % d, Nat.mod_lt _ hd⟩

theorem f1_at {a : ℕ} {ha} (v : Fin a → EReal) (i : ℕ) (hi : i < a) : f1 a ha v i = v ⟨i, hi⟩ := by
  have e1 : (⟨i % a, Nat.mod_lt _ ha⟩ : Fin a) = ⟨i, hi⟩ := Fin.ext (Nat.mod_eq_of_lt hi)
  unfold f1; rw [e1]
theorem f2_at {a b : ℕ} {ha hb} (v : Fin a → Fin b → EReal) (i j : ℕ) (hi : i < a) (hj : j < b) : f2 a b ha hb v i j = v ⟨i, hi⟩ ⟨j, hj⟩ := by
  have e1 : (⟨i % a, Nat.mod_lt _ ha⟩ : Fin a) = ⟨i, hi⟩ := Fin.ext (Nat.mod_eq_of_lt hi)
  have e2 : (⟨j % b, Nat.mod_lt _ hb⟩ : Fin b) = ⟨j, hj⟩ := Fin.ext (Nat.mod_eq_of_lt hj)
  unfold f2; rw [e1, e2]
theorem f3_at {a b d : ℕ} {ha hb hd} (v : Fin a → Fin b → Fin d → EReal) (i j k : ℕ) (hi : i < a) (hj : j < b) (hk : k < d) :
    f3 a b d ha hb hd v i j k = v ⟨i, hi⟩ ⟨j, hj⟩ ⟨k, hk⟩ := by
  have e1 : (⟨i % a, Nat.mod_lt _ ha⟩ : Fin a) = ⟨i, hi⟩ := Fin.ext (Nat.mod_eq_of_lt hi)
  have e2 : (⟨j % b, Nat.mod_lt _ hb⟩ : Fin b) = ⟨j, hj⟩ := Fin.ext (Nat.mod_eq_of_lt hj)
  have e3 : (⟨k % d, Nat.mod_lt _ hd⟩ : Fin d) = ⟨k, hk⟩ := Fin.ext (Nat.mod_eq_of_lt hk)
  unfold f3; rw [e1, e2, e3]

/-- The arrays of a call, at natural numbers. -/
structure Par where
  x : ℕ → ℕ → ℕ → EReal
  sh : ℕ → ℕ → EReal
  sc : ℕ → ℕ → EReal
  ga : ℕ → ℕ → EReal
  g : ℕ → EReal
  w : ℕ → ℕ → EReal
  wp : ℕ → ℕ → ℕ → EReal
  ps : ℕ → EReal
  cw : ℕ → ℕ → EReal
  cb : ℕ → EReal
  dtb : ℕ → EReal
  al : ℕ → EReal
  dsk : ℕ → EReal
  ng : ℕ → EReal
  wo : ℕ → ℕ → EReal

namespace Par

variable (P : Par)

/-- What must be real. -/
structure Ok : Prop where
  sh : ∀ i j, Fin' (P.sh i j)
  sc : ∀ i j, Fin' (P.sc i j)
  g : ∀ i, Fin' (P.g i)
  w : ∀ i j, Fin' (P.w i j)
  cw : ∀ i j, Fin' (P.cw i j)
  cb : ∀ i, Fin' (P.cb i)
  dtb : ∀ i, Fin' (P.dtb i)

/-- The projected rows of a sequence. -/
def row (b s c : ℕ) : EReal := ∑ k : Fin 1024, hid (fun k => P.x b s k.val) (fun k => P.g k.val) (fun k => P.sc b k.val) (fun k => P.sh b k.val) k * P.w k.val c
/-- The projected rows of tile `n`: sixteen tiles to a sequence. -/
def U (n r c : ℕ) : EReal := P.row (n / 16) (n % 16 * 256 + r) c
/-- Tile `n`, given the state entering it. -/
def tileS (n : ℕ) (S : ℕ → ℕ → EReal) : Tile where
  U := P.U n
  H := fun q c => if n % 16 = 0 then 0 else P.U (n - 1) (248 + q) (2048 + c)
  G := fun q c => if n % 16 = 0 then 0 else P.U (n - 1) (240 + q) c
  S := S
  cw := P.cw
  cb := P.cb
  dtb := P.dtb
  al := P.al
  dsk := P.dsk
  ng := P.ng
  ps := P.ps
  wp := P.wp
  wo := P.wo
  a := n % 16
/-- The state entering a tile. -/
def S : ℕ → ℕ → ℕ → EReal
  | 0, _, _ => 0
  | n + 1, i, c => if (n + 1) % 16 = 0 then 0 else (P.tileS n (S n)).st 4 i c
def tile (n : ℕ) : Tile := P.tileS n (P.S n)

variable {P}

theorem Ok.row (h : P.Ok) (b s c : ℕ) : Fin' (P.row b s c) :=
  Fin'.sum _ _ fun k _ => (hid_real _ _ _ _ (fun _ => h.g _) (fun _ => h.sc _ _) (fun _ => h.sh _ _) k).mul (h.w _ _)

theorem S_first {n : ℕ} (h : n % 16 = 0) (i c : ℕ) : P.S n i c = 0 := by
  cases n with
  | zero => rfl
  | succ n => exact if_pos h

theorem S_next {n : ℕ} (h : ¬(n + 1) % 16 = 0) (i c : ℕ) : P.S (n + 1) i c = (P.tile n).st 4 i c := if_neg h

/-- The history the next tile reads is the end of this one. -/
theorem tile_e (n q c : ℕ) : (P.tile n).e (256 + q) c = P.U n (248 + q) (2048 + c) := by
  unfold Tile.e
  rw [if_neg (by omega)]
  show P.U n (256 + q - 8) (2048 + c) = _
  rw [show 256 + q - 8 = 248 + q by omega]

theorem tile_ep (n q c : ℕ) : (P.tile n).ep (256 + q) c = P.U n (240 + q) c := by
  unfold Tile.ep
  rw [if_neg (by omega)]
  show P.U n (256 + q - 16) c = _
  rw [show 256 + q - 16 = 240 + q by omega]

theorem tile_H0 {n : ℕ} (h : n % 16 = 0) (q c : ℕ) : (P.tile n).H q c = 0 := if_pos h
theorem tile_G0 {n : ℕ} (h : n % 16 = 0) (q c : ℕ) : (P.tile n).G q c = 0 := if_pos h
theorem tile_H {n : ℕ} (h : ¬n % 16 = 0) (q c : ℕ) : (P.tile n).H q c = P.U (n - 1) (248 + q) (2048 + c) := if_neg h
theorem tile_G {n : ℕ} (h : ¬n % 16 = 0) (q c : ℕ) : (P.tile n).G q c = P.U (n - 1) (240 + q) c := if_neg h
theorem tile_S {n : ℕ} (h : ¬n % 16 = 0) (i c : ℕ) : (P.tile n).S i c = (P.tile (n - 1)).st 4 i c := by
  obtain ⟨k, rfl⟩ : ∃ k, n = k + 1 := ⟨n - 1, by omega⟩
  exact S_next h i c

end Par

end Cert.MixerIdeal.Value
-- ==== Proof.MixV.lean ====
/-
  What the mixer's call is launched on, in terms of the arguments (untrusted).
-/
module

public import proofs.«01_k».proof.Proof.Gen.MixerIdeal.Frame
public import proofs.«01_k».proof.Proof.MixStep
public import Idealize.ShloMosaic.Lib.Pointwise
public import Idealize.ShloMosaic.Lib.Pipeline.ValueKit
public import Idealize.ShloMosaic.Lib.Claim

@[expose] public section

set_option maxRecDepth 16384

noncomputable section

namespace Cert.MixerIdeal.Value

open Cert.MixerIdeal Cert.MixerIdeal.Gen Idealize.ShloMosaic Idealize.ShloMosaic.TcCoe Idealize.SL.Sem
open Cert.Layer

variable (m : (ℓ : Loc nD τ sig) → Buf (Elt Ideal) ℓ)

theorem idxA : ∀ t : Fin cfg0.N, win0_0.index t = ![min t.val 127, 0] ∧ win0_1.index t = ![t.val - 1, 0]
    ∧ win0_2.index t = ![min t.val 127 / 16, 0, 0] ∧ win0_3.index t = ![min t.val 127 / 16, 0, 0] ∧ win0_4.index t = ![(t.val - 1) / 16, 0, 0]
    ∧ win0_17.index t = ![t.val - 1, 0] :=
  (by decide +kernel : ∀ t : Fin grid0.N, _)

theorem idxB : ∀ t : Fin cfg0.N, win0_5.index t = ![0, 0] ∧ win0_6.index t = ![0, 0] ∧ win0_7.index t = ![0, 0] ∧ win0_8.index t = ![0, 0]
    ∧ win0_9.index t = ![0, 0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] :=
  (by decide +kernel : ∀ t : Fin grid0.N, _)

theorem lt129 (t : Fin cfg0.N) : t.val < 129 := lt_of_lt_of_eq t.isLt N_0

theorem v13_of (R : IVec S128x1 32) (Q : IVec S1x1536 32) (hR : ∀ i : Fin 128, R (ix2 i 0) = BitVec.ofNat 32 (i.val % 32)) (hQ : ∀ j : Fin 1536, Q (ix2 0 j) = BitVec.ofNat 32 (j.val / 64))
    (i : Fin 128) (j : Fin 1536) :
    ((uitofp (F := Ideal) .bf16 (andi (cmpi .eq (broadcastInDim S128x1536 ![0, 1] bcast_S128x1_S128x1536_0_1 R) (broadcastInDim S128x1536 ![0, 1] bcast_S1x1536_S128x1536_0_1 Q))
      (broadcastInDim S128x1536 ![0, 1] bcast_S128x1_S128x1536_0_1 (cmpi .slt (broadcastInDim S128x1 ![0] bcast_S128_S128x1_0 (iotaInDim S128 32 0)) (broadcastInDim S128x1 ![] bcast_S_S128x1 (constantI S_ 32 96#32))))))
      (ix2 i j) : EReal) = if i.val % 32 = j.val / 64 ∧ i.val < 96 then (1 : EReal) else 0 := by
  pointwise
  rw [hR, hQ]
  have h1 : ∀ i : Fin 128, IntOp.cmpi CmpIPredicate.slt (BitVec.ofNat 32 i.val) 96#32 = if i.val < 96 then 1#1 else 0#1 := by decide +kernel
  have h2 : IntOp.cmpi CmpIPredicate.eq (BitVec.ofNat 32 (i.val % 32)) (BitVec.ofNat 32 (j.val / 64)) = if i.val % 32 = j.val / 64 then 1#1 else 0#1 := by
    have h3 : ∀ a b : Fin 32, IntOp.cmpi CmpIPredicate.eq (BitVec.ofNat 32 a.val) (BitVec.ofNat 32 b.val) = if a.val = b.val then 1#1 else 0#1 := by decide +kernel
    exact h3 ⟨i.val % 32, by omega⟩ ⟨j.val / 64, by omega⟩
  rw [h1, h2]
  have u1 : (FloatOps.uitofp (F := Ideal) .bf16 (1#1 : BitVec 1) : EReal) = 1 := by show (((1#1 : BitVec 1).toNat : ℝ) : EReal) = 1; simp
  have u0 : (FloatOps.uitofp (F := Ideal) .bf16 (0#1 : BitVec 1) : EReal) = 0 := by show (((0#1 : BitVec 1).toNat : ℝ) : EReal) = 0; simp
  by_cases hA : i.val % 32 = j.val / 64 <;> by_cases hB : i.val < 96 <;> simp [hA, hB, IntOp.andi, u1, u0]

theorem v13 (c : Dev nD) (i : Fin 128) (j : Fin 1536) : ((V m c main_v13 : Vec Ideal S128x1536 .bf16) (ix2 i j) : EReal) = if i.val % 32 = j.val / 64 ∧ i.val < 96 then (1 : EReal) else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  refine v13_of _ _ ?_ ?_ i j
  · decide +kernel
  · decide +kernel

theorem v14 (c : Dev nD) : (V m c main_v14 : Vec Ideal S32768x1024 .f32) = shapeCast S32768x1024 (m (c.tc.loc main_arg0) : Vec Ideal S8x4096x1024 .f32) shapeCasts_S8x4096x1024_S32768x1024 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v15 (c : Dev nD) : (V m c main_v15 : Vec Ideal S8x1x1024 .f32) = shapeCast S8x1x1024 (m (c.tc.loc main_arg1) : Vec Ideal S8x1024 .f32) shapeCasts_S8x1024_S8x1x1024 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v16 (c : Dev nD) : (V m c main_v16 : Vec Ideal S8x1x1024 .f32) = shapeCast S8x1x1024 (m (c.tc.loc main_arg2) : Vec Ideal S8x1024 .f32) shapeCasts_S8x1024_S8x1x1024 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v17 (c : Dev nD) : (V m c main_v17 : Vec Ideal S8x1x1024 .f32) = shapeCast S8x1x1024 (m (c.tc.loc main_arg3) : Vec Ideal S8x1024 .f32) shapeCasts_S8x1024_S8x1x1024 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v28 (c : Dev nD) : (V m c main_v28 : Vec Ideal S1x1024 .f32) = shapeCast S1x1024 (m (c.tc.loc main_arg4) : Vec Ideal S1024 .f32) shapeCasts_S1024_S1x1024 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v29 (c : Dev nD) : (V m c main_v29 : Vec Ideal S1x2560 .f32) = shapeCast S1x2560 (m (c.tc.loc main_arg9) : Vec Ideal S2560 .f32) shapeCasts_S2560_S1x2560 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v30 (c : Dev nD) : (V m c main_v30 : Vec Ideal S1x512 .f32) = shapeCast S1x512 (m (c.tc.loc main_arg7) : Vec Ideal S512 .f32) shapeCasts_S512_S1x512 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v31 (c : Dev nD) : (V m c main_v31 : Vec Ideal S1x1536 .f32) = shapeCast S1x1536 (m (c.tc.loc main_arg13) : Vec Ideal S1536 .f32) shapeCasts_S1536_S1x1536 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v18 (c : Dev nD) : (V m c main_v18 : Vec Ideal S1024x4632 .bf16) = truncf (F := Ideal) .bf16 (m (c.tc.loc main_arg5) : Vec Ideal S1024x4632 .f32) bitsLt_bf16_f32 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results

theorem v19 (c : Dev nD) : (V m c main_v19 : Vec Ideal S4x128x128 .bf16) = truncf (F := Ideal) .bf16 (m (c.tc.loc main_arg6) : Vec Ideal S4x128x128 .f32) bitsLt_bf16_f32 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results

theorem v27 (c : Dev nD) : (V m c main_v27 : Vec Ideal S2048x1024 .bf16) = truncf (F := Ideal) .bf16 (m (c.tc.loc main_arg14) : Vec Ideal S2048x1024 .f32) bitsLt_bf16_f32 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results

theorem v26 (c : Dev nD) : (V m c main_v26 : Vec Ideal S1x1536 .f32) = shapeCast S1x1536 (shapeCast S1536 (broadcastInDim S24x64 ![0] bcast_S24_S24x64_0 (m (c.tc.loc main_arg12) : Vec Ideal S24 .f32)) shapeCasts_S24x64_S1536) shapeCasts_S1536_S1x1536 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v21 (c : Dev nD) : (V m c main_v21 : Vec Ideal S1x128 .f32)
    = shapeCast S1x128 (pad S128 ![0] ![104] ![0] (m (c.tc.loc main_arg10) : Vec Ideal S24 .f32) (sitofp (F := Ideal) .f32 (constantI S_ 32 0#32)) pads_S24_S128_01040 h_S_) shapeCasts_S128_S1x128 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

theorem v23 (c : Dev nD) : (V m c main_v23 : Vec Ideal S1x128 .f32)
    = shapeCast S1x128 (pad S128 ![0] ![104] ![0] (m (c.tc.loc main_arg11) : Vec Ideal S24 .f32) (sitofp (F := Ideal) .f32 (constantI S_ 32 0#32)) pads_S24_S128_01040 h_S_) shapeCasts_S128_S1x128 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

end Cert.MixerIdeal.Value
-- ==== Proof.MixBlk.lean ====
/-
  The blocks the mixer's points read, at an index, in terms of the arrays the call is launched on (untrusted).
-/
module

public import proofs.«01_k».proof.Proof.Gen.MixerIdeal.Frame
public import proofs.«01_k».proof.Proof.MixPar
public import proofs.«01_k».proof.Proof.MixV
public import Idealize.ShloMosaic.Lib.Pointwise
public import Idealize.ShloMosaic.Lib.Pipeline.ValueKit
public import Idealize.ShloMosaic.Lib.Claim

@[expose] public section

set_option maxRecDepth 16384

noncomputable section

namespace Cert.MixerIdeal.Value

open Cert.MixerIdeal Cert.MixerIdeal.Gen Idealize.ShloMosaic Idealize.ShloMosaic.TcCoe Idealize.SL.Sem
open Cert.Layer

variable (m : (ℓ : Loc nD τ sig) → Buf (Elt Ideal) ℓ)

/-- The arrays of the call. -/
def par (c : Dev nD) : Par where
  x := f3 8 4096 1024 (by decide) (by decide) (by decide) fun i j k => (m (c.tc.loc main_arg0) : Vec Ideal S8x4096x1024 .f32) (ix3 i j k)
  sh := f2 8 1024 (by decide) (by decide) fun i j => (m (c.tc.loc main_arg1) : Vec Ideal S8x1024 .f32) (ix2 i j)
  sc := f2 8 1024 (by decide) (by decide) fun i j => (m (c.tc.loc main_arg2) : Vec Ideal S8x1024 .f32) (ix2 i j)
  ga := f2 8 1024 (by decide) (by decide) fun i j => (m (c.tc.loc main_arg3) : Vec Ideal S8x1024 .f32) (ix2 i j)
  g := f1 1024 (by decide) fun i => (m (c.tc.loc main_arg4) : Vec Ideal S1024 .f32) (ix1 i)
  w := f2 1024 4632 (by decide) (by decide) fun i j => (m (c.tc.loc main_arg5) : Vec Ideal S1024x4632 .f32) (ix2 i j)
  wp := f3 4 128 128 (by decide) (by decide) (by decide) fun i j k => (m (c.tc.loc main_arg6) : Vec Ideal S4x128x128 .f32) (ix3 i j k)
  ps := f1 512 (by decide) fun i => (m (c.tc.loc main_arg7) : Vec Ideal S512 .f32) (ix1 i)
  cw := f2 4 2560 (by decide) (by decide) fun i j => (m (c.tc.loc main_arg8) : Vec Ideal S4x2560 .f32) (ix2 i j)
  cb := f1 2560 (by decide) fun i => (m (c.tc.loc main_arg9) : Vec Ideal S2560 .f32) (ix1 i)
  dtb := f1 24 (by decide) fun i => (m (c.tc.loc main_arg10) : Vec Ideal S24 .f32) (ix1 i)
  al := f1 24 (by decide) fun i => (m (c.tc.loc main_arg11) : Vec Ideal S24 .f32) (ix1 i)
  dsk := fun j => f1 24 (by decide) (fun i => (m (c.tc.loc main_arg12) : Vec Ideal S24 .f32) (ix1 i)) (j / 64)
  ng := f1 1536 (by decide) fun i => (m (c.tc.loc main_arg13) : Vec Ideal S1536 .f32) (ix1 i)
  wo := f2 2048 1024 (by decide) (by decide) fun i j => (m (c.tc.loc main_arg14) : Vec Ideal S2048x1024 .f32) (ix2 i j)

theorem par_x (c : Dev nD) (i j k : ℕ) (hi : i < 8) (hj : j < 4096) (hk : k < 1024) : (par m c).x i j k = (m (c.tc.loc main_arg0) : Vec Ideal S8x4096x1024 .f32) (ix3 ⟨i, hi⟩ ⟨j, hj⟩ ⟨k, hk⟩) := by
  dsimp only [par]
  exact f3_at _ i j k hi hj hk
theorem par_sh (c : Dev nD) (i j : ℕ) (hi : i < 8) (hj : j < 1024) : (par m c).sh i j = (m (c.tc.loc main_arg1) : Vec Ideal S8x1024 .f32) (ix2 ⟨i, hi⟩ ⟨j, hj⟩) := by
  dsimp only [par]
  exact f2_at _ i j hi hj
theorem par_sc (c : Dev nD) (i j : ℕ) (hi : i < 8) (hj : j < 1024) : (par m c).sc i j = (m (c.tc.loc main_arg2) : Vec Ideal S8x1024 .f32) (ix2 ⟨i, hi⟩ ⟨j, hj⟩) := by
  dsimp only [par]
  exact f2_at _ i j hi hj
theorem par_ga (c : Dev nD) (i j : ℕ) (hi : i < 8) (hj : j < 1024) : (par m c).ga i j = (m (c.tc.loc main_arg3) : Vec Ideal S8x1024 .f32) (ix2 ⟨i, hi⟩ ⟨j, hj⟩) := by
  dsimp only [par]
  exact f2_at _ i j hi hj
theorem par_g (c : Dev nD) (i : ℕ) (hi : i < 1024) : (par m c).g i = (m (c.tc.loc main_arg4) : Vec Ideal S1024 .f32) (ix1 ⟨i, hi⟩) := by
  dsimp only [par]
  exact f1_at _ i hi
theorem par_w (c : Dev nD) (i j : ℕ) (hi : i < 1024) (hj : j < 4632) : (par m c).w i j = (m (c.tc.loc main_arg5) : Vec Ideal S1024x4632 .f32) (ix2 ⟨i, hi⟩ ⟨j, hj⟩) := by
  dsimp only [par]
  exact f2_at _ i j hi hj
theorem par_wp (c : Dev nD) (i j k : ℕ) (hi : i < 4) (hj : j < 128) (hk : k < 128) : (par m c).wp i j k = (m (c.tc.loc main_arg6) : Vec Ideal S4x128x128 .f32) (ix3 ⟨i, hi⟩ ⟨j, hj⟩ ⟨k, hk⟩) := by
  dsimp only [par]
  exact f3_at _ i j k hi hj hk
theorem par_ps (c : Dev nD) (i : ℕ) (hi : i < 512) : (par m c).ps i = (m (c.tc.loc main_arg7) : Vec Ideal S512 .f32) (ix1 ⟨i, hi⟩) := by
  dsimp only [par]
  exact f1_at _ i hi
theorem par_cw (c : Dev nD) (i j : ℕ) (hi : i < 4) (hj : j < 2560) : (par m c).cw i j = (m (c.tc.loc main_arg8) : Vec Ideal S4x2560 .f32) (ix2 ⟨i, hi⟩ ⟨j, hj⟩) := by
  dsimp only [par]
  exact f2_at _ i j hi hj
theorem par_cb (c : Dev nD) (i : ℕ) (hi : i < 2560) : (par m c).cb i = (m (c.tc.loc main_arg9) : Vec Ideal S2560 .f32) (ix1 ⟨i, hi⟩) := by
  dsimp only [par]
  exact f1_at _ i hi
theorem par_dtb (c : Dev nD) (i : ℕ) (hi : i < 24) : (par m c).dtb i = (m (c.tc.loc main_arg10) : Vec Ideal S24 .f32) (ix1 ⟨i, hi⟩) := by
  dsimp only [par]
  exact f1_at _ i hi
theorem par_al (c : Dev nD) (i : ℕ) (hi : i < 24) : (par m c).al i = (m (c.tc.loc main_arg11) : Vec Ideal S24 .f32) (ix1 ⟨i, hi⟩) := by
  dsimp only [par]
  exact f1_at _ i hi
theorem par_ng (c : Dev nD) (i : ℕ) (hi : i < 1536) : (par m c).ng i = (m (c.tc.loc main_arg13) : Vec Ideal S1536 .f32) (ix1 ⟨i, hi⟩) := by
  dsimp only [par]
  exact f1_at _ i hi
theorem par_wo (c : Dev nD) (i j : ℕ) (hi : i < 2048) (hj : j < 1024) : (par m c).wo i j = (m (c.tc.loc main_arg14) : Vec Ideal S2048x1024 .f32) (ix2 ⟨i, hi⟩ ⟨j, hj⟩) := by
  dsimp only [par]
  exact f2_at _ i j hi hj
theorem par_dsk (c : Dev nD) (j : ℕ) (hj : j / 64 < 24) : (par m c).dsk j = (m (c.tc.loc main_arg12) : Vec Ideal S24 .f32) (ix1 ⟨j / 64, hj⟩) := by
  dsimp only [par]
  exact f1_at _ (j / 64) hj

theorem idx3 {a b d : ℕ} {i i' : Fin a} {j j' : Fin b} {k k' : Fin d} (h0 : i = i') (h1 : j = j') (h2 : k = k') : ix3 i j k = ix3 i' j' k' := by
  subst h0; subst h1; subst h2; rfl

theorem c14 (v : Vec Ideal S8x4096x1024 .f32) (R : Fin 32768) (j : Fin 1024) :
    shapeCast S32768x1024 v shapeCasts_S8x4096x1024_S32768x1024 (ix2 R j) = v (ix3 ⟨R.val / 4096, by omega⟩ ⟨R.val % 4096, by omega⟩ j) := by
  pointwise
theorem c15 (v : Vec Ideal S8x1024 .f32) (i : Fin 8) (j : Fin 1) (k : Fin 1024) : shapeCast S8x1x1024 v shapeCasts_S8x1024_S8x1x1024 (ix3 i j k) = v (ix2 i k) := by
  pointwise
theorem c1024 (v : Vec Ideal S1024 .f32) (i : Fin 1) (j : Fin 1024) : shapeCast S1x1024 v shapeCasts_S1024_S1x1024 (ix2 i j) = v (ix1 j) := by
  pointwise
theorem c2560 (v : Vec Ideal S2560 .f32) (i : Fin 1) (j : Fin 2560) : shapeCast S1x2560 v shapeCasts_S2560_S1x2560 (ix2 i j) = v (ix1 j) := by
  pointwise
theorem c512 (v : Vec Ideal S512 .f32) (i : Fin 1) (j : Fin 512) : shapeCast S1x512 v shapeCasts_S512_S1x512 (ix2 i j) = v (ix1 j) := by
  pointwise
theorem c1536 (v : Vec Ideal S1536 .f32) (i : Fin 1) (j : Fin 1536) : shapeCast S1x1536 v shapeCasts_S1536_S1x1536 (ix2 i j) = v (ix1 j) := by
  pointwise
theorem c24 (v : Vec Ideal S24 .f32) (i : Fin 1) (j : Fin 1536) :
    shapeCast S1x1536 (shapeCast S1536 (broadcastInDim S24x64 ![0] bcast_S24_S24x64_0 v) shapeCasts_S24x64_S1536) shapeCasts_S1536_S1x1536 (ix2 i j) = v (ix1 ⟨j.val / 64, by omega⟩) := by
  pointwise
theorem c128 (v : Vec Ideal S24 .f32) (w : Vec Ideal S_ .f32) (j : Fin 128) (hj : j.val < 24) :
    shapeCast S1x128 (pad S128 ![0] ![104] ![0] v w pads_S24_S128_01040 h_S_) shapeCasts_S128_S1x128 (ix2 0 j) = v (ix1 ⟨j.val, hj⟩) := by
  pointwise
  refine (dif_pos ?_).trans rfl
  exact hj

theorem emb0 (t : Fin cfg0.N) (r : Fin 256) (k : Fin 1024) : (win0_0.blk t).view.emb (ix2 r k) = ix2 ⟨min t.val 127 * 256 + r.val, by have := lt129 t; omega⟩ k := by
  obtain ⟨h, -⟩ := idxA t
  have := lt129 t
  blk_ext [h]
theorem emb1 (t : Fin cfg0.N) (r : Fin 256) (k : Fin 1024) : (win0_1.blk t).view.emb (ix2 r k) = ix2 ⟨(t.val - 1) * 256 + r.val, by have := lt129 t; omega⟩ k := by
  obtain ⟨_, h, -⟩ := idxA t
  have := lt129 t
  blk_ext [h]
theorem emb2 (t : Fin cfg0.N) (i j : Fin 1) (k : Fin 1024) : (win0_2.blk t).view.emb (ix3 i j k) = ix3 ⟨min t.val 127 / 16, by have := lt129 t; omega⟩ 0 k := by
  obtain ⟨_, _, h, -⟩ := idxA t
  have := lt129 t
  blk_ext [h]
theorem emb3 (t : Fin cfg0.N) (i j : Fin 1) (k : Fin 1024) : (win0_3.blk t).view.emb (ix3 i j k) = ix3 ⟨min t.val 127 / 16, by have := lt129 t; omega⟩ 0 k := by
  obtain ⟨_, _, _, h, -⟩ := idxA t
  have := lt129 t
  blk_ext [h]
theorem emb4 (t : Fin cfg0.N) (i j : Fin 1) (k : Fin 1024) : (win0_4.blk t).view.emb (ix3 i j k) = ix3 ⟨(t.val - 1) / 16, by have := lt129 t; omega⟩ 0 k := by
  obtain ⟨_, _, _, _, h, -⟩ := idxA t
  have := lt129 t
  blk_ext [h]
theorem emb5 (t : Fin cfg0.N) (i : Fin 1) (k : Fin 1024) : (win0_5.blk t).view.emb (ix2 i k) = ix2 i k := by
  obtain ⟨h, -⟩ := idxB t
  have := lt129 t
  blk_ext [h]
theorem emb6 (t : Fin cfg0.N) (i : Fin 1024) (k : Fin 4632) : (win0_6.blk t).view.emb (ix2 i k) = ix2 i k := by
  obtain ⟨_, h, -⟩ := idxB t
  have := lt129 t
  blk_ext [h]
theorem emb7 (t : Fin cfg0.N) (i : Fin 4) (k : Fin 2560) : (win0_7.blk t).view.emb (ix2 i k) = ix2 i k := by
  obtain ⟨_, _, h, -⟩ := idxB t
  have := lt129 t
  blk_ext [h]
theorem emb8 (t : Fin cfg0.N) (i : Fin 1) (k : Fin 2560) : (win0_8.blk t).view.emb (ix2 i k) = ix2 i k := by
  obtain ⟨_, _, _, h, -⟩ := idxB t
  have := lt129 t
  blk_ext [h]
theorem emb10 (t : Fin cfg0.N) (i : Fin 1) (k : Fin 512) : (win0_10.blk t).view.emb (ix2 i k) = ix2 i k := by
  obtain ⟨_, _, _, _, _, h, -⟩ := idxB t
  have := lt129 t
  blk_ext [h]
theorem emb11 (t : Fin cfg0.N) (i : Fin 1) (k : Fin 128) : (win0_11.blk t).view.emb (ix2 i k) = ix2 i k := by
  obtain ⟨_, _, _, _, _, _, h, -⟩ := idxB t
  have := lt129 t
  blk_ext [h]
theorem emb12 (t : Fin cfg0.N) (i : Fin 1) (k : Fin 128) : (win0_12.blk t).view.emb (ix2 i k) = ix2 i k := by
  obtain ⟨_, _, _, _, _, _, _, h, -⟩ := idxB t
  have := lt129 t
  blk_ext [h]
theorem emb13 (t : Fin cfg0.N) (i : Fin 1) (k : Fin 1536) : (win0_13.blk t).view.emb (ix2 i k) = ix2 i k := by
  obtain ⟨_, _, _, _, _, _, _, _, h, -⟩ := idxB t
  have := lt129 t
  blk_ext [h]
theorem emb14 (t : Fin cfg0.N) (i : Fin 1) (k : Fin 1536) : (win0_14.blk t).view.emb (ix2 i k) = ix2 i k := by
  obtain ⟨_, _, _, _, _, _, _, _, _, h, -⟩ := idxB t
  have := lt129 t
  blk_ext [h]
theorem emb15 (t : Fin cfg0.N) (i : Fin 128) (k : Fin 1536) : (win0_15.blk t).view.emb (ix2 i k) = ix2 i k := by
  obtain ⟨_, _, _, _, _, _, _, _, _, _, h, -⟩ := idxB t
  have := lt129 t
  blk_ext [h]
theorem emb16 (t : Fin cfg0.N) (i : Fin 2048) (k : Fin 1024) : (win0_16.blk t).view.emb (ix2 i k) = ix2 i k := by
  obtain ⟨_, _, _, _, _, _, _, _, _, _, _, h⟩ := idxB t
  have := lt129 t
  blk_ext [h]
theorem emb9 (t : Fin cfg0.N) (i : Fin 4) (j k : Fin 128) : (win0_9.blk t).view.emb (ix3 i j k) = ix3 i j k := by
  obtain ⟨_, _, _, _, h, -⟩ := idxB t
  have := lt129 t
  blk_ext [h]

theorem blk0 (c : Dev nD) (t : Fin cfg0.N) (r : Fin 256) (k : Fin 1024) : ((iblk m c 0 t : Vec Ideal S256x1024 .f32) (ix2 r k) : EReal) = (par m c).x (min t.val 127 / 16) (min t.val 127 % 16 * 256 + r.val) k.val := by
  have hN := lt129 t
  refine (congrArg (V m c main_v14) (emb0 t r k)).trans ?_
  refine ((congrFun (v14 m c) _).trans (c14 _ _ k)).trans ?_
  refine Eq.trans ?_ (par_x m c _ _ k.val (by omega) (by omega) k.isLt).symm
  exact congrArg _ (idx3 (Fin.ext (by show _ / 4096 = _; dsimp only; omega)) (Fin.ext (by show _ % 4096 = _; dsimp only; omega)) rfl)

theorem blk1 (c : Dev nD) (t : Fin cfg0.N) (r : Fin 256) (k : Fin 1024) : ((iblk m c 1 t : Vec Ideal S256x1024 .f32) (ix2 r k) : EReal) = (par m c).x ((t.val - 1) / 16) ((t.val - 1) % 16 * 256 + r.val) k.val := by
  have hN := lt129 t
  refine (congrArg (V m c main_v14) (emb1 t r k)).trans ?_
  refine ((congrFun (v14 m c) _).trans (c14 _ _ k)).trans ?_
  refine Eq.trans ?_ (par_x m c _ _ k.val (by omega) (by omega) k.isLt).symm
  exact congrArg _ (idx3 (Fin.ext (by show _ / 4096 = _; dsimp only; omega)) (Fin.ext (by show _ % 4096 = _; dsimp only; omega)) rfl)

theorem blk2 (c : Dev nD) (t : Fin cfg0.N) (i j : Fin 1) (k : Fin 1024) : ((iblk m c 2 t : Vec Ideal S1x1x1024 .f32) (ix3 i j k) : EReal) = (par m c).sh (min t.val 127 / 16) k.val := by
  have hN := lt129 t
  refine (congrArg (V m c main_v15) (emb2 t i j k)).trans ?_
  refine ((congrFun (v15 m c) _).trans (c15 _ _ 0 k)).trans ?_
  exact (par_sh m c _ k.val (by omega) k.isLt).symm

theorem blk3 (c : Dev nD) (t : Fin cfg0.N) (i j : Fin 1) (k : Fin 1024) : ((iblk m c 3 t : Vec Ideal S1x1x1024 .f32) (ix3 i j k) : EReal) = (par m c).sc (min t.val 127 / 16) k.val := by
  have hN := lt129 t
  refine (congrArg (V m c main_v16) (emb3 t i j k)).trans ?_
  refine ((congrFun (v16 m c) _).trans (c15 _ _ 0 k)).trans ?_
  exact (par_sc m c _ k.val (by omega) k.isLt).symm

theorem blk4 (c : Dev nD) (t : Fin cfg0.N) (i j : Fin 1) (k : Fin 1024) : ((iblk m c 4 t : Vec Ideal S1x1x1024 .f32) (ix3 i j k) : EReal) = (par m c).ga ((t.val - 1) / 16) k.val := by
  have hN := lt129 t
  refine (congrArg (V m c main_v17) (emb4 t i j k)).trans ?_
  refine ((congrFun (v17 m c) _).trans (c15 _ _ 0 k)).trans ?_
  exact (par_ga m c _ k.val (by omega) k.isLt).symm

theorem blk5 (c : Dev nD) (t : Fin cfg0.N) (i : Fin 1) (k : Fin 1024) : ((iblk m c 5 t : Vec Ideal S1x1024 .f32) (ix2 i k) : EReal) = (par m c).g k.val := by
  have hN := lt129 t
  refine (congrArg (V m c main_v28) (emb5 t i k)).trans ?_
  refine ((congrFun (v28 m c) _).trans (c1024 _ i k)).trans ?_
  exact (par_g m c k.val k.isLt).symm

theorem blk8 (c : Dev nD) (t : Fin cfg0.N) (i : Fin 1) (k : Fin 2560) : ((iblk m c 8 t : Vec Ideal S1x2560 .f32) (ix2 i k) : EReal) = (par m c).cb k.val := by
  have hN := lt129 t
  refine (congrArg (V m c main_v29) (emb8 t i k)).trans ?_
  refine ((congrFun (v29 m c) _).trans (c2560 _ i k)).trans ?_
  exact (par_cb m c k.val k.isLt).symm

theorem blk10 (c : Dev nD) (t : Fin cfg0.N) (i : Fin 1) (k : Fin 512) : ((iblk m c 10 t : Vec Ideal S1x512 .f32) (ix2 i k) : EReal) = (par m c).ps k.val := by
  have hN := lt129 t
  refine (congrArg (V m c main_v30) (emb10 t i k)).trans ?_
  refine ((congrFun (v30 m c) _).trans (c512 _ i k)).trans ?_
  exact (par_ps m c k.val k.isLt).symm

theorem blk14 (c : Dev nD) (t : Fin cfg0.N) (i : Fin 1) (k : Fin 1536) : ((iblk m c 14 t : Vec Ideal S1x1536 .f32) (ix2 i k) : EReal) = (par m c).ng k.val := by
  have hN := lt129 t
  refine (congrArg (V m c main_v31) (emb14 t i k)).trans ?_
  refine ((congrFun (v31 m c) _).trans (c1536 _ i k)).trans ?_
  exact (par_ng m c k.val k.isLt).symm

theorem blk6 (c : Dev nD) (t : Fin cfg0.N) (i : Fin 1024) (k : Fin 4632) : ((iblk m c 6 t : Vec Ideal S1024x4632 .bf16) (ix2 i k) : EReal) = (par m c).w i.val k.val := by
  have hN := lt129 t
  refine (congrArg (V m c main_v18) (emb6 t i k)).trans ?_
  refine (congrFun (v18 m c) _).trans ?_
  exact (par_w m c i.val k.val i.isLt k.isLt).symm

theorem blk16 (c : Dev nD) (t : Fin cfg0.N) (i : Fin 2048) (k : Fin 1024) : ((iblk m c 16 t : Vec Ideal S2048x1024 .bf16) (ix2 i k) : EReal) = (par m c).wo i.val k.val := by
  have hN := lt129 t
  refine (congrArg (V m c main_v27) (emb16 t i k)).trans ?_
  refine (congrFun (v27 m c) _).trans ?_
  exact (par_wo m c i.val k.val i.isLt k.isLt).symm

theorem blk7 (c : Dev nD) (t : Fin cfg0.N) (i : Fin 4) (k : Fin 2560) : ((iblk m c 7 t : Vec Ideal S4x2560 .f32) (ix2 i k) : EReal) = (par m c).cw i.val k.val := by
  have hN := lt129 t
  refine (congrArg (V m c main_arg8) (emb7 t i k)).trans ?_
  refine (congrFun (V_main_arg8 m c) _).trans ?_
  exact (par_cw m c i.val k.val i.isLt k.isLt).symm

theorem blk9 (c : Dev nD) (t : Fin cfg0.N) (i : Fin 4) (j k : Fin 128) : ((iblk m c 9 t : Vec Ideal S4x128x128 .bf16) (ix3 i j k) : EReal) = (par m c).wp i.val j.val k.val := by
  have hN := lt129 t
  refine (congrArg (V m c main_v19) (emb9 t i j k)).trans ?_
  refine (congrFun (v19 m c) _).trans ?_
  exact (par_wp m c i.val j.val k.val i.isLt j.isLt k.isLt).symm

theorem blk11 (c : Dev nD) (t : Fin cfg0.N) (j : Fin 128) (hj : j.val < 24) : ((iblk m c 11 t : Vec Ideal S1x128 .f32) (ix2 0 j) : EReal) = (par m c).dtb j.val := by
  have hN := lt129 t
  refine (congrArg (V m c main_v21) (emb11 t 0 j)).trans ?_
  refine ((congrFun (v21 m c) _).trans (c128 _ _ j hj)).trans ?_
  exact (par_dtb m c j.val hj).symm

theorem blk12 (c : Dev nD) (t : Fin cfg0.N) (j : Fin 128) (hj : j.val < 24) : ((iblk m c 12 t : Vec Ideal S1x128 .f32) (ix2 0 j) : EReal) = (par m c).al j.val := by
  have hN := lt129 t
  refine (congrArg (V m c main_v23) (emb12 t 0 j)).trans ?_
  refine ((congrFun (v23 m c) _).trans (c128 _ _ j hj)).trans ?_
  exact (par_al m c j.val hj).symm

theorem blk13 (c : Dev nD) (t : Fin cfg0.N) (i : Fin 1) (j : Fin 1536) : ((iblk m c 13 t : Vec Ideal S1x1536 .f32) (ix2 i j) : EReal) = (par m c).dsk j.val := by
  have hN := lt129 t
  refine (congrArg (V m c main_v26) (emb13 t i j)).trans ?_
  refine ((congrFun (v26 m c) _).trans (c24 _ i j)).trans ?_
  exact (par_dsk m c j.val (by omega)).symm

theorem blk15 (c : Dev nD) (t : Fin cfg0.N) (i : Fin 128) (j : Fin 1536) : ((iblk m c 15 t : Vec Ideal S128x1536 .bf16) (ix2 i j) : EReal) = if i.val % 32 = j.val / 64 ∧ i.val < 96 then (1 : EReal) else 0 := by
  have hN := lt129 t
  refine (congrArg (V m c main_v13) (emb15 t i j)).trans ?_
  exact v13 m c i j

/-- The block of the result a point writes. -/
theorem emb17 (t : Fin cfg0.N) (r : Fin 256) (k : Fin 1024) : (win0_17.blk t).view.emb (ix2 r k) = ix2 ⟨(t.val - 1) * 256 + r.val, by have := lt129 t; omega⟩ k := by
  obtain ⟨_, _, _, _, _, h⟩ := idxA t
  have := lt129 t
  blk_ext [h]

/-- The first row a point's tile has in its sequence. -/
theorem v403_B : ∀ t : Fin cfg0.N, (kernelRun0_B.sl.v403 (grid0.coords t) : BitVec 32) = BitVec.ofNat 32 ((t.val - 1) % 16 * 256) :=
  (by decide +kernel : ∀ t : Fin grid0.N, _)
theorem v403_C : ∀ t : Fin cfg0.N, (kernelRun0_C.sl.v403 (grid0.coords t) : BitVec 32) = BitVec.ofNat 32 ((t.val - 1) % 16 * 256) :=
  (by decide +kernel : ∀ t : Fin grid0.N, _)
theorem v403_D : ∀ t : Fin cfg0.N, (kernelRun0_D.sl.v403 (grid0.coords t) : BitVec 32) = BitVec.ofNat 32 ((t.val - 1) % 16 * 256) :=
  (by decide +kernel : ∀ t : Fin grid0.N, _)
theorem pos_B (t : Fin cfg0.N) (r : Fin 256) (u : Fin 128) : kernelRun0_B.sl.v406 (grid0.coords t) (ix2 r u) = BitVec.ofNat 32 ((t.val - 1) % 16 * 256 + r.val) := by
  unfold kernelRun0_B.sl.v406 kernelRun0_B.sl.v405 kernelRun0_B.sl.v404
  pointwise
  rw [v403_B]
  exact (BitVec.ofNat_add _ _).symm
theorem pos_C (t : Fin cfg0.N) (r : Fin 256) (u : Fin 128) : kernelRun0_C.sl.v406 (grid0.coords t) (ix2 r u) = BitVec.ofNat 32 ((t.val - 1) % 16 * 256 + r.val) := by
  unfold kernelRun0_C.sl.v406 kernelRun0_C.sl.v405 kernelRun0_C.sl.v404
  pointwise
  rw [v403_C]
  exact (BitVec.ofNat_add _ _).symm
theorem pos_D (t : Fin cfg0.N) (r : Fin 256) (u : Fin 128) : kernelRun0_D.sl.v406 (grid0.coords t) (ix2 r u) = BitVec.ofNat 32 ((t.val - 1) % 16 * 256 + r.val) := by
  unfold kernelRun0_D.sl.v406 kernelRun0_D.sl.v405 kernelRun0_D.sl.v404
  pointwise
  rw [v403_D]
  exact (BitVec.ofNat_add _ _).symm

/-- What a point reads is its tile's. -/
theorem reads (c : Dev nD) (h : (par m c).Ok) (t : Fin cfg0.N) (S : Tile) (hS : S = (par m c).tile (t.val - 1)) (B : Vec Ideal S256x4736 .f32)
    (hB : ∀ (i : Fin 256) (j : Fin 4736), j.val < 4632 → B (ix2 i j) = (par m c).U (t.val - 1) i.val j.val) :
    Reads S (iblk m c 7 t) (iblk m c 8 t) (iblk m c 9 t) (iblk m c 10 t) (iblk m c 11 t) (iblk m c 12 t) (iblk m c 13 t) (iblk m c 14 t) (iblk m c 15 t) (iblk m c 16 t) B := by
  subst hS
  constructor
  · exact fun i j _ _ => blk7 m c t i j
  · exact fun i j _ _ => blk8 m c t i j
  · exact fun i j k => blk9 m c t i j k
  · exact fun i j _ _ => blk10 m c t i j
  · exact fun j hj => blk11 m c t j hj
  · exact fun j hj => blk12 m c t j hj
  · exact fun i j _ _ => blk13 m c t i j
  · exact fun i j _ _ => blk14 m c t i j
  · exact fun i j _ _ => blk15 m c t i j
  · exact fun i j _ _ => blk16 m c t i j
  · exact fun i j _ hj => hB i j hj
  · exact fun i u _ => h.cw i u
  · exact fun u _ => h.cb u
  · exact fun r u _ => h.row _ _ _
  · intro q u _
    by_cases h0 : (t.val - 1) % 16 = 0
    · rw [Par.tile_H0 h0]; exact Fin'.zero
    · rw [Par.tile_H h0]; exact h.row _ _ _
  · exact fun u _ => h.dtb u
  · exact Nat.mod_lt _ (by decide)

end Cert.MixerIdeal.Value
-- ==== Proof.MixA3.lean ====
/-
  What a point leaves in each buffer (untrusted).
-/
module

public import proofs.«01_k».proof.Proof.Gen.MixerIdeal.Frame
public import proofs.«01_k».proof.Proof.MixStep

@[expose] public section

set_option maxRecDepth 16384

noncomputable section

namespace Cert.MixerIdeal.Value.CaseA

open Cert.MixerIdeal Cert.MixerIdeal.Gen Idealize.ShloMosaic Idealize.ShloMosaic.TcCoe Idealize.SL.Sem
open Cert.Layer

variable {c : Dev nD} {i : grid0.Coords}
  {arg1 : Memref sig .tc .vmem S256x1024 .f32} {harg1 : arg1.IsWhole}
  {arg2 : Memref sig .tc .vmem S256x1024 .f32} {harg2 : arg2.IsWhole}
  {arg3 : Memref sig .tc .vmem S1x1x1024 .f32} {harg3 : arg3.IsWhole}
  {arg4 : Memref sig .tc .vmem S1x1x1024 .f32} {harg4 : arg4.IsWhole}
  {arg5 : Memref sig .tc .vmem S1x1x1024 .f32} {harg5 : arg5.IsWhole}
  {arg6 : Memref sig .tc .vmem S1x1024 .f32} {harg6 : arg6.IsWhole}
  {arg7 : Memref sig .tc .vmem S1024x4632 .bf16} {harg7 : arg7.IsWhole}
  {arg8 : Memref sig .tc .vmem S4x2560 .f32} {harg8 : arg8.IsWhole}
  {arg9 : Memref sig .tc .vmem S1x2560 .f32} {harg9 : arg9.IsWhole}
  {arg10 : Memref sig .tc .vmem S4x128x128 .bf16} {harg10 : arg10.IsWhole}
  {arg11 : Memref sig .tc .vmem S1x512 .f32} {harg11 : arg11.IsWhole}
  {arg12 : Memref sig .tc .vmem S1x128 .f32} {harg12 : arg12.IsWhole}
  {arg13 : Memref sig .tc .vmem S1x128 .f32} {harg13 : arg13.IsWhole}
  {arg14 : Memref sig .tc .vmem S1x1536 .f32} {harg14 : arg14.IsWhole}
  {arg15 : Memref sig .tc .vmem S1x1536 .f32} {harg15 : arg15.IsWhole}
  {arg16 : Memref sig .tc .vmem S128x1536 .bf16} {harg16 : arg16.IsWhole}
  {arg17 : Memref sig .tc .vmem S2048x1024 .bf16} {harg17 : arg17.IsWhole}
  {arg18 : Memref sig .tc .vmem S256x1024 .f32} {harg18 : arg18.IsWhole}
  {arg19 : Memref sig .tc .vmem S4x128x384 .f32} {harg19 : arg19.IsWhole}
  {arg20 : Memref sig .tc .vmem S256x4736 .f32} {harg20 : arg20.IsWhole}
  {arg21 : Memref sig .tc .vmem S256x4736 .f32} {harg21 : arg21.IsWhole}
  {arg22 : Memref sig .tc .vmem S8x2560 .f32} {harg22 : arg22.IsWhole}
  {arg23 : Memref sig .tc .vmem S16x512 .f32} {harg23 : arg23.IsWhole}
  {arg24 : Memref sig .tc .vmem S256x1536 .f32} {harg24 : arg24.IsWhole}
  {arg25 : Memref sig .tc .vmem S256x512 .bf16} {harg25 : arg25.IsWhole}
  {arg26 : Memref sig .tc .vmem S256x512 .bf16} {harg26 : arg26.IsWhole}
  {arg27 : Memref sig .tc .vmem S256x1536 .f32} {harg27 : arg27.IsWhole}
  {arg28 : Memref sig .tc .vmem S256x1536 .f32} {harg28 : arg28.IsWhole}
  {arg29 : Memref sig .tc .vmem S256x1536 .f32} {harg29 : arg29.IsWhole}
  {arg30 : Memref sig .tc .vmem S128x256 .f32} {harg30 : arg30.IsWhole}
  {arg31 : Memref sig .tc .vmem S128x256 .f32} {harg31 : arg31.IsWhole}
variable {x0 : Vec Ideal S256x1024 .f32} {x1 : Vec Ideal S256x1024 .f32} {x2 : Vec Ideal S1x1x1024 .f32} {x3 : Vec Ideal S1x1x1024 .f32} {x4 : Vec Ideal S1x1x1024 .f32} {x5 : Vec Ideal S1x1024 .f32} {x6 : Vec Ideal S1024x4632 .bf16} {x7 : Vec Ideal S4x2560 .f32} {x8 : Vec Ideal S1x2560 .f32} {x9 : Vec Ideal S4x128x128 .bf16} {x10 : Vec Ideal S1x512 .f32} {x11 : Vec Ideal S1x128 .f32} {x12 : Vec Ideal S1x128 .f32} {x13 : Vec Ideal S1x1536 .f32} {x14 : Vec Ideal S1x1536 .f32} {x15 : Vec Ideal S128x1536 .bf16} {x16 : Vec Ideal S2048x1024 .bf16} {xs0 : Vec Ideal S4x128x384 .f32} {xs1 : Vec Ideal S256x4736 .f32} {xs2 : Vec Ideal S256x4736 .f32} {xs3 : Vec Ideal S8x2560 .f32} {xs4 : Vec Ideal S16x512 .f32}

/-- The projected rows of the next tile. -/
theorem proj_ends (hc0 : cond0_0 i) (hc1 : cond0_1 i) (hc2 : cond0_2 i) (hc3 : ¬cond0_3 i) (X : ℕ → ℕ → EReal) (g sc sh : ℕ → EReal) (w : ℕ → ℕ → EReal)
    (hX : ∀ (r : Fin 256) (k : Fin 1024), r.val < 256 → k.val < 1024 → x0 (ix2 r k) = X r.val k.val) (hg : ∀ (i : Fin 1) (k : Fin 1024), i.val < 1 → k.val < 1024 → x5 (ix2 i k) = g k.val)
    (hsh : ∀ (i j : Fin 1) (k : Fin 1024), x2 (ix3 i j k) = sh k.val) (hsc : ∀ (i j : Fin 1) (k : Fin 1024), x3 (ix3 i j k) = sc k.val)
    (hw : ∀ (k : Fin 1024) (u : Fin 4632), k.val < 1024 → u.val < 4632 → x6 (ix2 k u) = w k.val u.val)
    (r : Fin 256) (u : Fin 4736) (hu : u.val < 4632) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 (ix2 r u) = projF X g sc sh w r.val u.val := by
  unfold sout0_A_1
  refine (congrFun (View.read_writes_junk_eq_canon _ _) _).trans ?_
  unfold kernelRun0_A
  dsimp only
  refine step2 (e := .f32) (projF X g sc sh w) 4608 _ _ _ r u (by omega) (by omega) (fun i j => proj_last X g sc sh w _ _ _ _ _ 4608
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4608 _ (by decide) (by decide) k j) i j) fun hlt => ?_
  refine step2 (e := .f32) (projF X g sc sh w) 4352 _ _ _ r u (by omega) (by omega) (fun i j => proj_tile X g sc sh w _ _ _ _ _ 4352
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4352 _ (by decide) (by decide) k j) i j) fun hlt => ?_
  refine step2 (e := .f32) (projF X g sc sh w) 4096 _ _ _ r u (by omega) (by omega) (fun i j => proj_tile X g sc sh w _ _ _ _ _ 4096
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4096 _ (by decide) (by decide) k j) i j) fun hlt => ?_
  refine step2 (e := .f32) (projF X g sc sh w) 3840 _ _ _ r u (by omega) (by omega) (fun i j => proj_tile X g sc sh w _ _ _ _ _ 3840
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3840 _ (by decide) (by decide) k j) i j) fun hlt => ?_
  refine step2 (e := .f32) (projF X g sc sh w) 3584 _ _ _ r u (by omega) (by omega) (fun i j => proj_tile X g sc sh w _ _ _ _ _ 3584
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3584 _ (by decide) (by decide) k j) i j) fun hlt => ?_
  refine step2 (e := .f32) (projF X g sc sh w) 3328 _ _ _ r u (by omega) (by omega) (fun i j => proj_tile X g sc sh w _ _ _ _ _ 3328
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3328 _ (by decide) (by decide) k j) i j) fun hlt => ?_
  refine step2 (e := .f32) (projF X g sc sh w) 3072 _ _ _ r u (by omega) (by omega) (fun i j => proj_tile X g sc sh w _ _ _ _ _ 3072
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3072 _ (by decide) (by decide) k j) i j) fun hlt => ?_
  refine step2 (e := .f32) (projF X g sc sh w) 2816 _ _ _ r u (by omega) (by omega) (fun i j => proj_tile X g sc sh w _ _ _ _ _ 2816
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2816 _ (by decide) (by decide) k j) i j) fun hlt => ?_
  refine step2 (e := .f32) (projF X g sc sh w) 2560 _ _ _ r u (by omega) (by omega) (fun i j => proj_tile X g sc sh w _ _ _ _ _ 2560
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2560 _ (by decide) (by decide) k j) i j) fun hlt => ?_
  refine step2 (e := .f32) (projF X g sc sh w) 2304 _ _ _ r u (by omega) (by omega) (fun i j => proj_tile X g sc sh w _ _ _ _ _ 2304
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2304 _ (by decide) (by decide) k j) i j) fun hlt => ?_
  refine step2 (e := .f32) (projF X g sc sh w) 2048 _ _ _ r u (by omega) (by omega) (fun i j => proj_tile X g sc sh w _ _ _ _ _ 2048
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2048 _ (by decide) (by decide) k j) i j) fun hlt => ?_
  refine step2 (e := .f32) (projF X g sc sh w) 1792 _ _ _ r u (by omega) (by omega) (fun i j => proj_tile X g sc sh w _ _ _ _ _ 1792
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1792 _ (by decide) (by decide) k j) i j) fun hlt => ?_
  refine step2 (e := .f32) (projF X g sc sh w) 1536 _ _ _ r u (by omega) (by omega) (fun i j => proj_tile X g sc sh w _ _ _ _ _ 1536
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1536 _ (by decide) (by decide) k j) i j) fun hlt => ?_
  refine step2 (e := .f32) (projF X g sc sh w) 1280 _ _ _ r u (by omega) (by omega) (fun i j => proj_tile X g sc sh w _ _ _ _ _ 1280
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1280 _ (by decide) (by decide) k j) i j) fun hlt => ?_
  refine step2 (e := .f32) (projF X g sc sh w) 1024 _ _ _ r u (by omega) (by omega) (fun i j => proj_tile X g sc sh w _ _ _ _ _ 1024
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1024 _ (by decide) (by decide) k j) i j) fun hlt => ?_
  refine step2 (e := .f32) (projF X g sc sh w) 768 _ _ _ r u (by omega) (by omega) (fun i j => proj_tile X g sc sh w _ _ _ _ _ 768
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 768 _ (by decide) (by decide) k j) i j) fun hlt => ?_
  refine step2 (e := .f32) (projF X g sc sh w) 512 _ _ _ r u (by omega) (by omega) (fun i j => proj_tile X g sc sh w _ _ _ _ _ 512
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 512 _ (by decide) (by decide) k j) i j) fun hlt => ?_
  refine step2 (e := .f32) (projF X g sc sh w) 256 _ _ _ r u (by omega) (by omega) (fun i j => proj_tile X g sc sh w _ _ _ _ _ 256
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 256 _ (by decide) (by decide) k j) i j) fun hlt => ?_
  refine step2 (e := .f32) (projF X g sc sh w) 0 _ _ _ r u (by omega) (by omega) (fun i j => proj_tile X g sc sh w _ _ _ _ _ 0
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 0 _ (by decide) (by decide) k j) i j) fun hlt => ?_
  exact absurd hlt (Nat.not_lt_zero _)

end Cert.MixerIdeal.Value.CaseA
-- ==== Proof.MixB1.lean ====
/-
  The convolved, pooled and summed rows of a tile (untrusted).
-/
module

public import proofs.«01_k».proof.Proof.Gen.MixerIdeal.Frame
public import proofs.«01_k».proof.Proof.MixStep

@[expose] public section

set_option maxRecDepth 16384

noncomputable section

namespace Cert.MixerIdeal.Value.CaseB

open Cert.MixerIdeal Cert.MixerIdeal.Gen Idealize.ShloMosaic Idealize.ShloMosaic.TcCoe Idealize.SL.Sem
open Cert.Layer

variable {c : Dev nD} {i : grid0.Coords}
  {arg1 : Memref sig .tc .vmem S256x1024 .f32} {harg1 : arg1.IsWhole}
  {arg2 : Memref sig .tc .vmem S256x1024 .f32} {harg2 : arg2.IsWhole}
  {arg3 : Memref sig .tc .vmem S1x1x1024 .f32} {harg3 : arg3.IsWhole}
  {arg4 : Memref sig .tc .vmem S1x1x1024 .f32} {harg4 : arg4.IsWhole}
  {arg5 : Memref sig .tc .vmem S1x1x1024 .f32} {harg5 : arg5.IsWhole}
  {arg6 : Memref sig .tc .vmem S1x1024 .f32} {harg6 : arg6.IsWhole}
  {arg7 : Memref sig .tc .vmem S1024x4632 .bf16} {harg7 : arg7.IsWhole}
  {arg8 : Memref sig .tc .vmem S4x2560 .f32} {harg8 : arg8.IsWhole}
  {arg9 : Memref sig .tc .vmem S1x2560 .f32} {harg9 : arg9.IsWhole}
  {arg10 : Memref sig .tc .vmem S4x128x128 .bf16} {harg10 : arg10.IsWhole}
  {arg11 : Memref sig .tc .vmem S1x512 .f32} {harg11 : arg11.IsWhole}
  {arg12 : Memref sig .tc .vmem S1x128 .f32} {harg12 : arg12.IsWhole}
  {arg13 : Memref sig .tc .vmem S1x128 .f32} {harg13 : arg13.IsWhole}
  {arg14 : Memref sig .tc .vmem S1x1536 .f32} {harg14 : arg14.IsWhole}
  {arg15 : Memref sig .tc .vmem S1x1536 .f32} {harg15 : arg15.IsWhole}
  {arg16 : Memref sig .tc .vmem S128x1536 .bf16} {harg16 : arg16.IsWhole}
  {arg17 : Memref sig .tc .vmem S2048x1024 .bf16} {harg17 : arg17.IsWhole}
  {arg18 : Memref sig .tc .vmem S256x1024 .f32} {harg18 : arg18.IsWhole}
  {arg19 : Memref sig .tc .vmem S4x128x384 .f32} {harg19 : arg19.IsWhole}
  {arg20 : Memref sig .tc .vmem S256x4736 .f32} {harg20 : arg20.IsWhole}
  {arg21 : Memref sig .tc .vmem S256x4736 .f32} {harg21 : arg21.IsWhole}
  {arg22 : Memref sig .tc .vmem S8x2560 .f32} {harg22 : arg22.IsWhole}
  {arg23 : Memref sig .tc .vmem S16x512 .f32} {harg23 : arg23.IsWhole}
  {arg24 : Memref sig .tc .vmem S256x1536 .f32} {harg24 : arg24.IsWhole}
  {arg25 : Memref sig .tc .vmem S256x512 .bf16} {harg25 : arg25.IsWhole}
  {arg26 : Memref sig .tc .vmem S256x512 .bf16} {harg26 : arg26.IsWhole}
  {arg27 : Memref sig .tc .vmem S256x1536 .f32} {harg27 : arg27.IsWhole}
  {arg28 : Memref sig .tc .vmem S256x1536 .f32} {harg28 : arg28.IsWhole}
  {arg29 : Memref sig .tc .vmem S256x1536 .f32} {harg29 : arg29.IsWhole}
  {arg30 : Memref sig .tc .vmem S128x256 .f32} {harg30 : arg30.IsWhole}
  {arg31 : Memref sig .tc .vmem S128x256 .f32} {harg31 : arg31.IsWhole}
variable {x0 : Vec Ideal S256x1024 .f32} {x1 : Vec Ideal S256x1024 .f32} {x2 : Vec Ideal S1x1x1024 .f32} {x3 : Vec Ideal S1x1x1024 .f32} {x4 : Vec Ideal S1x1x1024 .f32} {x5 : Vec Ideal S1x1024 .f32} {x6 : Vec Ideal S1024x4632 .bf16} {x7 : Vec Ideal S4x2560 .f32} {x8 : Vec Ideal S1x2560 .f32} {x9 : Vec Ideal S4x128x128 .bf16} {x10 : Vec Ideal S1x512 .f32} {x11 : Vec Ideal S1x128 .f32} {x12 : Vec Ideal S1x128 .f32} {x13 : Vec Ideal S1x1536 .f32} {x14 : Vec Ideal S1x1536 .f32} {x15 : Vec Ideal S128x1536 .bf16} {x16 : Vec Ideal S2048x1024 .bf16} {xs0 : Vec Ideal S4x128x384 .f32} {xs1 : Vec Ideal S256x4736 .f32} {xs2 : Vec Ideal S256x4736 .f32} {xs3 : Vec Ideal S8x2560 .f32} {xs4 : Vec Ideal S16x512 .f32}

theorem act0 {T : Tile} (h : Reads T x7 x8 x9 x10 x11 x12 x13 x14 x15 x16 xs1) (hH : ∀ q c, T.H q c = 0)
    (r : Fin 256) (k : Fin 512) : (kernelRun0_B.sl.v82 (F := Ideal) c arg8 harg8 arg9 harg9 arg20 harg20 arg22 x7 x8 xs1) (ix2 r k) = T.act r.val (0 + k.val) := by
  have w0 := rd2 (a' := 1) (b' := 512) arg8 harg8 x7 T.cw 4 2560 h.cw 0 0 (by decide) (by decide) (by decide) 0
  have w1 := rd2 (a' := 1) (b' := 512) arg8 harg8 x7 T.cw 4 2560 h.cw 1 0 (by decide) (by decide) (by decide) 0
  have w2 := rd2 (a' := 1) (b' := 512) arg8 harg8 x7 T.cw 4 2560 h.cw 2 0 (by decide) (by decide) (by decide) 0
  have w3 := rd2 (a' := 1) (b' := 512) arg8 harg8 x7 T.cw 4 2560 h.cw 3 0 (by decide) (by decide) (by decide) 0
  have wb := rd2 (a' := 1) (b' := 512) arg9 harg9 x8 (fun _ => T.cb) 1 2560 h.cb 0 0 (by decide) (by decide) (by decide) 0
  refine (conv_at _ _ _ _ _ _ _ (fun q k => T.e q (0 + k)) (fun q k => (covAt2 _ _ 0 0 _ q k (by omega) (by omega)).trans ((congrFun (whole2 _ _ _) _).trans ((zero4 _).trans (Tile.e_zero hH q _))))
    (fun r k => (rd2 _ _ _ T.U 256 4632 h.U 0 2048 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail0 {T : Tile} (h : Reads T x7 x8 x9 x10 x11 x12 x13 x14 x15 x16 xs1) (hH : ∀ q c, T.H q c = 0)
    (q : Fin 8) (k : Fin 512) : (kernelRun0_B.sl.v86 (F := Ideal) c arg20 harg20 arg22 xs1) (ix2 q k) = T.e (256 + (0 + q.val)) (0 + k.val) :=
  (tail_at _ _ (fun q k => T.e q (0 + k)) (fun q k => (covAt2 _ _ 0 0 _ q k (by omega) (by omega)).trans ((congrFun (whole2 _ _ _) _).trans ((zero4 _).trans (Tile.e_zero hH q _))))
    (fun r k => (rd2 _ _ _ T.U 256 4632 h.U 0 2048 _ (by decide) (by decide) r k).trans (Tile.e_tile T _ _ _ _ (by omega) (by omega))) q k).trans (by simp only [Nat.zero_add])

theorem act1 {T : Tile} (h : Reads T x7 x8 x9 x10 x11 x12 x13 x14 x15 x16 xs1) (hH : ∀ q c, T.H q c = 0)
    (r : Fin 256) (k : Fin 512) : (kernelRun0_B.sl.v152 (F := Ideal) c arg8 harg8 arg9 harg9 arg20 harg20 arg22 x7 x8 xs1) (ix2 r k) = T.act r.val (512 + k.val) := by
  have w0 := rd2 (a' := 1) (b' := 512) arg8 harg8 x7 T.cw 4 2560 h.cw 0 512 (by decide) (by decide) (by decide) 0
  have w1 := rd2 (a' := 1) (b' := 512) arg8 harg8 x7 T.cw 4 2560 h.cw 1 512 (by decide) (by decide) (by decide) 0
  have w2 := rd2 (a' := 1) (b' := 512) arg8 harg8 x7 T.cw 4 2560 h.cw 2 512 (by decide) (by decide) (by decide) 0
  have w3 := rd2 (a' := 1) (b' := 512) arg8 harg8 x7 T.cw 4 2560 h.cw 3 512 (by decide) (by decide) (by decide) 0
  have wb := rd2 (a' := 1) (b' := 512) arg9 harg9 x8 (fun _ => T.cb) 1 2560 h.cb 0 512 (by decide) (by decide) (by decide) 0
  refine (conv_at _ _ _ _ _ _ _ (fun q k => T.e q (512 + k)) (fun q k => (covAt2 _ _ 0 512 _ q k (by omega) (by omega)).trans ((miss2 0 0 _ _ _ _ _ (Or.inr (by show 0 + 512 ≤ 512 + k.val; omega))).trans ((congrFun (whole2 _ _ _) _).trans ((zero4 _).trans (Tile.e_zero hH q _)))))
    (fun r k => (rd2 _ _ _ T.U 256 4632 h.U 0 2560 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail1 {T : Tile} (h : Reads T x7 x8 x9 x10 x11 x12 x13 x14 x15 x16 xs1) (hH : ∀ q c, T.H q c = 0)
    (q : Fin 8) (k : Fin 512) : (kernelRun0_B.sl.v156 (F := Ideal) c arg20 harg20 arg22 xs1) (ix2 q k) = T.e (256 + (0 + q.val)) (512 + k.val) :=
  (tail_at _ _ (fun q k => T.e q (512 + k)) (fun q k => (covAt2 _ _ 0 512 _ q k (by omega) (by omega)).trans ((miss2 0 0 _ _ _ _ _ (Or.inr (by show 0 + 512 ≤ 512 + k.val; omega))).trans ((congrFun (whole2 _ _ _) _).trans ((zero4 _).trans (Tile.e_zero hH q _)))))
    (fun r k => (rd2 _ _ _ T.U 256 4632 h.U 0 2560 _ (by decide) (by decide) r k).trans (Tile.e_tile T _ _ _ _ (by omega) (by omega))) q k).trans (by simp only [Nat.zero_add])

theorem act2 {T : Tile} (h : Reads T x7 x8 x9 x10 x11 x12 x13 x14 x15 x16 xs1) (hH : ∀ q c, T.H q c = 0)
    (r : Fin 256) (k : Fin 512) : (kernelRun0_B.sl.v222 (F := Ideal) c arg8 harg8 arg9 harg9 arg20 harg20 arg22 x7 x8 xs1) (ix2 r k) = T.act r.val (1024 + k.val) := by
  have w0 := rd2 (a' := 1) (b' := 512) arg8 harg8 x7 T.cw 4 2560 h.cw 0 1024 (by decide) (by decide) (by decide) 0
  have w1 := rd2 (a' := 1) (b' := 512) arg8 harg8 x7 T.cw 4 2560 h.cw 1 1024 (by decide) (by decide) (by decide) 0
  have w2 := rd2 (a' := 1) (b' := 512) arg8 harg8 x7 T.cw 4 2560 h.cw 2 1024 (by decide) (by decide) (by decide) 0
  have w3 := rd2 (a' := 1) (b' := 512) arg8 harg8 x7 T.cw 4 2560 h.cw 3 1024 (by decide) (by decide) (by decide) 0
  have wb := rd2 (a' := 1) (b' := 512) arg9 harg9 x8 (fun _ => T.cb) 1 2560 h.cb 0 1024 (by decide) (by decide) (by decide) 0
  refine (conv_at _ _ _ _ _ _ _ (fun q k => T.e q (1024 + k)) (fun q k => (covAt2 _ _ 0 1024 _ q k (by omega) (by omega)).trans ((miss2 0 512 _ _ _ _ _ (Or.inr (by show 512 + 512 ≤ 1024 + k.val; omega))).trans ((miss2 0 0 _ _ _ _ _ (Or.inr (by show 0 + 512 ≤ 1024 + k.val; omega))).trans ((congrFun (whole2 _ _ _) _).trans ((zero4 _).trans (Tile.e_zero hH q _))))))
    (fun r k => (rd2 _ _ _ T.U 256 4632 h.U 0 3072 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail2 {T : Tile} (h : Reads T x7 x8 x9 x10 x11 x12 x13 x14 x15 x16 xs1) (hH : ∀ q c, T.H q c = 0)
    (q : Fin 8) (k : Fin 512) : (kernelRun0_B.sl.v226 (F := Ideal) c arg20 harg20 arg22 xs1) (ix2 q k) = T.e (256 + (0 + q.val)) (1024 + k.val) :=
  (tail_at _ _ (fun q k => T.e q (1024 + k)) (fun q k => (covAt2 _ _ 0 1024 _ q k (by omega) (by omega)).trans ((miss2 0 512 _ _ _ _ _ (Or.inr (by show 512 + 512 ≤ 1024 + k.val; omega))).trans ((miss2 0 0 _ _ _ _ _ (Or.inr (by show 0 + 512 ≤ 1024 + k.val; omega))).trans ((congrFun (whole2 _ _ _) _).trans ((zero4 _).trans (Tile.e_zero hH q _))))))
    (fun r k => (rd2 _ _ _ T.U 256 4632 h.U 0 3072 _ (by decide) (by decide) r k).trans (Tile.e_tile T _ _ _ _ (by omega) (by omega))) q k).trans (by simp only [Nat.zero_add])

theorem act3 {T : Tile} (h : Reads T x7 x8 x9 x10 x11 x12 x13 x14 x15 x16 xs1) (hH : ∀ q c, T.H q c = 0)
    (r : Fin 256) (k : Fin 512) : (kernelRun0_B.sl.v292 (F := Ideal) c arg8 harg8 arg9 harg9 arg20 harg20 arg22 x7 x8 xs1) (ix2 r k) = T.act r.val (1536 + k.val) := by
  have w0 := rd2 (a' := 1) (b' := 512) arg8 harg8 x7 T.cw 4 2560 h.cw 0 1536 (by decide) (by decide) (by decide) 0
  have w1 := rd2 (a' := 1) (b' := 512) arg8 harg8 x7 T.cw 4 2560 h.cw 1 1536 (by decide) (by decide) (by decide) 0
  have w2 := rd2 (a' := 1) (b' := 512) arg8 harg8 x7 T.cw 4 2560 h.cw 2 1536 (by decide) (by decide) (by decide) 0
  have w3 := rd2 (a' := 1) (b' := 512) arg8 harg8 x7 T.cw 4 2560 h.cw 3 1536 (by decide) (by decide) (by decide) 0
  have wb := rd2 (a' := 1) (b' := 512) arg9 harg9 x8 (fun _ => T.cb) 1 2560 h.cb 0 1536 (by decide) (by decide) (by decide) 0
  refine (conv_at _ _ _ _ _ _ _ (fun q k => T.e q (1536 + k)) (fun q k => (covAt2 _ _ 0 1536 _ q k (by omega) (by omega)).trans ((miss2 0 1024 _ _ _ _ _ (Or.inr (by show 1024 + 512 ≤ 1536 + k.val; omega))).trans ((miss2 0 512 _ _ _ _ _ (Or.inr (by show 512 + 512 ≤ 1536 + k.val; omega))).trans ((miss2 0 0 _ _ _ _ _ (Or.inr (by show 0 + 512 ≤ 1536 + k.val; omega))).trans ((congrFun (whole2 _ _ _) _).trans ((zero4 _).trans (Tile.e_zero hH q _)))))))
    (fun r k => (rd2 _ _ _ T.U 256 4632 h.U 0 3584 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail3 {T : Tile} (h : Reads T x7 x8 x9 x10 x11 x12 x13 x14 x15 x16 xs1) (hH : ∀ q c, T.H q c = 0)
    (q : Fin 8) (k : Fin 512) : (kernelRun0_B.sl.v296 (F := Ideal) c arg20 harg20 arg22 xs1) (ix2 q k) = T.e (256 + (0 + q.val)) (1536 + k.val) :=
  (tail_at _ _ (fun q k => T.e q (1536 + k)) (fun q k => (covAt2 _ _ 0 1536 _ q k (by omega) (by omega)).trans ((miss2 0 1024 _ _ _ _ _ (Or.inr (by show 1024 + 512 ≤ 1536 + k.val; omega))).trans ((miss2 0 512 _ _ _ _ _ (Or.inr (by show 512 + 512 ≤ 1536 + k.val; omega))).trans ((miss2 0 0 _ _ _ _ _ (Or.inr (by show 0 + 512 ≤ 1536 + k.val; omega))).trans ((congrFun (whole2 _ _ _) _).trans ((zero4 _).trans (Tile.e_zero hH q _)))))))
    (fun r k => (rd2 _ _ _ T.U 256 4632 h.U 0 3584 _ (by decide) (by decide) r k).trans (Tile.e_tile T _ _ _ _ (by omega) (by omega))) q k).trans (by simp only [Nat.zero_add])

theorem act4 {T : Tile} (h : Reads T x7 x8 x9 x10 x11 x12 x13 x14 x15 x16 xs1) (hH : ∀ q c, T.H q c = 0)
    (r : Fin 256) (k : Fin 512) : (kernelRun0_B.sl.v366 (F := Ideal) c arg8 harg8 arg9 harg9 arg20 harg20 arg22 x7 x8 xs1) (ix2 r k) = T.act r.val (2048 + k.val) := by
  have w0 := rd2 (a' := 1) (b' := 512) arg8 harg8 x7 T.cw 4 2560 h.cw 0 2048 (by decide) (by decide) (by decide) 0
  have w1 := rd2 (a' := 1) (b' := 512) arg8 harg8 x7 T.cw 4 2560 h.cw 1 2048 (by decide) (by decide) (by decide) 0
  have w2 := rd2 (a' := 1) (b' := 512) arg8 harg8 x7 T.cw 4 2560 h.cw 2 2048 (by decide) (by decide) (by decide) 0
  have w3 := rd2 (a' := 1) (b' := 512) arg8 harg8 x7 T.cw 4 2560 h.cw 3 2048 (by decide) (by decide) (by decide) 0
  have wb := rd2 (a' := 1) (b' := 512) arg9 harg9 x8 (fun _ => T.cb) 1 2560 h.cb 0 2048 (by decide) (by decide) (by decide) 0
  refine (conv_at _ _ _ _ _ _ _ (fun q k => T.e q (2048 + k)) (fun q k => (covAt2 _ _ 0 2048 _ q k (by omega) (by omega)).trans ((miss2 0 1536 _ _ _ _ _ (Or.inr (by show 1536 + 512 ≤ 2048 + k.val; omega))).trans ((miss2 0 1024 _ _ _ _ _ (Or.inr (by show 1024 + 512 ≤ 2048 + k.val; omega))).trans ((miss2 0 512 _ _ _ _ _ (Or.inr (by show 512 + 512 ≤ 2048 + k.val; omega))).trans ((miss2 0 0 _ _ _ _ _ (Or.inr (by show 0 + 512 ≤ 2048 + k.val; omega))).trans ((congrFun (whole2 _ _ _) _).trans ((zero4 _).trans (Tile.e_zero hH q _))))))))
    (fun r k => (rd2 _ _ _ T.U 256 4632 h.U 0 4096 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail4 {T : Tile} (h : Reads T x7 x8 x9 x10 x11 x12 x13 x14 x15 x16 xs1) (hH : ∀ q c, T.H q c = 0)
    (q : Fin 8) (k : Fin 512) : (kernelRun0_B.sl.v370 (F := Ideal) c arg20 harg20 arg22 xs1) (ix2 q k) = T.e (256 + (0 + q.val)) (2048 + k.val) :=
  (tail_at _ _ (fun q k => T.e q (2048 + k)) (fun q k => (covAt2 _ _ 0 2048 _ q k (by omega) (by omega)).trans ((miss2 0 1536 _ _ _ _ _ (Or.inr (by show 1536 + 512 ≤ 2048 + k.val; omega))).trans ((miss2 0 1024 _ _ _ _ _ (Or.inr (by show 1024 + 512 ≤ 2048 + k.val; omega))).trans ((miss2 0 512 _ _ _ _ _ (Or.inr (by show 512 + 512 ≤ 2048 + k.val; omega))).trans ((miss2 0 0 _ _ _ _ _ (Or.inr (by show 0 + 512 ≤ 2048 + k.val; omega))).trans ((congrFun (whole2 _ _ _) _).trans ((zero4 _).trans (Tile.e_zero hH q _))))))))
    (fun r k => (rd2 _ _ _ T.U 256 4632 h.U 0 4096 _ (by decide) (by decide) r k).trans (Tile.e_tile T _ _ _ _ (by omega) (by omega))) q k).trans (by simp only [Nat.zero_add])

theorem xs {T : Tile} (h : Reads T x7 x8 x9 x10 x11 x12 x13 x14 x15 x16 xs1) (hH : ∀ q c, T.H q c = 0)
    (i : Fin 256) (j : Fin 1536) (_ : i.val < 256) (_ : j.val < 1536) : View.canon (kernelRun0_B.sl.HS5_12 (F := Ideal) c arg8 harg8 arg9 harg9 arg20 harg20 arg22 x7 x8 xs1) (ix2 i j) = T.act i.val (0 + j.val) :=
  by
  refine step2 (e := .f32) (fun r k => T.act r (0 + k)) 1408 _ _ _ i j (by omega) (by omega) (fun i j => (cutf384 _ _ _ i j).trans ((act2 h hH i _).trans (T.act_congr (by show i.val = 0 + i.val; omega) (by show 1024 + (384 + j.val) = 0 + (1408 + j.val); omega)))) fun hlt => ?_
  refine step2 (e := .f32) (fun r k => T.act r (0 + k)) 1280 _ _ _ i j (by omega) (by omega) (fun i j => (cutf256 _ _ _ i j).trans ((act2 h hH i _).trans (T.act_congr (by show i.val = 0 + i.val; omega) (by show 1024 + (256 + j.val) = 0 + (1280 + j.val); omega)))) fun hlt => ?_
  refine step2 (e := .f32) (fun r k => T.act r (0 + k)) 1152 _ _ _ i j (by omega) (by omega) (fun i j => (cutf128 _ _ _ i j).trans ((act2 h hH i _).trans (T.act_congr (by show i.val = 0 + i.val; omega) (by show 1024 + (128 + j.val) = 0 + (1152 + j.val); omega)))) fun hlt => ?_
  refine step2 (e := .f32) (fun r k => T.act r (0 + k)) 1024 _ _ _ i j (by omega) (by omega) (fun i j => (cutf0 _ _ _ i j).trans ((act2 h hH i _).trans (T.act_congr (by show i.val = 0 + i.val; omega) (by show 1024 + (0 + j.val) = 0 + (1024 + j.val); omega)))) fun hlt => ?_
  refine step2 (e := .f32) (fun r k => T.act r (0 + k)) 896 _ _ _ i j (by omega) (by omega) (fun i j => (cutf384 _ _ _ i j).trans ((act1 h hH i _).trans (T.act_congr (by show i.val = 0 + i.val; omega) (by show 512 + (384 + j.val) = 0 + (896 + j.val); omega)))) fun hlt => ?_
  refine step2 (e := .f32) (fun r k => T.act r (0 + k)) 768 _ _ _ i j (by omega) (by omega) (fun i j => (cutf256 _ _ _ i j).trans ((act1 h hH i _).trans (T.act_congr (by show i.val = 0 + i.val; omega) (by show 512 + (256 + j.val) = 0 + (768 + j.val); omega)))) fun hlt => ?_
  refine step2 (e := .f32) (fun r k => T.act r (0 + k)) 640 _ _ _ i j (by omega) (by omega) (fun i j => (cutf128 _ _ _ i j).trans ((act1 h hH i _).trans (T.act_congr (by show i.val = 0 + i.val; omega) (by show 512 + (128 + j.val) = 0 + (640 + j.val); omega)))) fun hlt => ?_
  refine step2 (e := .f32) (fun r k => T.act r (0 + k)) 512 _ _ _ i j (by omega) (by omega) (fun i j => (cutf0 _ _ _ i j).trans ((act1 h hH i _).trans (T.act_congr (by show i.val = 0 + i.val; omega) (by show 512 + (0 + j.val) = 0 + (512 + j.val); omega)))) fun hlt => ?_
  refine step2 (e := .f32) (fun r k => T.act r (0 + k)) 384 _ _ _ i j (by omega) (by omega) (fun i j => (cutf384 _ _ _ i j).trans ((act0 h hH i _).trans (T.act_congr (by show i.val = 0 + i.val; omega) (by show 0 + (384 + j.val) = 0 + (384 + j.val); omega)))) fun hlt => ?_
  refine step2 (e := .f32) (fun r k => T.act r (0 + k)) 256 _ _ _ i j (by omega) (by omega) (fun i j => (cutf256 _ _ _ i j).trans ((act0 h hH i _).trans (T.act_congr (by show i.val = 0 + i.val; omega) (by show 0 + (256 + j.val) = 0 + (256 + j.val); omega)))) fun hlt => ?_
  refine step2 (e := .f32) (fun r k => T.act r (0 + k)) 128 _ _ _ i j (by omega) (by omega) (fun i j => (cutf128 _ _ _ i j).trans ((act0 h hH i _).trans (T.act_congr (by show i.val = 0 + i.val; omega) (by show 0 + (128 + j.val) = 0 + (128 + j.val); omega)))) fun hlt => ?_
  refine step2 (e := .f32) (fun r k => T.act r (0 + k)) 0 _ _ _ i j (by omega) (by omega) (fun i j => (cutf0 _ _ _ i j).trans ((act0 h hH i _).trans (T.act_congr (by show i.val = 0 + i.val; omega) (by show 0 + (0 + j.val) = 0 + (0 + j.val); omega)))) fun hlt => ?_
  exact absurd hlt (Nat.not_lt_zero _)

theorem bs {T : Tile} (h : Reads T x7 x8 x9 x10 x11 x12 x13 x14 x15 x16 xs1) (hH : ∀ q c, T.H q c = 0)
    (i : Fin 256) (j : Fin 512) (_ : i.val < 256) (_ : j.val < 512) : View.canon (kernelRun0_B.sl.HS6_4 (F := Ideal) c arg8 harg8 arg9 harg9 arg20 harg20 arg22 x7 x8 xs1) (ix2 i j) = T.act i.val (1536 + j.val) :=
  by
  refine step2 (e := .bf16) (fun r k => T.act r (1536 + k)) 384 _ _ _ i j (by omega) (by omega) (fun i j => (cutb384 _ _ _ _ i j).trans ((act3 h hH i _).trans (T.act_congr (by show i.val = 0 + i.val; omega) (by show 1536 + (384 + j.val) = 1536 + (384 + j.val); omega)))) fun hlt => ?_
  refine step2 (e := .bf16) (fun r k => T.act r (1536 + k)) 256 _ _ _ i j (by omega) (by omega) (fun i j => (cutb256 _ _ _ _ i j).trans ((act3 h hH i _).trans (T.act_congr (by show i.val = 0 + i.val; omega) (by show 1536 + (256 + j.val) = 1536 + (256 + j.val); omega)))) fun hlt => ?_
  refine step2 (e := .bf16) (fun r k => T.act r (1536 + k)) 128 _ _ _ i j (by omega) (by omega) (fun i j => (cutb128 _ _ _ _ i j).trans ((act3 h hH i _).trans (T.act_congr (by show i.val = 0 + i.val; omega) (by show 1536 + (128 + j.val) = 1536 + (128 + j.val); omega)))) fun hlt => ?_
  refine step2 (e := .bf16) (fun r k => T.act r (1536 + k)) 0 _ _ _ i j (by omega) (by omega) (fun i j => (cutb0 _ _ _ _ i j).trans ((act3 h hH i _).trans (T.act_congr (by show i.val = 0 + i.val; omega) (by show 1536 + (0 + j.val) = 1536 + (0 + j.val); omega)))) fun hlt => ?_
  exact absurd hlt (Nat.not_lt_zero _)

theorem cs {T : Tile} (h : Reads T x7 x8 x9 x10 x11 x12 x13 x14 x15 x16 xs1) (hH : ∀ q c, T.H q c = 0)
    (i : Fin 256) (j : Fin 512) (_ : i.val < 256) (_ : j.val < 512) : View.canon (kernelRun0_B.sl.HS7_4 (F := Ideal) c arg8 harg8 arg9 harg9 arg20 harg20 arg22 x7 x8 xs1) (ix2 i j) = T.act i.val (2048 + j.val) :=
  by
  refine step2 (e := .bf16) (fun r k => T.act r (2048 + k)) 384 _ _ _ i j (by omega) (by omega) (fun i j => (cutb384 _ _ _ _ i j).trans ((act4 h hH i _).trans (T.act_congr (by show i.val = 0 + i.val; omega) (by show 2048 + (384 + j.val) = 2048 + (384 + j.val); omega)))) fun hlt => ?_
  refine step2 (e := .bf16) (fun r k => T.act r (2048 + k)) 256 _ _ _ i j (by omega) (by omega) (fun i j => (cutb256 _ _ _ _ i j).trans ((act4 h hH i _).trans (T.act_congr (by show i.val = 0 + i.val; omega) (by show 2048 + (256 + j.val) = 2048 + (256 + j.val); omega)))) fun hlt => ?_
  refine step2 (e := .bf16) (fun r k => T.act r (2048 + k)) 128 _ _ _ i j (by omega) (by omega) (fun i j => (cutb128 _ _ _ _ i j).trans ((act4 h hH i _).trans (T.act_congr (by show i.val = 0 + i.val; omega) (by show 2048 + (128 + j.val) = 2048 + (128 + j.val); omega)))) fun hlt => ?_
  refine step2 (e := .bf16) (fun r k => T.act r (2048 + k)) 0 _ _ _ i j (by omega) (by omega) (fun i j => (cutb0 _ _ _ _ i j).trans ((act4 h hH i _).trans (T.act_congr (by show i.val = 0 + i.val; omega) (by show 2048 + (0 + j.val) = 2048 + (0 + j.val); omega)))) fun hlt => ?_
  exact absurd hlt (Nat.not_lt_zero _)

theorem ph0 {T : Tile} (h : Reads T x7 x8 x9 x10 x11 x12 x13 x14 x15 x16 xs1) (hG : ∀ q c, T.G q c = 0)
    (q : Fin 16) (k : Fin 128) : (kernelRun0_B.sl.v413 (F := Ideal) c arg20 harg20 arg23 xs1) (ix2 q k) = T.ep (256 + (0 + q.val)) (0 + k.val) :=
  (tail16_at _ _ (fun q k => T.ep q (0 + k)) (fun q k => (covAt2 _ _ 0 0 _ q k (by omega) (by omega)).trans ((congrFun (whole2 _ _ _) _).trans ((zero5 _).trans (Tile.ep_zero hG q _))))
    (fun r k => (rd2 _ _ _ T.U 256 4632 h.U 0 0 _ (by decide) (by decide) r k).trans (Tile.ep_tile T _ _ _ (by omega))) q k).trans (by simp only [Nat.zero_add])

theorem pw0 {T : Tile} (h : Reads T x7 x8 x9 x10 x11 x12 x13 x14 x15 x16 xs1) (hG : ∀ q c, T.G q c = 0)
    (ht : ∀ (r : Fin 256) (c : Fin 128), (kernelRun0_B.sl.v406 i) (ix2 r c) = BitVec.ofNat 32 (T.a * 256 + r.val))
    (r : Fin 256) (k : Fin 128) : (kernelRun0_B.sl.v433 (F := Ideal) c i arg10 harg10 arg11 harg11 arg20 harg20 arg23 x9 x10 xs1) (ix2 r k) = T.pool 2 r.val (128 * 0 + k.val) :=
  (pool2_at _ T.a h.ha ht _ _ _ _ (fun q k => T.ep q (128 * 0 + k)) (fun q k => (covAt2 _ _ 0 0 _ q k (by omega) (by omega)).trans ((congrFun (whole2 _ _ _) _).trans ((zero5 _).trans (Tile.ep_zero hG q _))))
    (fun r k => (rd2 _ _ _ T.U 256 4632 h.U 0 0 _ (by decide) (by decide) r k).trans (Tile.ep_tile T _ _ _ (by omega))) r k).trans
    (pooled_tile T 2 0 _ _ (fun k c => rd3 arg10 harg10 x9 T.wp h.wp 0 0 0 _ 0 k c)
      (fun c => rd2 arg11 harg11 x10 (fun _ => T.ps) 1 512 h.ps 0 0 _ (by decide) (by decide) 0 c) r k)

theorem ph1 {T : Tile} (h : Reads T x7 x8 x9 x10 x11 x12 x13 x14 x15 x16 xs1) (hG : ∀ q c, T.G q c = 0)
    (q : Fin 16) (k : Fin 128) : (kernelRun0_B.sl.v440 (F := Ideal) c arg20 harg20 arg23 xs1) (ix2 q k) = T.ep (256 + (0 + q.val)) (128 + k.val) :=
  (tail16_at _ _ (fun q k => T.ep q (128 + k)) (fun q k => (covAt2 _ _ 0 128 _ q k (by omega) (by omega)).trans ((miss2 0 0 _ _ _ _ _ (Or.inr (by show 0 + 128 ≤ 128 + k.val; omega))).trans ((congrFun (whole2 _ _ _) _).trans ((zero5 _).trans (Tile.ep_zero hG q _)))))
    (fun r k => (rd2 _ _ _ T.U 256 4632 h.U 0 128 _ (by decide) (by decide) r k).trans (Tile.ep_tile T _ _ _ (by omega))) q k).trans (by simp only [Nat.zero_add])

theorem pw1 {T : Tile} (h : Reads T x7 x8 x9 x10 x11 x12 x13 x14 x15 x16 xs1) (hG : ∀ q c, T.G q c = 0)
    (ht : ∀ (r : Fin 256) (c : Fin 128), (kernelRun0_B.sl.v406 i) (ix2 r c) = BitVec.ofNat 32 (T.a * 256 + r.val))
    (r : Fin 256) (k : Fin 128) : (kernelRun0_B.sl.v462 (F := Ideal) c i arg10 harg10 arg11 harg11 arg20 harg20 arg23 x9 x10 xs1) (ix2 r k) = T.pool 4 r.val (128 * 1 + k.val) :=
  (pool4_at _ T.a h.ha ht _ _ _ _ (fun q k => T.ep q (128 * 1 + k)) (fun q k => (covAt2 _ _ 0 128 _ q k (by omega) (by omega)).trans ((miss2 0 0 _ _ _ _ _ (Or.inr (by show 0 + 128 ≤ 128 + k.val; omega))).trans ((congrFun (whole2 _ _ _) _).trans ((zero5 _).trans (Tile.ep_zero hG q _)))))
    (fun r k => (rd2 _ _ _ T.U 256 4632 h.U 0 128 _ (by decide) (by decide) r k).trans (Tile.ep_tile T _ _ _ (by omega))) r k).trans
    (pooled_tile T 4 1 _ _ (fun k c => rd3 arg10 harg10 x9 T.wp h.wp 1 0 0 _ 0 k c)
      (fun c => rd2 arg11 harg11 x10 (fun _ => T.ps) 1 512 h.ps 0 128 _ (by decide) (by decide) 0 c) r k)

theorem ph2 {T : Tile} (h : Reads T x7 x8 x9 x10 x11 x12 x13 x14 x15 x16 xs1) (hG : ∀ q c, T.G q c = 0)
    (q : Fin 16) (k : Fin 128) : (kernelRun0_B.sl.v469 (F := Ideal) c arg20 harg20 arg23 xs1) (ix2 q k) = T.ep (256 + (0 + q.val)) (256 + k.val) :=
  (tail16_at _ _ (fun q k => T.ep q (256 + k)) (fun q k => (covAt2 _ _ 0 256 _ q k (by omega) (by omega)).trans ((miss2 0 128 _ _ _ _ _ (Or.inr (by show 128 + 128 ≤ 256 + k.val; omega))).trans ((miss2 0 0 _ _ _ _ _ (Or.inr (by show 0 + 128 ≤ 256 + k.val; omega))).trans ((congrFun (whole2 _ _ _) _).trans ((zero5 _).trans (Tile.ep_zero hG q _))))))
    (fun r k => (rd2 _ _ _ T.U 256 4632 h.U 0 256 _ (by decide) (by decide) r k).trans (Tile.ep_tile T _ _ _ (by omega))) q k).trans (by simp only [Nat.zero_add])

theorem pw2 {T : Tile} (h : Reads T x7 x8 x9 x10 x11 x12 x13 x14 x15 x16 xs1) (hG : ∀ q c, T.G q c = 0)
    (ht : ∀ (r : Fin 256) (c : Fin 128), (kernelRun0_B.sl.v406 i) (ix2 r c) = BitVec.ofNat 32 (T.a * 256 + r.val))
    (r : Fin 256) (k : Fin 128) : (kernelRun0_B.sl.v493 (F := Ideal) c i arg10 harg10 arg11 harg11 arg20 harg20 arg23 x9 x10 xs1) (ix2 r k) = T.pool 8 r.val (128 * 2 + k.val) :=
  (pool8_at _ T.a h.ha ht _ _ _ _ (fun q k => T.ep q (128 * 2 + k)) (fun q k => (covAt2 _ _ 0 256 _ q k (by omega) (by omega)).trans ((miss2 0 128 _ _ _ _ _ (Or.inr (by show 128 + 128 ≤ 256 + k.val; omega))).trans ((miss2 0 0 _ _ _ _ _ (Or.inr (by show 0 + 128 ≤ 256 + k.val; omega))).trans ((congrFun (whole2 _ _ _) _).trans ((zero5 _).trans (Tile.ep_zero hG q _))))))
    (fun r k => (rd2 _ _ _ T.U 256 4632 h.U 0 256 _ (by decide) (by decide) r k).trans (Tile.ep_tile T _ _ _ (by omega))) r k).trans
    (pooled_tile T 8 2 _ _ (fun k c => rd3 arg10 harg10 x9 T.wp h.wp 2 0 0 _ 0 k c)
      (fun c => rd2 arg11 harg11 x10 (fun _ => T.ps) 1 512 h.ps 0 256 _ (by decide) (by decide) 0 c) r k)

theorem ph3 {T : Tile} (h : Reads T x7 x8 x9 x10 x11 x12 x13 x14 x15 x16 xs1) (hG : ∀ q c, T.G q c = 0)
    (q : Fin 16) (k : Fin 128) : (kernelRun0_B.sl.v500 (F := Ideal) c arg20 harg20 arg23 xs1) (ix2 q k) = T.ep (256 + (0 + q.val)) (384 + k.val) :=
  (tail16_at _ _ (fun q k => T.ep q (384 + k)) (fun q k => (covAt2 _ _ 0 384 _ q k (by omega) (by omega)).trans ((miss2 0 256 _ _ _ _ _ (Or.inr (by show 256 + 128 ≤ 384 + k.val; omega))).trans ((miss2 0 128 _ _ _ _ _ (Or.inr (by show 128 + 128 ≤ 384 + k.val; omega))).trans ((miss2 0 0 _ _ _ _ _ (Or.inr (by show 0 + 128 ≤ 384 + k.val; omega))).trans ((congrFun (whole2 _ _ _) _).trans ((zero5 _).trans (Tile.ep_zero hG q _)))))))
    (fun r k => (rd2 _ _ _ T.U 256 4632 h.U 0 384 _ (by decide) (by decide) r k).trans (Tile.ep_tile T _ _ _ (by omega))) q k).trans (by simp only [Nat.zero_add])

theorem pw3 {T : Tile} (h : Reads T x7 x8 x9 x10 x11 x12 x13 x14 x15 x16 xs1) (hG : ∀ q c, T.G q c = 0)
    (ht : ∀ (r : Fin 256) (c : Fin 128), (kernelRun0_B.sl.v406 i) (ix2 r c) = BitVec.ofNat 32 (T.a * 256 + r.val))
    (r : Fin 256) (k : Fin 128) : (kernelRun0_B.sl.v526 (F := Ideal) c i arg10 harg10 arg11 harg11 arg20 harg20 arg23 x9 x10 xs1) (ix2 r k) = T.pool 16 r.val (128 * 3 + k.val) :=
  (pool16_at _ T.a h.ha ht _ _ _ _ (fun q k => T.ep q (128 * 3 + k)) (fun q k => (covAt2 _ _ 0 384 _ q k (by omega) (by omega)).trans ((miss2 0 256 _ _ _ _ _ (Or.inr (by show 256 + 128 ≤ 384 + k.val; omega))).trans ((miss2 0 128 _ _ _ _ _ (Or.inr (by show 128 + 128 ≤ 384 + k.val; omega))).trans ((miss2 0 0 _ _ _ _ _ (Or.inr (by show 0 + 128 ≤ 384 + k.val; omega))).trans ((congrFun (whole2 _ _ _) _).trans ((zero5 _).trans (Tile.ep_zero hG q _)))))))
    (fun r k => (rd2 _ _ _ T.U 256 4632 h.U 0 384 _ (by decide) (by decide) r k).trans (Tile.ep_tile T _ _ _ (by omega))) r k).trans
    (pooled_tile T 16 3 _ _ (fun k c => rd3 arg10 harg10 x9 T.wp h.wp 3 0 0 _ 0 k c)
      (fun c => rd2 arg11 harg11 x10 (fun _ => T.ps) 1 512 h.ps 0 384 _ (by decide) (by decide) 0 c) r k)

theorem dts {T : Tile} (h : Reads T x7 x8 x9 x10 x11 x12 x13 x14 x15 x16 xs1)
    (r : Fin 256) (u : Fin 128) (hu : u.val < 24) : (kernelRun0_B.sl.v569 (F := Ideal) c arg12 harg12 arg20 harg20 x11 xs1) (ix2 r u) = T.dt r.val u.val :=
  dt_tile T _ _ (fun r c hc => (rdAt2 _ _ _ 0 4608 _ r c (by omega) (by omega)).trans ((h.U _ _ (by show 0 + r.val < 256; omega) (by show 4608 + c.val < 4632; omega)).trans (by show T.U (0 + r.val) _ = _; rw [Nat.zero_add])))
    (fun c hc => (rdAt2 arg12 harg12 x11 0 0 _ 0 c (by decide) (by omega)).trans ((congrArg x11 (by funext x; apply Fin.ext; match x with | ⟨0, _⟩ => rfl | ⟨1, _⟩ => exact Nat.zero_add _)).trans (h.dtb c hc))) r u hu

theorem acss {T : Tile} (h : Reads T x7 x8 x9 x10 x11 x12 x13 x14 x15 x16 xs1)
    (r : Fin 256) (u : Fin 128) (hu : u.val < 24) : (kernelRun0_B.sl.v612 (F := Ideal) c arg12 harg12 arg13 harg13 arg20 harg20 x11 x12 xs1) (ix2 r u) = T.acs r.val u.val :=
  acs_tile T _ _ (dts h)
    (fun c hc => (rdAt2 arg13 harg13 x12 0 0 _ 0 c (by decide) (by omega)).trans ((congrArg x12 (by funext x; apply Fin.ext; match x with | ⟨0, _⟩ => rfl | ⟨1, _⟩ => exact Nat.zero_add _)).trans (h.al c hc))) r u hu

theorem ax {T : Tile} (h : Reads T x7 x8 x9 x10 x11 x12 x13 x14 x15 x16 xs1)
    (i : Fin 256) (j : Fin 1536) (_ : i.val < 256) (_ : j.val < 1536) : View.canon (kernelRun0_B.sl.HS8_1 (F := Ideal) c arg12 harg12 arg13 harg13 arg16 harg16 arg20 harg20 x11 x12 x15 xs1) (ix2 i j) = T.acs i.val (j.val / 64) :=
  (congrFun (whole2 _ _ _) _).trans (accx_tile T _ h.racs (acss h) _ (fun k c => rd2 arg16 harg16 x15 (fun i j => if i % 32 = j / 64 ∧ i < 96 then 1 else 0) 128 1536 h.e3 0 0 _ (by decide) (by decide) k c) i j)

theorem qx {T : Tile} (h : Reads T x7 x8 x9 x10 x11 x12 x13 x14 x15 x16 xs1)
    (i : Fin 256) (j : Fin 1536) (_ : i.val < 256) (_ : j.val < 1536) : View.canon (kernelRun0_B.sl.HS9_1 (F := Ideal) c arg12 harg12 arg13 harg13 arg16 harg16 arg20 harg20 x11 x12 x15 xs1) (ix2 i j) = T.q i.val (j.val / 64) :=
  (congrFun (whole2 _ _ _) _).trans (qx_tile T _ _ h.rq (dts h) (acss h) _ (fun k c => rd2 arg16 harg16 x15 (fun i j => if i % 32 = j / 64 ∧ i < 96 then 1 else 0) 128 1536 h.e3 0 0 _ (by decide) (by decide) k c) i j)

theorem qt {T : Tile} (h : Reads T x7 x8 x9 x10 x11 x12 x13 x14 x15 x16 xs1)
    (i : Fin 128) (j : Fin 256) (hi : i.val < 24) : View.canon (kernelRun0_B.sl.HS11_1 (F := Ideal) c arg12 harg12 arg13 harg13 arg20 harg20 x11 x12 xs1) (ix2 i j) = T.q j.val i.val :=
  (congrFun (whole2 _ _ _) _).trans ((qt_at _ _ i j).trans (q_tile T _ _ (dts h) (acss h) j i hi))

theorem qts {T : Tile} (h : Reads T x7 x8 x9 x10 x11 x12 x13 x14 x15 x16 xs1)
    (i : Fin 128) (j : Fin 256) (hi : i.val < 24) : View.canon (kernelRun0_B.sl.HS12_1 (F := Ideal) c arg12 harg12 arg13 harg13 arg20 harg20 x11 x12 xs1) (ix2 i j) = T.q (j.val / 128 * 128 + (j.val + 64) % 128) i.val :=
  (congrFun (whole2 _ _ _) _).trans ((qts_at _ _ i j).trans (q_tile T _ _ (dts h) (acss h) _ i hi))

end Cert.MixerIdeal.Value.CaseB
-- ==== Proof.MixB2.lean ====
/-
  The scan of a tile, and its output (untrusted).
-/
module

public import proofs.«01_k».proof.Proof.MixB1

@[expose] public section

set_option maxRecDepth 16384

noncomputable section

namespace Cert.MixerIdeal.Value.CaseB

open Cert.MixerIdeal Cert.MixerIdeal.Gen Idealize.ShloMosaic Idealize.ShloMosaic.TcCoe Idealize.SL.Sem
open Cert.Layer

variable {c : Dev nD} {i : grid0.Coords}
  {arg1 : Memref sig .tc .vmem S256x1024 .f32} {harg1 : arg1.IsWhole}
  {arg2 : Memref sig .tc .vmem S256x1024 .f32} {harg2 : arg2.IsWhole}
  {arg3 : Memref sig .tc .vmem S1x1x1024 .f32} {harg3 : arg3.IsWhole}
  {arg4 : Memref sig .tc .vmem S1x1x1024 .f32} {harg4 : arg4.IsWhole}
  {arg5 : Memref sig .tc .vmem S1x1x1024 .f32} {harg5 : arg5.IsWhole}
  {arg6 : Memref sig .tc .vmem S1x1024 .f32} {harg6 : arg6.IsWhole}
  {arg7 : Memref sig .tc .vmem S1024x4632 .bf16} {harg7 : arg7.IsWhole}
  {arg8 : Memref sig .tc .vmem S4x2560 .f32} {harg8 : arg8.IsWhole}
  {arg9 : Memref sig .tc .vmem S1x2560 .f32} {harg9 : arg9.IsWhole}
  {arg10 : Memref sig .tc .vmem S4x128x128 .bf16} {harg10 : arg10.IsWhole}
  {arg11 : Memref sig .tc .vmem S1x512 .f32} {harg11 : arg11.IsWhole}
  {arg12 : Memref sig .tc .vmem S1x128 .f32} {harg12 : arg12.IsWhole}
  {arg13 : Memref sig .tc .vmem S1x128 .f32} {harg13 : arg13.IsWhole}
  {arg14 : Memref sig .tc .vmem S1x1536 .f32} {harg14 : arg14.IsWhole}
  {arg15 : Memref sig .tc .vmem S1x1536 .f32} {harg15 : arg15.IsWhole}
  {arg16 : Memref sig .tc .vmem S128x1536 .bf16} {harg16 : arg16.IsWhole}
  {arg17 : Memref sig .tc .vmem S2048x1024 .bf16} {harg17 : arg17.IsWhole}
  {arg18 : Memref sig .tc .vmem S256x1024 .f32} {harg18 : arg18.IsWhole}
  {arg19 : Memref sig .tc .vmem S4x128x384 .f32} {harg19 : arg19.IsWhole}
  {arg20 : Memref sig .tc .vmem S256x4736 .f32} {harg20 : arg20.IsWhole}
  {arg21 : Memref sig .tc .vmem S256x4736 .f32} {harg21 : arg21.IsWhole}
  {arg22 : Memref sig .tc .vmem S8x2560 .f32} {harg22 : arg22.IsWhole}
  {arg23 : Memref sig .tc .vmem S16x512 .f32} {harg23 : arg23.IsWhole}
  {arg24 : Memref sig .tc .vmem S256x1536 .f32} {harg24 : arg24.IsWhole}
  {arg25 : Memref sig .tc .vmem S256x512 .bf16} {harg25 : arg25.IsWhole}
  {arg26 : Memref sig .tc .vmem S256x512 .bf16} {harg26 : arg26.IsWhole}
  {arg27 : Memref sig .tc .vmem S256x1536 .f32} {harg27 : arg27.IsWhole}
  {arg28 : Memref sig .tc .vmem S256x1536 .f32} {harg28 : arg28.IsWhole}
  {arg29 : Memref sig .tc .vmem S256x1536 .f32} {harg29 : arg29.IsWhole}
  {arg30 : Memref sig .tc .vmem S128x256 .f32} {harg30 : arg30.IsWhole}
  {arg31 : Memref sig .tc .vmem S128x256 .f32} {harg31 : arg31.IsWhole}
variable {x0 : Vec Ideal S256x1024 .f32} {x1 : Vec Ideal S256x1024 .f32} {x2 : Vec Ideal S1x1x1024 .f32} {x3 : Vec Ideal S1x1x1024 .f32} {x4 : Vec Ideal S1x1x1024 .f32} {x5 : Vec Ideal S1x1024 .f32} {x6 : Vec Ideal S1024x4632 .bf16} {x7 : Vec Ideal S4x2560 .f32} {x8 : Vec Ideal S1x2560 .f32} {x9 : Vec Ideal S4x128x128 .bf16} {x10 : Vec Ideal S1x512 .f32} {x11 : Vec Ideal S1x128 .f32} {x12 : Vec Ideal S1x128 .f32} {x13 : Vec Ideal S1x1536 .f32} {x14 : Vec Ideal S1x1536 .f32} {x15 : Vec Ideal S128x1536 .bf16} {x16 : Vec Ideal S2048x1024 .bf16} {xs0 : Vec Ideal S4x128x384 .f32} {xs1 : Vec Ideal S256x4736 .f32} {xs2 : Vec Ideal S256x4736 .f32} {xs3 : Vec Ideal S8x2560 .f32} {xs4 : Vec Ideal S16x512 .f32}

theorem intra_0_0 {T : Tile} (h : Reads T x7 x8 x9 x10 x11 x12 x13 x14 x15 x16 xs1) (hH : ∀ q c, T.H q c = 0)
    (l : Fin 64) (j : Fin 384) : (kernelRun0_B.sl.r_5 (F := Ideal) c arg8 harg8 arg9 harg9 arg12 harg12 arg13 harg13 arg16 harg16 arg20 harg20 arg22 arg24 arg25 arg26 arg27 arg30 arg31 x7 x8 x11 x12 x15 xs1) (ix2 l j) = T.intra 0 l.val (384 * 0 + j.val) := by
  refine intra_tile T 0 0 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 0 0 _ _ (fun m n => cov2 (e := .bf16) _ _ (fun r c => T.act r (1536 + c)) 256 512 (bs h hH) 0 0 _ (by decide) (by decide) m n) (fun m n => cov2 (e := .bf16) _ _ (fun r c => T.act r (2048 + c)) 256 512 (cs h hH) 0 0 _ (by decide) (by decide) m n) l j
  · exact cov2 (e := .f32) _ _ (fun r c => T.acs r (c / 64)) 256 1536 (ax h) 0 0 _ (by decide) (by decide) l j
  · exact cov2 (e := .f32) _ _ (fun r c => T.act r (0 + c)) 256 1536 (xs h hH) 0 0 _ (by decide) (by decide) l j
  · exact qrowA T _ _ (qt h) 0 0 _ (by decide) j _ (by omega)
  · exact qrowB T _ _ (qts h) 1 0 _ (by decide) j _ (by have := j.isLt; omega)
  · exact qrowA T _ _ (qt h) 2 0 _ (by decide) j _ (by omega)
  · exact qrowB T _ _ (qts h) 3 0 _ (by decide) j _ (by have := j.isLt; omega)
  · exact qrowA T _ _ (qt h) 4 0 _ (by decide) j _ (by omega)
  · exact qrowB T _ _ (qts h) 5 0 _ (by decide) j _ (by have := j.isLt; omega)

theorem st_0_0 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1155 (F := Ideal) c arg8 harg8 arg9 harg9 arg12 harg12 arg13 harg13 arg16 harg16 arg19 arg20 harg20 arg22 arg24 arg25 arg27 arg28 x7 x8 x11 x12 x15 xs1) (ix3 0 n j) = T.st (0 + 1) n.val (384 * 0 + j.val) := by
  refine state_tile T 0 0 (by decide) _ _ _ _ _ (fun l j => ?_) (fun l j => ?_) (fun l j => ?_) (fun m n => ?_) (fun n j => ?_) n j
  · exact cov2 (e := .f32) _ _ (fun r c => T.acs r (c / 64)) 256 1536 (ax h) 0 0 _ (by decide) (by decide) l j
  · exact cov2 (e := .f32) _ _ (fun r c => T.act r (0 + c)) 256 1536 (xs h hH) 0 0 _ (by decide) (by decide) l j
  · exact cov2 (e := .f32) _ _ (fun r c => T.q r (c / 64)) 256 1536 (qx h) 0 0 _ (by decide) (by decide) l j
  · exact cov2 (e := .bf16) _ _ (fun r c => T.act r (1536 + c)) 256 512 (bs h hH) 0 0 _ (by decide) (by decide) m n
  · exact (covS _ _ 0 _ (by decide) n j).trans ((congrFun (wholeS _ _ _) _).trans ((zero3 _).trans (hS _ _).symm))

theorem y_0_0 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1140 (F := Ideal) c arg8 harg8 arg9 harg9 arg12 harg12 arg13 harg13 arg14 harg14 arg16 harg16 arg19 arg20 harg20 arg22 arg24 arg25 arg26 arg27 arg30 arg31 x7 x8 x11 x12 x13 x15 xs1) (ix2 l j) = T.y (0 + l.val) (0 + j.val) := by
  refine y_tile T 0 0 (by decide) _ _ _ _ _ _ (fun l j => ?_) (fun l j => ?_) (fun l j => ?_) (fun m n => ?_) (fun j => ?_) (fun n j => ?_) l j
  · exact intra_0_0 h hH l j
  · exact cov2 (e := .f32) _ _ (fun r c => T.acs r (c / 64)) 256 1536 (ax h) 0 0 _ (by decide) (by decide) l j
  · exact cov2 (e := .f32) _ _ (fun r c => T.act r (0 + c)) 256 1536 (xs h hH) 0 0 _ (by decide) (by decide) l j
  · exact cov2 (e := .bf16) _ _ (fun r c => T.act r (2048 + c)) 256 512 (cs h hH) 0 0 _ (by decide) (by decide) m n
  · exact rd2 arg14 harg14 x13 (fun _ => T.dsk) 1 1536 h.dsk 0 0 _ (by decide) (by decide) 0 j
  · exact (covS _ _ 0 _ (by decide) n j).trans ((congrFun (wholeS _ _ _) _).trans ((zero3 _).trans (hS _ _).symm))

theorem intra_0_1 {T : Tile} (h : Reads T x7 x8 x9 x10 x11 x12 x13 x14 x15 x16 xs1) (hH : ∀ q c, T.H q c = 0)
    (l : Fin 64) (j : Fin 384) : (kernelRun0_B.sl.v823 (F := Ideal) c arg8 harg8 arg9 harg9 arg12 harg12 arg13 harg13 arg16 harg16 arg20 harg20 arg22 arg24 arg25 arg26 arg27 arg30 arg31 x7 x8 x11 x12 x15 xs1) (ix2 l j) = T.intra 0 l.val (384 * 1 + j.val) := by
  refine intra_tile T 0 1 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 0 1 _ _ (fun m n => cov2 (e := .bf16) _ _ (fun r c => T.act r (1536 + c)) 256 512 (bs h hH) 0 128 _ (by decide) (by decide) m n) (fun m n => cov2 (e := .bf16) _ _ (fun r c => T.act r (2048 + c)) 256 512 (cs h hH) 0 128 _ (by decide) (by decide) m n) l j
  · exact cov2 (e := .f32) _ _ (fun r c => T.acs r (c / 64)) 256 1536 (ax h) 0 384 _ (by decide) (by decide) l j
  · exact cov2 (e := .f32) _ _ (fun r c => T.act r (0 + c)) 256 1536 (xs h hH) 0 384 _ (by decide) (by decide) l j
  · exact qrowA T _ _ (qt h) 6 0 _ (by decide) j _ (by omega)
  · exact qrowB T _ _ (qts h) 7 0 _ (by decide) j _ (by have := j.isLt; omega)
  · exact qrowA T _ _ (qt h) 8 0 _ (by decide) j _ (by omega)
  · exact qrowB T _ _ (qts h) 9 0 _ (by decide) j _ (by have := j.isLt; omega)
  · exact qrowA T _ _ (qt h) 10 0 _ (by decide) j _ (by omega)
  · exact qrowB T _ _ (qts h) 11 0 _ (by decide) j _ (by have := j.isLt; omega)

theorem st_0_1 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1189 (F := Ideal) c arg8 harg8 arg9 harg9 arg12 harg12 arg13 harg13 arg16 harg16 arg19 arg20 harg20 arg22 arg24 arg25 arg27 arg28 x7 x8 x11 x12 x15 xs1) (ix3 0 n j) = T.st (0 + 1) n.val (384 * 1 + j.val) := by
  refine state_tile T 0 1 (by decide) _ _ _ _ _ (fun l j => ?_) (fun l j => ?_) (fun l j => ?_) (fun m n => ?_) (fun n j => ?_) n j
  · exact cov2 (e := .f32) _ _ (fun r c => T.acs r (c / 64)) 256 1536 (ax h) 0 384 _ (by decide) (by decide) l j
  · exact cov2 (e := .f32) _ _ (fun r c => T.act r (0 + c)) 256 1536 (xs h hH) 0 384 _ (by decide) (by decide) l j
  · exact cov2 (e := .f32) _ _ (fun r c => T.q r (c / 64)) 256 1536 (qx h) 0 384 _ (by decide) (by decide) l j
  · exact cov2 (e := .bf16) _ _ (fun r c => T.act r (1536 + c)) 256 512 (bs h hH) 0 128 _ (by decide) (by decide) m n
  · exact (covS _ _ 1 _ (by decide) n j).trans ((missS 0 1 _ _ _ (by decide) n j (by decide)).trans ((congrFun (wholeS _ _ _) _).trans ((zero3 _).trans (hS _ _).symm)))

theorem y_0_1 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1174 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (0 + l.val) (384 + j.val) := by
  refine y_tile T 0 1 (by decide) _ _ _ _ _ _ (fun l j => ?_) (fun l j => ?_) (fun l j => ?_) (fun m n => ?_) (fun j => ?_) (fun n j => ?_) l j
  · exact intra_0_1 h hH l j
  · exact cov2 (e := .f32) _ _ (fun r c => T.acs r (c / 64)) 256 1536 (ax h) 0 384 _ (by decide) (by decide) l j
  · exact cov2 (e := .f32) _ _ (fun r c => T.act r (0 + c)) 256 1536 (xs h hH) 0 384 _ (by decide) (by decide) l j
  · exact cov2 (e := .bf16) _ _ (fun r c => T.act r (2048 + c)) 256 512 (cs h hH) 0 128 _ (by decide) (by decide) m n
  · exact rd2 arg14 harg14 x13 (fun _ => T.dsk) 1 1536 h.dsk 0 384 _ (by decide) (by decide) 0 j
  · exact (covS _ _ 1 _ (by decide) n j).trans ((missS 0 1 _ _ _ (by decide) n j (by decide)).trans ((congrFun (wholeS _ _ _) _).trans ((zero3 _).trans (hS _ _).symm)))

theorem intra_0_2 {T : Tile} (h : Reads T x7 x8 x9 x10 x11 x12 x13 x14 x15 x16 xs1) (hH : ∀ q c, T.H q c = 0)
    (l : Fin 64) (j : Fin 384) : (kernelRun0_B.sl.r_7 (F := Ideal) c arg8 harg8 arg9 harg9 arg12 harg12 arg13 harg13 arg16 harg16 arg20 harg20 arg22 arg24 arg25 arg26 arg27 arg30 arg31 x7 x8 x11 x12 x15 xs1) (ix2 l j) = T.intra 0 l.val (384 * 2 + j.val) := by
  refine intra_tile T 0 2 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 0 2 _ _ (fun m n => cov2 (e := .bf16) _ _ (fun r c => T.act r (1536 + c)) 256 512 (bs h hH) 0 256 _ (by decide) (by decide) m n) (fun m n => cov2 (e := .bf16) _ _ (fun r c => T.act r (2048 + c)) 256 512 (cs h hH) 0 256 _ (by decide) (by decide) m n) l j
  · exact cov2 (e := .f32) _ _ (fun r c => T.acs r (c / 64)) 256 1536 (ax h) 0 768 _ (by decide) (by decide) l j
  · exact cov2 (e := .f32) _ _ (fun r c => T.act r (0 + c)) 256 1536 (xs h hH) 0 768 _ (by decide) (by decide) l j
  · exact qrowA T _ _ (qt h) 12 0 _ (by decide) j _ (by omega)
  · exact qrowB T _ _ (qts h) 13 0 _ (by decide) j _ (by have := j.isLt; omega)
  · exact qrowA T _ _ (qt h) 14 0 _ (by decide) j _ (by omega)
  · exact qrowB T _ _ (qts h) 15 0 _ (by decide) j _ (by have := j.isLt; omega)
  · exact qrowA T _ _ (qt h) 16 0 _ (by decide) j _ (by omega)
  · exact qrowB T _ _ (qts h) 17 0 _ (by decide) j _ (by have := j.isLt; omega)

theorem st_0_2 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1223 (F := Ideal) c arg8 harg8 arg9 harg9 arg12 harg12 arg13 harg13 arg16 harg16 arg19 arg20 harg20 arg22 arg24 arg25 arg27 arg28 x7 x8 x11 x12 x15 xs1) (ix3 0 n j) = T.st (0 + 1) n.val (384 * 2 + j.val) := by
  refine state_tile T 0 2 (by decide) _ _ _ _ _ (fun l j => ?_) (fun l j => ?_) (fun l j => ?_) (fun m n => ?_) (fun n j => ?_) n j
  · exact cov2 (e := .f32) _ _ (fun r c => T.acs r (c / 64)) 256 1536 (ax h) 0 768 _ (by decide) (by decide) l j
  · exact cov2 (e := .f32) _ _ (fun r c => T.act r (0 + c)) 256 1536 (xs h hH) 0 768 _ (by decide) (by decide) l j
  · exact cov2 (e := .f32) _ _ (fun r c => T.q r (c / 64)) 256 1536 (qx h) 0 768 _ (by decide) (by decide) l j
  · exact cov2 (e := .bf16) _ _ (fun r c => T.act r (1536 + c)) 256 512 (bs h hH) 0 256 _ (by decide) (by decide) m n
  · exact (covS _ _ 2 _ (by decide) n j).trans ((missS 1 2 _ _ _ (by decide) n j (by decide)).trans ((missS 0 2 _ _ _ (by decide) n j (by decide)).trans ((congrFun (wholeS _ _ _) _).trans ((zero3 _).trans (hS _ _).symm))))

theorem y_0_2 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1208 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (0 + l.val) (768 + j.val) := by
  refine y_tile T 0 2 (by decide) _ _ _ _ _ _ (fun l j => ?_) (fun l j => ?_) (fun l j => ?_) (fun m n => ?_) (fun j => ?_) (fun n j => ?_) l j
  · exact intra_0_2 h hH l j
  · exact cov2 (e := .f32) _ _ (fun r c => T.acs r (c / 64)) 256 1536 (ax h) 0 768 _ (by decide) (by decide) l j
  · exact cov2 (e := .f32) _ _ (fun r c => T.act r (0 + c)) 256 1536 (xs h hH) 0 768 _ (by decide) (by decide) l j
  · exact cov2 (e := .bf16) _ _ (fun r c => T.act r (2048 + c)) 256 512 (cs h hH) 0 256 _ (by decide) (by decide) m n
  · exact rd2 arg14 harg14 x13 (fun _ => T.dsk) 1 1536 h.dsk 0 768 _ (by decide) (by decide) 0 j
  · exact (covS _ _ 2 _ (by decide) n j).trans ((missS 1 2 _ _ _ (by decide) n j (by decide)).trans ((missS 0 2 _ _ _ (by decide) n j (by decide)).trans ((congrFun (wholeS _ _ _) _).trans ((zero3 _).trans (hS _ _).symm))))

theorem intra_0_3 {T : Tile} (h : Reads T x7 x8 x9 x10 x11 x12 x13 x14 x15 x16 xs1) (hH : ∀ q c, T.H q c = 0)
    (l : Fin 64) (j : Fin 384) : (kernelRun0_B.sl.v917 (F := Ideal) c arg8 harg8 arg9 harg9 arg12 harg12 arg13 harg13 arg16 harg16 arg20 harg20 arg22 arg24 arg25 arg26 arg27 arg30 arg31 x7 x8 x11 x12 x15 xs1) (ix2 l j) = T.intra 0 l.val (384 * 3 + j.val) := by
  refine intra_tile T 0 3 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 0 3 _ _ (fun m n => cov2 (e := .bf16) _ _ (fun r c => T.act r (1536 + c)) 256 512 (bs h hH) 0 384 _ (by decide) (by decide) m n) (fun m n => cov2 (e := .bf16) _ _ (fun r c => T.act r (2048 + c)) 256 512 (cs h hH) 0 384 _ (by decide) (by decide) m n) l j
  · exact cov2 (e := .f32) _ _ (fun r c => T.acs r (c / 64)) 256 1536 (ax h) 0 1152 _ (by decide) (by decide) l j
  · exact cov2 (e := .f32) _ _ (fun r c => T.act r (0 + c)) 256 1536 (xs h hH) 0 1152 _ (by decide) (by decide) l j
  · exact qrowA T _ _ (qt h) 18 0 _ (by decide) j _ (by omega)
  · exact qrowB T _ _ (qts h) 19 0 _ (by decide) j _ (by have := j.isLt; omega)
  · exact qrowA T _ _ (qt h) 20 0 _ (by decide) j _ (by omega)
  · exact qrowB T _ _ (qts h) 21 0 _ (by decide) j _ (by have := j.isLt; omega)
  · exact qrowA T _ _ (qt h) 22 0 _ (by decide) j _ (by omega)
  · exact qrowB T _ _ (qts h) 23 0 _ (by decide) j _ (by have := j.isLt; omega)

theorem st_0_3 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1257 (F := Ideal) c arg8 harg8 arg9 harg9 arg12 harg12 arg13 harg13 arg16 harg16 arg19 arg20 harg20 arg22 arg24 arg25 arg27 arg28 x7 x8 x11 x12 x15 xs1) (ix3 0 n j) = T.st (0 + 1) n.val (384 * 3 + j.val) := by
  refine state_tile T 0 3 (by decide) _ _ _ _ _ (fun l j => ?_) (fun l j => ?_) (fun l j => ?_) (fun m n => ?_) (fun n j => ?_) n j
  · exact cov2 (e := .f32) _ _ (fun r c => T.acs r (c / 64)) 256 1536 (ax h) 0 1152 _ (by decide) (by decide) l j
  · exact cov2 (e := .f32) _ _ (fun r c => T.act r (0 + c)) 256 1536 (xs h hH) 0 1152 _ (by decide) (by decide) l j
  · exact cov2 (e := .f32) _ _ (fun r c => T.q r (c / 64)) 256 1536 (qx h) 0 1152 _ (by decide) (by decide) l j
  · exact cov2 (e := .bf16) _ _ (fun r c => T.act r (1536 + c)) 256 512 (bs h hH) 0 384 _ (by decide) (by decide) m n
  · exact (covS _ _ 3 _ (by decide) n j).trans ((missS 2 3 _ _ _ (by decide) n j (by decide)).trans ((missS 1 3 _ _ _ (by decide) n j (by decide)).trans ((missS 0 3 _ _ _ (by decide) n j (by decide)).trans ((congrFun (wholeS _ _ _) _).trans ((zero3 _).trans (hS _ _).symm)))))

theorem y_0_3 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1242 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (0 + l.val) (1152 + j.val) := by
  refine y_tile T 0 3 (by decide) _ _ _ _ _ _ (fun l j => ?_) (fun l j => ?_) (fun l j => ?_) (fun m n => ?_) (fun j => ?_) (fun n j => ?_) l j
  · exact intra_0_3 h hH l j
  · exact cov2 (e := .f32) _ _ (fun r c => T.acs r (c / 64)) 256 1536 (ax h) 0 1152 _ (by decide) (by decide) l j
  · exact cov2 (e := .f32) _ _ (fun r c => T.act r (0 + c)) 256 1536 (xs h hH) 0 1152 _ (by decide) (by decide) l j
  · exact cov2 (e := .bf16) _ _ (fun r c => T.act r (2048 + c)) 256 512 (cs h hH) 0 384 _ (by decide) (by decide) m n
  · exact rd2 arg14 harg14 x13 (fun _ => T.dsk) 1 1536 h.dsk 0 1152 _ (by decide) (by decide) 0 j
  · exact (covS _ _ 3 _ (by decide) n j).trans ((missS 2 3 _ _ _ (by decide) n j (by decide)).trans ((missS 1 3 _ _ _ (by decide) n j (by decide)).trans ((missS 0 3 _ _ _ (by decide) n j (by decide)).trans ((congrFun (wholeS _ _ _) _).trans ((zero3 _).trans (hS _ _).symm)))))

theorem intra_1_0 {T : Tile} (h : Reads T x7 x8 x9 x10 x11 x12 x13 x14 x15 x16 xs1) (hH : ∀ q c, T.H q c = 0)
    (l : Fin 64) (j : Fin 384) : (kernelRun0_B.sl.r_13 (F := Ideal) c arg8 harg8 arg9 harg9 arg12 harg12 arg13 harg13 arg16 harg16 arg20 harg20 arg22 arg24 arg25 arg26 arg27 arg30 arg31 x7 x8 x11 x12 x15 xs1) (ix2 l j) = T.intra 1 l.val (384 * 0 + j.val) := by
  refine intra_tile T 1 0 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 1 0 _ _ (fun m n => cov2 (e := .bf16) _ _ (fun r c => T.act r (1536 + c)) 256 512 (bs h hH) 64 0 _ (by decide) (by decide) m n) (fun m n => cov2 (e := .bf16) _ _ (fun r c => T.act r (2048 + c)) 256 512 (cs h hH) 64 0 _ (by decide) (by decide) m n) l j
  · exact cov2 (e := .f32) _ _ (fun r c => T.acs r (c / 64)) 256 1536 (ax h) 64 0 _ (by decide) (by decide) l j
  · exact cov2 (e := .f32) _ _ (fun r c => T.act r (0 + c)) 256 1536 (xs h hH) 64 0 _ (by decide) (by decide) l j
  · exact qrowB T _ _ (qts h) 0 0 _ (by decide) j _ (by omega)
  · exact qrowA T _ _ (qt h) 1 0 _ (by decide) j _ (by have := j.isLt; omega)
  · exact qrowB T _ _ (qts h) 2 0 _ (by decide) j _ (by omega)
  · exact qrowA T _ _ (qt h) 3 0 _ (by decide) j _ (by have := j.isLt; omega)
  · exact qrowB T _ _ (qts h) 4 0 _ (by decide) j _ (by omega)
  · exact qrowA T _ _ (qt h) 5 0 _ (by decide) j _ (by have := j.isLt; omega)

theorem st_1_0 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1507 (F := Ideal) c arg8 harg8 arg9 harg9 arg12 harg12 arg13 harg13 arg16 harg16 arg19 arg20 harg20 arg22 arg24 arg25 arg27 arg28 x7 x8 x11 x12 x15 xs1) (ix3 0 n j) = T.st (1 + 1) n.val (384 * 0 + j.val) := by
  refine state_tile T 1 0 (by decide) _ _ _ _ _ (fun l j => ?_) (fun l j => ?_) (fun l j => ?_) (fun m n => ?_) (fun n j => ?_) n j
  · exact cov2 (e := .f32) _ _ (fun r c => T.acs r (c / 64)) 256 1536 (ax h) 64 0 _ (by decide) (by decide) l j
  · exact cov2 (e := .f32) _ _ (fun r c => T.act r (0 + c)) 256 1536 (xs h hH) 64 0 _ (by decide) (by decide) l j
  · exact cov2 (e := .f32) _ _ (fun r c => T.q r (c / 64)) 256 1536 (qx h) 64 0 _ (by decide) (by decide) l j
  · exact cov2 (e := .bf16) _ _ (fun r c => T.act r (1536 + c)) 256 512 (bs h hH) 64 0 _ (by decide) (by decide) m n
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_0_0 h hH hS n j)))))

theorem y_1_0 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1492 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (64 + l.val) (0 + j.val) := by
  refine y_tile T 1 0 (by decide) _ _ _ _ _ _ (fun l j => ?_) (fun l j => ?_) (fun l j => ?_) (fun m n => ?_) (fun j => ?_) (fun n j => ?_) l j
  · exact intra_1_0 h hH l j
  · exact cov2 (e := .f32) _ _ (fun r c => T.acs r (c / 64)) 256 1536 (ax h) 64 0 _ (by decide) (by decide) l j
  · exact cov2 (e := .f32) _ _ (fun r c => T.act r (0 + c)) 256 1536 (xs h hH) 64 0 _ (by decide) (by decide) l j
  · exact cov2 (e := .bf16) _ _ (fun r c => T.act r (2048 + c)) 256 512 (cs h hH) 64 0 _ (by decide) (by decide) m n
  · exact rd2 arg14 harg14 x13 (fun _ => T.dsk) 1 1536 h.dsk 0 0 _ (by decide) (by decide) 0 j
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_0_0 h hH hS n j)))))

theorem intra_1_1 {T : Tile} (h : Reads T x7 x8 x9 x10 x11 x12 x13 x14 x15 x16 xs1) (hH : ∀ q c, T.H q c = 0)
    (l : Fin 64) (j : Fin 384) : (kernelRun0_B.sl.r_18 (F := Ideal) c arg8 harg8 arg9 harg9 arg12 harg12 arg13 harg13 arg16 harg16 arg20 harg20 arg22 arg24 arg25 arg26 arg27 arg30 arg31 x7 x8 x11 x12 x15 xs1) (ix2 l j) = T.intra 1 l.val (384 * 1 + j.val) := by
  refine intra_tile T 1 1 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 1 1 _ _ (fun m n => cov2 (e := .bf16) _ _ (fun r c => T.act r (1536 + c)) 256 512 (bs h hH) 64 128 _ (by decide) (by decide) m n) (fun m n => cov2 (e := .bf16) _ _ (fun r c => T.act r (2048 + c)) 256 512 (cs h hH) 64 128 _ (by decide) (by decide) m n) l j
  · exact cov2 (e := .f32) _ _ (fun r c => T.acs r (c / 64)) 256 1536 (ax h) 64 384 _ (by decide) (by decide) l j
  · exact cov2 (e := .f32) _ _ (fun r c => T.act r (0 + c)) 256 1536 (xs h hH) 64 384 _ (by decide) (by decide) l j
  · exact qrowB T _ _ (qts h) 6 0 _ (by decide) j _ (by omega)
  · exact qrowA T _ _ (qt h) 7 0 _ (by decide) j _ (by have := j.isLt; omega)
  · exact qrowB T _ _ (qts h) 8 0 _ (by decide) j _ (by omega)
  · exact qrowA T _ _ (qt h) 9 0 _ (by decide) j _ (by have := j.isLt; omega)
  · exact qrowB T _ _ (qts h) 10 0 _ (by decide) j _ (by omega)
  · exact qrowA T _ _ (qt h) 11 0 _ (by decide) j _ (by have := j.isLt; omega)

theorem st_1_1 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1541 (F := Ideal) c arg8 harg8 arg9 harg9 arg12 harg12 arg13 harg13 arg16 harg16 arg19 arg20 harg20 arg22 arg24 arg25 arg27 arg28 x7 x8 x11 x12 x15 xs1) (ix3 0 n j) = T.st (1 + 1) n.val (384 * 1 + j.val) := by
  refine state_tile T 1 1 (by decide) _ _ _ _ _ (fun l j => ?_) (fun l j => ?_) (fun l j => ?_) (fun m n => ?_) (fun n j => ?_) n j
  · exact cov2 (e := .f32) _ _ (fun r c => T.acs r (c / 64)) 256 1536 (ax h) 64 384 _ (by decide) (by decide) l j
  · exact cov2 (e := .f32) _ _ (fun r c => T.act r (0 + c)) 256 1536 (xs h hH) 64 384 _ (by decide) (by decide) l j
  · exact cov2 (e := .f32) _ _ (fun r c => T.q r (c / 64)) 256 1536 (qx h) 64 384 _ (by decide) (by decide) l j
  · exact cov2 (e := .bf16) _ _ (fun r c => T.act r (1536 + c)) 256 512 (bs h hH) 64 128 _ (by decide) (by decide) m n
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_0_1 h hH hS n j)))))

theorem y_1_1 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1526 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (64 + l.val) (384 + j.val) := by
  refine y_tile T 1 1 (by decide) _ _ _ _ _ _ (fun l j => ?_) (fun l j => ?_) (fun l j => ?_) (fun m n => ?_) (fun j => ?_) (fun n j => ?_) l j
  · exact intra_1_1 h hH l j
  · exact cov2 (e := .f32) _ _ (fun r c => T.acs r (c / 64)) 256 1536 (ax h) 64 384 _ (by decide) (by decide) l j
  · exact cov2 (e := .f32) _ _ (fun r c => T.act r (0 + c)) 256 1536 (xs h hH) 64 384 _ (by decide) (by decide) l j
  · exact cov2 (e := .bf16) _ _ (fun r c => T.act r (2048 + c)) 256 512 (cs h hH) 64 128 _ (by decide) (by decide) m n
  · exact rd2 arg14 harg14 x13 (fun _ => T.dsk) 1 1536 h.dsk 0 384 _ (by decide) (by decide) 0 j
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_0_1 h hH hS n j)))))

theorem intra_1_2 {T : Tile} (h : Reads T x7 x8 x9 x10 x11 x12 x13 x14 x15 x16 xs1) (hH : ∀ q c, T.H q c = 0)
    (l : Fin 64) (j : Fin 384) : (kernelRun0_B.sl.r_22 (F := Ideal) c arg8 harg8 arg9 harg9 arg12 harg12 arg13 harg13 arg16 harg16 arg20 harg20 arg22 arg24 arg25 arg26 arg27 arg30 arg31 x7 x8 x11 x12 x15 xs1) (ix2 l j) = T.intra 1 l.val (384 * 2 + j.val) := by
  refine intra_tile T 1 2 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 1 2 _ _ (fun m n => cov2 (e := .bf16) _ _ (fun r c => T.act r (1536 + c)) 256 512 (bs h hH) 64 256 _ (by decide) (by decide) m n) (fun m n => cov2 (e := .bf16) _ _ (fun r c => T.act r (2048 + c)) 256 512 (cs h hH) 64 256 _ (by decide) (by decide) m n) l j
  · exact cov2 (e := .f32) _ _ (fun r c => T.acs r (c / 64)) 256 1536 (ax h) 64 768 _ (by decide) (by decide) l j
  · exact cov2 (e := .f32) _ _ (fun r c => T.act r (0 + c)) 256 1536 (xs h hH) 64 768 _ (by decide) (by decide) l j
  · exact qrowB T _ _ (qts h) 12 0 _ (by decide) j _ (by omega)
  · exact qrowA T _ _ (qt h) 13 0 _ (by decide) j _ (by have := j.isLt; omega)
  · exact qrowB T _ _ (qts h) 14 0 _ (by decide) j _ (by omega)
  · exact qrowA T _ _ (qt h) 15 0 _ (by decide) j _ (by have := j.isLt; omega)
  · exact qrowB T _ _ (qts h) 16 0 _ (by decide) j _ (by omega)
  · exact qrowA T _ _ (qt h) 17 0 _ (by decide) j _ (by have := j.isLt; omega)

theorem st_1_2 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1575 (F := Ideal) c arg8 harg8 arg9 harg9 arg12 harg12 arg13 harg13 arg16 harg16 arg19 arg20 harg20 arg22 arg24 arg25 arg27 arg28 x7 x8 x11 x12 x15 xs1) (ix3 0 n j) = T.st (1 + 1) n.val (384 * 2 + j.val) := by
  refine state_tile T 1 2 (by decide) _ _ _ _ _ (fun l j => ?_) (fun l j => ?_) (fun l j => ?_) (fun m n => ?_) (fun n j => ?_) n j
  · exact cov2 (e := .f32) _ _ (fun r c => T.acs r (c / 64)) 256 1536 (ax h) 64 768 _ (by decide) (by decide) l j
  · exact cov2 (e := .f32) _ _ (fun r c => T.act r (0 + c)) 256 1536 (xs h hH) 64 768 _ (by decide) (by decide) l j
  · exact cov2 (e := .f32) _ _ (fun r c => T.q r (c / 64)) 256 1536 (qx h) 64 768 _ (by decide) (by decide) l j
  · exact cov2 (e := .bf16) _ _ (fun r c => T.act r (1536 + c)) 256 512 (bs h hH) 64 256 _ (by decide) (by decide) m n
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_0_2 h hH hS n j)))))

theorem y_1_2 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1560 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (64 + l.val) (768 + j.val) := by
  refine y_tile T 1 2 (by decide) _ _ _ _ _ _ (fun l j => ?_) (fun l j => ?_) (fun l j => ?_) (fun m n => ?_) (fun j => ?_) (fun n j => ?_) l j
  · exact intra_1_2 h hH l j
  · exact cov2 (e := .f32) _ _ (fun r c => T.acs r (c / 64)) 256 1536 (ax h) 64 768 _ (by decide) (by decide) l j
  · exact cov2 (e := .f32) _ _ (fun r c => T.act r (0 + c)) 256 1536 (xs h hH) 64 768 _ (by decide) (by decide) l j
  · exact cov2 (e := .bf16) _ _ (fun r c => T.act r (2048 + c)) 256 512 (cs h hH) 64 256 _ (by decide) (by decide) m n
  · exact rd2 arg14 harg14 x13 (fun _ => T.dsk) 1 1536 h.dsk 0 768 _ (by decide) (by decide) 0 j
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_0_2 h hH hS n j)))))

theorem intra_1_3 {T : Tile} (h : Reads T x7 x8 x9 x10 x11 x12 x13 x14 x15 x16 xs1) (hH : ∀ q c, T.H q c = 0)
    (l : Fin 64) (j : Fin 384) : (kernelRun0_B.sl.v1121 (F := Ideal) c arg8 harg8 arg9 harg9 arg12 harg12 arg13 harg13 arg16 harg16 arg20 harg20 arg22 arg24 arg25 arg26 arg27 arg30 arg31 x7 x8 x11 x12 x15 xs1) (ix2 l j) = T.intra 1 l.val (384 * 3 + j.val) := by
  refine intra_tile T 1 3 (by decide) (kernelRun0_B.sl.r_2 (F := Ideal) c arg8 harg8 arg9 harg9 arg20 harg20 arg22 arg25 arg26 x7 x8 xs1) (kernelRun0_B.sl.v1075 (F := Ideal) c arg12 harg12 arg13 harg13 arg16 harg16 arg20 harg20 arg27 x11 x12 x15 xs1) (kernelRun0_B.sl.v1076 (F := Ideal) c arg8 harg8 arg9 harg9 arg20 harg20 arg22 arg24 x7 x8 xs1) (kernelRun0_B.sl.v1077 (F := Ideal) c arg12 harg12 arg13 harg13 arg20 harg20 arg31 x11 x12 xs1) (kernelRun0_B.sl.v1078 (F := Ideal) c arg12 harg12 arg13 harg13 arg20 harg20 arg30 x11 x12 xs1) (kernelRun0_B.sl.v1080 (F := Ideal) c arg12 harg12 arg13 harg13 arg20 harg20 arg31 x11 x12 xs1) (kernelRun0_B.sl.v1081 (F := Ideal) c arg12 harg12 arg13 harg13 arg20 harg20 arg30 x11 x12 xs1) (kernelRun0_B.sl.v1083 (F := Ideal) c arg12 harg12 arg13 harg13 arg20 harg20 arg31 x11 x12 xs1) (kernelRun0_B.sl.v1084 (F := Ideal) c arg12 harg12 arg13 harg13 arg20 harg20 arg30 x11 x12 xs1) (fun l j => ?_) (fun l j => ?_) (fun l j => ?_) (fun j hj => ?_) (fun j hj => ?_) (fun j hj => ?_) (fun j hj => ?_) (fun j hj => ?_) (fun j hj => ?_) l j
  · exact scores_tile T 1 3 _ _ (fun m n => cov2 (e := .bf16) _ _ (fun r c => T.act r (1536 + c)) 256 512 (bs h hH) 64 384 _ (by decide) (by decide) m n) (fun m n => cov2 (e := .bf16) _ _ (fun r c => T.act r (2048 + c)) 256 512 (cs h hH) 64 384 _ (by decide) (by decide) m n) l j
  · exact cov2 (e := .f32) _ _ (fun r c => T.acs r (c / 64)) 256 1536 (ax h) 64 1152 _ (by decide) (by decide) l j
  · exact cov2 (e := .f32) _ _ (fun r c => T.act r (0 + c)) 256 1536 (xs h hH) 64 1152 _ (by decide) (by decide) l j
  · exact qrowB T _ _ (qts h) 18 0 _ (by decide) j _ (by omega)
  · exact qrowA T _ _ (qt h) 19 0 _ (by decide) j _ (by have := j.isLt; omega)
  · exact qrowB T _ _ (qts h) 20 0 _ (by decide) j _ (by omega)
  · exact qrowA T _ _ (qt h) 21 0 _ (by decide) j _ (by have := j.isLt; omega)
  · exact qrowB T _ _ (qts h) 22 0 _ (by decide) j _ (by omega)
  · exact qrowA T _ _ (qt h) 23 0 _ (by decide) j _ (by have := j.isLt; omega)

theorem st_1_3 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1609 (F := Ideal) c arg8 harg8 arg9 harg9 arg12 harg12 arg13 harg13 arg16 harg16 arg19 arg20 harg20 arg22 arg24 arg25 arg27 arg28 x7 x8 x11 x12 x15 xs1) (ix3 0 n j) = T.st (1 + 1) n.val (384 * 3 + j.val) := by
  refine state_tile T 1 3 (by decide) _ _ _ _ _ (fun l j => ?_) (fun l j => ?_) (fun l j => ?_) (fun m n => ?_) (fun n j => ?_) n j
  · exact cov2 (e := .f32) _ _ (fun r c => T.acs r (c / 64)) 256 1536 (ax h) 64 1152 _ (by decide) (by decide) l j
  · exact cov2 (e := .f32) _ _ (fun r c => T.act r (0 + c)) 256 1536 (xs h hH) 64 1152 _ (by decide) (by decide) l j
  · exact cov2 (e := .f32) _ _ (fun r c => T.q r (c / 64)) 256 1536 (qx h) 64 1152 _ (by decide) (by decide) l j
  · exact cov2 (e := .bf16) _ _ (fun r c => T.act r (1536 + c)) 256 512 (bs h hH) 64 384 _ (by decide) (by decide) m n
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_0_3 h hH hS n j)))))

theorem y_1_3 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1594 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (64 + l.val) (1152 + j.val) := by
  refine y_tile T 1 3 (by decide) _ _ _ _ _ _ (fun l j => ?_) (fun l j => ?_) (fun l j => ?_) (fun m n => ?_) (fun j => ?_) (fun n j => ?_) l j
  · exact intra_1_3 h hH l j
  · exact cov2 (e := .f32) _ _ (fun r c => T.acs r (c / 64)) 256 1536 (ax h) 64 1152 _ (by decide) (by decide) l j
  · exact cov2 (e := .f32) _ _ (fun r c => T.act r (0 + c)) 256 1536 (xs h hH) 64 1152 _ (by decide) (by decide) l j
  · exact cov2 (e := .bf16) _ _ (fun r c => T.act r (2048 + c)) 256 512 (cs h hH) 64 384 _ (by decide) (by decide) m n
  · exact rd2 arg14 harg14 x13 (fun _ => T.dsk) 1 1536 h.dsk 0 1152 _ (by decide) (by decide) 0 j
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_0_3 h hH hS n j)))))

theorem intra_2_0 {T : Tile} (h : Reads T x7 x8 x9 x10 x11 x12 x13 x14 x15 x16 xs1) (hH : ∀ q c, T.H q c = 0)
    (l : Fin 64) (j : Fin 384) : (kernelRun0_B.sl.v1332 (F := Ideal) c arg8 harg8 arg9 harg9 arg12 harg12 arg13 harg13 arg16 harg16 arg20 harg20 arg22 arg24 arg25 arg26 arg27 arg30 arg31 x7 x8 x11 x12 x15 xs1) (ix2 l j) = T.intra 2 l.val (384 * 0 + j.val) := by
  refine intra_tile T 2 0 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 2 0 _ _ (fun m n => cov2 (e := .bf16) _ _ (fun r c => T.act r (1536 + c)) 256 512 (bs h hH) 128 0 _ (by decide) (by decide) m n) (fun m n => cov2 (e := .bf16) _ _ (fun r c => T.act r (2048 + c)) 256 512 (cs h hH) 128 0 _ (by decide) (by decide) m n) l j
  · exact cov2 (e := .f32) _ _ (fun r c => T.acs r (c / 64)) 256 1536 (ax h) 128 0 _ (by decide) (by decide) l j
  · exact cov2 (e := .f32) _ _ (fun r c => T.act r (0 + c)) 256 1536 (xs h hH) 128 0 _ (by decide) (by decide) l j
  · exact qrowA T _ _ (qt h) 0 128 _ (by decide) j _ (by omega)
  · exact qrowB T _ _ (qts h) 1 128 _ (by decide) j _ (by have := j.isLt; omega)
  · exact qrowA T _ _ (qt h) 2 128 _ (by decide) j _ (by omega)
  · exact qrowB T _ _ (qts h) 3 128 _ (by decide) j _ (by have := j.isLt; omega)
  · exact qrowA T _ _ (qt h) 4 128 _ (by decide) j _ (by omega)
  · exact qrowB T _ _ (qts h) 5 128 _ (by decide) j _ (by have := j.isLt; omega)

theorem st_2_0 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1843 (F := Ideal) c arg8 harg8 arg9 harg9 arg12 harg12 arg13 harg13 arg16 harg16 arg19 arg20 harg20 arg22 arg24 arg25 arg27 arg28 x7 x8 x11 x12 x15 xs1) (ix3 0 n j) = T.st (2 + 1) n.val (384 * 0 + j.val) := by
  refine state_tile T 2 0 (by decide) _ _ _ _ _ (fun l j => ?_) (fun l j => ?_) (fun l j => ?_) (fun m n => ?_) (fun n j => ?_) n j
  · exact cov2 (e := .f32) _ _ (fun r c => T.acs r (c / 64)) 256 1536 (ax h) 128 0 _ (by decide) (by decide) l j
  · exact cov2 (e := .f32) _ _ (fun r c => T.act r (0 + c)) 256 1536 (xs h hH) 128 0 _ (by decide) (by decide) l j
  · exact cov2 (e := .f32) _ _ (fun r c => T.q r (c / 64)) 256 1536 (qx h) 128 0 _ (by decide) (by decide) l j
  · exact cov2 (e := .bf16) _ _ (fun r c => T.act r (1536 + c)) 256 512 (bs h hH) 128 0 _ (by decide) (by decide) m n
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_1_0 h hH hS n j)))))

theorem y_2_0 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1828 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (128 + l.val) (0 + j.val) := by
  refine y_tile T 2 0 (by decide) _ _ _ _ _ _ (fun l j => ?_) (fun l j => ?_) (fun l j => ?_) (fun m n => ?_) (fun j => ?_) (fun n j => ?_) l j
  · exact intra_2_0 h hH l j
  · exact cov2 (e := .f32) _ _ (fun r c => T.acs r (c / 64)) 256 1536 (ax h) 128 0 _ (by decide) (by decide) l j
  · exact cov2 (e := .f32) _ _ (fun r c => T.act r (0 + c)) 256 1536 (xs h hH) 128 0 _ (by decide) (by decide) l j
  · exact cov2 (e := .bf16) _ _ (fun r c => T.act r (2048 + c)) 256 512 (cs h hH) 128 0 _ (by decide) (by decide) m n
  · exact rd2 arg14 harg14 x13 (fun _ => T.dsk) 1 1536 h.dsk 0 0 _ (by decide) (by decide) 0 j
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_1_0 h hH hS n j)))))

theorem intra_2_1 {T : Tile} (h : Reads T x7 x8 x9 x10 x11 x12 x13 x14 x15 x16 xs1) (hH : ∀ q c, T.H q c = 0)
    (l : Fin 64) (j : Fin 384) : (kernelRun0_B.sl.r_31 (F := Ideal) c arg8 harg8 arg9 harg9 arg12 harg12 arg13 harg13 arg16 harg16 arg20 harg20 arg22 arg24 arg25 arg26 arg27 arg30 arg31 x7 x8 x11 x12 x15 xs1) (ix2 l j) = T.intra 2 l.val (384 * 1 + j.val) := by
  refine intra_tile T 2 1 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 2 1 _ _ (fun m n => cov2 (e := .bf16) _ _ (fun r c => T.act r (1536 + c)) 256 512 (bs h hH) 128 128 _ (by decide) (by decide) m n) (fun m n => cov2 (e := .bf16) _ _ (fun r c => T.act r (2048 + c)) 256 512 (cs h hH) 128 128 _ (by decide) (by decide) m n) l j
  · exact cov2 (e := .f32) _ _ (fun r c => T.acs r (c / 64)) 256 1536 (ax h) 128 384 _ (by decide) (by decide) l j
  · exact cov2 (e := .f32) _ _ (fun r c => T.act r (0 + c)) 256 1536 (xs h hH) 128 384 _ (by decide) (by decide) l j
  · exact qrowA T _ _ (qt h) 6 128 _ (by decide) j _ (by omega)
  · exact qrowB T _ _ (qts h) 7 128 _ (by decide) j _ (by have := j.isLt; omega)
  · exact qrowA T _ _ (qt h) 8 128 _ (by decide) j _ (by omega)
  · exact qrowB T _ _ (qts h) 9 128 _ (by decide) j _ (by have := j.isLt; omega)
  · exact qrowA T _ _ (qt h) 10 128 _ (by decide) j _ (by omega)
  · exact qrowB T _ _ (qts h) 11 128 _ (by decide) j _ (by have := j.isLt; omega)

theorem st_2_1 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1877 (F := Ideal) c arg8 harg8 arg9 harg9 arg12 harg12 arg13 harg13 arg16 harg16 arg19 arg20 harg20 arg22 arg24 arg25 arg27 arg28 x7 x8 x11 x12 x15 xs1) (ix3 0 n j) = T.st (2 + 1) n.val (384 * 1 + j.val) := by
  refine state_tile T 2 1 (by decide) _ _ _ _ _ (fun l j => ?_) (fun l j => ?_) (fun l j => ?_) (fun m n => ?_) (fun n j => ?_) n j
  · exact cov2 (e := .f32) _ _ (fun r c => T.acs r (c / 64)) 256 1536 (ax h) 128 384 _ (by decide) (by decide) l j
  · exact cov2 (e := .f32) _ _ (fun r c => T.act r (0 + c)) 256 1536 (xs h hH) 128 384 _ (by decide) (by decide) l j
  · exact cov2 (e := .f32) _ _ (fun r c => T.q r (c / 64)) 256 1536 (qx h) 128 384 _ (by decide) (by decide) l j
  · exact cov2 (e := .bf16) _ _ (fun r c => T.act r (1536 + c)) 256 512 (bs h hH) 128 128 _ (by decide) (by decide) m n
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_1_1 h hH hS n j)))))

theorem y_2_1 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1862 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (128 + l.val) (384 + j.val) := by
  refine y_tile T 2 1 (by decide) _ _ _ _ _ _ (fun l j => ?_) (fun l j => ?_) (fun l j => ?_) (fun m n => ?_) (fun j => ?_) (fun n j => ?_) l j
  · exact intra_2_1 h hH l j
  · exact cov2 (e := .f32) _ _ (fun r c => T.acs r (c / 64)) 256 1536 (ax h) 128 384 _ (by decide) (by decide) l j
  · exact cov2 (e := .f32) _ _ (fun r c => T.act r (0 + c)) 256 1536 (xs h hH) 128 384 _ (by decide) (by decide) l j
  · exact cov2 (e := .bf16) _ _ (fun r c => T.act r (2048 + c)) 256 512 (cs h hH) 128 128 _ (by decide) (by decide) m n
  · exact rd2 arg14 harg14 x13 (fun _ => T.dsk) 1 1536 h.dsk 0 384 _ (by decide) (by decide) 0 j
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_1_1 h hH hS n j)))))

theorem intra_2_2 {T : Tile} (h : Reads T x7 x8 x9 x10 x11 x12 x13 x14 x15 x16 xs1) (hH : ∀ q c, T.H q c = 0)
    (l : Fin 64) (j : Fin 384) : (kernelRun0_B.sl.r_37 (F := Ideal) c arg8 harg8 arg9 harg9 arg12 harg12 arg13 harg13 arg16 harg16 arg20 harg20 arg22 arg24 arg25 arg26 arg27 arg30 arg31 x7 x8 x11 x12 x15 xs1) (ix2 l j) = T.intra 2 l.val (384 * 2 + j.val) := by
  refine intra_tile T 2 2 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 2 2 _ _ (fun m n => cov2 (e := .bf16) _ _ (fun r c => T.act r (1536 + c)) 256 512 (bs h hH) 128 256 _ (by decide) (by decide) m n) (fun m n => cov2 (e := .bf16) _ _ (fun r c => T.act r (2048 + c)) 256 512 (cs h hH) 128 256 _ (by decide) (by decide) m n) l j
  · exact cov2 (e := .f32) _ _ (fun r c => T.acs r (c / 64)) 256 1536 (ax h) 128 768 _ (by decide) (by decide) l j
  · exact cov2 (e := .f32) _ _ (fun r c => T.act r (0 + c)) 256 1536 (xs h hH) 128 768 _ (by decide) (by decide) l j
  · exact qrowA T _ _ (qt h) 12 128 _ (by decide) j _ (by omega)
  · exact qrowB T _ _ (qts h) 13 128 _ (by decide) j _ (by have := j.isLt; omega)
  · exact qrowA T _ _ (qt h) 14 128 _ (by decide) j _ (by omega)
  · exact qrowB T _ _ (qts h) 15 128 _ (by decide) j _ (by have := j.isLt; omega)
  · exact qrowA T _ _ (qt h) 16 128 _ (by decide) j _ (by omega)
  · exact qrowB T _ _ (qts h) 17 128 _ (by decide) j _ (by have := j.isLt; omega)

theorem st_2_2 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1911 (F := Ideal) c arg8 harg8 arg9 harg9 arg12 harg12 arg13 harg13 arg16 harg16 arg19 arg20 harg20 arg22 arg24 arg25 arg27 arg28 x7 x8 x11 x12 x15 xs1) (ix3 0 n j) = T.st (2 + 1) n.val (384 * 2 + j.val) := by
  refine state_tile T 2 2 (by decide) _ _ _ _ _ (fun l j => ?_) (fun l j => ?_) (fun l j => ?_) (fun m n => ?_) (fun n j => ?_) n j
  · exact cov2 (e := .f32) _ _ (fun r c => T.acs r (c / 64)) 256 1536 (ax h) 128 768 _ (by decide) (by decide) l j
  · exact cov2 (e := .f32) _ _ (fun r c => T.act r (0 + c)) 256 1536 (xs h hH) 128 768 _ (by decide) (by decide) l j
  · exact cov2 (e := .f32) _ _ (fun r c => T.q r (c / 64)) 256 1536 (qx h) 128 768 _ (by decide) (by decide) l j
  · exact cov2 (e := .bf16) _ _ (fun r c => T.act r (1536 + c)) 256 512 (bs h hH) 128 256 _ (by decide) (by decide) m n
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_1_2 h hH hS n j)))))

theorem y_2_2 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1896 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (128 + l.val) (768 + j.val) := by
  refine y_tile T 2 2 (by decide) _ _ _ _ _ _ (fun l j => ?_) (fun l j => ?_) (fun l j => ?_) (fun m n => ?_) (fun j => ?_) (fun n j => ?_) l j
  · exact intra_2_2 h hH l j
  · exact cov2 (e := .f32) _ _ (fun r c => T.acs r (c / 64)) 256 1536 (ax h) 128 768 _ (by decide) (by decide) l j
  · exact cov2 (e := .f32) _ _ (fun r c => T.act r (0 + c)) 256 1536 (xs h hH) 128 768 _ (by decide) (by decide) l j
  · exact cov2 (e := .bf16) _ _ (fun r c => T.act r (2048 + c)) 256 512 (cs h hH) 128 256 _ (by decide) (by decide) m n
  · exact rd2 arg14 harg14 x13 (fun _ => T.dsk) 1 1536 h.dsk 0 768 _ (by decide) (by decide) 0 j
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_1_2 h hH hS n j)))))

theorem intra_2_3 {T : Tile} (h : Reads T x7 x8 x9 x10 x11 x12 x13 x14 x15 x16 xs1) (hH : ∀ q c, T.H q c = 0)
    (l : Fin 64) (j : Fin 384) : (kernelRun0_B.sl.v1473 (F := Ideal) c arg8 harg8 arg9 harg9 arg12 harg12 arg13 harg13 arg16 harg16 arg20 harg20 arg22 arg24 arg25 arg26 arg27 arg30 arg31 x7 x8 x11 x12 x15 xs1) (ix2 l j) = T.intra 2 l.val (384 * 3 + j.val) := by
  refine intra_tile T 2 3 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 2 3 _ _ (fun m n => cov2 (e := .bf16) _ _ (fun r c => T.act r (1536 + c)) 256 512 (bs h hH) 128 384 _ (by decide) (by decide) m n) (fun m n => cov2 (e := .bf16) _ _ (fun r c => T.act r (2048 + c)) 256 512 (cs h hH) 128 384 _ (by decide) (by decide) m n) l j
  · exact cov2 (e := .f32) _ _ (fun r c => T.acs r (c / 64)) 256 1536 (ax h) 128 1152 _ (by decide) (by decide) l j
  · exact cov2 (e := .f32) _ _ (fun r c => T.act r (0 + c)) 256 1536 (xs h hH) 128 1152 _ (by decide) (by decide) l j
  · exact qrowA T _ _ (qt h) 18 128 _ (by decide) j _ (by omega)
  · exact qrowB T _ _ (qts h) 19 128 _ (by decide) j _ (by have := j.isLt; omega)
  · exact qrowA T _ _ (qt h) 20 128 _ (by decide) j _ (by omega)
  · exact qrowB T _ _ (qts h) 21 128 _ (by decide) j _ (by have := j.isLt; omega)
  · exact qrowA T _ _ (qt h) 22 128 _ (by decide) j _ (by omega)
  · exact qrowB T _ _ (qts h) 23 128 _ (by decide) j _ (by have := j.isLt; omega)

theorem st_2_3 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1945 (F := Ideal) c arg8 harg8 arg9 harg9 arg12 harg12 arg13 harg13 arg16 harg16 arg19 arg20 harg20 arg22 arg24 arg25 arg27 arg28 x7 x8 x11 x12 x15 xs1) (ix3 0 n j) = T.st (2 + 1) n.val (384 * 3 + j.val) := by
  refine state_tile T 2 3 (by decide) _ _ _ _ _ (fun l j => ?_) (fun l j => ?_) (fun l j => ?_) (fun m n => ?_) (fun n j => ?_) n j
  · exact cov2 (e := .f32) _ _ (fun r c => T.acs r (c / 64)) 256 1536 (ax h) 128 1152 _ (by decide) (by decide) l j
  · exact cov2 (e := .f32) _ _ (fun r c => T.act r (0 + c)) 256 1536 (xs h hH) 128 1152 _ (by decide) (by decide) l j
  · exact cov2 (e := .f32) _ _ (fun r c => T.q r (c / 64)) 256 1536 (qx h) 128 1152 _ (by decide) (by decide) l j
  · exact cov2 (e := .bf16) _ _ (fun r c => T.act r (1536 + c)) 256 512 (bs h hH) 128 384 _ (by decide) (by decide) m n
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_1_3 h hH hS n j)))))

theorem y_2_3 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1930 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (128 + l.val) (1152 + j.val) := by
  refine y_tile T 2 3 (by decide) _ _ _ _ _ _ (fun l j => ?_) (fun l j => ?_) (fun l j => ?_) (fun m n => ?_) (fun j => ?_) (fun n j => ?_) l j
  · exact intra_2_3 h hH l j
  · exact cov2 (e := .f32) _ _ (fun r c => T.acs r (c / 64)) 256 1536 (ax h) 128 1152 _ (by decide) (by decide) l j
  · exact cov2 (e := .f32) _ _ (fun r c => T.act r (0 + c)) 256 1536 (xs h hH) 128 1152 _ (by decide) (by decide) l j
  · exact cov2 (e := .bf16) _ _ (fun r c => T.act r (2048 + c)) 256 512 (cs h hH) 128 384 _ (by decide) (by decide) m n
  · exact rd2 arg14 harg14 x13 (fun _ => T.dsk) 1 1536 h.dsk 0 1152 _ (by decide) (by decide) 0 j
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_1_3 h hH hS n j)))))

theorem intra_3_0 {T : Tile} (h : Reads T x7 x8 x9 x10 x11 x12 x13 x14 x15 x16 xs1) (hH : ∀ q c, T.H q c = 0)
    (l : Fin 64) (j : Fin 384) : (kernelRun0_B.sl.r_42 (F := Ideal) c arg8 harg8 arg9 harg9 arg12 harg12 arg13 harg13 arg16 harg16 arg20 harg20 arg22 arg24 arg25 arg26 arg27 arg30 arg31 x7 x8 x11 x12 x15 xs1) (ix2 l j) = T.intra 3 l.val (384 * 0 + j.val) := by
  refine intra_tile T 3 0 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 3 0 _ _ (fun m n => cov2 (e := .bf16) _ _ (fun r c => T.act r (1536 + c)) 256 512 (bs h hH) 192 0 _ (by decide) (by decide) m n) (fun m n => cov2 (e := .bf16) _ _ (fun r c => T.act r (2048 + c)) 256 512 (cs h hH) 192 0 _ (by decide) (by decide) m n) l j
  · exact cov2 (e := .f32) _ _ (fun r c => T.acs r (c / 64)) 256 1536 (ax h) 192 0 _ (by decide) (by decide) l j
  · exact cov2 (e := .f32) _ _ (fun r c => T.act r (0 + c)) 256 1536 (xs h hH) 192 0 _ (by decide) (by decide) l j
  · exact qrowB T _ _ (qts h) 0 128 _ (by decide) j _ (by omega)
  · exact qrowA T _ _ (qt h) 1 128 _ (by decide) j _ (by have := j.isLt; omega)
  · exact qrowB T _ _ (qts h) 2 128 _ (by decide) j _ (by omega)
  · exact qrowA T _ _ (qt h) 3 128 _ (by decide) j _ (by have := j.isLt; omega)
  · exact qrowB T _ _ (qts h) 4 128 _ (by decide) j _ (by omega)
  · exact qrowA T _ _ (qt h) 5 128 _ (by decide) j _ (by have := j.isLt; omega)

theorem st_3_0 {T : Tile} (h : Reads T x7 x8 x9 x10 x11 x12 x13 x14 x15 x16 xs1) (hH : ∀ q c, T.H q c = 0) (hS : ∀ n c, T.S n c = 0)
    (n : Fin 128) (j : Fin 384) : (kernelRun0_B.sl.v1991 (F := Ideal) c arg8 harg8 arg9 harg9 arg12 harg12 arg13 harg13 arg16 harg16 arg19 arg20 harg20 arg22 arg24 arg25 arg27 arg28 x7 x8 x11 x12 x15 xs1) (ix3 0 n j) = T.st (3 + 1) n.val (384 * 0 + j.val) := by
  refine state_tile T 3 0 (by decide) _ _ _ _ _ (fun l j => ?_) (fun l j => ?_) (fun l j => ?_) (fun m n => ?_) (fun n j => ?_) n j
  · exact cov2 (e := .f32) _ _ (fun r c => T.acs r (c / 64)) 256 1536 (ax h) 192 0 _ (by decide) (by decide) l j
  · exact cov2 (e := .f32) _ _ (fun r c => T.act r (0 + c)) 256 1536 (xs h hH) 192 0 _ (by decide) (by decide) l j
  · exact cov2 (e := .f32) _ _ (fun r c => T.q r (c / 64)) 256 1536 (qx h) 192 0 _ (by decide) (by decide) l j
  · exact cov2 (e := .bf16) _ _ (fun r c => T.act r (1536 + c)) 256 512 (bs h hH) 192 0 _ (by decide) (by decide) m n
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_2_0 h hH hS n j)))))

theorem y_3_0 {T : Tile} (h : Reads T x7 x8 x9 x10 x11 x12 x13 x14 x15 x16 xs1) (hH : ∀ q c, T.H q c = 0) (hS : ∀ n c, T.S n c = 0)
    (l : Fin 64) (j : Fin 384) : (kernelRun0_B.sl.v1976 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (192 + l.val) (0 + j.val) := by
  refine y_tile T 3 0 (by decide) _ _ _ _ _ _ (fun l j => ?_) (fun l j => ?_) (fun l j => ?_) (fun m n => ?_) (fun j => ?_) (fun n j => ?_) l j
  · exact intra_3_0 h hH l j
  · exact cov2 (e := .f32) _ _ (fun r c => T.acs r (c / 64)) 256 1536 (ax h) 192 0 _ (by decide) (by decide) l j
  · exact cov2 (e := .f32) _ _ (fun r c => T.act r (0 + c)) 256 1536 (xs h hH) 192 0 _ (by decide) (by decide) l j
  · exact cov2 (e := .bf16) _ _ (fun r c => T.act r (2048 + c)) 256 512 (cs h hH) 192 0 _ (by decide) (by decide) m n
  · exact rd2 arg14 harg14 x13 (fun _ => T.dsk) 1 1536 h.dsk 0 0 _ (by decide) (by decide) 0 j
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_2_0 h hH hS n j)))))

theorem intra_3_1 {T : Tile} (h : Reads T x7 x8 x9 x10 x11 x12 x13 x14 x15 x16 xs1) (hH : ∀ q c, T.H q c = 0)
    (l : Fin 64) (j : Fin 384) : (kernelRun0_B.sl.r_47 (F := Ideal) c arg8 harg8 arg9 harg9 arg12 harg12 arg13 harg13 arg16 harg16 arg20 harg20 arg22 arg24 arg25 arg26 arg27 arg30 arg31 x7 x8 x11 x12 x15 xs1) (ix2 l j) = T.intra 3 l.val (384 * 1 + j.val) := by
  refine intra_tile T 3 1 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 3 1 _ _ (fun m n => cov2 (e := .bf16) _ _ (fun r c => T.act r (1536 + c)) 256 512 (bs h hH) 192 128 _ (by decide) (by decide) m n) (fun m n => cov2 (e := .bf16) _ _ (fun r c => T.act r (2048 + c)) 256 512 (cs h hH) 192 128 _ (by decide) (by decide) m n) l j
  · exact cov2 (e := .f32) _ _ (fun r c => T.acs r (c / 64)) 256 1536 (ax h) 192 384 _ (by decide) (by decide) l j
  · exact cov2 (e := .f32) _ _ (fun r c => T.act r (0 + c)) 256 1536 (xs h hH) 192 384 _ (by decide) (by decide) l j
  · exact qrowB T _ _ (qts h) 6 128 _ (by decide) j _ (by omega)
  · exact qrowA T _ _ (qt h) 7 128 _ (by decide) j _ (by have := j.isLt; omega)
  · exact qrowB T _ _ (qts h) 8 128 _ (by decide) j _ (by omega)
  · exact qrowA T _ _ (qt h) 9 128 _ (by decide) j _ (by have := j.isLt; omega)
  · exact qrowB T _ _ (qts h) 10 128 _ (by decide) j _ (by omega)
  · exact qrowA T _ _ (qt h) 11 128 _ (by decide) j _ (by have := j.isLt; omega)

theorem st_3_1 {T : Tile} (h : Reads T x7 x8 x9 x10 x11 x12 x13 x14 x15 x16 xs1) (hH : ∀ q c, T.H q c = 0) (hS : ∀ n c, T.S n c = 0)
    (n : Fin 128) (j : Fin 384) : (kernelRun0_B.sl.v2025 (F := Ideal) c arg8 harg8 arg9 harg9 arg12 harg12 arg13 harg13 arg16 harg16 arg19 arg20 harg20 arg22 arg24 arg25 arg27 arg28 x7 x8 x11 x12 x15 xs1) (ix3 0 n j) = T.st (3 + 1) n.val (384 * 1 + j.val) := by
  refine state_tile T 3 1 (by decide) _ _ _ _ _ (fun l j => ?_) (fun l j => ?_) (fun l j => ?_) (fun m n => ?_) (fun n j => ?_) n j
  · exact cov2 (e := .f32) _ _ (fun r c => T.acs r (c / 64)) 256 1536 (ax h) 192 384 _ (by decide) (by decide) l j
  · exact cov2 (e := .f32) _ _ (fun r c => T.act r (0 + c)) 256 1536 (xs h hH) 192 384 _ (by decide) (by decide) l j
  · exact cov2 (e := .f32) _ _ (fun r c => T.q r (c / 64)) 256 1536 (qx h) 192 384 _ (by decide) (by decide) l j
  · exact cov2 (e := .bf16) _ _ (fun r c => T.act r (1536 + c)) 256 512 (bs h hH) 192 128 _ (by decide) (by decide) m n
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_2_1 h hH hS n j)))))

theorem y_3_1 {T : Tile} (h : Reads T x7 x8 x9 x10 x11 x12 x13 x14 x15 x16 xs1) (hH : ∀ q c, T.H q c = 0) (hS : ∀ n c, T.S n c = 0)
    (l : Fin 64) (j : Fin 384) : (kernelRun0_B.sl.v2010 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (192 + l.val) (384 + j.val) := by
  refine y_tile T 3 1 (by decide) _ _ _ _ _ _ (fun l j => ?_) (fun l j => ?_) (fun l j => ?_) (fun m n => ?_) (fun j => ?_) (fun n j => ?_) l j
  · exact intra_3_1 h hH l j
  · exact cov2 (e := .f32) _ _ (fun r c => T.acs r (c / 64)) 256 1536 (ax h) 192 384 _ (by decide) (by decide) l j
  · exact cov2 (e := .f32) _ _ (fun r c => T.act r (0 + c)) 256 1536 (xs h hH) 192 384 _ (by decide) (by decide) l j
  · exact cov2 (e := .bf16) _ _ (fun r c => T.act r (2048 + c)) 256 512 (cs h hH) 192 128 _ (by decide) (by decide) m n
  · exact rd2 arg14 harg14 x13 (fun _ => T.dsk) 1 1536 h.dsk 0 384 _ (by decide) (by decide) 0 j
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_2_1 h hH hS n j)))))

theorem intra_3_2 {T : Tile} (h : Reads T x7 x8 x9 x10 x11 x12 x13 x14 x15 x16 xs1) (hH : ∀ q c, T.H q c = 0)
    (l : Fin 64) (j : Fin 384) : (kernelRun0_B.sl.r_52 (F := Ideal) c arg8 harg8 arg9 harg9 arg12 harg12 arg13 harg13 arg16 harg16 arg20 harg20 arg22 arg24 arg25 arg26 arg27 arg30 arg31 x7 x8 x11 x12 x15 xs1) (ix2 l j) = T.intra 3 l.val (384 * 2 + j.val) := by
  refine intra_tile T 3 2 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 3 2 _ _ (fun m n => cov2 (e := .bf16) _ _ (fun r c => T.act r (1536 + c)) 256 512 (bs h hH) 192 256 _ (by decide) (by decide) m n) (fun m n => cov2 (e := .bf16) _ _ (fun r c => T.act r (2048 + c)) 256 512 (cs h hH) 192 256 _ (by decide) (by decide) m n) l j
  · exact cov2 (e := .f32) _ _ (fun r c => T.acs r (c / 64)) 256 1536 (ax h) 192 768 _ (by decide) (by decide) l j
  · exact cov2 (e := .f32) _ _ (fun r c => T.act r (0 + c)) 256 1536 (xs h hH) 192 768 _ (by decide) (by decide) l j
  · exact qrowB T _ _ (qts h) 12 128 _ (by decide) j _ (by omega)
  · exact qrowA T _ _ (qt h) 13 128 _ (by decide) j _ (by have := j.isLt; omega)
  · exact qrowB T _ _ (qts h) 14 128 _ (by decide) j _ (by omega)
  · exact qrowA T _ _ (qt h) 15 128 _ (by decide) j _ (by have := j.isLt; omega)
  · exact qrowB T _ _ (qts h) 16 128 _ (by decide) j _ (by omega)
  · exact qrowA T _ _ (qt h) 17 128 _ (by decide) j _ (by have := j.isLt; omega)

theorem st_3_2 {T : Tile} (h : Reads T x7 x8 x9 x10 x11 x12 x13 x14 x15 x16 xs1) (hH : ∀ q c, T.H q c = 0) (hS : ∀ n c, T.S n c = 0)
    (n : Fin 128) (j : Fin 384) : (kernelRun0_B.sl.v2059 (F := Ideal) c arg8 harg8 arg9 harg9 arg12 harg12 arg13 harg13 arg16 harg16 arg19 arg20 harg20 arg22 arg24 arg25 arg27 arg28 x7 x8 x11 x12 x15 xs1) (ix3 0 n j) = T.st (3 + 1) n.val (384 * 2 + j.val) := by
  refine state_tile T 3 2 (by decide) _ _ _ _ _ (fun l j => ?_) (fun l j => ?_) (fun l j => ?_) (fun m n => ?_) (fun n j => ?_) n j
  · exact cov2 (e := .f32) _ _ (fun r c => T.acs r (c / 64)) 256 1536 (ax h) 192 768 _ (by decide) (by decide) l j
  · exact cov2 (e := .f32) _ _ (fun r c => T.act r (0 + c)) 256 1536 (xs h hH) 192 768 _ (by decide) (by decide) l j
  · exact cov2 (e := .f32) _ _ (fun r c => T.q r (c / 64)) 256 1536 (qx h) 192 768 _ (by decide) (by decide) l j
  · exact cov2 (e := .bf16) _ _ (fun r c => T.act r (1536 + c)) 256 512 (bs h hH) 192 256 _ (by decide) (by decide) m n
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_2_2 h hH hS n j)))))

theorem y_3_2 {T : Tile} (h : Reads T x7 x8 x9 x10 x11 x12 x13 x14 x15 x16 xs1) (hH : ∀ q c, T.H q c = 0) (hS : ∀ n c, T.S n c = 0)
    (l : Fin 64) (j : Fin 384) : (kernelRun0_B.sl.v2044 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (192 + l.val) (768 + j.val) := by
  refine y_tile T 3 2 (by decide) _ _ _ _ _ _ (fun l j => ?_) (fun l j => ?_) (fun l j => ?_) (fun m n => ?_) (fun j => ?_) (fun n j => ?_) l j
  · exact intra_3_2 h hH l j
  · exact cov2 (e := .f32) _ _ (fun r c => T.acs r (c / 64)) 256 1536 (ax h) 192 768 _ (by decide) (by decide) l j
  · exact cov2 (e := .f32) _ _ (fun r c => T.act r (0 + c)) 256 1536 (xs h hH) 192 768 _ (by decide) (by decide) l j
  · exact cov2 (e := .bf16) _ _ (fun r c => T.act r (2048 + c)) 256 512 (cs h hH) 192 256 _ (by decide) (by decide) m n
  · exact rd2 arg14 harg14 x13 (fun _ => T.dsk) 1 1536 h.dsk 0 768 _ (by decide) (by decide) 0 j
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_2_2 h hH hS n j)))))

theorem intra_3_3 {T : Tile} (h : Reads T x7 x8 x9 x10 x11 x12 x13 x14 x15 x16 xs1) (hH : ∀ q c, T.H q c = 0)
    (l : Fin 64) (j : Fin 384) : (kernelRun0_B.sl.v1809 (F := Ideal) c arg8 harg8 arg9 harg9 arg12 harg12 arg13 harg13 arg16 harg16 arg20 harg20 arg22 arg24 arg25 arg26 arg27 arg30 arg31 x7 x8 x11 x12 x15 xs1) (ix2 l j) = T.intra 3 l.val (384 * 3 + j.val) := by
  refine intra_tile T 3 3 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 3 3 _ _ (fun m n => cov2 (e := .bf16) _ _ (fun r c => T.act r (1536 + c)) 256 512 (bs h hH) 192 384 _ (by decide) (by decide) m n) (fun m n => cov2 (e := .bf16) _ _ (fun r c => T.act r (2048 + c)) 256 512 (cs h hH) 192 384 _ (by decide) (by decide) m n) l j
  · exact cov2 (e := .f32) _ _ (fun r c => T.acs r (c / 64)) 256 1536 (ax h) 192 1152 _ (by decide) (by decide) l j
  · exact cov2 (e := .f32) _ _ (fun r c => T.act r (0 + c)) 256 1536 (xs h hH) 192 1152 _ (by decide) (by decide) l j
  · exact qrowB T _ _ (qts h) 18 128 _ (by decide) j _ (by omega)
  · exact qrowA T _ _ (qt h) 19 128 _ (by decide) j _ (by have := j.isLt; omega)
  · exact qrowB T _ _ (qts h) 20 128 _ (by decide) j _ (by omega)
  · exact qrowA T _ _ (qt h) 21 128 _ (by decide) j _ (by have := j.isLt; omega)
  · exact qrowB T _ _ (qts h) 22 128 _ (by decide) j _ (by omega)
  · exact qrowA T _ _ (qt h) 23 128 _ (by decide) j _ (by have := j.isLt; omega)

theorem st_3_3 {T : Tile} (h : Reads T x7 x8 x9 x10 x11 x12 x13 x14 x15 x16 xs1) (hH : ∀ q c, T.H q c = 0) (hS : ∀ n c, T.S n c = 0)
    (n : Fin 128) (j : Fin 384) : (kernelRun0_B.sl.v2093 (F := Ideal) c arg8 harg8 arg9 harg9 arg12 harg12 arg13 harg13 arg16 harg16 arg19 arg20 harg20 arg22 arg24 arg25 arg27 arg28 x7 x8 x11 x12 x15 xs1) (ix3 0 n j) = T.st (3 + 1) n.val (384 * 3 + j.val) := by
  refine state_tile T 3 3 (by decide) _ _ _ _ _ (fun l j => ?_) (fun l j => ?_) (fun l j => ?_) (fun m n => ?_) (fun n j => ?_) n j
  · exact cov2 (e := .f32) _ _ (fun r c => T.acs r (c / 64)) 256 1536 (ax h) 192 1152 _ (by decide) (by decide) l j
  · exact cov2 (e := .f32) _ _ (fun r c => T.act r (0 + c)) 256 1536 (xs h hH) 192 1152 _ (by decide) (by decide) l j
  · exact cov2 (e := .f32) _ _ (fun r c => T.q r (c / 64)) 256 1536 (qx h) 192 1152 _ (by decide) (by decide) l j
  · exact cov2 (e := .bf16) _ _ (fun r c => T.act r (1536 + c)) 256 512 (bs h hH) 192 384 _ (by decide) (by decide) m n
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_2_3 h hH hS n j)))))

theorem y_3_3 {T : Tile} (h : Reads T x7 x8 x9 x10 x11 x12 x13 x14 x15 x16 xs1) (hH : ∀ q c, T.H q c = 0) (hS : ∀ n c, T.S n c = 0)
    (l : Fin 64) (j : Fin 384) : (kernelRun0_B.sl.v2078 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 l j) = T.y (192 + l.val) (1152 + j.val) := by
  refine y_tile T 3 3 (by decide) _ _ _ _ _ _ (fun l j => ?_) (fun l j => ?_) (fun l j => ?_) (fun m n => ?_) (fun j => ?_) (fun n j => ?_) l j
  · exact intra_3_3 h hH l j
  · exact cov2 (e := .f32) _ _ (fun r c => T.acs r (c / 64)) 256 1536 (ax h) 192 1152 _ (by decide) (by decide) l j
  · exact cov2 (e := .f32) _ _ (fun r c => T.act r (0 + c)) 256 1536 (xs h hH) 192 1152 _ (by decide) (by decide) l j
  · exact cov2 (e := .bf16) _ _ (fun r c => T.act r (2048 + c)) 256 512 (cs h hH) 192 384 _ (by decide) (by decide) m n
  · exact rd2 arg14 harg14 x13 (fun _ => T.dsk) 1 1536 h.dsk 0 1152 _ (by decide) (by decide) 0 j
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_2_3 h hH hS n j)))))

theorem ys {T : Tile} (h : Reads T x7 x8 x9 x10 x11 x12 x13 x14 x15 x16 xs1) (hH : ∀ q c, T.H q c = 0) (hS : ∀ n c, T.S n c = 0)
    (i : Fin 256) (j : Fin 1536) (_ : i.val < 256) (_ : j.val < 1536) : View.canon (kernelRun0_B.sl.HS10_16 (F := Ideal) c arg8 harg8 arg9 harg9 arg12 harg12 arg13 harg13 arg14 harg14 arg16 harg16 arg19 arg20 harg20 arg22 arg24 arg25 arg26 arg27 arg28 arg30 arg31 x7 x8 x11 x12 x13 x15 xs1) (ix2 i j) = T.y i.val j.val := by
  refine canon2 (e := .f32) T.y _ ?_ i j (View.cover_of_tiledL (kernelRun0_B.sl.HS10_16 (F := Ideal) c arg8 harg8 arg9 harg9 arg12 harg12 arg13 harg13 arg14 harg14 arg16 harg16 arg19 arg20 harg20 arg22 arg24 arg25 arg26 arg27 arg28 arg30 arg31 x7 x8 x11 x12 x13 x15 xs1) S64x384.size (by sl_kernel_rfl) _)
  refine pc2 (e := .f32) _ 192 1152 _ _ _ (fun l j => y_3_3 h hH hS l j) ?_
  refine pc2 (e := .f32) _ 192 768 _ _ _ (fun l j => y_3_2 h hH hS l j) ?_
  refine pc2 (e := .f32) _ 192 384 _ _ _ (fun l j => y_3_1 h hH hS l j) ?_
  refine pc2 (e := .f32) _ 192 0 _ _ _ (fun l j => y_3_0 h hH hS l j) ?_
  refine pc2 (e := .f32) _ 128 1152 _ _ _ (fun l j => y_2_3 h hH hS l j) ?_
  refine pc2 (e := .f32) _ 128 768 _ _ _ (fun l j => y_2_2 h hH hS l j) ?_
  refine pc2 (e := .f32) _ 128 384 _ _ _ (fun l j => y_2_1 h hH hS l j) ?_
  refine pc2 (e := .f32) _ 128 0 _ _ _ (fun l j => y_2_0 h hH hS l j) ?_
  refine pc2 (e := .f32) _ 64 1152 _ _ _ (fun l j => y_1_3 h hH hS l j) ?_
  refine pc2 (e := .f32) _ 64 768 _ _ _ (fun l j => y_1_2 h hH hS l j) ?_
  refine pc2 (e := .f32) _ 64 384 _ _ _ (fun l j => y_1_1 h hH hS l j) ?_
  refine pc2 (e := .f32) _ 64 0 _ _ _ (fun l j => y_1_0 h hH hS l j) ?_
  refine pc2 (e := .f32) _ 0 1152 _ _ _ (fun l j => y_0_3 h hH hS l j) ?_
  refine pc2 (e := .f32) _ 0 768 _ _ _ (fun l j => y_0_2 h hH hS l j) ?_
  refine pc2 (e := .f32) _ 0 384 _ _ _ (fun l j => y_0_1 h hH hS l j) ?_
  refine pc2 (e := .f32) _ 0 0 _ _ _ (fun l j => y_0_0 h hH hS l j) ?_
  trivial

theorem outs {T : Tile} (h : Reads T x7 x8 x9 x10 x11 x12 x13 x14 x15 x16 xs1) (hH : ∀ q c, T.H q c = 0) (hG : ∀ q c, T.G q c = 0) (hS : ∀ n c, T.S n c = 0)
    (ht : ∀ (r : Fin 256) (c : Fin 128), (kernelRun0_B.sl.v406 i) (ix2 r c) = BitVec.ofNat 32 (T.a * 256 + r.val))
    (r : Fin 256) (j : Fin 1024) :
    k0_pay7 (kernelRun0_B.sl.v2184 (F := Ideal) c i arg8 harg8 arg9 harg9 arg10 harg10 arg11 harg11 arg12 harg12 arg13 harg13 arg14 harg14 arg15 harg15 arg16 harg16 arg17 harg17 arg19 arg20 harg20 arg22 arg23 arg24 arg25 arg26 arg27 arg28 arg29 arg30 arg31 x7 x8 x9 x10 x11 x12 x13 x14 x15 x16 xs1) (kernelRun0_B.sl.v2185 (F := Ideal) c arg8 harg8 arg9 harg9 arg12 harg12 arg13 harg13 arg14 harg14 arg16 harg16 arg19 arg20 harg20 arg22 arg24 arg25 arg26 arg27 arg28 arg29 arg30 arg31 x7 x8 x11 x12 x13 x15 xs1) (kernelRun0_B.sl.r_55 (F := Ideal) c arg20 harg20 xs1) (View.readAt (Elt Ideal) arg15.view (Rect.unit (s := S1x1536) ![0, 1152] S1x384.size inb_S1x1536_S1x384_0_1152).toLoadRect (harg15.unread x14)) (View.readAt (Elt Ideal) arg17.view (Rect.unit (s := S2048x1024) ![1664, 0] S384x1024.size inb_S2048x1024_S384x1024_1664_0).toLoadRect (harg17.unread x16)) (View.readAt (Elt Ideal) arg2.view (Rect.unit (s := S256x1024) ![0, 0] S256x1024.size inb_S256x1024_S256x1024_0_0).toLoadRect (harg2.unread x1)) (View.readAt (Elt Ideal) arg5.view (Rect.unit (s := S1x1x1024) ![0, 0, 0] S1x1x1024.size inb_S1x1x1024_S1x1x1024_0_0_0).toLoadRect (harg5.unread x4)) (ix2 r j) = x1 (ix2 r j) + x4 (ix3 0 0 j) * T.mix r.val j.val := by
  refine (out_tile T (kernelRun0_B.sl.v2103 (F := Ideal) c i arg10 harg10 arg11 harg11 arg17 harg17 arg20 harg20 arg23 x9 x10 x16 xs1) _ _ _ _ _ _ _ _ _ _ _ _ _ _ _ _ _ _ (fun r j => ?_) (fun r j => ?_) (fun r j => ?_) (fun r j => ?_) (fun r j => ?_) r j).trans ?_
  · exact cat_tile T _ _ _ _ _ _ _ (pw0 h hG ht) (pw1 h hG ht) (pw2 h hG ht) (pw3 h hG ht) (fun k j => rd2 arg17 harg17 x16 T.wo 2048 1024 h.wo 0 0 _ (by decide) (by decide) k j) r j
  · exact part_tile' T 0 _ _ _ _ (fun r k => cov2 (e := .f32) _ _ T.y 256 1536 (ys h hH hS) 0 0 _ (by decide) (by decide) r k) (fun r k => rd2 (e := .f32) _ _ _ T.U 256 4632 h.U 0 512 _ (by decide) (by decide) r k) (fun k => rd2 arg15 harg15 x14 (fun _ => T.ng) 1 1536 h.ng 0 0 _ (by decide) (by decide) 0 k) (fun k j => rd2 arg17 harg17 x16 T.wo 2048 1024 h.wo 512 0 _ (by decide) (by decide) k j) r j
  · exact part_tile' T 1 _ _ _ _ (fun r k => cov2 (e := .f32) _ _ T.y 256 1536 (ys h hH hS) 0 384 _ (by decide) (by decide) r k) (fun r k => rd2 (e := .f32) _ _ _ T.U 256 4632 h.U 0 896 _ (by decide) (by decide) r k) (fun k => rd2 arg15 harg15 x14 (fun _ => T.ng) 1 1536 h.ng 0 384 _ (by decide) (by decide) 0 k) (fun k j => rd2 arg17 harg17 x16 T.wo 2048 1024 h.wo 896 0 _ (by decide) (by decide) k j) r j
  · exact part_tile' T 2 _ _ _ _ (fun r k => cov2 (e := .f32) _ _ T.y 256 1536 (ys h hH hS) 0 768 _ (by decide) (by decide) r k) (fun r k => rd2 (e := .f32) _ _ _ T.U 256 4632 h.U 0 1280 _ (by decide) (by decide) r k) (fun k => rd2 arg15 harg15 x14 (fun _ => T.ng) 1 1536 h.ng 0 768 _ (by decide) (by decide) 0 k) (fun k j => rd2 arg17 harg17 x16 T.wo 2048 1024 h.wo 1280 0 _ (by decide) (by decide) k j) r j
  · exact part_tile' T 3 _ _ _ _ (fun r k => cov2 (e := .f32) _ _ T.y 256 1536 (ys h hH hS) 0 1152 _ (by decide) (by decide) r k) (fun r k => rd2 (e := .f32) _ _ _ T.U 256 4632 h.U 0 1664 _ (by decide) (by decide) r k) (fun k => rd2 arg15 harg15 x14 (fun _ => T.ng) 1 1536 h.ng 0 1152 _ (by decide) (by decide) 0 k) (fun k j => rd2 arg17 harg17 x16 T.wo 2048 1024 h.wo 1664 0 _ (by decide) (by decide) k j) r j
  · refine congrArg₂ (· + ·) ?_ (congrArg₂ (· * ·) ?_ rfl)
    · exact (rdAt2 arg2 harg2 x1 0 0 _ r j (by omega) (by omega)).trans (congrArg x1 (by funext x; apply Fin.ext; match x with | ⟨0, _⟩ => exact Nat.zero_add _ | ⟨1, _⟩ => exact Nat.zero_add _))
    · exact rd3 arg5 harg5 x4 (fun _ _ k => x4 (ix3 0 0 ⟨k % 1024, Nat.mod_lt _ (by decide)⟩)) (fun i j k => congrArg x4 (by funext x; apply Fin.ext; match x with | ⟨0, _⟩ => show i.val = 0; omega | ⟨1, _⟩ => show j.val = 0; omega | ⟨2, _⟩ => exact (Nat.mod_eq_of_lt k.isLt).symm)) 0 0 0 _ 0 0 j |>.trans (congrArg x4 (by funext x; apply Fin.ext; match x with | ⟨0, _⟩ => rfl | ⟨1, _⟩ => rfl | ⟨2, _⟩ => show (0 + j.val) % 1024 = j.val; omega))

end Cert.MixerIdeal.Value.CaseB
-- ==== Proof.MixB3.lean ====
/-
  What a point leaves in each buffer (untrusted).
-/
module

public import proofs.«01_k».proof.Proof.MixB2

@[expose] public section

set_option maxRecDepth 16384

noncomputable section

namespace Cert.MixerIdeal.Value.CaseB

open Cert.MixerIdeal Cert.MixerIdeal.Gen Idealize.ShloMosaic Idealize.ShloMosaic.TcCoe Idealize.SL.Sem
open Cert.Layer

variable {c : Dev nD} {i : grid0.Coords}
  {arg1 : Memref sig .tc .vmem S256x1024 .f32} {harg1 : arg1.IsWhole}
  {arg2 : Memref sig .tc .vmem S256x1024 .f32} {harg2 : arg2.IsWhole}
  {arg3 : Memref sig .tc .vmem S1x1x1024 .f32} {harg3 : arg3.IsWhole}
  {arg4 : Memref sig .tc .vmem S1x1x1024 .f32} {harg4 : arg4.IsWhole}
  {arg5 : Memref sig .tc .vmem S1x1x1024 .f32} {harg5 : arg5.IsWhole}
  {arg6 : Memref sig .tc .vmem S1x1024 .f32} {harg6 : arg6.IsWhole}
  {arg7 : Memref sig .tc .vmem S1024x4632 .bf16} {harg7 : arg7.IsWhole}
  {arg8 : Memref sig .tc .vmem S4x2560 .f32} {harg8 : arg8.IsWhole}
  {arg9 : Memref sig .tc .vmem S1x2560 .f32} {harg9 : arg9.IsWhole}
  {arg10 : Memref sig .tc .vmem S4x128x128 .bf16} {harg10 : arg10.IsWhole}
  {arg11 : Memref sig .tc .vmem S1x512 .f32} {harg11 : arg11.IsWhole}
  {arg12 : Memref sig .tc .vmem S1x128 .f32} {harg12 : arg12.IsWhole}
  {arg13 : Memref sig .tc .vmem S1x128 .f32} {harg13 : arg13.IsWhole}
  {arg14 : Memref sig .tc .vmem S1x1536 .f32} {harg14 : arg14.IsWhole}
  {arg15 : Memref sig .tc .vmem S1x1536 .f32} {harg15 : arg15.IsWhole}
  {arg16 : Memref sig .tc .vmem S128x1536 .bf16} {harg16 : arg16.IsWhole}
  {arg17 : Memref sig .tc .vmem S2048x1024 .bf16} {harg17 : arg17.IsWhole}
  {arg18 : Memref sig .tc .vmem S256x1024 .f32} {harg18 : arg18.IsWhole}
  {arg19 : Memref sig .tc .vmem S4x128x384 .f32} {harg19 : arg19.IsWhole}
  {arg20 : Memref sig .tc .vmem S256x4736 .f32} {harg20 : arg20.IsWhole}
  {arg21 : Memref sig .tc .vmem S256x4736 .f32} {harg21 : arg21.IsWhole}
  {arg22 : Memref sig .tc .vmem S8x2560 .f32} {harg22 : arg22.IsWhole}
  {arg23 : Memref sig .tc .vmem S16x512 .f32} {harg23 : arg23.IsWhole}
  {arg24 : Memref sig .tc .vmem S256x1536 .f32} {harg24 : arg24.IsWhole}
  {arg25 : Memref sig .tc .vmem S256x512 .bf16} {harg25 : arg25.IsWhole}
  {arg26 : Memref sig .tc .vmem S256x512 .bf16} {harg26 : arg26.IsWhole}
  {arg27 : Memref sig .tc .vmem S256x1536 .f32} {harg27 : arg27.IsWhole}
  {arg28 : Memref sig .tc .vmem S256x1536 .f32} {harg28 : arg28.IsWhole}
  {arg29 : Memref sig .tc .vmem S256x1536 .f32} {harg29 : arg29.IsWhole}
  {arg30 : Memref sig .tc .vmem S128x256 .f32} {harg30 : arg30.IsWhole}
  {arg31 : Memref sig .tc .vmem S128x256 .f32} {harg31 : arg31.IsWhole}
variable {x0 : Vec Ideal S256x1024 .f32} {x1 : Vec Ideal S256x1024 .f32} {x2 : Vec Ideal S1x1x1024 .f32} {x3 : Vec Ideal S1x1x1024 .f32} {x4 : Vec Ideal S1x1x1024 .f32} {x5 : Vec Ideal S1x1024 .f32} {x6 : Vec Ideal S1024x4632 .bf16} {x7 : Vec Ideal S4x2560 .f32} {x8 : Vec Ideal S1x2560 .f32} {x9 : Vec Ideal S4x128x128 .bf16} {x10 : Vec Ideal S1x512 .f32} {x11 : Vec Ideal S1x128 .f32} {x12 : Vec Ideal S1x128 .f32} {x13 : Vec Ideal S1x1536 .f32} {x14 : Vec Ideal S1x1536 .f32} {x15 : Vec Ideal S128x1536 .bf16} {x16 : Vec Ideal S2048x1024 .bf16} {xs0 : Vec Ideal S4x128x384 .f32} {xs1 : Vec Ideal S256x4736 .f32} {xs2 : Vec Ideal S256x4736 .f32} {xs3 : Vec Ideal S8x2560 .f32} {xs4 : Vec Ideal S16x512 .f32}

/-- The tile's rows of the result. -/
theorem out_ends (hc0 : ¬cond0_0 i) (hc1 : cond0_1 i) (hc2 : ¬cond0_2 i) (hc3 : cond0_3 i) {T : Tile} (h : Reads T x7 x8 x9 x10 x11 x12 x13 x14 x15 x16 xs1) (hH : ∀ q c, T.H q c = 0) (hG : ∀ q c, T.G q c = 0) (hS : ∀ n c, T.S n c = 0)
    (ht : ∀ (r : Fin 256) (c : Fin 128), (kernelRun0_B.sl.v406 i) (ix2 r c) = BitVec.ofNat 32 (T.a * 256 + r.val))
    (r : Fin 256) (j : Fin 1024) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs1 (ix2 r j) = x1 (ix2 r j) + x4 (ix3 0 0 j) * T.mix r.val j.val := by
  unfold out0_B_17
  refine (congrFun (View.read_writes_junk_eq_canon _ _) _).trans ?_
  unfold kernelRun0_B
  dsimp only
  refine (congrFun (whole2 _ _ _) _).trans ?_
  exact outs h hH hG hS ht r j

/-- The state the tile leaves. -/
theorem st_ends (hc0 : ¬cond0_0 i) (hc1 : cond0_1 i) (hc2 : ¬cond0_2 i) (hc3 : cond0_3 i) {T : Tile} (h : Reads T x7 x8 x9 x10 x11 x12 x13 x14 x15 x16 xs1) (hH : ∀ q c, T.H q c = 0)
    (hS : ∀ n c, T.S n c = 0) (g : Fin 4) (n : Fin 128) (j : Fin 384) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs1 (ix3 g n j) = T.st 4 n.val (384 * g.val + j.val) := by
  unfold sout0_B_0
  refine (congrFun (View.read_writes_junk_eq_canon _ _) _).trans ?_
  unfold kernelRun0_B
  dsimp only
  match g with
  | ⟨0, _⟩ => exact (missS 3 0 _ _ _ (by decide) n j (by decide)).trans ((missS 2 0 _ _ _ (by decide) n j (by decide)).trans ((missS 1 0 _ _ _ (by decide) n j (by decide)).trans ((hitS 0 _ _ _ (by decide) n j).trans (st_3_0 h hH hS n j))))
  | ⟨1, _⟩ => exact (missS 3 1 _ _ _ (by decide) n j (by decide)).trans ((missS 2 1 _ _ _ (by decide) n j (by decide)).trans ((hitS 1 _ _ _ (by decide) n j).trans (st_3_1 h hH hS n j)))
  | ⟨2, _⟩ => exact (missS 3 2 _ _ _ (by decide) n j (by decide)).trans ((hitS 2 _ _ _ (by decide) n j).trans (st_3_2 h hH hS n j))
  | ⟨3, _⟩ => exact (hitS 3 _ _ _ (by decide) n j).trans (st_3_3 h hH hS n j)

/-- The convolution's rows the tile leaves. -/
theorem conv_ends (hc0 : ¬cond0_0 i) (hc1 : cond0_1 i) (hc2 : ¬cond0_2 i) (hc3 : cond0_3 i) {T : Tile} (h : Reads T x7 x8 x9 x10 x11 x12 x13 x14 x15 x16 xs1) (hH : ∀ q c, T.H q c = 0)
    (i' : Fin 8) (j : Fin 2560) :
    sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs1 (ix2 i' j) = T.e (256 + i'.val) j.val := by
  unfold sout0_B_3
  refine (congrFun (View.read_writes_junk_eq_canon _ _) _).trans ?_
  unfold kernelRun0_B
  dsimp only
  refine step2 (e := .f32) (fun q u => T.e (256 + q) u) 2048 _ _ _ i' j (by omega) (by omega) (fun i j => tail4 h hH i j) fun hlt => ?_
  refine step2 (e := .f32) (fun q u => T.e (256 + q) u) 1536 _ _ _ i' j (by omega) (by omega) (fun i j => tail3 h hH i j) fun hlt => ?_
  refine step2 (e := .f32) (fun q u => T.e (256 + q) u) 1024 _ _ _ i' j (by omega) (by omega) (fun i j => tail2 h hH i j) fun hlt => ?_
  refine step2 (e := .f32) (fun q u => T.e (256 + q) u) 512 _ _ _ i' j (by omega) (by omega) (fun i j => tail1 h hH i j) fun hlt => ?_
  refine step2 (e := .f32) (fun q u => T.e (256 + q) u) 0 _ _ _ i' j (by omega) (by omega) (fun i j => tail0 h hH i j) fun hlt => ?_
  exact absurd hlt (Nat.not_lt_zero _)

/-- The pooling's rows the tile leaves. -/
theorem pool_ends (hc0 : ¬cond0_0 i) (hc1 : cond0_1 i) (hc2 : ¬cond0_2 i) (hc3 : cond0_3 i) {T : Tile} (h : Reads T x7 x8 x9 x10 x11 x12 x13 x14 x15 x16 xs1) (hG : ∀ q c, T.G q c = 0)
    (i' : Fin 16) (j : Fin 512) :
    sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs1 (ix2 i' j) = T.ep (256 + i'.val) j.val := by
  unfold sout0_B_4
  refine (congrFun (View.read_writes_junk_eq_canon _ _) _).trans ?_
  unfold kernelRun0_B
  dsimp only
  refine step2 (e := .f32) (fun q u => T.ep (256 + q) u) 384 _ _ _ i' j (by omega) (by omega) (fun i j => ph3 h hG i j) fun hlt => ?_
  refine step2 (e := .f32) (fun q u => T.ep (256 + q) u) 256 _ _ _ i' j (by omega) (by omega) (fun i j => ph2 h hG i j) fun hlt => ?_
  refine step2 (e := .f32) (fun q u => T.ep (256 + q) u) 128 _ _ _ i' j (by omega) (by omega) (fun i j => ph1 h hG i j) fun hlt => ?_
  refine step2 (e := .f32) (fun q u => T.ep (256 + q) u) 0 _ _ _ i' j (by omega) (by omega) (fun i j => ph0 h hG i j) fun hlt => ?_
  exact absurd hlt (Nat.not_lt_zero _)

/-- The projected rows of the next tile. -/
theorem proj_ends (hc0 : ¬cond0_0 i) (hc1 : cond0_1 i) (hc2 : ¬cond0_2 i) (hc3 : cond0_3 i) (X : ℕ → ℕ → EReal) (g sc sh : ℕ → EReal) (w : ℕ → ℕ → EReal)
    (hX : ∀ (r : Fin 256) (k : Fin 1024), r.val < 256 → k.val < 1024 → x0 (ix2 r k) = X r.val k.val) (hg : ∀ (i : Fin 1) (k : Fin 1024), i.val < 1 → k.val < 1024 → x5 (ix2 i k) = g k.val)
    (hsh : ∀ (i j : Fin 1) (k : Fin 1024), x2 (ix3 i j k) = sh k.val) (hsc : ∀ (i j : Fin 1) (k : Fin 1024), x3 (ix3 i j k) = sc k.val)
    (hw : ∀ (k : Fin 1024) (u : Fin 4632), k.val < 1024 → u.val < 4632 → x6 (ix2 k u) = w k.val u.val)
    (r : Fin 256) (u : Fin 4736) (hu : u.val < 4632) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs1 xs2 (ix2 r u) = projF X g sc sh w r.val u.val := by
  unfold sout0_B_2
  unfold kernelRun0_B
  dsimp only
  refine (View.read_writes_apply_eq_canon _ _ _ _ ?_).trans ?_
  · refine in2 (e := .f32) 4608 _ _ _ r u (by omega) (by omega) fun hlt => ?_
    refine in2 (e := .f32) 4352 _ _ _ r u (by omega) (by omega) fun hlt => ?_
    refine in2 (e := .f32) 4096 _ _ _ r u (by omega) (by omega) fun hlt => ?_
    refine in2 (e := .f32) 3840 _ _ _ r u (by omega) (by omega) fun hlt => ?_
    refine in2 (e := .f32) 3584 _ _ _ r u (by omega) (by omega) fun hlt => ?_
    refine in2 (e := .f32) 3328 _ _ _ r u (by omega) (by omega) fun hlt => ?_
    refine in2 (e := .f32) 3072 _ _ _ r u (by omega) (by omega) fun hlt => ?_
    refine in2 (e := .f32) 2816 _ _ _ r u (by omega) (by omega) fun hlt => ?_
    refine in2 (e := .f32) 2560 _ _ _ r u (by omega) (by omega) fun hlt => ?_
    refine in2 (e := .f32) 2304 _ _ _ r u (by omega) (by omega) fun hlt => ?_
    refine in2 (e := .f32) 2048 _ _ _ r u (by omega) (by omega) fun hlt => ?_
    refine in2 (e := .f32) 1792 _ _ _ r u (by omega) (by omega) fun hlt => ?_
    refine in2 (e := .f32) 1536 _ _ _ r u (by omega) (by omega) fun hlt => ?_
    refine in2 (e := .f32) 1280 _ _ _ r u (by omega) (by omega) fun hlt => ?_
    refine in2 (e := .f32) 1024 _ _ _ r u (by omega) (by omega) fun hlt => ?_
    refine in2 (e := .f32) 768 _ _ _ r u (by omega) (by omega) fun hlt => ?_
    refine in2 (e := .f32) 512 _ _ _ r u (by omega) (by omega) fun hlt => ?_
    refine in2 (e := .f32) 256 _ _ _ r u (by omega) (by omega) fun hlt => ?_
    refine in2 (e := .f32) 0 _ _ _ r u (by omega) (by omega) fun hlt => ?_
    exact absurd hlt (Nat.not_lt_zero _)
  refine step2 (e := .f32) (projF X g sc sh w) 4608 _ _ _ r u (by omega) (by omega) (fun i j => proj_last X g sc sh w _ _ _ _ _ 4608
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4608 _ (by decide) (by decide) k j) i j) fun hlt => ?_
  refine step2 (e := .f32) (projF X g sc sh w) 4352 _ _ _ r u (by omega) (by omega) (fun i j => proj_tile X g sc sh w _ _ _ _ _ 4352
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4352 _ (by decide) (by decide) k j) i j) fun hlt => ?_
  refine step2 (e := .f32) (projF X g sc sh w) 4096 _ _ _ r u (by omega) (by omega) (fun i j => proj_tile X g sc sh w _ _ _ _ _ 4096
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4096 _ (by decide) (by decide) k j) i j) fun hlt => ?_
  refine step2 (e := .f32) (projF X g sc sh w) 3840 _ _ _ r u (by omega) (by omega) (fun i j => proj_tile X g sc sh w _ _ _ _ _ 3840
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3840 _ (by decide) (by decide) k j) i j) fun hlt => ?_
  refine step2 (e := .f32) (projF X g sc sh w) 3584 _ _ _ r u (by omega) (by omega) (fun i j => proj_tile X g sc sh w _ _ _ _ _ 3584
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3584 _ (by decide) (by decide) k j) i j) fun hlt => ?_
  refine step2 (e := .f32) (projF X g sc sh w) 3328 _ _ _ r u (by omega) (by omega) (fun i j => proj_tile X g sc sh w _ _ _ _ _ 3328
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3328 _ (by decide) (by decide) k j) i j) fun hlt => ?_
  refine step2 (e := .f32) (projF X g sc sh w) 3072 _ _ _ r u (by omega) (by omega) (fun i j => proj_tile X g sc sh w _ _ _ _ _ 3072
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3072 _ (by decide) (by decide) k j) i j) fun hlt => ?_
  refine step2 (e := .f32) (projF X g sc sh w) 2816 _ _ _ r u (by omega) (by omega) (fun i j => proj_tile X g sc sh w _ _ _ _ _ 2816
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2816 _ (by decide) (by decide) k j) i j) fun hlt => ?_
  refine step2 (e := .f32) (projF X g sc sh w) 2560 _ _ _ r u (by omega) (by omega) (fun i j => proj_tile X g sc sh w _ _ _ _ _ 2560
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2560 _ (by decide) (by decide) k j) i j) fun hlt => ?_
  refine step2 (e := .f32) (projF X g sc sh w) 2304 _ _ _ r u (by omega) (by omega) (fun i j => proj_tile X g sc sh w _ _ _ _ _ 2304
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2304 _ (by decide) (by decide) k j) i j) fun hlt => ?_
  refine step2 (e := .f32) (projF X g sc sh w) 2048 _ _ _ r u (by omega) (by omega) (fun i j => proj_tile X g sc sh w _ _ _ _ _ 2048
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2048 _ (by decide) (by decide) k j) i j) fun hlt => ?_
  refine step2 (e := .f32) (projF X g sc sh w) 1792 _ _ _ r u (by omega) (by omega) (fun i j => proj_tile X g sc sh w _ _ _ _ _ 1792
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1792 _ (by decide) (by decide) k j) i j) fun hlt => ?_
  refine step2 (e := .f32) (projF X g sc sh w) 1536 _ _ _ r u (by omega) (by omega) (fun i j => proj_tile X g sc sh w _ _ _ _ _ 1536
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1536 _ (by decide) (by decide) k j) i j) fun hlt => ?_
  refine step2 (e := .f32) (projF X g sc sh w) 1280 _ _ _ r u (by omega) (by omega) (fun i j => proj_tile X g sc sh w _ _ _ _ _ 1280
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1280 _ (by decide) (by decide) k j) i j) fun hlt => ?_
  refine step2 (e := .f32) (projF X g sc sh w) 1024 _ _ _ r u (by omega) (by omega) (fun i j => proj_tile X g sc sh w _ _ _ _ _ 1024
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1024 _ (by decide) (by decide) k j) i j) fun hlt => ?_
  refine step2 (e := .f32) (projF X g sc sh w) 768 _ _ _ r u (by omega) (by omega) (fun i j => proj_tile X g sc sh w _ _ _ _ _ 768
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 768 _ (by decide) (by decide) k j) i j) fun hlt => ?_
  refine step2 (e := .f32) (projF X g sc sh w) 512 _ _ _ r u (by omega) (by omega) (fun i j => proj_tile X g sc sh w _ _ _ _ _ 512
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 512 _ (by decide) (by decide) k j) i j) fun hlt => ?_
  refine step2 (e := .f32) (projF X g sc sh w) 256 _ _ _ r u (by omega) (by omega) (fun i j => proj_tile X g sc sh w _ _ _ _ _ 256
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 256 _ (by decide) (by decide) k j) i j) fun hlt => ?_
  refine step2 (e := .f32) (projF X g sc sh w) 0 _ _ _ r u (by omega) (by omega) (fun i j => proj_tile X g sc sh w _ _ _ _ _ 0
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 0 _ (by decide) (by decide) k j) i j) fun hlt => ?_
  exact absurd hlt (Nat.not_lt_zero _)

end Cert.MixerIdeal.Value.CaseB
-- ==== Proof.MixC1.lean ====
/-
  The convolved, pooled and summed rows of a tile (untrusted).
-/
module

public import proofs.«01_k».proof.Proof.Gen.MixerIdeal.Frame
public import proofs.«01_k».proof.Proof.MixStep

@[expose] public section

set_option maxRecDepth 16384

noncomputable section

namespace Cert.MixerIdeal.Value.CaseC

open Cert.MixerIdeal Cert.MixerIdeal.Gen Idealize.ShloMosaic Idealize.ShloMosaic.TcCoe Idealize.SL.Sem
open Cert.Layer

variable {c : Dev nD} {i : grid0.Coords}
  {arg1 : Memref sig .tc .vmem S256x1024 .f32} {harg1 : arg1.IsWhole}
  {arg2 : Memref sig .tc .vmem S256x1024 .f32} {harg2 : arg2.IsWhole}
  {arg3 : Memref sig .tc .vmem S1x1x1024 .f32} {harg3 : arg3.IsWhole}
  {arg4 : Memref sig .tc .vmem S1x1x1024 .f32} {harg4 : arg4.IsWhole}
  {arg5 : Memref sig .tc .vmem S1x1x1024 .f32} {harg5 : arg5.IsWhole}
  {arg6 : Memref sig .tc .vmem S1x1024 .f32} {harg6 : arg6.IsWhole}
  {arg7 : Memref sig .tc .vmem S1024x4632 .bf16} {harg7 : arg7.IsWhole}
  {arg8 : Memref sig .tc .vmem S4x2560 .f32} {harg8 : arg8.IsWhole}
  {arg9 : Memref sig .tc .vmem S1x2560 .f32} {harg9 : arg9.IsWhole}
  {arg10 : Memref sig .tc .vmem S4x128x128 .bf16} {harg10 : arg10.IsWhole}
  {arg11 : Memref sig .tc .vmem S1x512 .f32} {harg11 : arg11.IsWhole}
  {arg12 : Memref sig .tc .vmem S1x128 .f32} {harg12 : arg12.IsWhole}
  {arg13 : Memref sig .tc .vmem S1x128 .f32} {harg13 : arg13.IsWhole}
  {arg14 : Memref sig .tc .vmem S1x1536 .f32} {harg14 : arg14.IsWhole}
  {arg15 : Memref sig .tc .vmem S1x1536 .f32} {harg15 : arg15.IsWhole}
  {arg16 : Memref sig .tc .vmem S128x1536 .bf16} {harg16 : arg16.IsWhole}
  {arg17 : Memref sig .tc .vmem S2048x1024 .bf16} {harg17 : arg17.IsWhole}
  {arg18 : Memref sig .tc .vmem S256x1024 .f32} {harg18 : arg18.IsWhole}
  {arg19 : Memref sig .tc .vmem S4x128x384 .f32} {harg19 : arg19.IsWhole}
  {arg20 : Memref sig .tc .vmem S256x4736 .f32} {harg20 : arg20.IsWhole}
  {arg21 : Memref sig .tc .vmem S256x4736 .f32} {harg21 : arg21.IsWhole}
  {arg22 : Memref sig .tc .vmem S8x2560 .f32} {harg22 : arg22.IsWhole}
  {arg23 : Memref sig .tc .vmem S16x512 .f32} {harg23 : arg23.IsWhole}
  {arg24 : Memref sig .tc .vmem S256x1536 .f32} {harg24 : arg24.IsWhole}
  {arg25 : Memref sig .tc .vmem S256x512 .bf16} {harg25 : arg25.IsWhole}
  {arg26 : Memref sig .tc .vmem S256x512 .bf16} {harg26 : arg26.IsWhole}
  {arg27 : Memref sig .tc .vmem S256x1536 .f32} {harg27 : arg27.IsWhole}
  {arg28 : Memref sig .tc .vmem S256x1536 .f32} {harg28 : arg28.IsWhole}
  {arg29 : Memref sig .tc .vmem S256x1536 .f32} {harg29 : arg29.IsWhole}
  {arg30 : Memref sig .tc .vmem S128x256 .f32} {harg30 : arg30.IsWhole}
  {arg31 : Memref sig .tc .vmem S128x256 .f32} {harg31 : arg31.IsWhole}
variable {x0 : Vec Ideal S256x1024 .f32} {x1 : Vec Ideal S256x1024 .f32} {x2 : Vec Ideal S1x1x1024 .f32} {x3 : Vec Ideal S1x1x1024 .f32} {x4 : Vec Ideal S1x1x1024 .f32} {x5 : Vec Ideal S1x1024 .f32} {x6 : Vec Ideal S1024x4632 .bf16} {x7 : Vec Ideal S4x2560 .f32} {x8 : Vec Ideal S1x2560 .f32} {x9 : Vec Ideal S4x128x128 .bf16} {x10 : Vec Ideal S1x512 .f32} {x11 : Vec Ideal S1x128 .f32} {x12 : Vec Ideal S1x128 .f32} {x13 : Vec Ideal S1x1536 .f32} {x14 : Vec Ideal S1x1536 .f32} {x15 : Vec Ideal S128x1536 .bf16} {x16 : Vec Ideal S2048x1024 .bf16} {xs0 : Vec Ideal S4x128x384 .f32} {xs1 : Vec Ideal S256x4736 .f32} {xs2 : Vec Ideal S256x4736 .f32} {xs3 : Vec Ideal S8x2560 .f32} {xs4 : Vec Ideal S16x512 .f32}

theorem act0 {T : Tile} (h : Reads T x7 x8 x9 x10 x11 x12 x13 x14 x15 x16 xs2) (hH : ∀ (i : Fin 8) (j : Fin 2560), i.val < 8 → j.val < 2560 → xs3 (ix2 i j) = T.H i.val j.val)
    (r : Fin 256) (k : Fin 512) : (kernelRun0_C.sl.v82 (F := Ideal) c arg8 harg8 arg9 harg9 arg21 harg21 arg22 harg22 x7 x8 xs2 xs3) (ix2 r k) = T.act r.val (0 + k.val) := by
  have w0 := rd2 (a' := 1) (b' := 512) arg8 harg8 x7 T.cw 4 2560 h.cw 0 0 (by decide) (by decide) (by decide) 0
  have w1 := rd2 (a' := 1) (b' := 512) arg8 harg8 x7 T.cw 4 2560 h.cw 1 0 (by decide) (by decide) (by decide) 0
  have w2 := rd2 (a' := 1) (b' := 512) arg8 harg8 x7 T.cw 4 2560 h.cw 2 0 (by decide) (by decide) (by decide) 0
  have w3 := rd2 (a' := 1) (b' := 512) arg8 harg8 x7 T.cw 4 2560 h.cw 3 0 (by decide) (by decide) (by decide) 0
  have wb := rd2 (a' := 1) (b' := 512) arg9 harg9 x8 (fun _ => T.cb) 1 2560 h.cb 0 0 (by decide) (by decide) (by decide) 0
  refine (conv_at _ _ _ _ _ _ _ (fun q k => T.e q (0 + k)) (fun q k => (rd2 arg22 harg22 xs3 T.H 8 2560 hH 0 0 _ (by decide) (by decide) q k).trans (Tile.e_hist T q _))
    (fun r k => (rd2 _ _ _ T.U 256 4632 h.U 0 2048 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail0 {T : Tile} (h : Reads T x7 x8 x9 x10 x11 x12 x13 x14 x15 x16 xs2) (hH : ∀ (i : Fin 8) (j : Fin 2560), i.val < 8 → j.val < 2560 → xs3 (ix2 i j) = T.H i.val j.val)
    (q : Fin 8) (k : Fin 512) : (kernelRun0_C.sl.v86 (F := Ideal) c arg21 harg21 arg22 harg22 xs2 xs3) (ix2 q k) = T.e (256 + (0 + q.val)) (0 + k.val) :=
  (tail_at _ _ (fun q k => T.e q (0 + k)) (fun q k => (rd2 arg22 harg22 xs3 T.H 8 2560 hH 0 0 _ (by decide) (by decide) q k).trans (Tile.e_hist T q _))
    (fun r k => (rd2 _ _ _ T.U 256 4632 h.U 0 2048 _ (by decide) (by decide) r k).trans (Tile.e_tile T _ _ _ _ (by omega) (by omega))) q k).trans (by simp only [Nat.zero_add])

theorem act1 {T : Tile} (h : Reads T x7 x8 x9 x10 x11 x12 x13 x14 x15 x16 xs2) (hH : ∀ (i : Fin 8) (j : Fin 2560), i.val < 8 → j.val < 2560 → xs3 (ix2 i j) = T.H i.val j.val)
    (r : Fin 256) (k : Fin 512) : (kernelRun0_C.sl.v152 (F := Ideal) c arg8 harg8 arg9 harg9 arg21 harg21 arg22 harg22 x7 x8 xs2 xs3) (ix2 r k) = T.act r.val (512 + k.val) := by
  have w0 := rd2 (a' := 1) (b' := 512) arg8 harg8 x7 T.cw 4 2560 h.cw 0 512 (by decide) (by decide) (by decide) 0
  have w1 := rd2 (a' := 1) (b' := 512) arg8 harg8 x7 T.cw 4 2560 h.cw 1 512 (by decide) (by decide) (by decide) 0
  have w2 := rd2 (a' := 1) (b' := 512) arg8 harg8 x7 T.cw 4 2560 h.cw 2 512 (by decide) (by decide) (by decide) 0
  have w3 := rd2 (a' := 1) (b' := 512) arg8 harg8 x7 T.cw 4 2560 h.cw 3 512 (by decide) (by decide) (by decide) 0
  have wb := rd2 (a' := 1) (b' := 512) arg9 harg9 x8 (fun _ => T.cb) 1 2560 h.cb 0 512 (by decide) (by decide) (by decide) 0
  refine (conv_at _ _ _ _ _ _ _ (fun q k => T.e q (512 + k)) (fun q k => (rd2 arg22 harg22 xs3 T.H 8 2560 hH 0 512 _ (by decide) (by decide) q k).trans (Tile.e_hist T q _))
    (fun r k => (rd2 _ _ _ T.U 256 4632 h.U 0 2560 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail1 {T : Tile} (h : Reads T x7 x8 x9 x10 x11 x12 x13 x14 x15 x16 xs2) (hH : ∀ (i : Fin 8) (j : Fin 2560), i.val < 8 → j.val < 2560 → xs3 (ix2 i j) = T.H i.val j.val)
    (q : Fin 8) (k : Fin 512) : (kernelRun0_C.sl.v156 (F := Ideal) c arg21 harg21 arg22 harg22 xs2 xs3) (ix2 q k) = T.e (256 + (0 + q.val)) (512 + k.val) :=
  (tail_at _ _ (fun q k => T.e q (512 + k)) (fun q k => (rd2 arg22 harg22 xs3 T.H 8 2560 hH 0 512 _ (by decide) (by decide) q k).trans (Tile.e_hist T q _))
    (fun r k => (rd2 _ _ _ T.U 256 4632 h.U 0 2560 _ (by decide) (by decide) r k).trans (Tile.e_tile T _ _ _ _ (by omega) (by omega))) q k).trans (by simp only [Nat.zero_add])

theorem act2 {T : Tile} (h : Reads T x7 x8 x9 x10 x11 x12 x13 x14 x15 x16 xs2) (hH : ∀ (i : Fin 8) (j : Fin 2560), i.val < 8 → j.val < 2560 → xs3 (ix2 i j) = T.H i.val j.val)
    (r : Fin 256) (k : Fin 512) : (kernelRun0_C.sl.v222 (F := Ideal) c arg8 harg8 arg9 harg9 arg21 harg21 arg22 harg22 x7 x8 xs2 xs3) (ix2 r k) = T.act r.val (1024 + k.val) := by
  have w0 := rd2 (a' := 1) (b' := 512) arg8 harg8 x7 T.cw 4 2560 h.cw 0 1024 (by decide) (by decide) (by decide) 0
  have w1 := rd2 (a' := 1) (b' := 512) arg8 harg8 x7 T.cw 4 2560 h.cw 1 1024 (by decide) (by decide) (by decide) 0
  have w2 := rd2 (a' := 1) (b' := 512) arg8 harg8 x7 T.cw 4 2560 h.cw 2 1024 (by decide) (by decide) (by decide) 0
  have w3 := rd2 (a' := 1) (b' := 512) arg8 harg8 x7 T.cw 4 2560 h.cw 3 1024 (by decide) (by decide) (by decide) 0
  have wb := rd2 (a' := 1) (b' := 512) arg9 harg9 x8 (fun _ => T.cb) 1 2560 h.cb 0 1024 (by decide) (by decide) (by decide) 0
  refine (conv_at _ _ _ _ _ _ _ (fun q k => T.e q (1024 + k)) (fun q k => (rd2 arg22 harg22 xs3 T.H 8 2560 hH 0 1024 _ (by decide) (by decide) q k).trans (Tile.e_hist T q _))
    (fun r k => (rd2 _ _ _ T.U 256 4632 h.U 0 3072 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail2 {T : Tile} (h : Reads T x7 x8 x9 x10 x11 x12 x13 x14 x15 x16 xs2) (hH : ∀ (i : Fin 8) (j : Fin 2560), i.val < 8 → j.val < 2560 → xs3 (ix2 i j) = T.H i.val j.val)
    (q : Fin 8) (k : Fin 512) : (kernelRun0_C.sl.v226 (F := Ideal) c arg21 harg21 arg22 harg22 xs2 xs3) (ix2 q k) = T.e (256 + (0 + q.val)) (1024 + k.val) :=
  (tail_at _ _ (fun q k => T.e q (1024 + k)) (fun q k => (rd2 arg22 harg22 xs3 T.H 8 2560 hH 0 1024 _ (by decide) (by decide) q k).trans (Tile.e_hist T q _))
    (fun r k => (rd2 _ _ _ T.U 256 4632 h.U 0 3072 _ (by decide) (by decide) r k).trans (Tile.e_tile T _ _ _ _ (by omega) (by omega))) q k).trans (by simp only [Nat.zero_add])

theorem act3 {T : Tile} (h : Reads T x7 x8 x9 x10 x11 x12 x13 x14 x15 x16 xs2) (hH : ∀ (i : Fin 8) (j : Fin 2560), i.val < 8 → j.val < 2560 → xs3 (ix2 i j) = T.H i.val j.val)
    (r : Fin 256) (k : Fin 512) : (kernelRun0_C.sl.v292 (F := Ideal) c arg8 harg8 arg9 harg9 arg21 harg21 arg22 harg22 x7 x8 xs2 xs3) (ix2 r k) = T.act r.val (1536 + k.val) := by
  have w0 := rd2 (a' := 1) (b' := 512) arg8 harg8 x7 T.cw 4 2560 h.cw 0 1536 (by decide) (by decide) (by decide) 0
  have w1 := rd2 (a' := 1) (b' := 512) arg8 harg8 x7 T.cw 4 2560 h.cw 1 1536 (by decide) (by decide) (by decide) 0
  have w2 := rd2 (a' := 1) (b' := 512) arg8 harg8 x7 T.cw 4 2560 h.cw 2 1536 (by decide) (by decide) (by decide) 0
  have w3 := rd2 (a' := 1) (b' := 512) arg8 harg8 x7 T.cw 4 2560 h.cw 3 1536 (by decide) (by decide) (by decide) 0
  have wb := rd2 (a' := 1) (b' := 512) arg9 harg9 x8 (fun _ => T.cb) 1 2560 h.cb 0 1536 (by decide) (by decide) (by decide) 0
  refine (conv_at _ _ _ _ _ _ _ (fun q k => T.e q (1536 + k)) (fun q k => (rd2 arg22 harg22 xs3 T.H 8 2560 hH 0 1536 _ (by decide) (by decide) q k).trans (Tile.e_hist T q _))
    (fun r k => (rd2 _ _ _ T.U 256 4632 h.U 0 3584 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail3 {T : Tile} (h : Reads T x7 x8 x9 x10 x11 x12 x13 x14 x15 x16 xs2) (hH : ∀ (i : Fin 8) (j : Fin 2560), i.val < 8 → j.val < 2560 → xs3 (ix2 i j) = T.H i.val j.val)
    (q : Fin 8) (k : Fin 512) : (kernelRun0_C.sl.v296 (F := Ideal) c arg21 harg21 arg22 harg22 xs2 xs3) (ix2 q k) = T.e (256 + (0 + q.val)) (1536 + k.val) :=
  (tail_at _ _ (fun q k => T.e q (1536 + k)) (fun q k => (rd2 arg22 harg22 xs3 T.H 8 2560 hH 0 1536 _ (by decide) (by decide) q k).trans (Tile.e_hist T q _))
    (fun r k => (rd2 _ _ _ T.U 256 4632 h.U 0 3584 _ (by decide) (by decide) r k).trans (Tile.e_tile T _ _ _ _ (by omega) (by omega))) q k).trans (by simp only [Nat.zero_add])

theorem act4 {T : Tile} (h : Reads T x7 x8 x9 x10 x11 x12 x13 x14 x15 x16 xs2) (hH : ∀ (i : Fin 8) (j : Fin 2560), i.val < 8 → j.val < 2560 → xs3 (ix2 i j) = T.H i.val j.val)
    (r : Fin 256) (k : Fin 512) : (kernelRun0_C.sl.v366 (F := Ideal) c arg8 harg8 arg9 harg9 arg21 harg21 arg22 harg22 x7 x8 xs2 xs3) (ix2 r k) = T.act r.val (2048 + k.val) := by
  have w0 := rd2 (a' := 1) (b' := 512) arg8 harg8 x7 T.cw 4 2560 h.cw 0 2048 (by decide) (by decide) (by decide) 0
  have w1 := rd2 (a' := 1) (b' := 512) arg8 harg8 x7 T.cw 4 2560 h.cw 1 2048 (by decide) (by decide) (by decide) 0
  have w2 := rd2 (a' := 1) (b' := 512) arg8 harg8 x7 T.cw 4 2560 h.cw 2 2048 (by decide) (by decide) (by decide) 0
  have w3 := rd2 (a' := 1) (b' := 512) arg8 harg8 x7 T.cw 4 2560 h.cw 3 2048 (by decide) (by decide) (by decide) 0
  have wb := rd2 (a' := 1) (b' := 512) arg9 harg9 x8 (fun _ => T.cb) 1 2560 h.cb 0 2048 (by decide) (by decide) (by decide) 0
  refine (conv_at _ _ _ _ _ _ _ (fun q k => T.e q (2048 + k)) (fun q k => (rd2 arg22 harg22 xs3 T.H 8 2560 hH 0 2048 _ (by decide) (by decide) q k).trans (Tile.e_hist T q _))
    (fun r k => (rd2 _ _ _ T.U 256 4632 h.U 0 4096 _ (by decide) (by decide) r k).trans (Tile.e_tile T _ _ _ _ (by omega) (by omega)))
    (fun k => ?_) (fun k => ?_) (fun k => ?_) (fun k => ?_) (fun k => ?_) (fun q k _ hk => h.re _ _ (by omega)) r k).trans
    (T.act_of (w0 k) (w1 k) (w2 k) (w3 k) (wb k))
  · exact Eq.mpr (congrArg Fin' (w0 k)) (h.rcw _ _ (by omega))
  · exact Eq.mpr (congrArg Fin' (w1 k)) (h.rcw _ _ (by omega))
  · exact Eq.mpr (congrArg Fin' (w2 k)) (h.rcw _ _ (by omega))
  · exact Eq.mpr (congrArg Fin' (w3 k)) (h.rcw _ _ (by omega))
  · exact Eq.mpr (congrArg Fin' (wb k)) (h.rcb _ (by omega))

theorem tail4 {T : Tile} (h : Reads T x7 x8 x9 x10 x11 x12 x13 x14 x15 x16 xs2) (hH : ∀ (i : Fin 8) (j : Fin 2560), i.val < 8 → j.val < 2560 → xs3 (ix2 i j) = T.H i.val j.val)
    (q : Fin 8) (k : Fin 512) : (kernelRun0_C.sl.v370 (F := Ideal) c arg21 harg21 arg22 harg22 xs2 xs3) (ix2 q k) = T.e (256 + (0 + q.val)) (2048 + k.val) :=
  (tail_at _ _ (fun q k => T.e q (2048 + k)) (fun q k => (rd2 arg22 harg22 xs3 T.H 8 2560 hH 0 2048 _ (by decide) (by decide) q k).trans (Tile.e_hist T q _))
    (fun r k => (rd2 _ _ _ T.U 256 4632 h.U 0 4096 _ (by decide) (by decide) r k).trans (Tile.e_tile T _ _ _ _ (by omega) (by omega))) q k).trans (by simp only [Nat.zero_add])

theorem xs {T : Tile} (h : Reads T x7 x8 x9 x10 x11 x12 x13 x14 x15 x16 xs2) (hH : ∀ (i : Fin 8) (j : Fin 2560), i.val < 8 → j.val < 2560 → xs3 (ix2 i j) = T.H i.val j.val)
    (i : Fin 256) (j : Fin 1536) (_ : i.val < 256) (_ : j.val < 1536) : View.canon (kernelRun0_C.sl.HS5_12 (F := Ideal) c arg8 harg8 arg9 harg9 arg21 harg21 arg22 harg22 x7 x8 xs2 xs3) (ix2 i j) = T.act i.val (0 + j.val) :=
  by
  refine step2 (e := .f32) (fun r k => T.act r (0 + k)) 1408 _ _ _ i j (by omega) (by omega) (fun i j => (cutf384 _ _ _ i j).trans ((act2 h hH i _).trans (T.act_congr (by show i.val = 0 + i.val; omega) (by show 1024 + (384 + j.val) = 0 + (1408 + j.val); omega)))) fun hlt => ?_
  refine step2 (e := .f32) (fun r k => T.act r (0 + k)) 1280 _ _ _ i j (by omega) (by omega) (fun i j => (cutf256 _ _ _ i j).trans ((act2 h hH i _).trans (T.act_congr (by show i.val = 0 + i.val; omega) (by show 1024 + (256 + j.val) = 0 + (1280 + j.val); omega)))) fun hlt => ?_
  refine step2 (e := .f32) (fun r k => T.act r (0 + k)) 1152 _ _ _ i j (by omega) (by omega) (fun i j => (cutf128 _ _ _ i j).trans ((act2 h hH i _).trans (T.act_congr (by show i.val = 0 + i.val; omega) (by show 1024 + (128 + j.val) = 0 + (1152 + j.val); omega)))) fun hlt => ?_
  refine step2 (e := .f32) (fun r k => T.act r (0 + k)) 1024 _ _ _ i j (by omega) (by omega) (fun i j => (cutf0 _ _ _ i j).trans ((act2 h hH i _).trans (T.act_congr (by show i.val = 0 + i.val; omega) (by show 1024 + (0 + j.val) = 0 + (1024 + j.val); omega)))) fun hlt => ?_
  refine step2 (e := .f32) (fun r k => T.act r (0 + k)) 896 _ _ _ i j (by omega) (by omega) (fun i j => (cutf384 _ _ _ i j).trans ((act1 h hH i _).trans (T.act_congr (by show i.val = 0 + i.val; omega) (by show 512 + (384 + j.val) = 0 + (896 + j.val); omega)))) fun hlt => ?_
  refine step2 (e := .f32) (fun r k => T.act r (0 + k)) 768 _ _ _ i j (by omega) (by omega) (fun i j => (cutf256 _ _ _ i j).trans ((act1 h hH i _).trans (T.act_congr (by show i.val = 0 + i.val; omega) (by show 512 + (256 + j.val) = 0 + (768 + j.val); omega)))) fun hlt => ?_
  refine step2 (e := .f32) (fun r k => T.act r (0 + k)) 640 _ _ _ i j (by omega) (by omega) (fun i j => (cutf128 _ _ _ i j).trans ((act1 h hH i _).trans (T.act_congr (by show i.val = 0 + i.val; omega) (by show 512 + (128 + j.val) = 0 + (640 + j.val); omega)))) fun hlt => ?_
  refine step2 (e := .f32) (fun r k => T.act r (0 + k)) 512 _ _ _ i j (by omega) (by omega) (fun i j => (cutf0 _ _ _ i j).trans ((act1 h hH i _).trans (T.act_congr (by show i.val = 0 + i.val; omega) (by show 512 + (0 + j.val) = 0 + (512 + j.val); omega)))) fun hlt => ?_
  refine step2 (e := .f32) (fun r k => T.act r (0 + k)) 384 _ _ _ i j (by omega) (by omega) (fun i j => (cutf384 _ _ _ i j).trans ((act0 h hH i _).trans (T.act_congr (by show i.val = 0 + i.val; omega) (by show 0 + (384 + j.val) = 0 + (384 + j.val); omega)))) fun hlt => ?_
  refine step2 (e := .f32) (fun r k => T.act r (0 + k)) 256 _ _ _ i j (by omega) (by omega) (fun i j => (cutf256 _ _ _ i j).trans ((act0 h hH i _).trans (T.act_congr (by show i.val = 0 + i.val; omega) (by show 0 + (256 + j.val) = 0 + (256 + j.val); omega)))) fun hlt => ?_
  refine step2 (e := .f32) (fun r k => T.act r (0 + k)) 128 _ _ _ i j (by omega) (by omega) (fun i j => (cutf128 _ _ _ i j).trans ((act0 h hH i _).trans (T.act_congr (by show i.val = 0 + i.val; omega) (by show 0 + (128 + j.val) = 0 + (128 + j.val); omega)))) fun hlt => ?_
  refine step2 (e := .f32) (fun r k => T.act r (0 + k)) 0 _ _ _ i j (by omega) (by omega) (fun i j => (cutf0 _ _ _ i j).trans ((act0 h hH i _).trans (T.act_congr (by show i.val = 0 + i.val; omega) (by show 0 + (0 + j.val) = 0 + (0 + j.val); omega)))) fun hlt => ?_
  exact absurd hlt (Nat.not_lt_zero _)

theorem bs {T : Tile} (h : Reads T x7 x8 x9 x10 x11 x12 x13 x14 x15 x16 xs2) (hH : ∀ (i : Fin 8) (j : Fin 2560), i.val < 8 → j.val < 2560 → xs3 (ix2 i j) = T.H i.val j.val)
    (i : Fin 256) (j : Fin 512) (_ : i.val < 256) (_ : j.val < 512) : View.canon (kernelRun0_C.sl.HS6_4 (F := Ideal) c arg8 harg8 arg9 harg9 arg21 harg21 arg22 harg22 x7 x8 xs2 xs3) (ix2 i j) = T.act i.val (1536 + j.val) :=
  by
  refine step2 (e := .bf16) (fun r k => T.act r (1536 + k)) 384 _ _ _ i j (by omega) (by omega) (fun i j => (cutb384 _ _ _ _ i j).trans ((act3 h hH i _).trans (T.act_congr (by show i.val = 0 + i.val; omega) (by show 1536 + (384 + j.val) = 1536 + (384 + j.val); omega)))) fun hlt => ?_
  refine step2 (e := .bf16) (fun r k => T.act r (1536 + k)) 256 _ _ _ i j (by omega) (by omega) (fun i j => (cutb256 _ _ _ _ i j).trans ((act3 h hH i _).trans (T.act_congr (by show i.val = 0 + i.val; omega) (by show 1536 + (256 + j.val) = 1536 + (256 + j.val); omega)))) fun hlt => ?_
  refine step2 (e := .bf16) (fun r k => T.act r (1536 + k)) 128 _ _ _ i j (by omega) (by omega) (fun i j => (cutb128 _ _ _ _ i j).trans ((act3 h hH i _).trans (T.act_congr (by show i.val = 0 + i.val; omega) (by show 1536 + (128 + j.val) = 1536 + (128 + j.val); omega)))) fun hlt => ?_
  refine step2 (e := .bf16) (fun r k => T.act r (1536 + k)) 0 _ _ _ i j (by omega) (by omega) (fun i j => (cutb0 _ _ _ _ i j).trans ((act3 h hH i _).trans (T.act_congr (by show i.val = 0 + i.val; omega) (by show 1536 + (0 + j.val) = 1536 + (0 + j.val); omega)))) fun hlt => ?_
  exact absurd hlt (Nat.not_lt_zero _)

theorem cs {T : Tile} (h : Reads T x7 x8 x9 x10 x11 x12 x13 x14 x15 x16 xs2) (hH : ∀ (i : Fin 8) (j : Fin 2560), i.val < 8 → j.val < 2560 → xs3 (ix2 i j) = T.H i.val j.val)
    (i : Fin 256) (j : Fin 512) (_ : i.val < 256) (_ : j.val < 512) : View.canon (kernelRun0_C.sl.HS7_4 (F := Ideal) c arg8 harg8 arg9 harg9 arg21 harg21 arg22 harg22 x7 x8 xs2 xs3) (ix2 i j) = T.act i.val (2048 + j.val) :=
  by
  refine step2 (e := .bf16) (fun r k => T.act r (2048 + k)) 384 _ _ _ i j (by omega) (by omega) (fun i j => (cutb384 _ _ _ _ i j).trans ((act4 h hH i _).trans (T.act_congr (by show i.val = 0 + i.val; omega) (by show 2048 + (384 + j.val) = 2048 + (384 + j.val); omega)))) fun hlt => ?_
  refine step2 (e := .bf16) (fun r k => T.act r (2048 + k)) 256 _ _ _ i j (by omega) (by omega) (fun i j => (cutb256 _ _ _ _ i j).trans ((act4 h hH i _).trans (T.act_congr (by show i.val = 0 + i.val; omega) (by show 2048 + (256 + j.val) = 2048 + (256 + j.val); omega)))) fun hlt => ?_
  refine step2 (e := .bf16) (fun r k => T.act r (2048 + k)) 128 _ _ _ i j (by omega) (by omega) (fun i j => (cutb128 _ _ _ _ i j).trans ((act4 h hH i _).trans (T.act_congr (by show i.val = 0 + i.val; omega) (by show 2048 + (128 + j.val) = 2048 + (128 + j.val); omega)))) fun hlt => ?_
  refine step2 (e := .bf16) (fun r k => T.act r (2048 + k)) 0 _ _ _ i j (by omega) (by omega) (fun i j => (cutb0 _ _ _ _ i j).trans ((act4 h hH i _).trans (T.act_congr (by show i.val = 0 + i.val; omega) (by show 2048 + (0 + j.val) = 2048 + (0 + j.val); omega)))) fun hlt => ?_
  exact absurd hlt (Nat.not_lt_zero _)

theorem ph0 {T : Tile} (h : Reads T x7 x8 x9 x10 x11 x12 x13 x14 x15 x16 xs2) (hG : ∀ (i : Fin 16) (j : Fin 512), i.val < 16 → j.val < 512 → xs4 (ix2 i j) = T.G i.val j.val)
    (q : Fin 16) (k : Fin 128) : (kernelRun0_C.sl.v413 (F := Ideal) c arg21 harg21 arg23 harg23 xs2 xs4) (ix2 q k) = T.ep (256 + (0 + q.val)) (0 + k.val) :=
  (tail16_at _ _ (fun q k => T.ep q (0 + k)) (fun q k => (rd2 arg23 harg23 xs4 T.G 16 512 hG 0 0 _ (by decide) (by decide) q k).trans (Tile.ep_hist T q _))
    (fun r k => (rd2 _ _ _ T.U 256 4632 h.U 0 0 _ (by decide) (by decide) r k).trans (Tile.ep_tile T _ _ _ (by omega))) q k).trans (by simp only [Nat.zero_add])

theorem pw0 {T : Tile} (h : Reads T x7 x8 x9 x10 x11 x12 x13 x14 x15 x16 xs2) (hG : ∀ (i : Fin 16) (j : Fin 512), i.val < 16 → j.val < 512 → xs4 (ix2 i j) = T.G i.val j.val)
    (ht : ∀ (r : Fin 256) (c : Fin 128), (kernelRun0_C.sl.v406 i) (ix2 r c) = BitVec.ofNat 32 (T.a * 256 + r.val))
    (r : Fin 256) (k : Fin 128) : (kernelRun0_C.sl.v433 (F := Ideal) c i arg10 harg10 arg11 harg11 arg21 harg21 arg23 harg23 x9 x10 xs2 xs4) (ix2 r k) = T.pool 2 r.val (128 * 0 + k.val) :=
  (pool2_at _ T.a h.ha ht _ _ _ _ (fun q k => T.ep q (128 * 0 + k)) (fun q k => (rd2 arg23 harg23 xs4 T.G 16 512 hG 0 0 _ (by decide) (by decide) q k).trans (Tile.ep_hist T q _))
    (fun r k => (rd2 _ _ _ T.U 256 4632 h.U 0 0 _ (by decide) (by decide) r k).trans (Tile.ep_tile T _ _ _ (by omega))) r k).trans
    (pooled_tile T 2 0 _ _ (fun k c => rd3 arg10 harg10 x9 T.wp h.wp 0 0 0 _ 0 k c)
      (fun c => rd2 arg11 harg11 x10 (fun _ => T.ps) 1 512 h.ps 0 0 _ (by decide) (by decide) 0 c) r k)

theorem ph1 {T : Tile} (h : Reads T x7 x8 x9 x10 x11 x12 x13 x14 x15 x16 xs2) (hG : ∀ (i : Fin 16) (j : Fin 512), i.val < 16 → j.val < 512 → xs4 (ix2 i j) = T.G i.val j.val)
    (q : Fin 16) (k : Fin 128) : (kernelRun0_C.sl.v440 (F := Ideal) c arg21 harg21 arg23 harg23 xs2 xs4) (ix2 q k) = T.ep (256 + (0 + q.val)) (128 + k.val) :=
  (tail16_at _ _ (fun q k => T.ep q (128 + k)) (fun q k => (rd2 arg23 harg23 xs4 T.G 16 512 hG 0 128 _ (by decide) (by decide) q k).trans (Tile.ep_hist T q _))
    (fun r k => (rd2 _ _ _ T.U 256 4632 h.U 0 128 _ (by decide) (by decide) r k).trans (Tile.ep_tile T _ _ _ (by omega))) q k).trans (by simp only [Nat.zero_add])

theorem pw1 {T : Tile} (h : Reads T x7 x8 x9 x10 x11 x12 x13 x14 x15 x16 xs2) (hG : ∀ (i : Fin 16) (j : Fin 512), i.val < 16 → j.val < 512 → xs4 (ix2 i j) = T.G i.val j.val)
    (ht : ∀ (r : Fin 256) (c : Fin 128), (kernelRun0_C.sl.v406 i) (ix2 r c) = BitVec.ofNat 32 (T.a * 256 + r.val))
    (r : Fin 256) (k : Fin 128) : (kernelRun0_C.sl.v462 (F := Ideal) c i arg10 harg10 arg11 harg11 arg21 harg21 arg23 harg23 x9 x10 xs2 xs4) (ix2 r k) = T.pool 4 r.val (128 * 1 + k.val) :=
  (pool4_at _ T.a h.ha ht _ _ _ _ (fun q k => T.ep q (128 * 1 + k)) (fun q k => (rd2 arg23 harg23 xs4 T.G 16 512 hG 0 128 _ (by decide) (by decide) q k).trans (Tile.ep_hist T q _))
    (fun r k => (rd2 _ _ _ T.U 256 4632 h.U 0 128 _ (by decide) (by decide) r k).trans (Tile.ep_tile T _ _ _ (by omega))) r k).trans
    (pooled_tile T 4 1 _ _ (fun k c => rd3 arg10 harg10 x9 T.wp h.wp 1 0 0 _ 0 k c)
      (fun c => rd2 arg11 harg11 x10 (fun _ => T.ps) 1 512 h.ps 0 128 _ (by decide) (by decide) 0 c) r k)

theorem ph2 {T : Tile} (h : Reads T x7 x8 x9 x10 x11 x12 x13 x14 x15 x16 xs2) (hG : ∀ (i : Fin 16) (j : Fin 512), i.val < 16 → j.val < 512 → xs4 (ix2 i j) = T.G i.val j.val)
    (q : Fin 16) (k : Fin 128) : (kernelRun0_C.sl.v469 (F := Ideal) c arg21 harg21 arg23 harg23 xs2 xs4) (ix2 q k) = T.ep (256 + (0 + q.val)) (256 + k.val) :=
  (tail16_at _ _ (fun q k => T.ep q (256 + k)) (fun q k => (rd2 arg23 harg23 xs4 T.G 16 512 hG 0 256 _ (by decide) (by decide) q k).trans (Tile.ep_hist T q _))
    (fun r k => (rd2 _ _ _ T.U 256 4632 h.U 0 256 _ (by decide) (by decide) r k).trans (Tile.ep_tile T _ _ _ (by omega))) q k).trans (by simp only [Nat.zero_add])

theorem pw2 {T : Tile} (h : Reads T x7 x8 x9 x10 x11 x12 x13 x14 x15 x16 xs2) (hG : ∀ (i : Fin 16) (j : Fin 512), i.val < 16 → j.val < 512 → xs4 (ix2 i j) = T.G i.val j.val)
    (ht : ∀ (r : Fin 256) (c : Fin 128), (kernelRun0_C.sl.v406 i) (ix2 r c) = BitVec.ofNat 32 (T.a * 256 + r.val))
    (r : Fin 256) (k : Fin 128) : (kernelRun0_C.sl.v493 (F := Ideal) c i arg10 harg10 arg11 harg11 arg21 harg21 arg23 harg23 x9 x10 xs2 xs4) (ix2 r k) = T.pool 8 r.val (128 * 2 + k.val) :=
  (pool8_at _ T.a h.ha ht _ _ _ _ (fun q k => T.ep q (128 * 2 + k)) (fun q k => (rd2 arg23 harg23 xs4 T.G 16 512 hG 0 256 _ (by decide) (by decide) q k).trans (Tile.ep_hist T q _))
    (fun r k => (rd2 _ _ _ T.U 256 4632 h.U 0 256 _ (by decide) (by decide) r k).trans (Tile.ep_tile T _ _ _ (by omega))) r k).trans
    (pooled_tile T 8 2 _ _ (fun k c => rd3 arg10 harg10 x9 T.wp h.wp 2 0 0 _ 0 k c)
      (fun c => rd2 arg11 harg11 x10 (fun _ => T.ps) 1 512 h.ps 0 256 _ (by decide) (by decide) 0 c) r k)

theorem ph3 {T : Tile} (h : Reads T x7 x8 x9 x10 x11 x12 x13 x14 x15 x16 xs2) (hG : ∀ (i : Fin 16) (j : Fin 512), i.val < 16 → j.val < 512 → xs4 (ix2 i j) = T.G i.val j.val)
    (q : Fin 16) (k : Fin 128) : (kernelRun0_C.sl.v500 (F := Ideal) c arg21 harg21 arg23 harg23 xs2 xs4) (ix2 q k) = T.ep (256 + (0 + q.val)) (384 + k.val) :=
  (tail16_at _ _ (fun q k => T.ep q (384 + k)) (fun q k => (rd2 arg23 harg23 xs4 T.G 16 512 hG 0 384 _ (by decide) (by decide) q k).trans (Tile.ep_hist T q _))
    (fun r k => (rd2 _ _ _ T.U 256 4632 h.U 0 384 _ (by decide) (by decide) r k).trans (Tile.ep_tile T _ _ _ (by omega))) q k).trans (by simp only [Nat.zero_add])

theorem pw3 {T : Tile} (h : Reads T x7 x8 x9 x10 x11 x12 x13 x14 x15 x16 xs2) (hG : ∀ (i : Fin 16) (j : Fin 512), i.val < 16 → j.val < 512 → xs4 (ix2 i j) = T.G i.val j.val)
    (ht : ∀ (r : Fin 256) (c : Fin 128), (kernelRun0_C.sl.v406 i) (ix2 r c) = BitVec.ofNat 32 (T.a * 256 + r.val))
    (r : Fin 256) (k : Fin 128) : (kernelRun0_C.sl.v526 (F := Ideal) c i arg10 harg10 arg11 harg11 arg21 harg21 arg23 harg23 x9 x10 xs2 xs4) (ix2 r k) = T.pool 16 r.val (128 * 3 + k.val) :=
  (pool16_at _ T.a h.ha ht _ _ _ _ (fun q k => T.ep q (128 * 3 + k)) (fun q k => (rd2 arg23 harg23 xs4 T.G 16 512 hG 0 384 _ (by decide) (by decide) q k).trans (Tile.ep_hist T q _))
    (fun r k => (rd2 _ _ _ T.U 256 4632 h.U 0 384 _ (by decide) (by decide) r k).trans (Tile.ep_tile T _ _ _ (by omega))) r k).trans
    (pooled_tile T 16 3 _ _ (fun k c => rd3 arg10 harg10 x9 T.wp h.wp 3 0 0 _ 0 k c)
      (fun c => rd2 arg11 harg11 x10 (fun _ => T.ps) 1 512 h.ps 0 384 _ (by decide) (by decide) 0 c) r k)

theorem dts {T : Tile} (h : Reads T x7 x8 x9 x10 x11 x12 x13 x14 x15 x16 xs2)
    (r : Fin 256) (u : Fin 128) (hu : u.val < 24) : (kernelRun0_C.sl.v569 (F := Ideal) c arg12 harg12 arg21 harg21 x11 xs2) (ix2 r u) = T.dt r.val u.val :=
  dt_tile T _ _ (fun r c hc => (rdAt2 _ _ _ 0 4608 _ r c (by omega) (by omega)).trans ((h.U _ _ (by show 0 + r.val < 256; omega) (by show 4608 + c.val < 4632; omega)).trans (by show T.U (0 + r.val) _ = _; rw [Nat.zero_add])))
    (fun c hc => (rdAt2 arg12 harg12 x11 0 0 _ 0 c (by decide) (by omega)).trans ((congrArg x11 (by funext x; apply Fin.ext; match x with | ⟨0, _⟩ => rfl | ⟨1, _⟩ => exact Nat.zero_add _)).trans (h.dtb c hc))) r u hu

theorem acss {T : Tile} (h : Reads T x7 x8 x9 x10 x11 x12 x13 x14 x15 x16 xs2)
    (r : Fin 256) (u : Fin 128) (hu : u.val < 24) : (kernelRun0_C.sl.v612 (F := Ideal) c arg12 harg12 arg13 harg13 arg21 harg21 x11 x12 xs2) (ix2 r u) = T.acs r.val u.val :=
  acs_tile T _ _ (dts h)
    (fun c hc => (rdAt2 arg13 harg13 x12 0 0 _ 0 c (by decide) (by omega)).trans ((congrArg x12 (by funext x; apply Fin.ext; match x with | ⟨0, _⟩ => rfl | ⟨1, _⟩ => exact Nat.zero_add _)).trans (h.al c hc))) r u hu

theorem ax {T : Tile} (h : Reads T x7 x8 x9 x10 x11 x12 x13 x14 x15 x16 xs2)
    (i : Fin 256) (j : Fin 1536) (_ : i.val < 256) (_ : j.val < 1536) : View.canon (kernelRun0_C.sl.HS8_1 (F := Ideal) c arg12 harg12 arg13 harg13 arg16 harg16 arg21 harg21 x11 x12 x15 xs2) (ix2 i j) = T.acs i.val (j.val / 64) :=
  (congrFun (whole2 _ _ _) _).trans (accx_tile T _ h.racs (acss h) _ (fun k c => rd2 arg16 harg16 x15 (fun i j => if i % 32 = j / 64 ∧ i < 96 then 1 else 0) 128 1536 h.e3 0 0 _ (by decide) (by decide) k c) i j)

theorem qx {T : Tile} (h : Reads T x7 x8 x9 x10 x11 x12 x13 x14 x15 x16 xs2)
    (i : Fin 256) (j : Fin 1536) (_ : i.val < 256) (_ : j.val < 1536) : View.canon (kernelRun0_C.sl.HS9_1 (F := Ideal) c arg12 harg12 arg13 harg13 arg16 harg16 arg21 harg21 x11 x12 x15 xs2) (ix2 i j) = T.q i.val (j.val / 64) :=
  (congrFun (whole2 _ _ _) _).trans (qx_tile T _ _ h.rq (dts h) (acss h) _ (fun k c => rd2 arg16 harg16 x15 (fun i j => if i % 32 = j / 64 ∧ i < 96 then 1 else 0) 128 1536 h.e3 0 0 _ (by decide) (by decide) k c) i j)

theorem qt {T : Tile} (h : Reads T x7 x8 x9 x10 x11 x12 x13 x14 x15 x16 xs2)
    (i : Fin 128) (j : Fin 256) (hi : i.val < 24) : View.canon (kernelRun0_C.sl.HS11_1 (F := Ideal) c arg12 harg12 arg13 harg13 arg21 harg21 x11 x12 xs2) (ix2 i j) = T.q j.val i.val :=
  (congrFun (whole2 _ _ _) _).trans ((qt_at _ _ i j).trans (q_tile T _ _ (dts h) (acss h) j i hi))

theorem qts {T : Tile} (h : Reads T x7 x8 x9 x10 x11 x12 x13 x14 x15 x16 xs2)
    (i : Fin 128) (j : Fin 256) (hi : i.val < 24) : View.canon (kernelRun0_C.sl.HS12_1 (F := Ideal) c arg12 harg12 arg13 harg13 arg21 harg21 x11 x12 xs2) (ix2 i j) = T.q (j.val / 128 * 128 + (j.val + 64) % 128) i.val :=
  (congrFun (whole2 _ _ _) _).trans ((qts_at _ _ i j).trans (q_tile T _ _ (dts h) (acss h) _ i hi))

end Cert.MixerIdeal.Value.CaseC
-- ==== Proof.MixC2.lean ====
/-
  The scan of a tile, and its output (untrusted).
-/
module

public import proofs.«01_k».proof.Proof.MixC1

@[expose] public section

set_option maxRecDepth 16384

noncomputable section

namespace Cert.MixerIdeal.Value.CaseC

open Cert.MixerIdeal Cert.MixerIdeal.Gen Idealize.ShloMosaic Idealize.ShloMosaic.TcCoe Idealize.SL.Sem
open Cert.Layer

variable {c : Dev nD} {i : grid0.Coords}
  {arg1 : Memref sig .tc .vmem S256x1024 .f32} {harg1 : arg1.IsWhole}
  {arg2 : Memref sig .tc .vmem S256x1024 .f32} {harg2 : arg2.IsWhole}
  {arg3 : Memref sig .tc .vmem S1x1x1024 .f32} {harg3 : arg3.IsWhole}
  {arg4 : Memref sig .tc .vmem S1x1x1024 .f32} {harg4 : arg4.IsWhole}
  {arg5 : Memref sig .tc .vmem S1x1x1024 .f32} {harg5 : arg5.IsWhole}
  {arg6 : Memref sig .tc .vmem S1x1024 .f32} {harg6 : arg6.IsWhole}
  {arg7 : Memref sig .tc .vmem S1024x4632 .bf16} {harg7 : arg7.IsWhole}
  {arg8 : Memref sig .tc .vmem S4x2560 .f32} {harg8 : arg8.IsWhole}
  {arg9 : Memref sig .tc .vmem S1x2560 .f32} {harg9 : arg9.IsWhole}
  {arg10 : Memref sig .tc .vmem S4x128x128 .bf16} {harg10 : arg10.IsWhole}
  {arg11 : Memref sig .tc .vmem S1x512 .f32} {harg11 : arg11.IsWhole}
  {arg12 : Memref sig .tc .vmem S1x128 .f32} {harg12 : arg12.IsWhole}
  {arg13 : Memref sig .tc .vmem S1x128 .f32} {harg13 : arg13.IsWhole}
  {arg14 : Memref sig .tc .vmem S1x1536 .f32} {harg14 : arg14.IsWhole}
  {arg15 : Memref sig .tc .vmem S1x1536 .f32} {harg15 : arg15.IsWhole}
  {arg16 : Memref sig .tc .vmem S128x1536 .bf16} {harg16 : arg16.IsWhole}
  {arg17 : Memref sig .tc .vmem S2048x1024 .bf16} {harg17 : arg17.IsWhole}
  {arg18 : Memref sig .tc .vmem S256x1024 .f32} {harg18 : arg18.IsWhole}
  {arg19 : Memref sig .tc .vmem S4x128x384 .f32} {harg19 : arg19.IsWhole}
  {arg20 : Memref sig .tc .vmem S256x4736 .f32} {harg20 : arg20.IsWhole}
  {arg21 : Memref sig .tc .vmem S256x4736 .f32} {harg21 : arg21.IsWhole}
  {arg22 : Memref sig .tc .vmem S8x2560 .f32} {harg22 : arg22.IsWhole}
  {arg23 : Memref sig .tc .vmem S16x512 .f32} {harg23 : arg23.IsWhole}
  {arg24 : Memref sig .tc .vmem S256x1536 .f32} {harg24 : arg24.IsWhole}
  {arg25 : Memref sig .tc .vmem S256x512 .bf16} {harg25 : arg25.IsWhole}
  {arg26 : Memref sig .tc .vmem S256x512 .bf16} {harg26 : arg26.IsWhole}
  {arg27 : Memref sig .tc .vmem S256x1536 .f32} {harg27 : arg27.IsWhole}
  {arg28 : Memref sig .tc .vmem S256x1536 .f32} {harg28 : arg28.IsWhole}
  {arg29 : Memref sig .tc .vmem S256x1536 .f32} {harg29 : arg29.IsWhole}
  {arg30 : Memref sig .tc .vmem S128x256 .f32} {harg30 : arg30.IsWhole}
  {arg31 : Memref sig .tc .vmem S128x256 .f32} {harg31 : arg31.IsWhole}
variable {x0 : Vec Ideal S256x1024 .f32} {x1 : Vec Ideal S256x1024 .f32} {x2 : Vec Ideal S1x1x1024 .f32} {x3 : Vec Ideal S1x1x1024 .f32} {x4 : Vec Ideal S1x1x1024 .f32} {x5 : Vec Ideal S1x1024 .f32} {x6 : Vec Ideal S1024x4632 .bf16} {x7 : Vec Ideal S4x2560 .f32} {x8 : Vec Ideal S1x2560 .f32} {x9 : Vec Ideal S4x128x128 .bf16} {x10 : Vec Ideal S1x512 .f32} {x11 : Vec Ideal S1x128 .f32} {x12 : Vec Ideal S1x128 .f32} {x13 : Vec Ideal S1x1536 .f32} {x14 : Vec Ideal S1x1536 .f32} {x15 : Vec Ideal S128x1536 .bf16} {x16 : Vec Ideal S2048x1024 .bf16} {xs0 : Vec Ideal S4x128x384 .f32} {xs1 : Vec Ideal S256x4736 .f32} {xs2 : Vec Ideal S256x4736 .f32} {xs3 : Vec Ideal S8x2560 .f32} {xs4 : Vec Ideal S16x512 .f32}

theorem intra_0_0 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_5 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 0 l.val (384 * 0 + j.val) := by
  refine intra_tile T 0 0 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 0 0 _ _ (fun m n => cov2 (e := .bf16) _ _ (fun r c => T.act r (1536 + c)) 256 512 (bs h hH) 0 0 _ (by decide) (by decide) m n) (fun m n => cov2 (e := .bf16) _ _ (fun r c => T.act r (2048 + c)) 256 512 (cs h hH) 0 0 _ (by decide) (by decide) m n) l j
  · exact cov2 (e := .f32) _ _ (fun r c => T.acs r (c / 64)) 256 1536 (ax h) 0 0 _ (by decide) (by decide) l j
  · exact cov2 (e := .f32) _ _ (fun r c => T.act r (0 + c)) 256 1536 (xs h hH) 0 0 _ (by decide) (by decide) l j
  · exact qrowA T _ _ (qt h) 0 0 _ (by decide) j _ (by omega)
  · exact qrowB T _ _ (qts h) 1 0 _ (by decide) j _ (by have := j.isLt; omega)
  · exact qrowA T _ _ (qt h) 2 0 _ (by decide) j _ (by omega)
  · exact qrowB T _ _ (qts h) 3 0 _ (by decide) j _ (by have := j.isLt; omega)
  · exact qrowA T _ _ (qt h) 4 0 _ (by decide) j _ (by omega)
  · exact qrowB T _ _ (qts h) 5 0 _ (by decide) j _ (by have := j.isLt; omega)

theorem st_0_0 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1155 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (0 + 1) n.val (384 * 0 + j.val) := by
  refine state_tile T 0 0 (by decide) _ _ _ _ _ (fun l j => ?_) (fun l j => ?_) (fun l j => ?_) (fun m n => ?_) (fun n j => ?_) n j
  · exact cov2 (e := .f32) _ _ (fun r c => T.acs r (c / 64)) 256 1536 (ax h) 0 0 _ (by decide) (by decide) l j
  · exact cov2 (e := .f32) _ _ (fun r c => T.act r (0 + c)) 256 1536 (xs h hH) 0 0 _ (by decide) (by decide) l j
  · exact cov2 (e := .f32) _ _ (fun r c => T.q r (c / 64)) 256 1536 (qx h) 0 0 _ (by decide) (by decide) l j
  · exact cov2 (e := .bf16) _ _ (fun r c => T.act r (1536 + c)) 256 512 (bs h hH) 0 0 _ (by decide) (by decide) m n
  · exact rdS (e := .f32) _ _ _ T.S hS 0 _ n j

theorem y_0_0 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1140 (F := Ideal) c arg8 harg8 arg9 harg9 arg12 harg12 arg13 harg13 arg14 harg14 arg16 harg16 arg19 harg19 arg21 harg21 arg22 harg22 arg24 arg25 arg26 arg27 arg30 arg31 x7 x8 x11 x12 x13 x15 xs0 xs2 xs3) (ix2 l j) = T.y (0 + l.val) (0 + j.val) := by
  refine y_tile T 0 0 (by decide) _ _ _ _ _ _ (fun l j => ?_) (fun l j => ?_) (fun l j => ?_) (fun m n => ?_) (fun j => ?_) (fun n j => ?_) l j
  · exact intra_0_0 h hH l j
  · exact cov2 (e := .f32) _ _ (fun r c => T.acs r (c / 64)) 256 1536 (ax h) 0 0 _ (by decide) (by decide) l j
  · exact cov2 (e := .f32) _ _ (fun r c => T.act r (0 + c)) 256 1536 (xs h hH) 0 0 _ (by decide) (by decide) l j
  · exact cov2 (e := .bf16) _ _ (fun r c => T.act r (2048 + c)) 256 512 (cs h hH) 0 0 _ (by decide) (by decide) m n
  · exact rd2 arg14 harg14 x13 (fun _ => T.dsk) 1 1536 h.dsk 0 0 _ (by decide) (by decide) 0 j
  · exact rdS (e := .f32) _ _ _ T.S hS 0 _ n j

theorem intra_0_1 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.v823 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 0 l.val (384 * 1 + j.val) := by
  refine intra_tile T 0 1 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 0 1 _ _ (fun m n => cov2 (e := .bf16) _ _ (fun r c => T.act r (1536 + c)) 256 512 (bs h hH) 0 128 _ (by decide) (by decide) m n) (fun m n => cov2 (e := .bf16) _ _ (fun r c => T.act r (2048 + c)) 256 512 (cs h hH) 0 128 _ (by decide) (by decide) m n) l j
  · exact cov2 (e := .f32) _ _ (fun r c => T.acs r (c / 64)) 256 1536 (ax h) 0 384 _ (by decide) (by decide) l j
  · exact cov2 (e := .f32) _ _ (fun r c => T.act r (0 + c)) 256 1536 (xs h hH) 0 384 _ (by decide) (by decide) l j
  · exact qrowA T _ _ (qt h) 6 0 _ (by decide) j _ (by omega)
  · exact qrowB T _ _ (qts h) 7 0 _ (by decide) j _ (by have := j.isLt; omega)
  · exact qrowA T _ _ (qt h) 8 0 _ (by decide) j _ (by omega)
  · exact qrowB T _ _ (qts h) 9 0 _ (by decide) j _ (by have := j.isLt; omega)
  · exact qrowA T _ _ (qt h) 10 0 _ (by decide) j _ (by omega)
  · exact qrowB T _ _ (qts h) 11 0 _ (by decide) j _ (by have := j.isLt; omega)

theorem st_0_1 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1189 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (0 + 1) n.val (384 * 1 + j.val) := by
  refine state_tile T 0 1 (by decide) _ _ _ _ _ (fun l j => ?_) (fun l j => ?_) (fun l j => ?_) (fun m n => ?_) (fun n j => ?_) n j
  · exact cov2 (e := .f32) _ _ (fun r c => T.acs r (c / 64)) 256 1536 (ax h) 0 384 _ (by decide) (by decide) l j
  · exact cov2 (e := .f32) _ _ (fun r c => T.act r (0 + c)) 256 1536 (xs h hH) 0 384 _ (by decide) (by decide) l j
  · exact cov2 (e := .f32) _ _ (fun r c => T.q r (c / 64)) 256 1536 (qx h) 0 384 _ (by decide) (by decide) l j
  · exact cov2 (e := .bf16) _ _ (fun r c => T.act r (1536 + c)) 256 512 (bs h hH) 0 128 _ (by decide) (by decide) m n
  · exact rdS (e := .f32) _ _ _ T.S hS 1 _ n j

theorem y_0_1 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1174 (F := Ideal) c arg8 harg8 arg9 harg9 arg12 harg12 arg13 harg13 arg14 harg14 arg16 harg16 arg19 harg19 arg21 harg21 arg22 harg22 arg24 arg25 arg26 arg27 arg30 arg31 x7 x8 x11 x12 x13 x15 xs0 xs2 xs3) (ix2 l j) = T.y (0 + l.val) (384 + j.val) := by
  refine y_tile T 0 1 (by decide) _ _ _ _ _ _ (fun l j => ?_) (fun l j => ?_) (fun l j => ?_) (fun m n => ?_) (fun j => ?_) (fun n j => ?_) l j
  · exact intra_0_1 h hH l j
  · exact cov2 (e := .f32) _ _ (fun r c => T.acs r (c / 64)) 256 1536 (ax h) 0 384 _ (by decide) (by decide) l j
  · exact cov2 (e := .f32) _ _ (fun r c => T.act r (0 + c)) 256 1536 (xs h hH) 0 384 _ (by decide) (by decide) l j
  · exact cov2 (e := .bf16) _ _ (fun r c => T.act r (2048 + c)) 256 512 (cs h hH) 0 128 _ (by decide) (by decide) m n
  · exact rd2 arg14 harg14 x13 (fun _ => T.dsk) 1 1536 h.dsk 0 384 _ (by decide) (by decide) 0 j
  · exact rdS (e := .f32) _ _ _ T.S hS 1 _ n j

theorem intra_0_2 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_7 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 0 l.val (384 * 2 + j.val) := by
  refine intra_tile T 0 2 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 0 2 _ _ (fun m n => cov2 (e := .bf16) _ _ (fun r c => T.act r (1536 + c)) 256 512 (bs h hH) 0 256 _ (by decide) (by decide) m n) (fun m n => cov2 (e := .bf16) _ _ (fun r c => T.act r (2048 + c)) 256 512 (cs h hH) 0 256 _ (by decide) (by decide) m n) l j
  · exact cov2 (e := .f32) _ _ (fun r c => T.acs r (c / 64)) 256 1536 (ax h) 0 768 _ (by decide) (by decide) l j
  · exact cov2 (e := .f32) _ _ (fun r c => T.act r (0 + c)) 256 1536 (xs h hH) 0 768 _ (by decide) (by decide) l j
  · exact qrowA T _ _ (qt h) 12 0 _ (by decide) j _ (by omega)
  · exact qrowB T _ _ (qts h) 13 0 _ (by decide) j _ (by have := j.isLt; omega)
  · exact qrowA T _ _ (qt h) 14 0 _ (by decide) j _ (by omega)
  · exact qrowB T _ _ (qts h) 15 0 _ (by decide) j _ (by have := j.isLt; omega)
  · exact qrowA T _ _ (qt h) 16 0 _ (by decide) j _ (by omega)
  · exact qrowB T _ _ (qts h) 17 0 _ (by decide) j _ (by have := j.isLt; omega)

theorem st_0_2 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1223 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (0 + 1) n.val (384 * 2 + j.val) := by
  refine state_tile T 0 2 (by decide) _ _ _ _ _ (fun l j => ?_) (fun l j => ?_) (fun l j => ?_) (fun m n => ?_) (fun n j => ?_) n j
  · exact cov2 (e := .f32) _ _ (fun r c => T.acs r (c / 64)) 256 1536 (ax h) 0 768 _ (by decide) (by decide) l j
  · exact cov2 (e := .f32) _ _ (fun r c => T.act r (0 + c)) 256 1536 (xs h hH) 0 768 _ (by decide) (by decide) l j
  · exact cov2 (e := .f32) _ _ (fun r c => T.q r (c / 64)) 256 1536 (qx h) 0 768 _ (by decide) (by decide) l j
  · exact cov2 (e := .bf16) _ _ (fun r c => T.act r (1536 + c)) 256 512 (bs h hH) 0 256 _ (by decide) (by decide) m n
  · exact rdS (e := .f32) _ _ _ T.S hS 2 _ n j

theorem y_0_2 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1208 (F := Ideal) c arg8 harg8 arg9 harg9 arg12 harg12 arg13 harg13 arg14 harg14 arg16 harg16 arg19 harg19 arg21 harg21 arg22 harg22 arg24 arg25 arg26 arg27 arg30 arg31 x7 x8 x11 x12 x13 x15 xs0 xs2 xs3) (ix2 l j) = T.y (0 + l.val) (768 + j.val) := by
  refine y_tile T 0 2 (by decide) _ _ _ _ _ _ (fun l j => ?_) (fun l j => ?_) (fun l j => ?_) (fun m n => ?_) (fun j => ?_) (fun n j => ?_) l j
  · exact intra_0_2 h hH l j
  · exact cov2 (e := .f32) _ _ (fun r c => T.acs r (c / 64)) 256 1536 (ax h) 0 768 _ (by decide) (by decide) l j
  · exact cov2 (e := .f32) _ _ (fun r c => T.act r (0 + c)) 256 1536 (xs h hH) 0 768 _ (by decide) (by decide) l j
  · exact cov2 (e := .bf16) _ _ (fun r c => T.act r (2048 + c)) 256 512 (cs h hH) 0 256 _ (by decide) (by decide) m n
  · exact rd2 arg14 harg14 x13 (fun _ => T.dsk) 1 1536 h.dsk 0 768 _ (by decide) (by decide) 0 j
  · exact rdS (e := .f32) _ _ _ T.S hS 2 _ n j

theorem intra_0_3 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.v917 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 0 l.val (384 * 3 + j.val) := by
  refine intra_tile T 0 3 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 0 3 _ _ (fun m n => cov2 (e := .bf16) _ _ (fun r c => T.act r (1536 + c)) 256 512 (bs h hH) 0 384 _ (by decide) (by decide) m n) (fun m n => cov2 (e := .bf16) _ _ (fun r c => T.act r (2048 + c)) 256 512 (cs h hH) 0 384 _ (by decide) (by decide) m n) l j
  · exact cov2 (e := .f32) _ _ (fun r c => T.acs r (c / 64)) 256 1536 (ax h) 0 1152 _ (by decide) (by decide) l j
  · exact cov2 (e := .f32) _ _ (fun r c => T.act r (0 + c)) 256 1536 (xs h hH) 0 1152 _ (by decide) (by decide) l j
  · exact qrowA T _ _ (qt h) 18 0 _ (by decide) j _ (by omega)
  · exact qrowB T _ _ (qts h) 19 0 _ (by decide) j _ (by have := j.isLt; omega)
  · exact qrowA T _ _ (qt h) 20 0 _ (by decide) j _ (by omega)
  · exact qrowB T _ _ (qts h) 21 0 _ (by decide) j _ (by have := j.isLt; omega)
  · exact qrowA T _ _ (qt h) 22 0 _ (by decide) j _ (by omega)
  · exact qrowB T _ _ (qts h) 23 0 _ (by decide) j _ (by have := j.isLt; omega)

theorem st_0_3 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1257 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (0 + 1) n.val (384 * 3 + j.val) := by
  refine state_tile T 0 3 (by decide) _ _ _ _ _ (fun l j => ?_) (fun l j => ?_) (fun l j => ?_) (fun m n => ?_) (fun n j => ?_) n j
  · exact cov2 (e := .f32) _ _ (fun r c => T.acs r (c / 64)) 256 1536 (ax h) 0 1152 _ (by decide) (by decide) l j
  · exact cov2 (e := .f32) _ _ (fun r c => T.act r (0 + c)) 256 1536 (xs h hH) 0 1152 _ (by decide) (by decide) l j
  · exact cov2 (e := .f32) _ _ (fun r c => T.q r (c / 64)) 256 1536 (qx h) 0 1152 _ (by decide) (by decide) l j
  · exact cov2 (e := .bf16) _ _ (fun r c => T.act r (1536 + c)) 256 512 (bs h hH) 0 384 _ (by decide) (by decide) m n
  · exact rdS (e := .f32) _ _ _ T.S hS 3 _ n j

theorem y_0_3 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1242 (F := Ideal) c arg8 harg8 arg9 harg9 arg12 harg12 arg13 harg13 arg14 harg14 arg16 harg16 arg19 harg19 arg21 harg21 arg22 harg22 arg24 arg25 arg26 arg27 arg30 arg31 x7 x8 x11 x12 x13 x15 xs0 xs2 xs3) (ix2 l j) = T.y (0 + l.val) (1152 + j.val) := by
  refine y_tile T 0 3 (by decide) _ _ _ _ _ _ (fun l j => ?_) (fun l j => ?_) (fun l j => ?_) (fun m n => ?_) (fun j => ?_) (fun n j => ?_) l j
  · exact intra_0_3 h hH l j
  · exact cov2 (e := .f32) _ _ (fun r c => T.acs r (c / 64)) 256 1536 (ax h) 0 1152 _ (by decide) (by decide) l j
  · exact cov2 (e := .f32) _ _ (fun r c => T.act r (0 + c)) 256 1536 (xs h hH) 0 1152 _ (by decide) (by decide) l j
  · exact cov2 (e := .bf16) _ _ (fun r c => T.act r (2048 + c)) 256 512 (cs h hH) 0 384 _ (by decide) (by decide) m n
  · exact rd2 arg14 harg14 x13 (fun _ => T.dsk) 1 1536 h.dsk 0 1152 _ (by decide) (by decide) 0 j
  · exact rdS (e := .f32) _ _ _ T.S hS 3 _ n j

theorem intra_1_0 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_13 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 1 l.val (384 * 0 + j.val) := by
  refine intra_tile T 1 0 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 1 0 _ _ (fun m n => cov2 (e := .bf16) _ _ (fun r c => T.act r (1536 + c)) 256 512 (bs h hH) 64 0 _ (by decide) (by decide) m n) (fun m n => cov2 (e := .bf16) _ _ (fun r c => T.act r (2048 + c)) 256 512 (cs h hH) 64 0 _ (by decide) (by decide) m n) l j
  · exact cov2 (e := .f32) _ _ (fun r c => T.acs r (c / 64)) 256 1536 (ax h) 64 0 _ (by decide) (by decide) l j
  · exact cov2 (e := .f32) _ _ (fun r c => T.act r (0 + c)) 256 1536 (xs h hH) 64 0 _ (by decide) (by decide) l j
  · exact qrowB T _ _ (qts h) 0 0 _ (by decide) j _ (by omega)
  · exact qrowA T _ _ (qt h) 1 0 _ (by decide) j _ (by have := j.isLt; omega)
  · exact qrowB T _ _ (qts h) 2 0 _ (by decide) j _ (by omega)
  · exact qrowA T _ _ (qt h) 3 0 _ (by decide) j _ (by have := j.isLt; omega)
  · exact qrowB T _ _ (qts h) 4 0 _ (by decide) j _ (by omega)
  · exact qrowA T _ _ (qt h) 5 0 _ (by decide) j _ (by have := j.isLt; omega)

theorem st_1_0 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1507 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (1 + 1) n.val (384 * 0 + j.val) := by
  refine state_tile T 1 0 (by decide) _ _ _ _ _ (fun l j => ?_) (fun l j => ?_) (fun l j => ?_) (fun m n => ?_) (fun n j => ?_) n j
  · exact cov2 (e := .f32) _ _ (fun r c => T.acs r (c / 64)) 256 1536 (ax h) 64 0 _ (by decide) (by decide) l j
  · exact cov2 (e := .f32) _ _ (fun r c => T.act r (0 + c)) 256 1536 (xs h hH) 64 0 _ (by decide) (by decide) l j
  · exact cov2 (e := .f32) _ _ (fun r c => T.q r (c / 64)) 256 1536 (qx h) 64 0 _ (by decide) (by decide) l j
  · exact cov2 (e := .bf16) _ _ (fun r c => T.act r (1536 + c)) 256 512 (bs h hH) 64 0 _ (by decide) (by decide) m n
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_0_0 h hH hS n j)))))

theorem y_1_0 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1492 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (64 + l.val) (0 + j.val) := by
  refine y_tile T 1 0 (by decide) _ _ _ _ _ _ (fun l j => ?_) (fun l j => ?_) (fun l j => ?_) (fun m n => ?_) (fun j => ?_) (fun n j => ?_) l j
  · exact intra_1_0 h hH l j
  · exact cov2 (e := .f32) _ _ (fun r c => T.acs r (c / 64)) 256 1536 (ax h) 64 0 _ (by decide) (by decide) l j
  · exact cov2 (e := .f32) _ _ (fun r c => T.act r (0 + c)) 256 1536 (xs h hH) 64 0 _ (by decide) (by decide) l j
  · exact cov2 (e := .bf16) _ _ (fun r c => T.act r (2048 + c)) 256 512 (cs h hH) 64 0 _ (by decide) (by decide) m n
  · exact rd2 arg14 harg14 x13 (fun _ => T.dsk) 1 1536 h.dsk 0 0 _ (by decide) (by decide) 0 j
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_0_0 h hH hS n j)))))

theorem intra_1_1 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_18 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 1 l.val (384 * 1 + j.val) := by
  refine intra_tile T 1 1 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 1 1 _ _ (fun m n => cov2 (e := .bf16) _ _ (fun r c => T.act r (1536 + c)) 256 512 (bs h hH) 64 128 _ (by decide) (by decide) m n) (fun m n => cov2 (e := .bf16) _ _ (fun r c => T.act r (2048 + c)) 256 512 (cs h hH) 64 128 _ (by decide) (by decide) m n) l j
  · exact cov2 (e := .f32) _ _ (fun r c => T.acs r (c / 64)) 256 1536 (ax h) 64 384 _ (by decide) (by decide) l j
  · exact cov2 (e := .f32) _ _ (fun r c => T.act r (0 + c)) 256 1536 (xs h hH) 64 384 _ (by decide) (by decide) l j
  · exact qrowB T _ _ (qts h) 6 0 _ (by decide) j _ (by omega)
  · exact qrowA T _ _ (qt h) 7 0 _ (by decide) j _ (by have := j.isLt; omega)
  · exact qrowB T _ _ (qts h) 8 0 _ (by decide) j _ (by omega)
  · exact qrowA T _ _ (qt h) 9 0 _ (by decide) j _ (by have := j.isLt; omega)
  · exact qrowB T _ _ (qts h) 10 0 _ (by decide) j _ (by omega)
  · exact qrowA T _ _ (qt h) 11 0 _ (by decide) j _ (by have := j.isLt; omega)

theorem st_1_1 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1541 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (1 + 1) n.val (384 * 1 + j.val) := by
  refine state_tile T 1 1 (by decide) _ _ _ _ _ (fun l j => ?_) (fun l j => ?_) (fun l j => ?_) (fun m n => ?_) (fun n j => ?_) n j
  · exact cov2 (e := .f32) _ _ (fun r c => T.acs r (c / 64)) 256 1536 (ax h) 64 384 _ (by decide) (by decide) l j
  · exact cov2 (e := .f32) _ _ (fun r c => T.act r (0 + c)) 256 1536 (xs h hH) 64 384 _ (by decide) (by decide) l j
  · exact cov2 (e := .f32) _ _ (fun r c => T.q r (c / 64)) 256 1536 (qx h) 64 384 _ (by decide) (by decide) l j
  · exact cov2 (e := .bf16) _ _ (fun r c => T.act r (1536 + c)) 256 512 (bs h hH) 64 128 _ (by decide) (by decide) m n
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_0_1 h hH hS n j)))))

theorem y_1_1 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1526 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (64 + l.val) (384 + j.val) := by
  refine y_tile T 1 1 (by decide) _ _ _ _ _ _ (fun l j => ?_) (fun l j => ?_) (fun l j => ?_) (fun m n => ?_) (fun j => ?_) (fun n j => ?_) l j
  · exact intra_1_1 h hH l j
  · exact cov2 (e := .f32) _ _ (fun r c => T.acs r (c / 64)) 256 1536 (ax h) 64 384 _ (by decide) (by decide) l j
  · exact cov2 (e := .f32) _ _ (fun r c => T.act r (0 + c)) 256 1536 (xs h hH) 64 384 _ (by decide) (by decide) l j
  · exact cov2 (e := .bf16) _ _ (fun r c => T.act r (2048 + c)) 256 512 (cs h hH) 64 128 _ (by decide) (by decide) m n
  · exact rd2 arg14 harg14 x13 (fun _ => T.dsk) 1 1536 h.dsk 0 384 _ (by decide) (by decide) 0 j
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_0_1 h hH hS n j)))))

theorem intra_1_2 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_22 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 1 l.val (384 * 2 + j.val) := by
  refine intra_tile T 1 2 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 1 2 _ _ (fun m n => cov2 (e := .bf16) _ _ (fun r c => T.act r (1536 + c)) 256 512 (bs h hH) 64 256 _ (by decide) (by decide) m n) (fun m n => cov2 (e := .bf16) _ _ (fun r c => T.act r (2048 + c)) 256 512 (cs h hH) 64 256 _ (by decide) (by decide) m n) l j
  · exact cov2 (e := .f32) _ _ (fun r c => T.acs r (c / 64)) 256 1536 (ax h) 64 768 _ (by decide) (by decide) l j
  · exact cov2 (e := .f32) _ _ (fun r c => T.act r (0 + c)) 256 1536 (xs h hH) 64 768 _ (by decide) (by decide) l j
  · exact qrowB T _ _ (qts h) 12 0 _ (by decide) j _ (by omega)
  · exact qrowA T _ _ (qt h) 13 0 _ (by decide) j _ (by have := j.isLt; omega)
  · exact qrowB T _ _ (qts h) 14 0 _ (by decide) j _ (by omega)
  · exact qrowA T _ _ (qt h) 15 0 _ (by decide) j _ (by have := j.isLt; omega)
  · exact qrowB T _ _ (qts h) 16 0 _ (by decide) j _ (by omega)
  · exact qrowA T _ _ (qt h) 17 0 _ (by decide) j _ (by have := j.isLt; omega)

theorem st_1_2 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1575 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (1 + 1) n.val (384 * 2 + j.val) := by
  refine state_tile T 1 2 (by decide) _ _ _ _ _ (fun l j => ?_) (fun l j => ?_) (fun l j => ?_) (fun m n => ?_) (fun n j => ?_) n j
  · exact cov2 (e := .f32) _ _ (fun r c => T.acs r (c / 64)) 256 1536 (ax h) 64 768 _ (by decide) (by decide) l j
  · exact cov2 (e := .f32) _ _ (fun r c => T.act r (0 + c)) 256 1536 (xs h hH) 64 768 _ (by decide) (by decide) l j
  · exact cov2 (e := .f32) _ _ (fun r c => T.q r (c / 64)) 256 1536 (qx h) 64 768 _ (by decide) (by decide) l j
  · exact cov2 (e := .bf16) _ _ (fun r c => T.act r (1536 + c)) 256 512 (bs h hH) 64 256 _ (by decide) (by decide) m n
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_0_2 h hH hS n j)))))

theorem y_1_2 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1560 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (64 + l.val) (768 + j.val) := by
  refine y_tile T 1 2 (by decide) _ _ _ _ _ _ (fun l j => ?_) (fun l j => ?_) (fun l j => ?_) (fun m n => ?_) (fun j => ?_) (fun n j => ?_) l j
  · exact intra_1_2 h hH l j
  · exact cov2 (e := .f32) _ _ (fun r c => T.acs r (c / 64)) 256 1536 (ax h) 64 768 _ (by decide) (by decide) l j
  · exact cov2 (e := .f32) _ _ (fun r c => T.act r (0 + c)) 256 1536 (xs h hH) 64 768 _ (by decide) (by decide) l j
  · exact cov2 (e := .bf16) _ _ (fun r c => T.act r (2048 + c)) 256 512 (cs h hH) 64 256 _ (by decide) (by decide) m n
  · exact rd2 arg14 harg14 x13 (fun _ => T.dsk) 1 1536 h.dsk 0 768 _ (by decide) (by decide) 0 j
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_0_2 h hH hS n j)))))

theorem intra_1_3 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.v1121 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 1 l.val (384 * 3 + j.val) := by
  refine intra_tile T 1 3 (by decide) (kernelRun0_C.sl.r_2 (F := Ideal) c arg8 harg8 arg9 harg9 arg21 harg21 arg22 harg22 arg25 arg26 x7 x8 xs2 xs3) (kernelRun0_C.sl.v1075 (F := Ideal) c arg12 harg12 arg13 harg13 arg16 harg16 arg21 harg21 arg27 x11 x12 x15 xs2) (kernelRun0_C.sl.v1076 (F := Ideal) c arg8 harg8 arg9 harg9 arg21 harg21 arg22 harg22 arg24 x7 x8 xs2 xs3) (kernelRun0_C.sl.v1077 (F := Ideal) c arg12 harg12 arg13 harg13 arg21 harg21 arg31 x11 x12 xs2) (kernelRun0_C.sl.v1078 (F := Ideal) c arg12 harg12 arg13 harg13 arg21 harg21 arg30 x11 x12 xs2) (kernelRun0_C.sl.v1080 (F := Ideal) c arg12 harg12 arg13 harg13 arg21 harg21 arg31 x11 x12 xs2) (kernelRun0_C.sl.v1081 (F := Ideal) c arg12 harg12 arg13 harg13 arg21 harg21 arg30 x11 x12 xs2) (kernelRun0_C.sl.v1083 (F := Ideal) c arg12 harg12 arg13 harg13 arg21 harg21 arg31 x11 x12 xs2) (kernelRun0_C.sl.v1084 (F := Ideal) c arg12 harg12 arg13 harg13 arg21 harg21 arg30 x11 x12 xs2) (fun l j => ?_) (fun l j => ?_) (fun l j => ?_) (fun j hj => ?_) (fun j hj => ?_) (fun j hj => ?_) (fun j hj => ?_) (fun j hj => ?_) (fun j hj => ?_) l j
  · exact scores_tile T 1 3 _ _ (fun m n => cov2 (e := .bf16) _ _ (fun r c => T.act r (1536 + c)) 256 512 (bs h hH) 64 384 _ (by decide) (by decide) m n) (fun m n => cov2 (e := .bf16) _ _ (fun r c => T.act r (2048 + c)) 256 512 (cs h hH) 64 384 _ (by decide) (by decide) m n) l j
  · exact cov2 (e := .f32) _ _ (fun r c => T.acs r (c / 64)) 256 1536 (ax h) 64 1152 _ (by decide) (by decide) l j
  · exact cov2 (e := .f32) _ _ (fun r c => T.act r (0 + c)) 256 1536 (xs h hH) 64 1152 _ (by decide) (by decide) l j
  · exact qrowB T _ _ (qts h) 18 0 _ (by decide) j _ (by omega)
  · exact qrowA T _ _ (qt h) 19 0 _ (by decide) j _ (by have := j.isLt; omega)
  · exact qrowB T _ _ (qts h) 20 0 _ (by decide) j _ (by omega)
  · exact qrowA T _ _ (qt h) 21 0 _ (by decide) j _ (by have := j.isLt; omega)
  · exact qrowB T _ _ (qts h) 22 0 _ (by decide) j _ (by omega)
  · exact qrowA T _ _ (qt h) 23 0 _ (by decide) j _ (by have := j.isLt; omega)

theorem st_1_3 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1609 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (1 + 1) n.val (384 * 3 + j.val) := by
  refine state_tile T 1 3 (by decide) _ _ _ _ _ (fun l j => ?_) (fun l j => ?_) (fun l j => ?_) (fun m n => ?_) (fun n j => ?_) n j
  · exact cov2 (e := .f32) _ _ (fun r c => T.acs r (c / 64)) 256 1536 (ax h) 64 1152 _ (by decide) (by decide) l j
  · exact cov2 (e := .f32) _ _ (fun r c => T.act r (0 + c)) 256 1536 (xs h hH) 64 1152 _ (by decide) (by decide) l j
  · exact cov2 (e := .f32) _ _ (fun r c => T.q r (c / 64)) 256 1536 (qx h) 64 1152 _ (by decide) (by decide) l j
  · exact cov2 (e := .bf16) _ _ (fun r c => T.act r (1536 + c)) 256 512 (bs h hH) 64 384 _ (by decide) (by decide) m n
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_0_3 h hH hS n j)))))

theorem y_1_3 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1594 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (64 + l.val) (1152 + j.val) := by
  refine y_tile T 1 3 (by decide) _ _ _ _ _ _ (fun l j => ?_) (fun l j => ?_) (fun l j => ?_) (fun m n => ?_) (fun j => ?_) (fun n j => ?_) l j
  · exact intra_1_3 h hH l j
  · exact cov2 (e := .f32) _ _ (fun r c => T.acs r (c / 64)) 256 1536 (ax h) 64 1152 _ (by decide) (by decide) l j
  · exact cov2 (e := .f32) _ _ (fun r c => T.act r (0 + c)) 256 1536 (xs h hH) 64 1152 _ (by decide) (by decide) l j
  · exact cov2 (e := .bf16) _ _ (fun r c => T.act r (2048 + c)) 256 512 (cs h hH) 64 384 _ (by decide) (by decide) m n
  · exact rd2 arg14 harg14 x13 (fun _ => T.dsk) 1 1536 h.dsk 0 1152 _ (by decide) (by decide) 0 j
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_0_3 h hH hS n j)))))

theorem intra_2_0 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.v1332 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 2 l.val (384 * 0 + j.val) := by
  refine intra_tile T 2 0 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 2 0 _ _ (fun m n => cov2 (e := .bf16) _ _ (fun r c => T.act r (1536 + c)) 256 512 (bs h hH) 128 0 _ (by decide) (by decide) m n) (fun m n => cov2 (e := .bf16) _ _ (fun r c => T.act r (2048 + c)) 256 512 (cs h hH) 128 0 _ (by decide) (by decide) m n) l j
  · exact cov2 (e := .f32) _ _ (fun r c => T.acs r (c / 64)) 256 1536 (ax h) 128 0 _ (by decide) (by decide) l j
  · exact cov2 (e := .f32) _ _ (fun r c => T.act r (0 + c)) 256 1536 (xs h hH) 128 0 _ (by decide) (by decide) l j
  · exact qrowA T _ _ (qt h) 0 128 _ (by decide) j _ (by omega)
  · exact qrowB T _ _ (qts h) 1 128 _ (by decide) j _ (by have := j.isLt; omega)
  · exact qrowA T _ _ (qt h) 2 128 _ (by decide) j _ (by omega)
  · exact qrowB T _ _ (qts h) 3 128 _ (by decide) j _ (by have := j.isLt; omega)
  · exact qrowA T _ _ (qt h) 4 128 _ (by decide) j _ (by omega)
  · exact qrowB T _ _ (qts h) 5 128 _ (by decide) j _ (by have := j.isLt; omega)

theorem st_2_0 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1843 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (2 + 1) n.val (384 * 0 + j.val) := by
  refine state_tile T 2 0 (by decide) _ _ _ _ _ (fun l j => ?_) (fun l j => ?_) (fun l j => ?_) (fun m n => ?_) (fun n j => ?_) n j
  · exact cov2 (e := .f32) _ _ (fun r c => T.acs r (c / 64)) 256 1536 (ax h) 128 0 _ (by decide) (by decide) l j
  · exact cov2 (e := .f32) _ _ (fun r c => T.act r (0 + c)) 256 1536 (xs h hH) 128 0 _ (by decide) (by decide) l j
  · exact cov2 (e := .f32) _ _ (fun r c => T.q r (c / 64)) 256 1536 (qx h) 128 0 _ (by decide) (by decide) l j
  · exact cov2 (e := .bf16) _ _ (fun r c => T.act r (1536 + c)) 256 512 (bs h hH) 128 0 _ (by decide) (by decide) m n
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_1_0 h hH hS n j)))))

theorem y_2_0 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1828 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (128 + l.val) (0 + j.val) := by
  refine y_tile T 2 0 (by decide) _ _ _ _ _ _ (fun l j => ?_) (fun l j => ?_) (fun l j => ?_) (fun m n => ?_) (fun j => ?_) (fun n j => ?_) l j
  · exact intra_2_0 h hH l j
  · exact cov2 (e := .f32) _ _ (fun r c => T.acs r (c / 64)) 256 1536 (ax h) 128 0 _ (by decide) (by decide) l j
  · exact cov2 (e := .f32) _ _ (fun r c => T.act r (0 + c)) 256 1536 (xs h hH) 128 0 _ (by decide) (by decide) l j
  · exact cov2 (e := .bf16) _ _ (fun r c => T.act r (2048 + c)) 256 512 (cs h hH) 128 0 _ (by decide) (by decide) m n
  · exact rd2 arg14 harg14 x13 (fun _ => T.dsk) 1 1536 h.dsk 0 0 _ (by decide) (by decide) 0 j
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_1_0 h hH hS n j)))))

theorem intra_2_1 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_31 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 2 l.val (384 * 1 + j.val) := by
  refine intra_tile T 2 1 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 2 1 _ _ (fun m n => cov2 (e := .bf16) _ _ (fun r c => T.act r (1536 + c)) 256 512 (bs h hH) 128 128 _ (by decide) (by decide) m n) (fun m n => cov2 (e := .bf16) _ _ (fun r c => T.act r (2048 + c)) 256 512 (cs h hH) 128 128 _ (by decide) (by decide) m n) l j
  · exact cov2 (e := .f32) _ _ (fun r c => T.acs r (c / 64)) 256 1536 (ax h) 128 384 _ (by decide) (by decide) l j
  · exact cov2 (e := .f32) _ _ (fun r c => T.act r (0 + c)) 256 1536 (xs h hH) 128 384 _ (by decide) (by decide) l j
  · exact qrowA T _ _ (qt h) 6 128 _ (by decide) j _ (by omega)
  · exact qrowB T _ _ (qts h) 7 128 _ (by decide) j _ (by have := j.isLt; omega)
  · exact qrowA T _ _ (qt h) 8 128 _ (by decide) j _ (by omega)
  · exact qrowB T _ _ (qts h) 9 128 _ (by decide) j _ (by have := j.isLt; omega)
  · exact qrowA T _ _ (qt h) 10 128 _ (by decide) j _ (by omega)
  · exact qrowB T _ _ (qts h) 11 128 _ (by decide) j _ (by have := j.isLt; omega)

theorem st_2_1 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1877 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (2 + 1) n.val (384 * 1 + j.val) := by
  refine state_tile T 2 1 (by decide) _ _ _ _ _ (fun l j => ?_) (fun l j => ?_) (fun l j => ?_) (fun m n => ?_) (fun n j => ?_) n j
  · exact cov2 (e := .f32) _ _ (fun r c => T.acs r (c / 64)) 256 1536 (ax h) 128 384 _ (by decide) (by decide) l j
  · exact cov2 (e := .f32) _ _ (fun r c => T.act r (0 + c)) 256 1536 (xs h hH) 128 384 _ (by decide) (by decide) l j
  · exact cov2 (e := .f32) _ _ (fun r c => T.q r (c / 64)) 256 1536 (qx h) 128 384 _ (by decide) (by decide) l j
  · exact cov2 (e := .bf16) _ _ (fun r c => T.act r (1536 + c)) 256 512 (bs h hH) 128 128 _ (by decide) (by decide) m n
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_1_1 h hH hS n j)))))

theorem y_2_1 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1862 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (128 + l.val) (384 + j.val) := by
  refine y_tile T 2 1 (by decide) _ _ _ _ _ _ (fun l j => ?_) (fun l j => ?_) (fun l j => ?_) (fun m n => ?_) (fun j => ?_) (fun n j => ?_) l j
  · exact intra_2_1 h hH l j
  · exact cov2 (e := .f32) _ _ (fun r c => T.acs r (c / 64)) 256 1536 (ax h) 128 384 _ (by decide) (by decide) l j
  · exact cov2 (e := .f32) _ _ (fun r c => T.act r (0 + c)) 256 1536 (xs h hH) 128 384 _ (by decide) (by decide) l j
  · exact cov2 (e := .bf16) _ _ (fun r c => T.act r (2048 + c)) 256 512 (cs h hH) 128 128 _ (by decide) (by decide) m n
  · exact rd2 arg14 harg14 x13 (fun _ => T.dsk) 1 1536 h.dsk 0 384 _ (by decide) (by decide) 0 j
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_1_1 h hH hS n j)))))

theorem intra_2_2 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_37 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 2 l.val (384 * 2 + j.val) := by
  refine intra_tile T 2 2 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 2 2 _ _ (fun m n => cov2 (e := .bf16) _ _ (fun r c => T.act r (1536 + c)) 256 512 (bs h hH) 128 256 _ (by decide) (by decide) m n) (fun m n => cov2 (e := .bf16) _ _ (fun r c => T.act r (2048 + c)) 256 512 (cs h hH) 128 256 _ (by decide) (by decide) m n) l j
  · exact cov2 (e := .f32) _ _ (fun r c => T.acs r (c / 64)) 256 1536 (ax h) 128 768 _ (by decide) (by decide) l j
  · exact cov2 (e := .f32) _ _ (fun r c => T.act r (0 + c)) 256 1536 (xs h hH) 128 768 _ (by decide) (by decide) l j
  · exact qrowA T _ _ (qt h) 12 128 _ (by decide) j _ (by omega)
  · exact qrowB T _ _ (qts h) 13 128 _ (by decide) j _ (by have := j.isLt; omega)
  · exact qrowA T _ _ (qt h) 14 128 _ (by decide) j _ (by omega)
  · exact qrowB T _ _ (qts h) 15 128 _ (by decide) j _ (by have := j.isLt; omega)
  · exact qrowA T _ _ (qt h) 16 128 _ (by decide) j _ (by omega)
  · exact qrowB T _ _ (qts h) 17 128 _ (by decide) j _ (by have := j.isLt; omega)

theorem st_2_2 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1911 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (2 + 1) n.val (384 * 2 + j.val) := by
  refine state_tile T 2 2 (by decide) _ _ _ _ _ (fun l j => ?_) (fun l j => ?_) (fun l j => ?_) (fun m n => ?_) (fun n j => ?_) n j
  · exact cov2 (e := .f32) _ _ (fun r c => T.acs r (c / 64)) 256 1536 (ax h) 128 768 _ (by decide) (by decide) l j
  · exact cov2 (e := .f32) _ _ (fun r c => T.act r (0 + c)) 256 1536 (xs h hH) 128 768 _ (by decide) (by decide) l j
  · exact cov2 (e := .f32) _ _ (fun r c => T.q r (c / 64)) 256 1536 (qx h) 128 768 _ (by decide) (by decide) l j
  · exact cov2 (e := .bf16) _ _ (fun r c => T.act r (1536 + c)) 256 512 (bs h hH) 128 256 _ (by decide) (by decide) m n
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_1_2 h hH hS n j)))))

theorem y_2_2 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1896 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (128 + l.val) (768 + j.val) := by
  refine y_tile T 2 2 (by decide) _ _ _ _ _ _ (fun l j => ?_) (fun l j => ?_) (fun l j => ?_) (fun m n => ?_) (fun j => ?_) (fun n j => ?_) l j
  · exact intra_2_2 h hH l j
  · exact cov2 (e := .f32) _ _ (fun r c => T.acs r (c / 64)) 256 1536 (ax h) 128 768 _ (by decide) (by decide) l j
  · exact cov2 (e := .f32) _ _ (fun r c => T.act r (0 + c)) 256 1536 (xs h hH) 128 768 _ (by decide) (by decide) l j
  · exact cov2 (e := .bf16) _ _ (fun r c => T.act r (2048 + c)) 256 512 (cs h hH) 128 256 _ (by decide) (by decide) m n
  · exact rd2 arg14 harg14 x13 (fun _ => T.dsk) 1 1536 h.dsk 0 768 _ (by decide) (by decide) 0 j
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_1_2 h hH hS n j)))))

theorem intra_2_3 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.v1473 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 2 l.val (384 * 3 + j.val) := by
  refine intra_tile T 2 3 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 2 3 _ _ (fun m n => cov2 (e := .bf16) _ _ (fun r c => T.act r (1536 + c)) 256 512 (bs h hH) 128 384 _ (by decide) (by decide) m n) (fun m n => cov2 (e := .bf16) _ _ (fun r c => T.act r (2048 + c)) 256 512 (cs h hH) 128 384 _ (by decide) (by decide) m n) l j
  · exact cov2 (e := .f32) _ _ (fun r c => T.acs r (c / 64)) 256 1536 (ax h) 128 1152 _ (by decide) (by decide) l j
  · exact cov2 (e := .f32) _ _ (fun r c => T.act r (0 + c)) 256 1536 (xs h hH) 128 1152 _ (by decide) (by decide) l j
  · exact qrowA T _ _ (qt h) 18 128 _ (by decide) j _ (by omega)
  · exact qrowB T _ _ (qts h) 19 128 _ (by decide) j _ (by have := j.isLt; omega)
  · exact qrowA T _ _ (qt h) 20 128 _ (by decide) j _ (by omega)
  · exact qrowB T _ _ (qts h) 21 128 _ (by decide) j _ (by have := j.isLt; omega)
  · exact qrowA T _ _ (qt h) 22 128 _ (by decide) j _ (by omega)
  · exact qrowB T _ _ (qts h) 23 128 _ (by decide) j _ (by have := j.isLt; omega)

theorem st_2_3 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1945 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (2 + 1) n.val (384 * 3 + j.val) := by
  refine state_tile T 2 3 (by decide) _ _ _ _ _ (fun l j => ?_) (fun l j => ?_) (fun l j => ?_) (fun m n => ?_) (fun n j => ?_) n j
  · exact cov2 (e := .f32) _ _ (fun r c => T.acs r (c / 64)) 256 1536 (ax h) 128 1152 _ (by decide) (by decide) l j
  · exact cov2 (e := .f32) _ _ (fun r c => T.act r (0 + c)) 256 1536 (xs h hH) 128 1152 _ (by decide) (by decide) l j
  · exact cov2 (e := .f32) _ _ (fun r c => T.q r (c / 64)) 256 1536 (qx h) 128 1152 _ (by decide) (by decide) l j
  · exact cov2 (e := .bf16) _ _ (fun r c => T.act r (1536 + c)) 256 512 (bs h hH) 128 384 _ (by decide) (by decide) m n
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_1_3 h hH hS n j)))))

theorem y_2_3 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1930 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (128 + l.val) (1152 + j.val) := by
  refine y_tile T 2 3 (by decide) _ _ _ _ _ _ (fun l j => ?_) (fun l j => ?_) (fun l j => ?_) (fun m n => ?_) (fun j => ?_) (fun n j => ?_) l j
  · exact intra_2_3 h hH l j
  · exact cov2 (e := .f32) _ _ (fun r c => T.acs r (c / 64)) 256 1536 (ax h) 128 1152 _ (by decide) (by decide) l j
  · exact cov2 (e := .f32) _ _ (fun r c => T.act r (0 + c)) 256 1536 (xs h hH) 128 1152 _ (by decide) (by decide) l j
  · exact cov2 (e := .bf16) _ _ (fun r c => T.act r (2048 + c)) 256 512 (cs h hH) 128 384 _ (by decide) (by decide) m n
  · exact rd2 arg14 harg14 x13 (fun _ => T.dsk) 1 1536 h.dsk 0 1152 _ (by decide) (by decide) 0 j
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_1_3 h hH hS n j)))))

theorem intra_3_0 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_42 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 3 l.val (384 * 0 + j.val) := by
  refine intra_tile T 3 0 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 3 0 _ _ (fun m n => cov2 (e := .bf16) _ _ (fun r c => T.act r (1536 + c)) 256 512 (bs h hH) 192 0 _ (by decide) (by decide) m n) (fun m n => cov2 (e := .bf16) _ _ (fun r c => T.act r (2048 + c)) 256 512 (cs h hH) 192 0 _ (by decide) (by decide) m n) l j
  · exact cov2 (e := .f32) _ _ (fun r c => T.acs r (c / 64)) 256 1536 (ax h) 192 0 _ (by decide) (by decide) l j
  · exact cov2 (e := .f32) _ _ (fun r c => T.act r (0 + c)) 256 1536 (xs h hH) 192 0 _ (by decide) (by decide) l j
  · exact qrowB T _ _ (qts h) 0 128 _ (by decide) j _ (by omega)
  · exact qrowA T _ _ (qt h) 1 128 _ (by decide) j _ (by have := j.isLt; omega)
  · exact qrowB T _ _ (qts h) 2 128 _ (by decide) j _ (by omega)
  · exact qrowA T _ _ (qt h) 3 128 _ (by decide) j _ (by have := j.isLt; omega)
  · exact qrowB T _ _ (qts h) 4 128 _ (by decide) j _ (by omega)
  · exact qrowA T _ _ (qt h) 5 128 _ (by decide) j _ (by have := j.isLt; omega)

theorem st_3_0 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v1991 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (3 + 1) n.val (384 * 0 + j.val) := by
  refine state_tile T 3 0 (by decide) _ _ _ _ _ (fun l j => ?_) (fun l j => ?_) (fun l j => ?_) (fun m n => ?_) (fun n j => ?_) n j
  · exact cov2 (e := .f32) _ _ (fun r c => T.acs r (c / 64)) 256 1536 (ax h) 192 0 _ (by decide) (by decide) l j
  · exact cov2 (e := .f32) _ _ (fun r c => T.act r (0 + c)) 256 1536 (xs h hH) 192 0 _ (by decide) (by decide) l j
  · exact cov2 (e := .f32) _ _ (fun r c => T.q r (c / 64)) 256 1536 (qx h) 192 0 _ (by decide) (by decide) l j
  · exact cov2 (e := .bf16) _ _ (fun r c => T.act r (1536 + c)) 256 512 (bs h hH) 192 0 _ (by decide) (by decide) m n
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_2_0 h hH hS n j)))))

theorem y_3_0 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v1976 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (192 + l.val) (0 + j.val) := by
  refine y_tile T 3 0 (by decide) _ _ _ _ _ _ (fun l j => ?_) (fun l j => ?_) (fun l j => ?_) (fun m n => ?_) (fun j => ?_) (fun n j => ?_) l j
  · exact intra_3_0 h hH l j
  · exact cov2 (e := .f32) _ _ (fun r c => T.acs r (c / 64)) 256 1536 (ax h) 192 0 _ (by decide) (by decide) l j
  · exact cov2 (e := .f32) _ _ (fun r c => T.act r (0 + c)) 256 1536 (xs h hH) 192 0 _ (by decide) (by decide) l j
  · exact cov2 (e := .bf16) _ _ (fun r c => T.act r (2048 + c)) 256 512 (cs h hH) 192 0 _ (by decide) (by decide) m n
  · exact rd2 arg14 harg14 x13 (fun _ => T.dsk) 1 1536 h.dsk 0 0 _ (by decide) (by decide) 0 j
  · exact (covS _ _ 0 _ (by decide) n j).trans ((missS 3 0 _ _ _ (by decide) n j (by decide)).trans ((missS 2 0 _ _ _ (by decide) n j (by decide)).trans ((missS 1 0 _ _ _ (by decide) n j (by decide)).trans ((hitS 0 _ _ _ (by decide) n j).trans (st_2_0 h hH hS n j)))))

theorem intra_3_1 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_47 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 3 l.val (384 * 1 + j.val) := by
  refine intra_tile T 3 1 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 3 1 _ _ (fun m n => cov2 (e := .bf16) _ _ (fun r c => T.act r (1536 + c)) 256 512 (bs h hH) 192 128 _ (by decide) (by decide) m n) (fun m n => cov2 (e := .bf16) _ _ (fun r c => T.act r (2048 + c)) 256 512 (cs h hH) 192 128 _ (by decide) (by decide) m n) l j
  · exact cov2 (e := .f32) _ _ (fun r c => T.acs r (c / 64)) 256 1536 (ax h) 192 384 _ (by decide) (by decide) l j
  · exact cov2 (e := .f32) _ _ (fun r c => T.act r (0 + c)) 256 1536 (xs h hH) 192 384 _ (by decide) (by decide) l j
  · exact qrowB T _ _ (qts h) 6 128 _ (by decide) j _ (by omega)
  · exact qrowA T _ _ (qt h) 7 128 _ (by decide) j _ (by have := j.isLt; omega)
  · exact qrowB T _ _ (qts h) 8 128 _ (by decide) j _ (by omega)
  · exact qrowA T _ _ (qt h) 9 128 _ (by decide) j _ (by have := j.isLt; omega)
  · exact qrowB T _ _ (qts h) 10 128 _ (by decide) j _ (by omega)
  · exact qrowA T _ _ (qt h) 11 128 _ (by decide) j _ (by have := j.isLt; omega)

theorem st_3_1 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v2025 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (3 + 1) n.val (384 * 1 + j.val) := by
  refine state_tile T 3 1 (by decide) _ _ _ _ _ (fun l j => ?_) (fun l j => ?_) (fun l j => ?_) (fun m n => ?_) (fun n j => ?_) n j
  · exact cov2 (e := .f32) _ _ (fun r c => T.acs r (c / 64)) 256 1536 (ax h) 192 384 _ (by decide) (by decide) l j
  · exact cov2 (e := .f32) _ _ (fun r c => T.act r (0 + c)) 256 1536 (xs h hH) 192 384 _ (by decide) (by decide) l j
  · exact cov2 (e := .f32) _ _ (fun r c => T.q r (c / 64)) 256 1536 (qx h) 192 384 _ (by decide) (by decide) l j
  · exact cov2 (e := .bf16) _ _ (fun r c => T.act r (1536 + c)) 256 512 (bs h hH) 192 128 _ (by decide) (by decide) m n
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_2_1 h hH hS n j)))))

theorem y_3_1 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v2010 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (192 + l.val) (384 + j.val) := by
  refine y_tile T 3 1 (by decide) _ _ _ _ _ _ (fun l j => ?_) (fun l j => ?_) (fun l j => ?_) (fun m n => ?_) (fun j => ?_) (fun n j => ?_) l j
  · exact intra_3_1 h hH l j
  · exact cov2 (e := .f32) _ _ (fun r c => T.acs r (c / 64)) 256 1536 (ax h) 192 384 _ (by decide) (by decide) l j
  · exact cov2 (e := .f32) _ _ (fun r c => T.act r (0 + c)) 256 1536 (xs h hH) 192 384 _ (by decide) (by decide) l j
  · exact cov2 (e := .bf16) _ _ (fun r c => T.act r (2048 + c)) 256 512 (cs h hH) 192 128 _ (by decide) (by decide) m n
  · exact rd2 arg14 harg14 x13 (fun _ => T.dsk) 1 1536 h.dsk 0 384 _ (by decide) (by decide) 0 j
  · exact (covS _ _ 1 _ (by decide) n j).trans ((missS 0 1 _ _ _ (by decide) n j (by decide)).trans ((missS 3 1 _ _ _ (by decide) n j (by decide)).trans ((missS 2 1 _ _ _ (by decide) n j (by decide)).trans ((hitS 1 _ _ _ (by decide) n j).trans (st_2_1 h hH hS n j)))))

theorem intra_3_2 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.r_52 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 3 l.val (384 * 2 + j.val) := by
  refine intra_tile T 3 2 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 3 2 _ _ (fun m n => cov2 (e := .bf16) _ _ (fun r c => T.act r (1536 + c)) 256 512 (bs h hH) 192 256 _ (by decide) (by decide) m n) (fun m n => cov2 (e := .bf16) _ _ (fun r c => T.act r (2048 + c)) 256 512 (cs h hH) 192 256 _ (by decide) (by decide) m n) l j
  · exact cov2 (e := .f32) _ _ (fun r c => T.acs r (c / 64)) 256 1536 (ax h) 192 768 _ (by decide) (by decide) l j
  · exact cov2 (e := .f32) _ _ (fun r c => T.act r (0 + c)) 256 1536 (xs h hH) 192 768 _ (by decide) (by decide) l j
  · exact qrowB T _ _ (qts h) 12 128 _ (by decide) j _ (by omega)
  · exact qrowA T _ _ (qt h) 13 128 _ (by decide) j _ (by have := j.isLt; omega)
  · exact qrowB T _ _ (qts h) 14 128 _ (by decide) j _ (by omega)
  · exact qrowA T _ _ (qt h) 15 128 _ (by decide) j _ (by have := j.isLt; omega)
  · exact qrowB T _ _ (qts h) 16 128 _ (by decide) j _ (by omega)
  · exact qrowA T _ _ (qt h) 17 128 _ (by decide) j _ (by have := j.isLt; omega)

theorem st_3_2 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v2059 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (3 + 1) n.val (384 * 2 + j.val) := by
  refine state_tile T 3 2 (by decide) _ _ _ _ _ (fun l j => ?_) (fun l j => ?_) (fun l j => ?_) (fun m n => ?_) (fun n j => ?_) n j
  · exact cov2 (e := .f32) _ _ (fun r c => T.acs r (c / 64)) 256 1536 (ax h) 192 768 _ (by decide) (by decide) l j
  · exact cov2 (e := .f32) _ _ (fun r c => T.act r (0 + c)) 256 1536 (xs h hH) 192 768 _ (by decide) (by decide) l j
  · exact cov2 (e := .f32) _ _ (fun r c => T.q r (c / 64)) 256 1536 (qx h) 192 768 _ (by decide) (by decide) l j
  · exact cov2 (e := .bf16) _ _ (fun r c => T.act r (1536 + c)) 256 512 (bs h hH) 192 256 _ (by decide) (by decide) m n
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_2_2 h hH hS n j)))))

theorem y_3_2 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v2044 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (192 + l.val) (768 + j.val) := by
  refine y_tile T 3 2 (by decide) _ _ _ _ _ _ (fun l j => ?_) (fun l j => ?_) (fun l j => ?_) (fun m n => ?_) (fun j => ?_) (fun n j => ?_) l j
  · exact intra_3_2 h hH l j
  · exact cov2 (e := .f32) _ _ (fun r c => T.acs r (c / 64)) 256 1536 (ax h) 192 768 _ (by decide) (by decide) l j
  · exact cov2 (e := .f32) _ _ (fun r c => T.act r (0 + c)) 256 1536 (xs h hH) 192 768 _ (by decide) (by decide) l j
  · exact cov2 (e := .bf16) _ _ (fun r c => T.act r (2048 + c)) 256 512 (cs h hH) 192 256 _ (by decide) (by decide) m n
  · exact rd2 arg14 harg14 x13 (fun _ => T.dsk) 1 1536 h.dsk 0 768 _ (by decide) (by decide) 0 j
  · exact (covS _ _ 2 _ (by decide) n j).trans ((missS 1 2 _ _ _ (by decide) n j (by decide)).trans ((missS 0 2 _ _ _ (by decide) n j (by decide)).trans ((missS 3 2 _ _ _ (by decide) n j (by decide)).trans ((hitS 2 _ _ _ (by decide) n j).trans (st_2_2 h hH hS n j)))))

theorem intra_3_3 {T : Tile} (h : Reads T x7 x8 x9 x10 x11 x12 x13 x14 x15 x16 xs2) (hH : ∀ (i : Fin 8) (j : Fin 2560), i.val < 8 → j.val < 2560 → xs3 (ix2 i j) = T.H i.val j.val)
    (l : Fin 64) (j : Fin 384) : (kernelRun0_C.sl.v1809 (F := Ideal) c arg8 harg8 arg9 harg9 arg12 harg12 arg13 harg13 arg16 harg16 arg21 harg21 arg22 harg22 arg24 arg25 arg26 arg27 arg30 arg31 x7 x8 x11 x12 x15 xs2 xs3) (ix2 l j) = T.intra 3 l.val (384 * 3 + j.val) := by
  refine intra_tile T 3 3 (by decide) _ _ _ _ _ _ _ _ _  (fun l j => ?_) (fun l j => ?_) (fun l j => ?_) (fun j hj => ?_) (fun j hj => ?_) (fun j hj => ?_) (fun j hj => ?_) (fun j hj => ?_) (fun j hj => ?_) l j
  · exact scores_tile T 3 3 _ _ (fun m n => cov2 (e := .bf16) _ _ (fun r c => T.act r (1536 + c)) 256 512 (bs h hH) 192 384 _ (by decide) (by decide) m n) (fun m n => cov2 (e := .bf16) _ _ (fun r c => T.act r (2048 + c)) 256 512 (cs h hH) 192 384 _ (by decide) (by decide) m n) l j
  · exact cov2 (e := .f32) _ _ (fun r c => T.acs r (c / 64)) 256 1536 (ax h) 192 1152 _ (by decide) (by decide) l j
  · exact cov2 (e := .f32) _ _ (fun r c => T.act r (0 + c)) 256 1536 (xs h hH) 192 1152 _ (by decide) (by decide) l j
  · exact qrowB T _ _ (qts h) 18 128 _ (by decide) j _ (by omega)
  · exact qrowA T _ _ (qt h) 19 128 _ (by decide) j _ (by have := j.isLt; omega)
  · exact qrowB T _ _ (qts h) 20 128 _ (by decide) j _ (by omega)
  · exact qrowA T _ _ (qt h) 21 128 _ (by decide) j _ (by have := j.isLt; omega)
  · exact qrowB T _ _ (qts h) 22 128 _ (by decide) j _ (by omega)
  · exact qrowA T _ _ (qt h) 23 128 _ (by decide) j _ (by have := j.isLt; omega)

theorem st_3_3 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (n : Fin 128) (j : Fin 384) : (kernelRun0_C.sl.v2093 (F := Ideal) c arg8 harg8 arg9 harg9 arg12 harg12 arg13 harg13 arg16 harg16 arg19 harg19 arg21 harg21 arg22 harg22 arg24 arg25 arg27 arg28 x7 x8 x11 x12 x15 xs0 xs2 xs3) (ix3 0 n j) = T.st (3 + 1) n.val (384 * 3 + j.val) := by
  refine state_tile T 3 3 (by decide) _ _ _ _ _ (fun l j => ?_) (fun l j => ?_) (fun l j => ?_) (fun m n => ?_) (fun n j => ?_) n j
  · exact cov2 (e := .f32) _ _ (fun r c => T.acs r (c / 64)) 256 1536 (ax h) 192 1152 _ (by decide) (by decide) l j
  · exact cov2 (e := .f32) _ _ (fun r c => T.act r (0 + c)) 256 1536 (xs h hH) 192 1152 _ (by decide) (by decide) l j
  · exact cov2 (e := .f32) _ _ (fun r c => T.q r (c / 64)) 256 1536 (qx h) 192 1152 _ (by decide) (by decide) l j
  · exact cov2 (e := .bf16) _ _ (fun r c => T.act r (1536 + c)) 256 512 (bs h hH) 192 384 _ (by decide) (by decide) m n
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_2_3 h hH hS n j)))))

theorem y_3_3 {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (l : Fin 64) (j : Fin 384) : (kernelRun0_C.sl.v2078 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 l j) = T.y (192 + l.val) (1152 + j.val) := by
  refine y_tile T 3 3 (by decide) _ _ _ _ _ _ (fun l j => ?_) (fun l j => ?_) (fun l j => ?_) (fun m n => ?_) (fun j => ?_) (fun n j => ?_) l j
  · exact intra_3_3 h hH l j
  · exact cov2 (e := .f32) _ _ (fun r c => T.acs r (c / 64)) 256 1536 (ax h) 192 1152 _ (by decide) (by decide) l j
  · exact cov2 (e := .f32) _ _ (fun r c => T.act r (0 + c)) 256 1536 (xs h hH) 192 1152 _ (by decide) (by decide) l j
  · exact cov2 (e := .bf16) _ _ (fun r c => T.act r (2048 + c)) 256 512 (cs h hH) 192 384 _ (by decide) (by decide) m n
  · exact rd2 arg14 harg14 x13 (fun _ => T.dsk) 1 1536 h.dsk 0 1152 _ (by decide) (by decide) 0 j
  · exact (covS _ _ 3 _ (by decide) n j).trans ((missS 2 3 _ _ _ (by decide) n j (by decide)).trans ((missS 1 3 _ _ _ (by decide) n j (by decide)).trans ((missS 0 3 _ _ _ (by decide) n j (by decide)).trans ((hitS 3 _ _ _ (by decide) n j).trans (st_2_3 h hH hS n j)))))

theorem ys {T : Tile} (h : Reads T x7 x8 x9 x10 x11 x12 x13 x14 x15 x16 xs2) (hH : ∀ (i : Fin 8) (j : Fin 2560), i.val < 8 → j.val < 2560 → xs3 (ix2 i j) = T.H i.val j.val) (hS : ∀ (i : Fin 4) (j : Fin 128) (k : Fin 384), xs0 (ix3 i j k) = T.S j.val (384 * i.val + k.val))
    (i : Fin 256) (j : Fin 1536) (_ : i.val < 256) (_ : j.val < 1536) : View.canon (kernelRun0_C.sl.HS10_16 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) (ix2 i j) = T.y i.val j.val := by
  refine canon2 (e := .f32) T.y _ ?_ i j (View.cover_of_tiledL (kernelRun0_C.sl.HS10_16 (F := Ideal) c arg8 harg8 arg9 harg9 arg12 harg12 arg13 harg13 arg14 harg14 arg16 harg16 arg19 harg19 arg21 harg21 arg22 harg22 arg24 arg25 arg26 arg27 arg28 arg30 arg31 x7 x8 x11 x12 x13 x15 xs0 xs2 xs3) S64x384.size (by sl_kernel_rfl) _)
  refine pc2 (e := .f32) _ 192 1152 _ _ _ (fun l j => y_3_3 h hH hS l j) ?_
  refine pc2 (e := .f32) _ 192 768 _ _ _ (fun l j => y_3_2 h hH hS l j) ?_
  refine pc2 (e := .f32) _ 192 384 _ _ _ (fun l j => y_3_1 h hH hS l j) ?_
  refine pc2 (e := .f32) _ 192 0 _ _ _ (fun l j => y_3_0 h hH hS l j) ?_
  refine pc2 (e := .f32) _ 128 1152 _ _ _ (fun l j => y_2_3 h hH hS l j) ?_
  refine pc2 (e := .f32) _ 128 768 _ _ _ (fun l j => y_2_2 h hH hS l j) ?_
  refine pc2 (e := .f32) _ 128 384 _ _ _ (fun l j => y_2_1 h hH hS l j) ?_
  refine pc2 (e := .f32) _ 128 0 _ _ _ (fun l j => y_2_0 h hH hS l j) ?_
  refine pc2 (e := .f32) _ 64 1152 _ _ _ (fun l j => y_1_3 h hH hS l j) ?_
  refine pc2 (e := .f32) _ 64 768 _ _ _ (fun l j => y_1_2 h hH hS l j) ?_
  refine pc2 (e := .f32) _ 64 384 _ _ _ (fun l j => y_1_1 h hH hS l j) ?_
  refine pc2 (e := .f32) _ 64 0 _ _ _ (fun l j => y_1_0 h hH hS l j) ?_
  refine pc2 (e := .f32) _ 0 1152 _ _ _ (fun l j => y_0_3 h hH hS l j) ?_
  refine pc2 (e := .f32) _ 0 768 _ _ _ (fun l j => y_0_2 h hH hS l j) ?_
  refine pc2 (e := .f32) _ 0 384 _ _ _ (fun l j => y_0_1 h hH hS l j) ?_
  refine pc2 (e := .f32) _ 0 0 _ _ _ (fun l j => y_0_0 h hH hS l j) ?_
  trivial

theorem outs {T : Tile} (h : Reads T x7 x8 x9 x10 x11 x12 x13 x14 x15 x16 xs2) (hH : ∀ (i : Fin 8) (j : Fin 2560), i.val < 8 → j.val < 2560 → xs3 (ix2 i j) = T.H i.val j.val)
    (hG : ∀ (i : Fin 16) (j : Fin 512), i.val < 16 → j.val < 512 → xs4 (ix2 i j) = T.G i.val j.val)
    (hS : ∀ (i : Fin 4) (j : Fin 128) (k : Fin 384), xs0 (ix3 i j k) = T.S j.val (384 * i.val + k.val))
    (ht : ∀ (r : Fin 256) (c : Fin 128), (kernelRun0_C.sl.v406 i) (ix2 r c) = BitVec.ofNat 32 (T.a * 256 + r.val))
    (r : Fin 256) (j : Fin 1024) :
    k0_pay7 (kernelRun0_C.sl.v2184 (F := Ideal) c i arg8 harg8 arg9 harg9 arg10 harg10 arg11 harg11 arg12 harg12 arg13 harg13 arg14 harg14 arg15 harg15 arg16 harg16 arg17 harg17 arg19 harg19 arg21 harg21 arg22 harg22 arg23 harg23 arg24 arg25 arg26 arg27 arg28 arg29 arg30 arg31 x7 x8 x9 x10 x11 x12 x13 x14 x15 x16 xs0 xs2 xs3 xs4) (kernelRun0_C.sl.v2185 (F := Ideal) c arg8 harg8 arg9 harg9 arg12 harg12 arg13 harg13 arg14 harg14 arg16 harg16 arg19 harg19 arg21 harg21 arg22 harg22 arg24 arg25 arg26 arg27 arg28 arg29 arg30 arg31 x7 x8 x11 x12 x13 x15 xs0 xs2 xs3) (kernelRun0_C.sl.r_55 (F := Ideal) c arg21 harg21 xs2) (View.readAt (Elt Ideal) arg15.view (Rect.unit (s := S1x1536) ![0, 1152] S1x384.size inb_S1x1536_S1x384_0_1152).toLoadRect (harg15.unread x14)) (View.readAt (Elt Ideal) arg17.view (Rect.unit (s := S2048x1024) ![1664, 0] S384x1024.size inb_S2048x1024_S384x1024_1664_0).toLoadRect (harg17.unread x16)) (View.readAt (Elt Ideal) arg2.view (Rect.unit (s := S256x1024) ![0, 0] S256x1024.size inb_S256x1024_S256x1024_0_0).toLoadRect (harg2.unread x1)) (View.readAt (Elt Ideal) arg5.view (Rect.unit (s := S1x1x1024) ![0, 0, 0] S1x1x1024.size inb_S1x1x1024_S1x1x1024_0_0_0).toLoadRect (harg5.unread x4)) (ix2 r j) = x1 (ix2 r j) + x4 (ix3 0 0 j) * T.mix r.val j.val := by
  refine (out_tile T (kernelRun0_C.sl.v2103 (F := Ideal) c i arg10 harg10 arg11 harg11 arg17 harg17 arg21 harg21 arg23 harg23 x9 x10 x16 xs2 xs4) _ _ _ _ _ _ _ _ _ _ _ _ _ _ _ _ _ _ (fun r j => ?_) (fun r j => ?_) (fun r j => ?_) (fun r j => ?_) (fun r j => ?_) r j).trans ?_
  · exact cat_tile T _ _ _ _ _ _ _ (pw0 h hG ht) (pw1 h hG ht) (pw2 h hG ht) (pw3 h hG ht) (fun k j => rd2 arg17 harg17 x16 T.wo 2048 1024 h.wo 0 0 _ (by decide) (by decide) k j) r j
  · exact part_tile' T 0 _ _ _ _ (fun r k => cov2 (e := .f32) _ _ T.y 256 1536 (ys h hH hS) 0 0 _ (by decide) (by decide) r k) (fun r k => rd2 (e := .f32) _ _ _ T.U 256 4632 h.U 0 512 _ (by decide) (by decide) r k) (fun k => rd2 arg15 harg15 x14 (fun _ => T.ng) 1 1536 h.ng 0 0 _ (by decide) (by decide) 0 k) (fun k j => rd2 arg17 harg17 x16 T.wo 2048 1024 h.wo 512 0 _ (by decide) (by decide) k j) r j
  · exact part_tile' T 1 _ _ _ _ (fun r k => cov2 (e := .f32) _ _ T.y 256 1536 (ys h hH hS) 0 384 _ (by decide) (by decide) r k) (fun r k => rd2 (e := .f32) _ _ _ T.U 256 4632 h.U 0 896 _ (by decide) (by decide) r k) (fun k => rd2 arg15 harg15 x14 (fun _ => T.ng) 1 1536 h.ng 0 384 _ (by decide) (by decide) 0 k) (fun k j => rd2 arg17 harg17 x16 T.wo 2048 1024 h.wo 896 0 _ (by decide) (by decide) k j) r j
  · exact part_tile' T 2 _ _ _ _ (fun r k => cov2 (e := .f32) _ _ T.y 256 1536 (ys h hH hS) 0 768 _ (by decide) (by decide) r k) (fun r k => rd2 (e := .f32) _ _ _ T.U 256 4632 h.U 0 1280 _ (by decide) (by decide) r k) (fun k => rd2 arg15 harg15 x14 (fun _ => T.ng) 1 1536 h.ng 0 768 _ (by decide) (by decide) 0 k) (fun k j => rd2 arg17 harg17 x16 T.wo 2048 1024 h.wo 1280 0 _ (by decide) (by decide) k j) r j
  · exact part_tile' T 3 _ _ _ _ (fun r k => cov2 (e := .f32) _ _ T.y 256 1536 (ys h hH hS) 0 1152 _ (by decide) (by decide) r k) (fun r k => rd2 (e := .f32) _ _ _ T.U 256 4632 h.U 0 1664 _ (by decide) (by decide) r k) (fun k => rd2 arg15 harg15 x14 (fun _ => T.ng) 1 1536 h.ng 0 1152 _ (by decide) (by decide) 0 k) (fun k j => rd2 arg17 harg17 x16 T.wo 2048 1024 h.wo 1664 0 _ (by decide) (by decide) k j) r j
  · refine congrArg₂ (· + ·) ?_ (congrArg₂ (· * ·) ?_ rfl)
    · exact (rdAt2 arg2 harg2 x1 0 0 _ r j (by omega) (by omega)).trans (congrArg x1 (by funext x; apply Fin.ext; match x with | ⟨0, _⟩ => exact Nat.zero_add _ | ⟨1, _⟩ => exact Nat.zero_add _))
    · exact rd3 arg5 harg5 x4 (fun _ _ k => x4 (ix3 0 0 ⟨k % 1024, Nat.mod_lt _ (by decide)⟩)) (fun i j k => congrArg x4 (by funext x; apply Fin.ext; match x with | ⟨0, _⟩ => show i.val = 0; omega | ⟨1, _⟩ => show j.val = 0; omega | ⟨2, _⟩ => exact (Nat.mod_eq_of_lt k.isLt).symm)) 0 0 0 _ 0 0 j |>.trans (congrArg x4 (by funext x; apply Fin.ext; match x with | ⟨0, _⟩ => rfl | ⟨1, _⟩ => rfl | ⟨2, _⟩ => show (0 + j.val) % 1024 = j.val; omega))

end Cert.MixerIdeal.Value.CaseC
-- ==== Proof.MixC3.lean ====
/-
  What a point leaves in each buffer (untrusted).
-/
module

public import proofs.«01_k».proof.Proof.MixC2

@[expose] public section

set_option maxRecDepth 16384

noncomputable section

namespace Cert.MixerIdeal.Value.CaseC

open Cert.MixerIdeal Cert.MixerIdeal.Gen Idealize.ShloMosaic Idealize.ShloMosaic.TcCoe Idealize.SL.Sem
open Cert.Layer

variable {c : Dev nD} {i : grid0.Coords}
  {arg1 : Memref sig .tc .vmem S256x1024 .f32} {harg1 : arg1.IsWhole}
  {arg2 : Memref sig .tc .vmem S256x1024 .f32} {harg2 : arg2.IsWhole}
  {arg3 : Memref sig .tc .vmem S1x1x1024 .f32} {harg3 : arg3.IsWhole}
  {arg4 : Memref sig .tc .vmem S1x1x1024 .f32} {harg4 : arg4.IsWhole}
  {arg5 : Memref sig .tc .vmem S1x1x1024 .f32} {harg5 : arg5.IsWhole}
  {arg6 : Memref sig .tc .vmem S1x1024 .f32} {harg6 : arg6.IsWhole}
  {arg7 : Memref sig .tc .vmem S1024x4632 .bf16} {harg7 : arg7.IsWhole}
  {arg8 : Memref sig .tc .vmem S4x2560 .f32} {harg8 : arg8.IsWhole}
  {arg9 : Memref sig .tc .vmem S1x2560 .f32} {harg9 : arg9.IsWhole}
  {arg10 : Memref sig .tc .vmem S4x128x128 .bf16} {harg10 : arg10.IsWhole}
  {arg11 : Memref sig .tc .vmem S1x512 .f32} {harg11 : arg11.IsWhole}
  {arg12 : Memref sig .tc .vmem S1x128 .f32} {harg12 : arg12.IsWhole}
  {arg13 : Memref sig .tc .vmem S1x128 .f32} {harg13 : arg13.IsWhole}
  {arg14 : Memref sig .tc .vmem S1x1536 .f32} {harg14 : arg14.IsWhole}
  {arg15 : Memref sig .tc .vmem S1x1536 .f32} {harg15 : arg15.IsWhole}
  {arg16 : Memref sig .tc .vmem S128x1536 .bf16} {harg16 : arg16.IsWhole}
  {arg17 : Memref sig .tc .vmem S2048x1024 .bf16} {harg17 : arg17.IsWhole}
  {arg18 : Memref sig .tc .vmem S256x1024 .f32} {harg18 : arg18.IsWhole}
  {arg19 : Memref sig .tc .vmem S4x128x384 .f32} {harg19 : arg19.IsWhole}
  {arg20 : Memref sig .tc .vmem S256x4736 .f32} {harg20 : arg20.IsWhole}
  {arg21 : Memref sig .tc .vmem S256x4736 .f32} {harg21 : arg21.IsWhole}
  {arg22 : Memref sig .tc .vmem S8x2560 .f32} {harg22 : arg22.IsWhole}
  {arg23 : Memref sig .tc .vmem S16x512 .f32} {harg23 : arg23.IsWhole}
  {arg24 : Memref sig .tc .vmem S256x1536 .f32} {harg24 : arg24.IsWhole}
  {arg25 : Memref sig .tc .vmem S256x512 .bf16} {harg25 : arg25.IsWhole}
  {arg26 : Memref sig .tc .vmem S256x512 .bf16} {harg26 : arg26.IsWhole}
  {arg27 : Memref sig .tc .vmem S256x1536 .f32} {harg27 : arg27.IsWhole}
  {arg28 : Memref sig .tc .vmem S256x1536 .f32} {harg28 : arg28.IsWhole}
  {arg29 : Memref sig .tc .vmem S256x1536 .f32} {harg29 : arg29.IsWhole}
  {arg30 : Memref sig .tc .vmem S128x256 .f32} {harg30 : arg30.IsWhole}
  {arg31 : Memref sig .tc .vmem S128x256 .f32} {harg31 : arg31.IsWhole}
variable {x0 : Vec Ideal S256x1024 .f32} {x1 : Vec Ideal S256x1024 .f32} {x2 : Vec Ideal S1x1x1024 .f32} {x3 : Vec Ideal S1x1x1024 .f32} {x4 : Vec Ideal S1x1x1024 .f32} {x5 : Vec Ideal S1x1024 .f32} {x6 : Vec Ideal S1024x4632 .bf16} {x7 : Vec Ideal S4x2560 .f32} {x8 : Vec Ideal S1x2560 .f32} {x9 : Vec Ideal S4x128x128 .bf16} {x10 : Vec Ideal S1x512 .f32} {x11 : Vec Ideal S1x128 .f32} {x12 : Vec Ideal S1x128 .f32} {x13 : Vec Ideal S1x1536 .f32} {x14 : Vec Ideal S1x1536 .f32} {x15 : Vec Ideal S128x1536 .bf16} {x16 : Vec Ideal S2048x1024 .bf16} {xs0 : Vec Ideal S4x128x384 .f32} {xs1 : Vec Ideal S256x4736 .f32} {xs2 : Vec Ideal S256x4736 .f32} {xs3 : Vec Ideal S8x2560 .f32} {xs4 : Vec Ideal S16x512 .f32}

/-- The tile's rows of the result. -/
theorem out_ends (hc0 : ¬cond0_0 i) (hc1 : ¬cond0_1 i) (hc2 : cond0_2 i) (hc3 : ¬cond0_3 i) {T : Tile} (h : Reads T x7 x8 x9 x10 x11 x12 x13 x14 x15 x16 xs2) (hH : ∀ (i : Fin 8) (j : Fin 2560), i.val < 8 → j.val < 2560 → xs3 (ix2 i j) = T.H i.val j.val)
    (hG : ∀ (i : Fin 16) (j : Fin 512), i.val < 16 → j.val < 512 → xs4 (ix2 i j) = T.G i.val j.val)
    (hS : ∀ (i : Fin 4) (j : Fin 128) (k : Fin 384), xs0 (ix3 i j k) = T.S j.val (384 * i.val + k.val))
    (ht : ∀ (r : Fin 256) (c : Fin 128), (kernelRun0_C.sl.v406 i) (ix2 r c) = BitVec.ofNat 32 (T.a * 256 + r.val))
    (r : Fin 256) (j : Fin 1024) :
    out0_C_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs2 xs3 xs4 (ix2 r j) = x1 (ix2 r j) + x4 (ix3 0 0 j) * T.mix r.val j.val := by
  unfold out0_C_17
  refine (congrFun (View.read_writes_junk_eq_canon _ _) _).trans ?_
  unfold kernelRun0_C
  dsimp only
  refine (congrFun (whole2 _ _ _) _).trans ?_
  exact outs h hH hG hS ht r j

/-- The state the tile leaves. -/
theorem st_ends (hc0 : ¬cond0_0 i) (hc1 : ¬cond0_1 i) (hc2 : cond0_2 i) (hc3 : ¬cond0_3 i) {T : Tile} (h : Reads T x7 x8 x9 x10 x11 x12 x13 x14 x15 x16 xs2) (hH : ∀ (i : Fin 8) (j : Fin 2560), i.val < 8 → j.val < 2560 → xs3 (ix2 i j) = T.H i.val j.val)
    (hS : ∀ (i : Fin 4) (j : Fin 128) (k : Fin 384), xs0 (ix3 i j k) = T.S j.val (384 * i.val + k.val)) (g : Fin 4) (n : Fin 128) (j : Fin 384) :
    sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs2 xs3 xs4 (ix3 g n j) = T.st 4 n.val (384 * g.val + j.val) := by
  unfold sout0_C_0
  refine (congrFun (View.read_writes_junk_eq_canon _ _) _).trans ?_
  unfold kernelRun0_C
  dsimp only
  match g with
  | ⟨0, _⟩ => exact (missS 3 0 _ _ _ (by decide) n j (by decide)).trans ((missS 2 0 _ _ _ (by decide) n j (by decide)).trans ((missS 1 0 _ _ _ (by decide) n j (by decide)).trans ((hitS 0 _ _ _ (by decide) n j).trans (st_3_0 h hH hS n j))))
  | ⟨1, _⟩ => exact (missS 3 1 _ _ _ (by decide) n j (by decide)).trans ((missS 2 1 _ _ _ (by decide) n j (by decide)).trans ((hitS 1 _ _ _ (by decide) n j).trans (st_3_1 h hH hS n j)))
  | ⟨2, _⟩ => exact (missS 3 2 _ _ _ (by decide) n j (by decide)).trans ((hitS 2 _ _ _ (by decide) n j).trans (st_3_2 h hH hS n j))
  | ⟨3, _⟩ => exact (hitS 3 _ _ _ (by decide) n j).trans (st_3_3 h hH hS n j)

/-- The convolution's rows the tile leaves. -/
theorem conv_ends (hc0 : ¬cond0_0 i) (hc1 : ¬cond0_1 i) (hc2 : cond0_2 i) (hc3 : ¬cond0_3 i) {T : Tile} (h : Reads T x7 x8 x9 x10 x11 x12 x13 x14 x15 x16 xs2) (hH : ∀ (i : Fin 8) (j : Fin 2560), i.val < 8 → j.val < 2560 → xs3 (ix2 i j) = T.H i.val j.val)
    (i' : Fin 8) (j : Fin 2560) :
    sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs2 xs3 xs4 (ix2 i' j) = T.e (256 + i'.val) j.val := by
  unfold sout0_C_3
  refine (congrFun (View.read_writes_junk_eq_canon _ _) _).trans ?_
  unfold kernelRun0_C
  dsimp only
  refine step2 (e := .f32) (fun q u => T.e (256 + q) u) 2048 _ _ _ i' j (by omega) (by omega) (fun i j => tail4 h hH i j) fun hlt => ?_
  refine step2 (e := .f32) (fun q u => T.e (256 + q) u) 1536 _ _ _ i' j (by omega) (by omega) (fun i j => tail3 h hH i j) fun hlt => ?_
  refine step2 (e := .f32) (fun q u => T.e (256 + q) u) 1024 _ _ _ i' j (by omega) (by omega) (fun i j => tail2 h hH i j) fun hlt => ?_
  refine step2 (e := .f32) (fun q u => T.e (256 + q) u) 512 _ _ _ i' j (by omega) (by omega) (fun i j => tail1 h hH i j) fun hlt => ?_
  refine step2 (e := .f32) (fun q u => T.e (256 + q) u) 0 _ _ _ i' j (by omega) (by omega) (fun i j => tail0 h hH i j) fun hlt => ?_
  exact absurd hlt (Nat.not_lt_zero _)

/-- The pooling's rows the tile leaves. -/
theorem pool_ends (hc0 : ¬cond0_0 i) (hc1 : ¬cond0_1 i) (hc2 : cond0_2 i) (hc3 : ¬cond0_3 i) {T : Tile} (h : Reads T x7 x8 x9 x10 x11 x12 x13 x14 x15 x16 xs2) (hG : ∀ (i : Fin 16) (j : Fin 512), i.val < 16 → j.val < 512 → xs4 (ix2 i j) = T.G i.val j.val)
    (i' : Fin 16) (j : Fin 512) :
    sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs2 xs3 xs4 (ix2 i' j) = T.ep (256 + i'.val) j.val := by
  unfold sout0_C_4
  refine (congrFun (View.read_writes_junk_eq_canon _ _) _).trans ?_
  unfold kernelRun0_C
  dsimp only
  refine step2 (e := .f32) (fun q u => T.ep (256 + q) u) 384 _ _ _ i' j (by omega) (by omega) (fun i j => ph3 h hG i j) fun hlt => ?_
  refine step2 (e := .f32) (fun q u => T.ep (256 + q) u) 256 _ _ _ i' j (by omega) (by omega) (fun i j => ph2 h hG i j) fun hlt => ?_
  refine step2 (e := .f32) (fun q u => T.ep (256 + q) u) 128 _ _ _ i' j (by omega) (by omega) (fun i j => ph1 h hG i j) fun hlt => ?_
  refine step2 (e := .f32) (fun q u => T.ep (256 + q) u) 0 _ _ _ i' j (by omega) (by omega) (fun i j => ph0 h hG i j) fun hlt => ?_
  exact absurd hlt (Nat.not_lt_zero _)

/-- The projected rows of the next tile. -/
theorem proj_ends (hc0 : ¬cond0_0 i) (hc1 : ¬cond0_1 i) (hc2 : cond0_2 i) (hc3 : ¬cond0_3 i) (X : ℕ → ℕ → EReal) (g sc sh : ℕ → EReal) (w : ℕ → ℕ → EReal)
    (hX : ∀ (r : Fin 256) (k : Fin 1024), r.val < 256 → k.val < 1024 → x0 (ix2 r k) = X r.val k.val) (hg : ∀ (i : Fin 1) (k : Fin 1024), i.val < 1 → k.val < 1024 → x5 (ix2 i k) = g k.val)
    (hsh : ∀ (i j : Fin 1) (k : Fin 1024), x2 (ix3 i j k) = sh k.val) (hsc : ∀ (i j : Fin 1) (k : Fin 1024), x3 (ix3 i j k) = sc k.val)
    (hw : ∀ (k : Fin 1024) (u : Fin 4632), k.val < 1024 → u.val < 4632 → x6 (ix2 k u) = w k.val u.val)
    (r : Fin 256) (u : Fin 4736) (hu : u.val < 4632) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs2 xs3 xs4 xs1 (ix2 r u) = projF X g sc sh w r.val u.val := by
  unfold sout0_C_1
  unfold kernelRun0_C
  dsimp only
  refine (View.read_writes_apply_eq_canon _ _ _ _ ?_).trans ?_
  · refine in2 (e := .f32) 4608 _ _ _ r u (by omega) (by omega) fun hlt => ?_
    refine in2 (e := .f32) 4352 _ _ _ r u (by omega) (by omega) fun hlt => ?_
    refine in2 (e := .f32) 4096 _ _ _ r u (by omega) (by omega) fun hlt => ?_
    refine in2 (e := .f32) 3840 _ _ _ r u (by omega) (by omega) fun hlt => ?_
    refine in2 (e := .f32) 3584 _ _ _ r u (by omega) (by omega) fun hlt => ?_
    refine in2 (e := .f32) 3328 _ _ _ r u (by omega) (by omega) fun hlt => ?_
    refine in2 (e := .f32) 3072 _ _ _ r u (by omega) (by omega) fun hlt => ?_
    refine in2 (e := .f32) 2816 _ _ _ r u (by omega) (by omega) fun hlt => ?_
    refine in2 (e := .f32) 2560 _ _ _ r u (by omega) (by omega) fun hlt => ?_
    refine in2 (e := .f32) 2304 _ _ _ r u (by omega) (by omega) fun hlt => ?_
    refine in2 (e := .f32) 2048 _ _ _ r u (by omega) (by omega) fun hlt => ?_
    refine in2 (e := .f32) 1792 _ _ _ r u (by omega) (by omega) fun hlt => ?_
    refine in2 (e := .f32) 1536 _ _ _ r u (by omega) (by omega) fun hlt => ?_
    refine in2 (e := .f32) 1280 _ _ _ r u (by omega) (by omega) fun hlt => ?_
    refine in2 (e := .f32) 1024 _ _ _ r u (by omega) (by omega) fun hlt => ?_
    refine in2 (e := .f32) 768 _ _ _ r u (by omega) (by omega) fun hlt => ?_
    refine in2 (e := .f32) 512 _ _ _ r u (by omega) (by omega) fun hlt => ?_
    refine in2 (e := .f32) 256 _ _ _ r u (by omega) (by omega) fun hlt => ?_
    refine in2 (e := .f32) 0 _ _ _ r u (by omega) (by omega) fun hlt => ?_
    exact absurd hlt (Nat.not_lt_zero _)
  refine step2 (e := .f32) (projF X g sc sh w) 4608 _ _ _ r u (by omega) (by omega) (fun i j => proj_last X g sc sh w _ _ _ _ _ 4608
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4608 _ (by decide) (by decide) k j) i j) fun hlt => ?_
  refine step2 (e := .f32) (projF X g sc sh w) 4352 _ _ _ r u (by omega) (by omega) (fun i j => proj_tile X g sc sh w _ _ _ _ _ 4352
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4352 _ (by decide) (by decide) k j) i j) fun hlt => ?_
  refine step2 (e := .f32) (projF X g sc sh w) 4096 _ _ _ r u (by omega) (by omega) (fun i j => proj_tile X g sc sh w _ _ _ _ _ 4096
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4096 _ (by decide) (by decide) k j) i j) fun hlt => ?_
  refine step2 (e := .f32) (projF X g sc sh w) 3840 _ _ _ r u (by omega) (by omega) (fun i j => proj_tile X g sc sh w _ _ _ _ _ 3840
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3840 _ (by decide) (by decide) k j) i j) fun hlt => ?_
  refine step2 (e := .f32) (projF X g sc sh w) 3584 _ _ _ r u (by omega) (by omega) (fun i j => proj_tile X g sc sh w _ _ _ _ _ 3584
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3584 _ (by decide) (by decide) k j) i j) fun hlt => ?_
  refine step2 (e := .f32) (projF X g sc sh w) 3328 _ _ _ r u (by omega) (by omega) (fun i j => proj_tile X g sc sh w _ _ _ _ _ 3328
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3328 _ (by decide) (by decide) k j) i j) fun hlt => ?_
  refine step2 (e := .f32) (projF X g sc sh w) 3072 _ _ _ r u (by omega) (by omega) (fun i j => proj_tile X g sc sh w _ _ _ _ _ 3072
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3072 _ (by decide) (by decide) k j) i j) fun hlt => ?_
  refine step2 (e := .f32) (projF X g sc sh w) 2816 _ _ _ r u (by omega) (by omega) (fun i j => proj_tile X g sc sh w _ _ _ _ _ 2816
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2816 _ (by decide) (by decide) k j) i j) fun hlt => ?_
  refine step2 (e := .f32) (projF X g sc sh w) 2560 _ _ _ r u (by omega) (by omega) (fun i j => proj_tile X g sc sh w _ _ _ _ _ 2560
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2560 _ (by decide) (by decide) k j) i j) fun hlt => ?_
  refine step2 (e := .f32) (projF X g sc sh w) 2304 _ _ _ r u (by omega) (by omega) (fun i j => proj_tile X g sc sh w _ _ _ _ _ 2304
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2304 _ (by decide) (by decide) k j) i j) fun hlt => ?_
  refine step2 (e := .f32) (projF X g sc sh w) 2048 _ _ _ r u (by omega) (by omega) (fun i j => proj_tile X g sc sh w _ _ _ _ _ 2048
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2048 _ (by decide) (by decide) k j) i j) fun hlt => ?_
  refine step2 (e := .f32) (projF X g sc sh w) 1792 _ _ _ r u (by omega) (by omega) (fun i j => proj_tile X g sc sh w _ _ _ _ _ 1792
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1792 _ (by decide) (by decide) k j) i j) fun hlt => ?_
  refine step2 (e := .f32) (projF X g sc sh w) 1536 _ _ _ r u (by omega) (by omega) (fun i j => proj_tile X g sc sh w _ _ _ _ _ 1536
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1536 _ (by decide) (by decide) k j) i j) fun hlt => ?_
  refine step2 (e := .f32) (projF X g sc sh w) 1280 _ _ _ r u (by omega) (by omega) (fun i j => proj_tile X g sc sh w _ _ _ _ _ 1280
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1280 _ (by decide) (by decide) k j) i j) fun hlt => ?_
  refine step2 (e := .f32) (projF X g sc sh w) 1024 _ _ _ r u (by omega) (by omega) (fun i j => proj_tile X g sc sh w _ _ _ _ _ 1024
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1024 _ (by decide) (by decide) k j) i j) fun hlt => ?_
  refine step2 (e := .f32) (projF X g sc sh w) 768 _ _ _ r u (by omega) (by omega) (fun i j => proj_tile X g sc sh w _ _ _ _ _ 768
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 768 _ (by decide) (by decide) k j) i j) fun hlt => ?_
  refine step2 (e := .f32) (projF X g sc sh w) 512 _ _ _ r u (by omega) (by omega) (fun i j => proj_tile X g sc sh w _ _ _ _ _ 512
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 512 _ (by decide) (by decide) k j) i j) fun hlt => ?_
  refine step2 (e := .f32) (projF X g sc sh w) 256 _ _ _ r u (by omega) (by omega) (fun i j => proj_tile X g sc sh w _ _ _ _ _ 256
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 256 _ (by decide) (by decide) k j) i j) fun hlt => ?_
  refine step2 (e := .f32) (projF X g sc sh w) 0 _ _ _ r u (by omega) (by omega) (fun i j => proj_tile X g sc sh w _ _ _ _ _ 0
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 0 _ (by decide) (by decide) k j) i j) fun hlt => ?_
  exact absurd hlt (Nat.not_lt_zero _)

end Cert.MixerIdeal.Value.CaseC
-- ==== Proof.MixD.lean ====
/-
  The steps whose projected rows lie in the other buffer: the same values as in the case before, with the two buffers exchanged (untrusted).
-/
module

public import proofs.«01_k».proof.Proof.MixC3

@[expose] public section

set_option maxRecDepth 16384

noncomputable section

namespace Cert.MixerIdeal.Value.CaseD

open Cert.MixerIdeal Cert.MixerIdeal.Gen Idealize.ShloMosaic Idealize.ShloMosaic.TcCoe Idealize.SL.Sem
open Cert.Layer

variable {c : Dev nD} {i : grid0.Coords}
  {arg1 : Memref sig .tc .vmem S256x1024 .f32} {harg1 : arg1.IsWhole}
  {arg2 : Memref sig .tc .vmem S256x1024 .f32} {harg2 : arg2.IsWhole}
  {arg3 : Memref sig .tc .vmem S1x1x1024 .f32} {harg3 : arg3.IsWhole}
  {arg4 : Memref sig .tc .vmem S1x1x1024 .f32} {harg4 : arg4.IsWhole}
  {arg5 : Memref sig .tc .vmem S1x1x1024 .f32} {harg5 : arg5.IsWhole}
  {arg6 : Memref sig .tc .vmem S1x1024 .f32} {harg6 : arg6.IsWhole}
  {arg7 : Memref sig .tc .vmem S1024x4632 .bf16} {harg7 : arg7.IsWhole}
  {arg8 : Memref sig .tc .vmem S4x2560 .f32} {harg8 : arg8.IsWhole}
  {arg9 : Memref sig .tc .vmem S1x2560 .f32} {harg9 : arg9.IsWhole}
  {arg10 : Memref sig .tc .vmem S4x128x128 .bf16} {harg10 : arg10.IsWhole}
  {arg11 : Memref sig .tc .vmem S1x512 .f32} {harg11 : arg11.IsWhole}
  {arg12 : Memref sig .tc .vmem S1x128 .f32} {harg12 : arg12.IsWhole}
  {arg13 : Memref sig .tc .vmem S1x128 .f32} {harg13 : arg13.IsWhole}
  {arg14 : Memref sig .tc .vmem S1x1536 .f32} {harg14 : arg14.IsWhole}
  {arg15 : Memref sig .tc .vmem S1x1536 .f32} {harg15 : arg15.IsWhole}
  {arg16 : Memref sig .tc .vmem S128x1536 .bf16} {harg16 : arg16.IsWhole}
  {arg17 : Memref sig .tc .vmem S2048x1024 .bf16} {harg17 : arg17.IsWhole}
  {arg18 : Memref sig .tc .vmem S256x1024 .f32} {harg18 : arg18.IsWhole}
  {arg19 : Memref sig .tc .vmem S4x128x384 .f32} {harg19 : arg19.IsWhole}
  {arg20 : Memref sig .tc .vmem S256x4736 .f32} {harg20 : arg20.IsWhole}
  {arg21 : Memref sig .tc .vmem S256x4736 .f32} {harg21 : arg21.IsWhole}
  {arg22 : Memref sig .tc .vmem S8x2560 .f32} {harg22 : arg22.IsWhole}
  {arg23 : Memref sig .tc .vmem S16x512 .f32} {harg23 : arg23.IsWhole}
  {arg24 : Memref sig .tc .vmem S256x1536 .f32} {harg24 : arg24.IsWhole}
  {arg25 : Memref sig .tc .vmem S256x512 .bf16} {harg25 : arg25.IsWhole}
  {arg26 : Memref sig .tc .vmem S256x512 .bf16} {harg26 : arg26.IsWhole}
  {arg27 : Memref sig .tc .vmem S256x1536 .f32} {harg27 : arg27.IsWhole}
  {arg28 : Memref sig .tc .vmem S256x1536 .f32} {harg28 : arg28.IsWhole}
  {arg29 : Memref sig .tc .vmem S256x1536 .f32} {harg29 : arg29.IsWhole}
  {arg30 : Memref sig .tc .vmem S128x256 .f32} {harg30 : arg30.IsWhole}
  {arg31 : Memref sig .tc .vmem S128x256 .f32} {harg31 : arg31.IsWhole}
variable {x0 : Vec Ideal S256x1024 .f32} {x1 : Vec Ideal S256x1024 .f32} {x2 : Vec Ideal S1x1x1024 .f32} {x3 : Vec Ideal S1x1x1024 .f32} {x4 : Vec Ideal S1x1x1024 .f32} {x5 : Vec Ideal S1x1024 .f32} {x6 : Vec Ideal S1024x4632 .bf16} {x7 : Vec Ideal S4x2560 .f32} {x8 : Vec Ideal S1x2560 .f32} {x9 : Vec Ideal S4x128x128 .bf16} {x10 : Vec Ideal S1x512 .f32} {x11 : Vec Ideal S1x128 .f32} {x12 : Vec Ideal S1x128 .f32} {x13 : Vec Ideal S1x1536 .f32} {x14 : Vec Ideal S1x1536 .f32} {x15 : Vec Ideal S128x1536 .bf16} {x16 : Vec Ideal S2048x1024 .bf16} {xs0 : Vec Ideal S4x128x384 .f32} {xs1 : Vec Ideal S256x4736 .f32} {xs2 : Vec Ideal S256x4736 .f32} {xs3 : Vec Ideal S8x2560 .f32} {xs4 : Vec Ideal S16x512 .f32}

open Cert.MixerIdeal.Value.CaseC (outs ph0 ph1 ph2 ph3 st_3_0 st_3_1 st_3_2 st_3_3 tail0 tail1 tail2 tail3 tail4)

/-- The tile's rows of the result. -/
theorem out_ends (hc0 : ¬cond0_0 i) (hc1 : ¬cond0_1 i) (hc2 : ¬cond0_2 i) (hc3 : cond0_3 i) {T : Tile} (h : Reads T x7 x8 x9 x10 x11 x12 x13 x14 x15 x16 xs1) (hH : ∀ (i : Fin 8) (j : Fin 2560), i.val < 8 → j.val < 2560 → xs3 (ix2 i j) = T.H i.val j.val)
    (hG : ∀ (i : Fin 16) (j : Fin 512), i.val < 16 → j.val < 512 → xs4 (ix2 i j) = T.G i.val j.val)
    (hS : ∀ (i : Fin 4) (j : Fin 128) (k : Fin 384), xs0 (ix3 i j k) = T.S j.val (384 * i.val + k.val))
    (ht : ∀ (r : Fin 256) (c : Fin 128), (kernelRun0_D.sl.v406 i) (ix2 r c) = BitVec.ofNat 32 (T.a * 256 + r.val))
    (r : Fin 256) (j : Fin 1024) :
    out0_D_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs1 xs3 xs4 (ix2 r j) = x1 (ix2 r j) + x4 (ix3 0 0 j) * T.mix r.val j.val := by
  unfold out0_D_17
  refine (congrFun (View.read_writes_junk_eq_canon _ _) _).trans ?_
  unfold kernelRun0_D
  dsimp only
  refine (congrFun (whole2 _ _ _) _).trans ?_
  exact outs h hH hG hS ht r j

/-- The state the tile leaves. -/
theorem st_ends (hc0 : ¬cond0_0 i) (hc1 : ¬cond0_1 i) (hc2 : ¬cond0_2 i) (hc3 : cond0_3 i) {T : Tile} (h : Reads T x7 x8 x9 x10 x11 x12 x13 x14 x15 x16 xs1) (hH : ∀ (i : Fin 8) (j : Fin 2560), i.val < 8 → j.val < 2560 → xs3 (ix2 i j) = T.H i.val j.val)
    (hS : ∀ (i : Fin 4) (j : Fin 128) (k : Fin 384), xs0 (ix3 i j k) = T.S j.val (384 * i.val + k.val)) (g : Fin 4) (n : Fin 128) (j : Fin 384) :
    sout0_D_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs1 xs3 xs4 (ix3 g n j) = T.st 4 n.val (384 * g.val + j.val) := by
  unfold sout0_D_0
  refine (congrFun (View.read_writes_junk_eq_canon _ _) _).trans ?_
  unfold kernelRun0_D
  dsimp only
  match g with
  | ⟨0, _⟩ => exact (missS 3 0 _ _ _ (by decide) n j (by decide)).trans ((missS 2 0 _ _ _ (by decide) n j (by decide)).trans ((missS 1 0 _ _ _ (by decide) n j (by decide)).trans ((hitS 0 _ _ _ (by decide) n j).trans (st_3_0 h hH hS n j))))
  | ⟨1, _⟩ => exact (missS 3 1 _ _ _ (by decide) n j (by decide)).trans ((missS 2 1 _ _ _ (by decide) n j (by decide)).trans ((hitS 1 _ _ _ (by decide) n j).trans (st_3_1 h hH hS n j)))
  | ⟨2, _⟩ => exact (missS 3 2 _ _ _ (by decide) n j (by decide)).trans ((hitS 2 _ _ _ (by decide) n j).trans (st_3_2 h hH hS n j))
  | ⟨3, _⟩ => exact (hitS 3 _ _ _ (by decide) n j).trans (st_3_3 h hH hS n j)

/-- The convolution's rows the tile leaves. -/
theorem conv_ends (hc0 : ¬cond0_0 i) (hc1 : ¬cond0_1 i) (hc2 : ¬cond0_2 i) (hc3 : cond0_3 i) {T : Tile} (h : Reads T x7 x8 x9 x10 x11 x12 x13 x14 x15 x16 xs1) (hH : ∀ (i : Fin 8) (j : Fin 2560), i.val < 8 → j.val < 2560 → xs3 (ix2 i j) = T.H i.val j.val)
    (i' : Fin 8) (j : Fin 2560) :
    sout0_D_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs1 xs3 xs4 (ix2 i' j) = T.e (256 + i'.val) j.val := by
  unfold sout0_D_3
  refine (congrFun (View.read_writes_junk_eq_canon _ _) _).trans ?_
  unfold kernelRun0_D
  dsimp only
  refine step2 (e := .f32) (fun q u => T.e (256 + q) u) 2048 _ _ _ i' j (by omega) (by omega) (fun i j => tail4 h hH i j) fun hlt => ?_
  refine step2 (e := .f32) (fun q u => T.e (256 + q) u) 1536 _ _ _ i' j (by omega) (by omega) (fun i j => tail3 h hH i j) fun hlt => ?_
  refine step2 (e := .f32) (fun q u => T.e (256 + q) u) 1024 _ _ _ i' j (by omega) (by omega) (fun i j => tail2 h hH i j) fun hlt => ?_
  refine step2 (e := .f32) (fun q u => T.e (256 + q) u) 512 _ _ _ i' j (by omega) (by omega) (fun i j => tail1 h hH i j) fun hlt => ?_
  refine step2 (e := .f32) (fun q u => T.e (256 + q) u) 0 _ _ _ i' j (by omega) (by omega) (fun i j => tail0 h hH i j) fun hlt => ?_
  exact absurd hlt (Nat.not_lt_zero _)

/-- The pooling's rows the tile leaves. -/
theorem pool_ends (hc0 : ¬cond0_0 i) (hc1 : ¬cond0_1 i) (hc2 : ¬cond0_2 i) (hc3 : cond0_3 i) {T : Tile} (h : Reads T x7 x8 x9 x10 x11 x12 x13 x14 x15 x16 xs1) (hG : ∀ (i : Fin 16) (j : Fin 512), i.val < 16 → j.val < 512 → xs4 (ix2 i j) = T.G i.val j.val)
    (i' : Fin 16) (j : Fin 512) :
    sout0_D_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs1 xs3 xs4 (ix2 i' j) = T.ep (256 + i'.val) j.val := by
  unfold sout0_D_4
  refine (congrFun (View.read_writes_junk_eq_canon _ _) _).trans ?_
  unfold kernelRun0_D
  dsimp only
  refine step2 (e := .f32) (fun q u => T.ep (256 + q) u) 384 _ _ _ i' j (by omega) (by omega) (fun i j => ph3 h hG i j) fun hlt => ?_
  refine step2 (e := .f32) (fun q u => T.ep (256 + q) u) 256 _ _ _ i' j (by omega) (by omega) (fun i j => ph2 h hG i j) fun hlt => ?_
  refine step2 (e := .f32) (fun q u => T.ep (256 + q) u) 128 _ _ _ i' j (by omega) (by omega) (fun i j => ph1 h hG i j) fun hlt => ?_
  refine step2 (e := .f32) (fun q u => T.ep (256 + q) u) 0 _ _ _ i' j (by omega) (by omega) (fun i j => ph0 h hG i j) fun hlt => ?_
  exact absurd hlt (Nat.not_lt_zero _)

/-- The projected rows of the next tile. -/
theorem proj_ends (hc0 : ¬cond0_0 i) (hc1 : ¬cond0_1 i) (hc2 : ¬cond0_2 i) (hc3 : cond0_3 i) (X : ℕ → ℕ → EReal) (g sc sh : ℕ → EReal) (w : ℕ → ℕ → EReal)
    (hX : ∀ (r : Fin 256) (k : Fin 1024), r.val < 256 → k.val < 1024 → x0 (ix2 r k) = X r.val k.val) (hg : ∀ (i : Fin 1) (k : Fin 1024), i.val < 1 → k.val < 1024 → x5 (ix2 i k) = g k.val)
    (hsh : ∀ (i j : Fin 1) (k : Fin 1024), x2 (ix3 i j k) = sh k.val) (hsc : ∀ (i j : Fin 1) (k : Fin 1024), x3 (ix3 i j k) = sc k.val)
    (hw : ∀ (k : Fin 1024) (u : Fin 4632), k.val < 1024 → u.val < 4632 → x6 (ix2 k u) = w k.val u.val)
    (r : Fin 256) (u : Fin 4736) (hu : u.val < 4632) :
    sout0_D_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 hc3 x0 x1 x2 x3 x4 x5 x6 x7 x8 x9 x10 x11 x12 x13 x14 x15 x16 xs0 xs1 xs3 xs4 xs2 (ix2 r u) = projF X g sc sh w r.val u.val := by
  unfold sout0_D_2
  unfold kernelRun0_D
  dsimp only
  refine (View.read_writes_apply_eq_canon _ _ _ _ ?_).trans ?_
  · refine in2 (e := .f32) 4608 _ _ _ r u (by omega) (by omega) fun hlt => ?_
    refine in2 (e := .f32) 4352 _ _ _ r u (by omega) (by omega) fun hlt => ?_
    refine in2 (e := .f32) 4096 _ _ _ r u (by omega) (by omega) fun hlt => ?_
    refine in2 (e := .f32) 3840 _ _ _ r u (by omega) (by omega) fun hlt => ?_
    refine in2 (e := .f32) 3584 _ _ _ r u (by omega) (by omega) fun hlt => ?_
    refine in2 (e := .f32) 3328 _ _ _ r u (by omega) (by omega) fun hlt => ?_
    refine in2 (e := .f32) 3072 _ _ _ r u (by omega) (by omega) fun hlt => ?_
    refine in2 (e := .f32) 2816 _ _ _ r u (by omega) (by omega) fun hlt => ?_
    refine in2 (e := .f32) 2560 _ _ _ r u (by omega) (by omega) fun hlt => ?_
    refine in2 (e := .f32) 2304 _ _ _ r u (by omega) (by omega) fun hlt => ?_
    refine in2 (e := .f32) 2048 _ _ _ r u (by omega) (by omega) fun hlt => ?_
    refine in2 (e := .f32) 1792 _ _ _ r u (by omega) (by omega) fun hlt => ?_
    refine in2 (e := .f32) 1536 _ _ _ r u (by omega) (by omega) fun hlt => ?_
    refine in2 (e := .f32) 1280 _ _ _ r u (by omega) (by omega) fun hlt => ?_
    refine in2 (e := .f32) 1024 _ _ _ r u (by omega) (by omega) fun hlt => ?_
    refine in2 (e := .f32) 768 _ _ _ r u (by omega) (by omega) fun hlt => ?_
    refine in2 (e := .f32) 512 _ _ _ r u (by omega) (by omega) fun hlt => ?_
    refine in2 (e := .f32) 256 _ _ _ r u (by omega) (by omega) fun hlt => ?_
    refine in2 (e := .f32) 0 _ _ _ r u (by omega) (by omega) fun hlt => ?_
    exact absurd hlt (Nat.not_lt_zero _)
  refine step2 (e := .f32) (projF X g sc sh w) 4608 _ _ _ r u (by omega) (by omega) (fun i j => proj_last X g sc sh w _ _ _ _ _ 4608
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4608 _ (by decide) (by decide) k j) i j) fun hlt => ?_
  refine step2 (e := .f32) (projF X g sc sh w) 4352 _ _ _ r u (by omega) (by omega) (fun i j => proj_tile X g sc sh w _ _ _ _ _ 4352
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4352 _ (by decide) (by decide) k j) i j) fun hlt => ?_
  refine step2 (e := .f32) (projF X g sc sh w) 4096 _ _ _ r u (by omega) (by omega) (fun i j => proj_tile X g sc sh w _ _ _ _ _ 4096
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 4096 _ (by decide) (by decide) k j) i j) fun hlt => ?_
  refine step2 (e := .f32) (projF X g sc sh w) 3840 _ _ _ r u (by omega) (by omega) (fun i j => proj_tile X g sc sh w _ _ _ _ _ 3840
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3840 _ (by decide) (by decide) k j) i j) fun hlt => ?_
  refine step2 (e := .f32) (projF X g sc sh w) 3584 _ _ _ r u (by omega) (by omega) (fun i j => proj_tile X g sc sh w _ _ _ _ _ 3584
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3584 _ (by decide) (by decide) k j) i j) fun hlt => ?_
  refine step2 (e := .f32) (projF X g sc sh w) 3328 _ _ _ r u (by omega) (by omega) (fun i j => proj_tile X g sc sh w _ _ _ _ _ 3328
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3328 _ (by decide) (by decide) k j) i j) fun hlt => ?_
  refine step2 (e := .f32) (projF X g sc sh w) 3072 _ _ _ r u (by omega) (by omega) (fun i j => proj_tile X g sc sh w _ _ _ _ _ 3072
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 3072 _ (by decide) (by decide) k j) i j) fun hlt => ?_
  refine step2 (e := .f32) (projF X g sc sh w) 2816 _ _ _ r u (by omega) (by omega) (fun i j => proj_tile X g sc sh w _ _ _ _ _ 2816
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2816 _ (by decide) (by decide) k j) i j) fun hlt => ?_
  refine step2 (e := .f32) (projF X g sc sh w) 2560 _ _ _ r u (by omega) (by omega) (fun i j => proj_tile X g sc sh w _ _ _ _ _ 2560
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2560 _ (by decide) (by decide) k j) i j) fun hlt => ?_
  refine step2 (e := .f32) (projF X g sc sh w) 2304 _ _ _ r u (by omega) (by omega) (fun i j => proj_tile X g sc sh w _ _ _ _ _ 2304
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2304 _ (by decide) (by decide) k j) i j) fun hlt => ?_
  refine step2 (e := .f32) (projF X g sc sh w) 2048 _ _ _ r u (by omega) (by omega) (fun i j => proj_tile X g sc sh w _ _ _ _ _ 2048
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 2048 _ (by decide) (by decide) k j) i j) fun hlt => ?_
  refine step2 (e := .f32) (projF X g sc sh w) 1792 _ _ _ r u (by omega) (by omega) (fun i j => proj_tile X g sc sh w _ _ _ _ _ 1792
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1792 _ (by decide) (by decide) k j) i j) fun hlt => ?_
  refine step2 (e := .f32) (projF X g sc sh w) 1536 _ _ _ r u (by omega) (by omega) (fun i j => proj_tile X g sc sh w _ _ _ _ _ 1536
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1536 _ (by decide) (by decide) k j) i j) fun hlt => ?_
  refine step2 (e := .f32) (projF X g sc sh w) 1280 _ _ _ r u (by omega) (by omega) (fun i j => proj_tile X g sc sh w _ _ _ _ _ 1280
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1280 _ (by decide) (by decide) k j) i j) fun hlt => ?_
  refine step2 (e := .f32) (projF X g sc sh w) 1024 _ _ _ r u (by omega) (by omega) (fun i j => proj_tile X g sc sh w _ _ _ _ _ 1024
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 1024 _ (by decide) (by decide) k j) i j) fun hlt => ?_
  refine step2 (e := .f32) (projF X g sc sh w) 768 _ _ _ r u (by omega) (by omega) (fun i j => proj_tile X g sc sh w _ _ _ _ _ 768
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 768 _ (by decide) (by decide) k j) i j) fun hlt => ?_
  refine step2 (e := .f32) (projF X g sc sh w) 512 _ _ _ r u (by omega) (by omega) (fun i j => proj_tile X g sc sh w _ _ _ _ _ 512
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 512 _ (by decide) (by decide) k j) i j) fun hlt => ?_
  refine step2 (e := .f32) (projF X g sc sh w) 256 _ _ _ r u (by omega) (by omega) (fun i j => proj_tile X g sc sh w _ _ _ _ _ 256
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 256 _ (by decide) (by decide) k j) i j) fun hlt => ?_
  refine step2 (e := .f32) (projF X g sc sh w) 0 _ _ _ r u (by omega) (by omega) (fun i j => proj_tile X g sc sh w _ _ _ _ _ 0
      (fun r k => rd2 arg1 harg1 x0 X 256 1024 hX 0 0 _ (by decide) (by decide) r k) (fun k => rd2 arg6 harg6 x5 (fun _ => g) 1 1024 hg 0 0 _ (by decide) (by decide) 0 k)
      (fun k => rd3 arg4 harg4 x3 (fun _ _ => sc) hsc 0 0 0 _ 0 0 k) (fun k => rd3 arg3 harg3 x2 (fun _ _ => sh) hsh 0 0 0 _ 0 0 k)
      (fun k j => rd2 arg7 harg7 x6 w 1024 4632 hw 0 0 _ (by decide) (by decide) k j) i j) fun hlt => ?_
  exact absurd hlt (Nat.not_lt_zero _)

end Cert.MixerIdeal.Value.CaseD
-- ==== Proof.MixInv.lean ====
/-
  What the mixer's points leave in its buffers, point after point (untrusted).
-/
module

public import proofs.«01_k».proof.Proof.MixBlk
public import proofs.«01_k».proof.Proof.MixA3
public import proofs.«01_k».proof.Proof.MixB3
public import proofs.«01_k».proof.Proof.MixC3
public import proofs.«01_k».proof.Proof.MixD

@[expose] public section

set_option maxRecDepth 16384

noncomputable section

namespace Cert.MixerIdeal.Value

open Cert.MixerIdeal Cert.MixerIdeal.Gen Idealize.ShloMosaic Idealize.ShloMosaic.TcCoe Idealize.SL.Sem
open Cert.Layer

variable (m : (ℓ : Loc nD τ sig) → Buf (Elt Ideal) ℓ)

/-- After a point: the projection of its tile, the state after the tile before it, the ends of that tile's rows, and that tile's rows of the result. -/
structure Inv (c : Dev nD) (n : ℕ) (hn : n < cfg0.N) : Prop where
  pe : n % 2 = 0 → ∀ (i : Fin 256) (j : Fin 4736), j.val < 4632 → ((outsAt0 m c n hn).2.2.1 (ix2 i j) : EReal) = (par m c).U (min n 127) i.val j.val
  po : n % 2 = 1 → ∀ (i : Fin 256) (j : Fin 4736), j.val < 4632 → ((outsAt0 m c n hn).2.2.2.1 (ix2 i j) : EReal) = (par m c).U (min n 127) i.val j.val
  st : 1 ≤ n → ∀ (g : Fin 4) (i : Fin 128) (j : Fin 384), ((outsAt0 m c n hn).2.1 (ix3 g i j) : EReal) = ((par m c).tile (n - 1)).st 4 i.val (384 * g.val + j.val)
  cv : 1 ≤ n → ∀ (i : Fin 8) (j : Fin 2560), ((outsAt0 m c n hn).2.2.2.2.1 (ix2 i j) : EReal) = (par m c).U (n - 1) (248 + i.val) (2048 + j.val)
  pl : 1 ≤ n → ∀ (i : Fin 16) (j : Fin 512), ((outsAt0 m c n hn).2.2.2.2.2 (ix2 i j) : EReal) = (par m c).U (n - 1) (240 + i.val) j.val
  out : 1 ≤ n → ∀ (r : Fin 256) (j : Fin 1024), ((outsAt0 m c n hn).1 (ix2 r j) : EReal)
    = (par m c).x ((n - 1) / 16) ((n - 1) % 16 * 256 + r.val) j.val + (par m c).ga ((n - 1) / 16) j.val * ((par m c).tile (n - 1)).mix r.val j.val

theorem prev_lt (t : Fin cfg0.N) : t.val - 1 < cfg0.N := Nat.lt_of_le_of_lt (Nat.sub_le _ _) t.isLt

theorem inv_A (c : Dev nD) (t : Fin cfg0.N) (h0 : t.val % 129 = 0) (h1 : (t.val % 129 = 0 ∨ t.val % 129 = 1 ∨ t.val % 129 = 17 ∨ t.val % 129 = 33 ∨ t.val % 129 = 49 ∨ t.val % 129 = 65 ∨ t.val % 129 = 81 ∨ t.val % 129 = 97 ∨ t.val % 129 = 113)) (h2 : t.val % 2 = 0) (h3 : ¬t.val % 2 = 1) : Inv m c t.val t.isLt := by
  have hN := lt129 t
  have z : ¬ 1 ≤ t.val := by omega
  exact ⟨fun _ i j hj => by
      refine (congrFun (congrArg (·.2.2.1) (outsAt0_A m c t h0 h1 h2 h3)) _).trans ?_
      dsimp only
      exact (CaseA.proj_ends _ _ _ _ (fun r k => (par m c).x (min t.val 127 / 16) (min t.val 127 % 16 * 256 + r) k) (par m c).g ((par m c).sc (min t.val 127 / 16)) ((par m c).sh (min t.val 127 / 16)) (par m c).w
      (fun r k _ _ => blk0 m c t r k) (fun i k _ _ => blk5 m c t i k) (fun i j k => blk2 m c t i j k) (fun i j k => blk3 m c t i j k) (fun k u _ _ => blk6 m c t k u) i j hj),
    fun h => absurd h h3, fun h => absurd h z, fun h => absurd h z, fun h => absurd h z, fun h => absurd h z⟩

theorem inv_B (c : Dev nD) (ok : (par m c).Ok) (t : Fin cfg0.N) (h0 : ¬t.val % 129 = 0) (h1 : (t.val % 129 = 0 ∨ t.val % 129 = 1 ∨ t.val % 129 = 17 ∨ t.val % 129 = 33 ∨ t.val % 129 = 49 ∨ t.val % 129 = 65 ∨ t.val % 129 = 81 ∨ t.val % 129 = 97 ∨ t.val % 129 = 113)) (h2 : ¬t.val % 2 = 0) (h3 : t.val % 2 = 1)
    (ih : Inv m c (t.val - 1) (prev_lt t)) : Inv m c t.val t.isLt := by
  have hN := lt129 t
  have R := reads m c ok t ((par m c).tile (t.val - 1)) rfl (outsAt0 m c (t.val - 1) (prev_lt t)).2.2.1 fun i j hj => by
    have e := ih.pe (by omega) i j hj
    rwa [show min (t.val - 1) 127 = t.val - 1 by omega] at e
  have hn : (t.val - 1) % 16 = 0 := by
    rw [Nat.mod_eq_of_lt hN] at h1
    omega
  have hH : ∀ q u, ((par m c).tile (t.val - 1)).H q u = 0 := fun q u => Par.tile_H0 hn q u
  have hG : ∀ q u, ((par m c).tile (t.val - 1)).G q u = 0 := fun q u => Par.tile_G0 hn q u
  have hS : ∀ i u, ((par m c).tile (t.val - 1)).S i u = 0 := fun i u => Par.S_first hn i u
  exact ⟨fun h => absurd h h2,
    fun _ i j hj => by
      refine (congrFun (congrArg (·.2.2.2.1) (outsAt0_B m c t h0 h1 h2 h3)) _).trans ?_
      dsimp only
      exact (CaseB.proj_ends _ _ _ _ (fun r k => (par m c).x (min t.val 127 / 16) (min t.val 127 % 16 * 256 + r) k) (par m c).g ((par m c).sc (min t.val 127 / 16)) ((par m c).sh (min t.val 127 / 16)) (par m c).w
      (fun r k _ _ => blk0 m c t r k) (fun i k _ _ => blk5 m c t i k) (fun i j k => blk2 m c t i j k) (fun i j k => blk3 m c t i j k) (fun k u _ _ => blk6 m c t k u) i j hj),
    fun _ g i j => by refine (congrFun (congrArg (·.2.1) (outsAt0_B m c t h0 h1 h2 h3)) _).trans ?_; dsimp only; exact (CaseB.st_ends _ _ _ _ R hH hS g i j),
    fun _ i j => by refine (congrFun (congrArg (·.2.2.2.2.1) (outsAt0_B m c t h0 h1 h2 h3)) _).trans ?_; dsimp only; exact ((CaseB.conv_ends _ _ _ _ R hH i j).trans (Par.tile_e _ _ _)),
    fun _ i j => by refine (congrFun (congrArg (·.2.2.2.2.2) (outsAt0_B m c t h0 h1 h2 h3)) _).trans ?_; dsimp only; exact ((CaseB.pool_ends _ _ _ _ R hG i j).trans (Par.tile_ep _ _ _)),
    fun _ r j => by refine (congrFun (congrArg (·.1) (outsAt0_B m c t h0 h1 h2 h3)) _).trans ?_; dsimp only; exact ((CaseB.out_ends _ _ _ _ R hH hG hS (fun r u => pos_B t r u) r j).trans (congrArg₂ (· + ·) (blk1 m c t r j) (congrArg (· * _) (blk4 m c t 0 0 j))))⟩

theorem inv_C (c : Dev nD) (ok : (par m c).Ok) (t : Fin cfg0.N) (h0 : ¬t.val % 129 = 0) (h1 : ¬(t.val % 129 = 0 ∨ t.val % 129 = 1 ∨ t.val % 129 = 17 ∨ t.val % 129 = 33 ∨ t.val % 129 = 49 ∨ t.val % 129 = 65 ∨ t.val % 129 = 81 ∨ t.val % 129 = 97 ∨ t.val % 129 = 113)) (h2 : t.val % 2 = 0) (h3 : ¬t.val % 2 = 1)
    (ih : Inv m c (t.val - 1) (prev_lt t)) : Inv m c t.val t.isLt := by
  have hN := lt129 t
  have R := reads m c ok t ((par m c).tile (t.val - 1)) rfl (outsAt0 m c (t.val - 1) (prev_lt t)).2.2.2.1 fun i j hj => by
    have e := ih.po (by omega) i j hj
    rwa [show min (t.val - 1) 127 = t.val - 1 by omega] at e
  have hn : ¬(t.val - 1) % 16 = 0 := by
    rw [Nat.mod_eq_of_lt hN] at h1
    omega
  have hp : 1 ≤ t.val - 1 := by omega
  have hH : ∀ (i : Fin 8) (j : Fin 2560), i.val < 8 → j.val < 2560 → (outsAt0 m c (t.val - 1) (prev_lt t)).2.2.2.2.1 (ix2 i j) = ((par m c).tile (t.val - 1)).H i.val j.val :=
    fun i j _ _ => (ih.cv hp i j).trans (Par.tile_H hn _ _).symm
  have hG : ∀ (i : Fin 16) (j : Fin 512), i.val < 16 → j.val < 512 → (outsAt0 m c (t.val - 1) (prev_lt t)).2.2.2.2.2 (ix2 i j) = ((par m c).tile (t.val - 1)).G i.val j.val :=
    fun i j _ _ => (ih.pl hp i j).trans (Par.tile_G hn _ _).symm
  have hS : ∀ (i : Fin 4) (j : Fin 128) (k : Fin 384), (outsAt0 m c (t.val - 1) (prev_lt t)).2.1 (ix3 i j k) = ((par m c).tile (t.val - 1)).S j.val (384 * i.val + k.val) :=
    fun i j k => (ih.st hp i j k).trans (Par.tile_S hn _ _).symm
  exact ⟨fun _ i j hj => by
      refine (congrFun (congrArg (·.2.2.1) (outsAt0_C m c t h0 h1 h2 h3)) _).trans ?_
      dsimp only
      exact (CaseC.proj_ends _ _ _ _ (fun r k => (par m c).x (min t.val 127 / 16) (min t.val 127 % 16 * 256 + r) k) (par m c).g ((par m c).sc (min t.val 127 / 16)) ((par m c).sh (min t.val 127 / 16)) (par m c).w
      (fun r k _ _ => blk0 m c t r k) (fun i k _ _ => blk5 m c t i k) (fun i j k => blk2 m c t i j k) (fun i j k => blk3 m c t i j k) (fun k u _ _ => blk6 m c t k u) i j hj),
    fun h => absurd h h3,
    fun _ g i j => by refine (congrFun (congrArg (·.2.1) (outsAt0_C m c t h0 h1 h2 h3)) _).trans ?_; dsimp only; exact (CaseC.st_ends _ _ _ _ R hH hS g i j),
    fun _ i j => by refine (congrFun (congrArg (·.2.2.2.2.1) (outsAt0_C m c t h0 h1 h2 h3)) _).trans ?_; dsimp only; exact ((CaseC.conv_ends _ _ _ _ R hH i j).trans (Par.tile_e _ _ _)),
    fun _ i j => by refine (congrFun (congrArg (·.2.2.2.2.2) (outsAt0_C m c t h0 h1 h2 h3)) _).trans ?_; dsimp only; exact ((CaseC.pool_ends _ _ _ _ R hG i j).trans (Par.tile_ep _ _ _)),
    fun _ r j => by refine (congrFun (congrArg (·.1) (outsAt0_C m c t h0 h1 h2 h3)) _).trans ?_; dsimp only; exact ((CaseC.out_ends _ _ _ _ R hH hG hS (fun r u => pos_C t r u) r j).trans (congrArg₂ (· + ·) (blk1 m c t r j) (congrArg (· * _) (blk4 m c t 0 0 j))))⟩

theorem inv_D (c : Dev nD) (ok : (par m c).Ok) (t : Fin cfg0.N) (h0 : ¬t.val % 129 = 0) (h1 : ¬(t.val % 129 = 0 ∨ t.val % 129 = 1 ∨ t.val % 129 = 17 ∨ t.val % 129 = 33 ∨ t.val % 129 = 49 ∨ t.val % 129 = 65 ∨ t.val % 129 = 81 ∨ t.val % 129 = 97 ∨ t.val % 129 = 113)) (h2 : ¬t.val % 2 = 0) (h3 : t.val % 2 = 1)
    (ih : Inv m c (t.val - 1) (prev_lt t)) : Inv m c t.val t.isLt := by
  have hN := lt129 t
  have R := reads m c ok t ((par m c).tile (t.val - 1)) rfl (outsAt0 m c (t.val - 1) (prev_lt t)).2.2.1 fun i j hj => by
    have e := ih.pe (by omega) i j hj
    rwa [show min (t.val - 1) 127 = t.val - 1 by omega] at e
  have hn : ¬(t.val - 1) % 16 = 0 := by
    rw [Nat.mod_eq_of_lt hN] at h1
    omega
  have hp : 1 ≤ t.val - 1 := by omega
  have hH : ∀ (i : Fin 8) (j : Fin 2560), i.val < 8 → j.val < 2560 → (outsAt0 m c (t.val - 1) (prev_lt t)).2.2.2.2.1 (ix2 i j) = ((par m c).tile (t.val - 1)).H i.val j.val :=
    fun i j _ _ => (ih.cv hp i j).trans (Par.tile_H hn _ _).symm
  have hG : ∀ (i : Fin 16) (j : Fin 512), i.val < 16 → j.val < 512 → (outsAt0 m c (t.val - 1) (prev_lt t)).2.2.2.2.2 (ix2 i j) = ((par m c).tile (t.val - 1)).G i.val j.val :=
    fun i j _ _ => (ih.pl hp i j).trans (Par.tile_G hn _ _).symm
  have hS : ∀ (i : Fin 4) (j : Fin 128) (k : Fin 384), (outsAt0 m c (t.val - 1) (prev_lt t)).2.1 (ix3 i j k) = ((par m c).tile (t.val - 1)).S j.val (384 * i.val + k.val) :=
    fun i j k => (ih.st hp i j k).trans (Par.tile_S hn _ _).symm
  exact ⟨fun h => absurd h h2,
    fun _ i j hj => by
      refine (congrFun (congrArg (·.2.2.2.1) (outsAt0_D m c t h0 h1 h2 h3)) _).trans ?_
      dsimp only
      exact (CaseD.proj_ends _ _ _ _ (fun r k => (par m c).x (min t.val 127 / 16) (min t.val 127 % 16 * 256 + r) k) (par m c).g ((par m c).sc (min t.val 127 / 16)) ((par m c).sh (min t.val 127 / 16)) (par m c).w
      (fun r k _ _ => blk0 m c t r k) (fun i k _ _ => blk5 m c t i k) (fun i j k => blk2 m c t i j k) (fun i j k => blk3 m c t i j k) (fun k u _ _ => blk6 m c t k u) i j hj),
    fun _ g i j => by refine (congrFun (congrArg (·.2.1) (outsAt0_D m c t h0 h1 h2 h3)) _).trans ?_; dsimp only; exact (CaseD.st_ends _ _ _ _ R hH hS g i j),
    fun _ i j => by refine (congrFun (congrArg (·.2.2.2.2.1) (outsAt0_D m c t h0 h1 h2 h3)) _).trans ?_; dsimp only; exact ((CaseD.conv_ends _ _ _ _ R hH i j).trans (Par.tile_e _ _ _)),
    fun _ i j => by refine (congrFun (congrArg (·.2.2.2.2.2) (outsAt0_D m c t h0 h1 h2 h3)) _).trans ?_; dsimp only; exact ((CaseD.pool_ends _ _ _ _ R hG i j).trans (Par.tile_ep _ _ _)),
    fun _ r j => by refine (congrFun (congrArg (·.1) (outsAt0_D m c t h0 h1 h2 h3)) _).trans ?_; dsimp only; exact ((CaseD.out_ends _ _ _ _ R hH hG hS (fun r u => pos_D t r u) r j).trans (congrArg₂ (· + ·) (blk1 m c t r j) (congrArg (· * _) (blk4 m c t 0 0 j))))⟩

theorem inv (c : Dev nD) (ok : (par m c).Ok) : ∀ (n : ℕ) (hn : n < cfg0.N), Inv m c n hn := by
  intro n
  induction n with
  | zero => exact fun hn => inv_A m c ⟨0, hn⟩ (by show 0 % 129 = 0; decide) (Or.inl (by show 0 % 129 = 0; decide)) (by show 0 % 2 = 0; decide) (by show ¬0 % 2 = 1; decide)
  | succ n ih =>
    intro hn
    have hN : n + 1 < 129 := lt_of_lt_of_eq hn N_0
    have ih' : Inv m c ((⟨n + 1, hn⟩ : Fin cfg0.N).val - 1) (prev_lt ⟨n + 1, hn⟩) := ih (Nat.lt_of_succ_lt hn)
    have h0 : ¬(n + 1) % 129 = 0 := by omega
    by_cases h2 : (n + 1) % 2 = 0
    · exact inv_C m c ok ⟨n + 1, hn⟩ h0 (by dsimp only; rw [Nat.mod_eq_of_lt hN]; omega) h2 (by dsimp only; omega) ih'
    · by_cases h1 : n % 16 = 0
      · exact inv_B m c ok ⟨n + 1, hn⟩ h0 (by dsimp only; rw [Nat.mod_eq_of_lt hN]; omega) h2 (by dsimp only; omega) ih'
      · exact inv_D m c ok ⟨n + 1, hn⟩ h0 (by dsimp only; rw [Nat.mod_eq_of_lt hN]; omega) h2 (by dsimp only; omega) ih'

end Cert.MixerIdeal.Value
-- ==== Proof.MixOut.lean ====
/-
  The mixer's result, index by index, in terms of the arrays the call is launched on (untrusted).
-/
module

public import proofs.«01_k».proof.Proof.MixInv
public import proofs.«01_k».proof.Proof.Gen.MixerIdeal.Value

@[expose] public section

set_option maxRecDepth 16384

noncomputable section

namespace Cert.MixerIdeal.Value

open Cert.MixerIdeal Cert.MixerIdeal.Gen Idealize.ShloMosaic Idealize.ShloMosaic.TcCoe Idealize.SL.Sem
open Cert.Layer

variable (m : (ℓ : Loc nD τ sig) → Buf (Elt Ideal) ℓ) (ρ : Dev nD → PrngReg)

theorem flush_pos : ∀ t : Fin cfg0.N, (cfg0.win 17).flush t = true ↔ 1 ≤ t.val :=
  (by decide +kernel : ∀ t : Fin grid0.N, win0_17.flush t = true ↔ 1 ≤ t.val)

/-- Row `R` of the result, its column `j`: the row's tile is the one it lies in. -/
def res (c : Dev nD) (R j : ℕ) : EReal :=
  (par m c).x (R / 4096) (R % 4096) j + (par m c).ga (R / 4096) j * ((par m c).tile (R / 256)).mix (R % 256) j

/-- The whole result. -/
def G17 (c : Dev nD) : Buf (Elt Ideal) ((c : Thread nD τ).loc main_v32) := fun i => res m c (i 0).val (i 1).val

theorem mem_blk (t : Fin cfg0.N) (i : S32768x1024.Idx) :
    i ∈ ((cfg0.win 17).blk t).view.set ↔ ∀ a : Fin 2, win0_17.index t a * S256x1024.size a ≤ (i a).val ∧ (i a).val < win0_17.index t a * S256x1024.size a + S256x1024.size a := by
  show i ∈ ((View.whole main_v32).slice (win0_17.rect t)).set ↔ _
  rw [View.set_slice_whole, Rect.mem_set_unit]
  exact Iff.rfl

theorem final (c : Dev nD) (ok : (par m c).Ok) : (dats m 0 c).arrAt 17 cfg0.N = G17 m c := by
  refine (dats m 0 c).arrAt_eq_of_cover 17 _ (fun t hf => ?_) (fun i => ?_)
  · have h1 := (flush_pos t).1 hf
    have hN := lt129 t
    rw [flushed17]
    funext y
    have hy : (cfg0.win 17).xinj (grid0.coords t) y = ix2 (⟨(y 0).val, (y 0).isLt⟩ : Fin 256) (⟨(y 1).val, (y 1).isLt⟩ : Fin 1024) := by
      funext a; match a with | ⟨0, _⟩ => rfl | ⟨1, _⟩ => rfl
    have hy' : y = ix2 (⟨(y 0).val, (y 0).isLt⟩ : Fin 256) (⟨(y 1).val, (y 1).isLt⟩ : Fin 1024) := by
      funext a; match a with | ⟨0, _⟩ => rfl | ⟨1, _⟩ => rfl
    have hr : (y 0).val < 256 := (y 0).isLt
    have e := emb17 t (⟨(y 0).val, (y 0).isLt⟩ : Fin 256) (⟨(y 1).val, (y 1).isLt⟩ : Fin 1024)
    show (outsAt0 m c t.val t.isLt).1 ((cfg0.win 17).xinj (grid0.coords t) y) = G17 m c (((cfg0.win 17).blk t).view.emb y)
    rw [hy]
    refine ((inv m c ok t.val t.isLt).out h1 _ _).trans ?_
    refine Eq.trans ?_ (congrArg (G17 m c) ((congrArg ((win0_17.blk t).view.emb) hy').trans e)).symm
    show _ = res m c ((t.val - 1) * 256 + (y 0).val) (y 1).val
    unfold res
    rw [show ((t.val - 1) * 256 + (y 0).val) / 4096 = (t.val - 1) / 16 by omega, show ((t.val - 1) * 256 + (y 0).val) % 4096 = (t.val - 1) % 16 * 256 + (y 0).val by omega,
      show ((t.val - 1) * 256 + (y 0).val) / 256 = t.val - 1 by omega, show ((t.val - 1) * 256 + (y 0).val) % 256 = (y 0).val by omega]
  · have hi0 : (i 0).val < 32768 := (i 0).isLt
    have hi1 : (i 1).val < 1024 := (i 1).isLt
    have hlt : (i 0).val / 256 + 1 < cfg0.N := lt_of_lt_of_eq (by omega) N_0.symm
    obtain ⟨_, _, _, _, _, h3⟩ := idxA ⟨(i 0).val / 256 + 1, hlt⟩
    refine ⟨⟨(i 0).val / 256 + 1, hlt⟩, (flush_pos _).2 (Nat.le_add_left _ _), (mem_blk _ i).2 fun a => ?_⟩
    rw [h3]
    match a with
    | ⟨0, _⟩ => show ((i 0).val / 256 + 1 - 1) * 256 ≤ (i 0).val ∧ (i 0).val < ((i 0).val / 256 + 1 - 1) * 256 + 256; omega
    | ⟨1, _⟩ => show 0 * 1024 ≤ (i 1).val ∧ (i 1).val < 0 * 1024 + 1024; omega

end Cert.MixerIdeal.Value
-- ==== Proof.MixGlob.lean ====
/-
  The mixer over a whole sequence, row by row and chunk by chunk, and that its tiles compute it (untrusted).
-/
module

public import proofs.«01_k».proof.Proof.MixPar

@[expose] public section

set_option maxRecDepth 16384

noncomputable section

namespace Cert.MixerIdeal.Value.Par

open Cert.MixerIdeal Cert.MixerIdeal.Gen Idealize.ShloMosaic Idealize.ShloMosaic.TcCoe Idealize.SL.Sem
open Cert.Layer

variable (P : Par)

/-- The running sum of a column of the projection. -/
def cum (b s c : ℕ) : EReal := ∑ k ∈ Finset.range (s + 1), P.row b k c
/-- The running sum delayed by `w` rows. -/
def padc (w b q c : ℕ) : EReal := if w ≤ q then P.cum b (q - w) c else 0
/-- The sum of the last `w` rows. -/
def bk (w b s c : ℕ) : EReal := back (fun t => P.row b t c) s (min w (s + 1))
def avg (w b s c : ℕ) : EReal := Ideal.div (P.bk w b s c) (cnt w s)
def dif (b s c : ℕ) : EReal := P.avg (2 ^ (c / 128 + 1)) b s c - P.row b s c
def pl (b s c : ℕ) : EReal := ∑ k : Fin 128, P.wp (c / 128) k.val (c % 128) * P.dif b s (c / 128 * 128 + k.val)
/-- The pooled part of the mixed row. -/
def gpool (b s c : ℕ) : EReal := P.pl b s c * P.ps c
/-- The convolution's input: three rows of zeros, then the sequence. -/
def past (b q c : ℕ) : EReal := if 3 ≤ q then P.row b (q - 3) (2048 + c) else 0
def cv (b s c : ℕ) : EReal :=
  conv (P.cw 0 c) (P.cw 1 c) (P.cw 2 c) (P.cw 3 c) (P.cb c) (P.past b s c) (P.past b (s + 1) c) (P.past b (s + 2) c) (P.past b (s + 3) c)
def gact (b s c : ℕ) : EReal := silu (P.cv b s c)
def gdt (b s h : ℕ) : EReal := sp (P.row b s (4608 + h) + P.dtb h)
def gda (b s h : ℕ) : EReal := P.gdt b s h * -(Ideal.exp (P.al h))
/-- The log-decay from the start of chunk `k`. -/
def gacs (b k l h : ℕ) : EReal := ∑ i ∈ Finset.range (l + 1), P.gda b (64 * k + i) h
def xd (b s c : ℕ) : EReal := P.gact b s c * P.gdt b s (c / 64)
def gcb (b k l m g : ℕ) : EReal := ∑ n : Fin 128, P.gact b (64 * k + l) (2048 + (128 * g + n.val)) * P.gact b (64 * k + m) (1536 + (128 * g + n.val))
def dec (b k l m h : ℕ) : EReal := Ideal.exp (if m ≤ l then P.gacs b k l h - P.gacs b k m h else ⊥)
/-- The part of a row's output from its own chunk. -/
def diag (b k l c : ℕ) : EReal := ∑ m : Fin 64, P.xd b (64 * k + m.val) c * (P.gcb b k l m.val (c / 384) * P.dec b k l m.val (c / 64))
/-- What a chunk adds to the state. -/
def cst (b z n c : ℕ) : EReal :=
  ∑ m : Fin 64, P.xd b (64 * z + m.val) c * Ideal.exp (P.gacs b z 63 (c / 64) - P.gacs b z m.val (c / 64)) * P.gact b (64 * z + m.val) (1536 + (128 * (c / 384) + n))
def tot (b z h : ℕ) : EReal := P.gacs b z 63 h
def ctot (b k h : ℕ) : EReal := ∑ z ∈ Finset.range (k + 1), P.tot b z h
def dech (b k z h : ℕ) : EReal := Ideal.exp (if z < k then P.ctot b k h - P.tot b k h - P.ctot b z h else ⊥)
/-- The state entering chunk `k`. -/
def prev (b k n c : ℕ) : EReal := ∑ z : Fin 64, P.cst b z.val n c * P.dech b k z.val (c / 64)
def off (b k l c : ℕ) : EReal :=
  (∑ n : Fin 128, P.prev b k n.val c * P.gact b (64 * k + l) (2048 + (128 * (c / 384) + n.val))) * Ideal.exp (P.gacs b k l (c / 64))
def gy (b s c : ℕ) : EReal := P.diag b (s / 64) (s % 64) c + P.off b (s / 64) (s % 64) c + P.dsk c * P.gact b s c
def ggt (b s c : ℕ) : EReal := P.gy b s c * silu (P.row b s (512 + c))
def nrm (b s c : ℕ) : EReal := P.ggt b s c * ginv (fun k => P.ggt b s (384 * (c / 384) + k.val))
def gcat (b s k : ℕ) : EReal := if k < 512 then P.gpool b s k else P.nrm b s (k - 512) * P.ng (k - 512)
def gmix (b s j : ℕ) : EReal := ∑ k : Fin 2048, P.gcat b s k.val * P.wo k.val j
/-- The layer's rows after the mixer. -/
def gres (R j : ℕ) : EReal := P.x (R / 4096) (R % 4096) j + P.ga (R / 4096) j * P.gmix (R / 4096) (R % 4096) j

variable {P}

theorem Ok.past (h : P.Ok) (b q c : ℕ) : Fin' (P.past b q c) := by
  unfold Par.past; split
  · exact h.row _ _ _
  · exact Fin'.zero
theorem Ok.gact (h : P.Ok) (b s c : ℕ) : Fin' (P.gact b s c) :=
  silu_real (conv_real (h.cw _ _) (h.cw _ _) (h.cw _ _) (h.cw _ _) (h.cb _) (h.past _ _ _) (h.past _ _ _) (h.past _ _ _) (h.past _ _ _))
theorem Ok.pre (h : P.Ok) (b s i : ℕ) : Fin' (P.row b s (4608 + i) + P.dtb i) := (h.row _ _ _).add (h.dtb _)
theorem Ok.gdt (h : P.Ok) (b s i : ℕ) : Fin' (P.gdt b s i) := sp_real (h.pre _ _ _)
/-- A head's log-decays are all real, or all minus infinity. -/
theorem Ok.gda (h : P.Ok) (i : ℕ) : (∀ b s, Fin' (P.gda b s i)) ∨ ∀ b s, P.gda b s i = ⊥ :=
  (decay_cases (P.al i)).imp (fun e _ _ => (h.gdt _ _ _).mul e) fun e _ _ => e _ (h.pre _ _ _)
theorem Ok.gacs (h : P.Ok) (i : ℕ) : (∀ b k l, Fin' (P.gacs b k l i)) ∨ ∀ b k l, P.gacs b k l i = ⊥ :=
  (h.gda i).imp (fun e _ _ _ => Fin'.sum _ _ fun _ _ => e _ _) fun e b k l => by
    unfold Par.gacs
    rw [Finset.sum_range_succ, e, EReal.add_bot]
theorem Ok.xd (h : P.Ok) (b s c : ℕ) : Fin' (P.xd b s c) := (h.gact _ _ _).mul (h.gdt _ _ _)
theorem Ok.cst (h : P.Ok) (b z n c : ℕ) (hg : ∀ b k l, Fin' (P.gacs b k l (c / 64))) : Fin' (P.cst b z n c) :=
  Fin'.sum _ _ fun _ _ => ((h.xd _ _ _).mul ((hg _ _ _).sub (hg _ _ _)).exp).mul (h.gact _ _ _)
theorem exp_bot : Ideal.exp (⊥ : EReal) = 0 := rfl
/-- A head that decays at once keeps nothing. -/
theorem cst_bot (b z n c : ℕ) (hg : ∀ b k l, P.gacs b k l (c / 64) = ⊥) : P.cst b z n c = 0 := by
  unfold cst
  refine Finset.sum_eq_zero fun m _ => ?_
  rw [hg, hg, EReal.bot_sub, exp_bot, mul_zero, zero_mul]
theorem carry_zero (e : ℕ → EReal) : ∀ k, carry (fun _ => 0) e k = 0
  | 0 => rfl
  | k + 1 => by show carry (fun _ => 0) e k * _ + 0 = 0; rw [carry_zero e k, zero_mul, add_zero]

/-! ## A tile's rows -/

theorem t_e (n r i c : ℕ) (hi : i ≤ 3) (hr : r < 256) : (P.tile n).e (5 + i + r) c = P.past (n / 16) (n % 16 * 256 + r + i) c := by
  unfold Tile.e past
  by_cases h : 5 + i + r < 8
  · rw [if_pos h]
    by_cases h0 : n % 16 = 0
    · rw [tile_H0 h0, if_neg (by omega)]
    · rw [tile_H h0, if_pos (by omega)]
      unfold U
      rw [show (n - 1) / 16 = n / 16 by omega, show (n - 1) % 16 * 256 + (248 + (5 + i + r)) = n % 16 * 256 + r + i - 3 by omega]
  · rw [if_neg h, if_pos (by omega)]
    show P.row (n / 16) (n % 16 * 256 + (5 + i + r - 8)) (2048 + c) = _
    rw [show n % 16 * 256 + (5 + i + r - 8) = n % 16 * 256 + r + i - 3 by omega]

theorem t_act (n r c : ℕ) (hr : r < 256) : (P.tile n).act r c = P.gact (n / 16) (n % 16 * 256 + r) c := by
  have e0 := t_e (P := P) n r 0 c (by omega) hr
  have e1 := t_e (P := P) n r 1 c (by omega) hr
  have e2 := t_e (P := P) n r 2 c (by omega) hr
  have e3 := t_e (P := P) n r 3 c (by omega) hr
  rw [show 5 + 0 + r = 5 + r by omega, show n % 16 * 256 + r + 0 = n % 16 * 256 + r by omega] at e0
  rw [show 5 + 1 + r = 6 + r by omega] at e1
  rw [show 5 + 2 + r = 7 + r by omega] at e2
  rw [show 5 + 3 + r = 8 + r by omega] at e3
  unfold Tile.act gact cv
  rw [e0, e1, e2, e3]
  rfl

theorem t_dt (n r h : ℕ) : (P.tile n).dt r h = P.gdt (n / 16) (n % 16 * 256 + r) h := rfl
theorem t_da (n r h : ℕ) : (P.tile n).da h r = P.gda (n / 16) (n % 16 * 256 + r) h := rfl

theorem t_acs (n r h : ℕ) (hr : r < 256) : (P.tile n).acs r h = P.gacs (n / 16) (n % 16 * 4 + r / 64) (r % 64) h := by
  unfold Tile.acs back gacs
  rw [← Finset.sum_range_reflect]
  refine Finset.sum_congr rfl fun j hj => ?_
  rw [Finset.mem_range] at hj
  rw [t_da, show n % 16 * 256 + (r - (r % 64 + 1 - 1 - j)) = 64 * (n % 16 * 4 + r / 64) + j by omega]

/-- A tile's chunk row in the sequence. -/
theorem crow (n k l : ℕ) : n % 16 * 256 + (64 * k + l) = 64 * (n % 16 * 4 + k) + l := by omega

theorem t_acs' (n k l h : ℕ) (hk : k < 4) (hl : l < 64) : (P.tile n).acs (64 * k + l) h = P.gacs (n / 16) (n % 16 * 4 + k) l h := by
  rw [t_acs n _ h (by omega), show (64 * k + l) / 64 = k by omega, show (64 * k + l) % 64 = l by omega]

/-- The decay between two rows, with the step of the earlier one. -/
theorem t_dec (h : P.Ok) (n k l m i : ℕ) (hk : k < 4) (hl : l < 64) (hm : m < 64) :
    Ideal.exp ((P.tile n).acs (64 * k + l) i - (P.tile n).q (64 * k + m) i)
      = Ideal.exp (P.gacs (n / 16) (n % 16 * 4 + k) l i - P.gacs (n / 16) (n % 16 * 4 + k) m i) * P.gdt (n / 16) (64 * (n % 16 * 4 + k) + m) i := by
  unfold Tile.q
  rw [t_acs' n k l i hk hl, t_acs' n k m i hk hm, t_dt, crow]
  rcases h.gacs i with hg | hg
  · exact exp_sub_log (hg _ _ _) (hg _ _ _) (h.pre _ _ _)
  · rw [hg, hg, EReal.bot_sub, EReal.bot_sub, exp_bot, zero_mul]

theorem t_w (h : P.Ok) (n k l m c : ℕ) (hk : k < 4) (hl : l < 64) (hm : m < 64) :
    (P.tile n).w (64 * k + l) (64 * k + m) c
      = P.gcb (n / 16) (n % 16 * 4 + k) l m (c / 384) * (P.dec (n / 16) (n % 16 * 4 + k) l m (c / 64) * P.gdt (n / 16) (64 * (n % 16 * 4 + k) + m) (c / 64)) := by
  unfold Tile.w gcb dec
  congr 1
  · refine Finset.sum_congr rfl fun j _ => ?_
    rw [t_act n _ _ (by omega), t_act n _ _ (by omega), crow, crow, Nat.add_assoc, Nat.add_assoc]
  · rw [show (64 * k + m) % 64 = m by omega, show (64 * k + l) % 64 = l by omega]
    by_cases hml : m ≤ l
    · rw [if_pos hml, if_pos hml]
      exact t_dec h n k l m _ hk hl hm
    · rw [if_neg hml, if_neg hml, exp_bot, zero_mul]

theorem t_intra (h : P.Ok) (n k l c : ℕ) (hk : k < 4) (hl : l < 64) : (P.tile n).intra k l c = P.diag (n / 16) (n % 16 * 4 + k) l c := by
  unfold Tile.intra diag
  refine Finset.sum_congr rfl fun m _ => ?_
  rw [t_w h n k l m.val c hk hl m.isLt, t_act n _ _ (by have := m.isLt; omega), crow]
  unfold xd
  generalize P.gcb _ _ _ _ _ = A
  generalize P.dec _ _ _ _ _ = B
  generalize P.gdt _ _ _ = D
  generalize P.gact _ _ _ = X
  rw [mul_comm _ X, ← mul_assoc A B D, mul_comm (A * B) D, mul_assoc X D]

theorem t_inc (h : P.Ok) (n k i c : ℕ) (hk : k < 4) : (P.tile n).inc k i c = P.cst (n / 16) (n % 16 * 4 + k) i c := by
  unfold Tile.inc cst
  refine Finset.sum_congr rfl fun m _ => ?_
  rw [t_dec h n k 63 m.val _ hk (by omega) m.isLt, t_act n _ _ (by have := m.isLt; omega), t_act n _ _ (by have := m.isLt; omega), crow, Nat.add_assoc]
  unfold xd
  generalize Ideal.exp _ = B
  generalize P.gdt _ _ _ = D
  generalize P.gact _ _ c = X
  generalize P.gact _ _ _ = Y
  rw [mul_comm Y, mul_comm B D, ← mul_assoc X D B]

/-! ## The carried state -/

theorem st_of (h : P.Ok) (n i c : ℕ) (hS : P.S n i c = carry (fun z => P.cst (n / 16) z i c) (fun z => P.tot (n / 16) z (c / 64)) (n % 16 * 4)) :
    ∀ k, k ≤ 4 → (P.tile n).st k i c = carry (fun z => P.cst (n / 16) z i c) (fun z => P.tot (n / 16) z (c / 64)) (n % 16 * 4 + k)
  | 0, _ => hS
  | k + 1, hk => by
    show (P.tile n).st k i c * Ideal.exp ((P.tile n).acs (64 * k + 63) (c / 64)) + (P.tile n).inc k i c = _
    rw [st_of h n i c hS k (by omega), t_acs' n k 63 _ (by omega) (by omega), t_inc h n k i c (by omega)]
    rfl

theorem S_eq (h : P.Ok) (i c : ℕ) : ∀ n, P.S n i c = carry (fun z => P.cst (n / 16) z i c) (fun z => P.tot (n / 16) z (c / 64)) (n % 16 * 4)
  | 0 => rfl
  | n + 1 => by
    by_cases h0 : (n + 1) % 16 = 0
    · rw [S_first h0, h0]; rfl
    · rw [S_next h0, st_of h n i c (S_eq h i c n) 4 le_rfl, show (n + 1) / 16 = n / 16 by omega, show (n + 1) % 16 * 4 = n % 16 * 4 + 4 by omega]

theorem prev_eq (h : P.Ok) (b k n c : ℕ) (hk : k < 64) : carry (fun z => P.cst b z n c) (fun z => P.tot b z (c / 64)) k = P.prev b k n c := by
  rcases h.gacs (c / 64) with hg | hg
  swap
  · rw [funext fun z => cst_bot (P := P) b z n c hg, carry_zero]
    exact (Finset.sum_eq_zero fun z _ => by rw [cst_bot (P := P) b z.val n c hg, zero_mul]).symm
  rw [carry_eq (S := fun z => P.cst b z n c) (e := fun z => P.tot b z (c / 64)) (fun _ => h.cst _ _ _ _ hg) (fun _ => hg _ _ _)]
  unfold prev
  rw [Fin.sum_univ_eq_sum_range (fun z => P.cst b z n c * P.dech b k z (c / 64)) 64]
  rw [← Finset.sum_subset (Finset.range_mono hk.le) (f := fun z => P.cst b z n c * P.dech b k z (c / 64))]
  · refine Finset.sum_congr rfl fun z hz => ?_
    rw [Finset.mem_range] at hz
    unfold dech
    rw [if_pos hz, mul_comm]
    rfl
  · intro z _ hz
    rw [Finset.mem_range] at hz
    unfold dech
    rw [if_neg hz, exp_bot, mul_zero]

theorem t_st (h : P.Ok) (n k i c : ℕ) (hk : k < 4) : (P.tile n).st k i c = P.prev (n / 16) (n % 16 * 4 + k) i c := by
  rw [st_of h n i c (S_eq h i c n) k (by omega), prev_eq h _ _ _ _ (by omega)]

/-! ## The output -/

theorem t_y (h : P.Ok) (n r c : ℕ) (hr : r < 256) : (P.tile n).y r c = P.gy (n / 16) (n % 16 * 256 + r) c := by
  unfold Tile.y gy
  rw [t_intra h n _ _ c (by omega) (by omega), t_act n r c hr, t_acs n r _ hr, show (n % 16 * 256 + r) / 64 = n % 16 * 4 + r / 64 by omega, show (n % 16 * 256 + r) % 64 = r % 64 by omega]
  have e : (∑ i : Fin 128, (P.tile n).act r (2048 + 128 * (c / 384) + i.val) * (P.tile n).st (r / 64) i.val c)
      = ∑ i : Fin 128, P.prev (n / 16) (n % 16 * 4 + r / 64) i.val c * P.gact (n / 16) (64 * (n % 16 * 4 + r / 64) + r % 64) (2048 + (128 * (c / 384) + i.val)) := by
    refine Finset.sum_congr rfl fun i _ => ?_
    rw [t_act n r _ hr, t_st h n _ i.val c (by omega), mul_comm, Nat.add_assoc, show n % 16 * 256 + r = 64 * (n % 16 * 4 + r / 64) + r % 64 by omega]
  rw [e]
  rfl

theorem t_gt (h : P.Ok) (n r c : ℕ) (hr : r < 256) : (P.tile n).gt r c = P.ggt (n / 16) (n % 16 * 256 + r) c := by
  unfold Tile.gt ggt
  rw [t_y h n r c hr]
  congr 1
  exact act_eq (h.row _ _ _)

theorem t_part (h : P.Ok) (n g r j : ℕ) (hr : r < 256) : (P.tile n).part g r j
    = ∑ k : Fin 384, (P.nrm (n / 16) (n % 16 * 256 + r) (384 * g + k.val) * P.ng (384 * g + k.val)) * P.wo (512 + (384 * g + k.val)) j := by
  unfold Tile.part nrm
  refine Finset.sum_congr rfl fun k _ => ?_
  have e : (fun k : Fin 384 => (P.tile n).gt r (384 * g + k.val)) = fun k : Fin 384 => P.ggt (n / 16) (n % 16 * 256 + r) (384 * g + k.val) := funext fun k => t_gt h n r _ hr
  rw [t_gt h n r _ hr, e, show (384 * g + k.val) / 384 = g by have := k.isLt; omega, Nat.add_assoc]
  rfl

theorem t_ep (n r j c : ℕ) (hr : r < 256) (hj : j < 16) : (P.tile n).ep (16 + r - j) c = if j ≤ n % 16 * 256 + r then P.row (n / 16) (n % 16 * 256 + r - j) c else 0 := by
  unfold Tile.ep
  by_cases hq : 16 + r - j < 16
  · rw [if_pos hq]
    by_cases h0 : n % 16 = 0
    · rw [tile_G0 h0, if_neg (by omega)]
    · rw [tile_G h0, if_pos (by omega)]
      unfold U
      rw [show (n - 1) / 16 = n / 16 by omega, show (n - 1) % 16 * 256 + (240 + (16 + r - j)) = n % 16 * 256 + r - j by omega]
  · rw [if_neg hq, if_pos (by omega)]
    show P.row (n / 16) (n % 16 * 256 + (16 + r - j - 16)) c = _
    rw [show n % 16 * 256 + (16 + r - j - 16) = n % 16 * 256 + r - j by omega]

theorem t_back (n r w c : ℕ) (hr : r < 256) (hw : w ≤ 16) : back (fun q => (P.tile n).ep q c) (16 + r) w = P.bk w (n / 16) (n % 16 * 256 + r) c := by
  unfold bk back
  rw [← Finset.sum_subset (Finset.range_mono (min_le_left w (n % 16 * 256 + r + 1))) (f := fun j => (P.tile n).ep (16 + r - j) c)]
  · refine Finset.sum_congr rfl fun j hj => ?_
    rw [Finset.mem_range] at hj
    rw [t_ep n r j c hr (by omega), if_pos (by omega)]
  · intro j hj hj'
    rw [Finset.mem_range] at hj hj'
    rw [t_ep n r j c hr (by omega), if_neg (by omega)]

theorem t_pool (n r c : ℕ) (hr : r < 256) (hc : c < 512) : (P.tile n).pool (2 ^ (c / 128 + 1)) r c = P.gpool (n / 16) (n % 16 * 256 + r) c := by
  have hw : 2 ^ (c / 128 + 1) ≤ 16 := (Nat.pow_le_pow_right (by omega) (show c / 128 + 1 ≤ 4 by omega)).trans (by norm_num)
  unfold Tile.pool gpool pl
  congr 1
  refine Finset.sum_congr rfl fun k _ => ?_
  have e0 := t_ep (P := P) n r 0 (c / 128 * 128 + k.val) hr (by omega)
  rw [if_pos (by omega), Nat.sub_zero, Nat.sub_zero] at e0
  rw [t_back n r _ _ hr hw, e0, mul_comm]
  unfold dif avg
  rw [show (c / 128 * 128 + k.val) / 128 = c / 128 by have := k.isLt; omega]
  rfl

theorem sum4 (F : ℕ → EReal) : (∑ k : Fin 2048, F k.val)
    = (∑ k : Fin 512, F k.val) + (∑ k : Fin 384, F (512 + (384 * 0 + k.val))) + (∑ k : Fin 384, F (512 + (384 * 1 + k.val)))
      + (∑ k : Fin 384, F (512 + (384 * 2 + k.val))) + (∑ k : Fin 384, F (512 + (384 * 3 + k.val))) := by
  rw [Fin.sum_univ_eq_sum_range F 2048, Fin.sum_univ_eq_sum_range F 512, Fin.sum_univ_eq_sum_range (fun k => F (512 + (384 * 0 + k))) 384,
    Fin.sum_univ_eq_sum_range (fun k => F (512 + (384 * 1 + k))) 384, Fin.sum_univ_eq_sum_range (fun k => F (512 + (384 * 2 + k))) 384,
    Fin.sum_univ_eq_sum_range (fun k => F (512 + (384 * 3 + k))) 384]
  rw [show 2048 = 512 + 384 + 384 + 384 + 384 by norm_num, Finset.sum_range_add, Finset.sum_range_add, Finset.sum_range_add, Finset.sum_range_add]
  simp only [Nat.add_assoc, Nat.mul_zero, Nat.zero_add, Nat.mul_one, ← Nat.add_assoc]

theorem t_mix (h : P.Ok) (n r j : ℕ) (hr : r < 256) : (P.tile n).mix r j = P.gmix (n / 16) (n % 16 * 256 + r) j := by
  unfold Tile.mix gmix
  rw [sum4 (fun k => P.gcat (n / 16) (n % 16 * 256 + r) k * P.wo k j), t_part h n 0 r j hr, t_part h n 1 r j hr, t_part h n 2 r j hr, t_part h n 3 r j hr]
  have ep : (∑ k : Fin 512, (P.tile n).pool (2 ^ (k.val / 128 + 1)) r k.val * (P.tile n).wo k.val j)
      = ∑ k : Fin 512, P.gcat (n / 16) (n % 16 * 256 + r) k.val * P.wo k.val j := by
    refine Finset.sum_congr rfl fun k _ => ?_
    rw [t_pool n r k.val hr k.isLt]
    unfold gcat
    rw [if_pos k.isLt]
    rfl
  have eg : ∀ g, (∑ k : Fin 384, (P.nrm (n / 16) (n % 16 * 256 + r) (384 * g + k.val) * P.ng (384 * g + k.val)) * P.wo (512 + (384 * g + k.val)) j)
      = ∑ k : Fin 384, P.gcat (n / 16) (n % 16 * 256 + r) (512 + (384 * g + k.val)) * P.wo (512 + (384 * g + k.val)) j := fun g => by
    refine Finset.sum_congr rfl fun k _ => ?_
    unfold gcat
    rw [if_neg (by omega), Nat.add_sub_cancel_left]
  rw [ep, eg 0, eg 1, eg 2, eg 3]

/-- The layer's rows, from the tiles. -/
theorem t_res (h : P.Ok) (R j : ℕ) :
    P.x (R / 4096) (R % 4096) j + P.ga (R / 4096) j * (P.tile (R / 256)).mix (R % 256) j = P.gres R j := by
  unfold gres
  rw [t_mix h _ _ _ (Nat.mod_lt _ (by omega)), show R / 256 / 16 = R / 4096 by omega, show R / 256 % 16 * 256 + R % 256 = R % 4096 by omega]

end Cert.MixerIdeal.Value.Par
-- ==== Proof.MixRef0.lean ====
/-
  The mixer's reference, read at an index: the running sums, the padding, and the projection (untrusted).
-/
module

public import proofs.«01_k».proof.Proof.Gen.MixerRefIdeal.Read
public import proofs.«01_k».proof.Proof.MixGlob
public import Idealize.ShloMosaic.Lib.Pointwise
public import Idealize.ShloMosaic.Lib.KernelVsHost

@[expose] public section

set_option maxRecDepth 16384

noncomputable section

namespace Cert.Layer

open Idealize.ShloMosaic
open scoped BigOperators

/-! ## Functions at equal numbers -/

theorem n1 {β : Type} (f : ℕ → β) {a a' : ℕ} (h0 : a = a') : f a = f a' := by rw [h0]
theorem n2 {β : Type} (f : ℕ → ℕ → β) {a a' b b' : ℕ} (h0 : a = a') (h1 : b = b') : f a b = f a' b' := by rw [h0, h1]
theorem n3 {β : Type} (f : ℕ → ℕ → ℕ → β) {a a' b b' c c' : ℕ} (h0 : a = a') (h1 : b = b') (h2 : c = c') : f a b c = f a' b' c' := by rw [h0, h1, h2]
theorem n4 {β : Type} (f : ℕ → ℕ → ℕ → ℕ → β) {a a' b b' c c' d d' : ℕ} (h0 : a = a') (h1 : b = b') (h2 : c = c') (h3 : d = d') : f a b c d = f a' b' c' d' := by
  rw [h0, h1, h2, h3]
theorem n5 {β : Type} (f : ℕ → ℕ → ℕ → ℕ → ℕ → β) {a a' b b' c c' d d' e e' : ℕ} (h0 : a = a') (h1 : b = b') (h2 : c = c') (h3 : d = d') (h4 : e = e') :
    f a b c d e = f a' b' c' d' e' := by rw [h0, h1, h2, h3, h4]

/-! ## A running sum along one axis -/

theorem foldl_add_sum {N : ℕ} (g : Fin N → EReal) : (List.finRange N).foldl (fun r n => r + g n) 0 = ∑ n, g n := by
  have h : ∀ (l : List (Fin N)) (v : EReal), l.foldl (fun r n => r + g n) v = v + (l.map g).sum := by
    intro l
    induction l with
    | nil => intro v; simp
    | cons a l ih => intro v; rw [List.foldl_cons, ih, List.map_cons, List.sum_cons, add_assoc]
  rw [h, zero_add, Fin.sum_univ_def]

/-- The entries of a window that reaches back to the start. -/
theorem window_sum (F : ℕ → EReal) (L J : ℕ) (hJ : J ≤ L) :
    (∑ t : Fin (L + 1), if L ≤ J + t.val then F (J + t.val - L) else 0) = ∑ i ∈ Finset.range (J + 1), F i := by
  rw [Fin.sum_univ_eq_sum_range (fun t => if L ≤ J + t then F (J + t - L) else 0) (L + 1), show L + 1 = (L - J) + (J + 1) by omega, Finset.sum_range_add]
  rw [Finset.sum_eq_zero (fun t ht => by rw [Finset.mem_range] at ht; exact if_neg (by omega)), zero_add]
  refine Finset.sum_congr rfl fun i _ => ?_
  rw [if_pos (by omega), show J + (L - J + i) - L = i by omega]

theorem cumsum_at {s u : Shape} (k : Fin s.rank) (L : ℕ) (window strides lo hi : Fin s.rank → ℕ) (hw : ∀ a, window a = if a = k then L + 1 else 1)
    (hs : ∀ a, strides a = 1) (hlo : ∀ a, lo a = if a = k then L else 0) (hk : s.size k = L + 1)
    (x : s.Idx → EReal) (init : u.Idx → EReal) (h : s.ReduceWindows window strides lo hi s) (hu : 0 < u.numel) (hinit : init (Shape.Idx.first hu) = 0)
    (j : s.Idx) (F : ℕ → EReal) (hx : ∀ i : s.Idx, (∀ a, a ≠ k → (i a).val = (j a).val) → x i = F (i k).val) :
    Host.reduceWindowAdd (F := Ideal) (φ := .f32) window strides lo hi x init h hu j = ∑ i ∈ Finset.range ((j k).val + 1), F i := by
  have hJ : (j k).val < L + 1 := lt_of_lt_of_eq (j k).isLt hk
  rw [← window_sum F L (j k).val (by omega)]
  show Host.reduceWindow (· + ·) window strides lo hi x (fun _ : (⟨0, ![]⟩ : Shape).Idx => init (Shape.Idx.first hu)) h (by decide) j = _
  unfold Host.reduceWindow
  dsimp only
  rw [hinit, foldl_add_sum]
  let W : Shape := ⟨s.rank, window⟩
  let f : W.Idx → Fin (L + 1) := fun p => ⟨(p k).val, lt_of_lt_of_eq (p k).isLt ((hw k).trans (if_pos rfl))⟩
  have hf : Function.Bijective f := by
    constructor
    · intro p q hpq
      funext a
      apply Fin.ext
      by_cases ha : a = k
      · subst ha
        have h2 : (f p).val = (f q).val := congrArg Fin.val hpq
        exact h2
      · have h1 : (p a).val < 1 := lt_of_lt_of_eq (p a).isLt ((hw a).trans (if_neg ha))
        have h2 : (q a).val < 1 := lt_of_lt_of_eq (q a).isLt ((hw a).trans (if_neg ha))
        omega
    · intro t
      refine ⟨fun a => ⟨if a = k then t.val else 0, ?_⟩, ?_⟩
      · show _ < window a
        rw [hw a]
        split
        · exact t.isLt
        · exact Nat.one_pos
      · apply Fin.ext
        show (if k = k then t.val else 0) = t.val
        rw [if_pos rfl]
  refine Fintype.sum_bijective (fun n => f (W.rowMajor.symm n)) (hf.comp W.rowMajor.symm.bijective) _ _ fun n => ?_
  let p : W.Idx := W.rowMajor.symm n
  have hp : ∀ a, a ≠ k → (p a).val = 0 := fun a ha => by
    have h1 : (p a).val < 1 := lt_of_lt_of_eq (p a).isLt ((hw a).trans (if_neg ha))
    omega
  show _ = if L ≤ (j k).val + (p k).val then F ((j k).val + (p k).val - L) else 0
  have hpk : (p k).val < L + 1 := (f p).isLt
  split
  · next hin =>
    have h0 : lo k ≤ (j k).val * strides k + (p k).val := (hin k).1
    rw [hlo k, if_pos rfl, hs k, Nat.mul_one] at h0
    rw [if_pos h0]
    refine (hx _ fun a ha => ?_).trans (congrArg F ?_)
    · show (j a).val * strides a + (p a).val - lo a = (j a).val
      rw [hs a, hp a ha, hlo a, if_neg ha, Nat.mul_one, Nat.add_zero, Nat.sub_zero]
    · show (j k).val * strides k + (p k).val - lo k = _
      rw [hs k, hlo k, if_pos rfl, Nat.mul_one]
  · next hin =>
    rw [if_neg fun hle => hin fun a => ?_]
    show lo a ≤ (j a).val * strides a + (p a).val ∧ (j a).val * strides a + (p a).val - lo a < s.size a
    by_cases ha : a = k
    · subst ha
      rw [hs a, hlo a, if_pos rfl, Nat.mul_one]
      exact ⟨hle, lt_of_lt_of_eq (by omega : (j a).val + (p a).val - L < L + 1) hk.symm⟩
    · rw [hs a, hlo a, if_neg ha, hp a ha, Nat.mul_one, Nat.add_zero, Nat.sub_zero]
      exact ⟨Nat.zero_le _, (j a).isLt⟩

/-! ## Rows of padding before a sequence -/

theorem pad_at {n0 n1 n2 w : ℕ} (x : (⟨3, ![n0, n1, n2]⟩ : Shape).Idx → EReal) {u : Shape} (v : u.Idx → EReal)
    (h : (⟨3, ![n0, n1, n2]⟩ : Shape).Pads ![0, w, 0] ![0, 0, 0] ![0, 0, 0] (⟨3, ![n0, n1 + w, n2]⟩ : Shape)) (hu : 0 < u.numel) (hv : v (Shape.Idx.first hu) = 0)
    (F : ℕ → ℕ → ℕ → EReal) (hx : ∀ i, x i = F (i 0).val (i 1).val (i 2).val) (j : (⟨3, ![n0, n1 + w, n2]⟩ : Shape).Idx) :
    pad (⟨3, ![n0, n1 + w, n2]⟩ : Shape) ![0, w, 0] ![0, 0, 0] ![0, 0, 0] x v h hu j = if w ≤ (j 1).val then F (j 0).val ((j 1).val - w) (j 2).val else 0 := by
  have hj0 : (j 0).val < n0 := (j 0).isLt
  have hj1 : (j 1).val < n1 + w := (j 1).isLt
  have hj2 : (j 2).val < n2 := (j 2).isLt
  by_cases hq : w ≤ (j 1).val
  · rw [if_pos hq]
    refine (pad_apply_of_inside _ _ _ x v h hu j (ValueIdx.ix3 (⟨(j 0).val, hj0⟩ : Fin n0) (⟨(j 1).val - w, by omega⟩ : Fin n1) (⟨(j 2).val, hj2⟩ : Fin n2)) fun a => ?_).trans (hx _)
    match a with
    | ⟨0, _⟩ => show (j 0).val = 0 + (j 0).val * (0 + 1); omega
    | ⟨1, _⟩ => show (j 1).val = w + ((j 1).val - w) * (0 + 1); omega
    | ⟨2, _⟩ => show (j 2).val = 0 + (j 2).val * (0 + 1); omega
  · rw [if_neg hq]
    exact (pad_apply_of_not_inside _ _ _ x v h hu j (1 : Fin 3) fun hh => hq hh.1).trans hv

end Cert.Layer

namespace Cert.MixerRefIdeal.Read

open Cert.MixerRefIdeal Idealize.ShloMosaic Idealize.ShloMosaic.TcCoe Idealize.SL.Sem
open Cert.Layer
open Cert.MixerIdeal.Value (Par)

/-- The arguments of the reference are a call's arrays. -/
structure RArgs (P : Par) (x0 : (⟨S8x4096x1024, .f32⟩ : BufTy).Contents (Elt Ideal)) (x1 x2 x3 : (⟨S8x1024, .f32⟩ : BufTy).Contents (Elt Ideal)) (x4 : (⟨S1024, .f32⟩ : BufTy).Contents (Elt Ideal)) (x5 : (⟨S1024x4632, .f32⟩ : BufTy).Contents (Elt Ideal)) (x6 : (⟨S4x128x128, .f32⟩ : BufTy).Contents (Elt Ideal)) (x7 : (⟨S512, .f32⟩ : BufTy).Contents (Elt Ideal)) (x8 : (⟨S4x2560, .f32⟩ : BufTy).Contents (Elt Ideal)) (x9 : (⟨S2560, .f32⟩ : BufTy).Contents (Elt Ideal)) (x10 x11 x12 : (⟨S24, .f32⟩ : BufTy).Contents (Elt Ideal)) (x13 : (⟨S1536, .f32⟩ : BufTy).Contents (Elt Ideal)) (x14 : (⟨S2048x1024, .f32⟩ : BufTy).Contents (Elt Ideal)) : Prop where
  x0 : ∀ i, x0 i = P.x (i 0).val (i 1).val (i 2).val
  x1 : ∀ i, x1 i = P.sh (i 0).val (i 1).val
  x2 : ∀ i, x2 i = P.sc (i 0).val (i 1).val
  x3 : ∀ i, x3 i = P.ga (i 0).val (i 1).val
  x4 : ∀ i, x4 i = P.g (i 0).val
  x5 : ∀ i, x5 i = P.w (i 0).val (i 1).val
  x6 : ∀ i, x6 i = P.wp (i 0).val (i 1).val (i 2).val
  x7 : ∀ i, x7 i = P.ps (i 0).val
  x8 : ∀ i, x8 i = P.cw (i 0).val (i 1).val
  x9 : ∀ i, x9 i = P.cb (i 0).val
  x10 : ∀ i, x10 i = P.dtb (i 0).val
  x11 : ∀ i, x11 i = P.al (i 0).val
  x12 : ∀ i (p : ℕ), p < 64 → x12 i = P.dsk (64 * (i 0).val + p)
  x13 : ∀ i, x13 i = P.ng (i 0).val
  x14 : ∀ i, x14 i = P.wo (i 0).val (i 1).val
  ok : P.Ok

section
variable {P : Par} {x0 : (⟨S8x4096x1024, .f32⟩ : BufTy).Contents (Elt Ideal)} {x1 x2 x3 : (⟨S8x1024, .f32⟩ : BufTy).Contents (Elt Ideal)} {x4 : (⟨S1024, .f32⟩ : BufTy).Contents (Elt Ideal)} {x5 : (⟨S1024x4632, .f32⟩ : BufTy).Contents (Elt Ideal)} {x6 : (⟨S4x128x128, .f32⟩ : BufTy).Contents (Elt Ideal)} {x7 : (⟨S512, .f32⟩ : BufTy).Contents (Elt Ideal)} {x8 : (⟨S4x2560, .f32⟩ : BufTy).Contents (Elt Ideal)} {x9 : (⟨S2560, .f32⟩ : BufTy).Contents (Elt Ideal)} {x10 x11 x12 : (⟨S24, .f32⟩ : BufTy).Contents (Elt Ideal)} {x13 : (⟨S1536, .f32⟩ : BufTy).Contents (Elt Ideal)} {x14 : (⟨S2048x1024, .f32⟩ : BufTy).Contents (Elt Ideal)}

theorem b0 : Ideal.ofBits .f32 0x00000000#32 = 0 := by
  pointwise
theorem b1 : Ideal.ofBits .f32 0x3F800000#32 = 1 := by
  pointwise
theorem bninf : Ideal.ofBits .f32 0xFF800000#32 = ⊥ := by
  simp [Ideal.ofBits, Ideal.ieee]
theorem i0 : FloatOps.sitofp (F := Ideal) .f32 (0#32 : BitVec 32) = 0 := by
  show (((0#32 : BitVec 32).toInt : ℝ) : EReal) = 0
  simp
theorem sel1 {α : Type} (a b : α) : Scalar.select 1#1 a b = a := rfl
theorem sel0 {α : Type} (a b : α) : Scalar.select 0#1 a b = b := rfl
theorem une_self (a : EReal) : FloatOps.cmpf (F := Ideal) (φ := .f32) .une a a = 0#1 := by
  show Ideal.cmp .une a a = 0#1
  simp [Ideal.cmp]
theorem mask0 : ∀ a b : Fin 64, IntOp.cmpi .sge (IntOp.addi (BitVec.ofNat 32 a.val) 0#32) (BitVec.ofNat 32 b.val) = if b.val ≤ a.val then 1#1 else 0#1 := by
  decide +kernel
theorem mask1 : ∀ a b : Fin 64, IntOp.cmpi .sge (IntOp.addi (BitVec.ofNat 32 a.val) 4294967295#32) (BitVec.ofNat 32 b.val) = if b.val < a.val then 1#1 else 0#1 := by
  decide +kernel

theorem hid_at (x : Vec Ideal S8x4096x1024 .f32) (sh sc : Vec Ideal S8x1024 .f32) (g : Vec Ideal S1024 .f32) (b : Fin 8) (s : Fin 4096) (j : Fin 1024) :
    val_main_v20 (F := Ideal) x sh sc g (ix3 b s j)
      = hid (fun k => x (ix3 b s k)) (fun k => g (ix1 k)) (fun k => sc (ix2 b k)) (fun k => sh (ix2 b k)) j := by
  unfold hid rinv eps width
  rw [← mul_assoc]
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2]

theorem a_v21 (h : RArgs P x0 x1 x2 x3 x4 x5 x6 x7 x8 x9 x10 x11 x12 x13 x14) (i : S8x4096x4632.Idx) :
    val_main_v21 (F := Ideal) x0 x1 x2 x4 x5 i = P.row (i 0).val (i 1).val (i 2).val := by
  refine (val_main_v21_apply x0 x1 x2 x4 x5 i).trans ?_
  unfold Par.row
  refine Finset.sum_congr rfl fun k _ => congrArg₂ (fun a b => (a * b : EReal)) ?_ (h.x5 _)
  have e : lidx_main_v21 i k = ix3 (⟨(i 0).val, (i 0).isLt⟩ : Fin 8) (⟨(i 1).val, (i 1).isLt⟩ : Fin 4096) k := by
    funext a
    match a with
    | ⟨0, _⟩ => rfl
    | ⟨1, _⟩ => rfl
    | ⟨2, _⟩ => rfl
  rw [e, hid_at]
  have e0 : (fun k : Fin 1024 => x0 (ix3 (⟨(i 0).val, (i 0).isLt⟩ : Fin 8) (⟨(i 1).val, (i 1).isLt⟩ : Fin 4096) k)) = fun k => P.x (i 0).val (i 1).val k.val := funext fun k => h.x0 _
  have e1 : (fun k : Fin 1024 => x4 (ix1 k)) = fun k => P.g k.val := funext fun k => h.x4 _
  have e2 : (fun k : Fin 1024 => x2 (ix2 (⟨(i 0).val, (i 0).isLt⟩ : Fin 8) k)) = fun k => P.sc (i 0).val k.val := funext fun k => h.x2 _
  have e3 : (fun k : Fin 1024 => x1 (ix2 (⟨(i 0).val, (i 0).isLt⟩ : Fin 8) k)) = fun k => P.sh (i 0).val k.val := funext fun k => h.x1 _
  rw [e0, e1, e2, e3]

end

end Cert.MixerRefIdeal.Read
-- ==== Proof.MixRef1.lean ====
/-
  The pooling half of the mixer's reference, read at an index (untrusted).
-/
module

public import proofs.«01_k».proof.Proof.MixRef0

@[expose] public section

set_option maxRecDepth 16384

noncomputable section

namespace Cert.MixerRefIdeal.Read

open Cert.MixerRefIdeal Idealize.ShloMosaic Idealize.ShloMosaic.TcCoe Idealize.SL.Sem
open Cert.Layer
open Cert.MixerIdeal.Value (Par cnt ginv)
open scoped BigOperators

section
variable {P : Par} {x0 : (⟨S8x4096x1024, .f32⟩ : BufTy).Contents (Elt Ideal)} {x1 x2 x3 : (⟨S8x1024, .f32⟩ : BufTy).Contents (Elt Ideal)} {x4 : (⟨S1024, .f32⟩ : BufTy).Contents (Elt Ideal)} {x5 : (⟨S1024x4632, .f32⟩ : BufTy).Contents (Elt Ideal)} {x6 : (⟨S4x128x128, .f32⟩ : BufTy).Contents (Elt Ideal)} {x7 : (⟨S512, .f32⟩ : BufTy).Contents (Elt Ideal)} {x8 : (⟨S4x2560, .f32⟩ : BufTy).Contents (Elt Ideal)} {x9 : (⟨S2560, .f32⟩ : BufTy).Contents (Elt Ideal)} {x10 x11 x12 : (⟨S24, .f32⟩ : BufTy).Contents (Elt Ideal)} {x13 : (⟨S1536, .f32⟩ : BufTy).Contents (Elt Ideal)} {x14 : (⟨S2048x1024, .f32⟩ : BufTy).Contents (Elt Ideal)}
variable (h : RArgs P x0 x1 x2 x3 x4 x5 x6 x7 x8 x9 x10 x11 x12 x13 x14)
include h

theorem a_v22 (i : S8x4096x512.Idx) : val_main_v22 (F := Ideal) x0 x1 x2 x4 x5 i = P.row (i 0).val (i 1).val (i 2).val := by
  have h0 : (i 0).val < 8 := (i 0).isLt
  have h1 : (i 1).val < 4096 := (i 1).isLt
  have h2 : (i 2).val < 512 := (i 2).isLt
  exact (val_main_v22_apply x0 x1 x2 x4 x5 i).trans ((a_v21 h _).trans (n3 P.row (show ((i 0).val) = (i 0).val by omega) (show ((i 1).val) = (i 1).val by omega) (show ((i 2).val) = (i 2).val by omega)))

theorem a_v26 (i : S8x4096x4x128.Idx) : val_main_v26 (F := Ideal) x0 x1 x2 x4 x5 i = P.row (i 0).val (i 1).val (128 * (i 2).val + (i 3).val) := by
  have h0 : (i 0).val < 8 := (i 0).isLt
  have h1 : (i 1).val < 4096 := (i 1).isLt
  have h2 : (i 2).val < 4 := (i 2).isLt
  have h3 : (i 3).val < 128 := (i 3).isLt
  exact (val_main_v26_apply x0 x1 x2 x4 x5 i).trans ((a_v22 h _).trans (n3 P.row (show (((((i 0).val * 4096 + (i 1).val) * 4 + (i 2).val) * 128 + (i 3).val) / 2097152) = (i 0).val by omega) (show (((((i 0).val * 4096 + (i 1).val) * 4 + (i 2).val) * 128 + (i 3).val) / 512 % 4096) = (i 1).val by omega) (show (((((i 0).val * 4096 + (i 1).val) * 4 + (i 2).val) * 128 + (i 3).val) % 512) = 128 * (i 2).val + (i 3).val by omega)))

theorem a_v27 (i : S8x4096x4x128.Idx) : val_main_v27 (F := Ideal) x0 x1 x2 x4 x5 i = P.cum (i 0).val (i 1).val (128 * (i 2).val + (i 3).val) := by
  exact cumsum_at (s := S8x4096x4x128) (1 : Fin 4) 4095 ![1, 4096, 1, 1] ![1, 1, 1, 1] ![0, 4095, 0, 0] ![0, 0, 0, 0] (by decide) (by decide) (by decide) rfl (val_main_v26 (F := Ideal) x0 x1 x2 x4 x5) (val_main_call0_call0_v0 (F := Ideal)) _ _ ((val_main_call0_call0_v0_apply _).trans b0) i
    (fun t => P.row (i 0).val t (128 * (i 2).val + (i 3).val)) fun j hj => (a_v26 h j).trans (n3 P.row (hj 0 (by decide)) rfl (congrArg₂ (fun a b => 128 * a + b) (hj 2 (by decide)) (hj 3 (by decide))))

theorem a_v29 (i : S8x4096x1x128.Idx) : val_main_v29 (F := Ideal) x0 x1 x2 x4 x5 i = P.cum (i 0).val (i 1).val (128 * 0 + (i 3).val) := by
  have h0 : (i 0).val < 8 := (i 0).isLt
  have h1 : (i 1).val < 4096 := (i 1).isLt
  have h2 : (i 2).val < 1 := (i 2).isLt
  have h3 : (i 3).val < 128 := (i 3).isLt
  exact (val_main_v29_apply x0 x1 x2 x4 x5 i).trans ((a_v27 h _).trans (n3 P.cum (show ((i 0).val) = (i 0).val by omega) (show ((i 1).val) = (i 1).val by omega) (show 128 * ((i 2).val) + ((i 3).val) = 128 * 0 + (i 3).val by omega)))

theorem a_v30 (i : S8x4096x128.Idx) : val_main_v30 (F := Ideal) x0 x1 x2 x4 x5 i = P.cum (i 0).val (i 1).val (128 * 0 + (i 2).val) := by
  have h0 : (i 0).val < 8 := (i 0).isLt
  have h1 : (i 1).val < 4096 := (i 1).isLt
  have h2 : (i 2).val < 128 := (i 2).isLt
  exact (val_main_v30_apply x0 x1 x2 x4 x5 i).trans ((a_v29 h _).trans (n3 P.cum (show ((((i 0).val * 4096 + (i 1).val) * 128 + (i 2).val) / 524288) = (i 0).val by omega) (show ((((i 0).val * 4096 + (i 1).val) * 128 + (i 2).val) / 128 % 4096) = (i 1).val by omega) (show 128 * 0 + ((((i 0).val * 4096 + (i 1).val) * 128 + (i 2).val) % 128) = 128 * 0 + (i 2).val by omega)))

theorem a_v31 (i : S8x4098x128.Idx) : val_main_v31 (F := Ideal) x0 x1 x2 x4 x5 i = P.padc 2 (i 0).val (i 1).val (128 * 0 + (i 2).val) := by
  exact pad_at (n0 := 8) (n1 := 4096) (n2 := 128) (w := 2) (val_main_v30 (F := Ideal) x0 x1 x2 x4 x5) (val_main_call1_v0 (F := Ideal)) _ _ ((val_main_call1_v0_apply _).trans i0) (fun b s c => P.cum b s (128 * 0 + c)) (fun j => a_v30 h j) i

theorem a_v32 (i : S8x4096x128.Idx) : val_main_v32 (F := Ideal) x0 x1 x2 x4 x5 i = P.padc 2 (i 0).val (i 1).val (128 * 0 + (i 2).val) := by
  have h0 : (i 0).val < 8 := (i 0).isLt
  have h1 : (i 1).val < 4096 := (i 1).isLt
  have h2 : (i 2).val < 128 := (i 2).isLt
  exact (val_main_v32_apply x0 x1 x2 x4 x5 i).trans ((a_v31 h _).trans (n3 (P.padc 2) (show ((i 0).val) = (i 0).val by omega) (show ((i 1).val) = (i 1).val by omega) (show 128 * 0 + ((i 2).val) = 128 * 0 + (i 2).val by omega)))

theorem a_v39 (i : S8x4096x128.Idx) : val_main_v39 (F := Ideal) x0 x1 x2 x4 x5 i = P.bk 2 (i 0).val (i 1).val (128 * 0 + (i 2).val) := by
  have e := congrArg₂ (fun a b : EReal => a - b) (a_v30 h i) (a_v32 h i)
  exact (val_main_v39_apply x0 x1 x2 x4 x5 i).trans (e.trans (prefix_sub (fun t => P.row (i 0).val t (128 * 0 + (i 2).val)) (fun t => h.ok.row (i 0).val t (128 * 0 + (i 2).val)) (i 1).val 2))

omit h in
theorem a_v37 (i : S4096.Idx) : val_main_v37 (F := Ideal) i = cnt 2 (i 0).val := by
  have h0 : (i 0).val < 4096 := (i 0).isLt
  refine (val_main_v37_apply i).trans ?_
  rw [val_main_v36_apply, val_main_v34_apply, val_main_v28_apply, val_main_v33_apply, val_main_v35_apply, val_main_c_3_apply, val_main_c_4_apply]
  have e := Cert.MixerIdeal.Value.cnt2 ((i 0).val / 256) ((i 0).val % 256) (by omega) (by omega)
  rw [show (i 0).val / 256 * 256 + (i 0).val % 256 = (i 0).val by omega] at e
  exact e

omit h in
theorem a_v38 (i : S1x4096x1.Idx) : val_main_v38 (F := Ideal) i = cnt 2 (i 1).val := by
  have h0 : (i 0).val < 1 := (i 0).isLt
  have h1 : (i 1).val < 4096 := (i 1).isLt
  have h2 : (i 2).val < 1 := (i 2).isLt
  exact (val_main_v38_apply i).trans ((a_v37 _).trans (n1 (cnt 2) (show ((i 1).val) = (i 1).val by omega)))

omit h in
theorem a_v40 (i : S8x4096x128.Idx) : val_main_v40 (F := Ideal) i = cnt 2 (i 1).val := by
  have h0 : (i 0).val < 8 := (i 0).isLt
  have h1 : (i 1).val < 4096 := (i 1).isLt
  have h2 : (i 2).val < 128 := (i 2).isLt
  exact (val_main_v40_apply i).trans ((a_v38 _).trans (n1 (cnt 2) (show ((i 1).val) = (i 1).val by omega)))

theorem a_v41 (i : S8x4096x128.Idx) : val_main_v41 (F := Ideal) x0 x1 x2 x4 x5 i = P.avg 2 (i 0).val (i 1).val (128 * 0 + (i 2).val) := by
  have e := congrArg₂ (fun a b : EReal => Ideal.div a b) (a_v39 h i) (a_v40 i)
  exact (val_main_v41_apply x0 x1 x2 x4 x5 i).trans (e.trans (rfl))

theorem a_v81 (i : S8x4096x1x128.Idx) : val_main_v81 (F := Ideal) x0 x1 x2 x4 x5 i = P.avg 2 (i 0).val (i 1).val (128 * 0 + (i 3).val) := by
  have h0 : (i 0).val < 8 := (i 0).isLt
  have h1 : (i 1).val < 4096 := (i 1).isLt
  have h2 : (i 2).val < 1 := (i 2).isLt
  have h3 : (i 3).val < 128 := (i 3).isLt
  exact (val_main_v81_apply x0 x1 x2 x4 x5 i).trans ((a_v41 h _).trans (n3 (P.avg 2) (show ((i 0).val) = (i 0).val by omega) (show ((i 1).val) = (i 1).val by omega) (show 128 * 0 + ((i 3).val) = 128 * 0 + (i 3).val by omega)))

theorem a_v42 (i : S8x4096x1x128.Idx) : val_main_v42 (F := Ideal) x0 x1 x2 x4 x5 i = P.cum (i 0).val (i 1).val (128 * 1 + (i 3).val) := by
  have h0 : (i 0).val < 8 := (i 0).isLt
  have h1 : (i 1).val < 4096 := (i 1).isLt
  have h2 : (i 2).val < 1 := (i 2).isLt
  have h3 : (i 3).val < 128 := (i 3).isLt
  exact (val_main_v42_apply x0 x1 x2 x4 x5 i).trans ((a_v27 h _).trans (n3 P.cum (show ((i 0).val) = (i 0).val by omega) (show ((i 1).val) = (i 1).val by omega) (show 128 * (1 + (i 2).val) + ((i 3).val) = 128 * 1 + (i 3).val by omega)))

theorem a_v43 (i : S8x4096x128.Idx) : val_main_v43 (F := Ideal) x0 x1 x2 x4 x5 i = P.cum (i 0).val (i 1).val (128 * 1 + (i 2).val) := by
  have h0 : (i 0).val < 8 := (i 0).isLt
  have h1 : (i 1).val < 4096 := (i 1).isLt
  have h2 : (i 2).val < 128 := (i 2).isLt
  exact (val_main_v43_apply x0 x1 x2 x4 x5 i).trans ((a_v42 h _).trans (n3 P.cum (show ((((i 0).val * 4096 + (i 1).val) * 128 + (i 2).val) / 524288) = (i 0).val by omega) (show ((((i 0).val * 4096 + (i 1).val) * 128 + (i 2).val) / 128 % 4096) = (i 1).val by omega) (show 128 * 1 + ((((i 0).val * 4096 + (i 1).val) * 128 + (i 2).val) % 128) = 128 * 1 + (i 2).val by omega)))

theorem a_v44 (i : S8x4100x128.Idx) : val_main_v44 (F := Ideal) x0 x1 x2 x4 x5 i = P.padc 4 (i 0).val (i 1).val (128 * 1 + (i 2).val) := by
  exact pad_at (n0 := 8) (n1 := 4096) (n2 := 128) (w := 4) (val_main_v43 (F := Ideal) x0 x1 x2 x4 x5) (val_main_call2_v0 (F := Ideal)) _ _ ((val_main_call2_v0_apply _).trans i0) (fun b s c => P.cum b s (128 * 1 + c)) (fun j => a_v43 h j) i

theorem a_v45 (i : S8x4096x128.Idx) : val_main_v45 (F := Ideal) x0 x1 x2 x4 x5 i = P.padc 4 (i 0).val (i 1).val (128 * 1 + (i 2).val) := by
  have h0 : (i 0).val < 8 := (i 0).isLt
  have h1 : (i 1).val < 4096 := (i 1).isLt
  have h2 : (i 2).val < 128 := (i 2).isLt
  exact (val_main_v45_apply x0 x1 x2 x4 x5 i).trans ((a_v44 h _).trans (n3 (P.padc 4) (show ((i 0).val) = (i 0).val by omega) (show ((i 1).val) = (i 1).val by omega) (show 128 * 1 + ((i 2).val) = 128 * 1 + (i 2).val by omega)))

theorem a_v52 (i : S8x4096x128.Idx) : val_main_v52 (F := Ideal) x0 x1 x2 x4 x5 i = P.bk 4 (i 0).val (i 1).val (128 * 1 + (i 2).val) := by
  have e := congrArg₂ (fun a b : EReal => a - b) (a_v43 h i) (a_v45 h i)
  exact (val_main_v52_apply x0 x1 x2 x4 x5 i).trans (e.trans (prefix_sub (fun t => P.row (i 0).val t (128 * 1 + (i 2).val)) (fun t => h.ok.row (i 0).val t (128 * 1 + (i 2).val)) (i 1).val 4))

omit h in
theorem a_v50 (i : S4096.Idx) : val_main_v50 (F := Ideal) i = cnt 4 (i 0).val := by
  have h0 : (i 0).val < 4096 := (i 0).isLt
  refine (val_main_v50_apply i).trans ?_
  rw [val_main_v49_apply, val_main_v47_apply, val_main_v28_apply, val_main_v46_apply, val_main_v48_apply, val_main_c_6_apply, val_main_c_7_apply]
  have e := Cert.MixerIdeal.Value.cnt4 ((i 0).val / 256) ((i 0).val % 256) (by omega) (by omega)
  rw [show (i 0).val / 256 * 256 + (i 0).val % 256 = (i 0).val by omega] at e
  exact e

omit h in
theorem a_v51 (i : S1x4096x1.Idx) : val_main_v51 (F := Ideal) i = cnt 4 (i 1).val := by
  have h0 : (i 0).val < 1 := (i 0).isLt
  have h1 : (i 1).val < 4096 := (i 1).isLt
  have h2 : (i 2).val < 1 := (i 2).isLt
  exact (val_main_v51_apply i).trans ((a_v50 _).trans (n1 (cnt 4) (show ((i 1).val) = (i 1).val by omega)))

omit h in
theorem a_v53 (i : S8x4096x128.Idx) : val_main_v53 (F := Ideal) i = cnt 4 (i 1).val := by
  have h0 : (i 0).val < 8 := (i 0).isLt
  have h1 : (i 1).val < 4096 := (i 1).isLt
  have h2 : (i 2).val < 128 := (i 2).isLt
  exact (val_main_v53_apply i).trans ((a_v51 _).trans (n1 (cnt 4) (show ((i 1).val) = (i 1).val by omega)))

theorem a_v54 (i : S8x4096x128.Idx) : val_main_v54 (F := Ideal) x0 x1 x2 x4 x5 i = P.avg 4 (i 0).val (i 1).val (128 * 1 + (i 2).val) := by
  have e := congrArg₂ (fun a b : EReal => Ideal.div a b) (a_v52 h i) (a_v53 i)
  exact (val_main_v54_apply x0 x1 x2 x4 x5 i).trans (e.trans (rfl))

theorem a_v82 (i : S8x4096x1x128.Idx) : val_main_v82 (F := Ideal) x0 x1 x2 x4 x5 i = P.avg 4 (i 0).val (i 1).val (128 * 1 + (i 3).val) := by
  have h0 : (i 0).val < 8 := (i 0).isLt
  have h1 : (i 1).val < 4096 := (i 1).isLt
  have h2 : (i 2).val < 1 := (i 2).isLt
  have h3 : (i 3).val < 128 := (i 3).isLt
  exact (val_main_v82_apply x0 x1 x2 x4 x5 i).trans ((a_v54 h _).trans (n3 (P.avg 4) (show ((i 0).val) = (i 0).val by omega) (show ((i 1).val) = (i 1).val by omega) (show 128 * 1 + ((i 3).val) = 128 * 1 + (i 3).val by omega)))

theorem a_v55 (i : S8x4096x1x128.Idx) : val_main_v55 (F := Ideal) x0 x1 x2 x4 x5 i = P.cum (i 0).val (i 1).val (128 * 2 + (i 3).val) := by
  have h0 : (i 0).val < 8 := (i 0).isLt
  have h1 : (i 1).val < 4096 := (i 1).isLt
  have h2 : (i 2).val < 1 := (i 2).isLt
  have h3 : (i 3).val < 128 := (i 3).isLt
  exact (val_main_v55_apply x0 x1 x2 x4 x5 i).trans ((a_v27 h _).trans (n3 P.cum (show ((i 0).val) = (i 0).val by omega) (show ((i 1).val) = (i 1).val by omega) (show 128 * (2 + (i 2).val) + ((i 3).val) = 128 * 2 + (i 3).val by omega)))

theorem a_v56 (i : S8x4096x128.Idx) : val_main_v56 (F := Ideal) x0 x1 x2 x4 x5 i = P.cum (i 0).val (i 1).val (128 * 2 + (i 2).val) := by
  have h0 : (i 0).val < 8 := (i 0).isLt
  have h1 : (i 1).val < 4096 := (i 1).isLt
  have h2 : (i 2).val < 128 := (i 2).isLt
  exact (val_main_v56_apply x0 x1 x2 x4 x5 i).trans ((a_v55 h _).trans (n3 P.cum (show ((((i 0).val * 4096 + (i 1).val) * 128 + (i 2).val) / 524288) = (i 0).val by omega) (show ((((i 0).val * 4096 + (i 1).val) * 128 + (i 2).val) / 128 % 4096) = (i 1).val by omega) (show 128 * 2 + ((((i 0).val * 4096 + (i 1).val) * 128 + (i 2).val) % 128) = 128 * 2 + (i 2).val by omega)))

theorem a_v57 (i : S8x4104x128.Idx) : val_main_v57 (F := Ideal) x0 x1 x2 x4 x5 i = P.padc 8 (i 0).val (i 1).val (128 * 2 + (i 2).val) := by
  exact pad_at (n0 := 8) (n1 := 4096) (n2 := 128) (w := 8) (val_main_v56 (F := Ideal) x0 x1 x2 x4 x5) (val_main_call3_v0 (F := Ideal)) _ _ ((val_main_call3_v0_apply _).trans i0) (fun b s c => P.cum b s (128 * 2 + c)) (fun j => a_v56 h j) i

theorem a_v58 (i : S8x4096x128.Idx) : val_main_v58 (F := Ideal) x0 x1 x2 x4 x5 i = P.padc 8 (i 0).val (i 1).val (128 * 2 + (i 2).val) := by
  have h0 : (i 0).val < 8 := (i 0).isLt
  have h1 : (i 1).val < 4096 := (i 1).isLt
  have h2 : (i 2).val < 128 := (i 2).isLt
  exact (val_main_v58_apply x0 x1 x2 x4 x5 i).trans ((a_v57 h _).trans (n3 (P.padc 8) (show ((i 0).val) = (i 0).val by omega) (show ((i 1).val) = (i 1).val by omega) (show 128 * 2 + ((i 2).val) = 128 * 2 + (i 2).val by omega)))

theorem a_v65 (i : S8x4096x128.Idx) : val_main_v65 (F := Ideal) x0 x1 x2 x4 x5 i = P.bk 8 (i 0).val (i 1).val (128 * 2 + (i 2).val) := by
  have e := congrArg₂ (fun a b : EReal => a - b) (a_v56 h i) (a_v58 h i)
  exact (val_main_v65_apply x0 x1 x2 x4 x5 i).trans (e.trans (prefix_sub (fun t => P.row (i 0).val t (128 * 2 + (i 2).val)) (fun t => h.ok.row (i 0).val t (128 * 2 + (i 2).val)) (i 1).val 8))

omit h in
theorem a_v63 (i : S4096.Idx) : val_main_v63 (F := Ideal) i = cnt 8 (i 0).val := by
  have h0 : (i 0).val < 4096 := (i 0).isLt
  refine (val_main_v63_apply i).trans ?_
  rw [val_main_v62_apply, val_main_v60_apply, val_main_v28_apply, val_main_v59_apply, val_main_v61_apply, val_main_c_9_apply, val_main_c_10_apply]
  have e := Cert.MixerIdeal.Value.cnt8 ((i 0).val / 256) ((i 0).val % 256) (by omega) (by omega)
  rw [show (i 0).val / 256 * 256 + (i 0).val % 256 = (i 0).val by omega] at e
  exact e

omit h in
theorem a_v64 (i : S1x4096x1.Idx) : val_main_v64 (F := Ideal) i = cnt 8 (i 1).val := by
  have h0 : (i 0).val < 1 := (i 0).isLt
  have h1 : (i 1).val < 4096 := (i 1).isLt
  have h2 : (i 2).val < 1 := (i 2).isLt
  exact (val_main_v64_apply i).trans ((a_v63 _).trans (n1 (cnt 8) (show ((i 1).val) = (i 1).val by omega)))

omit h in
theorem a_v66 (i : S8x4096x128.Idx) : val_main_v66 (F := Ideal) i = cnt 8 (i 1).val := by
  have h0 : (i 0).val < 8 := (i 0).isLt
  have h1 : (i 1).val < 4096 := (i 1).isLt
  have h2 : (i 2).val < 128 := (i 2).isLt
  exact (val_main_v66_apply i).trans ((a_v64 _).trans (n1 (cnt 8) (show ((i 1).val) = (i 1).val by omega)))

theorem a_v67 (i : S8x4096x128.Idx) : val_main_v67 (F := Ideal) x0 x1 x2 x4 x5 i = P.avg 8 (i 0).val (i 1).val (128 * 2 + (i 2).val) := by
  have e := congrArg₂ (fun a b : EReal => Ideal.div a b) (a_v65 h i) (a_v66 i)
  exact (val_main_v67_apply x0 x1 x2 x4 x5 i).trans (e.trans (rfl))

theorem a_v83 (i : S8x4096x1x128.Idx) : val_main_v83 (F := Ideal) x0 x1 x2 x4 x5 i = P.avg 8 (i 0).val (i 1).val (128 * 2 + (i 3).val) := by
  have h0 : (i 0).val < 8 := (i 0).isLt
  have h1 : (i 1).val < 4096 := (i 1).isLt
  have h2 : (i 2).val < 1 := (i 2).isLt
  have h3 : (i 3).val < 128 := (i 3).isLt
  exact (val_main_v83_apply x0 x1 x2 x4 x5 i).trans ((a_v67 h _).trans (n3 (P.avg 8) (show ((i 0).val) = (i 0).val by omega) (show ((i 1).val) = (i 1).val by omega) (show 128 * 2 + ((i 3).val) = 128 * 2 + (i 3).val by omega)))

theorem a_v68 (i : S8x4096x1x128.Idx) : val_main_v68 (F := Ideal) x0 x1 x2 x4 x5 i = P.cum (i 0).val (i 1).val (128 * 3 + (i 3).val) := by
  have h0 : (i 0).val < 8 := (i 0).isLt
  have h1 : (i 1).val < 4096 := (i 1).isLt
  have h2 : (i 2).val < 1 := (i 2).isLt
  have h3 : (i 3).val < 128 := (i 3).isLt
  exact (val_main_v68_apply x0 x1 x2 x4 x5 i).trans ((a_v27 h _).trans (n3 P.cum (show ((i 0).val) = (i 0).val by omega) (show ((i 1).val) = (i 1).val by omega) (show 128 * (3 + (i 2).val) + ((i 3).val) = 128 * 3 + (i 3).val by omega)))

theorem a_v69 (i : S8x4096x128.Idx) : val_main_v69 (F := Ideal) x0 x1 x2 x4 x5 i = P.cum (i 0).val (i 1).val (128 * 3 + (i 2).val) := by
  have h0 : (i 0).val < 8 := (i 0).isLt
  have h1 : (i 1).val < 4096 := (i 1).isLt
  have h2 : (i 2).val < 128 := (i 2).isLt
  exact (val_main_v69_apply x0 x1 x2 x4 x5 i).trans ((a_v68 h _).trans (n3 P.cum (show ((((i 0).val * 4096 + (i 1).val) * 128 + (i 2).val) / 524288) = (i 0).val by omega) (show ((((i 0).val * 4096 + (i 1).val) * 128 + (i 2).val) / 128 % 4096) = (i 1).val by omega) (show 128 * 3 + ((((i 0).val * 4096 + (i 1).val) * 128 + (i 2).val) % 128) = 128 * 3 + (i 2).val by omega)))

theorem a_v70 (i : S8x4112x128.Idx) : val_main_v70 (F := Ideal) x0 x1 x2 x4 x5 i = P.padc 16 (i 0).val (i 1).val (128 * 3 + (i 2).val) := by
  exact pad_at (n0 := 8) (n1 := 4096) (n2 := 128) (w := 16) (val_main_v69 (F := Ideal) x0 x1 x2 x4 x5) (val_main_call4_v0 (F := Ideal)) _ _ ((val_main_call4_v0_apply _).trans i0) (fun b s c => P.cum b s (128 * 3 + c)) (fun j => a_v69 h j) i

theorem a_v71 (i : S8x4096x128.Idx) : val_main_v71 (F := Ideal) x0 x1 x2 x4 x5 i = P.padc 16 (i 0).val (i 1).val (128 * 3 + (i 2).val) := by
  have h0 : (i 0).val < 8 := (i 0).isLt
  have h1 : (i 1).val < 4096 := (i 1).isLt
  have h2 : (i 2).val < 128 := (i 2).isLt
  exact (val_main_v71_apply x0 x1 x2 x4 x5 i).trans ((a_v70 h _).trans (n3 (P.padc 16) (show ((i 0).val) = (i 0).val by omega) (show ((i 1).val) = (i 1).val by omega) (show 128 * 3 + ((i 2).val) = 128 * 3 + (i 2).val by omega)))

theorem a_v78 (i : S8x4096x128.Idx) : val_main_v78 (F := Ideal) x0 x1 x2 x4 x5 i = P.bk 16 (i 0).val (i 1).val (128 * 3 + (i 2).val) := by
  have e := congrArg₂ (fun a b : EReal => a - b) (a_v69 h i) (a_v71 h i)
  exact (val_main_v78_apply x0 x1 x2 x4 x5 i).trans (e.trans (prefix_sub (fun t => P.row (i 0).val t (128 * 3 + (i 2).val)) (fun t => h.ok.row (i 0).val t (128 * 3 + (i 2).val)) (i 1).val 16))

omit h in
theorem a_v76 (i : S4096.Idx) : val_main_v76 (F := Ideal) i = cnt 16 (i 0).val := by
  have h0 : (i 0).val < 4096 := (i 0).isLt
  refine (val_main_v76_apply i).trans ?_
  rw [val_main_v75_apply, val_main_v73_apply, val_main_v28_apply, val_main_v72_apply, val_main_v74_apply, val_main_c_12_apply, val_main_c_13_apply]
  have e := Cert.MixerIdeal.Value.cnt16 ((i 0).val / 256) ((i 0).val % 256) (by omega) (by omega)
  rw [show (i 0).val / 256 * 256 + (i 0).val % 256 = (i 0).val by omega] at e
  exact e

omit h in
theorem a_v77 (i : S1x4096x1.Idx) : val_main_v77 (F := Ideal) i = cnt 16 (i 1).val := by
  have h0 : (i 0).val < 1 := (i 0).isLt
  have h1 : (i 1).val < 4096 := (i 1).isLt
  have h2 : (i 2).val < 1 := (i 2).isLt
  exact (val_main_v77_apply i).trans ((a_v76 _).trans (n1 (cnt 16) (show ((i 1).val) = (i 1).val by omega)))

omit h in
theorem a_v79 (i : S8x4096x128.Idx) : val_main_v79 (F := Ideal) i = cnt 16 (i 1).val := by
  have h0 : (i 0).val < 8 := (i 0).isLt
  have h1 : (i 1).val < 4096 := (i 1).isLt
  have h2 : (i 2).val < 128 := (i 2).isLt
  exact (val_main_v79_apply i).trans ((a_v77 _).trans (n1 (cnt 16) (show ((i 1).val) = (i 1).val by omega)))

theorem a_v80 (i : S8x4096x128.Idx) : val_main_v80 (F := Ideal) x0 x1 x2 x4 x5 i = P.avg 16 (i 0).val (i 1).val (128 * 3 + (i 2).val) := by
  have e := congrArg₂ (fun a b : EReal => Ideal.div a b) (a_v78 h i) (a_v79 i)
  exact (val_main_v80_apply x0 x1 x2 x4 x5 i).trans (e.trans (rfl))

theorem a_v84 (i : S8x4096x1x128.Idx) : val_main_v84 (F := Ideal) x0 x1 x2 x4 x5 i = P.avg 16 (i 0).val (i 1).val (128 * 3 + (i 3).val) := by
  have h0 : (i 0).val < 8 := (i 0).isLt
  have h1 : (i 1).val < 4096 := (i 1).isLt
  have h2 : (i 2).val < 1 := (i 2).isLt
  have h3 : (i 3).val < 128 := (i 3).isLt
  exact (val_main_v84_apply x0 x1 x2 x4 x5 i).trans ((a_v80 h _).trans (n3 (P.avg 16) (show ((i 0).val) = (i 0).val by omega) (show ((i 1).val) = (i 1).val by omega) (show 128 * 3 + ((i 3).val) = 128 * 3 + (i 3).val by omega)))

theorem a_v85 (i : S8x4096x4x128.Idx) : val_main_v85 (F := Ideal) x0 x1 x2 x4 x5 i = P.avg (2 ^ ((i 2).val + 1)) (i 0).val (i 1).val (128 * (i 2).val + (i 3).val) := by
  have h0 : (i 0).val < 8 := (i 0).isLt
  have h1 : (i 1).val < 4096 := (i 1).isLt
  have h2 : (i 2).val < 4 := (i 2).isLt
  have h3 : (i 3).val < 128 := (i 3).isLt
  have hc : (i 2).val = 0 ∨ (i 2).val = 1 ∨ (i 2).val = 2 ∨ (i 2).val = 3 := by omega
  unfold val_main_v85
  rcases hc with e | e | e | e
  · refine (concatenate_apply_piece (2 : Fin 4) _ _ i 0 (by show 0 < 4; omega) S8x4096x1x128 (val_main_v81 (F := Ideal) x0 x1 x2 x4 x5) rfl rfl 0 rfl (ix4 (⟨(i 0).val, h0⟩ : Fin 8) (⟨(i 1).val, h1⟩ : Fin 4096) (0 : Fin 1) (⟨(i 3).val, h3⟩ : Fin 128))
      (fun b hb => match b with | ⟨0, _⟩ => rfl | ⟨1, _⟩ => rfl | ⟨2, _⟩ => absurd rfl hb | ⟨3, _⟩ => rfl) (by show 0 + 0 = (i 2).val; omega)).trans ((a_v81 h _).trans ?_)
    rw [e]
    rfl
  · refine (concatenate_apply_piece (2 : Fin 4) _ _ i 1 (by show 1 < 4; omega) S8x4096x1x128 (val_main_v82 (F := Ideal) x0 x1 x2 x4 x5) rfl rfl 1 rfl (ix4 (⟨(i 0).val, h0⟩ : Fin 8) (⟨(i 1).val, h1⟩ : Fin 4096) (0 : Fin 1) (⟨(i 3).val, h3⟩ : Fin 128))
      (fun b hb => match b with | ⟨0, _⟩ => rfl | ⟨1, _⟩ => rfl | ⟨2, _⟩ => absurd rfl hb | ⟨3, _⟩ => rfl) (by show 1 + 0 = (i 2).val; omega)).trans ((a_v82 h _).trans ?_)
    rw [e]
    rfl
  · refine (concatenate_apply_piece (2 : Fin 4) _ _ i 2 (by show 2 < 4; omega) S8x4096x1x128 (val_main_v83 (F := Ideal) x0 x1 x2 x4 x5) rfl rfl 2 rfl (ix4 (⟨(i 0).val, h0⟩ : Fin 8) (⟨(i 1).val, h1⟩ : Fin 4096) (0 : Fin 1) (⟨(i 3).val, h3⟩ : Fin 128))
      (fun b hb => match b with | ⟨0, _⟩ => rfl | ⟨1, _⟩ => rfl | ⟨2, _⟩ => absurd rfl hb | ⟨3, _⟩ => rfl) (by show 2 + 0 = (i 2).val; omega)).trans ((a_v83 h _).trans ?_)
    rw [e]
    rfl
  · refine (concatenate_apply_piece (2 : Fin 4) _ _ i 3 (by show 3 < 4; omega) S8x4096x1x128 (val_main_v84 (F := Ideal) x0 x1 x2 x4 x5) rfl rfl 3 rfl (ix4 (⟨(i 0).val, h0⟩ : Fin 8) (⟨(i 1).val, h1⟩ : Fin 4096) (0 : Fin 1) (⟨(i 3).val, h3⟩ : Fin 128))
      (fun b hb => match b with | ⟨0, _⟩ => rfl | ⟨1, _⟩ => rfl | ⟨2, _⟩ => absurd rfl hb | ⟨3, _⟩ => rfl) (by show 3 + 0 = (i 2).val; omega)).trans ((a_v84 h _).trans ?_)
    rw [e]
    rfl

theorem a_v86 (i : S8x4096x4x128.Idx) : val_main_v86 (F := Ideal) x0 x1 x2 x4 x5 i = P.dif (i 0).val (i 1).val (128 * (i 2).val + (i 3).val) := by
  have h0 : (i 0).val < 8 := (i 0).isLt
  have h1 : (i 1).val < 4096 := (i 1).isLt
  have h2 : (i 2).val < 4 := (i 2).isLt
  have h3 : (i 3).val < 128 := (i 3).isLt
  have e := congrArg₂ (fun a b : EReal => a - b) (a_v85 h i) (a_v26 h i)
  refine (val_main_v86_apply x0 x1 x2 x4 x5 i).trans (e.trans ?_)
  unfold Par.dif
  rw [show (128 * (i 2).val + (i 3).val) / 128 = (i 2).val by omega]

theorem a_v87 (i : S4x128x8x4096.Idx) : val_main_v87 (F := Ideal) x0 x1 x2 x4 x5 x6 i = P.pl (i 2).val (i 3).val (128 * (i 0).val + (i 1).val) := by
  have h0 : (i 0).val < 4 := (i 0).isLt
  have h1 : (i 1).val < 128 := (i 1).isLt
  have h2 : (i 2).val < 8 := (i 2).isLt
  have h3 : (i 3).val < 4096 := (i 3).isLt
  refine (val_main_v87_apply x0 x1 x2 x4 x5 x6 i).trans ?_
  show _ = ∑ k : Fin 128, P.wp ((128 * (i 0).val + (i 1).val) / 128) (k.val) ((128 * (i 0).val + (i 1).val) % 128) * P.dif (i 2).val (i 3).val ((128 * (i 0).val + (i 1).val) / 128 * 128 + k.val)
  refine Finset.sum_congr rfl fun k _ => ?_
  have hk := k.isLt
  have e1 : x6 (lidx_main_v87 i k) = P.wp ((128 * (i 0).val + (i 1).val) / 128) (k.val) ((128 * (i 0).val + (i 1).val) % 128) := (h.x6 _).trans (n3 P.wp (show ((i 0).val) = (128 * (i 0).val + (i 1).val) / 128 by omega) rfl (show ((i 1).val) = (128 * (i 0).val + (i 1).val) % 128 by omega))
  have e2 : val_main_v86 (F := Ideal) x0 x1 x2 x4 x5 (ridx_main_v87 i k) = P.dif (i 2).val (i 3).val ((128 * (i 0).val + (i 1).val) / 128 * 128 + k.val) := (a_v86 h _).trans (n3 P.dif (show ((i 2).val) = (i 2).val by omega) (show ((i 3).val) = (i 3).val by omega) (show 128 * ((i 0).val) + (k.val) = (128 * (i 0).val + (i 1).val) / 128 * 128 + k.val by omega))
  exact congrArg₂ (fun a b : EReal => a * b) e1 e2

theorem a_v88 (i : S8x4096x4x128.Idx) : val_main_v88 (F := Ideal) x0 x1 x2 x4 x5 x6 i = P.pl (i 0).val (i 1).val (128 * (i 2).val + (i 3).val) := by
  have h0 : (i 0).val < 8 := (i 0).isLt
  have h1 : (i 1).val < 4096 := (i 1).isLt
  have h2 : (i 2).val < 4 := (i 2).isLt
  have h3 : (i 3).val < 128 := (i 3).isLt
  exact (val_main_v88_apply x0 x1 x2 x4 x5 x6 i).trans ((a_v87 h _).trans (n3 P.pl (show ((i 0).val) = (i 0).val by omega) (show ((i 1).val) = (i 1).val by omega) (show 128 * ((i 2).val) + ((i 3).val) = 128 * (i 2).val + (i 3).val by omega)))

theorem a_v89 (i : S8x4096x512.Idx) : val_main_v89 (F := Ideal) x0 x1 x2 x4 x5 x6 i = P.pl (i 0).val (i 1).val (i 2).val := by
  have h0 : (i 0).val < 8 := (i 0).isLt
  have h1 : (i 1).val < 4096 := (i 1).isLt
  have h2 : (i 2).val < 512 := (i 2).isLt
  exact (val_main_v89_apply x0 x1 x2 x4 x5 x6 i).trans ((a_v88 h _).trans (n3 P.pl (show ((((i 0).val * 4096 + (i 1).val) * 512 + (i 2).val) / 2097152) = (i 0).val by omega) (show ((((i 0).val * 4096 + (i 1).val) * 512 + (i 2).val) / 512 % 4096) = (i 1).val by omega) (show 128 * ((((i 0).val * 4096 + (i 1).val) * 512 + (i 2).val) / 128 % 4) + ((((i 0).val * 4096 + (i 1).val) * 512 + (i 2).val) % 128) = (i 2).val by omega)))

theorem a_v90 (i : S1x1x512.Idx) : val_main_v90 (F := Ideal) x7 i = P.ps (i 2).val := by
  have h0 : (i 0).val < 1 := (i 0).isLt
  have h1 : (i 1).val < 1 := (i 1).isLt
  have h2 : (i 2).val < 512 := (i 2).isLt
  exact (val_main_v90_apply x7 i).trans ((h.x7 _).trans (n1 P.ps (show ((i 2).val) = (i 2).val by omega)))

theorem a_v91 (i : S8x4096x512.Idx) : val_main_v91 (F := Ideal) x7 i = P.ps (i 2).val := by
  have h0 : (i 0).val < 8 := (i 0).isLt
  have h1 : (i 1).val < 4096 := (i 1).isLt
  have h2 : (i 2).val < 512 := (i 2).isLt
  exact (val_main_v91_apply x7 i).trans ((a_v90 h _).trans (n1 P.ps (show ((i 2).val) = (i 2).val by omega)))

theorem a_v92 (i : S8x4096x512.Idx) : val_main_v92 (F := Ideal) x0 x1 x2 x4 x5 x6 x7 i = P.gpool (i 0).val (i 1).val (i 2).val := by
  have e := congrArg₂ (fun a b : EReal => a * b) (a_v89 h i) (a_v91 h i)
  exact (val_main_v92_apply x0 x1 x2 x4 x5 x6 x7 i).trans (e.trans (rfl))

end

end Cert.MixerRefIdeal.Read
-- ==== Proof.MixRef2.lean ====
/-
  The convolution, the activation and the step sizes of the mixer's reference, read at an index (untrusted).
-/
module

public import proofs.«01_k».proof.Proof.MixRef0
public import Idealize.ShloMosaic.Lib.ValueIdxRank6

@[expose] public section

set_option maxRecDepth 16384

noncomputable section

namespace Cert.MixerIdeal.Value.Par

open Idealize.ShloMosaic
open scoped BigOperators

variable (P : Par)

/-- The decay rate of a head. -/
def na (h : ℕ) : EReal := -(Ideal.exp (P.al h))

end Cert.MixerIdeal.Value.Par

namespace Cert.MixerRefIdeal.Read

open Cert.MixerRefIdeal Idealize.ShloMosaic Idealize.ShloMosaic.TcCoe Idealize.SL.Sem
open Cert.Layer
open Cert.MixerIdeal.Value (Par cnt ginv)
open scoped BigOperators

section
variable {P : Par} {x0 : (⟨S8x4096x1024, .f32⟩ : BufTy).Contents (Elt Ideal)} {x1 x2 x3 : (⟨S8x1024, .f32⟩ : BufTy).Contents (Elt Ideal)} {x4 : (⟨S1024, .f32⟩ : BufTy).Contents (Elt Ideal)} {x5 : (⟨S1024x4632, .f32⟩ : BufTy).Contents (Elt Ideal)} {x6 : (⟨S4x128x128, .f32⟩ : BufTy).Contents (Elt Ideal)} {x7 : (⟨S512, .f32⟩ : BufTy).Contents (Elt Ideal)} {x8 : (⟨S4x2560, .f32⟩ : BufTy).Contents (Elt Ideal)} {x9 : (⟨S2560, .f32⟩ : BufTy).Contents (Elt Ideal)} {x10 x11 x12 : (⟨S24, .f32⟩ : BufTy).Contents (Elt Ideal)} {x13 : (⟨S1536, .f32⟩ : BufTy).Contents (Elt Ideal)} {x14 : (⟨S2048x1024, .f32⟩ : BufTy).Contents (Elt Ideal)}
variable (h : RArgs P x0 x1 x2 x3 x4 x5 x6 x7 x8 x9 x10 x11 x12 x13 x14)
include h

theorem a_v24 (i : S8x4096x2560.Idx) : val_main_v24 (F := Ideal) x0 x1 x2 x4 x5 i = P.row (i 0).val (i 1).val (2048 + (i 2).val) := by
  have h0 : (i 0).val < 8 := (i 0).isLt
  have h1 : (i 1).val < 4096 := (i 1).isLt
  have h2 : (i 2).val < 2560 := (i 2).isLt
  exact (val_main_v24_apply x0 x1 x2 x4 x5 i).trans ((a_v21 h _).trans (n3 P.row (show ((i 0).val) = (i 0).val by omega) (show ((i 1).val) = (i 1).val by omega) (show (2048 + (i 2).val) = 2048 + (i 2).val by omega)))

theorem a_v25 (i : S8x4096x24.Idx) : val_main_v25 (F := Ideal) x0 x1 x2 x4 x5 i = P.row (i 0).val (i 1).val (4608 + (i 2).val) := by
  have h0 : (i 0).val < 8 := (i 0).isLt
  have h1 : (i 1).val < 4096 := (i 1).isLt
  have h2 : (i 2).val < 24 := (i 2).isLt
  exact (val_main_v25_apply x0 x1 x2 x4 x5 i).trans ((a_v21 h _).trans (n3 P.row (show ((i 0).val) = (i 0).val by omega) (show ((i 1).val) = (i 1).val by omega) (show (4608 + (i 2).val) = 4608 + (i 2).val by omega)))

theorem a_v93 (i : S8x4099x2560.Idx) : val_main_v93 (F := Ideal) x0 x1 x2 x4 x5 i = P.past (i 0).val (i 1).val (i 2).val := by
  exact pad_at (n0 := 8) (n1 := 4096) (n2 := 2560) (w := 3) (val_main_v24 (F := Ideal) x0 x1 x2 x4 x5) (val_main_call5_v0 (F := Ideal)) _ _ ((val_main_call5_v0_apply _).trans i0) (fun b s c => P.row b s (2048 + c)) (fun j => a_v24 h j) i

theorem a_v94 (i : S8x4096x2560.Idx) : val_main_v94 (F := Ideal) x0 x1 x2 x4 x5 i = P.past (i 0).val (i 1).val (i 2).val := by
  have h0 : (i 0).val < 8 := (i 0).isLt
  have h1 : (i 1).val < 4096 := (i 1).isLt
  have h2 : (i 2).val < 2560 := (i 2).isLt
  exact (val_main_v94_apply x0 x1 x2 x4 x5 i).trans ((a_v93 h _).trans (n3 P.past (show ((i 0).val) = (i 0).val by omega) (show ((i 1).val) = (i 1).val by omega) (show ((i 2).val) = (i 2).val by omega)))

theorem a_v95 (i : S1x2560.Idx) : val_main_v95 (F := Ideal) x8 i = P.cw 0 (i 1).val := by
  have h0 : (i 0).val < 1 := (i 0).isLt
  have h1 : (i 1).val < 2560 := (i 1).isLt
  exact (val_main_v95_apply x8 i).trans ((h.x8 _).trans (n2 P.cw (show ((i 0).val) = 0 by omega) (show ((i 1).val) = (i 1).val by omega)))

theorem a_v96 (i : S2560.Idx) : val_main_v96 (F := Ideal) x8 i = P.cw 0 (i 0).val := by
  have h0 : (i 0).val < 2560 := (i 0).isLt
  exact (val_main_v96_apply x8 i).trans ((a_v95 h _).trans (n2 P.cw rfl (show (((i 0).val) % 2560) = (i 0).val by omega)))

theorem a_v97 (i : S1x1x2560.Idx) : val_main_v97 (F := Ideal) x8 i = P.cw 0 (i 2).val := by
  have h0 : (i 0).val < 1 := (i 0).isLt
  have h1 : (i 1).val < 1 := (i 1).isLt
  have h2 : (i 2).val < 2560 := (i 2).isLt
  exact (val_main_v97_apply x8 i).trans ((a_v96 h _).trans (n2 P.cw rfl (show ((i 2).val) = (i 2).val by omega)))

theorem a_v98 (i : S8x4096x2560.Idx) : val_main_v98 (F := Ideal) x8 i = P.cw 0 (i 2).val := by
  have h0 : (i 0).val < 8 := (i 0).isLt
  have h1 : (i 1).val < 4096 := (i 1).isLt
  have h2 : (i 2).val < 2560 := (i 2).isLt
  exact (val_main_v98_apply x8 i).trans ((a_v97 h _).trans (n2 P.cw rfl (show ((i 2).val) = (i 2).val by omega)))

theorem a_v100 (i : S8x4096x2560.Idx) : val_main_v100 (F := Ideal) x0 x1 x2 x4 x5 i = P.past (i 0).val ((i 1).val + 1) (i 2).val := by
  have h0 : (i 0).val < 8 := (i 0).isLt
  have h1 : (i 1).val < 4096 := (i 1).isLt
  have h2 : (i 2).val < 2560 := (i 2).isLt
  exact (val_main_v100_apply x0 x1 x2 x4 x5 i).trans ((a_v93 h _).trans (n3 P.past (show ((i 0).val) = (i 0).val by omega) (show (1 + (i 1).val) = (i 1).val + 1 by omega) (show ((i 2).val) = (i 2).val by omega)))

theorem a_v101 (i : S1x2560.Idx) : val_main_v101 (F := Ideal) x8 i = P.cw 1 (i 1).val := by
  have h0 : (i 0).val < 1 := (i 0).isLt
  have h1 : (i 1).val < 2560 := (i 1).isLt
  exact (val_main_v101_apply x8 i).trans ((h.x8 _).trans (n2 P.cw (show (1 + (i 0).val) = 1 by omega) (show ((i 1).val) = (i 1).val by omega)))

theorem a_v102 (i : S2560.Idx) : val_main_v102 (F := Ideal) x8 i = P.cw 1 (i 0).val := by
  have h0 : (i 0).val < 2560 := (i 0).isLt
  exact (val_main_v102_apply x8 i).trans ((a_v101 h _).trans (n2 P.cw rfl (show (((i 0).val) % 2560) = (i 0).val by omega)))

theorem a_v103 (i : S1x1x2560.Idx) : val_main_v103 (F := Ideal) x8 i = P.cw 1 (i 2).val := by
  have h0 : (i 0).val < 1 := (i 0).isLt
  have h1 : (i 1).val < 1 := (i 1).isLt
  have h2 : (i 2).val < 2560 := (i 2).isLt
  exact (val_main_v103_apply x8 i).trans ((a_v102 h _).trans (n2 P.cw rfl (show ((i 2).val) = (i 2).val by omega)))

theorem a_v104 (i : S8x4096x2560.Idx) : val_main_v104 (F := Ideal) x8 i = P.cw 1 (i 2).val := by
  have h0 : (i 0).val < 8 := (i 0).isLt
  have h1 : (i 1).val < 4096 := (i 1).isLt
  have h2 : (i 2).val < 2560 := (i 2).isLt
  exact (val_main_v104_apply x8 i).trans ((a_v103 h _).trans (n2 P.cw rfl (show ((i 2).val) = (i 2).val by omega)))

theorem a_v107 (i : S8x4096x2560.Idx) : val_main_v107 (F := Ideal) x0 x1 x2 x4 x5 i = P.past (i 0).val ((i 1).val + 2) (i 2).val := by
  have h0 : (i 0).val < 8 := (i 0).isLt
  have h1 : (i 1).val < 4096 := (i 1).isLt
  have h2 : (i 2).val < 2560 := (i 2).isLt
  exact (val_main_v107_apply x0 x1 x2 x4 x5 i).trans ((a_v93 h _).trans (n3 P.past (show ((i 0).val) = (i 0).val by omega) (show (2 + (i 1).val) = (i 1).val + 2 by omega) (show ((i 2).val) = (i 2).val by omega)))

theorem a_v108 (i : S1x2560.Idx) : val_main_v108 (F := Ideal) x8 i = P.cw 2 (i 1).val := by
  have h0 : (i 0).val < 1 := (i 0).isLt
  have h1 : (i 1).val < 2560 := (i 1).isLt
  exact (val_main_v108_apply x8 i).trans ((h.x8 _).trans (n2 P.cw (show (2 + (i 0).val) = 2 by omega) (show ((i 1).val) = (i 1).val by omega)))

theorem a_v109 (i : S2560.Idx) : val_main_v109 (F := Ideal) x8 i = P.cw 2 (i 0).val := by
  have h0 : (i 0).val < 2560 := (i 0).isLt
  exact (val_main_v109_apply x8 i).trans ((a_v108 h _).trans (n2 P.cw rfl (show (((i 0).val) % 2560) = (i 0).val by omega)))

theorem a_v110 (i : S1x1x2560.Idx) : val_main_v110 (F := Ideal) x8 i = P.cw 2 (i 2).val := by
  have h0 : (i 0).val < 1 := (i 0).isLt
  have h1 : (i 1).val < 1 := (i 1).isLt
  have h2 : (i 2).val < 2560 := (i 2).isLt
  exact (val_main_v110_apply x8 i).trans ((a_v109 h _).trans (n2 P.cw rfl (show ((i 2).val) = (i 2).val by omega)))

theorem a_v111 (i : S8x4096x2560.Idx) : val_main_v111 (F := Ideal) x8 i = P.cw 2 (i 2).val := by
  have h0 : (i 0).val < 8 := (i 0).isLt
  have h1 : (i 1).val < 4096 := (i 1).isLt
  have h2 : (i 2).val < 2560 := (i 2).isLt
  exact (val_main_v111_apply x8 i).trans ((a_v110 h _).trans (n2 P.cw rfl (show ((i 2).val) = (i 2).val by omega)))

theorem a_v114 (i : S8x4096x2560.Idx) : val_main_v114 (F := Ideal) x0 x1 x2 x4 x5 i = P.past (i 0).val ((i 1).val + 3) (i 2).val := by
  have h0 : (i 0).val < 8 := (i 0).isLt
  have h1 : (i 1).val < 4096 := (i 1).isLt
  have h2 : (i 2).val < 2560 := (i 2).isLt
  exact (val_main_v114_apply x0 x1 x2 x4 x5 i).trans ((a_v93 h _).trans (n3 P.past (show ((i 0).val) = (i 0).val by omega) (show (3 + (i 1).val) = (i 1).val + 3 by omega) (show ((i 2).val) = (i 2).val by omega)))

theorem a_v115 (i : S1x2560.Idx) : val_main_v115 (F := Ideal) x8 i = P.cw 3 (i 1).val := by
  have h0 : (i 0).val < 1 := (i 0).isLt
  have h1 : (i 1).val < 2560 := (i 1).isLt
  exact (val_main_v115_apply x8 i).trans ((h.x8 _).trans (n2 P.cw (show (3 + (i 0).val) = 3 by omega) (show ((i 1).val) = (i 1).val by omega)))

theorem a_v116 (i : S2560.Idx) : val_main_v116 (F := Ideal) x8 i = P.cw 3 (i 0).val := by
  have h0 : (i 0).val < 2560 := (i 0).isLt
  exact (val_main_v116_apply x8 i).trans ((a_v115 h _).trans (n2 P.cw rfl (show (((i 0).val) % 2560) = (i 0).val by omega)))

theorem a_v117 (i : S1x1x2560.Idx) : val_main_v117 (F := Ideal) x8 i = P.cw 3 (i 2).val := by
  have h0 : (i 0).val < 1 := (i 0).isLt
  have h1 : (i 1).val < 1 := (i 1).isLt
  have h2 : (i 2).val < 2560 := (i 2).isLt
  exact (val_main_v117_apply x8 i).trans ((a_v116 h _).trans (n2 P.cw rfl (show ((i 2).val) = (i 2).val by omega)))

theorem a_v118 (i : S8x4096x2560.Idx) : val_main_v118 (F := Ideal) x8 i = P.cw 3 (i 2).val := by
  have h0 : (i 0).val < 8 := (i 0).isLt
  have h1 : (i 1).val < 4096 := (i 1).isLt
  have h2 : (i 2).val < 2560 := (i 2).isLt
  exact (val_main_v118_apply x8 i).trans ((a_v117 h _).trans (n2 P.cw rfl (show ((i 2).val) = (i 2).val by omega)))

theorem a_v121 (i : S1x1x2560.Idx) : val_main_v121 (F := Ideal) x9 i = P.cb (i 2).val := by
  have h0 : (i 0).val < 1 := (i 0).isLt
  have h1 : (i 1).val < 1 := (i 1).isLt
  have h2 : (i 2).val < 2560 := (i 2).isLt
  exact (val_main_v121_apply x9 i).trans ((h.x9 _).trans (n1 P.cb (show ((i 2).val) = (i 2).val by omega)))

theorem a_v122 (i : S8x4096x2560.Idx) : val_main_v122 (F := Ideal) x9 i = P.cb (i 2).val := by
  have h0 : (i 0).val < 8 := (i 0).isLt
  have h1 : (i 1).val < 4096 := (i 1).isLt
  have h2 : (i 2).val < 2560 := (i 2).isLt
  exact (val_main_v122_apply x9 i).trans ((a_v121 h _).trans (n1 P.cb (show ((i 2).val) = (i 2).val by omega)))

theorem a_v123 (i : S8x4096x2560.Idx) : val_main_v123 (F := Ideal) x0 x1 x2 x4 x5 x8 x9 i = P.cv (i 0).val (i 1).val (i 2).val := by
  have e0 := (val_main_v99_apply x0 x1 x2 x4 x5 x8 i).trans (congrArg₂ (fun a b : EReal => a * b) (a_v94 h i) (a_v98 h i))
  have e1 := (val_main_v105_apply x0 x1 x2 x4 x5 x8 i).trans (congrArg₂ (fun a b : EReal => a * b) (a_v100 h i) (a_v104 h i))
  have e2 := (val_main_v112_apply x0 x1 x2 x4 x5 x8 i).trans (congrArg₂ (fun a b : EReal => a * b) (a_v107 h i) (a_v111 h i))
  have e3 := (val_main_v119_apply x0 x1 x2 x4 x5 x8 i).trans (congrArg₂ (fun a b : EReal => a * b) (a_v114 h i) (a_v118 h i))
  have e4 := (val_main_v106_apply x0 x1 x2 x4 x5 x8 i).trans (congrArg₂ (fun a b : EReal => a + b) e0 e1)
  have e5 := (val_main_v113_apply x0 x1 x2 x4 x5 x8 i).trans (congrArg₂ (fun a b : EReal => a + b) e4 e2)
  have e6 := (val_main_v120_apply x0 x1 x2 x4 x5 x8 i).trans (congrArg₂ (fun a b : EReal => a + b) e5 e3)
  exact (val_main_v123_apply x0 x1 x2 x4 x5 x8 x9 i).trans (congrArg₂ (fun a b : EReal => a + b) e6 (a_v122 h i))

theorem a_v124 (i : S8x4096x2560.Idx) : val_main_v124 (F := Ideal) x0 x1 x2 x4 x5 x8 x9 i = P.gact (i 0).val (i 1).val (i 2).val := by
  have e := a_v123 h i
  have e1 := (val_main_call6_v0_apply x0 x1 x2 x4 x5 x8 x9 i).trans (congrArg (fun a : EReal => -a) e)
  have e2 := (val_main_call6_v1_apply x0 x1 x2 x4 x5 x8 x9 i).trans (congrArg (fun a : EReal => Ideal.exp a) e1)
  have e3 : val_main_call6_v2 (F := Ideal) i = 1 := (val_main_call6_v2_apply i).trans b1
  have e4 := (val_main_call6_v3_apply x0 x1 x2 x4 x5 x8 x9 i).trans (congrArg₂ (fun a b : EReal => a + b) e3 e2)
  have e5 : val_main_call6_v4 (F := Ideal) i = 1 := (val_main_call6_v4_apply i).trans b1
  have e6 := (val_main_call6_v5_apply x0 x1 x2 x4 x5 x8 x9 i).trans (congrArg₂ (fun a b : EReal => Ideal.div a b) e5 e4)
  exact (val_main_v124_apply x0 x1 x2 x4 x5 x8 x9 i).trans (congrArg₂ (fun a b : EReal => a * b) e e6)

theorem a_v125 (i : S8x4096x1536.Idx) : val_main_v125 (F := Ideal) x0 x1 x2 x4 x5 x8 x9 i = P.gact (i 0).val (i 1).val (i 2).val := by
  have h0 : (i 0).val < 8 := (i 0).isLt
  have h1 : (i 1).val < 4096 := (i 1).isLt
  have h2 : (i 2).val < 1536 := (i 2).isLt
  exact (val_main_v125_apply x0 x1 x2 x4 x5 x8 x9 i).trans ((a_v124 h _).trans (n3 P.gact (show ((i 0).val) = (i 0).val by omega) (show ((i 1).val) = (i 1).val by omega) (show ((i 2).val) = (i 2).val by omega)))

theorem a_v126 (i : S8x4096x512.Idx) : val_main_v126 (F := Ideal) x0 x1 x2 x4 x5 x8 x9 i = P.gact (i 0).val (i 1).val (1536 + (i 2).val) := by
  have h0 : (i 0).val < 8 := (i 0).isLt
  have h1 : (i 1).val < 4096 := (i 1).isLt
  have h2 : (i 2).val < 512 := (i 2).isLt
  exact (val_main_v126_apply x0 x1 x2 x4 x5 x8 x9 i).trans ((a_v124 h _).trans (n3 P.gact (show ((i 0).val) = (i 0).val by omega) (show ((i 1).val) = (i 1).val by omega) (show (1536 + (i 2).val) = 1536 + (i 2).val by omega)))

theorem a_v127 (i : S8x4096x512.Idx) : val_main_v127 (F := Ideal) x0 x1 x2 x4 x5 x8 x9 i = P.gact (i 0).val (i 1).val (2048 + (i 2).val) := by
  have h0 : (i 0).val < 8 := (i 0).isLt
  have h1 : (i 1).val < 4096 := (i 1).isLt
  have h2 : (i 2).val < 512 := (i 2).isLt
  exact (val_main_v127_apply x0 x1 x2 x4 x5 x8 x9 i).trans ((a_v124 h _).trans (n3 P.gact (show ((i 0).val) = (i 0).val by omega) (show ((i 1).val) = (i 1).val by omega) (show (2048 + (i 2).val) = 2048 + (i 2).val by omega)))

theorem a_v128 (i : S8x4096x24x64.Idx) : val_main_v128 (F := Ideal) x0 x1 x2 x4 x5 x8 x9 i = P.gact (i 0).val (i 1).val (64 * (i 2).val + (i 3).val) := by
  have h0 : (i 0).val < 8 := (i 0).isLt
  have h1 : (i 1).val < 4096 := (i 1).isLt
  have h2 : (i 2).val < 24 := (i 2).isLt
  have h3 : (i 3).val < 64 := (i 3).isLt
  exact (val_main_v128_apply x0 x1 x2 x4 x5 x8 x9 i).trans ((a_v125 h _).trans (n3 P.gact (show (((((i 0).val * 4096 + (i 1).val) * 24 + (i 2).val) * 64 + (i 3).val) / 6291456) = (i 0).val by omega) (show (((((i 0).val * 4096 + (i 1).val) * 24 + (i 2).val) * 64 + (i 3).val) / 1536 % 4096) = (i 1).val by omega) (show (((((i 0).val * 4096 + (i 1).val) * 24 + (i 2).val) * 64 + (i 3).val) % 1536) = 64 * (i 2).val + (i 3).val by omega)))

theorem a_v129 (i : S8x4096x4x128.Idx) : val_main_v129 (F := Ideal) x0 x1 x2 x4 x5 x8 x9 i = P.gact (i 0).val (i 1).val (1536 + (128 * (i 2).val + (i 3).val)) := by
  have h0 : (i 0).val < 8 := (i 0).isLt
  have h1 : (i 1).val < 4096 := (i 1).isLt
  have h2 : (i 2).val < 4 := (i 2).isLt
  have h3 : (i 3).val < 128 := (i 3).isLt
  exact (val_main_v129_apply x0 x1 x2 x4 x5 x8 x9 i).trans ((a_v126 h _).trans (n3 P.gact (show (((((i 0).val * 4096 + (i 1).val) * 4 + (i 2).val) * 128 + (i 3).val) / 2097152) = (i 0).val by omega) (show (((((i 0).val * 4096 + (i 1).val) * 4 + (i 2).val) * 128 + (i 3).val) / 512 % 4096) = (i 1).val by omega) (show 1536 + (((((i 0).val * 4096 + (i 1).val) * 4 + (i 2).val) * 128 + (i 3).val) % 512) = 1536 + (128 * (i 2).val + (i 3).val) by omega)))

theorem a_v130 (i : S8x4096x4x128.Idx) : val_main_v130 (F := Ideal) x0 x1 x2 x4 x5 x8 x9 i = P.gact (i 0).val (i 1).val (2048 + (128 * (i 2).val + (i 3).val)) := by
  have h0 : (i 0).val < 8 := (i 0).isLt
  have h1 : (i 1).val < 4096 := (i 1).isLt
  have h2 : (i 2).val < 4 := (i 2).isLt
  have h3 : (i 3).val < 128 := (i 3).isLt
  exact (val_main_v130_apply x0 x1 x2 x4 x5 x8 x9 i).trans ((a_v127 h _).trans (n3 P.gact (show (((((i 0).val * 4096 + (i 1).val) * 4 + (i 2).val) * 128 + (i 3).val) / 2097152) = (i 0).val by omega) (show (((((i 0).val * 4096 + (i 1).val) * 4 + (i 2).val) * 128 + (i 3).val) / 512 % 4096) = (i 1).val by omega) (show 2048 + (((((i 0).val * 4096 + (i 1).val) * 4 + (i 2).val) * 128 + (i 3).val) % 512) = 2048 + (128 * (i 2).val + (i 3).val) by omega)))

theorem a_v131 (i : S1x1x24.Idx) : val_main_v131 (F := Ideal) x10 i = P.dtb (i 2).val := by
  have h0 : (i 0).val < 1 := (i 0).isLt
  have h1 : (i 1).val < 1 := (i 1).isLt
  have h2 : (i 2).val < 24 := (i 2).isLt
  exact (val_main_v131_apply x10 i).trans ((h.x10 _).trans (n1 P.dtb (show ((i 2).val) = (i 2).val by omega)))

theorem a_v132 (i : S8x4096x24.Idx) : val_main_v132 (F := Ideal) x10 i = P.dtb (i 2).val := by
  have h0 : (i 0).val < 8 := (i 0).isLt
  have h1 : (i 1).val < 4096 := (i 1).isLt
  have h2 : (i 2).val < 24 := (i 2).isLt
  exact (val_main_v132_apply x10 i).trans ((a_v131 h _).trans (n1 P.dtb (show ((i 2).val) = (i 2).val by omega)))

theorem a_v134 (i : S8x4096x24.Idx) : val_main_v134 (F := Ideal) x0 x1 x2 x4 x5 x10 i = P.gdt (i 0).val (i 1).val (i 2).val := by
  have e := (val_main_v133_apply x0 x1 x2 x4 x5 x10 i).trans (congrArg₂ (fun a b : EReal => a + b) (a_v25 h i) (a_v132 h i))
  have z0 : val_main_call7_v0 (F := Ideal) i = 0 := (val_main_call7_v0_apply i).trans b0
  have z2 : val_main_call7_v2 (F := Ideal) i = 0 := (val_main_call7_v2_apply i).trans b0
  have e1 := (val_main_call7_v1_apply x0 x1 x2 x4 x5 x10 i).trans (congrArg₂ (fun a b : EReal => max a b) e z0)
  have e3 := (val_main_call7_v3_apply x0 x1 x2 x4 x5 x10 i).trans ((congrArg₂ (fun a b : EReal => a - b) e z2).trans (sub_zero _))
  have e4 := (val_main_call7_v4_apply x0 x1 x2 x4 x5 x10 i).trans (une_self _)
  have e7 := (val_main_call7_v7_apply x0 x1 x2 x4 x5 x10 i).trans (congrArg (fun a : EReal => max a (-a)) e3)
  have e8 := (val_main_call7_v8_apply x0 x1 x2 x4 x5 x10 i).trans (congrArg (fun a : EReal => -a) e7)
  have e9 := (val_main_call7_v9_apply x0 x1 x2 x4 x5 x10 i).trans (congrArg (fun a : EReal => Ideal.exp a) e8)
  have e10 := (val_main_call7_v10_apply x0 x1 x2 x4 x5 x10 i).trans (congrArg (fun a : EReal => Ideal.log (1 + a)) e9)
  have e11 := (val_main_call7_v11_apply x0 x1 x2 x4 x5 x10 i).trans (congrArg₂ (fun a b : EReal => a + b) e1 e10)
  refine (val_main_v134_apply x0 x1 x2 x4 x5 x10 i).trans ?_
  rw [e4, sel0]
  exact e11

theorem a_v136 (i : S24.Idx) : val_main_v136 (F := Ideal) x11 i = P.na (i 0).val := by
  have e := (val_main_v135_apply x11 i).trans (congrArg (fun a : EReal => Ideal.exp a) (h.x11 i))
  exact (val_main_v136_apply x11 i).trans (congrArg (fun a : EReal => -a) e)

theorem a_v137 (i : S8x4096x24x1.Idx) : val_main_v137 (F := Ideal) x0 x1 x2 x4 x5 x10 i = P.gdt (i 0).val (i 1).val (i 2).val := by
  have h0 : (i 0).val < 8 := (i 0).isLt
  have h1 : (i 1).val < 4096 := (i 1).isLt
  have h2 : (i 2).val < 24 := (i 2).isLt
  have h3 : (i 3).val < 1 := (i 3).isLt
  exact (val_main_v137_apply x0 x1 x2 x4 x5 x10 i).trans ((a_v134 h _).trans (n3 P.gdt (show ((i 0).val) = (i 0).val by omega) (show ((i 1).val) = (i 1).val by omega) (show ((i 2).val) = (i 2).val by omega)))

theorem a_v138 (i : S8x4096x24x64.Idx) : val_main_v138 (F := Ideal) x0 x1 x2 x4 x5 x10 i = P.gdt (i 0).val (i 1).val (i 2).val := by
  have h0 : (i 0).val < 8 := (i 0).isLt
  have h1 : (i 1).val < 4096 := (i 1).isLt
  have h2 : (i 2).val < 24 := (i 2).isLt
  have h3 : (i 3).val < 64 := (i 3).isLt
  exact (val_main_v138_apply x0 x1 x2 x4 x5 x10 i).trans ((a_v137 h _).trans (n3 P.gdt (show ((i 0).val) = (i 0).val by omega) (show ((i 1).val) = (i 1).val by omega) (show ((i 2).val) = (i 2).val by omega)))

theorem a_v139 (i : S8x4096x24x64.Idx) : val_main_v139 (F := Ideal) x0 x1 x2 x4 x5 x8 x9 x10 i = P.xd (i 0).val (i 1).val (64 * (i 2).val + (i 3).val) := by
  have h0 : (i 0).val < 8 := (i 0).isLt
  have h1 : (i 1).val < 4096 := (i 1).isLt
  have h2 : (i 2).val < 24 := (i 2).isLt
  have h3 : (i 3).val < 64 := (i 3).isLt
  have e := congrArg₂ (fun a b : EReal => a * b) (a_v128 h i) (a_v138 h i)
  exact (val_main_v139_apply x0 x1 x2 x4 x5 x8 x9 x10 i).trans (e.trans ((show P.gact (i 0).val (i 1).val (64 * (i 2).val + (i 3).val) * P.gdt (i 0).val (i 1).val (i 2).val = P.gact (i 0).val (i 1).val (64 * (i 2).val + (i 3).val) * P.gdt (i 0).val (i 1).val ((64 * (i 2).val + (i 3).val) / 64) by rw [show (64 * (i 2).val + (i 3).val) / 64 = (i 2).val by omega])))

theorem a_v140 (i : S8x64x64x4x6x64.Idx) : val_main_v140 (F := Ideal) x0 x1 x2 x4 x5 x8 x9 x10 i = P.xd (i 0).val (64 * (i 1).val + (i 2).val) (64 * (6 * (i 3).val + (i 4).val) + (i 5).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  have h5 : (i 5).val < 64 := (i 5).isLt
  refine (shapeCast_apply (val_main_v139 (F := Ideal) x0 x1 x2 x4 x5 x8 x9 x10) _ i (ix4 (⟨(i 0).val, h0⟩ : Fin 8) (⟨64 * (i 1).val + (i 2).val, by omega⟩ : Fin 4096) (⟨6 * (i 3).val + (i 4).val, by omega⟩ : Fin 24) (⟨(i 5).val, h5⟩ : Fin 64)) ?_).trans (a_v139 h _)
  refine (Shape.rowMajor_val_four _).trans (Eq.trans ?_ (Shape.rowMajor_val_six _).symm)
  show (((i 0).val * 4096 + (64 * (i 1).val + (i 2).val)) * 24 + (6 * (i 3).val + (i 4).val)) * 64 + (i 5).val = (((((i 0).val * 64 + (i 1).val) * 64 + (i 2).val) * 4 + (i 3).val) * 6 + (i 4).val) * 64 + (i 5).val
  omega

theorem a_v141 (i : S1x1x24.Idx) : val_main_v141 (F := Ideal) x11 i = P.na (i 2).val := by
  have h0 : (i 0).val < 1 := (i 0).isLt
  have h1 : (i 1).val < 1 := (i 1).isLt
  have h2 : (i 2).val < 24 := (i 2).isLt
  exact (val_main_v141_apply x11 i).trans ((a_v136 h _).trans (n1 P.na (show ((i 2).val) = (i 2).val by omega)))

theorem a_v142 (i : S8x4096x24.Idx) : val_main_v142 (F := Ideal) x11 i = P.na (i 2).val := by
  have h0 : (i 0).val < 8 := (i 0).isLt
  have h1 : (i 1).val < 4096 := (i 1).isLt
  have h2 : (i 2).val < 24 := (i 2).isLt
  exact (val_main_v142_apply x11 i).trans ((a_v141 h _).trans (n1 P.na (show ((i 2).val) = (i 2).val by omega)))

theorem a_v143 (i : S8x4096x24.Idx) : val_main_v143 (F := Ideal) x0 x1 x2 x4 x5 x10 x11 i = P.gda (i 0).val (i 1).val (i 2).val := by
  have e := congrArg₂ (fun a b : EReal => a * b) (a_v134 h i) (a_v142 h i)
  exact (val_main_v143_apply x0 x1 x2 x4 x5 x10 x11 i).trans (e.trans (rfl))

theorem a_v144 (i : S8x64x64x4x6.Idx) : val_main_v144 (F := Ideal) x0 x1 x2 x4 x5 x10 x11 i = P.gda (i 0).val (64 * (i 1).val + (i 2).val) (6 * (i 3).val + (i 4).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  exact (val_main_v144_apply x0 x1 x2 x4 x5 x10 x11 i).trans ((a_v143 h _).trans (n3 P.gda (show ((((((i 0).val * 64 + (i 1).val) * 64 + (i 2).val) * 4 + (i 3).val) * 6 + (i 4).val) / 98304) = (i 0).val by omega) (show ((((((i 0).val * 64 + (i 1).val) * 64 + (i 2).val) * 4 + (i 3).val) * 6 + (i 4).val) / 24 % 4096) = 64 * (i 1).val + (i 2).val by omega) (show ((((((i 0).val * 64 + (i 1).val) * 64 + (i 2).val) * 4 + (i 3).val) * 6 + (i 4).val) % 24) = 6 * (i 3).val + (i 4).val by omega)))

theorem a_v145 (i : S8x64x4x6x64.Idx) : val_main_v145 (F := Ideal) x0 x1 x2 x4 x5 x10 x11 i = P.gda (i 0).val (64 * (i 1).val + (i 4).val) (6 * (i 2).val + (i 3).val) := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  exact (val_main_v145_apply x0 x1 x2 x4 x5 x10 x11 i).trans ((a_v144 h _).trans (n3 P.gda (show ((i 0).val) = (i 0).val by omega) (show 64 * ((i 1).val) + ((i 4).val) = 64 * (i 1).val + (i 4).val by omega) (show 6 * ((i 2).val) + ((i 3).val) = 6 * (i 2).val + (i 3).val by omega)))

theorem a_v146 (i : S8x64x64x4x128.Idx) : val_main_v146 (F := Ideal) x0 x1 x2 x4 x5 x8 x9 i = P.gact (i 0).val (64 * (i 1).val + (i 2).val) (1536 + (128 * (i 3).val + (i 4).val)) := by
  have h0 : (i 0).val < 8 := (i 0).isLt
  have h1 : (i 1).val < 64 := (i 1).isLt
  have h2 : (i 2).val < 64 := (i 2).isLt
  have h3 : (i 3).val < 4 := (i 3).isLt
  have h4 : (i 4).val < 128 := (i 4).isLt
  exact (val_main_v146_apply x0 x1 x2 x4 x5 x8 x9 i).trans ((a_v129 h _).trans (n3 P.gact (show ((((((i 0).val * 64 + (i 1).val) * 64 + (i 2).val) * 4 + (i 3).val) * 128 + (i 4).val) / 2097152) = (i 0).val by omega) (show ((((((i 0).val * 64 + (i 1).val) * 64 + (i 2).val) * 4 + (i 3).val) * 128 + (i 4).val) / 512 % 4096) = 64 * (i 1).val + (i 2).val by omega) (show 1536 + (128 * ((((((i 0).val * 64 + (i 1).val) * 64 + (i 2).val) * 4 + (i 3).val) * 128 + (i 4).val) / 128 % 4) + ((((((i 0).val * 64 + (i 1).val) * 64 + (i 2).val) * 4 + (i 3).val) * 128 + (i 4).val) % 128)) = 1536 + (128 * (i 3).val + (i 4).val) by omega)))

theorem a_v147 (i : S8x64x64x4x128.Idx) : val_main_v147 (F := Ideal) x0 x1 x2 x4 x5 x8 x9 i = P.gact (i 0).val (64 * (i 1).val + (i 2).val) (2048 + (128 * (i 3).val + (i 4).val)) := by
  have h0 : (i 0).val < 8 := (i 0).isLt
  have h1 : (i 1).val < 64 := (i 1).isLt
  have h2 : (i 2).val < 64 := (i 2).isLt
  have h3 : (i 3).val < 4 := (i 3).isLt
  have h4 : (i 4).val < 128 := (i 4).isLt
  exact (val_main_v147_apply x0 x1 x2 x4 x5 x8 x9 i).trans ((a_v130 h _).trans (n3 P.gact (show ((((((i 0).val * 64 + (i 1).val) * 64 + (i 2).val) * 4 + (i 3).val) * 128 + (i 4).val) / 2097152) = (i 0).val by omega) (show ((((((i 0).val * 64 + (i 1).val) * 64 + (i 2).val) * 4 + (i 3).val) * 128 + (i 4).val) / 512 % 4096) = 64 * (i 1).val + (i 2).val by omega) (show 2048 + (128 * ((((((i 0).val * 64 + (i 1).val) * 64 + (i 2).val) * 4 + (i 3).val) * 128 + (i 4).val) / 128 % 4) + ((((((i 0).val * 64 + (i 1).val) * 64 + (i 2).val) * 4 + (i 3).val) * 128 + (i 4).val) % 128)) = 2048 + (128 * (i 3).val + (i 4).val) by omega)))

end

end Cert.MixerRefIdeal.Read
-- ==== Proof.MixRef3.lean ====
/-
  The scan of the mixer's reference, read at an index (untrusted).
-/
module

public import proofs.«01_k».proof.Proof.MixRef2

@[expose] public section

set_option maxRecDepth 16384

noncomputable section

namespace Cert.MixerIdeal.Value.Par

open Idealize.ShloMosaic
open scoped BigOperators

variable (P : Par)

/-- A pair of rows of a chunk: their product and the decay between them. -/
def mw (b k l m g hh : ℕ) : EReal := P.gcb b k l m g * P.dec b k l m hh
/-- The log-decay from a row to the end of its chunk. -/
def ds (b k m h : ℕ) : EReal := P.gacs b k 63 h - P.gacs b k m h
def dw (b k m h : ℕ) : EReal := Ideal.exp (P.ds b k m h)
def xw (b k m c : ℕ) : EReal := P.xd b (64 * k + m) c * P.dw b k m (c / 64)
/-- The log-decay before a chunk. -/
def cpr (b k h : ℕ) : EReal := P.ctot b k h - P.tot b k h
/-- The decay from the start of a chunk. -/
def eo (b k l h : ℕ) : EReal := Ideal.exp (P.gacs b k l h)
/-- What the state entering the chunk gives a row, before its decay. -/
def pv (b k l c : ℕ) : EReal := ∑ n : Fin 128, P.prev b k n.val c * P.gact b (64 * k + l) (2048 + (128 * (c / 384) + n.val))
/-- A row's output from its own chunk and from the chunks before it. -/
def dio (b k l c : ℕ) : EReal := P.diag b k l c + P.off b k l c
theorem dech_eq (b k z h : ℕ) : Ideal.exp (if z < k then P.cpr b k h - P.ctot b z h else ⊥) = P.dech b k z h := rfl
theorem mw_at {b k l m g hh k' l' m' g' hh' : ℕ} (h1 : k = k') (h2 : l = l') (h3 : m = m') (h4 : g = g') (h5 : hh = hh') : P.mw b k l m g hh = P.mw b k' l' m' g' hh' := by
  rw [h1, h2, h3, h4, h5]

end Cert.MixerIdeal.Value.Par

namespace Cert.MixerRefIdeal.Read

open Cert.MixerRefIdeal Idealize.ShloMosaic Idealize.ShloMosaic.TcCoe Idealize.SL.Sem
open Cert.Layer
open Cert.MixerIdeal.Value (Par cnt ginv)
open scoped BigOperators

section
variable {P : Par} {x0 : (⟨S8x4096x1024, .f32⟩ : BufTy).Contents (Elt Ideal)} {x1 x2 x3 : (⟨S8x1024, .f32⟩ : BufTy).Contents (Elt Ideal)} {x4 : (⟨S1024, .f32⟩ : BufTy).Contents (Elt Ideal)} {x5 : (⟨S1024x4632, .f32⟩ : BufTy).Contents (Elt Ideal)} {x6 : (⟨S4x128x128, .f32⟩ : BufTy).Contents (Elt Ideal)} {x7 : (⟨S512, .f32⟩ : BufTy).Contents (Elt Ideal)} {x8 : (⟨S4x2560, .f32⟩ : BufTy).Contents (Elt Ideal)} {x9 : (⟨S2560, .f32⟩ : BufTy).Contents (Elt Ideal)} {x10 x11 x12 : (⟨S24, .f32⟩ : BufTy).Contents (Elt Ideal)} {x13 : (⟨S1536, .f32⟩ : BufTy).Contents (Elt Ideal)} {x14 : (⟨S2048x1024, .f32⟩ : BufTy).Contents (Elt Ideal)}
variable (h : RArgs P x0 x1 x2 x3 x4 x5 x6 x7 x8 x9 x10 x11 x12 x13 x14)
include h

theorem a_v148 (i : S8x64x4x6x64.Idx) : val_main_v148 (F := Ideal) x0 x1 x2 x4 x5 x10 x11 i = P.gacs (i 0).val (i 1).val (i 4).val (6 * (i 2).val + (i 3).val) := by
  exact cumsum_at (s := S8x64x4x6x64) (4 : Fin 5) 63 ![1, 1, 1, 1, 64] ![1, 1, 1, 1, 1] ![0, 0, 0, 0, 63] ![0, 0, 0, 0, 0] (by decide) (by decide) (by decide) rfl (val_main_v145 (F := Ideal) x0 x1 x2 x4 x5 x10 x11) (val_main_call8_call0_v0 (F := Ideal)) _ _ ((val_main_call8_call0_v0_apply _).trans b0) i
    (fun t => P.gda (i 0).val (64 * (i 1).val + t) (6 * (i 2).val + (i 3).val)) fun j hj => (a_v145 h j).trans (n3 P.gda (hj 0 (by decide)) (congrArg (fun a => 64 * a + (j 4).val) (hj 1 (by decide))) (congrArg₂ (fun a b => 6 * a + b) (hj 2 (by decide)) (hj 3 (by decide))))

theorem a_v151 (i : S8x64x4x6x64.Idx) : val_main_v151 (F := Ideal) x0 x1 x2 x4 x5 x10 x11 i = P.gacs (i 0).val (i 1).val (i 4).val (6 * (i 2).val + (i 3).val) := by
  exact cumsum_at (s := S8x64x4x6x64) (4 : Fin 5) 63 ![1, 1, 1, 1, 64] ![1, 1, 1, 1, 1] ![0, 0, 0, 0, 63] ![0, 0, 0, 0, 0] (by decide) (by decide) (by decide) rfl (val_main_v145 (F := Ideal) x0 x1 x2 x4 x5 x10 x11) (val_main_call9_call0_v0 (F := Ideal)) _ _ ((val_main_call9_call0_v0_apply _).trans b0) i
    (fun t => P.gda (i 0).val (64 * (i 1).val + t) (6 * (i 2).val + (i 3).val)) fun j hj => (a_v145 h j).trans (n3 P.gda (hj 0 (by decide)) (congrArg (fun a => 64 * a + (j 4).val) (hj 1 (by decide))) (congrArg₂ (fun a b => 6 * a + b) (hj 2 (by decide)) (hj 3 (by decide))))

theorem a_v149 (i : S8x64x4x64x64.Idx) : val_main_v149 (F := Ideal) x0 x1 x2 x4 x5 x8 x9 i = P.gcb (i 0).val (i 1).val (i 3).val (i 4).val (i 2).val := by
  have h0 : (i 0).val < 8 := (i 0).isLt
  have h1 : (i 1).val < 64 := (i 1).isLt
  have h2 : (i 2).val < 4 := (i 2).isLt
  have h3 : (i 3).val < 64 := (i 3).isLt
  have h4 : (i 4).val < 64 := (i 4).isLt
  refine (val_main_v149_apply x0 x1 x2 x4 x5 x8 x9 i).trans ?_
  show _ = ∑ k : Fin 128, P.gact (i 0).val (64 * (i 1).val + (i 3).val) (2048 + (128 * (i 2).val + k.val)) * P.gact (i 0).val (64 * (i 1).val + (i 4).val) (1536 + (128 * (i 2).val + k.val))
  refine Finset.sum_congr rfl fun k _ => ?_
  have hk := k.isLt
  have e1 : val_main_v147 (F := Ideal) x0 x1 x2 x4 x5 x8 x9 (lidx_main_v149 i k) = P.gact (i 0).val (64 * (i 1).val + (i 3).val) (2048 + (128 * (i 2).val + k.val)) := (a_v147 h _).trans (n3 P.gact (show ((i 0).val) = (i 0).val by omega) (show 64 * ((i 1).val) + ((i 3).val) = 64 * (i 1).val + (i 3).val by omega) (show 2048 + (128 * ((i 2).val) + (k.val)) = 2048 + (128 * (i 2).val + k.val) by omega))
  have e2 : val_main_v146 (F := Ideal) x0 x1 x2 x4 x5 x8 x9 (ridx_main_v149 i k) = P.gact (i 0).val (64 * (i 1).val + (i 4).val) (1536 + (128 * (i 2).val + k.val)) := (a_v146 h _).trans (n3 P.gact (show ((i 0).val) = (i 0).val by omega) (show 64 * ((i 1).val) + ((i 4).val) = 64 * (i 1).val + (i 4).val by omega) (show 1536 + (128 * ((i 2).val) + (k.val)) = 1536 + (128 * (i 2).val + k.val) by omega))
  exact congrArg₂ (fun a b : EReal => a * b) e1 e2

theorem a_v150 (i : S8x64x4x1x64x64.Idx) : val_main_v150 (F := Ideal) x0 x1 x2 x4 x5 x8 x9 i = P.gcb (i 0).val (i 1).val (i 4).val (i 5).val (i 2).val := by
  have h0 : (i 0).val < 8 := (i 0).isLt
  have h1 : (i 1).val < 64 := (i 1).isLt
  have h2 : (i 2).val < 4 := (i 2).isLt
  have h3 : (i 3).val < 1 := (i 3).isLt
  have h4 : (i 4).val < 64 := (i 4).isLt
  have h5 : (i 5).val < 64 := (i 5).isLt
  exact (val_main_v150_apply x0 x1 x2 x4 x5 x8 x9 i).trans ((a_v149 h _).trans (n5 P.gcb (show ((i 0).val) = (i 0).val by omega) (show ((i 1).val) = (i 1).val by omega) (show ((i 4).val) = (i 4).val by omega) (show ((i 5).val) = (i 5).val by omega) (show ((i 2).val) = (i 2).val by omega)))

theorem a_v152 (i : S8x64x4x6x64x1.Idx) : val_main_v152 (F := Ideal) x0 x1 x2 x4 x5 x10 x11 i = P.gacs (i 0).val (i 1).val (i 4).val (6 * (i 2).val + (i 3).val) := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  have h5 : (i 5).val < 1 := (i 5).isLt
  exact (val_main_v152_apply x0 x1 x2 x4 x5 x10 x11 i).trans ((a_v151 h _).trans (n4 P.gacs (show ((i 0).val) = (i 0).val by omega) (show ((i 1).val) = (i 1).val by omega) (show ((i 4).val) = (i 4).val by omega) (show 6 * ((i 2).val) + ((i 3).val) = 6 * (i 2).val + (i 3).val by omega)))

theorem a_v153 (i : S8x64x4x6x1x64.Idx) : val_main_v153 (F := Ideal) x0 x1 x2 x4 x5 x10 x11 i = P.gacs (i 0).val (i 1).val (i 5).val (6 * (i 2).val + (i 3).val) := by
  have h0 : (i 0).val < 8 := (i 0).isLt
  have h1 : (i 1).val < 64 := (i 1).isLt
  have h2 : (i 2).val < 4 := (i 2).isLt
  have h3 : (i 3).val < 6 := (i 3).isLt
  have h4 : (i 4).val < 1 := (i 4).isLt
  have h5 : (i 5).val < 64 := (i 5).isLt
  exact (val_main_v153_apply x0 x1 x2 x4 x5 x10 x11 i).trans ((a_v151 h _).trans (n4 P.gacs (show ((i 0).val) = (i 0).val by omega) (show ((i 1).val) = (i 1).val by omega) (show ((i 5).val) = (i 5).val by omega) (show 6 * ((i 2).val) + ((i 3).val) = 6 * (i 2).val + (i 3).val by omega)))

theorem a_v154 (i : S8x64x4x6x64x64.Idx) : val_main_v154 (F := Ideal) x0 x1 x2 x4 x5 x10 x11 i = P.gacs (i 0).val (i 1).val (i 4).val (6 * (i 2).val + (i 3).val) := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  have h5 : (i 5).val < 64 := (i 5).isLt
  exact (val_main_v154_apply x0 x1 x2 x4 x5 x10 x11 i).trans ((a_v152 h _).trans (n4 P.gacs (show ((i 0).val) = (i 0).val by omega) (show ((i 1).val) = (i 1).val by omega) (show ((i 4).val) = (i 4).val by omega) (show 6 * ((i 2).val) + ((i 3).val) = 6 * (i 2).val + (i 3).val by omega)))

theorem a_v155 (i : S8x64x4x6x64x64.Idx) : val_main_v155 (F := Ideal) x0 x1 x2 x4 x5 x10 x11 i = P.gacs (i 0).val (i 1).val (i 5).val (6 * (i 2).val + (i 3).val) := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  have h5 : (i 5).val < 64 := (i 5).isLt
  exact (val_main_v155_apply x0 x1 x2 x4 x5 x10 x11 i).trans ((a_v153 h _).trans (n4 P.gacs (show ((i 0).val) = (i 0).val by omega) (show ((i 1).val) = (i 1).val by omega) (show ((i 5).val) = (i 5).val by omega) (show 6 * ((i 2).val) + ((i 3).val) = 6 * (i 2).val + (i 3).val by omega)))

omit h in
theorem a_v158 (i : S64x64.Idx) : val_main_v158 (F := Ideal) i = if (i 1).val ≤ (i 0).val then 1#1 else 0#1 := by
  have e : val_main_call10_v4 (F := Ideal) i = if (i 1).val ≤ (i 0).val then 1#1 else 0#1 := by
    refine (val_main_call10_v4_apply i).trans ?_
    rw [val_main_call10_v2_apply, val_main_call10_v0_apply, val_main_call10_v1_apply, val_main_call10_v3_apply, val_main_call10_c_apply]
    exact mask0 (⟨(i 0).val, (i 0).isLt⟩ : Fin 64) (⟨(i 1).val, (i 1).isLt⟩ : Fin 64)
  refine (val_main_v158_apply i).trans ?_
  rw [e]
  by_cases hc : (i 1).val ≤ (i 0).val
  · rw [if_pos hc, sel1]
    exact (val_main_v157_apply i).trans rfl
  · rw [if_neg hc, sel0]
    exact (val_main_call10_v5_apply i).trans rfl

theorem a_v159 (i : S8x64x4x6x64x64.Idx) : val_main_v159 (F := Ideal) x0 x1 x2 x4 x5 x10 x11 i = if (i 5).val ≤ (i 4).val then P.gacs (i 0).val (i 1).val (i 4).val (6 * (i 2).val + (i 3).val) - P.gacs (i 0).val (i 1).val (i 5).val (6 * (i 2).val + (i 3).val) else ⊥ := by
  refine (val_main_v159_apply x0 x1 x2 x4 x5 x10 x11 i).trans ?_
  have em : val_main_call11_v1 (F := Ideal) i = if (i 5).val ≤ (i 4).val then 1#1 else 0#1 := (val_main_call11_v1_apply i).trans (a_v158 _)
  rw [em]
  by_cases hc : (i 5).val ≤ (i 4).val
  · rw [if_pos hc, if_pos hc, sel1]
    exact (val_main_v156_apply x0 x1 x2 x4 x5 x10 x11 i).trans (congrArg₂ (fun a b : EReal => a - b) (a_v154 h i) (a_v155 h i))
  · rw [if_neg hc, if_neg hc, sel0]
    exact (val_main_call11_v2_apply i).trans ((val_main_call11_v0_apply _).trans ((val_main_cst_16_apply _).trans bninf))

theorem a_v160 (i : S8x64x4x6x64x64.Idx) : val_main_v160 (F := Ideal) x0 x1 x2 x4 x5 x10 x11 i = P.dec (i 0).val (i 1).val (i 4).val (i 5).val (6 * (i 2).val + (i 3).val) := by
  have e := congrArg (fun a : EReal => Ideal.exp a) (a_v159 h i)
  exact (val_main_v160_apply x0 x1 x2 x4 x5 x10 x11 i).trans (e.trans (rfl))

theorem a_v161 (i : S8x64x4x6x64x64.Idx) : val_main_v161 (F := Ideal) x0 x1 x2 x4 x5 x8 x9 i = P.gcb (i 0).val (i 1).val (i 4).val (i 5).val (i 2).val := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  have h5 : (i 5).val < 64 := (i 5).isLt
  exact (val_main_v161_apply x0 x1 x2 x4 x5 x8 x9 i).trans ((a_v150 h _).trans (n5 P.gcb (show ((i 0).val) = (i 0).val by omega) (show ((i 1).val) = (i 1).val by omega) (show ((i 4).val) = (i 4).val by omega) (show ((i 5).val) = (i 5).val by omega) (show ((i 2).val) = (i 2).val by omega)))

theorem a_v162 (i : S8x64x4x6x64x64.Idx) : val_main_v162 (F := Ideal) x0 x1 x2 x4 x5 x8 x9 x10 x11 i = P.mw (i 0).val (i 1).val (i 4).val (i 5).val (i 2).val (6 * (i 2).val + (i 3).val) := by
  have e := congrArg₂ (fun a b : EReal => a * b) (a_v161 h i) (a_v160 h i)
  exact (val_main_v162_apply x0 x1 x2 x4 x5 x8 x9 x10 x11 i).trans (e.trans (rfl))

theorem a_v163 (i : S8x64x4x6x64x64.Idx) : val_main_v163 (F := Ideal) x0 x1 x2 x4 x5 x8 x9 x10 x11 i = P.diag (i 0).val (i 1).val (i 5).val (64 * (6 * (i 2).val + (i 3).val) + (i 4).val) := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  have h5 : (i 5).val < 64 := (i 5).isLt
  refine (val_main_v163_apply x0 x1 x2 x4 x5 x8 x9 x10 x11 i).trans ?_
  show _ = ∑ k : Fin 64, P.xd (i 0).val (64 * (i 1).val + k.val) (64 * (6 * (i 2).val + (i 3).val) + (i 4).val) * P.mw (i 0).val (i 1).val (i 5).val (k.val) ((64 * (6 * (i 2).val + (i 3).val) + (i 4).val) / 384) ((64 * (6 * (i 2).val + (i 3).val) + (i 4).val) / 64)
  refine Finset.sum_congr rfl fun k _ => ?_
  have hk := k.isLt
  have e1 : val_main_v140 (F := Ideal) x0 x1 x2 x4 x5 x8 x9 x10 (lidx_main_v163 i k) = P.xd (i 0).val (64 * (i 1).val + k.val) (64 * (6 * (i 2).val + (i 3).val) + (i 4).val) := (a_v140 h _).trans (n3 P.xd (show ((i 0).val) = (i 0).val by omega) (show 64 * ((i 1).val) + (k.val) = 64 * (i 1).val + k.val by omega) (show 64 * (6 * ((i 2).val) + ((i 3).val)) + ((i 4).val) = 64 * (6 * (i 2).val + (i 3).val) + (i 4).val by omega))
  have e2 : val_main_v162 (F := Ideal) x0 x1 x2 x4 x5 x8 x9 x10 x11 (ridx_main_v163 i k) = P.mw (i 0).val (i 1).val (i 5).val (k.val) ((64 * (6 * (i 2).val + (i 3).val) + (i 4).val) / 384) ((64 * (6 * (i 2).val + (i 3).val) + (i 4).val) / 64) := (a_v162 h _).trans (P.mw_at (show ((i 1).val) = (i 1).val by omega) (show ((i 5).val) = (i 5).val by omega) rfl (show ((i 2).val) = (64 * (6 * (i 2).val + (i 3).val) + (i 4).val) / 384 by omega) (show 6 * ((i 2).val) + ((i 3).val) = (64 * (6 * (i 2).val + (i 3).val) + (i 4).val) / 64 by omega))
  exact congrArg₂ (fun a b : EReal => a * b) e1 e2

theorem a_v164 (i : S8x64x64x4x6x64.Idx) : val_main_v164 (F := Ideal) x0 x1 x2 x4 x5 x8 x9 x10 x11 i = P.diag (i 0).val (i 1).val (i 2).val (64 * (6 * (i 3).val + (i 4).val) + (i 5).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  have h5 : (i 5).val < 64 := (i 5).isLt
  exact (val_main_v164_apply x0 x1 x2 x4 x5 x8 x9 x10 x11 i).trans ((a_v163 h _).trans (n4 P.diag (show ((i 0).val) = (i 0).val by omega) (show ((i 1).val) = (i 1).val by omega) (show ((i 2).val) = (i 2).val by omega) (show 64 * (6 * ((i 3).val) + ((i 4).val)) + ((i 5).val) = 64 * (6 * (i 3).val + (i 4).val) + (i 5).val by omega)))

theorem a_v165 (i : S8x64x4x6x1.Idx) : val_main_v165 (F := Ideal) x0 x1 x2 x4 x5 x10 x11 i = P.gacs (i 0).val (i 1).val 63 (6 * (i 2).val + (i 3).val) := by
  have h0 : (i 0).val < 8 := (i 0).isLt
  have h1 : (i 1).val < 64 := (i 1).isLt
  have h2 : (i 2).val < 4 := (i 2).isLt
  have h3 : (i 3).val < 6 := (i 3).isLt
  have h4 : (i 4).val < 1 := (i 4).isLt
  exact (val_main_v165_apply x0 x1 x2 x4 x5 x10 x11 i).trans ((a_v148 h _).trans (n4 P.gacs (show ((i 0).val) = (i 0).val by omega) (show ((i 1).val) = (i 1).val by omega) (show (63 + (i 4).val) = 63 by omega) (show 6 * ((i 2).val) + ((i 3).val) = 6 * (i 2).val + (i 3).val by omega)))

theorem a_v166 (i : S8x64x4x6x64.Idx) : val_main_v166 (F := Ideal) x0 x1 x2 x4 x5 x10 x11 i = P.gacs (i 0).val (i 1).val 63 (6 * (i 2).val + (i 3).val) := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  exact (val_main_v166_apply x0 x1 x2 x4 x5 x10 x11 i).trans ((a_v165 h _).trans (n4 P.gacs (show ((i 0).val) = (i 0).val by omega) (show ((i 1).val) = (i 1).val by omega) rfl (show 6 * ((i 2).val) + ((i 3).val) = 6 * (i 2).val + (i 3).val by omega)))

theorem a_v167 (i : S8x64x4x6x64.Idx) : val_main_v167 (F := Ideal) x0 x1 x2 x4 x5 x10 x11 i = P.ds (i 0).val (i 1).val (i 4).val (6 * (i 2).val + (i 3).val) := by
  have e := congrArg₂ (fun a b : EReal => a - b) (a_v166 h i) (a_v148 h i)
  exact (val_main_v167_apply x0 x1 x2 x4 x5 x10 x11 i).trans (e.trans (rfl))

theorem a_v168 (i : S8x64x4x6x64.Idx) : val_main_v168 (F := Ideal) x0 x1 x2 x4 x5 x10 x11 i = P.dw (i 0).val (i 1).val (i 4).val (6 * (i 2).val + (i 3).val) := by
  have e := congrArg (fun a : EReal => Ideal.exp a) (a_v167 h i)
  exact (val_main_v168_apply x0 x1 x2 x4 x5 x10 x11 i).trans (e.trans (rfl))

theorem a_v169 (i : S8x64x64x4x6.Idx) : val_main_v169 (F := Ideal) x0 x1 x2 x4 x5 x10 x11 i = P.dw (i 0).val (i 1).val (i 2).val (6 * (i 3).val + (i 4).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  exact (val_main_v169_apply x0 x1 x2 x4 x5 x10 x11 i).trans ((a_v168 h _).trans (n4 P.dw (show ((i 0).val) = (i 0).val by omega) (show ((i 1).val) = (i 1).val by omega) (show ((i 2).val) = (i 2).val by omega) (show 6 * ((i 3).val) + ((i 4).val) = 6 * (i 3).val + (i 4).val by omega)))

theorem a_v170 (i : S8x64x64x4x6x1.Idx) : val_main_v170 (F := Ideal) x0 x1 x2 x4 x5 x10 x11 i = P.dw (i 0).val (i 1).val (i 2).val (6 * (i 3).val + (i 4).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  have h5 : (i 5).val < 1 := (i 5).isLt
  exact (val_main_v170_apply x0 x1 x2 x4 x5 x10 x11 i).trans ((a_v169 h _).trans (n4 P.dw (show ((i 0).val) = (i 0).val by omega) (show ((i 1).val) = (i 1).val by omega) (show ((i 2).val) = (i 2).val by omega) (show 6 * ((i 3).val) + ((i 4).val) = 6 * (i 3).val + (i 4).val by omega)))

theorem a_v171 (i : S8x64x64x4x6x64.Idx) : val_main_v171 (F := Ideal) x0 x1 x2 x4 x5 x10 x11 i = P.dw (i 0).val (i 1).val (i 2).val (6 * (i 3).val + (i 4).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  have h5 : (i 5).val < 64 := (i 5).isLt
  exact (val_main_v171_apply x0 x1 x2 x4 x5 x10 x11 i).trans ((a_v170 h _).trans (n4 P.dw (show ((i 0).val) = (i 0).val by omega) (show ((i 1).val) = (i 1).val by omega) (show ((i 2).val) = (i 2).val by omega) (show 6 * ((i 3).val) + ((i 4).val) = 6 * (i 3).val + (i 4).val by omega)))

theorem a_v172 (i : S8x64x64x4x6x64.Idx) : val_main_v172 (F := Ideal) x0 x1 x2 x4 x5 x8 x9 x10 x11 i = P.xw (i 0).val (i 1).val (i 2).val (64 * (6 * (i 3).val + (i 4).val) + (i 5).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  have h5 : (i 5).val < 64 := (i 5).isLt
  have e := congrArg₂ (fun a b : EReal => a * b) (a_v140 h i) (a_v171 h i)
  exact (val_main_v172_apply x0 x1 x2 x4 x5 x8 x9 x10 x11 i).trans (e.trans ((show P.xd (i 0).val (64 * (i 1).val + (i 2).val) (64 * (6 * (i 3).val + (i 4).val) + (i 5).val) * P.dw (i 0).val (i 1).val (i 2).val (6 * (i 3).val + (i 4).val) = P.xd (i 0).val (64 * (i 1).val + (i 2).val) (64 * (6 * (i 3).val + (i 4).val) + (i 5).val) * P.dw (i 0).val (i 1).val (i 2).val ((64 * (6 * (i 3).val + (i 4).val) + (i 5).val) / 64) by rw [show (64 * (6 * (i 3).val + (i 4).val) + (i 5).val) / 64 = 6 * (i 3).val + (i 4).val by omega])))

theorem a_v173 (i : S8x64x4x6x64x128.Idx) : val_main_v173 (F := Ideal) x0 x1 x2 x4 x5 x8 x9 x10 x11 i = P.cst (i 0).val (i 1).val (i 5).val (64 * (6 * (i 2).val + (i 3).val) + (i 4).val) := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  have h5 : (i 5).val < 128 := (i 5).isLt
  refine (val_main_v173_apply x0 x1 x2 x4 x5 x8 x9 x10 x11 i).trans ?_
  show _ = ∑ k : Fin 64, P.xw (i 0).val (i 1).val (k.val) (64 * (6 * (i 2).val + (i 3).val) + (i 4).val) * P.gact (i 0).val (64 * (i 1).val + k.val) (1536 + (128 * ((64 * (6 * (i 2).val + (i 3).val) + (i 4).val) / 384) + (i 5).val))
  refine Finset.sum_congr rfl fun k _ => ?_
  have hk := k.isLt
  have e1 : val_main_v172 (F := Ideal) x0 x1 x2 x4 x5 x8 x9 x10 x11 (lidx_main_v173 i k) = P.xw (i 0).val (i 1).val (k.val) (64 * (6 * (i 2).val + (i 3).val) + (i 4).val) := (a_v172 h _).trans (n4 P.xw (show ((i 0).val) = (i 0).val by omega) (show ((i 1).val) = (i 1).val by omega) rfl (show 64 * (6 * ((i 2).val) + ((i 3).val)) + ((i 4).val) = 64 * (6 * (i 2).val + (i 3).val) + (i 4).val by omega))
  have e2 : val_main_v146 (F := Ideal) x0 x1 x2 x4 x5 x8 x9 (ridx_main_v173 i k) = P.gact (i 0).val (64 * (i 1).val + k.val) (1536 + (128 * ((64 * (6 * (i 2).val + (i 3).val) + (i 4).val) / 384) + (i 5).val)) := (a_v146 h _).trans (n3 P.gact (show ((i 0).val) = (i 0).val by omega) (show 64 * ((i 1).val) + (k.val) = 64 * (i 1).val + k.val by omega) (show 1536 + (128 * ((i 2).val) + ((i 5).val)) = 1536 + (128 * ((64 * (6 * (i 2).val + (i 3).val) + (i 4).val) / 384) + (i 5).val) by omega))
  exact congrArg₂ (fun a b : EReal => a * b) e1 e2

theorem a_v174 (i : S8x64x4x6x1.Idx) : val_main_v174 (F := Ideal) x0 x1 x2 x4 x5 x10 x11 i = P.gacs (i 0).val (i 1).val 63 (6 * (i 2).val + (i 3).val) := by
  have h0 : (i 0).val < 8 := (i 0).isLt
  have h1 : (i 1).val < 64 := (i 1).isLt
  have h2 : (i 2).val < 4 := (i 2).isLt
  have h3 : (i 3).val < 6 := (i 3).isLt
  have h4 : (i 4).val < 1 := (i 4).isLt
  exact (val_main_v174_apply x0 x1 x2 x4 x5 x10 x11 i).trans ((a_v148 h _).trans (n4 P.gacs (show ((i 0).val) = (i 0).val by omega) (show ((i 1).val) = (i 1).val by omega) (show (63 + (i 4).val) = 63 by omega) (show 6 * ((i 2).val) + ((i 3).val) = 6 * (i 2).val + (i 3).val by omega)))

theorem a_v175 (i : S8x64x4x6.Idx) : val_main_v175 (F := Ideal) x0 x1 x2 x4 x5 x10 x11 i = P.gacs (i 0).val (i 1).val 63 (6 * (i 2).val + (i 3).val) := by
  have h0 : (i 0).val < 8 := (i 0).isLt
  have h1 : (i 1).val < 64 := (i 1).isLt
  have h2 : (i 2).val < 4 := (i 2).isLt
  have h3 : (i 3).val < 6 := (i 3).isLt
  exact (val_main_v175_apply x0 x1 x2 x4 x5 x10 x11 i).trans ((a_v174 h _).trans (n4 P.gacs (show (((((i 0).val * 64 + (i 1).val) * 4 + (i 2).val) * 6 + (i 3).val) / 1536) = (i 0).val by omega) (show (((((i 0).val * 64 + (i 1).val) * 4 + (i 2).val) * 6 + (i 3).val) / 24 % 64) = (i 1).val by omega) rfl (show 6 * (((((i 0).val * 64 + (i 1).val) * 4 + (i 2).val) * 6 + (i 3).val) / 6 % 4) + (((((i 0).val * 64 + (i 1).val) * 4 + (i 2).val) * 6 + (i 3).val) / 1 % 6) = 6 * (i 2).val + (i 3).val by omega)))

theorem a_v176 (i : S8x4x6x64.Idx) : val_main_v176 (F := Ideal) x0 x1 x2 x4 x5 x10 x11 i = P.gacs (i 0).val (i 3).val 63 (6 * (i 1).val + (i 2).val) := by
  have h0 : (i 0).val < 8 := (i 0).isLt
  have h1 : (i 1).val < 4 := (i 1).isLt
  have h2 : (i 2).val < 6 := (i 2).isLt
  have h3 : (i 3).val < 64 := (i 3).isLt
  exact (val_main_v176_apply x0 x1 x2 x4 x5 x10 x11 i).trans ((a_v175 h _).trans (n4 P.gacs (show ((i 0).val) = (i 0).val by omega) (show ((i 3).val) = (i 3).val by omega) rfl (show 6 * ((i 1).val) + ((i 2).val) = 6 * (i 1).val + (i 2).val by omega)))

theorem a_v177 (i : S8x4x6x64.Idx) : val_main_v177 (F := Ideal) x0 x1 x2 x4 x5 x10 x11 i = P.ctot (i 0).val (i 3).val (6 * (i 1).val + (i 2).val) := by
  exact cumsum_at (s := S8x4x6x64) (3 : Fin 4) 63 ![1, 1, 1, 64] ![1, 1, 1, 1] ![0, 0, 0, 63] ![0, 0, 0, 0] (by decide) (by decide) (by decide) rfl (val_main_v176 (F := Ideal) x0 x1 x2 x4 x5 x10 x11) (val_main_call12_call0_v0 (F := Ideal)) _ _ ((val_main_call12_call0_v0_apply _).trans b0) i
    (fun t => P.tot (i 0).val t (6 * (i 1).val + (i 2).val)) fun j hj => (a_v176 h j).trans (n4 P.gacs (hj 0 (by decide)) rfl rfl (congrArg₂ (fun a b => 6 * a + b) (hj 1 (by decide)) (hj 2 (by decide))))

theorem a_v178 (i : S8x4x6x64.Idx) : val_main_v178 (F := Ideal) x0 x1 x2 x4 x5 x10 x11 i = P.cpr (i 0).val (i 3).val (6 * (i 1).val + (i 2).val) := by
  have e := congrArg₂ (fun a b : EReal => a - b) (a_v177 h i) (a_v176 h i)
  exact (val_main_v178_apply x0 x1 x2 x4 x5 x10 x11 i).trans (e.trans (rfl))

theorem a_v179 (i : S8x4x6x64x1.Idx) : val_main_v179 (F := Ideal) x0 x1 x2 x4 x5 x10 x11 i = P.cpr (i 0).val (i 3).val (6 * (i 1).val + (i 2).val) := by
  have h0 : (i 0).val < 8 := (i 0).isLt
  have h1 : (i 1).val < 4 := (i 1).isLt
  have h2 : (i 2).val < 6 := (i 2).isLt
  have h3 : (i 3).val < 64 := (i 3).isLt
  have h4 : (i 4).val < 1 := (i 4).isLt
  exact (val_main_v179_apply x0 x1 x2 x4 x5 x10 x11 i).trans ((a_v178 h _).trans (n3 P.cpr (show ((i 0).val) = (i 0).val by omega) (show ((i 3).val) = (i 3).val by omega) (show 6 * ((i 1).val) + ((i 2).val) = 6 * (i 1).val + (i 2).val by omega)))

theorem a_v180 (i : S8x4x6x1x64.Idx) : val_main_v180 (F := Ideal) x0 x1 x2 x4 x5 x10 x11 i = P.ctot (i 0).val (i 4).val (6 * (i 1).val + (i 2).val) := by
  have h0 : (i 0).val < 8 := (i 0).isLt
  have h1 : (i 1).val < 4 := (i 1).isLt
  have h2 : (i 2).val < 6 := (i 2).isLt
  have h3 : (i 3).val < 1 := (i 3).isLt
  have h4 : (i 4).val < 64 := (i 4).isLt
  exact (val_main_v180_apply x0 x1 x2 x4 x5 x10 x11 i).trans ((a_v177 h _).trans (n3 P.ctot (show ((i 0).val) = (i 0).val by omega) (show ((i 4).val) = (i 4).val by omega) (show 6 * ((i 1).val) + ((i 2).val) = 6 * (i 1).val + (i 2).val by omega)))

theorem a_v181 (i : S8x4x6x64x64.Idx) : val_main_v181 (F := Ideal) x0 x1 x2 x4 x5 x10 x11 i = P.cpr (i 0).val (i 3).val (6 * (i 1).val + (i 2).val) := by
  have h0 : (i 0).val < 8 := (i 0).isLt
  have h1 : (i 1).val < 4 := (i 1).isLt
  have h2 : (i 2).val < 6 := (i 2).isLt
  have h3 : (i 3).val < 64 := (i 3).isLt
  have h4 : (i 4).val < 64 := (i 4).isLt
  exact (val_main_v181_apply x0 x1 x2 x4 x5 x10 x11 i).trans ((a_v179 h _).trans (n3 P.cpr (show ((i 0).val) = (i 0).val by omega) (show ((i 3).val) = (i 3).val by omega) (show 6 * ((i 1).val) + ((i 2).val) = 6 * (i 1).val + (i 2).val by omega)))

theorem a_v182 (i : S8x4x6x64x64.Idx) : val_main_v182 (F := Ideal) x0 x1 x2 x4 x5 x10 x11 i = P.ctot (i 0).val (i 4).val (6 * (i 1).val + (i 2).val) := by
  have h0 : (i 0).val < 8 := (i 0).isLt
  have h1 : (i 1).val < 4 := (i 1).isLt
  have h2 : (i 2).val < 6 := (i 2).isLt
  have h3 : (i 3).val < 64 := (i 3).isLt
  have h4 : (i 4).val < 64 := (i 4).isLt
  exact (val_main_v182_apply x0 x1 x2 x4 x5 x10 x11 i).trans ((a_v180 h _).trans (n3 P.ctot (show ((i 0).val) = (i 0).val by omega) (show ((i 4).val) = (i 4).val by omega) (show 6 * ((i 1).val) + ((i 2).val) = 6 * (i 1).val + (i 2).val by omega)))

omit h in
theorem a_v185 (i : S64x64.Idx) : val_main_v185 (F := Ideal) i = if (i 1).val < (i 0).val then 1#1 else 0#1 := by
  have e : val_main_call13_v4 (F := Ideal) i = if (i 1).val < (i 0).val then 1#1 else 0#1 := by
    refine (val_main_call13_v4_apply i).trans ?_
    rw [val_main_call13_v2_apply, val_main_call13_v0_apply, val_main_call13_v1_apply, val_main_call13_v3_apply, val_main_call13_c_apply]
    exact mask1 (⟨(i 0).val, (i 0).isLt⟩ : Fin 64) (⟨(i 1).val, (i 1).isLt⟩ : Fin 64)
  refine (val_main_v185_apply i).trans ?_
  rw [e]
  by_cases hc : (i 1).val < (i 0).val
  · rw [if_pos hc, sel1]
    exact (val_main_v184_apply i).trans rfl
  · rw [if_neg hc, sel0]
    exact (val_main_call13_v5_apply i).trans rfl

theorem a_v186 (i : S8x4x6x64x64.Idx) : val_main_v186 (F := Ideal) x0 x1 x2 x4 x5 x10 x11 i = if (i 4).val < (i 3).val then P.cpr (i 0).val (i 3).val (6 * (i 1).val + (i 2).val) - P.ctot (i 0).val (i 4).val (6 * (i 1).val + (i 2).val) else ⊥ := by
  refine (val_main_v186_apply x0 x1 x2 x4 x5 x10 x11 i).trans ?_
  have em : val_main_call14_v1 (F := Ideal) i = if (i 4).val < (i 3).val then 1#1 else 0#1 := (val_main_call14_v1_apply i).trans (a_v185 _)
  rw [em]
  by_cases hc : (i 4).val < (i 3).val
  · rw [if_pos hc, if_pos hc, sel1]
    exact (val_main_v183_apply x0 x1 x2 x4 x5 x10 x11 i).trans (congrArg₂ (fun a b : EReal => a - b) (a_v181 h i) (a_v182 h i))
  · rw [if_neg hc, if_neg hc, sel0]
    exact (val_main_call14_v2_apply i).trans ((val_main_call14_v0_apply _).trans ((val_main_cst_18_apply _).trans bninf))

theorem a_v187 (i : S8x4x6x64x64.Idx) : val_main_v187 (F := Ideal) x0 x1 x2 x4 x5 x10 x11 i = P.dech (i 0).val (i 3).val (i 4).val (6 * (i 1).val + (i 2).val) := by
  refine (val_main_v187_apply x0 x1 x2 x4 x5 x10 x11 i).trans ?_
  rw [a_v186 h i]
  exact P.dech_eq _ _ _ _

theorem a_v188 (i : S8x4x6x64x128x64.Idx) : val_main_v188 (F := Ideal) x0 x1 x2 x4 x5 x8 x9 x10 x11 i = P.prev (i 0).val (i 5).val (i 4).val (64 * (6 * (i 1).val + (i 2).val) + (i 3).val) := by
  have h0 : (i 0).val < 8 := (i 0).isLt
  have h1 : (i 1).val < 4 := (i 1).isLt
  have h2 : (i 2).val < 6 := (i 2).isLt
  have h3 : (i 3).val < 64 := (i 3).isLt
  have h4 : (i 4).val < 128 := (i 4).isLt
  have h5 : (i 5).val < 64 := (i 5).isLt
  refine (val_main_v188_apply x0 x1 x2 x4 x5 x8 x9 x10 x11 i).trans ?_
  show _ = ∑ k : Fin 64, P.cst (i 0).val (k.val) (i 4).val (64 * (6 * (i 1).val + (i 2).val) + (i 3).val) * P.dech (i 0).val (i 5).val (k.val) ((64 * (6 * (i 1).val + (i 2).val) + (i 3).val) / 64)
  refine Finset.sum_congr rfl fun k _ => ?_
  have hk := k.isLt
  have e1 : val_main_v173 (F := Ideal) x0 x1 x2 x4 x5 x8 x9 x10 x11 (lidx_main_v188 i k) = P.cst (i 0).val (k.val) (i 4).val (64 * (6 * (i 1).val + (i 2).val) + (i 3).val) := (a_v173 h _).trans (n4 P.cst (show ((i 0).val) = (i 0).val by omega) rfl (show ((i 4).val) = (i 4).val by omega) (show 64 * (6 * ((i 1).val) + ((i 2).val)) + ((i 3).val) = 64 * (6 * (i 1).val + (i 2).val) + (i 3).val by omega))
  have e2 : val_main_v187 (F := Ideal) x0 x1 x2 x4 x5 x10 x11 (ridx_main_v188 i k) = P.dech (i 0).val (i 5).val (k.val) ((64 * (6 * (i 1).val + (i 2).val) + (i 3).val) / 64) := (a_v187 h _).trans (n4 P.dech (show ((i 0).val) = (i 0).val by omega) (show ((i 5).val) = (i 5).val by omega) rfl (show 6 * ((i 1).val) + ((i 2).val) = (64 * (6 * (i 1).val + (i 2).val) + (i 3).val) / 64 by omega))
  exact congrArg₂ (fun a b : EReal => a * b) e1 e2

theorem a_v189 (i : S8x64x4x6x64x128.Idx) : val_main_v189 (F := Ideal) x0 x1 x2 x4 x5 x8 x9 x10 x11 i = P.prev (i 0).val (i 1).val (i 5).val (64 * (6 * (i 2).val + (i 3).val) + (i 4).val) := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  have h5 : (i 5).val < 128 := (i 5).isLt
  exact (val_main_v189_apply x0 x1 x2 x4 x5 x8 x9 x10 x11 i).trans ((a_v188 h _).trans (n4 P.prev (show ((i 0).val) = (i 0).val by omega) (show ((i 1).val) = (i 1).val by omega) (show ((i 5).val) = (i 5).val by omega) (show 64 * (6 * ((i 2).val) + ((i 3).val)) + ((i 4).val) = 64 * (6 * (i 2).val + (i 3).val) + (i 4).val by omega)))

theorem a_v190 (i : S8x64x4x6x64.Idx) : val_main_v190 (F := Ideal) x0 x1 x2 x4 x5 x10 x11 i = P.eo (i 0).val (i 1).val (i 4).val (6 * (i 2).val + (i 3).val) := by
  have e := congrArg (fun a : EReal => Ideal.exp a) (a_v148 h i)
  exact (val_main_v190_apply x0 x1 x2 x4 x5 x10 x11 i).trans (e.trans (rfl))

theorem a_v191 (i : S8x64x64x4x6.Idx) : val_main_v191 (F := Ideal) x0 x1 x2 x4 x5 x10 x11 i = P.eo (i 0).val (i 1).val (i 2).val (6 * (i 3).val + (i 4).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  exact (val_main_v191_apply x0 x1 x2 x4 x5 x10 x11 i).trans ((a_v190 h _).trans (n4 P.eo (show ((i 0).val) = (i 0).val by omega) (show ((i 1).val) = (i 1).val by omega) (show ((i 2).val) = (i 2).val by omega) (show 6 * ((i 3).val) + ((i 4).val) = 6 * (i 3).val + (i 4).val by omega)))

theorem a_v192 (i : S8x64x4x6x64x64.Idx) : val_main_v192 (F := Ideal) x0 x1 x2 x4 x5 x8 x9 x10 x11 i = P.pv (i 0).val (i 1).val (i 5).val (64 * (6 * (i 2).val + (i 3).val) + (i 4).val) := by
  have h0 : (i 0).val < 8 := (i 0).isLt
  have h1 : (i 1).val < 64 := (i 1).isLt
  have h2 : (i 2).val < 4 := (i 2).isLt
  have h3 : (i 3).val < 6 := (i 3).isLt
  have h4 : (i 4).val < 64 := (i 4).isLt
  have h5 : (i 5).val < 64 := (i 5).isLt
  refine (val_main_v192_apply x0 x1 x2 x4 x5 x8 x9 x10 x11 i).trans ?_
  show _ = ∑ k : Fin 128, P.prev (i 0).val (i 1).val (k.val) (64 * (6 * (i 2).val + (i 3).val) + (i 4).val) * P.gact (i 0).val (64 * (i 1).val + (i 5).val) (2048 + (128 * ((64 * (6 * (i 2).val + (i 3).val) + (i 4).val) / 384) + k.val))
  refine Finset.sum_congr rfl fun k _ => ?_
  have hk := k.isLt
  have e1 : val_main_v189 (F := Ideal) x0 x1 x2 x4 x5 x8 x9 x10 x11 (lidx_main_v192 i k) = P.prev (i 0).val (i 1).val (k.val) (64 * (6 * (i 2).val + (i 3).val) + (i 4).val) := (a_v189 h _).trans (n4 P.prev (show ((i 0).val) = (i 0).val by omega) (show ((i 1).val) = (i 1).val by omega) rfl (show 64 * (6 * ((i 2).val) + ((i 3).val)) + ((i 4).val) = 64 * (6 * (i 2).val + (i 3).val) + (i 4).val by omega))
  have e2 : val_main_v147 (F := Ideal) x0 x1 x2 x4 x5 x8 x9 (ridx_main_v192 i k) = P.gact (i 0).val (64 * (i 1).val + (i 5).val) (2048 + (128 * ((64 * (6 * (i 2).val + (i 3).val) + (i 4).val) / 384) + k.val)) := (a_v147 h _).trans (n3 P.gact (show ((i 0).val) = (i 0).val by omega) (show 64 * ((i 1).val) + ((i 5).val) = 64 * (i 1).val + (i 5).val by omega) (show 2048 + (128 * ((i 2).val) + (k.val)) = 2048 + (128 * ((64 * (6 * (i 2).val + (i 3).val) + (i 4).val) / 384) + k.val) by omega))
  exact congrArg₂ (fun a b : EReal => a * b) e1 e2

theorem a_v193 (i : S8x64x64x4x6x64.Idx) : val_main_v193 (F := Ideal) x0 x1 x2 x4 x5 x8 x9 x10 x11 i = P.pv (i 0).val (i 1).val (i 2).val (64 * (6 * (i 3).val + (i 4).val) + (i 5).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  have h5 : (i 5).val < 64 := (i 5).isLt
  exact (val_main_v193_apply x0 x1 x2 x4 x5 x8 x9 x10 x11 i).trans ((a_v192 h _).trans (n4 P.pv (show ((i 0).val) = (i 0).val by omega) (show ((i 1).val) = (i 1).val by omega) (show ((i 2).val) = (i 2).val by omega) (show 64 * (6 * ((i 3).val) + ((i 4).val)) + ((i 5).val) = 64 * (6 * (i 3).val + (i 4).val) + (i 5).val by omega)))

theorem a_v194 (i : S8x64x64x4x6x1.Idx) : val_main_v194 (F := Ideal) x0 x1 x2 x4 x5 x10 x11 i = P.eo (i 0).val (i 1).val (i 2).val (6 * (i 3).val + (i 4).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  have h5 : (i 5).val < 1 := (i 5).isLt
  exact (val_main_v194_apply x0 x1 x2 x4 x5 x10 x11 i).trans ((a_v191 h _).trans (n4 P.eo (show ((i 0).val) = (i 0).val by omega) (show ((i 1).val) = (i 1).val by omega) (show ((i 2).val) = (i 2).val by omega) (show 6 * ((i 3).val) + ((i 4).val) = 6 * (i 3).val + (i 4).val by omega)))

theorem a_v195 (i : S8x64x64x4x6x64.Idx) : val_main_v195 (F := Ideal) x0 x1 x2 x4 x5 x10 x11 i = P.eo (i 0).val (i 1).val (i 2).val (6 * (i 3).val + (i 4).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  have h5 : (i 5).val < 64 := (i 5).isLt
  exact (val_main_v195_apply x0 x1 x2 x4 x5 x10 x11 i).trans ((a_v194 h _).trans (n4 P.eo (show ((i 0).val) = (i 0).val by omega) (show ((i 1).val) = (i 1).val by omega) (show ((i 2).val) = (i 2).val by omega) (show 6 * ((i 3).val) + ((i 4).val) = 6 * (i 3).val + (i 4).val by omega)))

theorem a_v196 (i : S8x64x64x4x6x64.Idx) : val_main_v196 (F := Ideal) x0 x1 x2 x4 x5 x8 x9 x10 x11 i = P.off (i 0).val (i 1).val (i 2).val (64 * (6 * (i 3).val + (i 4).val) + (i 5).val) := by
  have h0 : (i 0).val < 8 := (i 0).isLt
  have h1 : (i 1).val < 64 := (i 1).isLt
  have h2 : (i 2).val < 64 := (i 2).isLt
  have h3 : (i 3).val < 4 := (i 3).isLt
  have h4 : (i 4).val < 6 := (i 4).isLt
  have h5 : (i 5).val < 64 := (i 5).isLt
  have e := congrArg₂ (fun a b : EReal => a * b) (a_v193 h i) (a_v195 h i)
  exact (val_main_v196_apply x0 x1 x2 x4 x5 x8 x9 x10 x11 i).trans (e.trans ((show P.pv (i 0).val (i 1).val (i 2).val (64 * (6 * (i 3).val + (i 4).val) + (i 5).val) * P.eo (i 0).val (i 1).val (i 2).val (6 * (i 3).val + (i 4).val) = P.pv (i 0).val (i 1).val (i 2).val (64 * (6 * (i 3).val + (i 4).val) + (i 5).val) * P.eo (i 0).val (i 1).val (i 2).val ((64 * (6 * (i 3).val + (i 4).val) + (i 5).val) / 64) by rw [show (64 * (6 * (i 3).val + (i 4).val) + (i 5).val) / 64 = 6 * (i 3).val + (i 4).val by omega])))

theorem a_v197 (i : S8x64x64x4x6x64.Idx) : val_main_v197 (F := Ideal) x0 x1 x2 x4 x5 x8 x9 x10 x11 i = P.dio (i 0).val (i 1).val (i 2).val (64 * (6 * (i 3).val + (i 4).val) + (i 5).val) := by
  have e := congrArg₂ (fun a b : EReal => a + b) (a_v164 h i) (a_v196 h i)
  exact (val_main_v197_apply x0 x1 x2 x4 x5 x8 x9 x10 x11 i).trans (e.trans (rfl))

theorem a_v198 (i : S8x4096x24x64.Idx) : val_main_v198 (F := Ideal) x0 x1 x2 x4 x5 x8 x9 x10 x11 i = P.dio (i 0).val ((i 1).val / 64) ((i 1).val % 64) (64 * (i 2).val + (i 3).val) := by
  have h0 : (i 0).val < 8 := (i 0).isLt
  have h1 : (i 1).val < 4096 := (i 1).isLt
  have h2 : (i 2).val < 24 := (i 2).isLt
  have h3 : (i 3).val < 64 := (i 3).isLt
  refine (shapeCast_apply (val_main_v197 (F := Ideal) x0 x1 x2 x4 x5 x8 x9 x10 x11) _ i (ValueIdx.ix6 (⟨(i 0).val, h0⟩ : Fin 8) (⟨(i 1).val / 64, by omega⟩ : Fin 64) (⟨(i 1).val % 64, by omega⟩ : Fin 64) (⟨(i 2).val / 6, by omega⟩ : Fin 4) (⟨(i 2).val % 6, by omega⟩ : Fin 6) (⟨(i 3).val, h3⟩ : Fin 64)) ?_).trans ((a_v197 h _).trans (n4 P.dio rfl rfl rfl (show 64 * (6 * ((i 2).val / 6) + (i 2).val % 6) + (i 3).val = 64 * (i 2).val + (i 3).val by omega)))
  refine (Shape.rowMajor_val_six _).trans (Eq.trans ?_ (Shape.rowMajor_val_four _).symm)
  show (((((i 0).val * 64 + (i 1).val / 64) * 64 + (i 1).val % 64) * 4 + (i 2).val / 6) * 6 + (i 2).val % 6) * 64 + (i 3).val = (((i 0).val * 4096 + (i 1).val) * 24 + (i 2).val) * 64 + (i 3).val
  omega

end

end Cert.MixerRefIdeal.Read
-- ==== Proof.MixRef4.lean ====
/-
  The gate, the norm and the result of the mixer's reference, read at an index (untrusted).
-/
module

public import proofs.«01_k».proof.Proof.MixRef1
public import proofs.«01_k».proof.Proof.MixRef3

@[expose] public section

set_option maxRecDepth 16384

noncomputable section

namespace Cert.MixerIdeal.Value.Par

open Idealize.ShloMosaic Cert.Layer
open scoped BigOperators

variable (P : Par)

def gz (b s c : ℕ) : EReal := silu (P.row b s (512 + c))
def gsq (b s c : ℕ) : EReal := P.ggt b s c * P.ggt b s c
/-- The reciprocal root mean square of a group of columns. -/
def gi (b s g : ℕ) : EReal := ginv (fun k => P.ggt b s (384 * g + k.val))
def gnn (b s c : ℕ) : EReal := P.nrm b s c * P.ng c
def gr (b s j : ℕ) : EReal := P.x b s j + P.ga b j * P.gmix b s j

end Cert.MixerIdeal.Value.Par

namespace Cert.MixerRefIdeal.Read

open Cert.MixerRefIdeal Idealize.ShloMosaic Idealize.ShloMosaic.TcCoe Idealize.SL.Sem
open Cert.Layer
open Cert.MixerIdeal.Value (Par cnt ginv)
open scoped BigOperators

section
variable {P : Par} {x0 : (⟨S8x4096x1024, .f32⟩ : BufTy).Contents (Elt Ideal)} {x1 x2 x3 : (⟨S8x1024, .f32⟩ : BufTy).Contents (Elt Ideal)} {x4 : (⟨S1024, .f32⟩ : BufTy).Contents (Elt Ideal)} {x5 : (⟨S1024x4632, .f32⟩ : BufTy).Contents (Elt Ideal)} {x6 : (⟨S4x128x128, .f32⟩ : BufTy).Contents (Elt Ideal)} {x7 : (⟨S512, .f32⟩ : BufTy).Contents (Elt Ideal)} {x8 : (⟨S4x2560, .f32⟩ : BufTy).Contents (Elt Ideal)} {x9 : (⟨S2560, .f32⟩ : BufTy).Contents (Elt Ideal)} {x10 x11 x12 : (⟨S24, .f32⟩ : BufTy).Contents (Elt Ideal)} {x13 : (⟨S1536, .f32⟩ : BufTy).Contents (Elt Ideal)} {x14 : (⟨S2048x1024, .f32⟩ : BufTy).Contents (Elt Ideal)}
variable (h : RArgs P x0 x1 x2 x3 x4 x5 x6 x7 x8 x9 x10 x11 x12 x13 x14)
include h

theorem a_v23 (i : S8x4096x1536.Idx) : val_main_v23 (F := Ideal) x0 x1 x2 x4 x5 i = P.row (i 0).val (i 1).val (512 + (i 2).val) := by
  have h0 : (i 0).val < 8 := (i 0).isLt
  have h1 : (i 1).val < 4096 := (i 1).isLt
  have h2 : (i 2).val < 1536 := (i 2).isLt
  exact (val_main_v23_apply x0 x1 x2 x4 x5 i).trans ((a_v21 h _).trans (n3 P.row (show ((i 0).val) = (i 0).val by omega) (show ((i 1).val) = (i 1).val by omega) (show (512 + (i 2).val) = 512 + (i 2).val by omega)))

theorem a_v199 (i : S24x1.Idx) (p : ℕ) (hp : p < 64) : val_main_v199 (F := Ideal) x12 i = P.dsk (64 * (i 0).val + p) := by
  exact (val_main_v199_apply x12 i).trans (h.x12 _ p hp)

theorem a_v201 (i : S8x4096x24x64.Idx) : val_main_v201 (F := Ideal) x12 i = P.dsk (64 * (i 2).val + (i 3).val) := by
  exact (val_main_v201_apply x12 i).trans ((val_main_v200_apply x12 _).trans (a_v199 h _ (i 3).val (i 3).isLt))

theorem a_v203 (i : S8x4096x24x64.Idx) : val_main_v203 (F := Ideal) x0 x1 x2 x4 x5 x8 x9 x10 x11 x12 i = P.gy (i 0).val (i 1).val (64 * (i 2).val + (i 3).val) := by
  have e := (val_main_v202_apply x0 x1 x2 x4 x5 x8 x9 x12 i).trans (congrArg₂ (fun a b : EReal => a * b) (a_v201 h i) (a_v128 h i))
  exact (val_main_v203_apply x0 x1 x2 x4 x5 x8 x9 x10 x11 x12 i).trans (congrArg₂ (fun a b : EReal => a + b) (a_v198 h i) e)

theorem a_v204 (i : S8x4096x1536.Idx) : val_main_v204 (F := Ideal) x0 x1 x2 x4 x5 x8 x9 x10 x11 x12 i = P.gy (i 0).val (i 1).val (i 2).val := by
  have h0 : (i 0).val < 8 := (i 0).isLt
  have h1 : (i 1).val < 4096 := (i 1).isLt
  have h2 : (i 2).val < 1536 := (i 2).isLt
  exact (val_main_v204_apply x0 x1 x2 x4 x5 x8 x9 x10 x11 x12 i).trans ((a_v203 h _).trans (n3 P.gy (show ((((i 0).val * 4096 + (i 1).val) * 1536 + (i 2).val) / 6291456) = (i 0).val by omega) (show ((((i 0).val * 4096 + (i 1).val) * 1536 + (i 2).val) / 1536 % 4096) = (i 1).val by omega) (show 64 * ((((i 0).val * 4096 + (i 1).val) * 1536 + (i 2).val) / 64 % 24) + ((((i 0).val * 4096 + (i 1).val) * 1536 + (i 2).val) % 64) = (i 2).val by omega)))

theorem a_v205 (i : S8x4096x1536.Idx) : val_main_v205 (F := Ideal) x0 x1 x2 x4 x5 i = P.gz (i 0).val (i 1).val (i 2).val := by
  have e := a_v23 h i
  have e1 := (val_main_call15_v0_apply x0 x1 x2 x4 x5 i).trans (congrArg (fun a : EReal => -a) e)
  have e2 := (val_main_call15_v1_apply x0 x1 x2 x4 x5 i).trans (congrArg (fun a : EReal => Ideal.exp a) e1)
  have e3 : val_main_call15_v2 (F := Ideal) i = 1 := (val_main_call15_v2_apply i).trans b1
  have e4 := (val_main_call15_v3_apply x0 x1 x2 x4 x5 i).trans (congrArg₂ (fun a b : EReal => a + b) e3 e2)
  have e5 : val_main_call15_v4 (F := Ideal) i = 1 := (val_main_call15_v4_apply i).trans b1
  have e6 := (val_main_call15_v5_apply x0 x1 x2 x4 x5 i).trans (congrArg₂ (fun a b : EReal => Ideal.div a b) e5 e4)
  exact (val_main_v205_apply x0 x1 x2 x4 x5 i).trans (congrArg₂ (fun a b : EReal => a * b) e e6)

theorem a_v206 (i : S8x4096x1536.Idx) : val_main_v206 (F := Ideal) x0 x1 x2 x4 x5 x8 x9 x10 x11 x12 i = P.ggt (i 0).val (i 1).val (i 2).val := by
  have e := congrArg₂ (fun a b : EReal => a * b) (a_v204 h i) (a_v205 h i)
  exact (val_main_v206_apply x0 x1 x2 x4 x5 x8 x9 x10 x11 x12 i).trans (e.trans (rfl))

theorem a_v207 (i : S8x4096x4x384.Idx) : val_main_v207 (F := Ideal) x0 x1 x2 x4 x5 x8 x9 x10 x11 x12 i = P.ggt (i 0).val (i 1).val (384 * (i 2).val + (i 3).val) := by
  have h0 : (i 0).val < 8 := (i 0).isLt
  have h1 : (i 1).val < 4096 := (i 1).isLt
  have h2 : (i 2).val < 4 := (i 2).isLt
  have h3 : (i 3).val < 384 := (i 3).isLt
  exact (val_main_v207_apply x0 x1 x2 x4 x5 x8 x9 x10 x11 x12 i).trans ((a_v206 h _).trans (n3 P.ggt (show (((((i 0).val * 4096 + (i 1).val) * 4 + (i 2).val) * 384 + (i 3).val) / 6291456) = (i 0).val by omega) (show (((((i 0).val * 4096 + (i 1).val) * 4 + (i 2).val) * 384 + (i 3).val) / 1536 % 4096) = (i 1).val by omega) (show (((((i 0).val * 4096 + (i 1).val) * 4 + (i 2).val) * 384 + (i 3).val) % 1536) = 384 * (i 2).val + (i 3).val by omega)))

theorem a_v208 (i : S8x4096x4x384.Idx) : val_main_v208 (F := Ideal) x0 x1 x2 x4 x5 x8 x9 x10 x11 x12 i = P.gsq (i 0).val (i 1).val (384 * (i 2).val + (i 3).val) := by
  have e := congrArg₂ (fun a b : EReal => a * b) (a_v207 h i) (a_v207 h i)
  exact (val_main_v208_apply x0 x1 x2 x4 x5 x8 x9 x10 x11 x12 i).trans (e.trans (rfl))

theorem a_v215 (i : S8x4096x4x1.Idx) : val_main_v215 (F := Ideal) x0 x1 x2 x4 x5 x8 x9 x10 x11 x12 i = P.gi (i 0).val (i 1).val (i 2).val := by
  have e := (val_main_v209_apply x0 x1 x2 x4 x5 x8 x9 x10 x11 x12 (idx_main_v210 i)).trans ((congrArg₂ (fun a b : EReal => a + b) b0 (Finset.sum_congr rfl fun k _ => a_v208 h (idx_main_v209 (idx_main_v210 i) k))).trans (zero_add _))
  have e0 := (val_main_v210_apply x0 x1 x2 x4 x5 x8 x9 x10 x11 x12 i).trans e
  have e1 : val_main_v211 (F := Ideal) i = Ideal.ofBits .f32 0x43C00000#32 := (val_main_v211_apply i).trans rfl
  have e2 := (val_main_v212_apply x0 x1 x2 x4 x5 x8 x9 x10 x11 x12 i).trans (congrArg₂ (fun a b : EReal => Ideal.div a b) e0 e1)
  have e3 : val_main_v213 (F := Ideal) i = eps := (val_main_v213_apply i).trans rfl
  have e4 := (val_main_v214_apply x0 x1 x2 x4 x5 x8 x9 x10 x11 x12 i).trans (congrArg₂ (fun a b : EReal => a + b) e2 e3)
  exact (val_main_v215_apply x0 x1 x2 x4 x5 x8 x9 x10 x11 x12 i).trans (congrArg (fun a : EReal => Ideal.rsqrt a) e4)

theorem a_v216 (i : S8x4096x4x384.Idx) : val_main_v216 (F := Ideal) x0 x1 x2 x4 x5 x8 x9 x10 x11 x12 i = P.gi (i 0).val (i 1).val (i 2).val := by
  have h0 : (i 0).val < 8 := (i 0).isLt
  have h1 : (i 1).val < 4096 := (i 1).isLt
  have h2 : (i 2).val < 4 := (i 2).isLt
  have h3 : (i 3).val < 384 := (i 3).isLt
  exact (val_main_v216_apply x0 x1 x2 x4 x5 x8 x9 x10 x11 x12 i).trans ((a_v215 h _).trans (n3 P.gi (show ((i 0).val) = (i 0).val by omega) (show ((i 1).val) = (i 1).val by omega) (show ((i 2).val) = (i 2).val by omega)))

theorem a_v217 (i : S8x4096x4x384.Idx) : val_main_v217 (F := Ideal) x0 x1 x2 x4 x5 x8 x9 x10 x11 x12 i = P.nrm (i 0).val (i 1).val (384 * (i 2).val + (i 3).val) := by
  have h0 : (i 0).val < 8 := (i 0).isLt
  have h1 : (i 1).val < 4096 := (i 1).isLt
  have h2 : (i 2).val < 4 := (i 2).isLt
  have h3 : (i 3).val < 384 := (i 3).isLt
  have e := congrArg₂ (fun a b : EReal => a * b) (a_v207 h i) (a_v216 h i)
  exact (val_main_v217_apply x0 x1 x2 x4 x5 x8 x9 x10 x11 x12 i).trans (e.trans ((show P.ggt (i 0).val (i 1).val (384 * (i 2).val + (i 3).val) * P.gi (i 0).val (i 1).val (i 2).val = P.ggt (i 0).val (i 1).val (384 * (i 2).val + (i 3).val) * P.gi (i 0).val (i 1).val ((384 * (i 2).val + (i 3).val) / 384) by rw [show (384 * (i 2).val + (i 3).val) / 384 = (i 2).val by omega])))

theorem a_v218 (i : S8x4096x1536.Idx) : val_main_v218 (F := Ideal) x0 x1 x2 x4 x5 x8 x9 x10 x11 x12 i = P.nrm (i 0).val (i 1).val (i 2).val := by
  have h0 : (i 0).val < 8 := (i 0).isLt
  have h1 : (i 1).val < 4096 := (i 1).isLt
  have h2 : (i 2).val < 1536 := (i 2).isLt
  exact (val_main_v218_apply x0 x1 x2 x4 x5 x8 x9 x10 x11 x12 i).trans ((a_v217 h _).trans (n3 P.nrm (show ((((i 0).val * 4096 + (i 1).val) * 1536 + (i 2).val) / 6291456) = (i 0).val by omega) (show ((((i 0).val * 4096 + (i 1).val) * 1536 + (i 2).val) / 1536 % 4096) = (i 1).val by omega) (show 384 * ((((i 0).val * 4096 + (i 1).val) * 1536 + (i 2).val) / 384 % 4) + ((((i 0).val * 4096 + (i 1).val) * 1536 + (i 2).val) % 384) = (i 2).val by omega)))

theorem a_v219 (i : S1x1x1536.Idx) : val_main_v219 (F := Ideal) x13 i = P.ng (i 2).val := by
  have h0 : (i 0).val < 1 := (i 0).isLt
  have h1 : (i 1).val < 1 := (i 1).isLt
  have h2 : (i 2).val < 1536 := (i 2).isLt
  exact (val_main_v219_apply x13 i).trans ((h.x13 _).trans (n1 P.ng (show ((i 2).val) = (i 2).val by omega)))

theorem a_v220 (i : S8x4096x1536.Idx) : val_main_v220 (F := Ideal) x13 i = P.ng (i 2).val := by
  have h0 : (i 0).val < 8 := (i 0).isLt
  have h1 : (i 1).val < 4096 := (i 1).isLt
  have h2 : (i 2).val < 1536 := (i 2).isLt
  exact (val_main_v220_apply x13 i).trans ((a_v219 h _).trans (n1 P.ng (show ((i 2).val) = (i 2).val by omega)))

theorem a_v221 (i : S8x4096x1536.Idx) : val_main_v221 (F := Ideal) x0 x1 x2 x4 x5 x8 x9 x10 x11 x12 x13 i = P.gnn (i 0).val (i 1).val (i 2).val := by
  have e := congrArg₂ (fun a b : EReal => a * b) (a_v218 h i) (a_v220 h i)
  exact (val_main_v221_apply x0 x1 x2 x4 x5 x8 x9 x10 x11 x12 x13 i).trans (e.trans (rfl))

theorem a_v222 (i : S8x4096x2048.Idx) : val_main_v222 (F := Ideal) x0 x1 x2 x4 x5 x6 x7 x8 x9 x10 x11 x12 x13 i = P.gcat (i 0).val (i 1).val (i 2).val := by
  have h0 : (i 0).val < 8 := (i 0).isLt
  have h1 : (i 1).val < 4096 := (i 1).isLt
  have h2 : (i 2).val < 2048 := (i 2).isLt
  unfold val_main_v222 Par.gcat
  by_cases hc : (i 2).val < 512
  · rw [if_pos hc]
    exact (concatenate_apply_piece (2 : Fin 3) _ _ i 0 (by show 0 < 2; omega) S8x4096x512 (val_main_v92 (F := Ideal) x0 x1 x2 x4 x5 x6 x7) rfl rfl 0 rfl (ix3 (⟨(i 0).val, h0⟩ : Fin 8) (⟨(i 1).val, h1⟩ : Fin 4096) (⟨(i 2).val, hc⟩ : Fin 512))
      (fun b hb => match b with | ⟨0, _⟩ => rfl | ⟨1, _⟩ => rfl | ⟨2, _⟩ => absurd rfl hb) (by show 0 + (i 2).val = (i 2).val; omega)).trans (a_v92 h _)
  · rw [if_neg hc]
    exact (concatenate_apply_piece (2 : Fin 3) _ _ i 1 (by show 1 < 2; omega) S8x4096x1536 (val_main_v221 (F := Ideal) x0 x1 x2 x4 x5 x8 x9 x10 x11 x12 x13) rfl rfl 512 rfl (ix3 (⟨(i 0).val, h0⟩ : Fin 8) (⟨(i 1).val, h1⟩ : Fin 4096) (⟨(i 2).val - 512, by omega⟩ : Fin 1536))
      (fun b hb => match b with | ⟨0, _⟩ => rfl | ⟨1, _⟩ => rfl | ⟨2, _⟩ => absurd rfl hb) (by show 512 + ((i 2).val - 512) = (i 2).val; omega)).trans (a_v221 h _)

theorem a_v223 (i : S8x4096x1024.Idx) : val_main_v223 (F := Ideal) x0 x1 x2 x4 x5 x6 x7 x8 x9 x10 x11 x12 x13 x14 i = P.gmix (i 0).val (i 1).val (i 2).val := by
  have h0 : (i 0).val < 8 := (i 0).isLt
  have h1 : (i 1).val < 4096 := (i 1).isLt
  have h2 : (i 2).val < 1024 := (i 2).isLt
  refine (val_main_v223_apply x0 x1 x2 x4 x5 x6 x7 x8 x9 x10 x11 x12 x13 x14 i).trans ?_
  show _ = ∑ k : Fin 2048, P.gcat (i 0).val (i 1).val (k.val) * P.wo (k.val) (i 2).val
  refine Finset.sum_congr rfl fun k _ => ?_
  have hk := k.isLt
  have e1 : val_main_v222 (F := Ideal) x0 x1 x2 x4 x5 x6 x7 x8 x9 x10 x11 x12 x13 (lidx_main_v223 i k) = P.gcat (i 0).val (i 1).val (k.val) := (a_v222 h _).trans (n3 P.gcat (show ((i 0).val) = (i 0).val by omega) (show ((i 1).val) = (i 1).val by omega) rfl)
  have e2 : x14 (ridx_main_v223 i k) = P.wo (k.val) (i 2).val := (h.x14 _).trans (n2 P.wo rfl (show ((i 2).val) = (i 2).val by omega))
  exact congrArg₂ (fun a b : EReal => a * b) e1 e2

theorem a_v224 (i : S8x1x1024.Idx) : val_main_v224 (F := Ideal) x3 i = P.ga (i 0).val (i 2).val := by
  have h0 : (i 0).val < 8 := (i 0).isLt
  have h1 : (i 1).val < 1 := (i 1).isLt
  have h2 : (i 2).val < 1024 := (i 2).isLt
  exact (val_main_v224_apply x3 i).trans ((h.x3 _).trans (n2 P.ga (show ((i 0).val) = (i 0).val by omega) (show ((i 2).val) = (i 2).val by omega)))

theorem a_v225 (i : S8x4096x1024.Idx) : val_main_v225 (F := Ideal) x3 i = P.ga (i 0).val (i 2).val := by
  have h0 : (i 0).val < 8 := (i 0).isLt
  have h1 : (i 1).val < 4096 := (i 1).isLt
  have h2 : (i 2).val < 1024 := (i 2).isLt
  exact (val_main_v225_apply x3 i).trans ((a_v224 h _).trans (n2 P.ga (show ((i 0).val) = (i 0).val by omega) (show ((i 2).val) = (i 2).val by omega)))

theorem a_v227 (i : S8x4096x1024.Idx) : val_main_v227 (F := Ideal) x0 x1 x2 x3 x4 x5 x6 x7 x8 x9 x10 x11 x12 x13 x14 i = P.gr (i 0).val (i 1).val (i 2).val := by
  have e := (val_main_v226_apply x0 x1 x2 x3 x4 x5 x6 x7 x8 x9 x10 x11 x12 x13 x14 i).trans (congrArg₂ (fun a b : EReal => a * b) (a_v225 h i) (a_v223 h i))
  exact (val_main_v227_apply x0 x1 x2 x3 x4 x5 x6 x7 x8 x9 x10 x11 x12 x13 x14 i).trans (congrArg₂ (fun a b : EReal => a + b) (h.x0 i) e)

theorem a_v228 (i : S32768x1024.Idx) : val_main_v228 (F := Ideal) x0 x1 x2 x3 x4 x5 x6 x7 x8 x9 x10 x11 x12 x13 x14 i = P.gres (i 0).val (i 1).val := by
  have h0 : (i 0).val < 32768 := (i 0).isLt
  have h1 : (i 1).val < 1024 := (i 1).isLt
  exact (val_main_v228_apply x0 x1 x2 x3 x4 x5 x6 x7 x8 x9 x10 x11 x12 x13 x14 i).trans ((a_v227 h _).trans (n3 P.gr (show (((i 0).val * 1024 + (i 1).val) / 4194304) = (i 0).val / 4096 by omega) (show (((i 0).val * 1024 + (i 1).val) / 1024 % 4096) = (i 0).val % 4096 by omega) (show (((i 0).val * 1024 + (i 1).val) % 1024) = (i 1).val by omega)))

end

end Cert.MixerRefIdeal.Read
-- ==== Proof.Real.lean ====
/-
  What the printed preconditions say (untrusted): an array that holds no infinity holds real numbers.
-/
module

public import proofs.«01_k».proof.Proof.Gen.Pre_finite
public import proofs.«01_k».proof.Proof.Gen.Pre_finite_c
public import proofs.«01_k».proof.Proof.Rows
public import Idealize.ShloMosaic.Lib.ReduceAll
public import Idealize.ShloMosaic.Lib.Pointwise

@[expose] public section

noncomputable section

namespace Cert.Layer

open Idealize.ShloMosaic

/-- The comparison `|a| < ∞` holds at real numbers only. -/
theorem real_of_abs_lt {a : EReal} (h : Ideal.cmp .olt (max a (-a)) (Ideal.ofBits .f32 0x7F800000#32) = 1#1) : Fin' a := by
  have htop : Ideal.ofBits .f32 0x7F800000#32 = ⊤ := by simp [Ideal.ofBits, Ideal.ieee]
  have hlt : max a (-a) < ⊤ := by
    by_contra hn
    rw [htop, Ideal.cmp, decide_eq_false hn] at h
    exact absurd h (by decide)
  refine Fin'.of_ne (fun hb => ?_) (fun ht => ?_)
  · rw [hb] at hlt; simp at hlt
  · rw [ht] at hlt; simp at hlt

end Cert.Layer

namespace Cert.Pre_finite

open Idealize.ShloMosaic Cert.Layer

/-- `all(|v| < ∞)` gives that every element of `v` is real. -/
theorem real_of_all {s t u : Shape} [Subsingleton t.Idx] {axes : List (Fin s.rank)} (v : FVec Ideal s .f32) (c : FVec Ideal s .f32) (hc : ∀ i, c i = Ideal.ofBits .f32 0x7F800000#32)
    (init : u.Idx → BitVec 1) (h : s.ReducesTo axes t) (hu : 0 < u.numel) (j : t.Idx)
    (e : Host.reduce IntOp.andi (cmpf .olt (Host.absf v) c) init h hu j = 1#1) (i : s.Idx) : Fin' (v i) := by
  have hi : cmpf .olt (Host.absf v) c i = 1#1 := Host.reduce_andi_all _ init h hu j e i
  refine real_of_abs_lt ?_
  rw [← hc i]
  exact hi

instance : Subsingleton S_.Idx := ⟨fun a b => funext fun i => i.elim0⟩

/-- The precondition of the feed-forward calls. -/
theorem reals (x : FVec Ideal S8x4096x1024 .f32) (sh sc gate : FVec Ideal S8x1024 .f32) (g : FVec Ideal S1024 .f32) (w : FVec Ideal S1024x5632 .f32) (wo : FVec Ideal S2816x1024 .f32) (fg : FVec Ideal S1024 .f32)
   (h : fn (F := Ideal) x sh sc gate g w wo fg = fun _ => 1#1) :
    (∀ i, Fin' (sh i)) ∧ (∀ i, Fin' (sc i)) ∧ (∀ i, Fin' (g i)) ∧ (∀ i, Fin' (w i)) := by
  have h0 := congrFun h (fun i => i.elim0)
  unfold fn fn_part1 at h0
  simp only [andi, IntOp.andi_eq_one] at h0
  obtain ⟨⟨⟨h1, h2⟩, h3⟩, h4⟩ := h0
  exact ⟨real_of_all _ _ (fun _ => rfl) _ _ _ _ h1, real_of_all _ _ (fun _ => rfl) _ _ _ _ h2, real_of_all _ _ (fun _ => rfl) _ _ _ _ h3, real_of_all _ _ (fun _ => rfl) _ _ _ _ h4⟩

end Cert.Pre_finite

namespace Cert.Pre_finite_c

open Idealize.ShloMosaic Cert.Layer

instance : Subsingleton S_.Idx := ⟨fun a b => funext fun i => i.elim0⟩

/-- The precondition of the modulation call. -/
theorem reals (x : FVec Ideal S8x1024 .f32) (w : FVec Ideal S1024x9216 .f32) (b : FVec Ideal S9216 .f32) (h : fn (F := Ideal) x w b = fun _ => 1#1) : ∀ i, Fin' (x i) := by
  have h0 := congrFun h (fun i => i.elim0)
  unfold fn at h0
  exact Cert.Pre_finite.real_of_all _ _ (fun _ => rfl) _ _ _ _ h0

end Cert.Pre_finite_c
-- ==== Proof.MixClaims.lean ====
/-
  The mixer's claims (untrusted): the frames of its programs, the masks' constant, and that the call and its reference end with
  equal results under the precondition.
-/
module

public import proofs.«01_k».proof.Defs
public import proofs.«01_k».proof.Proof.Gen.MixerIdeal.Frame
public import proofs.«01_k».proof.Proof.Gen.MixerRefIdeal.Run
public import proofs.«01_k».proof.Proof.Gen.Pre_finite_mixer
public import proofs.«01_k».proof.Proof.MixOut
public import proofs.«01_k».proof.Proof.MixRef4
public import proofs.«01_k».proof.Proof.Real

@[expose] public section

noncomputable section

namespace Cert.Pre_finite_mixer

open Idealize.ShloMosaic Cert.Layer

instance : Subsingleton S_.Idx := ⟨fun a b => funext fun i => i.elim0⟩

/-- The precondition of the mixer. -/
theorem reals (x0 : FVec Ideal S8x4096x1024 .f32) (x1 x2 x3 : FVec Ideal S8x1024 .f32) (x4 : FVec Ideal S1024 .f32) (x5 : FVec Ideal S1024x4632 .f32) (x6 : FVec Ideal S4x128x128 .f32) (x7 : FVec Ideal S512 .f32)
    (x8 : FVec Ideal S4x2560 .f32) (x9 : FVec Ideal S2560 .f32) (x10 x11 x12 : FVec Ideal S24 .f32) (x13 : FVec Ideal S1536 .f32) (x14 : FVec Ideal S2048x1024 .f32)
    (h : fn (F := Ideal) x0 x1 x2 x3 x4 x5 x6 x7 x8 x9 x10 x11 x12 x13 x14 = fun _ => 1#1) :
    (∀ i, Fin' (x1 i)) ∧ (∀ i, Fin' (x2 i)) ∧ (∀ i, Fin' (x4 i)) ∧ (∀ i, Fin' (x5 i)) ∧ (∀ i, Fin' (x8 i)) ∧ (∀ i, Fin' (x9 i)) ∧ (∀ i, Fin' (x10 i)) := by
  have h0 := congrFun h (fun i => i.elim0)
  unfold fn fn_part1 at h0
  simp only [andi, IntOp.andi_eq_one] at h0
  obtain ⟨⟨⟨⟨⟨⟨h1, h2⟩, h3⟩, h4⟩, h5⟩, h6⟩, h7⟩ := h0
  have r := fun {s : Shape} {axes} (v : FVec Ideal s .f32) c hc init hr hu e => Cert.Pre_finite.real_of_all (s := s) (t := S_) (u := S_) (axes := axes) v c hc init hr hu (fun i => i.elim0) e
  exact ⟨r _ _ (fun _ => rfl) _ _ _ h1, r _ _ (fun _ => rfl) _ _ _ h2, r _ _ (fun _ => rfl) _ _ _ h3, r _ _ (fun _ => rfl) _ _ _ h4,
    r _ _ (fun _ => rfl) _ _ _ h5, r _ _ (fun _ => rfl) _ _ _ h6, r _ _ (fun _ => rfl) _ _ _ h7⟩

end Cert.Pre_finite_mixer

namespace Cert.MixerIdeal.Value

open Cert.MixerIdeal Cert.MixerIdeal.Gen Idealize.ShloMosaic Idealize.ShloMosaic.TcCoe Idealize.SL.Sem
open Cert.Layer

variable (m : (ℓ : Loc nD τ sig) → Buf (Elt Ideal) ℓ)

/-- Reading outside an array gives zero, which is real. -/
theorem f1_real (n : ℕ) (hn : 0 < n) (v : Fin n → EReal) (h : ∀ i, Fin' (v i)) (i : ℕ) : Fin' (f1 n hn v i) := h _
theorem f2_real (n k : ℕ) (hn : 0 < n) (hk : 0 < k) (v : Fin n → Fin k → EReal) (h : ∀ i j, Fin' (v i j)) (i j : ℕ) : Fin' (f2 n k hn hk v i j) := h _ _

/-- The precondition gives the numbers the value's proof needs to be real. -/
theorem ok (c : Dev nD) (h : Cert.Pre_MixerIdeal_finite_mixer m) : (par m c).Ok := by
  obtain ⟨h1, h2, h4, h5, h8, h9, h10⟩ := Cert.Pre_finite_mixer.reals _ _ _ _ _ _ _ _ _ _ _ _ _ _ _ (h c)
  refine ⟨fun i j => ?_, fun i j => ?_, fun i => ?_, fun i j => ?_, fun i j => ?_, fun i => ?_, fun i => ?_⟩ <;> dsimp only [par]
  · exact f2_real _ _ _ _ _ (fun i j => h1 _) i j
  · exact f2_real _ _ _ _ _ (fun i j => h2 _) i j
  · exact f1_real _ _ _ (fun i => h4 _) i
  · exact f2_real _ _ _ _ _ (fun i j => h5 _) i j
  · exact f2_real _ _ _ _ _ (fun i j => h8 _) i j
  · exact f1_real _ _ _ (fun i => h9 _) i
  · exact f1_real _ _ _ (fun i => h10 _) i

theorem i1_eq {n0 : ℕ} (i : (⟨1, ![n0]⟩ : Shape).Idx) : i = ix1 (⟨(i 0).val, (i 0).isLt⟩ : Fin n0) := by
  funext a; match a with | ⟨0, _⟩ => rfl
theorem i2_eq {n0 n1 : ℕ} (i : (⟨2, ![n0, n1]⟩ : Shape).Idx) : i = ix2 (⟨(i 0).val, (i 0).isLt⟩ : Fin n0) (⟨(i 1).val, (i 1).isLt⟩ : Fin n1) := by
  funext a; match a with | ⟨0, _⟩ => rfl | ⟨1, _⟩ => rfl
theorem i3_eq {n0 n1 n2 : ℕ} (i : (⟨3, ![n0, n1, n2]⟩ : Shape).Idx) :
    i = ix3 (⟨(i 0).val, (i 0).isLt⟩ : Fin n0) (⟨(i 1).val, (i 1).isLt⟩ : Fin n1) (⟨(i 2).val, (i 2).isLt⟩ : Fin n2) := by
  funext a; match a with | ⟨0, _⟩ => rfl | ⟨1, _⟩ => rfl | ⟨2, _⟩ => rfl

/-- The call's arrays are the arguments the reference is read at. -/
theorem args (c : Dev nD) (h : (par m c).Ok) : Cert.MixerRefIdeal.Read.RArgs (par m c) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8)) (m (c.tc.loc main_arg9)) (m (c.tc.loc main_arg10))
    (m (c.tc.loc main_arg11)) (m (c.tc.loc main_arg12)) (m (c.tc.loc main_arg13)) (m (c.tc.loc main_arg14)) where
  x0 i := (congrArg _ (i3_eq i)).trans (par_x m c _ _ _ (i 0).isLt (i 1).isLt (i 2).isLt).symm
  x1 i := (congrArg _ (i2_eq i)).trans (par_sh m c _ _ (i 0).isLt (i 1).isLt).symm
  x2 i := (congrArg _ (i2_eq i)).trans (par_sc m c _ _ (i 0).isLt (i 1).isLt).symm
  x3 i := (congrArg _ (i2_eq i)).trans (par_ga m c _ _ (i 0).isLt (i 1).isLt).symm
  x4 i := (congrArg _ (i1_eq i)).trans (par_g m c _ (i 0).isLt).symm
  x5 i := (congrArg _ (i2_eq i)).trans (par_w m c _ _ (i 0).isLt (i 1).isLt).symm
  x6 i := (congrArg _ (i3_eq i)).trans (par_wp m c _ _ _ (i 0).isLt (i 1).isLt (i 2).isLt).symm
  x7 i := (congrArg _ (i1_eq i)).trans (par_ps m c _ (i 0).isLt).symm
  x8 i := (congrArg _ (i2_eq i)).trans (par_cw m c _ _ (i 0).isLt (i 1).isLt).symm
  x9 i := (congrArg _ (i1_eq i)).trans (par_cb m c _ (i 0).isLt).symm
  x10 i := (congrArg _ (i1_eq i)).trans (par_dtb m c _ (i 0).isLt).symm
  x11 i := (congrArg _ (i1_eq i)).trans (par_al m c _ (i 0).isLt).symm
  x12 i p hp := by
    have h0 : (i 0).val < 24 := (i 0).isLt
    have e : (64 * (i 0).val + p) / 64 = (i 0).val := by omega
    refine Eq.trans (congrArg _ ?_) (par_dsk m c (64 * (i 0).val + p) (e.symm ▸ h0)).symm
    funext a; match a with | ⟨0, _⟩ => exact Fin.ext e.symm
  x13 i := (congrArg _ (i1_eq i)).trans (par_ng m c _ (i 0).isLt).symm
  x14 i := (congrArg _ (i2_eq i)).trans (par_wo m c _ _ (i 0).isLt (i 1).isLt).symm
  ok := h

/-- The call's result array is the reference's term of the same arrays. -/
theorem result_eq (c : Dev nD) (h : (par m c).Ok) :
    (G17 m c : Vec Ideal S32768x1024 .f32)
      = Cert.MixerRefIdeal.Read.val_main_v228 (F := Ideal) (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7)) (m (c.tc.loc main_arg8)) (m (c.tc.loc main_arg9)) (m (c.tc.loc main_arg10))
    (m (c.tc.loc main_arg11)) (m (c.tc.loc main_arg12)) (m (c.tc.loc main_arg13)) (m (c.tc.loc main_arg14)) := by
  funext i
  exact ((par m c).t_res h (i 0).val (i 1).val).trans (Cert.MixerRefIdeal.Read.a_v228 (args m c h) i).symm

end Cert.MixerIdeal.Value

namespace Cert.Proof.MixClaims

open Idealize.ShloMosaic Idealize.ShloMosaic.TcCoe Idealize.SL.Sem

theorem frame_ideal : Cert.quiescent_MixerIdeal := fun m ρ _ => Cert.MixerIdeal.Gen.frame m ρ
theorem frame_ideal_pre : Cert.quiescent_MixerIdeal_pre_finite_mixer := fun m ρ _ => Cert.MixerIdeal.Gen.frame m ρ
/-- The reference launches nothing and declares no semaphore. -/
theorem frame_ref : Cert.quiescent_MixerRefIdeal := fun m ρ _ =>
  (θ_run Cert.MixerRefIdeal.defs _ _).mono (fun r h => ⟨fun c => (h c).2, Idealize.ShloMosaic.sem_eq_zero_of_no_sems (by decide) r.2⟩)
    (Cert.MixerRefIdeal.Value.run (F := Ideal) m ρ)
theorem frame_ref_pre : Cert.quiescent_MixerRefIdeal_pre_finite_mixer := fun m ρ _ => frame_ref m ρ trivial

/-- The masks' constant is named, and stands for minus infinity. -/
theorem preserves : Cert.preserves_Mixer_MixerIdeal :=
  IdealRules.named_const.statement Cert.MixerIdeal.κ "mask" .f32 0xF149F2CA#32 ⊥ rfl

/-- The call and its reference end with equal results. -/
theorem algebraic : Cert.algebraic_MixerIdeal_MixerRefIdeal_pre_finite_mixer := by
  intro m ρ m' ρ' hpre hag
  refine ⟨fun c => Cert.MixerIdeal.Value.G17 m c,
    (θ_run Cert.MixerIdeal.defs _ _).mono (fun _ h c => ⟨(h c).1.trans (Cert.MixerIdeal.Value.final m c (Cert.MixerIdeal.Value.ok m c hpre)), (h c).2⟩) (Cert.MixerIdeal.Value.run_blocks (F := Ideal) m ρ), ?_⟩
  refine (θ_run Cert.MixerRefIdeal.defs _ _).mono (fun _ h c => ⟨(h c).1.trans ?_, (h c).2⟩) (Cert.MixerRefIdeal.Value.run (F := Ideal) m' ρ')
  refine (Cert.MixerRefIdeal.Read.val_main_v228_eq (StableHlo.launchContents m' c)).trans ?_
  change Cert.MixerRefIdeal.Read.val_main_v228 (F := Ideal) (m' (c.tc.loc Cert.MixerRefIdeal.main_arg0)) (m' (c.tc.loc Cert.MixerRefIdeal.main_arg1)) (m' (c.tc.loc Cert.MixerRefIdeal.main_arg2)) (m' (c.tc.loc Cert.MixerRefIdeal.main_arg3)) (m' (c.tc.loc Cert.MixerRefIdeal.main_arg4)) (m' (c.tc.loc Cert.MixerRefIdeal.main_arg5)) (m' (c.tc.loc Cert.MixerRefIdeal.main_arg6)) (m' (c.tc.loc Cert.MixerRefIdeal.main_arg7)) (m' (c.tc.loc Cert.MixerRefIdeal.main_arg8)) (m' (c.tc.loc Cert.MixerRefIdeal.main_arg9)) (m' (c.tc.loc Cert.MixerRefIdeal.main_arg10)) (m' (c.tc.loc Cert.MixerRefIdeal.main_arg11)) (m' (c.tc.loc Cert.MixerRefIdeal.main_arg12)) (m' (c.tc.loc Cert.MixerRefIdeal.main_arg13)) (m' (c.tc.loc Cert.MixerRefIdeal.main_arg14)) = _
  obtain ⟨e0, e1, e2, e3, e4, e5, e6, e7, e8, e9, e10, e11, e12, e13, e14⟩ := hag c
  rw [e0, e1, e2, e3, e4, e5, e6, e7, e8, e9, e10, e11, e12, e13, e14]
  exact (Cert.MixerIdeal.Value.result_eq m c (Cert.MixerIdeal.Value.ok m c hpre)).symm

end Cert.Proof.MixClaims

end
-- ==== Proof.FfnTile.lean ====
/-
  What one step of the last feed-forward call leaves behind, in terms of the blocks it reads (untrusted).

  The call walks over 64 tiles of 512 rows. At each step it (1) multiplies out the tile whose normalised rows wait in the
  scratch buffer, and (2) normalises the rows of the NEXT tile into that buffer. Step 0 normalises its own tile first.
-/
module

public import proofs.«01_k».proof.Proof.Gen.FfnIdeal.Value
public import Idealize.ShloMosaic.Lib.ValueIdx
public import Idealize.ShloMosaic.Lib.Tactic

@[expose] public section

noncomputable section

namespace Cert.FfnIdeal.Value

open Cert.FfnIdeal Cert.FfnIdeal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The half of the first weight matrix whose product goes through the activation. -/
abbrev leftHalf (w : Vec F S1024x5632 .bf16) : Vec F S1024x2816 .bf16 :=
  View.ld w (Rect.unit (s := S1024x5632) ![0, 0] S1024x2816.size inb_S1024x5632_S1024x2816_0_0)
/-- The other half. -/
abbrev rightHalf (w : Vec F S1024x5632 .bf16) : Vec F S1024x2816 .bf16 :=
  View.ld w (Rect.unit (s := S1024x5632) ![0, 2816] S1024x2816.size inb_S1024x5632_S1024x2816_0_2816)

/-- The normalised rows of the tile that window 1 shows at step `t` (the tile of the next step). -/
def nextRows (c : Dev nD) (t : Fin cfg0.N) : Vec F S512x1024 .bf16 :=
  k0_pay6 (iblk m c 1 t) (iblk m c 5 t) (iblk m c 3 t) (iblk m c 2 t)

/-- The normalised rows of the tile that window 0 shows at step `t`. -/
def ownRows (c : Dev nD) (t : Fin cfg0.N) : Vec F S512x1024 .bf16 :=
  k0_pay1 (iblk m c 0 t) (iblk m c 5 t) (iblk m c 3 t) (iblk m c 2 t)

/-- The rows before the last norm, from the normalised rows `h`. -/
def sums (c : Dev nD) (t : Fin cfg0.N) (h : Vec F S512x1024 .bf16) : Vec F S512x1024 .f32 :=
  k0_pay2 h (leftHalf (iblk m c 6 t)) (rightHalf (iblk m c 6 t)) (iblk m c 7 t) (iblk m c 0 t) (iblk m c 4 t)

/-- The finished rows, from the normalised rows `h`. -/
def done (c : Dev nD) (t : Fin cfg0.N) (h : Vec F S512x1024 .bf16) : Vec F S512x1024 .f32 :=
  k0_pay5 (sums m c t h) (k0_pay3 (iblk m c 8 t))
    (k0_pay4 h (leftHalf (iblk m c 6 t)) (rightHalf (iblk m c 6 t)) (iblk m c 7 t) (iblk m c 0 t) (iblk m c 4 t))
    (Scalar.ofBits .f32 0x44800000#32)

set_option maxHeartbeats 1000000 in
/-- The first step finishes the tile it has just normalised. -/
theorem out_A (c : Dev nD) (t : Fin cfg0.N) (h0 : t.val % 64 = 0) :
    (outsAt0 m c t.val t.isLt).1 = done m c t (ownRows m c t) := by
  rw [outsAt0_A m c t h0]
  dsimp only
  unfold out0_A_9
  refine (View.read_writes_eq_canon _ _ _ (fun y => by apply cover0_A_9)).trans ?_
  unfold kernelRun0_A
  dsimp only
  sl_unfold_words
  rw [View.canon_unit_zero (S := S512x1024) hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    View.ld_unit_zero (S := S512x1024) hz2, View.ld_unit_zero (S := S1x1024) hz2, View.ld_unit_zero (S := S1x1x1024) hz3,
    View.ld_unit_zero (S := S2816x1024) hz2, View.readCov_unit_zero (S := S512x1024) _ hz2]
  rfl

set_option maxHeartbeats 1000000 in
/-- A later step finishes the tile whose normalised rows the step before left. -/
theorem out_B (c : Dev nD) (t : Fin cfg0.N) (h0 : ¬t.val % 64 = 0) :
    (outsAt0 m c t.val t.isLt).1 = done m c t (outsAt0 m c (t.val - 1) (Nat.lt_of_le_of_lt (Nat.sub_le _ _) t.isLt)).2 := by
  rw [outsAt0_B m c t h0]
  dsimp only
  unfold out0_B_9
  refine (View.read_writes_eq_canon _ _ _ (fun y => by apply cover0_B_9)).trans ?_
  unfold kernelRun0_B
  dsimp only
  sl_unfold_words
  rw [View.canon_unit_zero (S := S512x1024) hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    View.ld_unit_zero (S := S512x1024) hz2, View.ld_unit_zero (S := S1x1024) hz2, View.ld_unit_zero (S := S1x1x1024) hz3,
    View.ld_unit_zero (S := S2816x1024) hz2, View.readCov_unit_zero (S := S512x1024) _ hz2]
  have e : ∀ X : Vec F S512x1024 .bf16, View.read (Elt F) (View.whole cc0_scratch0) ((Memref.isWhole_whole cc0_scratch0).unread X) = X :=
    fun X => (Memref.isWhole_whole cc0_scratch0).read_unread X
  simp only [e]
  rfl

set_option maxHeartbeats 1000000 in
/-- Every step leaves the next tile's normalised rows in the scratch buffer. -/
theorem scr (c : Dev nD) (t : Fin cfg0.N) : (outsAt0 m c t.val t.isLt).2 = nextRows m c t := by
  by_cases h0 : t.val % 64 = 0
  · rw [outsAt0_A m c t h0]
    dsimp only
    unfold sout0_A_0
    refine (View.read_writes_eq_canon _ _ _ (fun y => by apply scover0_A_0)).trans ?_
    unfold kernelRun0_A
    dsimp only
    sl_unfold_words
    rw [View.canon_cons_unit_zero (S := S512x1024) hz2]
    simp only [View.readAt_eq_ld, (hs0_1 t).read_unread, (hs0_2 t).read_unread, (hs0_3 t).read_unread, (hs0_5 t).read_unread,
      View.ld_unit_zero (S := S512x1024) hz2, View.ld_unit_zero (S := S1x1024) hz2, View.ld_unit_zero (S := S1x1x1024) hz3]
    rfl
  · rw [outsAt0_B m c t h0]
    dsimp only
    unfold sout0_B_0
    refine (View.read_writes_eq_canon _ _ _ (fun y => by apply scover0_B_0)).trans ?_
    unfold kernelRun0_B
    dsimp only
    sl_unfold_words
    rw [View.canon_cons_unit_zero (S := S512x1024) hz2]
    simp only [View.readAt_eq_ld, (hs0_1 t).read_unread, (hs0_2 t).read_unread, (hs0_3 t).read_unread, (hs0_5 t).read_unread,
      View.ld_unit_zero (S := S512x1024) hz2, View.ld_unit_zero (S := S1x1024) hz2, View.ld_unit_zero (S := S1x1x1024) hz3]
    rfl

end Cert.FfnIdeal.Value
-- ==== Proof.FfnValue.lean ====
/-
  The last feed-forward call's result, index by index, in terms of the arrays it is launched on (untrusted): row `s` of
  batch `b` of the result is the layer's row arithmetic (`Layer.ffn` of the modulated norm, then the last norm) on row `s` of
  batch `b` of the input. Each block is read at an index, then each step's arithmetic, then the array by the tile a row
  lies in.
-/
module

public import proofs.«01_k».proof.Proof.FfnTile
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.FfnIdeal.Value

open Cert.FfnIdeal Cert.FfnIdeal.Gen Idealize.ShloMosaic Idealize.ShloMosaic.TcCoe Idealize.SL.Sem

open Cert.Layer

variable (m : (ℓ : Loc nD τ sig) → Buf (Elt Ideal) ℓ)

/-- Where each input window looks at a step, decided over the 64 steps. -/
theorem idx_facts : ∀ t : Fin cfg0.N, win0_0.index t = ![t.val, 0] ∧ win0_1.index t = ![min (t.val + 1) 63, 0]
    ∧ win0_2.index t = ![min (t.val + 1) 63 / 8, 0, 0] ∧ win0_3.index t = ![min (t.val + 1) 63 / 8, 0, 0]
    ∧ win0_4.index t = ![t.val / 8, 0, 0] ∧ win0_5.index t = ![0, 0] ∧ win0_6.index t = ![0, 0] ∧ win0_7.index t = ![0, 0] ∧ win0_8.index t = ![0, 0] :=
  (by decide +kernel : ∀ t : Fin grid0.N, _)

/-! ## The arrays as launched -/

/-- Row `s` of batch `b` of the input. -/
def xRow (c : Dev nD) (b : Fin 8) (s : Fin 4096) : Fin 1024 → EReal := fun k => (m (c.tc.loc main_arg0) : Vec Ideal S8x4096x1024 .f32) (ix3 b s k)
def shRow (c : Dev nD) (b : Fin 8) : Fin 1024 → EReal := fun k => (m (c.tc.loc main_arg1) : Vec Ideal S8x1024 .f32) (ix2 b k)
def scRow (c : Dev nD) (b : Fin 8) : Fin 1024 → EReal := fun k => (m (c.tc.loc main_arg2) : Vec Ideal S8x1024 .f32) (ix2 b k)
def gateRow (c : Dev nD) (b : Fin 8) : Fin 1024 → EReal := fun k => (m (c.tc.loc main_arg3) : Vec Ideal S8x1024 .f32) (ix2 b k)
def gRow (c : Dev nD) : Fin 1024 → EReal := fun k => (m (c.tc.loc main_arg4) : Vec Ideal S1024 .f32) (ix1 k)
def wIn (c : Dev nD) : Fin 1024 → Fin 5632 → EReal := fun k f => (m (c.tc.loc main_arg5) : Vec Ideal S1024x5632 .f32) (ix2 k f)
def wOut (c : Dev nD) : Fin 2816 → Fin 1024 → EReal := fun f k => (m (c.tc.loc main_arg6) : Vec Ideal S2816x1024 .f32) (ix2 f k)
def fgRow (c : Dev nD) : Fin 1024 → EReal := fun k => (m (c.tc.loc main_arg7) : Vec Ideal S1024 .f32) (ix1 k)

/-- The batch of tile `n`, and the place in the batch of its local row `r`. -/
abbrev bat (n : ℕ) (h : n < 64) : Fin 8 := ⟨n / 8, by omega⟩
abbrev pos (n : ℕ) (r : Fin 512) : Fin 4096 := ⟨n % 8 * 512 + r.val, by have := r.isLt; omega⟩

theorem lt64 (t : Fin cfg0.N) : t.val < 64 := lt_of_lt_of_eq t.isLt N_0

/-! ## The blocks read at an index -/

theorem blk0 (c : Dev nD) (t : Fin cfg0.N) (r : Fin 512) (j : Fin 1024) :
    (iblk m c 0 t : Vec Ideal S512x1024 .f32) (ix2 r j) = xRow m c (bat t.val (lt64 t)) (pos t.val r) j := by
  obtain ⟨h0, -⟩ := idx_facts t
  unfold xRow
  blk_simp [iblk, h0]
  entry_read
  pointwise
  blk_ext [h0]

theorem blk1 (c : Dev nD) (t : Fin cfg0.N) (r : Fin 512) (j : Fin 1024) :
    (iblk m c 1 t : Vec Ideal S512x1024 .f32) (ix2 r j) = xRow m c (bat (min (t.val + 1) 63) (by omega)) (pos (min (t.val + 1) 63) r) j := by
  obtain ⟨_, h1, -⟩ := idx_facts t
  unfold xRow
  blk_simp [iblk, h1]
  entry_read
  pointwise
  blk_ext [h1]

theorem blk2 (c : Dev nD) (t : Fin cfg0.N) (j : Fin 1024) :
    (iblk m c 2 t : Vec Ideal S1x1x1024 .f32) (ix3 0 0 j) = shRow m c (bat (min (t.val + 1) 63) (by omega)) j := by
  obtain ⟨_, _, h2, -⟩ := idx_facts t
  unfold shRow
  blk_simp [iblk, h2]
  entry_read
  pointwise
  blk_ext [h2]

theorem blk3 (c : Dev nD) (t : Fin cfg0.N) (j : Fin 1024) :
    (iblk m c 3 t : Vec Ideal S1x1x1024 .f32) (ix3 0 0 j) = scRow m c (bat (min (t.val + 1) 63) (by omega)) j := by
  obtain ⟨_, _, _, h3, -⟩ := idx_facts t
  unfold scRow
  blk_simp [iblk, h3]
  entry_read
  pointwise
  blk_ext [h3]

theorem blk4 (c : Dev nD) (t : Fin cfg0.N) (j : Fin 1024) :
    (iblk m c 4 t : Vec Ideal S1x1x1024 .f32) (ix3 0 0 j) = gateRow m c (bat t.val (lt64 t)) j := by
  obtain ⟨_, _, _, _, h4, -⟩ := idx_facts t
  unfold gateRow
  blk_simp [iblk, h4]
  entry_read
  pointwise
  blk_ext [h4]

theorem blk5 (c : Dev nD) (t : Fin cfg0.N) (j : Fin 1024) :
    (iblk m c 5 t : Vec Ideal S1x1024 .f32) (ix2 0 j) = gRow m c j := by
  obtain ⟨_, _, _, _, _, h5, -⟩ := idx_facts t
  unfold gRow
  blk_simp [iblk, h5]
  entry_read
  pointwise
  blk_ext [h5]

theorem blk6 (c : Dev nD) (t : Fin cfg0.N) (k : Fin 1024) (f : Fin 5632) :
    (iblk m c 6 t : Vec Ideal S1024x5632 .bf16) (ix2 k f) = wIn m c k f := by
  obtain ⟨_, _, _, _, _, _, h6, -⟩ := idx_facts t
  unfold wIn
  blk_simp [iblk, h6]
  entry_read
  pointwise
  blk_ext [h6]

theorem blk7 (c : Dev nD) (t : Fin cfg0.N) (f : Fin 2816) (j : Fin 1024) :
    (iblk m c 7 t : Vec Ideal S2816x1024 .bf16) (ix2 f j) = wOut m c f j := by
  obtain ⟨_, _, _, _, _, _, _, h7, -⟩ := idx_facts t
  unfold wOut
  blk_simp [iblk, h7]
  entry_read
  pointwise
  blk_ext [h7]

theorem blk8 (c : Dev nD) (t : Fin cfg0.N) (j : Fin 1024) :
    (iblk m c 8 t : Vec Ideal S1x1024 .f32) (ix2 0 j) = fgRow m c j := by
  obtain ⟨_, _, _, _, _, _, _, _, h8⟩ := idx_facts t
  unfold fgRow
  blk_simp [iblk, h8]
  entry_read
  pointwise
  blk_ext [h8]

/-! ## The steps' arithmetic read at an index -/

theorem next_at (x : Vec Ideal S512x1024 .f32) (g : Vec Ideal S1x1024 .f32) (sc sh : Vec Ideal S1x1x1024 .f32) (r : Fin 512) (j : Fin 1024) :
    k0_pay6 x g sc sh (ix2 r j) = hid (fun k => x (ix2 r k)) (fun k => g (ix2 0 k)) (fun k => sc (ix3 0 0 k)) (fun k => sh (ix3 0 0 k)) j := by
  unfold hid rinv eps width
  pointwise [k0_pay6]

theorem own_at (x : Vec Ideal S512x1024 .f32) (g : Vec Ideal S1x1024 .f32) (sc sh : Vec Ideal S1x1x1024 .f32) (r : Fin 512) (j : Fin 1024) :
    k0_pay1 x g sc sh (ix2 r j) = hid (fun k => x (ix2 r k)) (fun k => g (ix2 0 k)) (fun k => sc (ix3 0 0 k)) (fun k => sh (ix3 0 0 k)) j := by
  unfold hid rinv eps width
  pointwise [k0_pay1]

theorem left_at (w : Vec Ideal S1024x5632 .bf16) (k : Fin 1024) (f : Fin 2816) : leftHalf w (ix2 k f) = w (ix2 k (lft f)) := by
  pointwise [leftHalf, View.ld]
  blk_ext

theorem right_at (w : Vec Ideal S1024x5632 .bf16) (k : Fin 1024) (f : Fin 2816) : rightHalf w (ix2 k f) = w (ix2 k (rgt f)) := by
  pointwise [rightHalf, View.ld]
  blk_ext

theorem pay_at (h : Vec Ideal S512x1024 .bf16) (w1 w2 : Vec Ideal S1024x2816 .bf16) (wo : Vec Ideal S2816x1024 .bf16) (x : Vec Ideal S512x1024 .f32)
    (gate : Vec Ideal S1x1x1024 .f32) (fg : Vec Ideal S1x1024 .f32) (r : Fin 512) (j : Fin 1024) :
    k0_pay5 (k0_pay2 h w1 w2 wo x gate) (k0_pay3 fg) (k0_pay4 h w1 w2 wo x gate) (Scalar.ofBits .f32 0x44800000#32) (ix2 r j)
      = rms (fun j => x (ix2 r j) + half * gate (ix3 0 0 j) * ∑ f : Fin 2816, act (∑ k : Fin 1024, h (ix2 r k) * w1 (ix2 k f))
          * (∑ k : Fin 1024, h (ix2 r k) * w2 (ix2 k f)) * wo (ix2 f j)) (fun k => fg (ix2 0 k)) j := by
  unfold rms rinv eps width act half
  pointwise [k0_pay5, k0_pay2, k0_pay3, k0_pay4]

/-! ## The normed rows, and the result -/

/-- Row `s` of batch `b` normed and modulated. -/
def hRow (c : Dev nD) (b : Fin 8) (s : Fin 4096) : Fin 1024 → EReal :=
  fun j => hid (xRow m c b s) (gRow m c) (scRow m c b) (shRow m c b) j

/-- Row `s` of batch `b` of the result. -/
def oRow (c : Dev nD) (b : Fin 8) (s : Fin 4096) : Fin 1024 → EReal :=
  fun j => rms (fun j => ffn (xRow m c b s) (hRow m c b s) (gateRow m c b) (wIn m c) (wOut m c) j) (fgRow m c) j

theorem done_at (c : Dev nD) (t : Fin cfg0.N) (h : Vec Ideal S512x1024 .bf16)
    (hh : ∀ (r : Fin 512) (k : Fin 1024), h (ix2 r k) = hRow m c (bat t.val (lt64 t)) (pos t.val r) k) (r : Fin 512) (j : Fin 1024) :
    done m c t h (ix2 r j) = oRow m c (bat t.val (lt64 t)) (pos t.val r) j := by
  unfold done sums oRow
  refine (pay_at _ _ _ _ _ _ _ r j).trans ?_
  unfold ffn
  have hl : ∀ (k : Fin 1024) (f : Fin 2816), leftHalf (iblk m c 6 t) (ix2 k f) = wIn m c k (lft f) :=
    fun k f => (left_at _ k f).trans (blk6 m c t k _)
  have hr : ∀ (k : Fin 1024) (f : Fin 2816), rightHalf (iblk m c 6 t) (ix2 k f) = wIn m c k (rgt f) :=
    fun k f => (right_at _ k f).trans (blk6 m c t k _)
  simp only [hh, hl, hr, blk0, blk4, blk7, blk8]

theorem out_at (c : Dev nD) (t : Fin cfg0.N) (r : Fin 512) (j : Fin 1024) :
    (outsAt0 m c t.val t.isLt).1 (ix2 r j) = oRow m c (bat t.val (lt64 t)) (pos t.val r) j := by
  have hN := lt64 t
  by_cases h0 : t.val % 64 = 0
  · have hb : bat (min (t.val + 1) 63) (by omega) = bat t.val hN := Fin.ext (by show min (t.val + 1) 63 / 8 = t.val / 8; omega)
    rw [out_A m c t h0]
    refine done_at m c t _ (fun r k => ?_) r j
    refine (own_at _ _ _ _ r k).trans ?_
    simp only [blk0, blk2, blk3, blk5, hb]
    rfl
  · have e : min (t.val - 1 + 1) 63 = t.val := by omega
    rw [out_B m c t h0]
    refine done_at m c t _ (fun r k => ?_) r j
    rw [scr m c ⟨t.val - 1, Nat.lt_of_le_of_lt (Nat.sub_le _ _) t.isLt⟩]
    refine (next_at _ _ _ _ r k).trans ?_
    simp only [blk1, blk2, blk3, blk5, e]
    rfl

/-- The array the call ends with, at row `R` and column `j`. -/
theorem G9_at (c : Dev nD) (R : Fin 32768) (j : Fin 1024) :
    (G9 m c : Vec Ideal S32768x1024 .f32) (ix2 R j) = oRow m c ⟨R.val / 4096, by have := R.isLt; omega⟩ ⟨R.val % 4096, Nat.mod_lt _ (by decide)⟩ j := by
  have hR := R.isLt
  have hj := j.isLt
  have hp : pt9Of (ix2 R j : S32768x1024.Idx) = R.val / 512 := by
    show 1 * (R.val / 512 - 0) + 1 * (j.val / 1024 - 0) = _
    omega
  have hlt : R.val / 512 < cfg0.N := lt_of_lt_of_eq (by omega) N_0.symm
  have hl : loc9Of (ix2 R j : S32768x1024.Idx) = ix2 (⟨R.val % 512, Nat.mod_lt _ (by decide)⟩ : Fin 512) j := by
    funext a; apply Fin.ext
    match a with
    | ⟨0, _⟩ => rfl
    | ⟨1, _⟩ => show j.val % 1024 = j.val; omega
  show (G9 m c) (ix2 R j : S32768x1024.Idx) = _
  unfold G9
  rw [dif_pos (by rw [hp]; exact hlt), hl, fold0_congr m c _ _ (R.val / 512) (by omega) hp, ← outsAt0_sweep m c (R.val / 512) hlt]
  refine (out_at m c ⟨R.val / 512, hlt⟩ _ j).trans ?_
  have e1 : bat (R.val / 512) (by omega) = (⟨R.val / 4096, by omega⟩ : Fin 8) := Fin.ext (by show R.val / 512 / 8 = R.val / 4096; omega)
  have e2 : pos (R.val / 512) ⟨R.val % 512, Nat.mod_lt _ (by decide)⟩ = (⟨R.val % 4096, Nat.mod_lt _ (by decide)⟩ : Fin 4096) :=
    Fin.ext (by show R.val / 512 % 8 * 512 + R.val % 512 = R.val % 4096; omega)
  rw [show bat (⟨R.val / 512, hlt⟩ : Fin cfg0.N).val (lt64 _) = _ from e1, show pos (⟨R.val / 512, hlt⟩ : Fin cfg0.N).val _ = _ from e2]

end Cert.FfnIdeal.Value
-- ==== Proof.FfnRefValue.lean ====
/-
  The last feed-forward call's reference, index by index (untrusted), and that it is the call's result where the norm's
  scale, the modulation and the first weight matrix are real.
-/
module

public import proofs.«01_k».proof.Proof.Gen.FfnRefIdeal.Run
public import proofs.«01_k».proof.Proof.Gen.FfnRefIdeal.Read
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.FfnRefIdeal.Read

open Cert.FfnRefIdeal Idealize.ShloMosaic Idealize.ShloMosaic.TcCoe Idealize.SL.Sem
open Cert.Layer

theorem hid_at (x : Vec Ideal S8x4096x1024 .f32) (sh sc : Vec Ideal S8x1024 .f32) (g : Vec Ideal S1024 .f32) (b : Fin 8) (s : Fin 4096) (j : Fin 1024) :
    val_main_v20 (F := Ideal) x sh sc g (ix3 b s j)
      = hid (fun k => x (ix3 b s k)) (fun k => g (ix1 k)) (fun k => sc (ix2 b k)) (fun k => sh (ix2 b k)) j := by
  unfold hid rinv eps width
  rw [← mul_assoc]
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2]

/-- The reference's residual sum: the gated network on the normed row, where the normed row and the first weight matrix are
    real (there the two forms of the activation agree). -/
theorem sum_at (x : Vec Ideal S8x4096x1024 .f32) (sh sc gate : Vec Ideal S8x1024 .f32) (g : Vec Ideal S1024 .f32) (w : Vec Ideal S1024x5632 .f32) (wo : Vec Ideal S2816x1024 .f32)
    (hg : ∀ k, Fin' (g (ix1 k))) (hsc : ∀ b k, Fin' (sc (ix2 b k))) (hsh : ∀ b k, Fin' (sh (ix2 b k))) (hw : ∀ k f, Fin' (w (ix2 k f)))
    (b : Fin 8) (s : Fin 4096) (j : Fin 1024) :
    val_main_v32 (F := Ideal) x sh sc gate g w wo (ix3 b s j)
      = ffn (fun k => x (ix3 b s k)) (fun j => hid (fun k => x (ix3 b s k)) (fun k => g (ix1 k)) (fun k => sc (ix2 b k)) (fun k => sh (ix2 b k)) j)
          (fun k => gate (ix2 b k)) (fun k f => w (ix2 k f)) (fun f k => wo (ix2 f k)) j := by
  refine (?_ : ∀ hrow : Fin 1024 → EReal, (∀ j, val_main_v20 (F := Ideal) x sh sc g (ix3 b s j) = hrow j) → (∀ j, Fin' (hrow j)) →
      val_main_v32 (F := Ideal) x sh sc gate g w wo (ix3 b s j)
        = ffn (fun k => x (ix3 b s k)) hrow (fun k => gate (ix2 b k)) (fun k f => w (ix2 k f)) (fun f k => wo (ix2 f k)) j)
    _ (fun j => hid_at x sh sc g b s j) (fun j => hid_real _ _ _ _ hg (hsc b) (hsh b) j)
  intro hrow hh hr
  have ha : ∀ f : Fin 2816, act (∑ k : Fin 1024, hrow k * w (ix2 k (lft f)))
      = (∑ k : Fin 1024, hrow k * w (ix2 k (lft f))) * Ideal.div 1 (1 + Ideal.exp (-(∑ k : Fin 1024, hrow k * w (ix2 k (lft f))))) :=
    fun f => act_eq (Fin'.sum _ _ fun k _ => (hr k).mul (hw k _))
  unfold ffn half
  simp only [ha]
  simp only [val_main_v32, val_main_v31, val_main_v30, val_main_v29, val_main_v28, val_main_v27, val_main_v26, val_main_v25, val_main_v24, val_main_v23, val_main_v22, val_main_v21,
    val_main_call0_v0, val_main_call0_v1, val_main_call0_v2, val_main_call0_v3, val_main_call0_v4, val_main_call0_v5, val_main_call0_cst, val_main_call0_cst_0, val_main_cst_3]
  generalize val_main_v20 (F := Ideal) x sh sc g = h at hh ⊢
  pointwise
  simp only [hh]

/-- The reference's result is the last norm of its residual sum. -/
theorem out_at (x : Vec Ideal S8x4096x1024 .f32) (sh sc gate : Vec Ideal S8x1024 .f32) (g : Vec Ideal S1024 .f32) (w : Vec Ideal S1024x5632 .f32) (wo : Vec Ideal S2816x1024 .f32)
    (fg : Vec Ideal S1024 .f32) (R : Fin 32768) (j : Fin 1024) :
    val_main_v46 (F := Ideal) x sh sc gate g w wo fg (ix2 R j)
      = rms (fun j => val_main_v32 (F := Ideal) x sh sc gate g w wo (ix3 ⟨R.val / 4096, by have := R.isLt; omega⟩ ⟨R.val % 4096, Nat.mod_lt _ (by decide)⟩ j))
          (fun k => fg (ix1 k)) j := by
  rw [val_main_v46_apply]
  have e : idx_main_v46 (ix2 R j) = ix3 (⟨R.val / 4096, by have := R.isLt; omega⟩ : Fin 8) (⟨R.val % 4096, Nat.mod_lt _ (by decide)⟩ : Fin 4096) j := by
    funext a; apply Fin.ext
    have hR := R.isLt
    have hj := j.isLt
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [e]
  unfold rms rinv eps width
  simp only [val_main_v45, val_main_v44, val_main_v43, val_main_v42, val_main_v41, val_main_v40, val_main_v39, val_main_v38, val_main_v37, val_main_v36, val_main_v35, val_main_v34,
    val_main_v33, val_main_cst_4, val_main_cst_5, val_main_cst_6]
  generalize val_main_v32 (F := Ideal) x sh sc gate g w wo = y
  pointwise

end Cert.FfnRefIdeal.Read
-- ==== Proof.FfnClaims.lean ====
/-
  The last feed-forward call's claims (untrusted): the frames of the three programs, and that the call and its reference end
  with equal results under the precondition.
-/
module

public import proofs.«01_k».proof.Defs
public import proofs.«01_k».proof.Proof.Gen.Ffn.Frame
public import proofs.«01_k».proof.Proof.FfnValue
public import proofs.«01_k».proof.Proof.FfnRefValue
public import proofs.«01_k».proof.Proof.Real

@[expose] public section

noncomputable section

namespace Cert.Proof.FfnClaims

open Idealize.ShloMosaic Idealize.ShloMosaic.TcCoe Idealize.SL.Sem

theorem frame : Cert.quiescent_Ffn := fun m ρ _ => Cert.Ffn.Gen.frame m ρ
theorem frame_ideal : Cert.quiescent_FfnIdeal := fun m ρ _ => Cert.FfnIdeal.Gen.frame m ρ
theorem frame_ideal_pre : Cert.quiescent_FfnIdeal_pre_finite := fun m ρ _ => Cert.FfnIdeal.Gen.frame m ρ
/-- The reference launches nothing and declares no semaphore. -/
theorem frame_ref : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)
theorem frame_ref_pre : Cert.quiescent_FfnRefIdeal_pre_finite := fun m ρ _ => frame_ref m ρ trivial

open Cert.FfnIdeal Cert.FfnIdeal.Gen in
/-- The call's result array is the reference's term of the same arrays. -/
theorem result_eq (m : (ℓ : Loc nD τ sig) → Buf (Elt Ideal) ℓ) (h : Cert.Pre_FfnIdeal_finite m) (c : Dev nD) :
    (Cert.FfnIdeal.Value.G9 m c : Vec Ideal S32768x1024 .f32)
      = Cert.FfnRefIdeal.Read.val_main_v46 (F := Ideal) (m (c.tc.loc main_arg0)) (m (c.tc.loc main_arg1)) (m (c.tc.loc main_arg2)) (m (c.tc.loc main_arg3))
          (m (c.tc.loc main_arg4)) (m (c.tc.loc main_arg5)) (m (c.tc.loc main_arg6)) (m (c.tc.loc main_arg7)) := by
  obtain ⟨hsh, hsc, hg, hw⟩ := Cert.Pre_finite.reals _ _ _ _ _ _ _ _ (h c)
  funext i
  obtain ⟨R, j, rfl⟩ : ∃ (R : Fin 32768) (j : Fin 1024), i = ix2 R j := ⟨i 0, i 1, by funext a; match a with | ⟨0, _⟩ => rfl | ⟨1, _⟩ => rfl⟩
  refine (Cert.FfnIdeal.Value.G9_at m c R j).trans (Eq.symm ?_)
  refine (Cert.FfnRefIdeal.Read.out_at _ _ _ _ _ _ _ _ R j).trans ?_
  unfold Cert.FfnIdeal.Value.oRow
  congr 1
  funext k
  exact Cert.FfnRefIdeal.Read.sum_at _ _ _ _ _ _ _ (fun k => hg _) (fun b k => hsc _) (fun b k => hsh _) (fun k f => hw _) _ _ k

/-- The call and its reference end with equal results. -/
theorem algebraic : Cert.algebraic_FfnIdeal_FfnRefIdeal_pre_finite := by
  intro m ρ m' ρ' hpre hag
  refine ⟨fun c => Cert.FfnIdeal.Value.G9 m c, Cert.FfnIdeal.Value.run m ρ, ?_⟩
  refine (θ_run Cert.FfnRefIdeal.defs _ _).mono (fun _ h c => ⟨(h c).1.trans ?_, (h c).2⟩) (Cert.FfnRefIdeal.Value.run (F := Ideal) m' ρ')
  rw [Cert.FfnRefIdeal.Read.val_main_v46_eq]
  obtain ⟨e0, e1, e2, e3, e4, e5, e6, e7⟩ := hag c
  rw [e0, e1, e2, e3, e4, e5, e6, e7]
  exact (result_eq m hpre c).symm

end Cert.Proof.FfnClaims

end
-- ==== Proof.FirstTile.lean ====
/-
  What one step of the first feed-forward call leaves behind, in terms of the blocks it reads (untrusted).

  The call walks over 64 tiles of 512 rows. At each step it (1) multiplies out the tile whose normalised rows wait in the
  scratch buffer, and (2) normalises the rows of the NEXT tile into that buffer. Step 0 normalises its own tile first.
-/
module

public import proofs.«01_k».proof.Proof.Gen.FirstIdeal.Value
public import Idealize.ShloMosaic.Lib.ValueIdx
public import Idealize.ShloMosaic.Lib.Tactic

@[expose] public section

noncomputable section

namespace Cert.FirstIdeal.Value

open Cert.FirstIdeal Cert.FirstIdeal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The half of the first weight matrix whose product goes through the activation. -/
abbrev leftHalf (w : Vec F S1024x5632 .bf16) : Vec F S1024x2816 .bf16 :=
  View.ld w (Rect.unit (s := S1024x5632) ![0, 0] S1024x2816.size inb_S1024x5632_S1024x2816_0_0)
/-- The other half. -/
abbrev rightHalf (w : Vec F S1024x5632 .bf16) : Vec F S1024x2816 .bf16 :=
  View.ld w (Rect.unit (s := S1024x5632) ![0, 2816] S1024x2816.size inb_S1024x5632_S1024x2816_0_2816)

/-- The normalised rows of the tile that window 1 shows at step `t` (the tile of the next step). -/
def nextRows (c : Dev nD) (t : Fin cfg0.N) : Vec F S512x1024 .bf16 :=
  k0_pay2 (iblk m c 1 t) (iblk m c 5 t) (iblk m c 3 t) (iblk m c 2 t)

/-- The normalised rows of the tile that window 0 shows at step `t`. -/
def ownRows (c : Dev nD) (t : Fin cfg0.N) : Vec F S512x1024 .bf16 :=
  k0_pay1 (k0_pay4 (iblk m c 0 t)) (iblk m c 5 t) (iblk m c 3 t) (iblk m c 2 t)

/-- The finished rows, from the normalised rows `h`. -/
def done (c : Dev nD) (t : Fin cfg0.N) (h : Vec F S512x1024 .bf16) : Vec F S512x1024 .f32 :=
  k0_pay3 h (leftHalf (iblk m c 6 t)) (rightHalf (iblk m c 6 t)) (iblk m c 7 t) (iblk m c 0 t) (iblk m c 4 t)

set_option maxHeartbeats 1000000 in
/-- The first step finishes the tile it has just normalised. -/
theorem out_A (c : Dev nD) (t : Fin cfg0.N) (h0 : t.val % 64 = 0) :
    (outsAt0 m c t.val t.isLt).1 = done m c t (ownRows m c t) := by
  rw [outsAt0_A m c t h0]
  dsimp only
  unfold out0_A_9
  refine (View.read_writes_eq_canon _ _ _ (fun y => by apply cover0_A_9)).trans ?_
  unfold kernelRun0_A
  dsimp only
  sl_unfold_words
  rw [View.canon_unit_zero (S := S512x1024) hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    View.ld_unit_zero (S := S512x1024) hz2, View.ld_unit_zero (S := S1x1024) hz2, View.ld_unit_zero (S := S1x1x1024) hz3,
    View.ld_unit_zero (S := S2816x1024) hz2, View.readCov_unit_zero (S := S512x1024) _ hz2]
  rfl

set_option maxHeartbeats 1000000 in
/-- A later step finishes the tile whose normalised rows the step before left. -/
theorem out_B (c : Dev nD) (t : Fin cfg0.N) (h0 : ¬t.val % 64 = 0) :
    (outsAt0 m c t.val t.isLt).1 = done m c t (outsAt0 m c (t.val - 1) (Nat.lt_of_le_of_lt (Nat.sub_le _ _) t.isLt)).2 := by
  rw [outsAt0_B m c t h0]
  dsimp only
  unfold out0_B_9
  refine (View.read_writes_eq_canon _ _ _ (fun y => by apply cover0_B_9)).trans ?_
  unfold kernelRun0_B
  dsimp only
  sl_unfold_words
  rw [View.canon_unit_zero (S := S512x1024) hz2]
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    View.ld_unit_zero (S := S512x1024) hz2, View.ld_unit_zero (S := S1x1024) hz2, View.ld_unit_zero (S := S1x1x1024) hz3,
    View.ld_unit_zero (S := S2816x1024) hz2, View.readCov_unit_zero (S := S512x1024) _ hz2]
  have e : ∀ X : Vec F S512x1024 .bf16, View.read (Elt F) (View.whole cc0_scratch0) ((Memref.isWhole_whole cc0_scratch0).unread X) = X :=
    fun X => (Memref.isWhole_whole cc0_scratch0).read_unread X
  simp only [e]
  rfl

set_option maxHeartbeats 1000000 in
/-- Every step leaves the next tile's normalised rows in the scratch buffer. -/
theorem scr (c : Dev nD) (t : Fin cfg0.N) : (outsAt0 m c t.val t.isLt).2 = nextRows m c t := by
  by_cases h0 : t.val % 64 = 0
  · rw [outsAt0_A m c t h0]
    dsimp only
    unfold sout0_A_0
    refine (View.read_writes_eq_canon _ _ _ (fun y => by apply scover0_A_0)).trans ?_
    unfold kernelRun0_A
    dsimp only
    sl_unfold_words
    rw [View.canon_cons_unit_zero (S := S512x1024) hz2]
    simp only [View.readAt_eq_ld, (hs0_1 t).read_unread, (hs0_2 t).read_unread, (hs0_3 t).read_unread, (hs0_5 t).read_unread,
      View.ld_unit_zero (S := S512x1024) hz2, View.ld_unit_zero (S := S1x1024) hz2, View.ld_unit_zero (S := S1x1x1024) hz3]
    rfl
  · rw [outsAt0_B m c t h0]
    dsimp only
    unfold sout0_B_0
    refine (View.read_writes_eq_canon _ _ _ (fun y => by apply scover0_B_0)).trans ?_
    unfold kernelRun0_B
    dsimp only
    sl_unfold_words
    rw [View.canon_cons_unit_zero (S := S512x1024) hz2]
    simp only [View.readAt_eq_ld, (hs0_1 t).read_unread, (hs0_2 t).read_unread, (hs0_3 t).read_unread, (hs0_5 t).read_unread,
      View.ld_unit_zero (S := S512x1024) hz2, View.ld_unit_zero (S := S1x1024) hz2, View.ld_unit_zero (S := S1x1x1024) hz3]
    rfl

end Cert.FirstIdeal.Value
-- ==== Proof.FirstValue.lean ====
/-
  The first feed-forward call's result, index by index, in terms of the arrays it is launched on (untrusted): row `s` of
  batch `b` of the result is the layer's row arithmetic (`Layer.ffn` of the modulated norm) on row `s` of
  batch `b` of the input. Each block is read at an index, then each step's arithmetic, then the array by the tile a row
  lies in.
-/
module

public import proofs.«01_k».proof.Proof.FirstTile
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.FirstIdeal.Value

open Cert.FirstIdeal Cert.FirstIdeal.Gen Idealize.ShloMosaic Idealize.ShloMosaic.TcCoe Idealize.SL.Sem

open Cert.Layer

variable (m : (ℓ : Loc nD τ sig) → Buf (Elt Ideal) ℓ)

/-- Where each input window looks at a step, decided over the 64 steps. -/
theorem idx_facts : ∀ t : Fin cfg0.N, win0_0.index t = ![t.val, 0] ∧ win0_1.index t = ![min (t.val + 1) 63, 0]
    ∧ win0_2.index t = ![min (t.val + 1) 63 / 8, 0, 0] ∧ win0_3.index t = ![min (t.val + 1) 63 / 8, 0, 0]
    ∧ win0_4.index t = ![t.val / 8, 0, 0] ∧ win0_5.index t = ![0, 0] ∧ win0_6.index t = ![0, 0] ∧ win0_7.index t = ![0, 0] ∧ win0_8.index t = ![0, 0] :=
  (by decide +kernel : ∀ t : Fin grid0.N, _)

/-! ## The arrays as launched -/

/-- Row `s` of batch `b` of the input. -/
def xRow (c : Dev nD) (b : Fin 8) (s : Fin 4096) : Fin 1024 → EReal := fun k => (m (c.tc.loc main_arg0) : Vec Ideal S8x4096x1024 .f32) (ix3 b s k)
def shRow (c : Dev nD) (b : Fin 8) : Fin 1024 → EReal := fun k => (m (c.tc.loc main_arg1) : Vec Ideal S8x1024 .f32) (ix2 b k)
def scRow (c : Dev nD) (b : Fin 8) : Fin 1024 → EReal := fun k => (m (c.tc.loc main_arg2) : Vec Ideal S8x1024 .f32) (ix2 b k)
def gateRow (c : Dev nD) (b : Fin 8) : Fin 1024 → EReal := fun k => (m (c.tc.loc main_arg3) : Vec Ideal S8x1024 .f32) (ix2 b k)
def gRow (c : Dev nD) : Fin 1024 → EReal := fun k => (m (c.tc.loc main_arg4) : Vec Ideal S1024 .f32) (ix1 k)
def wIn (c : Dev nD) : Fin 1024 → Fin 5632 → EReal := fun k f => (m (c.tc.loc main_arg5) : Vec Ideal S1024x5632 .f32) (ix2 k f)
def wOut (c : Dev nD) : Fin 2816 → Fin 1024 → EReal := fun f k => (m (c.tc.loc main_arg6) : Vec Ideal S2816x1024 .f32) (ix2 f k)

/-- The batch of tile `n`, and the place in the batch of its local row `r`. -/
abbrev bat (n : ℕ) (h : n < 64) : Fin 8 := ⟨n / 8, by omega⟩
abbrev pos (n : ℕ) (r : Fin 512) : Fin 4096 := ⟨n % 8 * 512 + r.val, by have := r.isLt; omega⟩

theorem lt64 (t : Fin cfg0.N) : t.val < 64 := lt_of_lt_of_eq t.isLt N_0

/-! ## The blocks read at an index -/

theorem blk0 (c : Dev nD) (t : Fin cfg0.N) (r : Fin 512) (j : Fin 1024) :
    (iblk m c 0 t : Vec Ideal S512x1024 .f32) (ix2 r j) = xRow m c (bat t.val (lt64 t)) (pos t.val r) j := by
  obtain ⟨h0, -⟩ := idx_facts t
  unfold xRow
  blk_simp [iblk, h0]
  entry_read
  pointwise
  blk_ext [h0]

theorem blk1 (c : Dev nD) (t : Fin cfg0.N) (r : Fin 512) (j : Fin 1024) :
    (iblk m c 1 t : Vec Ideal S512x1024 .f32) (ix2 r j) = xRow m c (bat (min (t.val + 1) 63) (by omega)) (pos (min (t.val + 1) 63) r) j := by
  obtain ⟨_, h1, -⟩ := idx_facts t
  unfold xRow
  blk_simp [iblk, h1]
  entry_read
  pointwise
  blk_ext [h1]

theorem blk2 (c : Dev nD) (t : Fin cfg0.N) (j : Fin 1024) :
    (iblk m c 2 t : Vec Ideal S1x1x1024 .f32) (ix3 0 0 j) = shRow m c (bat (min (t.val + 1) 63) (by omega)) j := by
  obtain ⟨_, _, h2, -⟩ := idx_facts t
  unfold shRow
  blk_simp [iblk, h2]
  entry_read
  pointwise
  blk_ext [h2]

theorem blk3 (c : Dev nD) (t : Fin cfg0.N) (j : Fin 1024) :
    (iblk m c 3 t : Vec Ideal S1x1x1024 .f32) (ix3 0 0 j) = scRow m c (bat (min (t.val + 1) 63) (by omega)) j := by
  obtain ⟨_, _, _, h3, -⟩ := idx_facts t
  unfold scRow
  blk_simp [iblk, h3]
  entry_read
  pointwise
  blk_ext [h3]

theorem blk4 (c : Dev nD) (t : Fin cfg0.N) (j : Fin 1024) :
    (iblk m c 4 t : Vec Ideal S1x1x1024 .f32) (ix3 0 0 j) = gateRow m c (bat t.val (lt64 t)) j := by
  obtain ⟨_, _, _, _, h4, -⟩ := idx_facts t
  unfold gateRow
  blk_simp [iblk, h4]
  entry_read
  pointwise
  blk_ext [h4]

theorem blk5 (c : Dev nD) (t : Fin cfg0.N) (j : Fin 1024) :
    (iblk m c 5 t : Vec Ideal S1x1024 .f32) (ix2 0 j) = gRow m c j := by
  obtain ⟨_, _, _, _, _, h5, -⟩ := idx_facts t
  unfold gRow
  blk_simp [iblk, h5]
  entry_read
  pointwise
  blk_ext [h5]

theorem blk6 (c : Dev nD) (t : Fin cfg0.N) (k : Fin 1024) (f : Fin 5632) :
    (iblk m c 6 t : Vec Ideal S1024x5632 .bf16) (ix2 k f) = wIn m c k f := by
  obtain ⟨_, _, _, _, _, _, h6, -⟩ := idx_facts t
  unfold wIn
  blk_simp [iblk, h6]
  entry_read
  pointwise
  blk_ext [h6]

theorem blk7 (c : Dev nD) (t : Fin cfg0.N) (f : Fin 2816) (j : Fin 1024) :
    (iblk m c 7 t : Vec Ideal S2816x1024 .bf16) (ix2 f j) = wOut m c f j := by
  obtain ⟨_, _, _, _, _, _, _, h7, -⟩ := idx_facts t
  unfold wOut
  blk_simp [iblk, h7]
  entry_read
  pointwise
  blk_ext [h7]

/-! ## The steps' arithmetic read at an index -/

theorem next_at (x : Vec Ideal S512x1024 .f32) (g : Vec Ideal S1x1024 .f32) (sc sh : Vec Ideal S1x1x1024 .f32) (r : Fin 512) (j : Fin 1024) :
    k0_pay2 x g sc sh (ix2 r j) = hid (fun k => x (ix2 r k)) (fun k => g (ix2 0 k)) (fun k => sc (ix3 0 0 k)) (fun k => sh (ix3 0 0 k)) j := by
  unfold hid rinv eps width
  pointwise [k0_pay2]

theorem own_at (x : Vec Ideal S512x1024 .f32) (g : Vec Ideal S1x1024 .f32) (sc sh : Vec Ideal S1x1x1024 .f32) (r : Fin 512) (j : Fin 1024) :
    k0_pay1 (k0_pay4 x) g sc sh (ix2 r j) = hid (fun k => x (ix2 r k)) (fun k => g (ix2 0 k)) (fun k => sc (ix3 0 0 k)) (fun k => sh (ix3 0 0 k)) j := by
  unfold hid rinv eps width
  pointwise [k0_pay1, k0_pay4]

theorem left_at (w : Vec Ideal S1024x5632 .bf16) (k : Fin 1024) (f : Fin 2816) : leftHalf w (ix2 k f) = w (ix2 k (lft f)) := by
  pointwise [leftHalf, View.ld]
  blk_ext

theorem right_at (w : Vec Ideal S1024x5632 .bf16) (k : Fin 1024) (f : Fin 2816) : rightHalf w (ix2 k f) = w (ix2 k (rgt f)) := by
  pointwise [rightHalf, View.ld]
  blk_ext

theorem pay_at (h : Vec Ideal S512x1024 .bf16) (w1 w2 : Vec Ideal S1024x2816 .bf16) (wo : Vec Ideal S2816x1024 .bf16) (x : Vec Ideal S512x1024 .f32)
    (gate : Vec Ideal S1x1x1024 .f32) (r : Fin 512) (j : Fin 1024) :
    k0_pay3 h w1 w2 wo x gate (ix2 r j)
      = x (ix2 r j) + half * gate (ix3 0 0 j) * ∑ f : Fin 2816, act (∑ k : Fin 1024, h (ix2 r k) * w1 (ix2 k f))
          * (∑ k : Fin 1024, h (ix2 r k) * w2 (ix2 k f)) * wo (ix2 f j) := by
  unfold act half
  pointwise [k0_pay3]

/-! ## The normed rows, and the result -/

/-- Row `s` of batch `b` normed and modulated. -/
def hRow (c : Dev nD) (b : Fin 8) (s : Fin 4096) : Fin 1024 → EReal :=
  fun j => hid (xRow m c b s) (gRow m c) (scRow m c b) (shRow m c b) j

/-- Row `s` of batch `b` of the result. -/
def oRow (c : Dev nD) (b : Fin 8) (s : Fin 4096) : Fin 1024 → EReal :=
  fun j => ffn (xRow m c b s) (hRow m c b s) (gateRow m c b) (wIn m c) (wOut m c) j

theorem done_at (c : Dev nD) (t : Fin cfg0.N) (h : Vec Ideal S512x1024 .bf16)
    (hh : ∀ (r : Fin 512) (k : Fin 1024), h (ix2 r k) = hRow m c (bat t.val (lt64 t)) (pos t.val r) k) (r : Fin 512) (j : Fin 1024) :
    done m c t h (ix2 r j) = oRow m c (bat t.val (lt64 t)) (pos t.val r) j := by
  unfold done oRow
  refine (pay_at _ _ _ _ _ _ r j).trans ?_
  unfold ffn
  have hl : ∀ (k : Fin 1024) (f : Fin 2816), leftHalf (iblk m c 6 t) (ix2 k f) = wIn m c k (lft f) :=
    fun k f => (left_at _ k f).trans (blk6 m c t k _)
  have hr : ∀ (k : Fin 1024) (f : Fin 2816), rightHalf (iblk m c 6 t) (ix2 k f) = wIn m c k (rgt f) :=
    fun k f => (right_at _ k f).trans (blk6 m c t k _)
  simp only [hh, hl, hr, blk0, blk4, blk7]

theorem out_at (c : Dev nD) (t : Fin cfg0.N) (r : Fin 512) (j : Fin 1024) :
    (outsAt0 m c t.val t.isLt).1 (ix2 r j) = oRow m c (bat t.val (lt64 t)) (pos t.val r) j := by
  have hN := lt64 t
  by_cases h0 : t.val % 64 = 0
  · have hb : bat (min (t.val + 1) 63) (by omega) = bat t.val hN := Fin.ext (by show min (t.val + 1) 63 / 8 = t.val / 8; omega)
    rw [out_A m c t h0]
    refine done_at m c t _ (fun r k => ?_) r j
    refine (own_at _ _ _ _ r k).trans ?_
    simp only [blk0, blk2, blk3, blk5, hb]
    rfl
  · have e : min (t.val - 1 + 1) 63 = t.val := by omega
    rw [out_B m c t h0]
    refine done_at m c t _ (fun r k => ?_) r j
    rw [scr m c ⟨t.val - 1, Nat.lt_of_le_of_lt (Nat.sub_le _ _) t.isLt⟩]
    refine (next_at _ _ _ _ r k).trans ?_
    simp only [blk1, blk2, blk3, blk5, e]
    rfl

/-- The array the call ends with, at row `R` and column `j`. -/
theorem G9_at (c : Dev nD) (R : Fin 32768) (j : Fin 1024) :
    (G9 m c : Vec Ideal S32768x1024 .f32) (ix2 R j) = oRow m c ⟨R.val / 4096, by have := R.isLt; omega⟩ ⟨R.val % 4096, Nat.mod_lt _ (by decide)⟩ j := by
  have hR := R.isLt
  have hj := j.isLt
  have hp : pt9Of (ix2 R j : S32768x1024.Idx) = R.val / 512 := by
    show 1 * (R.val / 512 - 0) + 1 * (j.val / 1024 - 0) = _
    omega
  have hlt : R.val / 512 < cfg0.N := lt_of_lt_of_eq (by omega) N_0.symm
  have hl : loc9Of (ix2 R j : S32768x1024.Idx) = ix2 (⟨R.val % 512, Nat.mod_lt _ (by decide)⟩ : Fin 512) j := by
    funext a; apply Fin.ext
    match a with
    | ⟨0, _⟩ => rfl
    | ⟨1, _⟩ => show j.val % 1024 = j.val; omega
  show (G9 m c) (ix2 R j : S32768x1024.Idx) = _
  unfold G9
  rw [dif_pos (by rw [hp]; exact hlt), hl, fold0_congr m c _ _ (R.val / 512) (by omega) hp, ← outsAt0_sweep m c (R.val / 512) hlt]
  refine (out_at m c ⟨R.val / 512, hlt⟩ _ j).trans ?_
  have e1 : bat (R.val / 512) (by omega) = (⟨R.val / 4096, by omega⟩ : Fin 8) := Fin.ext (by show R.val / 512 / 8 = R.val / 4096; omega)
  have e2 : pos (R.val / 512) ⟨R.val % 512, Nat.mod_lt _ (by decide)⟩ = (⟨R.val % 4096, Nat.mod_lt _ (by decide)⟩ : Fin 4096) :=
    Fin.ext (by show R.val / 512 % 8 * 512 + R.val % 512 = R.val % 4096; omega)
  rw [show bat (⟨R.val / 512, hlt⟩ : Fin cfg0.N).val (lt64 _) = _ from e1, show pos (⟨R.val / 512, hlt⟩ : Fin cfg0.N).val _ = _ from e2]

end Cert.FirstIdeal.Value
-- ==== Proof.FirstRefValue.lean ====
/-
  The first feed-forward call's reference, index by index (untrusted), and that it is the call's result where the norm's
  scale, the modulation and the first weight matrix are real.
-/
module

public import proofs.«01_k».proof.Proof.Gen.FirstRefIdeal.Run
public import proofs.«01_k».proof.Proof.Gen.FirstRefIdeal.Read
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.FirstRefIdeal.Read

open Cert.FirstRefIdeal Idealize.ShloMosaic Idealize.ShloMosaic.TcCoe Idealize.SL.Sem
open Cert.Layer

theorem hid_at (x : Vec Ideal S8x4096x1024 .f32) (sh sc : Vec Ideal S8x1024 .f32) (g : Vec Ideal S1024 .f32) (b : Fin 8) (s : Fin 4096) (j : Fin 1024) :
    val_main_v20 (F := Ideal) x sh sc g (ix3 b s j)
      = hid (fun k => x (ix3 b s k)) (fun k => g (ix1 k)) (fun k => sc (ix2 b k)) (fun k => sh (ix2 b k)) j := by
  unfold hid rinv eps width
  rw [← mul_assoc]
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2]

/-- The reference's residual sum: the gated network on the normed row, where the normed row and the first weight matrix are
    real (there the two forms of the activation agree). -/
theorem sum_at (x : Vec Ideal S8x4096x1024 .f32) (sh sc gate : Vec Ideal S8x1024 .f32) (g : Vec Ideal S1024 .f32) (w : Vec Ideal S1024x5632 .f32) (wo : Vec Ideal S2816x1024 .f32)
    (hg : ∀ k, Fin' (g (ix1 k))) (hsc : ∀ b k, Fin' (sc (ix2 b k))) (hsh : ∀ b k, Fin' (sh (ix2 b k))) (hw : ∀ k f, Fin' (w (ix2 k f)))
    (b : Fin 8) (s : Fin 4096) (j : Fin 1024) :
    val_main_v32 (F := Ideal) x sh sc gate g w wo (ix3 b s j)
      = ffn (fun k => x (ix3 b s k)) (fun j => hid (fun k => x (ix3 b s k)) (fun k => g (ix1 k)) (fun k => sc (ix2 b k)) (fun k => sh (ix2 b k)) j)
          (fun k => gate (ix2 b k)) (fun k f => w (ix2 k f)) (fun f k => wo (ix2 f k)) j := by
  refine (?_ : ∀ hrow : Fin 1024 → EReal, (∀ j, val_main_v20 (F := Ideal) x sh sc g (ix3 b s j) = hrow j) → (∀ j, Fin' (hrow j)) →
      val_main_v32 (F := Ideal) x sh sc gate g w wo (ix3 b s j)
        = ffn (fun k => x (ix3 b s k)) hrow (fun k => gate (ix2 b k)) (fun k f => w (ix2 k f)) (fun f k => wo (ix2 f k)) j)
    _ (fun j => hid_at x sh sc g b s j) (fun j => hid_real _ _ _ _ hg (hsc b) (hsh b) j)
  intro hrow hh hr
  have ha : ∀ f : Fin 2816, act (∑ k : Fin 1024, hrow k * w (ix2 k (lft f)))
      = (∑ k : Fin 1024, hrow k * w (ix2 k (lft f))) * Ideal.div 1 (1 + Ideal.exp (-(∑ k : Fin 1024, hrow k * w (ix2 k (lft f))))) :=
    fun f => act_eq (Fin'.sum _ _ fun k _ => (hr k).mul (hw k _))
  unfold ffn half
  simp only [ha]
  simp only [val_main_v32, val_main_v31, val_main_v30, val_main_v29, val_main_v28, val_main_v27, val_main_v26, val_main_v25, val_main_v24, val_main_v23, val_main_v22, val_main_v21,
    val_main_call0_v0, val_main_call0_v1, val_main_call0_v2, val_main_call0_v3, val_main_call0_v4, val_main_call0_v5, val_main_call0_cst, val_main_call0_cst_0, val_main_cst_3]
  generalize val_main_v20 (F := Ideal) x sh sc g = h at hh ⊢
  pointwise
  simp only [hh]

/-- The reference's result is its residual sum, the batches one after the other. -/
theorem out_at (x : Vec Ideal S8x4096x1024 .f32) (sh sc gate : Vec Ideal S8x1024 .f32) (g : Vec Ideal S1024 .f32) (w : Vec Ideal S1024x5632 .f32) (wo : Vec Ideal S2816x1024 .f32)
    (R : Fin 32768) (j : Fin 1024) :
    val_main_v33 (F := Ideal) x sh sc gate g w wo (ix2 R j)
      = val_main_v32 (F := Ideal) x sh sc gate g w wo (ix3 ⟨R.val / 4096, by have := R.isLt; omega⟩ ⟨R.val % 4096, Nat.mod_lt _ (by decide)⟩ j) := by
  rw [val_main_v33_apply]
  have e : idx_main_v33 (ix2 R j) = ix3 (⟨R.val / 4096, by have := R.isLt; omega⟩ : Fin 8) (⟨R.val % 4096, Nat.mod_lt _ (by decide)⟩ : Fin 4096) j := by
    funext a; apply Fin.ext
    have hR := R.isLt
    have hj := j.isLt
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [e]

end Cert.FirstRefIdeal.Read
-- ==== Proof.FirstClaims.lean ====
/-
  The first feed-forward call's claims (untrusted): the frames of the three programs, and that the call and its reference end
  with equal results under the precondition.
-/
module

public import proofs.«01_k».proof.Defs
public import proofs.«01_k».proof.Proof.Gen.First.Frame
public import proofs.«01_k».proof.Proof.FirstValue
public import proofs.«01_k».proof.Proof.FirstRefValue
public import proofs.«01_k».proof.Proof.Real

@[expose] public section

noncomputable section

namespace Cert.Proof.FirstClaims

open Idealize.ShloMosaic Idealize.ShloMosaic.TcCoe Idealize.SL.Sem

theorem frame : Cert.quiescent_First := fun m ρ _ => Cert.First.Gen.frame m ρ
theorem frame_ideal : Cert.quiescent_FirstIdeal := fun m ρ _ => Cert.FirstIdeal.Gen.frame m ρ
theorem frame_ideal_pre : Cert.quiescent_FirstIdeal_pre_finite := fun m ρ _ => Cert.FirstIdeal.Gen.frame m ρ
/-- The reference launches nothing and declares no semaphore. -/
theorem frame_ref : Cert.quiescent_FirstRefIdeal := fun m ρ _ =>
  (θ_run Cert.FirstRefIdeal.defs _ _).mono (fun r h => ⟨fun c => (h c).2, Idealize.ShloMosaic.sem_eq_zero_of_no_sems (by decide) r.2⟩)
    (Cert.FirstRefIdeal.Value.run (F := Ideal) m ρ)
theorem frame_ref_pre : Cert.quiescent_FirstRefIdeal_pre_finite := fun m ρ _ => frame_ref m ρ trivial

open Cert.FirstIdeal Cert.FirstIdeal.Gen in
/-- The call's result array is the reference's term of the same arrays. -/
theorem result_eq (m : (ℓ : Loc nD τ sig) → Buf (Elt Ideal) ℓ) (h : Cert.Pre_FirstIdeal_finite m) (c : Dev nD) :
    (Cert.FirstIdeal.Value.G9 m c : Vec Ideal S32768x1024 .f32)
      = Cert.FirstRefIdeal.Read.val_main_v33 (F := Ideal) (m (c.tc.loc main_arg0)) (m (c.tc.loc main_arg1)) (m (c.tc.loc main_arg2)) (m (c.tc.loc main_arg3))
          (m (c.tc.loc main_arg4)) (m (c.tc.loc main_arg5)) (m (c.tc.loc main_arg6)) := by
  obtain ⟨hsh, hsc, hg, hw⟩ := Cert.Pre_finite.reals _ _ _ _ _ _ _ _ (h c)
  funext i
  obtain ⟨R, j, rfl⟩ : ∃ (R : Fin 32768) (j : Fin 1024), i = ix2 R j := ⟨i 0, i 1, by funext a; match a with | ⟨0, _⟩ => rfl | ⟨1, _⟩ => rfl⟩
  refine (Cert.FirstIdeal.Value.G9_at m c R j).trans (Eq.symm ?_)
  refine (Cert.FirstRefIdeal.Read.out_at _ _ _ _ _ _ _ R j).trans ?_
  unfold Cert.FirstIdeal.Value.oRow
  exact Cert.FirstRefIdeal.Read.sum_at _ _ _ _ _ _ _ (fun k => hg _) (fun b k => hsc _) (fun b k => hsh _) (fun k f => hw _) _ _ j

/-- The call and its reference end with equal results. -/
theorem algebraic : Cert.algebraic_FirstIdeal_FirstRefIdeal_pre_finite := by
  intro m ρ m' ρ' hpre hag
  refine ⟨fun c => Cert.FirstIdeal.Value.G9 m c, Cert.FirstIdeal.Value.run m ρ, ?_⟩
  refine (θ_run Cert.FirstRefIdeal.defs _ _).mono (fun _ h c => ⟨(h c).1.trans ?_, (h c).2⟩) (Cert.FirstRefIdeal.Value.run (F := Ideal) m' ρ')
  rw [Cert.FirstRefIdeal.Read.val_main_v33_eq]
  obtain ⟨e0, e1, e2, e3, e4, e5, e6, e7⟩ := hag c
  rw [e0, e1, e2, e3, e4, e5, e6]
  exact (result_eq m hpre c).symm

end Cert.Proof.FirstClaims

end
-- ==== Proof.AdalnValue.lean ====
/-
  The modulation call: what its result holds, what its reference holds, and that the two agree (untrusted). The call walks
  over four blocks of 2304 columns, and each block is the activated conditioning rows times the block's columns of the
  weights, plus the bias.
-/
module

public import proofs.«01_k».proof.Proof.Gen.AdalnIdeal.Value
public import proofs.«01_k».proof.Proof.Gen.AdalnRefIdeal.Run
public import proofs.«01_k».proof.Proof.Gen.AdalnRefIdeal.Read
public import proofs.«01_k».proof.Proof.Rows
public import Idealize.ShloMosaic.Lib.Pointwise
public import Idealize.ShloMosaic.Lib.Pipeline.ValueKit
public import Idealize.ShloMosaic.Lib.Claim

@[expose] public section

set_option maxRecDepth 16384

noncomputable section

namespace Cert.AdalnIdeal.Value

open Cert.AdalnIdeal Cert.AdalnIdeal.Gen Idealize.ShloMosaic Idealize.ShloMosaic.TcCoe Idealize.SL.Sem
open Cert.Layer

variable (m : (ℓ : Loc nD τ sig) → Buf (Elt Ideal) ℓ)

/-- Where the windows look at a step, decided over the four steps. -/
theorem idx_facts : ∀ t : Fin cfg0.N, win0_0.index t = ![0, 0] ∧ win0_1.index t = ![0, t.val] ∧ win0_2.index t = ![0, t.val]
    ∧ win0_3.index t = ![0, t.val] ∧ (cfg0.win 3).flush t = true :=
  (by decide +kernel : ∀ t : Fin grid0.N, _)

/-- Column `q` of block `n`. -/
abbrev col (n : ℕ) (h : n < 4) (q : Fin 2304) : Fin 9216 := ⟨n * 2304 + q.val, by have := q.isLt; omega⟩

theorem lt4 (t : Fin cfg0.N) : t.val < 4 := lt_of_lt_of_eq t.isLt N_0

theorem blk0 (c : Dev nD) (t : Fin cfg0.N) (b : Fin 8) (k : Fin 1024) :
    (iblk m c 0 t : Vec Ideal S8x1024 .f32) (ix2 b k) = (m (c.tc.loc main_arg0) : Vec Ideal S8x1024 .f32) (ix2 b k) := by
  obtain ⟨h0, -⟩ := idx_facts t
  blk_simp [iblk, h0]
  entry_read
  pointwise
  blk_ext [h0]

theorem blk1 (c : Dev nD) (t : Fin cfg0.N) (k : Fin 1024) (q : Fin 2304) :
    (iblk m c 1 t : Vec Ideal S1024x2304 .f32) (ix2 k q) = (m (c.tc.loc main_arg1) : Vec Ideal S1024x9216 .f32) (ix2 k (col t.val (lt4 t) q)) := by
  obtain ⟨_, h1, -⟩ := idx_facts t
  blk_simp [iblk, h1]
  entry_read
  pointwise
  blk_ext [h1]

theorem blk2 (c : Dev nD) (t : Fin cfg0.N) (q : Fin 2304) :
    (iblk m c 2 t : Vec Ideal S1x2304 .f32) (ix2 0 q) = (m (c.tc.loc main_arg2) : Vec Ideal S9216 .f32) (ix1 (col t.val (lt4 t) q)) := by
  obtain ⟨_, _, h2, -⟩ := idx_facts t
  blk_simp [iblk, h2]
  entry_read
  pointwise
  blk_ext [h2]

theorem pay_at (x : Vec Ideal S8x1024 .f32) (w : Vec Ideal S1024x2304 .f32) (z : Vec Ideal S1x2304 .f32) (b : Fin 8) (q : Fin 2304) :
    k0_pay1 x w z (ix2 b q) = (∑ k : Fin 1024, act (x (ix2 b k)) * w (ix2 k q)) + z (ix2 0 q) := by
  unfold act half
  pointwise [k0_pay1]

/-- What a step leaves in the result's block. -/
theorem out_at (x : Vec Ideal S8x1024 .f32) (w : Vec Ideal S1024x2304 .f32) (z : Vec Ideal S1x2304 .f32) (b : Fin 8) (q : Fin 2304) :
    out0_3 x w z (ix2 b q) = (∑ k : Fin 1024, act (x (ix2 b k)) * w (ix2 k q)) + z (ix2 0 q) := by
  have hz2 : (![0, 0] : Fin 2 → Nat) = fun _ => 0 := funext fun a => by fin_cases a <;> rfl
  have h : out0_3 x w z = k0_pay1 x w z := by
    unfold out0_3 r0_0 r0_1 r0_2 r0_3
    rw [View.canon_unit_zero (S := S8x2304) hz2]
    simp only [View.ld_unit_zero (S := S8x1024) hz2, View.ld_unit_zero (S := S1024x2304) hz2, View.ld_unit_zero (S := S1x2304) hz2]
  rw [h]
  exact pay_at x w z b q

/-- The conditioning rows, the weights and the bias put together. -/
def G (c : Dev nD) : Buf (Elt Ideal) ((c : Thread nD τ).loc main_v1) := fun i =>
  (∑ k : Fin 1024, act ((m (c.tc.loc main_arg0) : Vec Ideal S8x1024 .f32) (ix2 (i 0) k)) * (m (c.tc.loc main_arg1) : Vec Ideal S1024x9216 .f32) (ix2 k (i 1)))
    + (m (c.tc.loc main_arg2) : Vec Ideal S9216 .f32) (ix1 (i 1))

theorem mem_blk (t : Fin cfg0.N) (i : S8x9216.Idx) :
    i ∈ ((cfg0.win 3).blk t).view.set ↔ ∀ a : Fin 2, win0_3.index t a * S8x2304.size a ≤ (i a).val ∧ (i a).val < win0_3.index t a * S8x2304.size a + S8x2304.size a := by
  show i ∈ ((View.whole main_v1).slice (win0_3.rect t)).set ↔ _
  rw [View.set_slice_whole, Rect.mem_set_unit]
  exact Iff.rfl

theorem final (c : Dev nD) : (dats m 0 c).arrAt 3 cfg0.N = G m c := by
  refine (dats m 0 c).arrAt_eq_of_cover 3 _ (fun t _ => ?_) (fun i => ?_)
  · obtain ⟨_, _, _, h3, -⟩ := idx_facts t
    rw [flushed3]
    funext y
    have h0 : (((cfg0.win 3).blk t).view.emb y 0).val = win0_3.index t (0 : Fin 2) * 8 + 1 * (y 0).val := rfl
    have h1 : (((cfg0.win 3).blk t).view.emb y 1).val = win0_3.index t (1 : Fin 2) * 2304 + 1 * (y 1).val := rfl
    rw [h3] at h0 h1
    have hy : (cfg0.win 3).xinj (grid0.coords t) y = ix2 (⟨(y 0).val, (y 0).isLt⟩ : Fin 8) (⟨(y 1).val, (y 1).isLt⟩ : Fin 2304) := by
      funext a; match a with | ⟨0, _⟩ => rfl | ⟨1, _⟩ => rfl
    have e0 : (((cfg0.win 3).blk t).view.emb y 0 : Fin 8) = (⟨(y 0).val, (y 0).isLt⟩ : Fin 8) :=
      Fin.ext (h0.trans (by show 0 * 8 + 1 * (y 0).val = (y 0).val; omega))
    have e1 : (((cfg0.win 3).blk t).view.emb y 1 : Fin 9216) = col t.val (lt4 t) (⟨(y 1).val, (y 1).isLt⟩ : Fin 2304) :=
      Fin.ext (h1.trans (by show t.val * 2304 + 1 * (y 1).val = t.val * 2304 + (y 1).val; omega))
    show out0_3 (iblk m c 0 t) (iblk m c 1 t) (iblk m c 2 t) ((cfg0.win 3).xinj (grid0.coords t) y) = G m c (((cfg0.win 3).blk t).view.emb y)
    rw [hy]
    refine (out_at _ _ _ _ _).trans ?_
    unfold G
    rw [e0, e1]
    simp only [blk0, blk1, blk2]
  · have hi0 : (i 0).val < 8 := (i 0).isLt
    have hi1 : (i 1).val < 9216 := (i 1).isLt
    have hlt : (i 1).val / 2304 < cfg0.N := lt_of_lt_of_eq (by omega) N_0.symm
    obtain ⟨_, _, _, h3, hf⟩ := idx_facts ⟨(i 1).val / 2304, hlt⟩
    refine ⟨⟨(i 1).val / 2304, hlt⟩, hf, (mem_blk _ i).2 fun a => ?_⟩
    rw [h3]
    match a with
    | ⟨0, _⟩ => show 0 * 8 ≤ (i 0).val ∧ (i 0).val < 0 * 8 + 8; omega
    | ⟨1, _⟩ => show (i 1).val / 2304 * 2304 ≤ (i 1).val ∧ (i 1).val < (i 1).val / 2304 * 2304 + 2304; omega

end Cert.AdalnIdeal.Value

namespace Cert.AdalnRefIdeal.Read

open Cert.AdalnRefIdeal Idealize.ShloMosaic Idealize.ShloMosaic.TcCoe Idealize.SL.Sem
open Cert.Layer

/-- The reference's result, where the conditioning rows are real (there the two forms of the activation agree). -/
theorem out_at (x : Vec Ideal S8x1024 .f32) (w : Vec Ideal S1024x9216 .f32) (z : Vec Ideal S9216 .f32) (hx : ∀ i, Fin' (x i)) (b : Fin 8) (j : Fin 9216) :
    val_main_v4 (F := Ideal) x w z (ix2 b j) = (∑ k : Fin 1024, act (x (ix2 b k)) * w (ix2 k j)) + z (ix1 j) := by
  have ha : ∀ k : Fin 1024, act (x (ix2 b k)) = x (ix2 b k) * Ideal.div 1 (1 + Ideal.exp (-(x (ix2 b k)))) := fun k => act_eq (hx _)
  simp only [ha]
  pointwise [val_main_v4, val_main_v3, val_main_v2, val_main_v1, val_main_v0, val_main_call0_v0, val_main_call0_v1, val_main_call0_v2, val_main_call0_v3,
    val_main_call0_v4, val_main_call0_v5, val_main_call0_cst, val_main_call0_cst_0]

end Cert.AdalnRefIdeal.Read

end
-- ==== Proof.AdalnClaims.lean ====
/-
  The modulation call's claims (untrusted): the frames of the three programs, and that the call and its reference end with
  equal results under the precondition.
-/
module

public import proofs.«01_k».proof.Defs
public import proofs.«01_k».proof.Proof.Gen.Adaln.Frame
public import proofs.«01_k».proof.Proof.AdalnValue
public import proofs.«01_k».proof.Proof.Real

@[expose] public section

noncomputable section

namespace Cert.Proof.AdalnClaims

open Idealize.ShloMosaic Idealize.ShloMosaic.TcCoe Idealize.SL.Sem

theorem frame : Cert.quiescent_Adaln := fun m ρ _ => Cert.Adaln.Gen.frame m ρ
theorem frame_ideal : Cert.quiescent_AdalnIdeal := fun m ρ _ => Cert.AdalnIdeal.Gen.frame m ρ
theorem frame_ideal_pre : Cert.quiescent_AdalnIdeal_pre_finite_c := fun m ρ _ => Cert.AdalnIdeal.Gen.frame m ρ
/-- The reference launches nothing and declares no semaphore. -/
theorem frame_ref : Cert.quiescent_AdalnRefIdeal := fun m ρ _ =>
  (θ_run Cert.AdalnRefIdeal.defs _ _).mono (fun r h => ⟨fun c => (h c).2, Idealize.ShloMosaic.sem_eq_zero_of_no_sems (by decide) r.2⟩)
    (Cert.AdalnRefIdeal.Value.run (F := Ideal) m ρ)
theorem frame_ref_pre : Cert.quiescent_AdalnRefIdeal_pre_finite_c := fun m ρ _ => frame_ref m ρ trivial

open Cert.AdalnIdeal Cert.AdalnIdeal.Gen in
/-- The call's result array is the reference's term of the same arrays. -/
theorem result_eq (m : (ℓ : Loc nD τ sig) → Buf (Elt Ideal) ℓ) (h : Cert.Pre_AdalnIdeal_finite_c m) (c : Dev nD) :
    (Cert.AdalnIdeal.Value.G m c : Vec Ideal S8x9216 .f32)
      = Cert.AdalnRefIdeal.Read.val_main_v4 (F := Ideal) (m (c.tc.loc main_arg0)) (m (c.tc.loc main_arg1)) (m (c.tc.loc main_arg2)) := by
  have hc := Cert.Pre_finite_c.reals _ _ _ (h c)
  funext i
  obtain ⟨b, j, rfl⟩ : ∃ (b : Fin 8) (j : Fin 9216), i = ix2 b j := ⟨i 0, i 1, by funext a; match a with | ⟨0, _⟩ => rfl | ⟨1, _⟩ => rfl⟩
  exact (Cert.AdalnRefIdeal.Read.out_at _ _ _ hc b j).symm

/-- The call and its reference end with equal results. -/
theorem algebraic : Cert.algebraic_AdalnIdeal_AdalnRefIdeal_pre_finite_c := by
  intro m ρ m' ρ' hpre hag
  refine ⟨fun c => Cert.AdalnIdeal.Value.G m c,
    (θ_run Cert.AdalnIdeal.defs _ _).mono (fun _ h c => ⟨(h c).1.trans (Cert.AdalnIdeal.Value.final m c), (h c).2⟩) (Cert.AdalnIdeal.Value.run_blocks m ρ), ?_⟩
  refine (θ_run Cert.AdalnRefIdeal.defs _ _).mono (fun _ h c => ⟨(h c).1.trans ?_, (h c).2⟩) (Cert.AdalnRefIdeal.Value.run (F := Ideal) m' ρ')
  rw [Cert.AdalnRefIdeal.Read.val_main_v4_eq]
  obtain ⟨e0, e1, e2⟩ := hag c
  rw [e0, e1, e2]
  exact (result_eq m hpre c).symm

end Cert.Proof.AdalnClaims

end
-- ==== Proof.lean ====
module

public import proofs.«01_k».proof.Defs
public import proofs.«01_k».proof.Proof.Gen.MixerIdeal.Value
public import proofs.«01_k».proof.Proof.Gen.MixerRefIdeal.Run
public import proofs.«01_k».proof.Proof.Gen.MixerRefIdeal.Read
public import proofs.«01_k».proof.Proof.Gen.Pre_finite
public import proofs.«01_k».proof.Proof.Gen.Pre_finite_c
public import proofs.«01_k».proof.Proof.Gen.Mixer.Frame
public import proofs.«01_k».proof.Proof.Gen.MixerIdeal.Frame
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.First.Frame
public import proofs.«01_k».proof.Proof.Gen.FirstIdeal.Frame
public import proofs.«01_k».proof.Proof.Gen.FirstIdeal.Value
public import proofs.«01_k».proof.Proof.Gen.FirstRefIdeal.Run
public import proofs.«01_k».proof.Proof.Gen.FirstRefIdeal.Read
public import proofs.«01_k».proof.Proof.Gen.Adaln.Frame
public import proofs.«01_k».proof.Proof.Gen.AdalnIdeal.Frame
public import proofs.«01_k».proof.Proof.Gen.AdalnIdeal.Value
public import proofs.«01_k».proof.Proof.Gen.AdalnRefIdeal.Run
public import proofs.«01_k».proof.Proof.Gen.AdalnRefIdeal.Read
public import proofs.«01_k».proof.Proof.Gen.Pre_finite_mixer
public import proofs.«01_k».proof.Proof.MixClaims
public import proofs.«01_k».proof.Proof.FfnClaims
public import proofs.«01_k».proof.Proof.FirstClaims
public import proofs.«01_k».proof.Proof.AdalnClaims

@[expose] public section

noncomputable section

namespace Cert.Proof

open Idealize.ShloMosaic Idealize.SL.Sem

/-- All the claims: the frames and values of the mixer, of the two feed-forward calls and of the modulation call. -/
theorem claim : Cert.Claim := by
  refine ⟨Cert.Mixer.Gen.facts, Cert.MixerIdeal.Gen.facts, Cert.MixerRefIdeal.Gen.facts, Cert.Ffn.Gen.facts, Cert.FfnIdeal.Gen.facts, Cert.FfnRefIdeal.Gen.facts, Cert.First.Gen.facts, Cert.FirstIdeal.Gen.facts, Cert.FirstRefIdeal.Gen.facts, Cert.Adaln.Gen.facts, Cert.AdalnIdeal.Gen.facts, Cert.AdalnRefIdeal.Gen.facts, Cert.Pre_finite_mixer.Gen.facts, Cert.Pre_finite.Gen.facts, Cert.Pre_finite_c.Gen.facts,
    fun m ρ _ => Cert.Mixer.Gen.frame m ρ,
    MixClaims.frame_ideal,
    MixClaims.frame_ideal_pre,
    MixClaims.frame_ref,
    MixClaims.frame_ref_pre,
    FfnClaims.frame,
    FfnClaims.frame_ideal,
    FfnClaims.frame_ideal_pre,
    FfnClaims.frame_ref,
    FfnClaims.frame_ref_pre,
    FirstClaims.frame,
    FirstClaims.frame_ideal,
    FirstClaims.frame_ideal_pre,
    FirstClaims.frame_ref,
    FirstClaims.frame_ref_pre,
    AdalnClaims.frame,
    AdalnClaims.frame_ideal,
    AdalnClaims.frame_ideal_pre,
    AdalnClaims.frame_ref,
    AdalnClaims.frame_ref_pre,
    MixClaims.preserves,
    MixClaims.algebraic,
    trivial,
    FfnClaims.algebraic,
    trivial,
    FirstClaims.algebraic,
    trivial,
    AdalnClaims.algebraic⟩

end Cert.Proof

end
